-- ==== Defs.lean ====
def Pre_Kernel [hPre_idx_in_rows : Cert.Pre_idx_in_rows.Facts] (m : (ℓ : Loc Cert.Kernel.nD Cert.Kernel.τ Cert.Kernel.sig) → Buf (Elt Bits) ℓ) : Prop :=
  ∀ c : Dev Cert.Kernel.nD,
    (Cert.Pre_idx_in_rows.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_idx_in_rows : Cert.Pre_idx_in_rows.Facts] (m : (ℓ : Loc Cert.KernelIdeal.nD Cert.KernelIdeal.τ Cert.KernelIdeal.sig) → Buf (Elt Ideal) ℓ) : Prop :=
  ∀ c : Dev Cert.KernelIdeal.nD,
    (Cert.Pre_idx_in_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_idx_in_rows : Cert.Pre_idx_in_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_idx_in_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Top (m : (ℓ : Loc Cert.Top.nD Cert.Top.τ Cert.Top.sig) → Buf (Elt Bits) ℓ) : Prop :=
  True

def Pre_TopIdeal (m : (ℓ : Loc Cert.TopIdeal.nD Cert.TopIdeal.τ Cert.TopIdeal.sig) → Buf (Elt Ideal) ℓ) : Prop :=
  True

def Pre_TopRefIdeal (m : (ℓ : Loc Cert.TopRefIdeal.nD Cert.TopRefIdeal.τ Cert.TopRefIdeal.sig) → Buf (Elt Ideal) ℓ) : Prop :=
  True

def Pre_ResTop (m : (ℓ : Loc Cert.ResTop.nD Cert.ResTop.τ Cert.ResTop.sig) → Buf (Elt Bits) ℓ) : Prop :=
  True

def Pre_ResTopIdeal (m : (ℓ : Loc Cert.ResTopIdeal.nD Cert.ResTopIdeal.τ Cert.ResTopIdeal.sig) → Buf (Elt Ideal) ℓ) : Prop :=
  True

def Pre_ResTopRefIdeal (m : (ℓ : Loc Cert.ResTopRefIdeal.nD Cert.ResTopRefIdeal.τ Cert.ResTopRefIdeal.sig) → Buf (Elt Ideal) ℓ) : Prop :=
  True

def Pre_Residual (m : (ℓ : Loc Cert.Residual.nD Cert.Residual.τ Cert.Residual.sig) → Buf (Elt Bits) ℓ) : Prop :=
  True

def Pre_ResidualIdeal (m : (ℓ : Loc Cert.ResidualIdeal.nD Cert.ResidualIdeal.τ Cert.ResidualIdeal.sig) → Buf (Elt Ideal) ℓ) : Prop :=
  True

def Pre_ResidualRefIdeal (m : (ℓ : Loc Cert.ResidualRefIdeal.nD Cert.ResidualRefIdeal.τ Cert.ResidualRefIdeal.sig) → Buf (Elt Ideal) ℓ) : Prop :=
  True

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectRefIdeal (m : (ℓ : Loc Cert.ProjectRefIdeal.nD Cert.ProjectRefIdeal.τ Cert.ProjectRefIdeal.sig) → Buf (Elt Ideal) ℓ) : Prop :=
  True

def Pre_PosSums (m : (ℓ : Loc Cert.PosSums.nD Cert.PosSums.τ Cert.PosSums.sig) → Buf (Elt Bits) ℓ) : Prop :=
  True

def Pre_PosSumsIdeal (m : (ℓ : Loc Cert.PosSumsIdeal.nD Cert.PosSumsIdeal.τ Cert.PosSumsIdeal.sig) → Buf (Elt Ideal) ℓ) : Prop :=
  True

def Pre_PosSumsRefIdeal (m : (ℓ : Loc Cert.PosSumsRefIdeal.nD Cert.PosSumsRefIdeal.τ Cert.PosSumsRefIdeal.sig) → Buf (Elt Ideal) ℓ) : Prop :=
  True

def Pre_Pos (m : (ℓ : Loc Cert.Pos.nD Cert.Pos.τ Cert.Pos.sig) → Buf (Elt Bits) ℓ) : Prop :=
  True

def Pre_PosIdeal (m : (ℓ : Loc Cert.PosIdeal.nD Cert.PosIdeal.τ Cert.PosIdeal.sig) → Buf (Elt Ideal) ℓ) : Prop :=
  True

def Pre_PosRefIdeal (m : (ℓ : Loc Cert.PosRefIdeal.nD Cert.PosRefIdeal.τ Cert.PosRefIdeal.sig) → Buf (Elt Ideal) ℓ) : Prop :=
  True

def Pre_AttnIn (m : (ℓ : Loc Cert.AttnIn.nD Cert.AttnIn.τ Cert.AttnIn.sig) → Buf (Elt Bits) ℓ) : Prop :=
  True

def Pre_AttnInIdeal (m : (ℓ : Loc Cert.AttnInIdeal.nD Cert.AttnInIdeal.τ Cert.AttnInIdeal.sig) → Buf (Elt Ideal) ℓ) : Prop :=
  True

def Pre_AttnInRefIdeal (m : (ℓ : Loc Cert.AttnInRefIdeal.nD Cert.AttnInRefIdeal.τ Cert.AttnInRefIdeal.sig) → Buf (Elt Ideal) ℓ) : Prop :=
  True

def Pre_Gamma (m : (ℓ : Loc Cert.Gamma.nD Cert.Gamma.τ Cert.Gamma.sig) → Buf (Elt Bits) ℓ) : Prop :=
  True

def Pre_GammaIdeal (m : (ℓ : Loc Cert.GammaIdeal.nD Cert.GammaIdeal.τ Cert.GammaIdeal.sig) → Buf (Elt Ideal) ℓ) : Prop :=
  True

def Pre_GammaRefIdeal (m : (ℓ : Loc Cert.GammaRefIdeal.nD Cert.GammaRefIdeal.τ Cert.GammaRefIdeal.sig) → Buf (Elt Ideal) ℓ) : Prop :=
  True

def Pre_Attention (m : (ℓ : Loc Cert.Attention.nD Cert.Attention.τ Cert.Attention.sig) → Buf (Elt Bits) ℓ) : Prop :=
  True

def Pre_AttentionIdeal (m : (ℓ : Loc Cert.AttentionIdeal.nD Cert.AttentionIdeal.τ Cert.AttentionIdeal.sig) → Buf (Elt Ideal) ℓ) : Prop :=
  True

def Pre_AttentionRefIdeal (m : (ℓ : Loc Cert.AttentionRefIdeal.nD Cert.AttentionRefIdeal.τ Cert.AttentionRefIdeal.sig) → Buf (Elt Ideal) ℓ) : Prop :=
  True

def Pre_Nearest (m : (ℓ : Loc Cert.Nearest.nD Cert.Nearest.τ Cert.Nearest.sig) → Buf (Elt Bits) ℓ) : Prop :=
  True

def Pre_NearestIdeal (m : (ℓ : Loc Cert.NearestIdeal.nD Cert.NearestIdeal.τ Cert.NearestIdeal.sig) → Buf (Elt Ideal) ℓ) : Prop :=
  True

def Pre_NearestIdeal_finite_coords [hPre_finite_coords : Cert.Pre_finite_coords.Facts] (m : (ℓ : Loc Cert.NearestIdeal.nD Cert.NearestIdeal.τ Cert.NearestIdeal.sig) → Buf (Elt Ideal) ℓ) : Prop :=
  ∀ c : Dev Cert.NearestIdeal.nD,
    (Cert.Pre_finite_coords.fn (F := Ideal) (m ((c.tc : Thread Cert.NearestIdeal.nD Cert.NearestIdeal.τ).loc Cert.NearestIdeal.main_arg0))) = (fun _ => 1#1)

def Pre_NearestRefIdeal (m : (ℓ : Loc Cert.NearestRefIdeal.nD Cert.NearestRefIdeal.τ Cert.NearestRefIdeal.sig) → Buf (Elt Ideal) ℓ) : Prop :=
  True

def Pre_NearestRefIdeal_finite_coords [hPre_finite_coords : Cert.Pre_finite_coords.Facts] (m : (ℓ : Loc Cert.NearestRefIdeal.nD Cert.NearestRefIdeal.τ Cert.NearestRefIdeal.sig) → Buf (Elt Ideal) ℓ) : Prop :=
  ∀ c : Dev Cert.NearestRefIdeal.nD,
    (Cert.Pre_finite_coords.fn (F := Ideal) (m ((c.tc : Thread Cert.NearestRefIdeal.nD Cert.NearestRefIdeal.τ).loc Cert.NearestRefIdeal.main_arg0))) = (fun _ => 1#1)

def Pre_After (m : (ℓ : Loc Cert.After.nD Cert.After.τ Cert.After.sig) → Buf (Elt Bits) ℓ) : Prop :=
  True

def Pre_AfterIdeal (m : (ℓ : Loc Cert.AfterIdeal.nD Cert.AfterIdeal.τ Cert.AfterIdeal.sig) → Buf (Elt Ideal) ℓ) : Prop :=
  True

def Pre_AfterIdeal_finite_after [hPre_finite_after : Cert.Pre_finite_after.Facts] (m : (ℓ : Loc Cert.AfterIdeal.nD Cert.AfterIdeal.τ Cert.AfterIdeal.sig) → Buf (Elt Ideal) ℓ) : Prop :=
  ∀ c : Dev Cert.AfterIdeal.nD,
    (Cert.Pre_finite_after.fn (F := Ideal) (m ((c.tc : Thread Cert.AfterIdeal.nD Cert.AfterIdeal.τ).loc Cert.AfterIdeal.main_arg0)) (m ((c.tc : Thread Cert.AfterIdeal.nD Cert.AfterIdeal.τ).loc Cert.AfterIdeal.main_arg1)) (m ((c.tc : Thread Cert.AfterIdeal.nD Cert.AfterIdeal.τ).loc Cert.AfterIdeal.main_arg2)) (m ((c.tc : Thread Cert.AfterIdeal.nD Cert.AfterIdeal.τ).loc Cert.AfterIdeal.main_arg3)) (m ((c.tc : Thread Cert.AfterIdeal.nD Cert.AfterIdeal.τ).loc Cert.AfterIdeal.main_arg4)) (m ((c.tc : Thread Cert.AfterIdeal.nD Cert.AfterIdeal.τ).loc Cert.AfterIdeal.main_arg5)) (m ((c.tc : Thread Cert.AfterIdeal.nD Cert.AfterIdeal.τ).loc Cert.AfterIdeal.main_arg6)) (m ((c.tc : Thread Cert.AfterIdeal.nD Cert.AfterIdeal.τ).loc Cert.AfterIdeal.main_arg7)) (m ((c.tc : Thread Cert.AfterIdeal.nD Cert.AfterIdeal.τ).loc Cert.AfterIdeal.main_arg8)) (m ((c.tc : Thread Cert.AfterIdeal.nD Cert.AfterIdeal.τ).loc Cert.AfterIdeal.main_arg9)) (m ((c.tc : Thread Cert.AfterIdeal.nD Cert.AfterIdeal.τ).loc Cert.AfterIdeal.main_arg10))) = (fun _ => 1#1)

def Pre_AfterRefIdeal (m : (ℓ : Loc Cert.AfterRefIdeal.nD Cert.AfterRefIdeal.τ Cert.AfterRefIdeal.sig) → Buf (Elt Ideal) ℓ) : Prop :=
  True

def Pre_AfterRefIdeal_finite_after [hPre_finite_after : Cert.Pre_finite_after.Facts] (m : (ℓ : Loc Cert.AfterRefIdeal.nD Cert.AfterRefIdeal.τ Cert.AfterRefIdeal.sig) → Buf (Elt Ideal) ℓ) : Prop :=
  ∀ c : Dev Cert.AfterRefIdeal.nD,
    (Cert.Pre_finite_after.fn (F := Ideal) (m ((c.tc : Thread Cert.AfterRefIdeal.nD Cert.AfterRefIdeal.τ).loc Cert.AfterRefIdeal.main_arg0)) (m ((c.tc : Thread Cert.AfterRefIdeal.nD Cert.AfterRefIdeal.τ).loc Cert.AfterRefIdeal.main_arg1)) (m ((c.tc : Thread Cert.AfterRefIdeal.nD Cert.AfterRefIdeal.τ).loc Cert.AfterRefIdeal.main_arg2)) (m ((c.tc : Thread Cert.AfterRefIdeal.nD Cert.AfterRefIdeal.τ).loc Cert.AfterRefIdeal.main_arg3)) (m ((c.tc : Thread Cert.AfterRefIdeal.nD Cert.AfterRefIdeal.τ).loc Cert.AfterRefIdeal.main_arg4)) (m ((c.tc : Thread Cert.AfterRefIdeal.nD Cert.AfterRefIdeal.τ).loc Cert.AfterRefIdeal.main_arg5)) (m ((c.tc : Thread Cert.AfterRefIdeal.nD Cert.AfterRefIdeal.τ).loc Cert.AfterRefIdeal.main_arg6)) (m ((c.tc : Thread Cert.AfterRefIdeal.nD Cert.AfterRefIdeal.τ).loc Cert.AfterRefIdeal.main_arg7)) (m ((c.tc : Thread Cert.AfterRefIdeal.nD Cert.AfterRefIdeal.τ).loc Cert.AfterRefIdeal.main_arg8)) (m ((c.tc : Thread Cert.AfterRefIdeal.nD Cert.AfterRefIdeal.τ).loc Cert.AfterRefIdeal.main_arg9)) (m ((c.tc : Thread Cert.AfterRefIdeal.nD Cert.AfterRefIdeal.τ).loc Cert.AfterRefIdeal.main_arg10))) = (fun _ => 1#1)

def Pre_Before (m : (ℓ : Loc Cert.Before.nD Cert.Before.τ Cert.Before.sig) → Buf (Elt Bits) ℓ) : Prop :=
  True

def Pre_BeforeIdeal (m : (ℓ : Loc Cert.BeforeIdeal.nD Cert.BeforeIdeal.τ Cert.BeforeIdeal.sig) → Buf (Elt Ideal) ℓ) : Prop :=
  True

def Pre_BeforeIdeal_finite_before [hPre_finite_before : Cert.Pre_finite_before.Facts] (m : (ℓ : Loc Cert.BeforeIdeal.nD Cert.BeforeIdeal.τ Cert.BeforeIdeal.sig) → Buf (Elt Ideal) ℓ) : Prop :=
  ∀ c : Dev Cert.BeforeIdeal.nD,
    (Cert.Pre_finite_before.fn (F := Ideal) (m ((c.tc : Thread Cert.BeforeIdeal.nD Cert.BeforeIdeal.τ).loc Cert.BeforeIdeal.main_arg0)) (m ((c.tc : Thread Cert.BeforeIdeal.nD Cert.BeforeIdeal.τ).loc Cert.BeforeIdeal.main_arg1)) (m ((c.tc : Thread Cert.BeforeIdeal.nD Cert.BeforeIdeal.τ).loc Cert.BeforeIdeal.main_arg2)) (m ((c.tc : Thread Cert.BeforeIdeal.nD Cert.BeforeIdeal.τ).loc Cert.BeforeIdeal.main_arg3)) (m ((c.tc : Thread Cert.BeforeIdeal.nD Cert.BeforeIdeal.τ).loc Cert.BeforeIdeal.main_arg4)) (m ((c.tc : Thread Cert.BeforeIdeal.nD Cert.BeforeIdeal.τ).loc Cert.BeforeIdeal.main_arg5)) (m ((c.tc : Thread Cert.BeforeIdeal.nD Cert.BeforeIdeal.τ).loc Cert.BeforeIdeal.main_arg6)) (m ((c.tc : Thread Cert.BeforeIdeal.nD Cert.BeforeIdeal.τ).loc Cert.BeforeIdeal.main_arg7))) = (fun _ => 1#1)

def Pre_BeforeRefIdeal (m : (ℓ : Loc Cert.BeforeRefIdeal.nD Cert.BeforeRefIdeal.τ Cert.BeforeRefIdeal.sig) → Buf (Elt Ideal) ℓ) : Prop :=
  True

def Pre_BeforeRefIdeal_finite_before [hPre_finite_before : Cert.Pre_finite_before.Facts] (m : (ℓ : Loc Cert.BeforeRefIdeal.nD Cert.BeforeRefIdeal.τ Cert.BeforeRefIdeal.sig) → Buf (Elt Ideal) ℓ) : Prop :=
  ∀ c : Dev Cert.BeforeRefIdeal.nD,
    (Cert.Pre_finite_before.fn (F := Ideal) (m ((c.tc : Thread Cert.BeforeRefIdeal.nD Cert.BeforeRefIdeal.τ).loc Cert.BeforeRefIdeal.main_arg0)) (m ((c.tc : Thread Cert.BeforeRefIdeal.nD Cert.BeforeRefIdeal.τ).loc Cert.BeforeRefIdeal.main_arg1)) (m ((c.tc : Thread Cert.BeforeRefIdeal.nD Cert.BeforeRefIdeal.τ).loc Cert.BeforeRefIdeal.main_arg2)) (m ((c.tc : Thread Cert.BeforeRefIdeal.nD Cert.BeforeRefIdeal.τ).loc Cert.BeforeRefIdeal.main_arg3)) (m ((c.tc : Thread Cert.BeforeRefIdeal.nD Cert.BeforeRefIdeal.τ).loc Cert.BeforeRefIdeal.main_arg4)) (m ((c.tc : Thread Cert.BeforeRefIdeal.nD Cert.BeforeRefIdeal.τ).loc Cert.BeforeRefIdeal.main_arg5)) (m ((c.tc : Thread Cert.BeforeRefIdeal.nD Cert.BeforeRefIdeal.τ).loc Cert.BeforeRefIdeal.main_arg6)) (m ((c.tc : Thread Cert.BeforeRefIdeal.nD Cert.BeforeRefIdeal.τ).loc Cert.BeforeRefIdeal.main_arg7))) = (fun _ => 1#1)

def quiescent_Kernel [hKernel : Cert.Kernel.Facts] [hPre_idx_in_rows : Cert.Pre_idx_in_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_idx_in_rows : Cert.Pre_idx_in_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] [hPre_idx_in_rows : Cert.Pre_idx_in_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Top [hTop : Cert.Top.Facts] : Prop :=
  ∀ (m : (ℓ : Loc Cert.Top.nD Cert.Top.τ Cert.Top.sig) → Buf (Elt Bits) ℓ) (g : Dev Cert.Top.nD → PrngReg), Pre_Top m →
    θ_run (Cert.Top.defs (F := Bits)) (onTc (τ := Cert.Top.τ) (Cert.Top.main (F := Bits))) ⟨m, fun _ => 0, g⟩ (fun r => (∀ c : Dev Cert.Top.nD,
      r.2.mem ((c.tc : Thread Cert.Top.nD Cert.Top.τ).loc Cert.Top.main_arg0) = m ((c.tc : Thread Cert.Top.nD Cert.Top.τ).loc Cert.Top.main_arg0)
      ∧ r.2.mem ((c.tc : Thread Cert.Top.nD Cert.Top.τ).loc Cert.Top.main_arg1) = m ((c.tc : Thread Cert.Top.nD Cert.Top.τ).loc Cert.Top.main_arg1)
      ∧ r.2.mem ((c.tc : Thread Cert.Top.nD Cert.Top.τ).loc Cert.Top.main_arg2) = m ((c.tc : Thread Cert.Top.nD Cert.Top.τ).loc Cert.Top.main_arg2))
      ∧ r.2.sem = fun _ => 0)

def quiescent_TopIdeal [hTopIdeal : Cert.TopIdeal.Facts] : Prop :=
  ∀ (m : (ℓ : Loc Cert.TopIdeal.nD Cert.TopIdeal.τ Cert.TopIdeal.sig) → Buf (Elt Ideal) ℓ) (g : Dev Cert.TopIdeal.nD → PrngReg), Pre_TopIdeal m →
    θ_run (Cert.TopIdeal.defs (F := Ideal)) (onTc (τ := Cert.TopIdeal.τ) (Cert.TopIdeal.main (F := Ideal))) ⟨m, fun _ => 0, g⟩ (fun r => (∀ c : Dev Cert.TopIdeal.nD,
      r.2.mem ((c.tc : Thread Cert.TopIdeal.nD Cert.TopIdeal.τ).loc Cert.TopIdeal.main_arg0) = m ((c.tc : Thread Cert.TopIdeal.nD Cert.TopIdeal.τ).loc Cert.TopIdeal.main_arg0)
      ∧ r.2.mem ((c.tc : Thread Cert.TopIdeal.nD Cert.TopIdeal.τ).loc Cert.TopIdeal.main_arg1) = m ((c.tc : Thread Cert.TopIdeal.nD Cert.TopIdeal.τ).loc Cert.TopIdeal.main_arg1)
      ∧ r.2.mem ((c.tc : Thread Cert.TopIdeal.nD Cert.TopIdeal.τ).loc Cert.TopIdeal.main_arg2) = m ((c.tc : Thread Cert.TopIdeal.nD Cert.TopIdeal.τ).loc Cert.TopIdeal.main_arg2))
      ∧ r.2.sem = fun _ => 0)

def quiescent_TopRefIdeal [hTopRefIdeal : Cert.TopRefIdeal.Facts] : Prop :=
  ∀ (m : (ℓ : Loc Cert.TopRefIdeal.nD Cert.TopRefIdeal.τ Cert.TopRefIdeal.sig) → Buf (Elt Ideal) ℓ) (g : Dev Cert.TopRefIdeal.nD → PrngReg), Pre_TopRefIdeal m →
    θ_run (Cert.TopRefIdeal.defs (F := Ideal)) (onTc (τ := Cert.TopRefIdeal.τ) (Cert.TopRefIdeal.main (F := Ideal))) ⟨m, fun _ => 0, g⟩ (fun r => (∀ c : Dev Cert.TopRefIdeal.nD,
      r.2.mem ((c.tc : Thread Cert.TopRefIdeal.nD Cert.TopRefIdeal.τ).loc Cert.TopRefIdeal.main_arg0) = m ((c.tc : Thread Cert.TopRefIdeal.nD Cert.TopRefIdeal.τ).loc Cert.TopRefIdeal.main_arg0)
      ∧ r.2.mem ((c.tc : Thread Cert.TopRefIdeal.nD Cert.TopRefIdeal.τ).loc Cert.TopRefIdeal.main_arg1) = m ((c.tc : Thread Cert.TopRefIdeal.nD Cert.TopRefIdeal.τ).loc Cert.TopRefIdeal.main_arg1)
      ∧ r.2.mem ((c.tc : Thread Cert.TopRefIdeal.nD Cert.TopRefIdeal.τ).loc Cert.TopRefIdeal.main_arg2) = m ((c.tc : Thread Cert.TopRefIdeal.nD Cert.TopRefIdeal.τ).loc Cert.TopRefIdeal.main_arg2))
      ∧ r.2.sem = fun _ => 0)

def quiescent_ResTop [hResTop : Cert.ResTop.Facts] : Prop :=
  ∀ (m : (ℓ : Loc Cert.ResTop.nD Cert.ResTop.τ Cert.ResTop.sig) → Buf (Elt Bits) ℓ) (g : Dev Cert.ResTop.nD → PrngReg), Pre_ResTop m →
    θ_run (Cert.ResTop.defs (F := Bits)) (onTc (τ := Cert.ResTop.τ) (Cert.ResTop.main (F := Bits))) ⟨m, fun _ => 0, g⟩ (fun r => (∀ c : Dev Cert.ResTop.nD,
      r.2.mem ((c.tc : Thread Cert.ResTop.nD Cert.ResTop.τ).loc Cert.ResTop.main_arg0) = m ((c.tc : Thread Cert.ResTop.nD Cert.ResTop.τ).loc Cert.ResTop.main_arg0)
      ∧ r.2.mem ((c.tc : Thread Cert.ResTop.nD Cert.ResTop.τ).loc Cert.ResTop.main_arg1) = m ((c.tc : Thread Cert.ResTop.nD Cert.ResTop.τ).loc Cert.ResTop.main_arg1)
      ∧ r.2.mem ((c.tc : Thread Cert.ResTop.nD Cert.ResTop.τ).loc Cert.ResTop.main_arg2) = m ((c.tc : Thread Cert.ResTop.nD Cert.ResTop.τ).loc Cert.ResTop.main_arg2)
      ∧ r.2.mem ((c.tc : Thread Cert.ResTop.nD Cert.ResTop.τ).loc Cert.ResTop.main_arg3) = m ((c.tc : Thread Cert.ResTop.nD Cert.ResTop.τ).loc Cert.ResTop.main_arg3)
      ∧ r.2.mem ((c.tc : Thread Cert.ResTop.nD Cert.ResTop.τ).loc Cert.ResTop.main_arg4) = m ((c.tc : Thread Cert.ResTop.nD Cert.ResTop.τ).loc Cert.ResTop.main_arg4)
      ∧ r.2.mem ((c.tc : Thread Cert.ResTop.nD Cert.ResTop.τ).loc Cert.ResTop.main_arg5) = m ((c.tc : Thread Cert.ResTop.nD Cert.ResTop.τ).loc Cert.ResTop.main_arg5))
      ∧ r.2.sem = fun _ => 0)

def quiescent_ResTopIdeal [hResTopIdeal : Cert.ResTopIdeal.Facts] : Prop :=
  ∀ (m : (ℓ : Loc Cert.ResTopIdeal.nD Cert.ResTopIdeal.τ Cert.ResTopIdeal.sig) → Buf (Elt Ideal) ℓ) (g : Dev Cert.ResTopIdeal.nD → PrngReg), Pre_ResTopIdeal m →
    θ_run (Cert.ResTopIdeal.defs (F := Ideal)) (onTc (τ := Cert.ResTopIdeal.τ) (Cert.ResTopIdeal.main (F := Ideal))) ⟨m, fun _ => 0, g⟩ (fun r => (∀ c : Dev Cert.ResTopIdeal.nD,
      r.2.mem ((c.tc : Thread Cert.ResTopIdeal.nD Cert.ResTopIdeal.τ).loc Cert.ResTopIdeal.main_arg0) = m ((c.tc : Thread Cert.ResTopIdeal.nD Cert.ResTopIdeal.τ).loc Cert.ResTopIdeal.main_arg0)
      ∧ r.2.mem ((c.tc : Thread Cert.ResTopIdeal.nD Cert.ResTopIdeal.τ).loc Cert.ResTopIdeal.main_arg1) = m ((c.tc : Thread Cert.ResTopIdeal.nD Cert.ResTopIdeal.τ).loc Cert.ResTopIdeal.main_arg1)
      ∧ r.2.mem ((c.tc : Thread Cert.ResTopIdeal.nD Cert.ResTopIdeal.τ).loc Cert.ResTopIdeal.main_arg2) = m ((c.tc : Thread Cert.ResTopIdeal.nD Cert.ResTopIdeal.τ).loc Cert.ResTopIdeal.main_arg2)
      ∧ r.2.mem ((c.tc : Thread Cert.ResTopIdeal.nD Cert.ResTopIdeal.τ).loc Cert.ResTopIdeal.main_arg3) = m ((c.tc : Thread Cert.ResTopIdeal.nD Cert.ResTopIdeal.τ).loc Cert.ResTopIdeal.main_arg3)
      ∧ r.2.mem ((c.tc : Thread Cert.ResTopIdeal.nD Cert.ResTopIdeal.τ).loc Cert.ResTopIdeal.main_arg4) = m ((c.tc : Thread Cert.ResTopIdeal.nD Cert.ResTopIdeal.τ).loc Cert.ResTopIdeal.main_arg4)
      ∧ r.2.mem ((c.tc : Thread Cert.ResTopIdeal.nD Cert.ResTopIdeal.τ).loc Cert.ResTopIdeal.main_arg5) = m ((c.tc : Thread Cert.ResTopIdeal.nD Cert.ResTopIdeal.τ).loc Cert.ResTopIdeal.main_arg5))
      ∧ r.2.sem = fun _ => 0)

def quiescent_ResTopRefIdeal [hResTopRefIdeal : Cert.ResTopRefIdeal.Facts] : Prop :=
  ∀ (m : (ℓ : Loc Cert.ResTopRefIdeal.nD Cert.ResTopRefIdeal.τ Cert.ResTopRefIdeal.sig) → Buf (Elt Ideal) ℓ) (g : Dev Cert.ResTopRefIdeal.nD → PrngReg), Pre_ResTopRefIdeal m →
    θ_run (Cert.ResTopRefIdeal.defs (F := Ideal)) (onTc (τ := Cert.ResTopRefIdeal.τ) (Cert.ResTopRefIdeal.main (F := Ideal))) ⟨m, fun _ => 0, g⟩ (fun r => (∀ c : Dev Cert.ResTopRefIdeal.nD,
      r.2.mem ((c.tc : Thread Cert.ResTopRefIdeal.nD Cert.ResTopRefIdeal.τ).loc Cert.ResTopRefIdeal.main_arg0) = m ((c.tc : Thread Cert.ResTopRefIdeal.nD Cert.ResTopRefIdeal.τ).loc Cert.ResTopRefIdeal.main_arg0)
      ∧ r.2.mem ((c.tc : Thread Cert.ResTopRefIdeal.nD Cert.ResTopRefIdeal.τ).loc Cert.ResTopRefIdeal.main_arg1) = m ((c.tc : Thread Cert.ResTopRefIdeal.nD Cert.ResTopRefIdeal.τ).loc Cert.ResTopRefIdeal.main_arg1)
      ∧ r.2.mem ((c.tc : Thread Cert.ResTopRefIdeal.nD Cert.ResTopRefIdeal.τ).loc Cert.ResTopRefIdeal.main_arg2) = m ((c.tc : Thread Cert.ResTopRefIdeal.nD Cert.ResTopRefIdeal.τ).loc Cert.ResTopRefIdeal.main_arg2)
      ∧ r.2.mem ((c.tc : Thread Cert.ResTopRefIdeal.nD Cert.ResTopRefIdeal.τ).loc Cert.ResTopRefIdeal.main_arg3) = m ((c.tc : Thread Cert.ResTopRefIdeal.nD Cert.ResTopRefIdeal.τ).loc Cert.ResTopRefIdeal.main_arg3)
      ∧ r.2.mem ((c.tc : Thread Cert.ResTopRefIdeal.nD Cert.ResTopRefIdeal.τ).loc Cert.ResTopRefIdeal.main_arg4) = m ((c.tc : Thread Cert.ResTopRefIdeal.nD Cert.ResTopRefIdeal.τ).loc Cert.ResTopRefIdeal.main_arg4)
      ∧ r.2.mem ((c.tc : Thread Cert.ResTopRefIdeal.nD Cert.ResTopRefIdeal.τ).loc Cert.ResTopRefIdeal.main_arg5) = m ((c.tc : Thread Cert.ResTopRefIdeal.nD Cert.ResTopRefIdeal.τ).loc Cert.ResTopRefIdeal.main_arg5))
      ∧ r.2.sem = fun _ => 0)

def quiescent_Residual [hResidual : Cert.Residual.Facts] : Prop :=
  ∀ (m : (ℓ : Loc Cert.Residual.nD Cert.Residual.τ Cert.Residual.sig) → Buf (Elt Bits) ℓ) (g : Dev Cert.Residual.nD → PrngReg), Pre_Residual m →
    θ_run (Cert.Residual.defs (F := Bits)) (onTc (τ := Cert.Residual.τ) (Cert.Residual.main (F := Bits))) ⟨m, fun _ => 0, g⟩ (fun r => (∀ c : Dev Cert.Residual.nD,
      r.2.mem ((c.tc : Thread Cert.Residual.nD Cert.Residual.τ).loc Cert.Residual.main_arg0) = m ((c.tc : Thread Cert.Residual.nD Cert.Residual.τ).loc Cert.Residual.main_arg0)
      ∧ r.2.mem ((c.tc : Thread Cert.Residual.nD Cert.Residual.τ).loc Cert.Residual.main_arg1) = m ((c.tc : Thread Cert.Residual.nD Cert.Residual.τ).loc Cert.Residual.main_arg1)
      ∧ r.2.mem ((c.tc : Thread Cert.Residual.nD Cert.Residual.τ).loc Cert.Residual.main_arg2) = m ((c.tc : Thread Cert.Residual.nD Cert.Residual.τ).loc Cert.Residual.main_arg2)
      ∧ r.2.mem ((c.tc : Thread Cert.Residual.nD Cert.Residual.τ).loc Cert.Residual.main_arg3) = m ((c.tc : Thread Cert.Residual.nD Cert.Residual.τ).loc Cert.Residual.main_arg3))
      ∧ r.2.sem = fun _ => 0)

def quiescent_ResidualIdeal [hResidualIdeal : Cert.ResidualIdeal.Facts] : Prop :=
  ∀ (m : (ℓ : Loc Cert.ResidualIdeal.nD Cert.ResidualIdeal.τ Cert.ResidualIdeal.sig) → Buf (Elt Ideal) ℓ) (g : Dev Cert.ResidualIdeal.nD → PrngReg), Pre_ResidualIdeal m →
    θ_run (Cert.ResidualIdeal.defs (F := Ideal)) (onTc (τ := Cert.ResidualIdeal.τ) (Cert.ResidualIdeal.main (F := Ideal))) ⟨m, fun _ => 0, g⟩ (fun r => (∀ c : Dev Cert.ResidualIdeal.nD,
      r.2.mem ((c.tc : Thread Cert.ResidualIdeal.nD Cert.ResidualIdeal.τ).loc Cert.ResidualIdeal.main_arg0) = m ((c.tc : Thread Cert.ResidualIdeal.nD Cert.ResidualIdeal.τ).loc Cert.ResidualIdeal.main_arg0)
      ∧ r.2.mem ((c.tc : Thread Cert.ResidualIdeal.nD Cert.ResidualIdeal.τ).loc Cert.ResidualIdeal.main_arg1) = m ((c.tc : Thread Cert.ResidualIdeal.nD Cert.ResidualIdeal.τ).loc Cert.ResidualIdeal.main_arg1)
      ∧ r.2.mem ((c.tc : Thread Cert.ResidualIdeal.nD Cert.ResidualIdeal.τ).loc Cert.ResidualIdeal.main_arg2) = m ((c.tc : Thread Cert.ResidualIdeal.nD Cert.ResidualIdeal.τ).loc Cert.ResidualIdeal.main_arg2)
      ∧ r.2.mem ((c.tc : Thread Cert.ResidualIdeal.nD Cert.ResidualIdeal.τ).loc Cert.ResidualIdeal.main_arg3) = m ((c.tc : Thread Cert.ResidualIdeal.nD Cert.ResidualIdeal.τ).loc Cert.ResidualIdeal.main_arg3))
      ∧ r.2.sem = fun _ => 0)

def quiescent_ResidualRefIdeal [hResidualRefIdeal : Cert.ResidualRefIdeal.Facts] : Prop :=
  ∀ (m : (ℓ : Loc Cert.ResidualRefIdeal.nD Cert.ResidualRefIdeal.τ Cert.ResidualRefIdeal.sig) → Buf (Elt Ideal) ℓ) (g : Dev Cert.ResidualRefIdeal.nD → PrngReg), Pre_ResidualRefIdeal m →
    θ_run (Cert.ResidualRefIdeal.defs (F := Ideal)) (onTc (τ := Cert.ResidualRefIdeal.τ) (Cert.ResidualRefIdeal.main (F := Ideal))) ⟨m, fun _ => 0, g⟩ (fun r => (∀ c : Dev Cert.ResidualRefIdeal.nD,
      r.2.mem ((c.tc : Thread Cert.ResidualRefIdeal.nD Cert.ResidualRefIdeal.τ).loc Cert.ResidualRefIdeal.main_arg0) = m ((c.tc : Thread Cert.ResidualRefIdeal.nD Cert.ResidualRefIdeal.τ).loc Cert.ResidualRefIdeal.main_arg0)
      ∧ r.2.mem ((c.tc : Thread Cert.ResidualRefIdeal.nD Cert.ResidualRefIdeal.τ).loc Cert.ResidualRefIdeal.main_arg1) = m ((c.tc : Thread Cert.ResidualRefIdeal.nD Cert.ResidualRefIdeal.τ).loc Cert.ResidualRefIdeal.main_arg1)
      ∧ r.2.mem ((c.tc : Thread Cert.ResidualRefIdeal.nD Cert.ResidualRefIdeal.τ).loc Cert.ResidualRefIdeal.main_arg2) = m ((c.tc : Thread Cert.ResidualRefIdeal.nD Cert.ResidualRefIdeal.τ).loc Cert.ResidualRefIdeal.main_arg2)
      ∧ r.2.mem ((c.tc : Thread Cert.ResidualRefIdeal.nD Cert.ResidualRefIdeal.τ).loc Cert.ResidualRefIdeal.main_arg3) = m ((c.tc : Thread Cert.ResidualRefIdeal.nD Cert.ResidualRefIdeal.τ).loc Cert.ResidualRefIdeal.main_arg3))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2)
      ∧ r.2.mem ((c.tc : Thread Cert.Project.nD Cert.Project.τ).loc Cert.Project.main_arg3) = m ((c.tc : Thread Cert.Project.nD Cert.Project.τ).loc Cert.Project.main_arg3)
      ∧ r.2.mem ((c.tc : Thread Cert.Project.nD Cert.Project.τ).loc Cert.Project.main_arg4) = m ((c.tc : Thread Cert.Project.nD Cert.Project.τ).loc Cert.Project.main_arg4)
      ∧ r.2.mem ((c.tc : Thread Cert.Project.nD Cert.Project.τ).loc Cert.Project.main_arg5) = m ((c.tc : Thread Cert.Project.nD Cert.Project.τ).loc Cert.Project.main_arg5)
      ∧ r.2.mem ((c.tc : Thread Cert.Project.nD Cert.Project.τ).loc Cert.Project.main_arg6) = m ((c.tc : Thread Cert.Project.nD Cert.Project.τ).loc Cert.Project.main_arg6)
      ∧ r.2.mem ((c.tc : Thread Cert.Project.nD Cert.Project.τ).loc Cert.Project.main_arg7) = m ((c.tc : Thread Cert.Project.nD Cert.Project.τ).loc Cert.Project.main_arg7))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
      ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
      ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
      ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5)
      ∧ r.2.mem ((c.tc : Thread Cert.ProjectIdeal.nD Cert.ProjectIdeal.τ).loc Cert.ProjectIdeal.main_arg6) = m ((c.tc : Thread Cert.ProjectIdeal.nD Cert.ProjectIdeal.τ).loc Cert.ProjectIdeal.main_arg6)
      ∧ r.2.mem ((c.tc : Thread Cert.ProjectIdeal.nD Cert.ProjectIdeal.τ).loc Cert.ProjectIdeal.main_arg7) = m ((c.tc : Thread Cert.ProjectIdeal.nD Cert.ProjectIdeal.τ).loc Cert.ProjectIdeal.main_arg7))
      ∧ r.2.sem = fun _ => 0)

def quiescent_ProjectRefIdeal [hProjectRefIdeal : Cert.ProjectRefIdeal.Facts] : Prop :=
  ∀ (m : (ℓ : Loc Cert.ProjectRefIdeal.nD Cert.ProjectRefIdeal.τ Cert.ProjectRefIdeal.sig) → Buf (Elt Ideal) ℓ) (g : Dev Cert.ProjectRefIdeal.nD → PrngReg), Pre_ProjectRefIdeal m →
    θ_run (Cert.ProjectRefIdeal.defs (F := Ideal)) (onTc (τ := Cert.ProjectRefIdeal.τ) (Cert.ProjectRefIdeal.main (F := Ideal))) ⟨m, fun _ => 0, g⟩ (fun r => (∀ c : Dev Cert.ProjectRefIdeal.nD,
      r.2.mem ((c.tc : Thread Cert.ProjectRefIdeal.nD Cert.ProjectRefIdeal.τ).loc Cert.ProjectRefIdeal.main_arg0) = m ((c.tc : Thread Cert.ProjectRefIdeal.nD Cert.ProjectRefIdeal.τ).loc Cert.ProjectRefIdeal.main_arg0)
      ∧ r.2.mem ((c.tc : Thread Cert.ProjectRefIdeal.nD Cert.ProjectRefIdeal.τ).loc Cert.ProjectRefIdeal.main_arg1) = m ((c.tc : Thread Cert.ProjectRefIdeal.nD Cert.ProjectRefIdeal.τ).loc Cert.ProjectRefIdeal.main_arg1)
      ∧ r.2.mem ((c.tc : Thread Cert.ProjectRefIdeal.nD Cert.ProjectRefIdeal.τ).loc Cert.ProjectRefIdeal.main_arg2) = m ((c.tc : Thread Cert.ProjectRefIdeal.nD Cert.ProjectRefIdeal.τ).loc Cert.ProjectRefIdeal.main_arg2)
      ∧ r.2.mem ((c.tc : Thread Cert.ProjectRefIdeal.nD Cert.ProjectRefIdeal.τ).loc Cert.ProjectRefIdeal.main_arg3) = m ((c.tc : Thread Cert.ProjectRefIdeal.nD Cert.ProjectRefIdeal.τ).loc Cert.ProjectRefIdeal.main_arg3)
      ∧ r.2.mem ((c.tc : Thread Cert.ProjectRefIdeal.nD Cert.ProjectRefIdeal.τ).loc Cert.ProjectRefIdeal.main_arg4) = m ((c.tc : Thread Cert.ProjectRefIdeal.nD Cert.ProjectRefIdeal.τ).loc Cert.ProjectRefIdeal.main_arg4)
      ∧ r.2.mem ((c.tc : Thread Cert.ProjectRefIdeal.nD Cert.ProjectRefIdeal.τ).loc Cert.ProjectRefIdeal.main_arg5) = m ((c.tc : Thread Cert.ProjectRefIdeal.nD Cert.ProjectRefIdeal.τ).loc Cert.ProjectRefIdeal.main_arg5)
      ∧ r.2.mem ((c.tc : Thread Cert.ProjectRefIdeal.nD Cert.ProjectRefIdeal.τ).loc Cert.ProjectRefIdeal.main_arg6) = m ((c.tc : Thread Cert.ProjectRefIdeal.nD Cert.ProjectRefIdeal.τ).loc Cert.ProjectRefIdeal.main_arg6)
      ∧ r.2.mem ((c.tc : Thread Cert.ProjectRefIdeal.nD Cert.ProjectRefIdeal.τ).loc Cert.ProjectRefIdeal.main_arg7) = m ((c.tc : Thread Cert.ProjectRefIdeal.nD Cert.ProjectRefIdeal.τ).loc Cert.ProjectRefIdeal.main_arg7))
      ∧ r.2.sem = fun _ => 0)

def quiescent_PosSums [hPosSums : Cert.PosSums.Facts] : Prop :=
  ∀ (m : (ℓ : Loc Cert.PosSums.nD Cert.PosSums.τ Cert.PosSums.sig) → Buf (Elt Bits) ℓ) (g : Dev Cert.PosSums.nD → PrngReg), Pre_PosSums m →
    θ_run (Cert.PosSums.defs (F := Bits)) (onTc (τ := Cert.PosSums.τ) (Cert.PosSums.main (F := Bits))) ⟨m, fun _ => 0, g⟩ (fun r => (∀ c : Dev Cert.PosSums.nD,
      r.2.mem ((c.tc : Thread Cert.PosSums.nD Cert.PosSums.τ).loc Cert.PosSums.main_arg0) = m ((c.tc : Thread Cert.PosSums.nD Cert.PosSums.τ).loc Cert.PosSums.main_arg0)
      ∧ r.2.mem ((c.tc : Thread Cert.PosSums.nD Cert.PosSums.τ).loc Cert.PosSums.main_arg1) = m ((c.tc : Thread Cert.PosSums.nD Cert.PosSums.τ).loc Cert.PosSums.main_arg1))
      ∧ r.2.sem = fun _ => 0)

def quiescent_PosSumsIdeal [hPosSumsIdeal : Cert.PosSumsIdeal.Facts] : Prop :=
  ∀ (m : (ℓ : Loc Cert.PosSumsIdeal.nD Cert.PosSumsIdeal.τ Cert.PosSumsIdeal.sig) → Buf (Elt Ideal) ℓ) (g : Dev Cert.PosSumsIdeal.nD → PrngReg), Pre_PosSumsIdeal m →
    θ_run (Cert.PosSumsIdeal.defs (F := Ideal)) (onTc (τ := Cert.PosSumsIdeal.τ) (Cert.PosSumsIdeal.main (F := Ideal))) ⟨m, fun _ => 0, g⟩ (fun r => (∀ c : Dev Cert.PosSumsIdeal.nD,
      r.2.mem ((c.tc : Thread Cert.PosSumsIdeal.nD Cert.PosSumsIdeal.τ).loc Cert.PosSumsIdeal.main_arg0) = m ((c.tc : Thread Cert.PosSumsIdeal.nD Cert.PosSumsIdeal.τ).loc Cert.PosSumsIdeal.main_arg0)
      ∧ r.2.mem ((c.tc : Thread Cert.PosSumsIdeal.nD Cert.PosSumsIdeal.τ).loc Cert.PosSumsIdeal.main_arg1) = m ((c.tc : Thread Cert.PosSumsIdeal.nD Cert.PosSumsIdeal.τ).loc Cert.PosSumsIdeal.main_arg1))
      ∧ r.2.sem = fun _ => 0)

def quiescent_PosSumsRefIdeal [hPosSumsRefIdeal : Cert.PosSumsRefIdeal.Facts] : Prop :=
  ∀ (m : (ℓ : Loc Cert.PosSumsRefIdeal.nD Cert.PosSumsRefIdeal.τ Cert.PosSumsRefIdeal.sig) → Buf (Elt Ideal) ℓ) (g : Dev Cert.PosSumsRefIdeal.nD → PrngReg), Pre_PosSumsRefIdeal m →
    θ_run (Cert.PosSumsRefIdeal.defs (F := Ideal)) (onTc (τ := Cert.PosSumsRefIdeal.τ) (Cert.PosSumsRefIdeal.main (F := Ideal))) ⟨m, fun _ => 0, g⟩ (fun r => (∀ c : Dev Cert.PosSumsRefIdeal.nD,
      r.2.mem ((c.tc : Thread Cert.PosSumsRefIdeal.nD Cert.PosSumsRefIdeal.τ).loc Cert.PosSumsRefIdeal.main_arg0) = m ((c.tc : Thread Cert.PosSumsRefIdeal.nD Cert.PosSumsRefIdeal.τ).loc Cert.PosSumsRefIdeal.main_arg0)
      ∧ r.2.mem ((c.tc : Thread Cert.PosSumsRefIdeal.nD Cert.PosSumsRefIdeal.τ).loc Cert.PosSumsRefIdeal.main_arg1) = m ((c.tc : Thread Cert.PosSumsRefIdeal.nD Cert.PosSumsRefIdeal.τ).loc Cert.PosSumsRefIdeal.main_arg1))
      ∧ r.2.sem = fun _ => 0)

def quiescent_Pos [hPos : Cert.Pos.Facts] : Prop :=
  ∀ (m : (ℓ : Loc Cert.Pos.nD Cert.Pos.τ Cert.Pos.sig) → Buf (Elt Bits) ℓ) (g : Dev Cert.Pos.nD → PrngReg), Pre_Pos m →
    θ_run (Cert.Pos.defs (F := Bits)) (onTc (τ := Cert.Pos.τ) (Cert.Pos.main (F := Bits))) ⟨m, fun _ => 0, g⟩ (fun r => (∀ c : Dev Cert.Pos.nD,
      r.2.mem ((c.tc : Thread Cert.Pos.nD Cert.Pos.τ).loc Cert.Pos.main_arg0) = m ((c.tc : Thread Cert.Pos.nD Cert.Pos.τ).loc Cert.Pos.main_arg0)
      ∧ r.2.mem ((c.tc : Thread Cert.Pos.nD Cert.Pos.τ).loc Cert.Pos.main_arg1) = m ((c.tc : Thread Cert.Pos.nD Cert.Pos.τ).loc Cert.Pos.main_arg1)
      ∧ r.2.mem ((c.tc : Thread Cert.Pos.nD Cert.Pos.τ).loc Cert.Pos.main_arg2) = m ((c.tc : Thread Cert.Pos.nD Cert.Pos.τ).loc Cert.Pos.main_arg2)
      ∧ r.2.mem ((c.tc : Thread Cert.Pos.nD Cert.Pos.τ).loc Cert.Pos.main_arg3) = m ((c.tc : Thread Cert.Pos.nD Cert.Pos.τ).loc Cert.Pos.main_arg3)
      ∧ r.2.mem ((c.tc : Thread Cert.Pos.nD Cert.Pos.τ).loc Cert.Pos.main_arg4) = m ((c.tc : Thread Cert.Pos.nD Cert.Pos.τ).loc Cert.Pos.main_arg4))
      ∧ r.2.sem = fun _ => 0)

def quiescent_PosIdeal [hPosIdeal : Cert.PosIdeal.Facts] : Prop :=
  ∀ (m : (ℓ : Loc Cert.PosIdeal.nD Cert.PosIdeal.τ Cert.PosIdeal.sig) → Buf (Elt Ideal) ℓ) (g : Dev Cert.PosIdeal.nD → PrngReg), Pre_PosIdeal m →
    θ_run (Cert.PosIdeal.defs (F := Ideal)) (onTc (τ := Cert.PosIdeal.τ) (Cert.PosIdeal.main (F := Ideal))) ⟨m, fun _ => 0, g⟩ (fun r => (∀ c : Dev Cert.PosIdeal.nD,
      r.2.mem ((c.tc : Thread Cert.PosIdeal.nD Cert.PosIdeal.τ).loc Cert.PosIdeal.main_arg0) = m ((c.tc : Thread Cert.PosIdeal.nD Cert.PosIdeal.τ).loc Cert.PosIdeal.main_arg0)
      ∧ r.2.mem ((c.tc : Thread Cert.PosIdeal.nD Cert.PosIdeal.τ).loc Cert.PosIdeal.main_arg1) = m ((c.tc : Thread Cert.PosIdeal.nD Cert.PosIdeal.τ).loc Cert.PosIdeal.main_arg1)
      ∧ r.2.mem ((c.tc : Thread Cert.PosIdeal.nD Cert.PosIdeal.τ).loc Cert.PosIdeal.main_arg2) = m ((c.tc : Thread Cert.PosIdeal.nD Cert.PosIdeal.τ).loc Cert.PosIdeal.main_arg2)
      ∧ r.2.mem ((c.tc : Thread Cert.PosIdeal.nD Cert.PosIdeal.τ).loc Cert.PosIdeal.main_arg3) = m ((c.tc : Thread Cert.PosIdeal.nD Cert.PosIdeal.τ).loc Cert.PosIdeal.main_arg3)
      ∧ r.2.mem ((c.tc : Thread Cert.PosIdeal.nD Cert.PosIdeal.τ).loc Cert.PosIdeal.main_arg4) = m ((c.tc : Thread Cert.PosIdeal.nD Cert.PosIdeal.τ).loc Cert.PosIdeal.main_arg4))
      ∧ r.2.sem = fun _ => 0)

def quiescent_PosRefIdeal [hPosRefIdeal : Cert.PosRefIdeal.Facts] : Prop :=
  ∀ (m : (ℓ : Loc Cert.PosRefIdeal.nD Cert.PosRefIdeal.τ Cert.PosRefIdeal.sig) → Buf (Elt Ideal) ℓ) (g : Dev Cert.PosRefIdeal.nD → PrngReg), Pre_PosRefIdeal m →
    θ_run (Cert.PosRefIdeal.defs (F := Ideal)) (onTc (τ := Cert.PosRefIdeal.τ) (Cert.PosRefIdeal.main (F := Ideal))) ⟨m, fun _ => 0, g⟩ (fun r => (∀ c : Dev Cert.PosRefIdeal.nD,
      r.2.mem ((c.tc : Thread Cert.PosRefIdeal.nD Cert.PosRefIdeal.τ).loc Cert.PosRefIdeal.main_arg0) = m ((c.tc : Thread Cert.PosRefIdeal.nD Cert.PosRefIdeal.τ).loc Cert.PosRefIdeal.main_arg0)
      ∧ r.2.mem ((c.tc : Thread Cert.PosRefIdeal.nD Cert.PosRefIdeal.τ).loc Cert.PosRefIdeal.main_arg1) = m ((c.tc : Thread Cert.PosRefIdeal.nD Cert.PosRefIdeal.τ).loc Cert.PosRefIdeal.main_arg1)
      ∧ r.2.mem ((c.tc : Thread Cert.PosRefIdeal.nD Cert.PosRefIdeal.τ).loc Cert.PosRefIdeal.main_arg2) = m ((c.tc : Thread Cert.PosRefIdeal.nD Cert.PosRefIdeal.τ).loc Cert.PosRefIdeal.main_arg2)
      ∧ r.2.mem ((c.tc : Thread Cert.PosRefIdeal.nD Cert.PosRefIdeal.τ).loc Cert.PosRefIdeal.main_arg3) = m ((c.tc : Thread Cert.PosRefIdeal.nD Cert.PosRefIdeal.τ).loc Cert.PosRefIdeal.main_arg3)
      ∧ r.2.mem ((c.tc : Thread Cert.PosRefIdeal.nD Cert.PosRefIdeal.τ).loc Cert.PosRefIdeal.main_arg4) = m ((c.tc : Thread Cert.PosRefIdeal.nD Cert.PosRefIdeal.τ).loc Cert.PosRefIdeal.main_arg4))
      ∧ r.2.sem = fun _ => 0)

def quiescent_AttnIn [hAttnIn : Cert.AttnIn.Facts] : Prop :=
  ∀ (m : (ℓ : Loc Cert.AttnIn.nD Cert.AttnIn.τ Cert.AttnIn.sig) → Buf (Elt Bits) ℓ) (g : Dev Cert.AttnIn.nD → PrngReg), Pre_AttnIn m →
    θ_run (Cert.AttnIn.defs (F := Bits)) (onTc (τ := Cert.AttnIn.τ) (Cert.AttnIn.main (F := Bits))) ⟨m, fun _ => 0, g⟩ (fun r => (∀ c : Dev Cert.AttnIn.nD,
      r.2.mem ((c.tc : Thread Cert.AttnIn.nD Cert.AttnIn.τ).loc Cert.AttnIn.main_arg0) = m ((c.tc : Thread Cert.AttnIn.nD Cert.AttnIn.τ).loc Cert.AttnIn.main_arg0)
      ∧ r.2.mem ((c.tc : Thread Cert.AttnIn.nD Cert.AttnIn.τ).loc Cert.AttnIn.main_arg1) = m ((c.tc : Thread Cert.AttnIn.nD Cert.AttnIn.τ).loc Cert.AttnIn.main_arg1)
      ∧ r.2.mem ((c.tc : Thread Cert.AttnIn.nD Cert.AttnIn.τ).loc Cert.AttnIn.main_arg2) = m ((c.tc : Thread Cert.AttnIn.nD Cert.AttnIn.τ).loc Cert.AttnIn.main_arg2)
      ∧ r.2.mem ((c.tc : Thread Cert.AttnIn.nD Cert.AttnIn.τ).loc Cert.AttnIn.main_arg3) = m ((c.tc : Thread Cert.AttnIn.nD Cert.AttnIn.τ).loc Cert.AttnIn.main_arg3)
      ∧ r.2.mem ((c.tc : Thread Cert.AttnIn.nD Cert.AttnIn.τ).loc Cert.AttnIn.main_arg4) = m ((c.tc : Thread Cert.AttnIn.nD Cert.AttnIn.τ).loc Cert.AttnIn.main_arg4)
      ∧ r.2.mem ((c.tc : Thread Cert.AttnIn.nD Cert.AttnIn.τ).loc Cert.AttnIn.main_arg5) = m ((c.tc : Thread Cert.AttnIn.nD Cert.AttnIn.τ).loc Cert.AttnIn.main_arg5))
      ∧ r.2.sem = fun _ => 0)

def quiescent_AttnInIdeal [hAttnInIdeal : Cert.AttnInIdeal.Facts] : Prop :=
  ∀ (m : (ℓ : Loc Cert.AttnInIdeal.nD Cert.AttnInIdeal.τ Cert.AttnInIdeal.sig) → Buf (Elt Ideal) ℓ) (g : Dev Cert.AttnInIdeal.nD → PrngReg), Pre_AttnInIdeal m →
    θ_run (Cert.AttnInIdeal.defs (F := Ideal)) (onTc (τ := Cert.AttnInIdeal.τ) (Cert.AttnInIdeal.main (F := Ideal))) ⟨m, fun _ => 0, g⟩ (fun r => (∀ c : Dev Cert.AttnInIdeal.nD,
      r.2.mem ((c.tc : Thread Cert.AttnInIdeal.nD Cert.AttnInIdeal.τ).loc Cert.AttnInIdeal.main_arg0) = m ((c.tc : Thread Cert.AttnInIdeal.nD Cert.AttnInIdeal.τ).loc Cert.AttnInIdeal.main_arg0)
      ∧ r.2.mem ((c.tc : Thread Cert.AttnInIdeal.nD Cert.AttnInIdeal.τ).loc Cert.AttnInIdeal.main_arg1) = m ((c.tc : Thread Cert.AttnInIdeal.nD Cert.AttnInIdeal.τ).loc Cert.AttnInIdeal.main_arg1)
      ∧ r.2.mem ((c.tc : Thread Cert.AttnInIdeal.nD Cert.AttnInIdeal.τ).loc Cert.AttnInIdeal.main_arg2) = m ((c.tc : Thread Cert.AttnInIdeal.nD Cert.AttnInIdeal.τ).loc Cert.AttnInIdeal.main_arg2)
      ∧ r.2.mem ((c.tc : Thread Cert.AttnInIdeal.nD Cert.AttnInIdeal.τ).loc Cert.AttnInIdeal.main_arg3) = m ((c.tc : Thread Cert.AttnInIdeal.nD Cert.AttnInIdeal.τ).loc Cert.AttnInIdeal.main_arg3)
      ∧ r.2.mem ((c.tc : Thread Cert.AttnInIdeal.nD Cert.AttnInIdeal.τ).loc Cert.AttnInIdeal.main_arg4) = m ((c.tc : Thread Cert.AttnInIdeal.nD Cert.AttnInIdeal.τ).loc Cert.AttnInIdeal.main_arg4)
      ∧ r.2.mem ((c.tc : Thread Cert.AttnInIdeal.nD Cert.AttnInIdeal.τ).loc Cert.AttnInIdeal.main_arg5) = m ((c.tc : Thread Cert.AttnInIdeal.nD Cert.AttnInIdeal.τ).loc Cert.AttnInIdeal.main_arg5))
      ∧ r.2.sem = fun _ => 0)

def quiescent_AttnInRefIdeal [hAttnInRefIdeal : Cert.AttnInRefIdeal.Facts] : Prop :=
  ∀ (m : (ℓ : Loc Cert.AttnInRefIdeal.nD Cert.AttnInRefIdeal.τ Cert.AttnInRefIdeal.sig) → Buf (Elt Ideal) ℓ) (g : Dev Cert.AttnInRefIdeal.nD → PrngReg), Pre_AttnInRefIdeal m →
    θ_run (Cert.AttnInRefIdeal.defs (F := Ideal)) (onTc (τ := Cert.AttnInRefIdeal.τ) (Cert.AttnInRefIdeal.main (F := Ideal))) ⟨m, fun _ => 0, g⟩ (fun r => (∀ c : Dev Cert.AttnInRefIdeal.nD,
      r.2.mem ((c.tc : Thread Cert.AttnInRefIdeal.nD Cert.AttnInRefIdeal.τ).loc Cert.AttnInRefIdeal.main_arg0) = m ((c.tc : Thread Cert.AttnInRefIdeal.nD Cert.AttnInRefIdeal.τ).loc Cert.AttnInRefIdeal.main_arg0)
      ∧ r.2.mem ((c.tc : Thread Cert.AttnInRefIdeal.nD Cert.AttnInRefIdeal.τ).loc Cert.AttnInRefIdeal.main_arg1) = m ((c.tc : Thread Cert.AttnInRefIdeal.nD Cert.AttnInRefIdeal.τ).loc Cert.AttnInRefIdeal.main_arg1)
      ∧ r.2.mem ((c.tc : Thread Cert.AttnInRefIdeal.nD Cert.AttnInRefIdeal.τ).loc Cert.AttnInRefIdeal.main_arg2) = m ((c.tc : Thread Cert.AttnInRefIdeal.nD Cert.AttnInRefIdeal.τ).loc Cert.AttnInRefIdeal.main_arg2)
      ∧ r.2.mem ((c.tc : Thread Cert.AttnInRefIdeal.nD Cert.AttnInRefIdeal.τ).loc Cert.AttnInRefIdeal.main_arg3) = m ((c.tc : Thread Cert.AttnInRefIdeal.nD Cert.AttnInRefIdeal.τ).loc Cert.AttnInRefIdeal.main_arg3)
      ∧ r.2.mem ((c.tc : Thread Cert.AttnInRefIdeal.nD Cert.AttnInRefIdeal.τ).loc Cert.AttnInRefIdeal.main_arg4) = m ((c.tc : Thread Cert.AttnInRefIdeal.nD Cert.AttnInRefIdeal.τ).loc Cert.AttnInRefIdeal.main_arg4)
      ∧ r.2.mem ((c.tc : Thread Cert.AttnInRefIdeal.nD Cert.AttnInRefIdeal.τ).loc Cert.AttnInRefIdeal.main_arg5) = m ((c.tc : Thread Cert.AttnInRefIdeal.nD Cert.AttnInRefIdeal.τ).loc Cert.AttnInRefIdeal.main_arg5))
      ∧ r.2.sem = fun _ => 0)

def quiescent_Gamma [hGamma : Cert.Gamma.Facts] : Prop :=
  ∀ (m : (ℓ : Loc Cert.Gamma.nD Cert.Gamma.τ Cert.Gamma.sig) → Buf (Elt Bits) ℓ) (g : Dev Cert.Gamma.nD → PrngReg), Pre_Gamma m →
    θ_run (Cert.Gamma.defs (F := Bits)) (onTc (τ := Cert.Gamma.τ) (Cert.Gamma.main (F := Bits))) ⟨m, fun _ => 0, g⟩ (fun r => (∀ c : Dev Cert.Gamma.nD,
      r.2.mem ((c.tc : Thread Cert.Gamma.nD Cert.Gamma.τ).loc Cert.Gamma.main_arg0) = m ((c.tc : Thread Cert.Gamma.nD Cert.Gamma.τ).loc Cert.Gamma.main_arg0)
      ∧ r.2.mem ((c.tc : Thread Cert.Gamma.nD Cert.Gamma.τ).loc Cert.Gamma.main_arg1) = m ((c.tc : Thread Cert.Gamma.nD Cert.Gamma.τ).loc Cert.Gamma.main_arg1)
      ∧ r.2.mem ((c.tc : Thread Cert.Gamma.nD Cert.Gamma.τ).loc Cert.Gamma.main_arg2) = m ((c.tc : Thread Cert.Gamma.nD Cert.Gamma.τ).loc Cert.Gamma.main_arg2)
      ∧ r.2.mem ((c.tc : Thread Cert.Gamma.nD Cert.Gamma.τ).loc Cert.Gamma.main_arg3) = m ((c.tc : Thread Cert.Gamma.nD Cert.Gamma.τ).loc Cert.Gamma.main_arg3))
      ∧ r.2.sem = fun _ => 0)

def quiescent_GammaIdeal [hGammaIdeal : Cert.GammaIdeal.Facts] : Prop :=
  ∀ (m : (ℓ : Loc Cert.GammaIdeal.nD Cert.GammaIdeal.τ Cert.GammaIdeal.sig) → Buf (Elt Ideal) ℓ) (g : Dev Cert.GammaIdeal.nD → PrngReg), Pre_GammaIdeal m →
    θ_run (Cert.GammaIdeal.defs (F := Ideal)) (onTc (τ := Cert.GammaIdeal.τ) (Cert.GammaIdeal.main (F := Ideal))) ⟨m, fun _ => 0, g⟩ (fun r => (∀ c : Dev Cert.GammaIdeal.nD,
      r.2.mem ((c.tc : Thread Cert.GammaIdeal.nD Cert.GammaIdeal.τ).loc Cert.GammaIdeal.main_arg0) = m ((c.tc : Thread Cert.GammaIdeal.nD Cert.GammaIdeal.τ).loc Cert.GammaIdeal.main_arg0)
      ∧ r.2.mem ((c.tc : Thread Cert.GammaIdeal.nD Cert.GammaIdeal.τ).loc Cert.GammaIdeal.main_arg1) = m ((c.tc : Thread Cert.GammaIdeal.nD Cert.GammaIdeal.τ).loc Cert.GammaIdeal.main_arg1)
      ∧ r.2.mem ((c.tc : Thread Cert.GammaIdeal.nD Cert.GammaIdeal.τ).loc Cert.GammaIdeal.main_arg2) = m ((c.tc : Thread Cert.GammaIdeal.nD Cert.GammaIdeal.τ).loc Cert.GammaIdeal.main_arg2)
      ∧ r.2.mem ((c.tc : Thread Cert.GammaIdeal.nD Cert.GammaIdeal.τ).loc Cert.GammaIdeal.main_arg3) = m ((c.tc : Thread Cert.GammaIdeal.nD Cert.GammaIdeal.τ).loc Cert.GammaIdeal.main_arg3))
      ∧ r.2.sem = fun _ => 0)

def quiescent_GammaRefIdeal [hGammaRefIdeal : Cert.GammaRefIdeal.Facts] : Prop :=
  ∀ (m : (ℓ : Loc Cert.GammaRefIdeal.nD Cert.GammaRefIdeal.τ Cert.GammaRefIdeal.sig) → Buf (Elt Ideal) ℓ) (g : Dev Cert.GammaRefIdeal.nD → PrngReg), Pre_GammaRefIdeal m →
    θ_run (Cert.GammaRefIdeal.defs (F := Ideal)) (onTc (τ := Cert.GammaRefIdeal.τ) (Cert.GammaRefIdeal.main (F := Ideal))) ⟨m, fun _ => 0, g⟩ (fun r => (∀ c : Dev Cert.GammaRefIdeal.nD,
      r.2.mem ((c.tc : Thread Cert.GammaRefIdeal.nD Cert.GammaRefIdeal.τ).loc Cert.GammaRefIdeal.main_arg0) = m ((c.tc : Thread Cert.GammaRefIdeal.nD Cert.GammaRefIdeal.τ).loc Cert.GammaRefIdeal.main_arg0)
      ∧ r.2.mem ((c.tc : Thread Cert.GammaRefIdeal.nD Cert.GammaRefIdeal.τ).loc Cert.GammaRefIdeal.main_arg1) = m ((c.tc : Thread Cert.GammaRefIdeal.nD Cert.GammaRefIdeal.τ).loc Cert.GammaRefIdeal.main_arg1)
      ∧ r.2.mem ((c.tc : Thread Cert.GammaRefIdeal.nD Cert.GammaRefIdeal.τ).loc Cert.GammaRefIdeal.main_arg2) = m ((c.tc : Thread Cert.GammaRefIdeal.nD Cert.GammaRefIdeal.τ).loc Cert.GammaRefIdeal.main_arg2)
      ∧ r.2.mem ((c.tc : Thread Cert.GammaRefIdeal.nD Cert.GammaRefIdeal.τ).loc Cert.GammaRefIdeal.main_arg3) = m ((c.tc : Thread Cert.GammaRefIdeal.nD Cert.GammaRefIdeal.τ).loc Cert.GammaRefIdeal.main_arg3))
      ∧ r.2.sem = fun _ => 0)

def quiescent_Attention [hAttention : Cert.Attention.Facts] : Prop :=
  ∀ (m : (ℓ : Loc Cert.Attention.nD Cert.Attention.τ Cert.Attention.sig) → Buf (Elt Bits) ℓ) (g : Dev Cert.Attention.nD → PrngReg), Pre_Attention m →
    θ_run (Cert.Attention.defs (F := Bits)) (onTc (τ := Cert.Attention.τ) (Cert.Attention.main (F := Bits))) ⟨m, fun _ => 0, g⟩ (fun r => (∀ c : Dev Cert.Attention.nD,
      r.2.mem ((c.tc : Thread Cert.Attention.nD Cert.Attention.τ).loc Cert.Attention.main_arg0) = m ((c.tc : Thread Cert.Attention.nD Cert.Attention.τ).loc Cert.Attention.main_arg0)
      ∧ r.2.mem ((c.tc : Thread Cert.Attention.nD Cert.Attention.τ).loc Cert.Attention.main_arg1) = m ((c.tc : Thread Cert.Attention.nD Cert.Attention.τ).loc Cert.Attention.main_arg1)
      ∧ r.2.mem ((c.tc : Thread Cert.Attention.nD Cert.Attention.τ).loc Cert.Attention.main_arg2) = m ((c.tc : Thread Cert.Attention.nD Cert.Attention.τ).loc Cert.Attention.main_arg2)
      ∧ r.2.mem ((c.tc : Thread Cert.Attention.nD Cert.Attention.τ).loc Cert.Attention.main_arg3) = m ((c.tc : Thread Cert.Attention.nD Cert.Attention.τ).loc Cert.Attention.main_arg3)
      ∧ r.2.mem ((c.tc : Thread Cert.Attention.nD Cert.Attention.τ).loc Cert.Attention.main_arg4) = m ((c.tc : Thread Cert.Attention.nD Cert.Attention.τ).loc Cert.Attention.main_arg4)
      ∧ r.2.mem ((c.tc : Thread Cert.Attention.nD Cert.Attention.τ).loc Cert.Attention.main_arg5) = m ((c.tc : Thread Cert.Attention.nD Cert.Attention.τ).loc Cert.Attention.main_arg5)
      ∧ r.2.mem ((c.tc : Thread Cert.Attention.nD Cert.Attention.τ).loc Cert.Attention.main_arg6) = m ((c.tc : Thread Cert.Attention.nD Cert.Attention.τ).loc Cert.Attention.main_arg6)
      ∧ r.2.mem ((c.tc : Thread Cert.Attention.nD Cert.Attention.τ).loc Cert.Attention.main_arg7) = m ((c.tc : Thread Cert.Attention.nD Cert.Attention.τ).loc Cert.Attention.main_arg7)
      ∧ r.2.mem ((c.tc : Thread Cert.Attention.nD Cert.Attention.τ).loc Cert.Attention.main_arg8) = m ((c.tc : Thread Cert.Attention.nD Cert.Attention.τ).loc Cert.Attention.main_arg8))
      ∧ r.2.sem = fun _ => 0)

def quiescent_AttentionIdeal [hAttentionIdeal : Cert.AttentionIdeal.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
      ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3)
      ∧ r.2.mem ((c.tc : Thread Cert.AttentionIdeal.nD Cert.AttentionIdeal.τ).loc Cert.AttentionIdeal.main_arg4) = m ((c.tc : Thread Cert.AttentionIdeal.nD Cert.AttentionIdeal.τ).loc Cert.AttentionIdeal.main_arg4)
      ∧ r.2.mem ((c.tc : Thread Cert.AttentionIdeal.nD Cert.AttentionIdeal.τ).loc Cert.AttentionIdeal.main_arg5) = m ((c.tc : Thread Cert.AttentionIdeal.nD Cert.AttentionIdeal.τ).loc Cert.AttentionIdeal.main_arg5)
      ∧ r.2.mem ((c.tc : Thread Cert.AttentionIdeal.nD Cert.AttentionIdeal.τ).loc Cert.AttentionIdeal.main_arg6) = m ((c.tc : Thread Cert.AttentionIdeal.nD Cert.AttentionIdeal.τ).loc Cert.AttentionIdeal.main_arg6)
      ∧ r.2.mem ((c.tc : Thread Cert.AttentionIdeal.nD Cert.AttentionIdeal.τ).loc Cert.AttentionIdeal.main_arg7) = m ((c.tc : Thread Cert.AttentionIdeal.nD Cert.AttentionIdeal.τ).loc Cert.AttentionIdeal.main_arg7)
      ∧ r.2.mem ((c.tc : Thread Cert.AttentionIdeal.nD Cert.AttentionIdeal.τ).loc Cert.AttentionIdeal.main_arg8) = m ((c.tc : Thread Cert.AttentionIdeal.nD Cert.AttentionIdeal.τ).loc Cert.AttentionIdeal.main_arg8))
      ∧ r.2.sem = fun _ => 0)

def quiescent_AttentionRefIdeal [hAttentionRefIdeal : Cert.AttentionRefIdeal.Facts] : Prop :=
  ∀ (m : (ℓ : Loc Cert.AttentionRefIdeal.nD Cert.AttentionRefIdeal.τ Cert.AttentionRefIdeal.sig) → Buf (Elt Ideal) ℓ) (g : Dev Cert.AttentionRefIdeal.nD → PrngReg), Pre_AttentionRefIdeal m →
    θ_run (Cert.AttentionRefIdeal.defs (F := Ideal)) (onTc (τ := Cert.AttentionRefIdeal.τ) (Cert.AttentionRefIdeal.main (F := Ideal))) ⟨m, fun _ => 0, g⟩ (fun r => (∀ c : Dev Cert.AttentionRefIdeal.nD,
      r.2.mem ((c.tc : Thread Cert.AttentionRefIdeal.nD Cert.AttentionRefIdeal.τ).loc Cert.AttentionRefIdeal.main_arg0) = m ((c.tc : Thread Cert.AttentionRefIdeal.nD Cert.AttentionRefIdeal.τ).loc Cert.AttentionRefIdeal.main_arg0)
      ∧ r.2.mem ((c.tc : Thread Cert.AttentionRefIdeal.nD Cert.AttentionRefIdeal.τ).loc Cert.AttentionRefIdeal.main_arg1) = m ((c.tc : Thread Cert.AttentionRefIdeal.nD Cert.AttentionRefIdeal.τ).loc Cert.AttentionRefIdeal.main_arg1)
      ∧ r.2.mem ((c.tc : Thread Cert.AttentionRefIdeal.nD Cert.AttentionRefIdeal.τ).loc Cert.AttentionRefIdeal.main_arg2) = m ((c.tc : Thread Cert.AttentionRefIdeal.nD Cert.AttentionRefIdeal.τ).loc Cert.AttentionRefIdeal.main_arg2)
      ∧ r.2.mem ((c.tc : Thread Cert.AttentionRefIdeal.nD Cert.AttentionRefIdeal.τ).loc Cert.AttentionRefIdeal.main_arg3) = m ((c.tc : Thread Cert.AttentionRefIdeal.nD Cert.AttentionRefIdeal.τ).loc Cert.AttentionRefIdeal.main_arg3)
      ∧ r.2.mem ((c.tc : Thread Cert.AttentionRefIdeal.nD Cert.AttentionRefIdeal.τ).loc Cert.AttentionRefIdeal.main_arg4) = m ((c.tc : Thread Cert.AttentionRefIdeal.nD Cert.AttentionRefIdeal.τ).loc Cert.AttentionRefIdeal.main_arg4)
      ∧ r.2.mem ((c.tc : Thread Cert.AttentionRefIdeal.nD Cert.AttentionRefIdeal.τ).loc Cert.AttentionRefIdeal.main_arg5) = m ((c.tc : Thread Cert.AttentionRefIdeal.nD Cert.AttentionRefIdeal.τ).loc Cert.AttentionRefIdeal.main_arg5)
      ∧ r.2.mem ((c.tc : Thread Cert.AttentionRefIdeal.nD Cert.AttentionRefIdeal.τ).loc Cert.AttentionRefIdeal.main_arg6) = m ((c.tc : Thread Cert.AttentionRefIdeal.nD Cert.AttentionRefIdeal.τ).loc Cert.AttentionRefIdeal.main_arg6)
      ∧ r.2.mem ((c.tc : Thread Cert.AttentionRefIdeal.nD Cert.AttentionRefIdeal.τ).loc Cert.AttentionRefIdeal.main_arg7) = m ((c.tc : Thread Cert.AttentionRefIdeal.nD Cert.AttentionRefIdeal.τ).loc Cert.AttentionRefIdeal.main_arg7)
      ∧ r.2.mem ((c.tc : Thread Cert.AttentionRefIdeal.nD Cert.AttentionRefIdeal.τ).loc Cert.AttentionRefIdeal.main_arg8) = m ((c.tc : Thread Cert.AttentionRefIdeal.nD Cert.AttentionRefIdeal.τ).loc Cert.AttentionRefIdeal.main_arg8))
      ∧ r.2.sem = fun _ => 0)

def quiescent_Nearest [hNearest : Cert.Nearest.Facts] : Prop :=
  ∀ (m : (ℓ : Loc Cert.Nearest.nD Cert.Nearest.τ Cert.Nearest.sig) → Buf (Elt Bits) ℓ) (g : Dev Cert.Nearest.nD → PrngReg), Pre_Nearest m →
    θ_run (Cert.Nearest.defs (F := Bits)) (onTc (τ := Cert.Nearest.τ) (Cert.Nearest.main (F := Bits))) ⟨m, fun _ => 0, g⟩ (fun r => (∀ c : Dev Cert.Nearest.nD,
      r.2.mem ((c.tc : Thread Cert.Nearest.nD Cert.Nearest.τ).loc Cert.Nearest.main_arg0) = m ((c.tc : Thread Cert.Nearest.nD Cert.Nearest.τ).loc Cert.Nearest.main_arg0))
      ∧ r.2.sem = fun _ => 0)

def quiescent_NearestIdeal [hNearestIdeal : Cert.NearestIdeal.Facts] : Prop :=
  ∀ (m : (ℓ : Loc Cert.NearestIdeal.nD Cert.NearestIdeal.τ Cert.NearestIdeal.sig) → Buf (Elt Ideal) ℓ) (g : Dev Cert.NearestIdeal.nD → PrngReg), Pre_NearestIdeal m →
    θ_run (Cert.NearestIdeal.defs (F := Ideal)) (onTc (τ := Cert.NearestIdeal.τ) (Cert.NearestIdeal.main (F := Ideal))) ⟨m, fun _ => 0, g⟩ (fun r => (∀ c : Dev Cert.NearestIdeal.nD,
      r.2.mem ((c.tc : Thread Cert.NearestIdeal.nD Cert.NearestIdeal.τ).loc Cert.NearestIdeal.main_arg0) = m ((c.tc : Thread Cert.NearestIdeal.nD Cert.NearestIdeal.τ).loc Cert.NearestIdeal.main_arg0))
      ∧ r.2.sem = fun _ => 0)

def quiescent_NearestIdeal_pre_finite_coords [hNearestIdeal : Cert.NearestIdeal.Facts] [hPre_finite_coords : Cert.Pre_finite_coords.Facts] : Prop :=
  ∀ (m : (ℓ : Loc Cert.NearestIdeal.nD Cert.NearestIdeal.τ Cert.NearestIdeal.sig) → Buf (Elt Ideal) ℓ) (g : Dev Cert.NearestIdeal.nD → PrngReg), Pre_NearestIdeal_finite_coords m →
    θ_run (Cert.NearestIdeal.defs (F := Ideal)) (onTc (τ := Cert.NearestIdeal.τ) (Cert.NearestIdeal.main (F := Ideal))) ⟨m, fun _ => 0, g⟩ (fun r => (∀ c : Dev Cert.NearestIdeal.nD,
      r.2.mem ((c.tc : Thread Cert.NearestIdeal.nD Cert.NearestIdeal.τ).loc Cert.NearestIdeal.main_arg0) = m ((c.tc : Thread Cert.NearestIdeal.nD Cert.NearestIdeal.τ).loc Cert.NearestIdeal.main_arg0))
      ∧ r.2.sem = fun _ => 0)

def quiescent_NearestRefIdeal [hNearestRefIdeal : Cert.NearestRefIdeal.Facts] : Prop :=
  ∀ (m : (ℓ : Loc Cert.NearestRefIdeal.nD Cert.NearestRefIdeal.τ Cert.NearestRefIdeal.sig) → Buf (Elt Ideal) ℓ) (g : Dev Cert.NearestRefIdeal.nD → PrngReg), Pre_NearestRefIdeal m →
    θ_run (Cert.NearestRefIdeal.defs (F := Ideal)) (onTc (τ := Cert.NearestRefIdeal.τ) (Cert.NearestRefIdeal.main (F := Ideal))) ⟨m, fun _ => 0, g⟩ (fun r => (∀ c : Dev Cert.NearestRefIdeal.nD,
      r.2.mem ((c.tc : Thread Cert.NearestRefIdeal.nD Cert.NearestRefIdeal.τ).loc Cert.NearestRefIdeal.main_arg0) = m ((c.tc : Thread Cert.NearestRefIdeal.nD Cert.NearestRefIdeal.τ).loc Cert.NearestRefIdeal.main_arg0))
      ∧ r.2.sem = fun _ => 0)

def quiescent_NearestRefIdeal_pre_finite_coords [hNearestRefIdeal : Cert.NearestRefIdeal.Facts] [hPre_finite_coords : Cert.Pre_finite_coords.Facts] : Prop :=
  ∀ (m : (ℓ : Loc Cert.NearestRefIdeal.nD Cert.NearestRefIdeal.τ Cert.NearestRefIdeal.sig) → Buf (Elt Ideal) ℓ) (g : Dev Cert.NearestRefIdeal.nD → PrngReg), Pre_NearestRefIdeal_finite_coords m →
    θ_run (Cert.NearestRefIdeal.defs (F := Ideal)) (onTc (τ := Cert.NearestRefIdeal.τ) (Cert.NearestRefIdeal.main (F := Ideal))) ⟨m, fun _ => 0, g⟩ (fun r => (∀ c : Dev Cert.NearestRefIdeal.nD,
      r.2.mem ((c.tc : Thread Cert.NearestRefIdeal.nD Cert.NearestRefIdeal.τ).loc Cert.NearestRefIdeal.main_arg0) = m ((c.tc : Thread Cert.NearestRefIdeal.nD Cert.NearestRefIdeal.τ).loc Cert.NearestRefIdeal.main_arg0))
      ∧ r.2.sem = fun _ => 0)

def quiescent_After [hAfter : Cert.After.Facts] : Prop :=
  ∀ (m : (ℓ : Loc Cert.After.nD Cert.After.τ Cert.After.sig) → Buf (Elt Bits) ℓ) (g : Dev Cert.After.nD → PrngReg), Pre_After m →
    θ_run (Cert.After.defs (F := Bits)) (onTc (τ := Cert.After.τ) (Cert.After.main (F := Bits))) ⟨m, fun _ => 0, g⟩ (fun r => (∀ c : Dev Cert.After.nD,
      r.2.mem ((c.tc : Thread Cert.After.nD Cert.After.τ).loc Cert.After.main_arg0) = m ((c.tc : Thread Cert.After.nD Cert.After.τ).loc Cert.After.main_arg0)
      ∧ r.2.mem ((c.tc : Thread Cert.After.nD Cert.After.τ).loc Cert.After.main_arg1) = m ((c.tc : Thread Cert.After.nD Cert.After.τ).loc Cert.After.main_arg1)
      ∧ r.2.mem ((c.tc : Thread Cert.After.nD Cert.After.τ).loc Cert.After.main_arg2) = m ((c.tc : Thread Cert.After.nD Cert.After.τ).loc Cert.After.main_arg2)
      ∧ r.2.mem ((c.tc : Thread Cert.After.nD Cert.After.τ).loc Cert.After.main_arg3) = m ((c.tc : Thread Cert.After.nD Cert.After.τ).loc Cert.After.main_arg3)
      ∧ r.2.mem ((c.tc : Thread Cert.After.nD Cert.After.τ).loc Cert.After.main_arg4) = m ((c.tc : Thread Cert.After.nD Cert.After.τ).loc Cert.After.main_arg4)
      ∧ r.2.mem ((c.tc : Thread Cert.After.nD Cert.After.τ).loc Cert.After.main_arg5) = m ((c.tc : Thread Cert.After.nD Cert.After.τ).loc Cert.After.main_arg5)
      ∧ r.2.mem ((c.tc : Thread Cert.After.nD Cert.After.τ).loc Cert.After.main_arg6) = m ((c.tc : Thread Cert.After.nD Cert.After.τ).loc Cert.After.main_arg6)
      ∧ r.2.mem ((c.tc : Thread Cert.After.nD Cert.After.τ).loc Cert.After.main_arg7) = m ((c.tc : Thread Cert.After.nD Cert.After.τ).loc Cert.After.main_arg7)
      ∧ r.2.mem ((c.tc : Thread Cert.After.nD Cert.After.τ).loc Cert.After.main_arg8) = m ((c.tc : Thread Cert.After.nD Cert.After.τ).loc Cert.After.main_arg8)
      ∧ r.2.mem ((c.tc : Thread Cert.After.nD Cert.After.τ).loc Cert.After.main_arg9) = m ((c.tc : Thread Cert.After.nD Cert.After.τ).loc Cert.After.main_arg9)
      ∧ r.2.mem ((c.tc : Thread Cert.After.nD Cert.After.τ).loc Cert.After.main_arg10) = m ((c.tc : Thread Cert.After.nD Cert.After.τ).loc Cert.After.main_arg10))
      ∧ r.2.sem = fun _ => 0)

def quiescent_AfterIdeal [hAfterIdeal : Cert.AfterIdeal.Facts] : Prop :=
  ∀ (m : (ℓ : Loc Cert.AfterIdeal.nD Cert.AfterIdeal.τ Cert.AfterIdeal.sig) → Buf (Elt Ideal) ℓ) (g : Dev Cert.AfterIdeal.nD → PrngReg), Pre_AfterIdeal m →
    θ_run (Cert.AfterIdeal.defs (F := Ideal)) (onTc (τ := Cert.AfterIdeal.τ) (Cert.AfterIdeal.main (F := Ideal))) ⟨m, fun _ => 0, g⟩ (fun r => (∀ c : Dev Cert.AfterIdeal.nD,
      r.2.mem ((c.tc : Thread Cert.AfterIdeal.nD Cert.AfterIdeal.τ).loc Cert.AfterIdeal.main_arg0) = m ((c.tc : Thread Cert.AfterIdeal.nD Cert.AfterIdeal.τ).loc Cert.AfterIdeal.main_arg0)
      ∧ r.2.mem ((c.tc : Thread Cert.AfterIdeal.nD Cert.AfterIdeal.τ).loc Cert.AfterIdeal.main_arg1) = m ((c.tc : Thread Cert.AfterIdeal.nD Cert.AfterIdeal.τ).loc Cert.AfterIdeal.main_arg1)
      ∧ r.2.mem ((c.tc : Thread Cert.AfterIdeal.nD Cert.AfterIdeal.τ).loc Cert.AfterIdeal.main_arg2) = m ((c.tc : Thread Cert.AfterIdeal.nD Cert.AfterIdeal.τ).loc Cert.AfterIdeal.main_arg2)
      ∧ r.2.mem ((c.tc : Thread Cert.AfterIdeal.nD Cert.AfterIdeal.τ).loc Cert.AfterIdeal.main_arg3) = m ((c.tc : Thread Cert.AfterIdeal.nD Cert.AfterIdeal.τ).loc Cert.AfterIdeal.main_arg3)
      ∧ r.2.mem ((c.tc : Thread Cert.AfterIdeal.nD Cert.AfterIdeal.τ).loc Cert.AfterIdeal.main_arg4) = m ((c.tc : Thread Cert.AfterIdeal.nD Cert.AfterIdeal.τ).loc Cert.AfterIdeal.main_arg4)
      ∧ r.2.mem ((c.tc : Thread Cert.AfterIdeal.nD Cert.AfterIdeal.τ).loc Cert.AfterIdeal.main_arg5) = m ((c.tc : Thread Cert.AfterIdeal.nD Cert.AfterIdeal.τ).loc Cert.AfterIdeal.main_arg5)
      ∧ r.2.mem ((c.tc : Thread Cert.AfterIdeal.nD Cert.AfterIdeal.τ).loc Cert.AfterIdeal.main_arg6) = m ((c.tc : Thread Cert.AfterIdeal.nD Cert.AfterIdeal.τ).loc Cert.AfterIdeal.main_arg6)
      ∧ r.2.mem ((c.tc : Thread Cert.AfterIdeal.nD Cert.AfterIdeal.τ).loc Cert.AfterIdeal.main_arg7) = m ((c.tc : Thread Cert.AfterIdeal.nD Cert.AfterIdeal.τ).loc Cert.AfterIdeal.main_arg7)
      ∧ r.2.mem ((c.tc : Thread Cert.AfterIdeal.nD Cert.AfterIdeal.τ).loc Cert.AfterIdeal.main_arg8) = m ((c.tc : Thread Cert.AfterIdeal.nD Cert.AfterIdeal.τ).loc Cert.AfterIdeal.main_arg8)
      ∧ r.2.mem ((c.tc : Thread Cert.AfterIdeal.nD Cert.AfterIdeal.τ).loc Cert.AfterIdeal.main_arg9) = m ((c.tc : Thread Cert.AfterIdeal.nD Cert.AfterIdeal.τ).loc Cert.AfterIdeal.main_arg9)
      ∧ r.2.mem ((c.tc : Thread Cert.AfterIdeal.nD Cert.AfterIdeal.τ).loc Cert.AfterIdeal.main_arg10) = m ((c.tc : Thread Cert.AfterIdeal.nD Cert.AfterIdeal.τ).loc Cert.AfterIdeal.main_arg10))
      ∧ r.2.sem = fun _ => 0)

def quiescent_AfterIdeal_pre_finite_after [hAfterIdeal : Cert.AfterIdeal.Facts] [hPre_finite_after : Cert.Pre_finite_after.Facts] : Prop :=
  ∀ (m : (ℓ : Loc Cert.AfterIdeal.nD Cert.AfterIdeal.τ Cert.AfterIdeal.sig) → Buf (Elt Ideal) ℓ) (g : Dev Cert.AfterIdeal.nD → PrngReg), Pre_AfterIdeal_finite_after m →
    θ_run (Cert.AfterIdeal.defs (F := Ideal)) (onTc (τ := Cert.AfterIdeal.τ) (Cert.AfterIdeal.main (F := Ideal))) ⟨m, fun _ => 0, g⟩ (fun r => (∀ c : Dev Cert.AfterIdeal.nD,
      r.2.mem ((c.tc : Thread Cert.AfterIdeal.nD Cert.AfterIdeal.τ).loc Cert.AfterIdeal.main_arg0) = m ((c.tc : Thread Cert.AfterIdeal.nD Cert.AfterIdeal.τ).loc Cert.AfterIdeal.main_arg0)
      ∧ r.2.mem ((c.tc : Thread Cert.AfterIdeal.nD Cert.AfterIdeal.τ).loc Cert.AfterIdeal.main_arg1) = m ((c.tc : Thread Cert.AfterIdeal.nD Cert.AfterIdeal.τ).loc Cert.AfterIdeal.main_arg1)
      ∧ r.2.mem ((c.tc : Thread Cert.AfterIdeal.nD Cert.AfterIdeal.τ).loc Cert.AfterIdeal.main_arg2) = m ((c.tc : Thread Cert.AfterIdeal.nD Cert.AfterIdeal.τ).loc Cert.AfterIdeal.main_arg2)
      ∧ r.2.mem ((c.tc : Thread Cert.AfterIdeal.nD Cert.AfterIdeal.τ).loc Cert.AfterIdeal.main_arg3) = m ((c.tc : Thread Cert.AfterIdeal.nD Cert.AfterIdeal.τ).loc Cert.AfterIdeal.main_arg3)
      ∧ r.2.mem ((c.tc : Thread Cert.AfterIdeal.nD Cert.AfterIdeal.τ).loc Cert.AfterIdeal.main_arg4) = m ((c.tc : Thread Cert.AfterIdeal.nD Cert.AfterIdeal.τ).loc Cert.AfterIdeal.main_arg4)
      ∧ r.2.mem ((c.tc : Thread Cert.AfterIdeal.nD Cert.AfterIdeal.τ).loc Cert.AfterIdeal.main_arg5) = m ((c.tc : Thread Cert.AfterIdeal.nD Cert.AfterIdeal.τ).loc Cert.AfterIdeal.main_arg5)
      ∧ r.2.mem ((c.tc : Thread Cert.AfterIdeal.nD Cert.AfterIdeal.τ).loc Cert.AfterIdeal.main_arg6) = m ((c.tc : Thread Cert.AfterIdeal.nD Cert.AfterIdeal.τ).loc Cert.AfterIdeal.main_arg6)
      ∧ r.2.mem ((c.tc : Thread Cert.AfterIdeal.nD Cert.AfterIdeal.τ).loc Cert.AfterIdeal.main_arg7) = m ((c.tc : Thread Cert.AfterIdeal.nD Cert.AfterIdeal.τ).loc Cert.AfterIdeal.main_arg7)
      ∧ r.2.mem ((c.tc : Thread Cert.AfterIdeal.nD Cert.AfterIdeal.τ).loc Cert.AfterIdeal.main_arg8) = m ((c.tc : Thread Cert.AfterIdeal.nD Cert.AfterIdeal.τ).loc Cert.AfterIdeal.main_arg8)
      ∧ r.2.mem ((c.tc : Thread Cert.AfterIdeal.nD Cert.AfterIdeal.τ).loc Cert.AfterIdeal.main_arg9) = m ((c.tc : Thread Cert.AfterIdeal.nD Cert.AfterIdeal.τ).loc Cert.AfterIdeal.main_arg9)
      ∧ r.2.mem ((c.tc : Thread Cert.AfterIdeal.nD Cert.AfterIdeal.τ).loc Cert.AfterIdeal.main_arg10) = m ((c.tc : Thread Cert.AfterIdeal.nD Cert.AfterIdeal.τ).loc Cert.AfterIdeal.main_arg10))
      ∧ r.2.sem = fun _ => 0)

def quiescent_AfterRefIdeal [hAfterRefIdeal : Cert.AfterRefIdeal.Facts] : Prop :=
  ∀ (m : (ℓ : Loc Cert.AfterRefIdeal.nD Cert.AfterRefIdeal.τ Cert.AfterRefIdeal.sig) → Buf (Elt Ideal) ℓ) (g : Dev Cert.AfterRefIdeal.nD → PrngReg), Pre_AfterRefIdeal m →
    θ_run (Cert.AfterRefIdeal.defs (F := Ideal)) (onTc (τ := Cert.AfterRefIdeal.τ) (Cert.AfterRefIdeal.main (F := Ideal))) ⟨m, fun _ => 0, g⟩ (fun r => (∀ c : Dev Cert.AfterRefIdeal.nD,
      r.2.mem ((c.tc : Thread Cert.AfterRefIdeal.nD Cert.AfterRefIdeal.τ).loc Cert.AfterRefIdeal.main_arg0) = m ((c.tc : Thread Cert.AfterRefIdeal.nD Cert.AfterRefIdeal.τ).loc Cert.AfterRefIdeal.main_arg0)
      ∧ r.2.mem ((c.tc : Thread Cert.AfterRefIdeal.nD Cert.AfterRefIdeal.τ).loc Cert.AfterRefIdeal.main_arg1) = m ((c.tc : Thread Cert.AfterRefIdeal.nD Cert.AfterRefIdeal.τ).loc Cert.AfterRefIdeal.main_arg1)
      ∧ r.2.mem ((c.tc : Thread Cert.AfterRefIdeal.nD Cert.AfterRefIdeal.τ).loc Cert.AfterRefIdeal.main_arg2) = m ((c.tc : Thread Cert.AfterRefIdeal.nD Cert.AfterRefIdeal.τ).loc Cert.AfterRefIdeal.main_arg2)
      ∧ r.2.mem ((c.tc : Thread Cert.AfterRefIdeal.nD Cert.AfterRefIdeal.τ).loc Cert.AfterRefIdeal.main_arg3) = m ((c.tc : Thread Cert.AfterRefIdeal.nD Cert.AfterRefIdeal.τ).loc Cert.AfterRefIdeal.main_arg3)
      ∧ r.2.mem ((c.tc : Thread Cert.AfterRefIdeal.nD Cert.AfterRefIdeal.τ).loc Cert.AfterRefIdeal.main_arg4) = m ((c.tc : Thread Cert.AfterRefIdeal.nD Cert.AfterRefIdeal.τ).loc Cert.AfterRefIdeal.main_arg4)
      ∧ r.2.mem ((c.tc : Thread Cert.AfterRefIdeal.nD Cert.AfterRefIdeal.τ).loc Cert.AfterRefIdeal.main_arg5) = m ((c.tc : Thread Cert.AfterRefIdeal.nD Cert.AfterRefIdeal.τ).loc Cert.AfterRefIdeal.main_arg5)
      ∧ r.2.mem ((c.tc : Thread Cert.AfterRefIdeal.nD Cert.AfterRefIdeal.τ).loc Cert.AfterRefIdeal.main_arg6) = m ((c.tc : Thread Cert.AfterRefIdeal.nD Cert.AfterRefIdeal.τ).loc Cert.AfterRefIdeal.main_arg6)
      ∧ r.2.mem ((c.tc : Thread Cert.AfterRefIdeal.nD Cert.AfterRefIdeal.τ).loc Cert.AfterRefIdeal.main_arg7) = m ((c.tc : Thread Cert.AfterRefIdeal.nD Cert.AfterRefIdeal.τ).loc Cert.AfterRefIdeal.main_arg7)
      ∧ r.2.mem ((c.tc : Thread Cert.AfterRefIdeal.nD Cert.AfterRefIdeal.τ).loc Cert.AfterRefIdeal.main_arg8) = m ((c.tc : Thread Cert.AfterRefIdeal.nD Cert.AfterRefIdeal.τ).loc Cert.AfterRefIdeal.main_arg8)
      ∧ r.2.mem ((c.tc : Thread Cert.AfterRefIdeal.nD Cert.AfterRefIdeal.τ).loc Cert.AfterRefIdeal.main_arg9) = m ((c.tc : Thread Cert.AfterRefIdeal.nD Cert.AfterRefIdeal.τ).loc Cert.AfterRefIdeal.main_arg9)
      ∧ r.2.mem ((c.tc : Thread Cert.AfterRefIdeal.nD Cert.AfterRefIdeal.τ).loc Cert.AfterRefIdeal.main_arg10) = m ((c.tc : Thread Cert.AfterRefIdeal.nD Cert.AfterRefIdeal.τ).loc Cert.AfterRefIdeal.main_arg10))
      ∧ r.2.sem = fun _ => 0)

def quiescent_AfterRefIdeal_pre_finite_after [hAfterRefIdeal : Cert.AfterRefIdeal.Facts] [hPre_finite_after : Cert.Pre_finite_after.Facts] : Prop :=
  ∀ (m : (ℓ : Loc Cert.AfterRefIdeal.nD Cert.AfterRefIdeal.τ Cert.AfterRefIdeal.sig) → Buf (Elt Ideal) ℓ) (g : Dev Cert.AfterRefIdeal.nD → PrngReg), Pre_AfterRefIdeal_finite_after m →
    θ_run (Cert.AfterRefIdeal.defs (F := Ideal)) (onTc (τ := Cert.AfterRefIdeal.τ) (Cert.AfterRefIdeal.main (F := Ideal))) ⟨m, fun _ => 0, g⟩ (fun r => (∀ c : Dev Cert.AfterRefIdeal.nD,
      r.2.mem ((c.tc : Thread Cert.AfterRefIdeal.nD Cert.AfterRefIdeal.τ).loc Cert.AfterRefIdeal.main_arg0) = m ((c.tc : Thread Cert.AfterRefIdeal.nD Cert.AfterRefIdeal.τ).loc Cert.AfterRefIdeal.main_arg0)
      ∧ r.2.mem ((c.tc : Thread Cert.AfterRefIdeal.nD Cert.AfterRefIdeal.τ).loc Cert.AfterRefIdeal.main_arg1) = m ((c.tc : Thread Cert.AfterRefIdeal.nD Cert.AfterRefIdeal.τ).loc Cert.AfterRefIdeal.main_arg1)
      ∧ r.2.mem ((c.tc : Thread Cert.AfterRefIdeal.nD Cert.AfterRefIdeal.τ).loc Cert.AfterRefIdeal.main_arg2) = m ((c.tc : Thread Cert.AfterRefIdeal.nD Cert.AfterRefIdeal.τ).loc Cert.AfterRefIdeal.main_arg2)
      ∧ r.2.mem ((c.tc : Thread Cert.AfterRefIdeal.nD Cert.AfterRefIdeal.τ).loc Cert.AfterRefIdeal.main_arg3) = m ((c.tc : Thread Cert.AfterRefIdeal.nD Cert.AfterRefIdeal.τ).loc Cert.AfterRefIdeal.main_arg3)
      ∧ r.2.mem ((c.tc : Thread Cert.AfterRefIdeal.nD Cert.AfterRefIdeal.τ).loc Cert.AfterRefIdeal.main_arg4) = m ((c.tc : Thread Cert.AfterRefIdeal.nD Cert.AfterRefIdeal.τ).loc Cert.AfterRefIdeal.main_arg4)
      ∧ r.2.mem ((c.tc : Thread Cert.AfterRefIdeal.nD Cert.AfterRefIdeal.τ).loc Cert.AfterRefIdeal.main_arg5) = m ((c.tc : Thread Cert.AfterRefIdeal.nD Cert.AfterRefIdeal.τ).loc Cert.AfterRefIdeal.main_arg5)
      ∧ r.2.mem ((c.tc : Thread Cert.AfterRefIdeal.nD Cert.AfterRefIdeal.τ).loc Cert.AfterRefIdeal.main_arg6) = m ((c.tc : Thread Cert.AfterRefIdeal.nD Cert.AfterRefIdeal.τ).loc Cert.AfterRefIdeal.main_arg6)
      ∧ r.2.mem ((c.tc : Thread Cert.AfterRefIdeal.nD Cert.AfterRefIdeal.τ).loc Cert.AfterRefIdeal.main_arg7) = m ((c.tc : Thread Cert.AfterRefIdeal.nD Cert.AfterRefIdeal.τ).loc Cert.AfterRefIdeal.main_arg7)
      ∧ r.2.mem ((c.tc : Thread Cert.AfterRefIdeal.nD Cert.AfterRefIdeal.τ).loc Cert.AfterRefIdeal.main_arg8) = m ((c.tc : Thread Cert.AfterRefIdeal.nD Cert.AfterRefIdeal.τ).loc Cert.AfterRefIdeal.main_arg8)
      ∧ r.2.mem ((c.tc : Thread Cert.AfterRefIdeal.nD Cert.AfterRefIdeal.τ).loc Cert.AfterRefIdeal.main_arg9) = m ((c.tc : Thread Cert.AfterRefIdeal.nD Cert.AfterRefIdeal.τ).loc Cert.AfterRefIdeal.main_arg9)
      ∧ r.2.mem ((c.tc : Thread Cert.AfterRefIdeal.nD Cert.AfterRefIdeal.τ).loc Cert.AfterRefIdeal.main_arg10) = m ((c.tc : Thread Cert.AfterRefIdeal.nD Cert.AfterRefIdeal.τ).loc Cert.AfterRefIdeal.main_arg10))
      ∧ r.2.sem = fun _ => 0)

def quiescent_Before [hBefore : Cert.Before.Facts] : Prop :=
  ∀ (m : (ℓ : Loc Cert.Before.nD Cert.Before.τ Cert.Before.sig) → Buf (Elt Bits) ℓ) (g : Dev Cert.Before.nD → PrngReg), Pre_Before m →
    θ_run (Cert.Before.defs (F := Bits)) (onTc (τ := Cert.Before.τ) (Cert.Before.main (F := Bits))) ⟨m, fun _ => 0, g⟩ (fun r => (∀ c : Dev Cert.Before.nD,
      r.2.mem ((c.tc : Thread Cert.Before.nD Cert.Before.τ).loc Cert.Before.main_arg0) = m ((c.tc : Thread Cert.Before.nD Cert.Before.τ).loc Cert.Before.main_arg0)
      ∧ r.2.mem ((c.tc : Thread Cert.Before.nD Cert.Before.τ).loc Cert.Before.main_arg1) = m ((c.tc : Thread Cert.Before.nD Cert.Before.τ).loc Cert.Before.main_arg1)
      ∧ r.2.mem ((c.tc : Thread Cert.Before.nD Cert.Before.τ).loc Cert.Before.main_arg2) = m ((c.tc : Thread Cert.Before.nD Cert.Before.τ).loc Cert.Before.main_arg2)
      ∧ r.2.mem ((c.tc : Thread Cert.Before.nD Cert.Before.τ).loc Cert.Before.main_arg3) = m ((c.tc : Thread Cert.Before.nD Cert.Before.τ).loc Cert.Before.main_arg3)
      ∧ r.2.mem ((c.tc : Thread Cert.Before.nD Cert.Before.τ).loc Cert.Before.main_arg4) = m ((c.tc : Thread Cert.Before.nD Cert.Before.τ).loc Cert.Before.main_arg4)
      ∧ r.2.mem ((c.tc : Thread Cert.Before.nD Cert.Before.τ).loc Cert.Before.main_arg5) = m ((c.tc : Thread Cert.Before.nD Cert.Before.τ).loc Cert.Before.main_arg5)
      ∧ r.2.mem ((c.tc : Thread Cert.Before.nD Cert.Before.τ).loc Cert.Before.main_arg6) = m ((c.tc : Thread Cert.Before.nD Cert.Before.τ).loc Cert.Before.main_arg6)
      ∧ r.2.mem ((c.tc : Thread Cert.Before.nD Cert.Before.τ).loc Cert.Before.main_arg7) = m ((c.tc : Thread Cert.Before.nD Cert.Before.τ).loc Cert.Before.main_arg7))
      ∧ r.2.sem = fun _ => 0)

def quiescent_BeforeIdeal [hBeforeIdeal : Cert.BeforeIdeal.Facts] : Prop :=
  ∀ (m : (ℓ : Loc Cert.BeforeIdeal.nD Cert.BeforeIdeal.τ Cert.BeforeIdeal.sig) → Buf (Elt Ideal) ℓ) (g : Dev Cert.BeforeIdeal.nD → PrngReg), Pre_BeforeIdeal m →
    θ_run (Cert.BeforeIdeal.defs (F := Ideal)) (onTc (τ := Cert.BeforeIdeal.τ) (Cert.BeforeIdeal.main (F := Ideal))) ⟨m, fun _ => 0, g⟩ (fun r => (∀ c : Dev Cert.BeforeIdeal.nD,
      r.2.mem ((c.tc : Thread Cert.BeforeIdeal.nD Cert.BeforeIdeal.τ).loc Cert.BeforeIdeal.main_arg0) = m ((c.tc : Thread Cert.BeforeIdeal.nD Cert.BeforeIdeal.τ).loc Cert.BeforeIdeal.main_arg0)
      ∧ r.2.mem ((c.tc : Thread Cert.BeforeIdeal.nD Cert.BeforeIdeal.τ).loc Cert.BeforeIdeal.main_arg1) = m ((c.tc : Thread Cert.BeforeIdeal.nD Cert.BeforeIdeal.τ).loc Cert.BeforeIdeal.main_arg1)
      ∧ r.2.mem ((c.tc : Thread Cert.BeforeIdeal.nD Cert.BeforeIdeal.τ).loc Cert.BeforeIdeal.main_arg2) = m ((c.tc : Thread Cert.BeforeIdeal.nD Cert.BeforeIdeal.τ).loc Cert.BeforeIdeal.main_arg2)
      ∧ r.2.mem ((c.tc : Thread Cert.BeforeIdeal.nD Cert.BeforeIdeal.τ).loc Cert.BeforeIdeal.main_arg3) = m ((c.tc : Thread Cert.BeforeIdeal.nD Cert.BeforeIdeal.τ).loc Cert.BeforeIdeal.main_arg3)
      ∧ r.2.mem ((c.tc : Thread Cert.BeforeIdeal.nD Cert.BeforeIdeal.τ).loc Cert.BeforeIdeal.main_arg4) = m ((c.tc : Thread Cert.BeforeIdeal.nD Cert.BeforeIdeal.τ).loc Cert.BeforeIdeal.main_arg4)
      ∧ r.2.mem ((c.tc : Thread Cert.BeforeIdeal.nD Cert.BeforeIdeal.τ).loc Cert.BeforeIdeal.main_arg5) = m ((c.tc : Thread Cert.BeforeIdeal.nD Cert.BeforeIdeal.τ).loc Cert.BeforeIdeal.main_arg5)
      ∧ r.2.mem ((c.tc : Thread Cert.BeforeIdeal.nD Cert.BeforeIdeal.τ).loc Cert.BeforeIdeal.main_arg6) = m ((c.tc : Thread Cert.BeforeIdeal.nD Cert.BeforeIdeal.τ).loc Cert.BeforeIdeal.main_arg6)
      ∧ r.2.mem ((c.tc : Thread Cert.BeforeIdeal.nD Cert.BeforeIdeal.τ).loc Cert.BeforeIdeal.main_arg7) = m ((c.tc : Thread Cert.BeforeIdeal.nD Cert.BeforeIdeal.τ).loc Cert.BeforeIdeal.main_arg7))
      ∧ r.2.sem = fun _ => 0)

def quiescent_BeforeIdeal_pre_finite_before [hBeforeIdeal : Cert.BeforeIdeal.Facts] [hPre_finite_before : Cert.Pre_finite_before.Facts] : Prop :=
  ∀ (m : (ℓ : Loc Cert.BeforeIdeal.nD Cert.BeforeIdeal.τ Cert.BeforeIdeal.sig) → Buf (Elt Ideal) ℓ) (g : Dev Cert.BeforeIdeal.nD → PrngReg), Pre_BeforeIdeal_finite_before m →
    θ_run (Cert.BeforeIdeal.defs (F := Ideal)) (onTc (τ := Cert.BeforeIdeal.τ) (Cert.BeforeIdeal.main (F := Ideal))) ⟨m, fun _ => 0, g⟩ (fun r => (∀ c : Dev Cert.BeforeIdeal.nD,
      r.2.mem ((c.tc : Thread Cert.BeforeIdeal.nD Cert.BeforeIdeal.τ).loc Cert.BeforeIdeal.main_arg0) = m ((c.tc : Thread Cert.BeforeIdeal.nD Cert.BeforeIdeal.τ).loc Cert.BeforeIdeal.main_arg0)
      ∧ r.2.mem ((c.tc : Thread Cert.BeforeIdeal.nD Cert.BeforeIdeal.τ).loc Cert.BeforeIdeal.main_arg1) = m ((c.tc : Thread Cert.BeforeIdeal.nD Cert.BeforeIdeal.τ).loc Cert.BeforeIdeal.main_arg1)
      ∧ r.2.mem ((c.tc : Thread Cert.BeforeIdeal.nD Cert.BeforeIdeal.τ).loc Cert.BeforeIdeal.main_arg2) = m ((c.tc : Thread Cert.BeforeIdeal.nD Cert.BeforeIdeal.τ).loc Cert.BeforeIdeal.main_arg2)
      ∧ r.2.mem ((c.tc : Thread Cert.BeforeIdeal.nD Cert.BeforeIdeal.τ).loc Cert.BeforeIdeal.main_arg3) = m ((c.tc : Thread Cert.BeforeIdeal.nD Cert.BeforeIdeal.τ).loc Cert.BeforeIdeal.main_arg3)
      ∧ r.2.mem ((c.tc : Thread Cert.BeforeIdeal.nD Cert.BeforeIdeal.τ).loc Cert.BeforeIdeal.main_arg4) = m ((c.tc : Thread Cert.BeforeIdeal.nD Cert.BeforeIdeal.τ).loc Cert.BeforeIdeal.main_arg4)
      ∧ r.2.mem ((c.tc : Thread Cert.BeforeIdeal.nD Cert.BeforeIdeal.τ).loc Cert.BeforeIdeal.main_arg5) = m ((c.tc : Thread Cert.BeforeIdeal.nD Cert.BeforeIdeal.τ).loc Cert.BeforeIdeal.main_arg5)
      ∧ r.2.mem ((c.tc : Thread Cert.BeforeIdeal.nD Cert.BeforeIdeal.τ).loc Cert.BeforeIdeal.main_arg6) = m ((c.tc : Thread Cert.BeforeIdeal.nD Cert.BeforeIdeal.τ).loc Cert.BeforeIdeal.main_arg6)
      ∧ r.2.mem ((c.tc : Thread Cert.BeforeIdeal.nD Cert.BeforeIdeal.τ).loc Cert.BeforeIdeal.main_arg7) = m ((c.tc : Thread Cert.BeforeIdeal.nD Cert.BeforeIdeal.τ).loc Cert.BeforeIdeal.main_arg7))
      ∧ r.2.sem = fun _ => 0)

def quiescent_BeforeRefIdeal [hBeforeRefIdeal : Cert.BeforeRefIdeal.Facts] : Prop :=
  ∀ (m : (ℓ : Loc Cert.BeforeRefIdeal.nD Cert.BeforeRefIdeal.τ Cert.BeforeRefIdeal.sig) → Buf (Elt Ideal) ℓ) (g : Dev Cert.BeforeRefIdeal.nD → PrngReg), Pre_BeforeRefIdeal m →
    θ_run (Cert.BeforeRefIdeal.defs (F := Ideal)) (onTc (τ := Cert.BeforeRefIdeal.τ) (Cert.BeforeRefIdeal.main (F := Ideal))) ⟨m, fun _ => 0, g⟩ (fun r => (∀ c : Dev Cert.BeforeRefIdeal.nD,
      r.2.mem ((c.tc : Thread Cert.BeforeRefIdeal.nD Cert.BeforeRefIdeal.τ).loc Cert.BeforeRefIdeal.main_arg0) = m ((c.tc : Thread Cert.BeforeRefIdeal.nD Cert.BeforeRefIdeal.τ).loc Cert.BeforeRefIdeal.main_arg0)
      ∧ r.2.mem ((c.tc : Thread Cert.BeforeRefIdeal.nD Cert.BeforeRefIdeal.τ).loc Cert.BeforeRefIdeal.main_arg1) = m ((c.tc : Thread Cert.BeforeRefIdeal.nD Cert.BeforeRefIdeal.τ).loc Cert.BeforeRefIdeal.main_arg1)
      ∧ r.2.mem ((c.tc : Thread Cert.BeforeRefIdeal.nD Cert.BeforeRefIdeal.τ).loc Cert.BeforeRefIdeal.main_arg2) = m ((c.tc : Thread Cert.BeforeRefIdeal.nD Cert.BeforeRefIdeal.τ).loc Cert.BeforeRefIdeal.main_arg2)
      ∧ r.2.mem ((c.tc : Thread Cert.BeforeRefIdeal.nD Cert.BeforeRefIdeal.τ).loc Cert.BeforeRefIdeal.main_arg3) = m ((c.tc : Thread Cert.BeforeRefIdeal.nD Cert.BeforeRefIdeal.τ).loc Cert.BeforeRefIdeal.main_arg3)
      ∧ r.2.mem ((c.tc : Thread Cert.BeforeRefIdeal.nD Cert.BeforeRefIdeal.τ).loc Cert.BeforeRefIdeal.main_arg4) = m ((c.tc : Thread Cert.BeforeRefIdeal.nD Cert.BeforeRefIdeal.τ).loc Cert.BeforeRefIdeal.main_arg4)
      ∧ r.2.mem ((c.tc : Thread Cert.BeforeRefIdeal.nD Cert.BeforeRefIdeal.τ).loc Cert.BeforeRefIdeal.main_arg5) = m ((c.tc : Thread Cert.BeforeRefIdeal.nD Cert.BeforeRefIdeal.τ).loc Cert.BeforeRefIdeal.main_arg5)
      ∧ r.2.mem ((c.tc : Thread Cert.BeforeRefIdeal.nD Cert.BeforeRefIdeal.τ).loc Cert.BeforeRefIdeal.main_arg6) = m ((c.tc : Thread Cert.BeforeRefIdeal.nD Cert.BeforeRefIdeal.τ).loc Cert.BeforeRefIdeal.main_arg6)
      ∧ r.2.mem ((c.tc : Thread Cert.BeforeRefIdeal.nD Cert.BeforeRefIdeal.τ).loc Cert.BeforeRefIdeal.main_arg7) = m ((c.tc : Thread Cert.BeforeRefIdeal.nD Cert.BeforeRefIdeal.τ).loc Cert.BeforeRefIdeal.main_arg7))
      ∧ r.2.sem = fun _ => 0)

def quiescent_BeforeRefIdeal_pre_finite_before [hBeforeRefIdeal : Cert.BeforeRefIdeal.Facts] [hPre_finite_before : Cert.Pre_finite_before.Facts] : Prop :=
  ∀ (m : (ℓ : Loc Cert.BeforeRefIdeal.nD Cert.BeforeRefIdeal.τ Cert.BeforeRefIdeal.sig) → Buf (Elt Ideal) ℓ) (g : Dev Cert.BeforeRefIdeal.nD → PrngReg), Pre_BeforeRefIdeal_finite_before m →
    θ_run (Cert.BeforeRefIdeal.defs (F := Ideal)) (onTc (τ := Cert.BeforeRefIdeal.τ) (Cert.BeforeRefIdeal.main (F := Ideal))) ⟨m, fun _ => 0, g⟩ (fun r => (∀ c : Dev Cert.BeforeRefIdeal.nD,
      r.2.mem ((c.tc : Thread Cert.BeforeRefIdeal.nD Cert.BeforeRefIdeal.τ).loc Cert.BeforeRefIdeal.main_arg0) = m ((c.tc : Thread Cert.BeforeRefIdeal.nD Cert.BeforeRefIdeal.τ).loc Cert.BeforeRefIdeal.main_arg0)
      ∧ r.2.mem ((c.tc : Thread Cert.BeforeRefIdeal.nD Cert.BeforeRefIdeal.τ).loc Cert.BeforeRefIdeal.main_arg1) = m ((c.tc : Thread Cert.BeforeRefIdeal.nD Cert.BeforeRefIdeal.τ).loc Cert.BeforeRefIdeal.main_arg1)
      ∧ r.2.mem ((c.tc : Thread Cert.BeforeRefIdeal.nD Cert.BeforeRefIdeal.τ).loc Cert.BeforeRefIdeal.main_arg2) = m ((c.tc : Thread Cert.BeforeRefIdeal.nD Cert.BeforeRefIdeal.τ).loc Cert.BeforeRefIdeal.main_arg2)
      ∧ r.2.mem ((c.tc : Thread Cert.BeforeRefIdeal.nD Cert.BeforeRefIdeal.τ).loc Cert.BeforeRefIdeal.main_arg3) = m ((c.tc : Thread Cert.BeforeRefIdeal.nD Cert.BeforeRefIdeal.τ).loc Cert.BeforeRefIdeal.main_arg3)
      ∧ r.2.mem ((c.tc : Thread Cert.BeforeRefIdeal.nD Cert.BeforeRefIdeal.τ).loc Cert.BeforeRefIdeal.main_arg4) = m ((c.tc : Thread Cert.BeforeRefIdeal.nD Cert.BeforeRefIdeal.τ).loc Cert.BeforeRefIdeal.main_arg4)
      ∧ r.2.mem ((c.tc : Thread Cert.BeforeRefIdeal.nD Cert.BeforeRefIdeal.τ).loc Cert.BeforeRefIdeal.main_arg5) = m ((c.tc : Thread Cert.BeforeRefIdeal.nD Cert.BeforeRefIdeal.τ).loc Cert.BeforeRefIdeal.main_arg5)
      ∧ r.2.mem ((c.tc : Thread Cert.BeforeRefIdeal.nD Cert.BeforeRefIdeal.τ).loc Cert.BeforeRefIdeal.main_arg6) = m ((c.tc : Thread Cert.BeforeRefIdeal.nD Cert.BeforeRefIdeal.τ).loc Cert.BeforeRefIdeal.main_arg6)
      ∧ r.2.mem ((c.tc : Thread Cert.BeforeRefIdeal.nD Cert.BeforeRefIdeal.τ).loc Cert.BeforeRefIdeal.main_arg7) = m ((c.tc : Thread Cert.BeforeRefIdeal.nD Cert.BeforeRefIdeal.τ).loc Cert.BeforeRefIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_idx_in_rows : Cert.Pre_idx_in_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_v1_0)) (v2 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_v1_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_v20) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Top_TopIdeal : Prop :=
  True

def algebraic_TopIdeal_TopRefIdeal [hTopIdeal : Cert.TopIdeal.Facts] [hTopRefIdeal : Cert.TopRefIdeal.Facts] : Prop :=
  ∀ (m : (ℓ : Loc Cert.TopIdeal.nD Cert.TopIdeal.τ Cert.TopIdeal.sig) → Buf (Elt Ideal) ℓ) (g : Dev Cert.TopIdeal.nD → PrngReg)
    (m' : (ℓ : Loc Cert.TopRefIdeal.nD Cert.TopRefIdeal.τ Cert.TopRefIdeal.sig) → Buf (Elt Ideal) ℓ) (g' : Dev Cert.TopRefIdeal.nD → PrngReg), Pre_TopIdeal m →
    (∀ c : Dev Cert.TopIdeal.nD,
      m' ((c.tc : Thread Cert.TopRefIdeal.nD Cert.TopRefIdeal.τ).loc Cert.TopRefIdeal.main_arg0) = m ((c.tc : Thread Cert.TopIdeal.nD Cert.TopIdeal.τ).loc Cert.TopIdeal.main_arg0)
      ∧ m' ((c.tc : Thread Cert.TopRefIdeal.nD Cert.TopRefIdeal.τ).loc Cert.TopRefIdeal.main_arg1) = m ((c.tc : Thread Cert.TopIdeal.nD Cert.TopIdeal.τ).loc Cert.TopIdeal.main_arg1)
      ∧ m' ((c.tc : Thread Cert.TopRefIdeal.nD Cert.TopRefIdeal.τ).loc Cert.TopRefIdeal.main_arg2) = m ((c.tc : Thread Cert.TopIdeal.nD Cert.TopIdeal.τ).loc Cert.TopIdeal.main_arg2)) →
    ∃ (v0 : (c : Dev Cert.TopIdeal.nD) → Buf (Elt Ideal) ((c.tc : Thread Cert.TopIdeal.nD Cert.TopIdeal.τ).loc Cert.TopIdeal.main_v0_0)) (v1 : (c : Dev Cert.TopIdeal.nD) → Buf (Elt Ideal) ((c.tc : Thread Cert.TopIdeal.nD Cert.TopIdeal.τ).loc Cert.TopIdeal.main_v0_1)) (v2 : (c : Dev Cert.TopIdeal.nD) → Buf (Elt Ideal) ((c.tc : Thread Cert.TopIdeal.nD Cert.TopIdeal.τ).loc Cert.TopIdeal.main_v0_2)),
      θ_run (Cert.TopIdeal.defs (F := Ideal)) (onTc (τ := Cert.TopIdeal.τ) (Cert.TopIdeal.main (F := Ideal))) ⟨m, fun _ => 0, g⟩ (fun r => ∀ c : Dev Cert.TopIdeal.nD,
          r.2.mem ((c.tc : Thread Cert.TopIdeal.nD Cert.TopIdeal.τ).loc Cert.TopIdeal.main_v0_0) = v0 c
          ∧ r.2.mem ((c.tc : Thread Cert.TopIdeal.nD Cert.TopIdeal.τ).loc Cert.TopIdeal.main_v0_1) = v1 c
          ∧ r.2.mem ((c.tc : Thread Cert.TopIdeal.nD Cert.TopIdeal.τ).loc Cert.TopIdeal.main_v0_2) = v2 c
          ∧ r.2.mem ((c.tc : Thread Cert.TopIdeal.nD Cert.TopIdeal.τ).loc Cert.TopIdeal.main_arg0) = m ((c.tc : Thread Cert.TopIdeal.nD Cert.TopIdeal.τ).loc Cert.TopIdeal.main_arg0)
          ∧ r.2.mem ((c.tc : Thread Cert.TopIdeal.nD Cert.TopIdeal.τ).loc Cert.TopIdeal.main_arg1) = m ((c.tc : Thread Cert.TopIdeal.nD Cert.TopIdeal.τ).loc Cert.TopIdeal.main_arg1)
          ∧ r.2.mem ((c.tc : Thread Cert.TopIdeal.nD Cert.TopIdeal.τ).loc Cert.TopIdeal.main_arg2) = m ((c.tc : Thread Cert.TopIdeal.nD Cert.TopIdeal.τ).loc Cert.TopIdeal.main_arg2))
      ∧ θ_run (Cert.TopRefIdeal.defs (F := Ideal)) (onTc (τ := Cert.TopRefIdeal.τ) (Cert.TopRefIdeal.main (F := Ideal))) ⟨m', fun _ => 0, g'⟩ (fun r => ∀ c : Dev Cert.TopRefIdeal.nD,
          r.2.mem ((c.tc : Thread Cert.TopRefIdeal.nD Cert.TopRefIdeal.τ).loc Cert.TopRefIdeal.main_v2) = v0 c
          ∧ r.2.mem ((c.tc : Thread Cert.TopRefIdeal.nD Cert.TopRefIdeal.τ).loc Cert.TopRefIdeal.main_v4) = v1 c
          ∧ r.2.mem ((c.tc : Thread Cert.TopRefIdeal.nD Cert.TopRefIdeal.τ).loc Cert.TopRefIdeal.main_v7) = v2 c
          ∧ r.2.mem ((c.tc : Thread Cert.TopRefIdeal.nD Cert.TopRefIdeal.τ).loc Cert.TopRefIdeal.main_arg0) = m' ((c.tc : Thread Cert.TopRefIdeal.nD Cert.TopRefIdeal.τ).loc Cert.TopRefIdeal.main_arg0)
          ∧ r.2.mem ((c.tc : Thread Cert.TopRefIdeal.nD Cert.TopRefIdeal.τ).loc Cert.TopRefIdeal.main_arg1) = m' ((c.tc : Thread Cert.TopRefIdeal.nD Cert.TopRefIdeal.τ).loc Cert.TopRefIdeal.main_arg1)
          ∧ r.2.mem ((c.tc : Thread Cert.TopRefIdeal.nD Cert.TopRefIdeal.τ).loc Cert.TopRefIdeal.main_arg2) = m' ((c.tc : Thread Cert.TopRefIdeal.nD Cert.TopRefIdeal.τ).loc Cert.TopRefIdeal.main_arg2))

def preserves_ResTop_ResTopIdeal : Prop :=
  True

def algebraic_ResTopIdeal_ResTopRefIdeal [hResTopIdeal : Cert.ResTopIdeal.Facts] [hResTopRefIdeal : Cert.ResTopRefIdeal.Facts] : Prop :=
  ∀ (m : (ℓ : Loc Cert.ResTopIdeal.nD Cert.ResTopIdeal.τ Cert.ResTopIdeal.sig) → Buf (Elt Ideal) ℓ) (g : Dev Cert.ResTopIdeal.nD → PrngReg)
    (m' : (ℓ : Loc Cert.ResTopRefIdeal.nD Cert.ResTopRefIdeal.τ Cert.ResTopRefIdeal.sig) → Buf (Elt Ideal) ℓ) (g' : Dev Cert.ResTopRefIdeal.nD → PrngReg), Pre_ResTopIdeal m →
    (∀ c : Dev Cert.ResTopIdeal.nD,
      m' ((c.tc : Thread Cert.ResTopRefIdeal.nD Cert.ResTopRefIdeal.τ).loc Cert.ResTopRefIdeal.main_arg0) = m ((c.tc : Thread Cert.ResTopIdeal.nD Cert.ResTopIdeal.τ).loc Cert.ResTopIdeal.main_arg0)
      ∧ m' ((c.tc : Thread Cert.ResTopRefIdeal.nD Cert.ResTopRefIdeal.τ).loc Cert.ResTopRefIdeal.main_arg1) = m ((c.tc : Thread Cert.ResTopIdeal.nD Cert.ResTopIdeal.τ).loc Cert.ResTopIdeal.main_arg1)
      ∧ m' ((c.tc : Thread Cert.ResTopRefIdeal.nD Cert.ResTopRefIdeal.τ).loc Cert.ResTopRefIdeal.main_arg2) = m ((c.tc : Thread Cert.ResTopIdeal.nD Cert.ResTopIdeal.τ).loc Cert.ResTopIdeal.main_arg2)
      ∧ m' ((c.tc : Thread Cert.ResTopRefIdeal.nD Cert.ResTopRefIdeal.τ).loc Cert.ResTopRefIdeal.main_arg3) = m ((c.tc : Thread Cert.ResTopIdeal.nD Cert.ResTopIdeal.τ).loc Cert.ResTopIdeal.main_arg3)
      ∧ m' ((c.tc : Thread Cert.ResTopRefIdeal.nD Cert.ResTopRefIdeal.τ).loc Cert.ResTopRefIdeal.main_arg4) = m ((c.tc : Thread Cert.ResTopIdeal.nD Cert.ResTopIdeal.τ).loc Cert.ResTopIdeal.main_arg4)
      ∧ m' ((c.tc : Thread Cert.ResTopRefIdeal.nD Cert.ResTopRefIdeal.τ).loc Cert.ResTopRefIdeal.main_arg5) = m ((c.tc : Thread Cert.ResTopIdeal.nD Cert.ResTopIdeal.τ).loc Cert.ResTopIdeal.main_arg5)) →
    ∃ (v0 : (c : Dev Cert.ResTopIdeal.nD) → Buf (Elt Ideal) ((c.tc : Thread Cert.ResTopIdeal.nD Cert.ResTopIdeal.τ).loc Cert.ResTopIdeal.main_v0_0)) (v1 : (c : Dev Cert.ResTopIdeal.nD) → Buf (Elt Ideal) ((c.tc : Thread Cert.ResTopIdeal.nD Cert.ResTopIdeal.τ).loc Cert.ResTopIdeal.main_v0_1)) (v2 : (c : Dev Cert.ResTopIdeal.nD) → Buf (Elt Ideal) ((c.tc : Thread Cert.ResTopIdeal.nD Cert.ResTopIdeal.τ).loc Cert.ResTopIdeal.main_v0_2)) (v3 : (c : Dev Cert.ResTopIdeal.nD) → Buf (Elt Ideal) ((c.tc : Thread Cert.ResTopIdeal.nD Cert.ResTopIdeal.τ).loc Cert.ResTopIdeal.main_v0_3)),
      θ_run (Cert.ResTopIdeal.defs (F := Ideal)) (onTc (τ := Cert.ResTopIdeal.τ) (Cert.ResTopIdeal.main (F := Ideal))) ⟨m, fun _ => 0, g⟩ (fun r => ∀ c : Dev Cert.ResTopIdeal.nD,
          r.2.mem ((c.tc : Thread Cert.ResTopIdeal.nD Cert.ResTopIdeal.τ).loc Cert.ResTopIdeal.main_v0_0) = v0 c
          ∧ r.2.mem ((c.tc : Thread Cert.ResTopIdeal.nD Cert.ResTopIdeal.τ).loc Cert.ResTopIdeal.main_v0_1) = v1 c
          ∧ r.2.mem ((c.tc : Thread Cert.ResTopIdeal.nD Cert.ResTopIdeal.τ).loc Cert.ResTopIdeal.main_v0_2) = v2 c
          ∧ r.2.mem ((c.tc : Thread Cert.ResTopIdeal.nD Cert.ResTopIdeal.τ).loc Cert.ResTopIdeal.main_v0_3) = v3 c
          ∧ r.2.mem ((c.tc : Thread Cert.ResTopIdeal.nD Cert.ResTopIdeal.τ).loc Cert.ResTopIdeal.main_arg0) = m ((c.tc : Thread Cert.ResTopIdeal.nD Cert.ResTopIdeal.τ).loc Cert.ResTopIdeal.main_arg0)
          ∧ r.2.mem ((c.tc : Thread Cert.ResTopIdeal.nD Cert.ResTopIdeal.τ).loc Cert.ResTopIdeal.main_arg1) = m ((c.tc : Thread Cert.ResTopIdeal.nD Cert.ResTopIdeal.τ).loc Cert.ResTopIdeal.main_arg1)
          ∧ r.2.mem ((c.tc : Thread Cert.ResTopIdeal.nD Cert.ResTopIdeal.τ).loc Cert.ResTopIdeal.main_arg2) = m ((c.tc : Thread Cert.ResTopIdeal.nD Cert.ResTopIdeal.τ).loc Cert.ResTopIdeal.main_arg2)
          ∧ r.2.mem ((c.tc : Thread Cert.ResTopIdeal.nD Cert.ResTopIdeal.τ).loc Cert.ResTopIdeal.main_arg3) = m ((c.tc : Thread Cert.ResTopIdeal.nD Cert.ResTopIdeal.τ).loc Cert.ResTopIdeal.main_arg3)
          ∧ r.2.mem ((c.tc : Thread Cert.ResTopIdeal.nD Cert.ResTopIdeal.τ).loc Cert.ResTopIdeal.main_arg4) = m ((c.tc : Thread Cert.ResTopIdeal.nD Cert.ResTopIdeal.τ).loc Cert.ResTopIdeal.main_arg4)
          ∧ r.2.mem ((c.tc : Thread Cert.ResTopIdeal.nD Cert.ResTopIdeal.τ).loc Cert.ResTopIdeal.main_arg5) = m ((c.tc : Thread Cert.ResTopIdeal.nD Cert.ResTopIdeal.τ).loc Cert.ResTopIdeal.main_arg5))
      ∧ θ_run (Cert.ResTopRefIdeal.defs (F := Ideal)) (onTc (τ := Cert.ResTopRefIdeal.τ) (Cert.ResTopRefIdeal.main (F := Ideal))) ⟨m', fun _ => 0, g'⟩ (fun r => ∀ c : Dev Cert.ResTopRefIdeal.nD,
          r.2.mem ((c.tc : Thread Cert.ResTopRefIdeal.nD Cert.ResTopRefIdeal.τ).loc Cert.ResTopRefIdeal.main_v17) = v0 c
          ∧ r.2.mem ((c.tc : Thread Cert.ResTopRefIdeal.nD Cert.ResTopRefIdeal.τ).loc Cert.ResTopRefIdeal.main_v20) = v1 c
          ∧ r.2.mem ((c.tc : Thread Cert.ResTopRefIdeal.nD Cert.ResTopRefIdeal.τ).loc Cert.ResTopRefIdeal.main_v22) = v2 c
          ∧ r.2.mem ((c.tc : Thread Cert.ResTopRefIdeal.nD Cert.ResTopRefIdeal.τ).loc Cert.ResTopRefIdeal.main_v25) = v3 c
          ∧ r.2.mem ((c.tc : Thread Cert.ResTopRefIdeal.nD Cert.ResTopRefIdeal.τ).loc Cert.ResTopRefIdeal.main_arg0) = m' ((c.tc : Thread Cert.ResTopRefIdeal.nD Cert.ResTopRefIdeal.τ).loc Cert.ResTopRefIdeal.main_arg0)
          ∧ r.2.mem ((c.tc : Thread Cert.ResTopRefIdeal.nD Cert.ResTopRefIdeal.τ).loc Cert.ResTopRefIdeal.main_arg1) = m' ((c.tc : Thread Cert.ResTopRefIdeal.nD Cert.ResTopRefIdeal.τ).loc Cert.ResTopRefIdeal.main_arg1)
          ∧ r.2.mem ((c.tc : Thread Cert.ResTopRefIdeal.nD Cert.ResTopRefIdeal.τ).loc Cert.ResTopRefIdeal.main_arg2) = m' ((c.tc : Thread Cert.ResTopRefIdeal.nD Cert.ResTopRefIdeal.τ).loc Cert.ResTopRefIdeal.main_arg2)
          ∧ r.2.mem ((c.tc : Thread Cert.ResTopRefIdeal.nD Cert.ResTopRefIdeal.τ).loc Cert.ResTopRefIdeal.main_arg3) = m' ((c.tc : Thread Cert.ResTopRefIdeal.nD Cert.ResTopRefIdeal.τ).loc Cert.ResTopRefIdeal.main_arg3)
          ∧ r.2.mem ((c.tc : Thread Cert.ResTopRefIdeal.nD Cert.ResTopRefIdeal.τ).loc Cert.ResTopRefIdeal.main_arg4) = m' ((c.tc : Thread Cert.ResTopRefIdeal.nD Cert.ResTopRefIdeal.τ).loc Cert.ResTopRefIdeal.main_arg4)
          ∧ r.2.mem ((c.tc : Thread Cert.ResTopRefIdeal.nD Cert.ResTopRefIdeal.τ).loc Cert.ResTopRefIdeal.main_arg5) = m' ((c.tc : Thread Cert.ResTopRefIdeal.nD Cert.ResTopRefIdeal.τ).loc Cert.ResTopRefIdeal.main_arg5))

def preserves_Residual_ResidualIdeal : Prop :=
  True

def algebraic_ResidualIdeal_ResidualRefIdeal [hResidualIdeal : Cert.ResidualIdeal.Facts] [hResidualRefIdeal : Cert.ResidualRefIdeal.Facts] : Prop :=
  ∀ (m : (ℓ : Loc Cert.ResidualIdeal.nD Cert.ResidualIdeal.τ Cert.ResidualIdeal.sig) → Buf (Elt Ideal) ℓ) (g : Dev Cert.ResidualIdeal.nD → PrngReg)
    (m' : (ℓ : Loc Cert.ResidualRefIdeal.nD Cert.ResidualRefIdeal.τ Cert.ResidualRefIdeal.sig) → Buf (Elt Ideal) ℓ) (g' : Dev Cert.ResidualRefIdeal.nD → PrngReg), Pre_ResidualIdeal m →
    (∀ c : Dev Cert.ResidualIdeal.nD,
      m' ((c.tc : Thread Cert.ResidualRefIdeal.nD Cert.ResidualRefIdeal.τ).loc Cert.ResidualRefIdeal.main_arg0) = m ((c.tc : Thread Cert.ResidualIdeal.nD Cert.ResidualIdeal.τ).loc Cert.ResidualIdeal.main_arg0)
      ∧ m' ((c.tc : Thread Cert.ResidualRefIdeal.nD Cert.ResidualRefIdeal.τ).loc Cert.ResidualRefIdeal.main_arg1) = m ((c.tc : Thread Cert.ResidualIdeal.nD Cert.ResidualIdeal.τ).loc Cert.ResidualIdeal.main_arg1)
      ∧ m' ((c.tc : Thread Cert.ResidualRefIdeal.nD Cert.ResidualRefIdeal.τ).loc Cert.ResidualRefIdeal.main_arg2) = m ((c.tc : Thread Cert.ResidualIdeal.nD Cert.ResidualIdeal.τ).loc Cert.ResidualIdeal.main_arg2)
      ∧ m' ((c.tc : Thread Cert.ResidualRefIdeal.nD Cert.ResidualRefIdeal.τ).loc Cert.ResidualRefIdeal.main_arg3) = m ((c.tc : Thread Cert.ResidualIdeal.nD Cert.ResidualIdeal.τ).loc Cert.ResidualIdeal.main_arg3)) →
    ∃ (v0 : (c : Dev Cert.ResidualIdeal.nD) → Buf (Elt Ideal) ((c.tc : Thread Cert.ResidualIdeal.nD Cert.ResidualIdeal.τ).loc Cert.ResidualIdeal.main_v0)),
      θ_run (Cert.ResidualIdeal.defs (F := Ideal)) (onTc (τ := Cert.ResidualIdeal.τ) (Cert.ResidualIdeal.main (F := Ideal))) ⟨m, fun _ => 0, g⟩ (fun r => ∀ c : Dev Cert.ResidualIdeal.nD,
          r.2.mem ((c.tc : Thread Cert.ResidualIdeal.nD Cert.ResidualIdeal.τ).loc Cert.ResidualIdeal.main_v0) = v0 c
          ∧ r.2.mem ((c.tc : Thread Cert.ResidualIdeal.nD Cert.ResidualIdeal.τ).loc Cert.ResidualIdeal.main_arg0) = m ((c.tc : Thread Cert.ResidualIdeal.nD Cert.ResidualIdeal.τ).loc Cert.ResidualIdeal.main_arg0)
          ∧ r.2.mem ((c.tc : Thread Cert.ResidualIdeal.nD Cert.ResidualIdeal.τ).loc Cert.ResidualIdeal.main_arg1) = m ((c.tc : Thread Cert.ResidualIdeal.nD Cert.ResidualIdeal.τ).loc Cert.ResidualIdeal.main_arg1)
          ∧ r.2.mem ((c.tc : Thread Cert.ResidualIdeal.nD Cert.ResidualIdeal.τ).loc Cert.ResidualIdeal.main_arg2) = m ((c.tc : Thread Cert.ResidualIdeal.nD Cert.ResidualIdeal.τ).loc Cert.ResidualIdeal.main_arg2)
          ∧ r.2.mem ((c.tc : Thread Cert.ResidualIdeal.nD Cert.ResidualIdeal.τ).loc Cert.ResidualIdeal.main_arg3) = m ((c.tc : Thread Cert.ResidualIdeal.nD Cert.ResidualIdeal.τ).loc Cert.ResidualIdeal.main_arg3))
      ∧ θ_run (Cert.ResidualRefIdeal.defs (F := Ideal)) (onTc (τ := Cert.ResidualRefIdeal.τ) (Cert.ResidualRefIdeal.main (F := Ideal))) ⟨m', fun _ => 0, g'⟩ (fun r => ∀ c : Dev Cert.ResidualRefIdeal.nD,
          r.2.mem ((c.tc : Thread Cert.ResidualRefIdeal.nD Cert.ResidualRefIdeal.τ).loc Cert.ResidualRefIdeal.main_v17) = v0 c
          ∧ r.2.mem ((c.tc : Thread Cert.ResidualRefIdeal.nD Cert.ResidualRefIdeal.τ).loc Cert.ResidualRefIdeal.main_arg0) = m' ((c.tc : Thread Cert.ResidualRefIdeal.nD Cert.ResidualRefIdeal.τ).loc Cert.ResidualRefIdeal.main_arg0)
          ∧ r.2.mem ((c.tc : Thread Cert.ResidualRefIdeal.nD Cert.ResidualRefIdeal.τ).loc Cert.ResidualRefIdeal.main_arg1) = m' ((c.tc : Thread Cert.ResidualRefIdeal.nD Cert.ResidualRefIdeal.τ).loc Cert.ResidualRefIdeal.main_arg1)
          ∧ r.2.mem ((c.tc : Thread Cert.ResidualRefIdeal.nD Cert.ResidualRefIdeal.τ).loc Cert.ResidualRefIdeal.main_arg2) = m' ((c.tc : Thread Cert.ResidualRefIdeal.nD Cert.ResidualRefIdeal.τ).loc Cert.ResidualRefIdeal.main_arg2)
          ∧ r.2.mem ((c.tc : Thread Cert.ResidualRefIdeal.nD Cert.ResidualRefIdeal.τ).loc Cert.ResidualRefIdeal.main_arg3) = m' ((c.tc : Thread Cert.ResidualRefIdeal.nD Cert.ResidualRefIdeal.τ).loc Cert.ResidualRefIdeal.main_arg3))

def preserves_Project_ProjectIdeal : Prop :=
  True

def algebraic_ProjectIdeal_ProjectRefIdeal [hProjectIdeal : Cert.ProjectIdeal.Facts] [hProjectRefIdeal : Cert.ProjectRefIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectRefIdeal.nD Cert.ProjectRefIdeal.τ Cert.ProjectRefIdeal.sig) → Buf (Elt Ideal) ℓ) (g' : Dev Cert.ProjectRefIdeal.nD → PrngReg), Pre_ProjectIdeal m →
    (∀ c : Dev Cert.ProjectIdeal.nD,
      m' ((c.tc : Thread Cert.ProjectRefIdeal.nD Cert.ProjectRefIdeal.τ).loc Cert.ProjectRefIdeal.main_arg0) = m ((c.tc : Thread Cert.ProjectIdeal.nD Cert.ProjectIdeal.τ).loc Cert.ProjectIdeal.main_arg0)
      ∧ m' ((c.tc : Thread Cert.ProjectRefIdeal.nD Cert.ProjectRefIdeal.τ).loc Cert.ProjectRefIdeal.main_arg1) = m ((c.tc : Thread Cert.ProjectIdeal.nD Cert.ProjectIdeal.τ).loc Cert.ProjectIdeal.main_arg1)
      ∧ m' ((c.tc : Thread Cert.ProjectRefIdeal.nD Cert.ProjectRefIdeal.τ).loc Cert.ProjectRefIdeal.main_arg2) = m ((c.tc : Thread Cert.ProjectIdeal.nD Cert.ProjectIdeal.τ).loc Cert.ProjectIdeal.main_arg2)
      ∧ m' ((c.tc : Thread Cert.ProjectRefIdeal.nD Cert.ProjectRefIdeal.τ).loc Cert.ProjectRefIdeal.main_arg3) = m ((c.tc : Thread Cert.ProjectIdeal.nD Cert.ProjectIdeal.τ).loc Cert.ProjectIdeal.main_arg3)
      ∧ m' ((c.tc : Thread Cert.ProjectRefIdeal.nD Cert.ProjectRefIdeal.τ).loc Cert.ProjectRefIdeal.main_arg4) = m ((c.tc : Thread Cert.ProjectIdeal.nD Cert.ProjectIdeal.τ).loc Cert.ProjectIdeal.main_arg4)
      ∧ m' ((c.tc : Thread Cert.ProjectRefIdeal.nD Cert.ProjectRefIdeal.τ).loc Cert.ProjectRefIdeal.main_arg5) = m ((c.tc : Thread Cert.ProjectIdeal.nD Cert.ProjectIdeal.τ).loc Cert.ProjectIdeal.main_arg5)
      ∧ m' ((c.tc : Thread Cert.ProjectRefIdeal.nD Cert.ProjectRefIdeal.τ).loc Cert.ProjectRefIdeal.main_arg6) = m ((c.tc : Thread Cert.ProjectIdeal.nD Cert.ProjectIdeal.τ).loc Cert.ProjectIdeal.main_arg6)
      ∧ m' ((c.tc : Thread Cert.ProjectRefIdeal.nD Cert.ProjectRefIdeal.τ).loc Cert.ProjectRefIdeal.main_arg7) = m ((c.tc : Thread Cert.ProjectIdeal.nD Cert.ProjectIdeal.τ).loc Cert.ProjectIdeal.main_arg7)) →
    ∃ (v0 : (c : Dev Cert.ProjectIdeal.nD) → Buf (Elt Ideal) ((c.tc : Thread Cert.ProjectIdeal.nD Cert.ProjectIdeal.τ).loc Cert.ProjectIdeal.main_v0_0)) (v1 : (c : Dev Cert.ProjectIdeal.nD) → Buf (Elt Ideal) ((c.tc : Thread Cert.ProjectIdeal.nD Cert.ProjectIdeal.τ).loc Cert.ProjectIdeal.main_v0_1)) (v2 : (c : Dev Cert.ProjectIdeal.nD) → Buf (Elt Ideal) ((c.tc : Thread Cert.ProjectIdeal.nD Cert.ProjectIdeal.τ).loc Cert.ProjectIdeal.main_v0_2)) (v3 : (c : Dev Cert.ProjectIdeal.nD) → Buf (Elt Ideal) ((c.tc : Thread Cert.ProjectIdeal.nD Cert.ProjectIdeal.τ).loc Cert.ProjectIdeal.main_v0_3)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v0_0) = v0 c
          ∧ r.2.mem ((c.tc : Thread Cert.ProjectIdeal.nD Cert.ProjectIdeal.τ).loc Cert.ProjectIdeal.main_v0_1) = v1 c
          ∧ r.2.mem ((c.tc : Thread Cert.ProjectIdeal.nD Cert.ProjectIdeal.τ).loc Cert.ProjectIdeal.main_v0_2) = v2 c
          ∧ r.2.mem ((c.tc : Thread Cert.ProjectIdeal.nD Cert.ProjectIdeal.τ).loc Cert.ProjectIdeal.main_v0_3) = v3 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
          ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
          ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
          ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5)
          ∧ r.2.mem ((c.tc : Thread Cert.ProjectIdeal.nD Cert.ProjectIdeal.τ).loc Cert.ProjectIdeal.main_arg6) = m ((c.tc : Thread Cert.ProjectIdeal.nD Cert.ProjectIdeal.τ).loc Cert.ProjectIdeal.main_arg6)
          ∧ r.2.mem ((c.tc : Thread Cert.ProjectIdeal.nD Cert.ProjectIdeal.τ).loc Cert.ProjectIdeal.main_arg7) = m ((c.tc : Thread Cert.ProjectIdeal.nD Cert.ProjectIdeal.τ).loc Cert.ProjectIdeal.main_arg7))
      ∧ θ_run (Cert.ProjectRefIdeal.defs (F := Ideal)) (onTc (τ := Cert.ProjectRefIdeal.τ) (Cert.ProjectRefIdeal.main (F := Ideal))) ⟨m', fun _ => 0, g'⟩ (fun r => ∀ c : Dev Cert.ProjectRefIdeal.nD,
          r.2.mem ((c.tc : Thread Cert.ProjectRefIdeal.nD Cert.ProjectRefIdeal.τ).loc Cert.ProjectRefIdeal.main_v17) = v0 c
          ∧ r.2.mem ((c.tc : Thread Cert.ProjectRefIdeal.nD Cert.ProjectRefIdeal.τ).loc Cert.ProjectRefIdeal.main_v18) = v1 c
          ∧ r.2.mem ((c.tc : Thread Cert.ProjectRefIdeal.nD Cert.ProjectRefIdeal.τ).loc Cert.ProjectRefIdeal.main_v19) = v2 c
          ∧ r.2.mem ((c.tc : Thread Cert.ProjectRefIdeal.nD Cert.ProjectRefIdeal.τ).loc Cert.ProjectRefIdeal.main_v22) = v3 c
          ∧ r.2.mem ((c.tc : Thread Cert.ProjectRefIdeal.nD Cert.ProjectRefIdeal.τ).loc Cert.ProjectRefIdeal.main_arg0) = m' ((c.tc : Thread Cert.ProjectRefIdeal.nD Cert.ProjectRefIdeal.τ).loc Cert.ProjectRefIdeal.main_arg0)
          ∧ r.2.mem ((c.tc : Thread Cert.ProjectRefIdeal.nD Cert.ProjectRefIdeal.τ).loc Cert.ProjectRefIdeal.main_arg1) = m' ((c.tc : Thread Cert.ProjectRefIdeal.nD Cert.ProjectRefIdeal.τ).loc Cert.ProjectRefIdeal.main_arg1)
          ∧ r.2.mem ((c.tc : Thread Cert.ProjectRefIdeal.nD Cert.ProjectRefIdeal.τ).loc Cert.ProjectRefIdeal.main_arg2) = m' ((c.tc : Thread Cert.ProjectRefIdeal.nD Cert.ProjectRefIdeal.τ).loc Cert.ProjectRefIdeal.main_arg2)
          ∧ r.2.mem ((c.tc : Thread Cert.ProjectRefIdeal.nD Cert.ProjectRefIdeal.τ).loc Cert.ProjectRefIdeal.main_arg3) = m' ((c.tc : Thread Cert.ProjectRefIdeal.nD Cert.ProjectRefIdeal.τ).loc Cert.ProjectRefIdeal.main_arg3)
          ∧ r.2.mem ((c.tc : Thread Cert.ProjectRefIdeal.nD Cert.ProjectRefIdeal.τ).loc Cert.ProjectRefIdeal.main_arg4) = m' ((c.tc : Thread Cert.ProjectRefIdeal.nD Cert.ProjectRefIdeal.τ).loc Cert.ProjectRefIdeal.main_arg4)
          ∧ r.2.mem ((c.tc : Thread Cert.ProjectRefIdeal.nD Cert.ProjectRefIdeal.τ).loc Cert.ProjectRefIdeal.main_arg5) = m' ((c.tc : Thread Cert.ProjectRefIdeal.nD Cert.ProjectRefIdeal.τ).loc Cert.ProjectRefIdeal.main_arg5)
          ∧ r.2.mem ((c.tc : Thread Cert.ProjectRefIdeal.nD Cert.ProjectRefIdeal.τ).loc Cert.ProjectRefIdeal.main_arg6) = m' ((c.tc : Thread Cert.ProjectRefIdeal.nD Cert.ProjectRefIdeal.τ).loc Cert.ProjectRefIdeal.main_arg6)
          ∧ r.2.mem ((c.tc : Thread Cert.ProjectRefIdeal.nD Cert.ProjectRefIdeal.τ).loc Cert.ProjectRefIdeal.main_arg7) = m' ((c.tc : Thread Cert.ProjectRefIdeal.nD Cert.ProjectRefIdeal.τ).loc Cert.ProjectRefIdeal.main_arg7))

def preserves_PosSums_PosSumsIdeal : Prop :=
  True

def algebraic_PosSumsIdeal_PosSumsRefIdeal [hPosSumsIdeal : Cert.PosSumsIdeal.Facts] [hPosSumsRefIdeal : Cert.PosSumsRefIdeal.Facts] : Prop :=
  ∀ (m : (ℓ : Loc Cert.PosSumsIdeal.nD Cert.PosSumsIdeal.τ Cert.PosSumsIdeal.sig) → Buf (Elt Ideal) ℓ) (g : Dev Cert.PosSumsIdeal.nD → PrngReg)
    (m' : (ℓ : Loc Cert.PosSumsRefIdeal.nD Cert.PosSumsRefIdeal.τ Cert.PosSumsRefIdeal.sig) → Buf (Elt Ideal) ℓ) (g' : Dev Cert.PosSumsRefIdeal.nD → PrngReg), Pre_PosSumsIdeal m →
    (∀ c : Dev Cert.PosSumsIdeal.nD,
      m' ((c.tc : Thread Cert.PosSumsRefIdeal.nD Cert.PosSumsRefIdeal.τ).loc Cert.PosSumsRefIdeal.main_arg0) = m ((c.tc : Thread Cert.PosSumsIdeal.nD Cert.PosSumsIdeal.τ).loc Cert.PosSumsIdeal.main_arg0)
      ∧ m' ((c.tc : Thread Cert.PosSumsRefIdeal.nD Cert.PosSumsRefIdeal.τ).loc Cert.PosSumsRefIdeal.main_arg1) = m ((c.tc : Thread Cert.PosSumsIdeal.nD Cert.PosSumsIdeal.τ).loc Cert.PosSumsIdeal.main_arg1)) →
    ∃ (v0 : (c : Dev Cert.PosSumsIdeal.nD) → Buf (Elt Ideal) ((c.tc : Thread Cert.PosSumsIdeal.nD Cert.PosSumsIdeal.τ).loc Cert.PosSumsIdeal.main_v0_0)) (v1 : (c : Dev Cert.PosSumsIdeal.nD) → Buf (Elt Ideal) ((c.tc : Thread Cert.PosSumsIdeal.nD Cert.PosSumsIdeal.τ).loc Cert.PosSumsIdeal.main_v0_1)),
      θ_run (Cert.PosSumsIdeal.defs (F := Ideal)) (onTc (τ := Cert.PosSumsIdeal.τ) (Cert.PosSumsIdeal.main (F := Ideal))) ⟨m, fun _ => 0, g⟩ (fun r => ∀ c : Dev Cert.PosSumsIdeal.nD,
          r.2.mem ((c.tc : Thread Cert.PosSumsIdeal.nD Cert.PosSumsIdeal.τ).loc Cert.PosSumsIdeal.main_v0_0) = v0 c
          ∧ r.2.mem ((c.tc : Thread Cert.PosSumsIdeal.nD Cert.PosSumsIdeal.τ).loc Cert.PosSumsIdeal.main_v0_1) = v1 c
          ∧ r.2.mem ((c.tc : Thread Cert.PosSumsIdeal.nD Cert.PosSumsIdeal.τ).loc Cert.PosSumsIdeal.main_arg0) = m ((c.tc : Thread Cert.PosSumsIdeal.nD Cert.PosSumsIdeal.τ).loc Cert.PosSumsIdeal.main_arg0)
          ∧ r.2.mem ((c.tc : Thread Cert.PosSumsIdeal.nD Cert.PosSumsIdeal.τ).loc Cert.PosSumsIdeal.main_arg1) = m ((c.tc : Thread Cert.PosSumsIdeal.nD Cert.PosSumsIdeal.τ).loc Cert.PosSumsIdeal.main_arg1))
      ∧ θ_run (Cert.PosSumsRefIdeal.defs (F := Ideal)) (onTc (τ := Cert.PosSumsRefIdeal.τ) (Cert.PosSumsRefIdeal.main (F := Ideal))) ⟨m', fun _ => 0, g'⟩ (fun r => ∀ c : Dev Cert.PosSumsRefIdeal.nD,
          r.2.mem ((c.tc : Thread Cert.PosSumsRefIdeal.nD Cert.PosSumsRefIdeal.τ).loc Cert.PosSumsRefIdeal.main_v4) = v0 c
          ∧ r.2.mem ((c.tc : Thread Cert.PosSumsRefIdeal.nD Cert.PosSumsRefIdeal.τ).loc Cert.PosSumsRefIdeal.main_v7) = v1 c
          ∧ r.2.mem ((c.tc : Thread Cert.PosSumsRefIdeal.nD Cert.PosSumsRefIdeal.τ).loc Cert.PosSumsRefIdeal.main_arg0) = m' ((c.tc : Thread Cert.PosSumsRefIdeal.nD Cert.PosSumsRefIdeal.τ).loc Cert.PosSumsRefIdeal.main_arg0)
          ∧ r.2.mem ((c.tc : Thread Cert.PosSumsRefIdeal.nD Cert.PosSumsRefIdeal.τ).loc Cert.PosSumsRefIdeal.main_arg1) = m' ((c.tc : Thread Cert.PosSumsRefIdeal.nD Cert.PosSumsRefIdeal.τ).loc Cert.PosSumsRefIdeal.main_arg1))

def preserves_Pos_PosIdeal : Prop :=
  True

def algebraic_PosIdeal_PosRefIdeal [hPosIdeal : Cert.PosIdeal.Facts] [hPosRefIdeal : Cert.PosRefIdeal.Facts] : Prop :=
  ∀ (m : (ℓ : Loc Cert.PosIdeal.nD Cert.PosIdeal.τ Cert.PosIdeal.sig) → Buf (Elt Ideal) ℓ) (g : Dev Cert.PosIdeal.nD → PrngReg)
    (m' : (ℓ : Loc Cert.PosRefIdeal.nD Cert.PosRefIdeal.τ Cert.PosRefIdeal.sig) → Buf (Elt Ideal) ℓ) (g' : Dev Cert.PosRefIdeal.nD → PrngReg), Pre_PosIdeal m →
    (∀ c : Dev Cert.PosIdeal.nD,
      m' ((c.tc : Thread Cert.PosRefIdeal.nD Cert.PosRefIdeal.τ).loc Cert.PosRefIdeal.main_arg0) = m ((c.tc : Thread Cert.PosIdeal.nD Cert.PosIdeal.τ).loc Cert.PosIdeal.main_arg0)
      ∧ m' ((c.tc : Thread Cert.PosRefIdeal.nD Cert.PosRefIdeal.τ).loc Cert.PosRefIdeal.main_arg1) = m ((c.tc : Thread Cert.PosIdeal.nD Cert.PosIdeal.τ).loc Cert.PosIdeal.main_arg1)
      ∧ m' ((c.tc : Thread Cert.PosRefIdeal.nD Cert.PosRefIdeal.τ).loc Cert.PosRefIdeal.main_arg2) = m ((c.tc : Thread Cert.PosIdeal.nD Cert.PosIdeal.τ).loc Cert.PosIdeal.main_arg2)
      ∧ m' ((c.tc : Thread Cert.PosRefIdeal.nD Cert.PosRefIdeal.τ).loc Cert.PosRefIdeal.main_arg3) = m ((c.tc : Thread Cert.PosIdeal.nD Cert.PosIdeal.τ).loc Cert.PosIdeal.main_arg3)
      ∧ m' ((c.tc : Thread Cert.PosRefIdeal.nD Cert.PosRefIdeal.τ).loc Cert.PosRefIdeal.main_arg4) = m ((c.tc : Thread Cert.PosIdeal.nD Cert.PosIdeal.τ).loc Cert.PosIdeal.main_arg4)) →
    ∃ (v0 : (c : Dev Cert.PosIdeal.nD) → Buf (Elt Ideal) ((c.tc : Thread Cert.PosIdeal.nD Cert.PosIdeal.τ).loc Cert.PosIdeal.main_v0_0)) (v1 : (c : Dev Cert.PosIdeal.nD) → Buf (Elt Ideal) ((c.tc : Thread Cert.PosIdeal.nD Cert.PosIdeal.τ).loc Cert.PosIdeal.main_v0_1)) (v2 : (c : Dev Cert.PosIdeal.nD) → Buf (Elt Ideal) ((c.tc : Thread Cert.PosIdeal.nD Cert.PosIdeal.τ).loc Cert.PosIdeal.main_v0_2)),
      θ_run (Cert.PosIdeal.defs (F := Ideal)) (onTc (τ := Cert.PosIdeal.τ) (Cert.PosIdeal.main (F := Ideal))) ⟨m, fun _ => 0, g⟩ (fun r => ∀ c : Dev Cert.PosIdeal.nD,
          r.2.mem ((c.tc : Thread Cert.PosIdeal.nD Cert.PosIdeal.τ).loc Cert.PosIdeal.main_v0_0) = v0 c
          ∧ r.2.mem ((c.tc : Thread Cert.PosIdeal.nD Cert.PosIdeal.τ).loc Cert.PosIdeal.main_v0_1) = v1 c
          ∧ r.2.mem ((c.tc : Thread Cert.PosIdeal.nD Cert.PosIdeal.τ).loc Cert.PosIdeal.main_v0_2) = v2 c
          ∧ r.2.mem ((c.tc : Thread Cert.PosIdeal.nD Cert.PosIdeal.τ).loc Cert.PosIdeal.main_arg0) = m ((c.tc : Thread Cert.PosIdeal.nD Cert.PosIdeal.τ).loc Cert.PosIdeal.main_arg0)
          ∧ r.2.mem ((c.tc : Thread Cert.PosIdeal.nD Cert.PosIdeal.τ).loc Cert.PosIdeal.main_arg1) = m ((c.tc : Thread Cert.PosIdeal.nD Cert.PosIdeal.τ).loc Cert.PosIdeal.main_arg1)
          ∧ r.2.mem ((c.tc : Thread Cert.PosIdeal.nD Cert.PosIdeal.τ).loc Cert.PosIdeal.main_arg2) = m ((c.tc : Thread Cert.PosIdeal.nD Cert.PosIdeal.τ).loc Cert.PosIdeal.main_arg2)
          ∧ r.2.mem ((c.tc : Thread Cert.PosIdeal.nD Cert.PosIdeal.τ).loc Cert.PosIdeal.main_arg3) = m ((c.tc : Thread Cert.PosIdeal.nD Cert.PosIdeal.τ).loc Cert.PosIdeal.main_arg3)
          ∧ r.2.mem ((c.tc : Thread Cert.PosIdeal.nD Cert.PosIdeal.τ).loc Cert.PosIdeal.main_arg4) = m ((c.tc : Thread Cert.PosIdeal.nD Cert.PosIdeal.τ).loc Cert.PosIdeal.main_arg4))
      ∧ θ_run (Cert.PosRefIdeal.defs (F := Ideal)) (onTc (τ := Cert.PosRefIdeal.τ) (Cert.PosRefIdeal.main (F := Ideal))) ⟨m', fun _ => 0, g'⟩ (fun r => ∀ c : Dev Cert.PosRefIdeal.nD,
          r.2.mem ((c.tc : Thread Cert.PosRefIdeal.nD Cert.PosRefIdeal.τ).loc Cert.PosRefIdeal.main_v21) = v0 c
          ∧ r.2.mem ((c.tc : Thread Cert.PosRefIdeal.nD Cert.PosRefIdeal.τ).loc Cert.PosRefIdeal.main_v23) = v1 c
          ∧ r.2.mem ((c.tc : Thread Cert.PosRefIdeal.nD Cert.PosRefIdeal.τ).loc Cert.PosRefIdeal.main_v26) = v2 c
          ∧ r.2.mem ((c.tc : Thread Cert.PosRefIdeal.nD Cert.PosRefIdeal.τ).loc Cert.PosRefIdeal.main_arg0) = m' ((c.tc : Thread Cert.PosRefIdeal.nD Cert.PosRefIdeal.τ).loc Cert.PosRefIdeal.main_arg0)
          ∧ r.2.mem ((c.tc : Thread Cert.PosRefIdeal.nD Cert.PosRefIdeal.τ).loc Cert.PosRefIdeal.main_arg1) = m' ((c.tc : Thread Cert.PosRefIdeal.nD Cert.PosRefIdeal.τ).loc Cert.PosRefIdeal.main_arg1)
          ∧ r.2.mem ((c.tc : Thread Cert.PosRefIdeal.nD Cert.PosRefIdeal.τ).loc Cert.PosRefIdeal.main_arg2) = m' ((c.tc : Thread Cert.PosRefIdeal.nD Cert.PosRefIdeal.τ).loc Cert.PosRefIdeal.main_arg2)
          ∧ r.2.mem ((c.tc : Thread Cert.PosRefIdeal.nD Cert.PosRefIdeal.τ).loc Cert.PosRefIdeal.main_arg3) = m' ((c.tc : Thread Cert.PosRefIdeal.nD Cert.PosRefIdeal.τ).loc Cert.PosRefIdeal.main_arg3)
          ∧ r.2.mem ((c.tc : Thread Cert.PosRefIdeal.nD Cert.PosRefIdeal.τ).loc Cert.PosRefIdeal.main_arg4) = m' ((c.tc : Thread Cert.PosRefIdeal.nD Cert.PosRefIdeal.τ).loc Cert.PosRefIdeal.main_arg4))

def preserves_AttnIn_AttnInIdeal : Prop :=
  True

def algebraic_AttnInIdeal_AttnInRefIdeal [hAttnInIdeal : Cert.AttnInIdeal.Facts] [hAttnInRefIdeal : Cert.AttnInRefIdeal.Facts] : Prop :=
  ∀ (m : (ℓ : Loc Cert.AttnInIdeal.nD Cert.AttnInIdeal.τ Cert.AttnInIdeal.sig) → Buf (Elt Ideal) ℓ) (g : Dev Cert.AttnInIdeal.nD → PrngReg)
    (m' : (ℓ : Loc Cert.AttnInRefIdeal.nD Cert.AttnInRefIdeal.τ Cert.AttnInRefIdeal.sig) → Buf (Elt Ideal) ℓ) (g' : Dev Cert.AttnInRefIdeal.nD → PrngReg), Pre_AttnInIdeal m →
    (∀ c : Dev Cert.AttnInIdeal.nD,
      m' ((c.tc : Thread Cert.AttnInRefIdeal.nD Cert.AttnInRefIdeal.τ).loc Cert.AttnInRefIdeal.main_arg0) = m ((c.tc : Thread Cert.AttnInIdeal.nD Cert.AttnInIdeal.τ).loc Cert.AttnInIdeal.main_arg0)
      ∧ m' ((c.tc : Thread Cert.AttnInRefIdeal.nD Cert.AttnInRefIdeal.τ).loc Cert.AttnInRefIdeal.main_arg1) = m ((c.tc : Thread Cert.AttnInIdeal.nD Cert.AttnInIdeal.τ).loc Cert.AttnInIdeal.main_arg1)
      ∧ m' ((c.tc : Thread Cert.AttnInRefIdeal.nD Cert.AttnInRefIdeal.τ).loc Cert.AttnInRefIdeal.main_arg2) = m ((c.tc : Thread Cert.AttnInIdeal.nD Cert.AttnInIdeal.τ).loc Cert.AttnInIdeal.main_arg2)
      ∧ m' ((c.tc : Thread Cert.AttnInRefIdeal.nD Cert.AttnInRefIdeal.τ).loc Cert.AttnInRefIdeal.main_arg3) = m ((c.tc : Thread Cert.AttnInIdeal.nD Cert.AttnInIdeal.τ).loc Cert.AttnInIdeal.main_arg3)
      ∧ m' ((c.tc : Thread Cert.AttnInRefIdeal.nD Cert.AttnInRefIdeal.τ).loc Cert.AttnInRefIdeal.main_arg4) = m ((c.tc : Thread Cert.AttnInIdeal.nD Cert.AttnInIdeal.τ).loc Cert.AttnInIdeal.main_arg4)
      ∧ m' ((c.tc : Thread Cert.AttnInRefIdeal.nD Cert.AttnInRefIdeal.τ).loc Cert.AttnInRefIdeal.main_arg5) = m ((c.tc : Thread Cert.AttnInIdeal.nD Cert.AttnInIdeal.τ).loc Cert.AttnInIdeal.main_arg5)) →
    ∃ (v0 : (c : Dev Cert.AttnInIdeal.nD) → Buf (Elt Ideal) ((c.tc : Thread Cert.AttnInIdeal.nD Cert.AttnInIdeal.τ).loc Cert.AttnInIdeal.main_v0_0)) (v1 : (c : Dev Cert.AttnInIdeal.nD) → Buf (Elt Ideal) ((c.tc : Thread Cert.AttnInIdeal.nD Cert.AttnInIdeal.τ).loc Cert.AttnInIdeal.main_v0_1)) (v2 : (c : Dev Cert.AttnInIdeal.nD) → Buf (Elt Ideal) ((c.tc : Thread Cert.AttnInIdeal.nD Cert.AttnInIdeal.τ).loc Cert.AttnInIdeal.main_v0_2)),
      θ_run (Cert.AttnInIdeal.defs (F := Ideal)) (onTc (τ := Cert.AttnInIdeal.τ) (Cert.AttnInIdeal.main (F := Ideal))) ⟨m, fun _ => 0, g⟩ (fun r => ∀ c : Dev Cert.AttnInIdeal.nD,
          r.2.mem ((c.tc : Thread Cert.AttnInIdeal.nD Cert.AttnInIdeal.τ).loc Cert.AttnInIdeal.main_v0_0) = v0 c
          ∧ r.2.mem ((c.tc : Thread Cert.AttnInIdeal.nD Cert.AttnInIdeal.τ).loc Cert.AttnInIdeal.main_v0_1) = v1 c
          ∧ r.2.mem ((c.tc : Thread Cert.AttnInIdeal.nD Cert.AttnInIdeal.τ).loc Cert.AttnInIdeal.main_v0_2) = v2 c
          ∧ r.2.mem ((c.tc : Thread Cert.AttnInIdeal.nD Cert.AttnInIdeal.τ).loc Cert.AttnInIdeal.main_arg0) = m ((c.tc : Thread Cert.AttnInIdeal.nD Cert.AttnInIdeal.τ).loc Cert.AttnInIdeal.main_arg0)
          ∧ r.2.mem ((c.tc : Thread Cert.AttnInIdeal.nD Cert.AttnInIdeal.τ).loc Cert.AttnInIdeal.main_arg1) = m ((c.tc : Thread Cert.AttnInIdeal.nD Cert.AttnInIdeal.τ).loc Cert.AttnInIdeal.main_arg1)
          ∧ r.2.mem ((c.tc : Thread Cert.AttnInIdeal.nD Cert.AttnInIdeal.τ).loc Cert.AttnInIdeal.main_arg2) = m ((c.tc : Thread Cert.AttnInIdeal.nD Cert.AttnInIdeal.τ).loc Cert.AttnInIdeal.main_arg2)
          ∧ r.2.mem ((c.tc : Thread Cert.AttnInIdeal.nD Cert.AttnInIdeal.τ).loc Cert.AttnInIdeal.main_arg3) = m ((c.tc : Thread Cert.AttnInIdeal.nD Cert.AttnInIdeal.τ).loc Cert.AttnInIdeal.main_arg3)
          ∧ r.2.mem ((c.tc : Thread Cert.AttnInIdeal.nD Cert.AttnInIdeal.τ).loc Cert.AttnInIdeal.main_arg4) = m ((c.tc : Thread Cert.AttnInIdeal.nD Cert.AttnInIdeal.τ).loc Cert.AttnInIdeal.main_arg4)
          ∧ r.2.mem ((c.tc : Thread Cert.AttnInIdeal.nD Cert.AttnInIdeal.τ).loc Cert.AttnInIdeal.main_arg5) = m ((c.tc : Thread Cert.AttnInIdeal.nD Cert.AttnInIdeal.τ).loc Cert.AttnInIdeal.main_arg5))
      ∧ θ_run (Cert.AttnInRefIdeal.defs (F := Ideal)) (onTc (τ := Cert.AttnInRefIdeal.τ) (Cert.AttnInRefIdeal.main (F := Ideal))) ⟨m', fun _ => 0, g'⟩ (fun r => ∀ c : Dev Cert.AttnInRefIdeal.nD,
          r.2.mem ((c.tc : Thread Cert.AttnInRefIdeal.nD Cert.AttnInRefIdeal.τ).loc Cert.AttnInRefIdeal.main_v21) = v0 c
          ∧ r.2.mem ((c.tc : Thread Cert.AttnInRefIdeal.nD Cert.AttnInRefIdeal.τ).loc Cert.AttnInRefIdeal.main_v23) = v1 c
          ∧ r.2.mem ((c.tc : Thread Cert.AttnInRefIdeal.nD Cert.AttnInRefIdeal.τ).loc Cert.AttnInRefIdeal.main_v26) = v2 c
          ∧ r.2.mem ((c.tc : Thread Cert.AttnInRefIdeal.nD Cert.AttnInRefIdeal.τ).loc Cert.AttnInRefIdeal.main_arg0) = m' ((c.tc : Thread Cert.AttnInRefIdeal.nD Cert.AttnInRefIdeal.τ).loc Cert.AttnInRefIdeal.main_arg0)
          ∧ r.2.mem ((c.tc : Thread Cert.AttnInRefIdeal.nD Cert.AttnInRefIdeal.τ).loc Cert.AttnInRefIdeal.main_arg1) = m' ((c.tc : Thread Cert.AttnInRefIdeal.nD Cert.AttnInRefIdeal.τ).loc Cert.AttnInRefIdeal.main_arg1)
          ∧ r.2.mem ((c.tc : Thread Cert.AttnInRefIdeal.nD Cert.AttnInRefIdeal.τ).loc Cert.AttnInRefIdeal.main_arg2) = m' ((c.tc : Thread Cert.AttnInRefIdeal.nD Cert.AttnInRefIdeal.τ).loc Cert.AttnInRefIdeal.main_arg2)
          ∧ r.2.mem ((c.tc : Thread Cert.AttnInRefIdeal.nD Cert.AttnInRefIdeal.τ).loc Cert.AttnInRefIdeal.main_arg3) = m' ((c.tc : Thread Cert.AttnInRefIdeal.nD Cert.AttnInRefIdeal.τ).loc Cert.AttnInRefIdeal.main_arg3)
          ∧ r.2.mem ((c.tc : Thread Cert.AttnInRefIdeal.nD Cert.AttnInRefIdeal.τ).loc Cert.AttnInRefIdeal.main_arg4) = m' ((c.tc : Thread Cert.AttnInRefIdeal.nD Cert.AttnInRefIdeal.τ).loc Cert.AttnInRefIdeal.main_arg4)
          ∧ r.2.mem ((c.tc : Thread Cert.AttnInRefIdeal.nD Cert.AttnInRefIdeal.τ).loc Cert.AttnInRefIdeal.main_arg5) = m' ((c.tc : Thread Cert.AttnInRefIdeal.nD Cert.AttnInRefIdeal.τ).loc Cert.AttnInRefIdeal.main_arg5))

def preserves_Gamma_GammaIdeal : Prop :=
  True

def algebraic_GammaIdeal_GammaRefIdeal [hGammaIdeal : Cert.GammaIdeal.Facts] [hGammaRefIdeal : Cert.GammaRefIdeal.Facts] : Prop :=
  ∀ (m : (ℓ : Loc Cert.GammaIdeal.nD Cert.GammaIdeal.τ Cert.GammaIdeal.sig) → Buf (Elt Ideal) ℓ) (g : Dev Cert.GammaIdeal.nD → PrngReg)
    (m' : (ℓ : Loc Cert.GammaRefIdeal.nD Cert.GammaRefIdeal.τ Cert.GammaRefIdeal.sig) → Buf (Elt Ideal) ℓ) (g' : Dev Cert.GammaRefIdeal.nD → PrngReg), Pre_GammaIdeal m →
    (∀ c : Dev Cert.GammaIdeal.nD,
      m' ((c.tc : Thread Cert.GammaRefIdeal.nD Cert.GammaRefIdeal.τ).loc Cert.GammaRefIdeal.main_arg0) = m ((c.tc : Thread Cert.GammaIdeal.nD Cert.GammaIdeal.τ).loc Cert.GammaIdeal.main_arg0)
      ∧ m' ((c.tc : Thread Cert.GammaRefIdeal.nD Cert.GammaRefIdeal.τ).loc Cert.GammaRefIdeal.main_arg1) = m ((c.tc : Thread Cert.GammaIdeal.nD Cert.GammaIdeal.τ).loc Cert.GammaIdeal.main_arg1)
      ∧ m' ((c.tc : Thread Cert.GammaRefIdeal.nD Cert.GammaRefIdeal.τ).loc Cert.GammaRefIdeal.main_arg2) = m ((c.tc : Thread Cert.GammaIdeal.nD Cert.GammaIdeal.τ).loc Cert.GammaIdeal.main_arg2)
      ∧ m' ((c.tc : Thread Cert.GammaRefIdeal.nD Cert.GammaRefIdeal.τ).loc Cert.GammaRefIdeal.main_arg3) = m ((c.tc : Thread Cert.GammaIdeal.nD Cert.GammaIdeal.τ).loc Cert.GammaIdeal.main_arg3)) →
    ∃ (v0 : (c : Dev Cert.GammaIdeal.nD) → Buf (Elt Ideal) ((c.tc : Thread Cert.GammaIdeal.nD Cert.GammaIdeal.τ).loc Cert.GammaIdeal.main_v0_0)) (v1 : (c : Dev Cert.GammaIdeal.nD) → Buf (Elt Ideal) ((c.tc : Thread Cert.GammaIdeal.nD Cert.GammaIdeal.τ).loc Cert.GammaIdeal.main_v0_1)) (v2 : (c : Dev Cert.GammaIdeal.nD) → Buf (Elt Ideal) ((c.tc : Thread Cert.GammaIdeal.nD Cert.GammaIdeal.τ).loc Cert.GammaIdeal.main_v0_2)),
      θ_run (Cert.GammaIdeal.defs (F := Ideal)) (onTc (τ := Cert.GammaIdeal.τ) (Cert.GammaIdeal.main (F := Ideal))) ⟨m, fun _ => 0, g⟩ (fun r => ∀ c : Dev Cert.GammaIdeal.nD,
          r.2.mem ((c.tc : Thread Cert.GammaIdeal.nD Cert.GammaIdeal.τ).loc Cert.GammaIdeal.main_v0_0) = v0 c
          ∧ r.2.mem ((c.tc : Thread Cert.GammaIdeal.nD Cert.GammaIdeal.τ).loc Cert.GammaIdeal.main_v0_1) = v1 c
          ∧ r.2.mem ((c.tc : Thread Cert.GammaIdeal.nD Cert.GammaIdeal.τ).loc Cert.GammaIdeal.main_v0_2) = v2 c
          ∧ r.2.mem ((c.tc : Thread Cert.GammaIdeal.nD Cert.GammaIdeal.τ).loc Cert.GammaIdeal.main_arg0) = m ((c.tc : Thread Cert.GammaIdeal.nD Cert.GammaIdeal.τ).loc Cert.GammaIdeal.main_arg0)
          ∧ r.2.mem ((c.tc : Thread Cert.GammaIdeal.nD Cert.GammaIdeal.τ).loc Cert.GammaIdeal.main_arg1) = m ((c.tc : Thread Cert.GammaIdeal.nD Cert.GammaIdeal.τ).loc Cert.GammaIdeal.main_arg1)
          ∧ r.2.mem ((c.tc : Thread Cert.GammaIdeal.nD Cert.GammaIdeal.τ).loc Cert.GammaIdeal.main_arg2) = m ((c.tc : Thread Cert.GammaIdeal.nD Cert.GammaIdeal.τ).loc Cert.GammaIdeal.main_arg2)
          ∧ r.2.mem ((c.tc : Thread Cert.GammaIdeal.nD Cert.GammaIdeal.τ).loc Cert.GammaIdeal.main_arg3) = m ((c.tc : Thread Cert.GammaIdeal.nD Cert.GammaIdeal.τ).loc Cert.GammaIdeal.main_arg3))
      ∧ θ_run (Cert.GammaRefIdeal.defs (F := Ideal)) (onTc (τ := Cert.GammaRefIdeal.τ) (Cert.GammaRefIdeal.main (F := Ideal))) ⟨m', fun _ => 0, g'⟩ (fun r => ∀ c : Dev Cert.GammaRefIdeal.nD,
          r.2.mem ((c.tc : Thread Cert.GammaRefIdeal.nD Cert.GammaRefIdeal.τ).loc Cert.GammaRefIdeal.main_v18) = v0 c
          ∧ r.2.mem ((c.tc : Thread Cert.GammaRefIdeal.nD Cert.GammaRefIdeal.τ).loc Cert.GammaRefIdeal.main_v20) = v1 c
          ∧ r.2.mem ((c.tc : Thread Cert.GammaRefIdeal.nD Cert.GammaRefIdeal.τ).loc Cert.GammaRefIdeal.main_v23) = v2 c
          ∧ r.2.mem ((c.tc : Thread Cert.GammaRefIdeal.nD Cert.GammaRefIdeal.τ).loc Cert.GammaRefIdeal.main_arg0) = m' ((c.tc : Thread Cert.GammaRefIdeal.nD Cert.GammaRefIdeal.τ).loc Cert.GammaRefIdeal.main_arg0)
          ∧ r.2.mem ((c.tc : Thread Cert.GammaRefIdeal.nD Cert.GammaRefIdeal.τ).loc Cert.GammaRefIdeal.main_arg1) = m' ((c.tc : Thread Cert.GammaRefIdeal.nD Cert.GammaRefIdeal.τ).loc Cert.GammaRefIdeal.main_arg1)
          ∧ r.2.mem ((c.tc : Thread Cert.GammaRefIdeal.nD Cert.GammaRefIdeal.τ).loc Cert.GammaRefIdeal.main_arg2) = m' ((c.tc : Thread Cert.GammaRefIdeal.nD Cert.GammaRefIdeal.τ).loc Cert.GammaRefIdeal.main_arg2)
          ∧ r.2.mem ((c.tc : Thread Cert.GammaRefIdeal.nD Cert.GammaRefIdeal.τ).loc Cert.GammaRefIdeal.main_arg3) = m' ((c.tc : Thread Cert.GammaRefIdeal.nD Cert.GammaRefIdeal.τ).loc Cert.GammaRefIdeal.main_arg3))

def preserves_Attention_AttentionIdeal : Prop :=
  True

def algebraic_AttentionIdeal_AttentionRefIdeal [hAttentionIdeal : Cert.AttentionIdeal.Facts] [hAttentionRefIdeal : Cert.AttentionRefIdeal.Facts] : Prop :=
  ∀ (m : (ℓ : Loc Cert.AttentionIdeal.nD Cert.AttentionIdeal.τ Cert.AttentionIdeal.sig) → Buf (Elt Ideal) ℓ) (g : Dev Cert.AttentionIdeal.nD → PrngReg)
    (m' : (ℓ : Loc Cert.AttentionRefIdeal.nD Cert.AttentionRefIdeal.τ Cert.AttentionRefIdeal.sig) → Buf (Elt Ideal) ℓ) (g' : Dev Cert.AttentionRefIdeal.nD → PrngReg), Pre_AttentionIdeal m →
    (∀ c : Dev Cert.AttentionIdeal.nD,
      m' ((c.tc : Thread Cert.AttentionRefIdeal.nD Cert.AttentionRefIdeal.τ).loc Cert.AttentionRefIdeal.main_arg0) = m ((c.tc : Thread Cert.AttentionIdeal.nD Cert.AttentionIdeal.τ).loc Cert.AttentionIdeal.main_arg0)
      ∧ m' ((c.tc : Thread Cert.AttentionRefIdeal.nD Cert.AttentionRefIdeal.τ).loc Cert.AttentionRefIdeal.main_arg1) = m ((c.tc : Thread Cert.AttentionIdeal.nD Cert.AttentionIdeal.τ).loc Cert.AttentionIdeal.main_arg1)
      ∧ m' ((c.tc : Thread Cert.AttentionRefIdeal.nD Cert.AttentionRefIdeal.τ).loc Cert.AttentionRefIdeal.main_arg2) = m ((c.tc : Thread Cert.AttentionIdeal.nD Cert.AttentionIdeal.τ).loc Cert.AttentionIdeal.main_arg2)
      ∧ m' ((c.tc : Thread Cert.AttentionRefIdeal.nD Cert.AttentionRefIdeal.τ).loc Cert.AttentionRefIdeal.main_arg3) = m ((c.tc : Thread Cert.AttentionIdeal.nD Cert.AttentionIdeal.τ).loc Cert.AttentionIdeal.main_arg3)
      ∧ m' ((c.tc : Thread Cert.AttentionRefIdeal.nD Cert.AttentionRefIdeal.τ).loc Cert.AttentionRefIdeal.main_arg4) = m ((c.tc : Thread Cert.AttentionIdeal.nD Cert.AttentionIdeal.τ).loc Cert.AttentionIdeal.main_arg4)
      ∧ m' ((c.tc : Thread Cert.AttentionRefIdeal.nD Cert.AttentionRefIdeal.τ).loc Cert.AttentionRefIdeal.main_arg5) = m ((c.tc : Thread Cert.AttentionIdeal.nD Cert.AttentionIdeal.τ).loc Cert.AttentionIdeal.main_arg5)
      ∧ m' ((c.tc : Thread Cert.AttentionRefIdeal.nD Cert.AttentionRefIdeal.τ).loc Cert.AttentionRefIdeal.main_arg6) = m ((c.tc : Thread Cert.AttentionIdeal.nD Cert.AttentionIdeal.τ).loc Cert.AttentionIdeal.main_arg6)
      ∧ m' ((c.tc : Thread Cert.AttentionRefIdeal.nD Cert.AttentionRefIdeal.τ).loc Cert.AttentionRefIdeal.main_arg7) = m ((c.tc : Thread Cert.AttentionIdeal.nD Cert.AttentionIdeal.τ).loc Cert.AttentionIdeal.main_arg7)
      ∧ m' ((c.tc : Thread Cert.AttentionRefIdeal.nD Cert.AttentionRefIdeal.τ).loc Cert.AttentionRefIdeal.main_arg8) = m ((c.tc : Thread Cert.AttentionIdeal.nD Cert.AttentionIdeal.τ).loc Cert.AttentionIdeal.main_arg8)) →
    ∃ (v0 : (c : Dev Cert.AttentionIdeal.nD) → Buf (Elt Ideal) ((c.tc : Thread Cert.AttentionIdeal.nD Cert.AttentionIdeal.τ).loc Cert.AttentionIdeal.main_v0_0)) (v1 : (c : Dev Cert.AttentionIdeal.nD) → Buf (Elt Ideal) ((c.tc : Thread Cert.AttentionIdeal.nD Cert.AttentionIdeal.τ).loc Cert.AttentionIdeal.main_v0_1)) (v2 : (c : Dev Cert.AttentionIdeal.nD) → Buf (Elt Ideal) ((c.tc : Thread Cert.AttentionIdeal.nD Cert.AttentionIdeal.τ).loc Cert.AttentionIdeal.main_v0_2)),
      θ_run (Cert.AttentionIdeal.defs (F := Ideal)) (onTc (τ := Cert.AttentionIdeal.τ) (Cert.AttentionIdeal.main (F := Ideal))) ⟨m, fun _ => 0, g⟩ (fun r => ∀ c : Dev Cert.AttentionIdeal.nD,
          r.2.mem ((c.tc : Thread Cert.AttentionIdeal.nD Cert.AttentionIdeal.τ).loc Cert.AttentionIdeal.main_v0_0) = v0 c
          ∧ r.2.mem ((c.tc : Thread Cert.AttentionIdeal.nD Cert.AttentionIdeal.τ).loc Cert.AttentionIdeal.main_v0_1) = v1 c
          ∧ r.2.mem ((c.tc : Thread Cert.AttentionIdeal.nD Cert.AttentionIdeal.τ).loc Cert.AttentionIdeal.main_v0_2) = v2 c
          ∧ r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
          ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
          ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
          ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3)
          ∧ r.2.mem ((c.tc : Thread Cert.AttentionIdeal.nD Cert.AttentionIdeal.τ).loc Cert.AttentionIdeal.main_arg4) = m ((c.tc : Thread Cert.AttentionIdeal.nD Cert.AttentionIdeal.τ).loc Cert.AttentionIdeal.main_arg4)
          ∧ r.2.mem ((c.tc : Thread Cert.AttentionIdeal.nD Cert.AttentionIdeal.τ).loc Cert.AttentionIdeal.main_arg5) = m ((c.tc : Thread Cert.AttentionIdeal.nD Cert.AttentionIdeal.τ).loc Cert.AttentionIdeal.main_arg5)
          ∧ r.2.mem ((c.tc : Thread Cert.AttentionIdeal.nD Cert.AttentionIdeal.τ).loc Cert.AttentionIdeal.main_arg6) = m ((c.tc : Thread Cert.AttentionIdeal.nD Cert.AttentionIdeal.τ).loc Cert.AttentionIdeal.main_arg6)
          ∧ r.2.mem ((c.tc : Thread Cert.AttentionIdeal.nD Cert.AttentionIdeal.τ).loc Cert.AttentionIdeal.main_arg7) = m ((c.tc : Thread Cert.AttentionIdeal.nD Cert.AttentionIdeal.τ).loc Cert.AttentionIdeal.main_arg7)
          ∧ r.2.mem ((c.tc : Thread Cert.AttentionIdeal.nD Cert.AttentionIdeal.τ).loc Cert.AttentionIdeal.main_arg8) = m ((c.tc : Thread Cert.AttentionIdeal.nD Cert.AttentionIdeal.τ).loc Cert.AttentionIdeal.main_arg8))
      ∧ θ_run (Cert.AttentionRefIdeal.defs (F := Ideal)) (onTc (τ := Cert.AttentionRefIdeal.τ) (Cert.AttentionRefIdeal.main (F := Ideal))) ⟨m', fun _ => 0, g'⟩ (fun r => ∀ c : Dev Cert.AttentionRefIdeal.nD,
          r.2.mem ((c.tc : Thread Cert.AttentionRefIdeal.nD Cert.AttentionRefIdeal.τ).loc Cert.AttentionRefIdeal.main_v50) = v0 c
          ∧ r.2.mem ((c.tc : Thread Cert.AttentionRefIdeal.nD Cert.AttentionRefIdeal.τ).loc Cert.AttentionRefIdeal.main_v52) = v1 c
          ∧ r.2.mem ((c.tc : Thread Cert.AttentionRefIdeal.nD Cert.AttentionRefIdeal.τ).loc Cert.AttentionRefIdeal.main_v55) = v2 c
          ∧ r.2.mem ((c.tc : Thread Cert.AttentionRefIdeal.nD Cert.AttentionRefIdeal.τ).loc Cert.AttentionRefIdeal.main_arg0) = m' ((c.tc : Thread Cert.AttentionRefIdeal.nD Cert.AttentionRefIdeal.τ).loc Cert.AttentionRefIdeal.main_arg0)
          ∧ r.2.mem ((c.tc : Thread Cert.AttentionRefIdeal.nD Cert.AttentionRefIdeal.τ).loc Cert.AttentionRefIdeal.main_arg1) = m' ((c.tc : Thread Cert.AttentionRefIdeal.nD Cert.AttentionRefIdeal.τ).loc Cert.AttentionRefIdeal.main_arg1)
          ∧ r.2.mem ((c.tc : Thread Cert.AttentionRefIdeal.nD Cert.AttentionRefIdeal.τ).loc Cert.AttentionRefIdeal.main_arg2) = m' ((c.tc : Thread Cert.AttentionRefIdeal.nD Cert.AttentionRefIdeal.τ).loc Cert.AttentionRefIdeal.main_arg2)
          ∧ r.2.mem ((c.tc : Thread Cert.AttentionRefIdeal.nD Cert.AttentionRefIdeal.τ).loc Cert.AttentionRefIdeal.main_arg3) = m' ((c.tc : Thread Cert.AttentionRefIdeal.nD Cert.AttentionRefIdeal.τ).loc Cert.AttentionRefIdeal.main_arg3)
          ∧ r.2.mem ((c.tc : Thread Cert.AttentionRefIdeal.nD Cert.AttentionRefIdeal.τ).loc Cert.AttentionRefIdeal.main_arg4) = m' ((c.tc : Thread Cert.AttentionRefIdeal.nD Cert.AttentionRefIdeal.τ).loc Cert.AttentionRefIdeal.main_arg4)
          ∧ r.2.mem ((c.tc : Thread Cert.AttentionRefIdeal.nD Cert.AttentionRefIdeal.τ).loc Cert.AttentionRefIdeal.main_arg5) = m' ((c.tc : Thread Cert.AttentionRefIdeal.nD Cert.AttentionRefIdeal.τ).loc Cert.AttentionRefIdeal.main_arg5)
          ∧ r.2.mem ((c.tc : Thread Cert.AttentionRefIdeal.nD Cert.AttentionRefIdeal.τ).loc Cert.AttentionRefIdeal.main_arg6) = m' ((c.tc : Thread Cert.AttentionRefIdeal.nD Cert.AttentionRefIdeal.τ).loc Cert.AttentionRefIdeal.main_arg6)
          ∧ r.2.mem ((c.tc : Thread Cert.AttentionRefIdeal.nD Cert.AttentionRefIdeal.τ).loc Cert.AttentionRefIdeal.main_arg7) = m' ((c.tc : Thread Cert.AttentionRefIdeal.nD Cert.AttentionRefIdeal.τ).loc Cert.AttentionRefIdeal.main_arg7)
          ∧ r.2.mem ((c.tc : Thread Cert.AttentionRefIdeal.nD Cert.AttentionRefIdeal.τ).loc Cert.AttentionRefIdeal.main_arg8) = m' ((c.tc : Thread Cert.AttentionRefIdeal.nD Cert.AttentionRefIdeal.τ).loc Cert.AttentionRefIdeal.main_arg8))

def preserves_Nearest_NearestIdeal : Prop :=
  True

def algebraic_NearestIdeal_NearestRefIdeal_pre_finite_coords [hNearestIdeal : Cert.NearestIdeal.Facts] [hNearestRefIdeal : Cert.NearestRefIdeal.Facts] [hPre_finite_coords : Cert.Pre_finite_coords.Facts] : Prop :=
  ∀ (m : (ℓ : Loc Cert.NearestIdeal.nD Cert.NearestIdeal.τ Cert.NearestIdeal.sig) → Buf (Elt Ideal) ℓ) (g : Dev Cert.NearestIdeal.nD → PrngReg)
    (m' : (ℓ : Loc Cert.NearestRefIdeal.nD Cert.NearestRefIdeal.τ Cert.NearestRefIdeal.sig) → Buf (Elt Ideal) ℓ) (g' : Dev Cert.NearestRefIdeal.nD → PrngReg), Pre_NearestIdeal_finite_coords m →
    (∀ c : Dev Cert.NearestIdeal.nD,
      m' ((c.tc : Thread Cert.NearestRefIdeal.nD Cert.NearestRefIdeal.τ).loc Cert.NearestRefIdeal.main_arg0) = m ((c.tc : Thread Cert.NearestIdeal.nD Cert.NearestIdeal.τ).loc Cert.NearestIdeal.main_arg0)) →
    ∃ (v0 : (c : Dev Cert.NearestIdeal.nD) → Buf (Elt Ideal) ((c.tc : Thread Cert.NearestIdeal.nD Cert.NearestIdeal.τ).loc Cert.NearestIdeal.main_v2)),
      θ_run (Cert.NearestIdeal.defs (F := Ideal)) (onTc (τ := Cert.NearestIdeal.τ) (Cert.NearestIdeal.main (F := Ideal))) ⟨m, fun _ => 0, g⟩ (fun r => ∀ c : Dev Cert.NearestIdeal.nD,
          r.2.mem ((c.tc : Thread Cert.NearestIdeal.nD Cert.NearestIdeal.τ).loc Cert.NearestIdeal.main_v2) = v0 c
          ∧ r.2.mem ((c.tc : Thread Cert.NearestIdeal.nD Cert.NearestIdeal.τ).loc Cert.NearestIdeal.main_arg0) = m ((c.tc : Thread Cert.NearestIdeal.nD Cert.NearestIdeal.τ).loc Cert.NearestIdeal.main_arg0))
      ∧ θ_run (Cert.NearestRefIdeal.defs (F := Ideal)) (onTc (τ := Cert.NearestRefIdeal.τ) (Cert.NearestRefIdeal.main (F := Ideal))) ⟨m', fun _ => 0, g'⟩ (fun r => ∀ c : Dev Cert.NearestRefIdeal.nD,
          r.2.mem ((c.tc : Thread Cert.NearestRefIdeal.nD Cert.NearestRefIdeal.τ).loc Cert.NearestRefIdeal.main_v17) = v0 c
          ∧ r.2.mem ((c.tc : Thread Cert.NearestRefIdeal.nD Cert.NearestRefIdeal.τ).loc Cert.NearestRefIdeal.main_arg0) = m' ((c.tc : Thread Cert.NearestRefIdeal.nD Cert.NearestRefIdeal.τ).loc Cert.NearestRefIdeal.main_arg0))

def preserves_After_AfterIdeal : Prop :=
  True

def algebraic_AfterIdeal_AfterRefIdeal_pre_finite_after [hAfterIdeal : Cert.AfterIdeal.Facts] [hAfterRefIdeal : Cert.AfterRefIdeal.Facts] [hPre_finite_after : Cert.Pre_finite_after.Facts] : Prop :=
  ∀ (m : (ℓ : Loc Cert.AfterIdeal.nD Cert.AfterIdeal.τ Cert.AfterIdeal.sig) → Buf (Elt Ideal) ℓ) (g : Dev Cert.AfterIdeal.nD → PrngReg)
    (m' : (ℓ : Loc Cert.AfterRefIdeal.nD Cert.AfterRefIdeal.τ Cert.AfterRefIdeal.sig) → Buf (Elt Ideal) ℓ) (g' : Dev Cert.AfterRefIdeal.nD → PrngReg), Pre_AfterIdeal_finite_after m →
    (∀ c : Dev Cert.AfterIdeal.nD,
      m' ((c.tc : Thread Cert.AfterRefIdeal.nD Cert.AfterRefIdeal.τ).loc Cert.AfterRefIdeal.main_arg0) = m ((c.tc : Thread Cert.AfterIdeal.nD Cert.AfterIdeal.τ).loc Cert.AfterIdeal.main_arg0)
      ∧ m' ((c.tc : Thread Cert.AfterRefIdeal.nD Cert.AfterRefIdeal.τ).loc Cert.AfterRefIdeal.main_arg1) = m ((c.tc : Thread Cert.AfterIdeal.nD Cert.AfterIdeal.τ).loc Cert.AfterIdeal.main_arg1)
      ∧ m' ((c.tc : Thread Cert.AfterRefIdeal.nD Cert.AfterRefIdeal.τ).loc Cert.AfterRefIdeal.main_arg2) = m ((c.tc : Thread Cert.AfterIdeal.nD Cert.AfterIdeal.τ).loc Cert.AfterIdeal.main_arg2)
      ∧ m' ((c.tc : Thread Cert.AfterRefIdeal.nD Cert.AfterRefIdeal.τ).loc Cert.AfterRefIdeal.main_arg3) = m ((c.tc : Thread Cert.AfterIdeal.nD Cert.AfterIdeal.τ).loc Cert.AfterIdeal.main_arg3)
      ∧ m' ((c.tc : Thread Cert.AfterRefIdeal.nD Cert.AfterRefIdeal.τ).loc Cert.AfterRefIdeal.main_arg4) = m ((c.tc : Thread Cert.AfterIdeal.nD Cert.AfterIdeal.τ).loc Cert.AfterIdeal.main_arg4)
      ∧ m' ((c.tc : Thread Cert.AfterRefIdeal.nD Cert.AfterRefIdeal.τ).loc Cert.AfterRefIdeal.main_arg5) = m ((c.tc : Thread Cert.AfterIdeal.nD Cert.AfterIdeal.τ).loc Cert.AfterIdeal.main_arg5)
      ∧ m' ((c.tc : Thread Cert.AfterRefIdeal.nD Cert.AfterRefIdeal.τ).loc Cert.AfterRefIdeal.main_arg6) = m ((c.tc : Thread Cert.AfterIdeal.nD Cert.AfterIdeal.τ).loc Cert.AfterIdeal.main_arg6)
      ∧ m' ((c.tc : Thread Cert.AfterRefIdeal.nD Cert.AfterRefIdeal.τ).loc Cert.AfterRefIdeal.main_arg7) = m ((c.tc : Thread Cert.AfterIdeal.nD Cert.AfterIdeal.τ).loc Cert.AfterIdeal.main_arg7)
      ∧ m' ((c.tc : Thread Cert.AfterRefIdeal.nD Cert.AfterRefIdeal.τ).loc Cert.AfterRefIdeal.main_arg8) = m ((c.tc : Thread Cert.AfterIdeal.nD Cert.AfterIdeal.τ).loc Cert.AfterIdeal.main_arg8)
      ∧ m' ((c.tc : Thread Cert.AfterRefIdeal.nD Cert.AfterRefIdeal.τ).loc Cert.AfterRefIdeal.main_arg9) = m ((c.tc : Thread Cert.AfterIdeal.nD Cert.AfterIdeal.τ).loc Cert.AfterIdeal.main_arg9)
      ∧ m' ((c.tc : Thread Cert.AfterRefIdeal.nD Cert.AfterRefIdeal.τ).loc Cert.AfterRefIdeal.main_arg10) = m ((c.tc : Thread Cert.AfterIdeal.nD Cert.AfterIdeal.τ).loc Cert.AfterIdeal.main_arg10)) →
    ∃ (v0 : (c : Dev Cert.AfterIdeal.nD) → Buf (Elt Ideal) ((c.tc : Thread Cert.AfterIdeal.nD Cert.AfterIdeal.τ).loc Cert.AfterIdeal.main_v10)),
      θ_run (Cert.AfterIdeal.defs (F := Ideal)) (onTc (τ := Cert.AfterIdeal.τ) (Cert.AfterIdeal.main (F := Ideal))) ⟨m, fun _ => 0, g⟩ (fun r => ∀ c : Dev Cert.AfterIdeal.nD,
          r.2.mem ((c.tc : Thread Cert.AfterIdeal.nD Cert.AfterIdeal.τ).loc Cert.AfterIdeal.main_v10) = v0 c
          ∧ r.2.mem ((c.tc : Thread Cert.AfterIdeal.nD Cert.AfterIdeal.τ).loc Cert.AfterIdeal.main_arg0) = m ((c.tc : Thread Cert.AfterIdeal.nD Cert.AfterIdeal.τ).loc Cert.AfterIdeal.main_arg0)
          ∧ r.2.mem ((c.tc : Thread Cert.AfterIdeal.nD Cert.AfterIdeal.τ).loc Cert.AfterIdeal.main_arg1) = m ((c.tc : Thread Cert.AfterIdeal.nD Cert.AfterIdeal.τ).loc Cert.AfterIdeal.main_arg1)
          ∧ r.2.mem ((c.tc : Thread Cert.AfterIdeal.nD Cert.AfterIdeal.τ).loc Cert.AfterIdeal.main_arg2) = m ((c.tc : Thread Cert.AfterIdeal.nD Cert.AfterIdeal.τ).loc Cert.AfterIdeal.main_arg2)
          ∧ r.2.mem ((c.tc : Thread Cert.AfterIdeal.nD Cert.AfterIdeal.τ).loc Cert.AfterIdeal.main_arg3) = m ((c.tc : Thread Cert.AfterIdeal.nD Cert.AfterIdeal.τ).loc Cert.AfterIdeal.main_arg3)
          ∧ r.2.mem ((c.tc : Thread Cert.AfterIdeal.nD Cert.AfterIdeal.τ).loc Cert.AfterIdeal.main_arg4) = m ((c.tc : Thread Cert.AfterIdeal.nD Cert.AfterIdeal.τ).loc Cert.AfterIdeal.main_arg4)
          ∧ r.2.mem ((c.tc : Thread Cert.AfterIdeal.nD Cert.AfterIdeal.τ).loc Cert.AfterIdeal.main_arg5) = m ((c.tc : Thread Cert.AfterIdeal.nD Cert.AfterIdeal.τ).loc Cert.AfterIdeal.main_arg5)
          ∧ r.2.mem ((c.tc : Thread Cert.AfterIdeal.nD Cert.AfterIdeal.τ).loc Cert.AfterIdeal.main_arg6) = m ((c.tc : Thread Cert.AfterIdeal.nD Cert.AfterIdeal.τ).loc Cert.AfterIdeal.main_arg6)
          ∧ r.2.mem ((c.tc : Thread Cert.AfterIdeal.nD Cert.AfterIdeal.τ).loc Cert.AfterIdeal.main_arg7) = m ((c.tc : Thread Cert.AfterIdeal.nD Cert.AfterIdeal.τ).loc Cert.AfterIdeal.main_arg7)
          ∧ r.2.mem ((c.tc : Thread Cert.AfterIdeal.nD Cert.AfterIdeal.τ).loc Cert.AfterIdeal.main_arg8) = m ((c.tc : Thread Cert.AfterIdeal.nD Cert.AfterIdeal.τ).loc Cert.AfterIdeal.main_arg8)
          ∧ r.2.mem ((c.tc : Thread Cert.AfterIdeal.nD Cert.AfterIdeal.τ).loc Cert.AfterIdeal.main_arg9) = m ((c.tc : Thread Cert.AfterIdeal.nD Cert.AfterIdeal.τ).loc Cert.AfterIdeal.main_arg9)
          ∧ r.2.mem ((c.tc : Thread Cert.AfterIdeal.nD Cert.AfterIdeal.τ).loc Cert.AfterIdeal.main_arg10) = m ((c.tc : Thread Cert.AfterIdeal.nD Cert.AfterIdeal.τ).loc Cert.AfterIdeal.main_arg10))
      ∧ θ_run (Cert.AfterRefIdeal.defs (F := Ideal)) (onTc (τ := Cert.AfterRefIdeal.τ) (Cert.AfterRefIdeal.main (F := Ideal))) ⟨m', fun _ => 0, g'⟩ (fun r => ∀ c : Dev Cert.AfterRefIdeal.nD,
          r.2.mem ((c.tc : Thread Cert.AfterRefIdeal.nD Cert.AfterRefIdeal.τ).loc Cert.AfterRefIdeal.main_v94) = v0 c
          ∧ r.2.mem ((c.tc : Thread Cert.AfterRefIdeal.nD Cert.AfterRefIdeal.τ).loc Cert.AfterRefIdeal.main_arg0) = m' ((c.tc : Thread Cert.AfterRefIdeal.nD Cert.AfterRefIdeal.τ).loc Cert.AfterRefIdeal.main_arg0)
          ∧ r.2.mem ((c.tc : Thread Cert.AfterRefIdeal.nD Cert.AfterRefIdeal.τ).loc Cert.AfterRefIdeal.main_arg1) = m' ((c.tc : Thread Cert.AfterRefIdeal.nD Cert.AfterRefIdeal.τ).loc Cert.AfterRefIdeal.main_arg1)
          ∧ r.2.mem ((c.tc : Thread Cert.AfterRefIdeal.nD Cert.AfterRefIdeal.τ).loc Cert.AfterRefIdeal.main_arg2) = m' ((c.tc : Thread Cert.AfterRefIdeal.nD Cert.AfterRefIdeal.τ).loc Cert.AfterRefIdeal.main_arg2)
          ∧ r.2.mem ((c.tc : Thread Cert.AfterRefIdeal.nD Cert.AfterRefIdeal.τ).loc Cert.AfterRefIdeal.main_arg3) = m' ((c.tc : Thread Cert.AfterRefIdeal.nD Cert.AfterRefIdeal.τ).loc Cert.AfterRefIdeal.main_arg3)
          ∧ r.2.mem ((c.tc : Thread Cert.AfterRefIdeal.nD Cert.AfterRefIdeal.τ).loc Cert.AfterRefIdeal.main_arg4) = m' ((c.tc : Thread Cert.AfterRefIdeal.nD Cert.AfterRefIdeal.τ).loc Cert.AfterRefIdeal.main_arg4)
          ∧ r.2.mem ((c.tc : Thread Cert.AfterRefIdeal.nD Cert.AfterRefIdeal.τ).loc Cert.AfterRefIdeal.main_arg5) = m' ((c.tc : Thread Cert.AfterRefIdeal.nD Cert.AfterRefIdeal.τ).loc Cert.AfterRefIdeal.main_arg5)
          ∧ r.2.mem ((c.tc : Thread Cert.AfterRefIdeal.nD Cert.AfterRefIdeal.τ).loc Cert.AfterRefIdeal.main_arg6) = m' ((c.tc : Thread Cert.AfterRefIdeal.nD Cert.AfterRefIdeal.τ).loc Cert.AfterRefIdeal.main_arg6)
          ∧ r.2.mem ((c.tc : Thread Cert.AfterRefIdeal.nD Cert.AfterRefIdeal.τ).loc Cert.AfterRefIdeal.main_arg7) = m' ((c.tc : Thread Cert.AfterRefIdeal.nD Cert.AfterRefIdeal.τ).loc Cert.AfterRefIdeal.main_arg7)
          ∧ r.2.mem ((c.tc : Thread Cert.AfterRefIdeal.nD Cert.AfterRefIdeal.τ).loc Cert.AfterRefIdeal.main_arg8) = m' ((c.tc : Thread Cert.AfterRefIdeal.nD Cert.AfterRefIdeal.τ).loc Cert.AfterRefIdeal.main_arg8)
          ∧ r.2.mem ((c.tc : Thread Cert.AfterRefIdeal.nD Cert.AfterRefIdeal.τ).loc Cert.AfterRefIdeal.main_arg9) = m' ((c.tc : Thread Cert.AfterRefIdeal.nD Cert.AfterRefIdeal.τ).loc Cert.AfterRefIdeal.main_arg9)
          ∧ r.2.mem ((c.tc : Thread Cert.AfterRefIdeal.nD Cert.AfterRefIdeal.τ).loc Cert.AfterRefIdeal.main_arg10) = m' ((c.tc : Thread Cert.AfterRefIdeal.nD Cert.AfterRefIdeal.τ).loc Cert.AfterRefIdeal.main_arg10))

def preserves_Before_BeforeIdeal : Prop :=
  True

def algebraic_BeforeIdeal_BeforeRefIdeal_pre_finite_before [hBeforeIdeal : Cert.BeforeIdeal.Facts] [hBeforeRefIdeal : Cert.BeforeRefIdeal.Facts] [hPre_finite_before : Cert.Pre_finite_before.Facts] : Prop :=
  ∀ (m : (ℓ : Loc Cert.BeforeIdeal.nD Cert.BeforeIdeal.τ Cert.BeforeIdeal.sig) → Buf (Elt Ideal) ℓ) (g : Dev Cert.BeforeIdeal.nD → PrngReg)
    (m' : (ℓ : Loc Cert.BeforeRefIdeal.nD Cert.BeforeRefIdeal.τ Cert.BeforeRefIdeal.sig) → Buf (Elt Ideal) ℓ) (g' : Dev Cert.BeforeRefIdeal.nD → PrngReg), Pre_BeforeIdeal_finite_before m →
    (∀ c : Dev Cert.BeforeIdeal.nD,
      m' ((c.tc : Thread Cert.BeforeRefIdeal.nD Cert.BeforeRefIdeal.τ).loc Cert.BeforeRefIdeal.main_arg0) = m ((c.tc : Thread Cert.BeforeIdeal.nD Cert.BeforeIdeal.τ).loc Cert.BeforeIdeal.main_arg0)
      ∧ m' ((c.tc : Thread Cert.BeforeRefIdeal.nD Cert.BeforeRefIdeal.τ).loc Cert.BeforeRefIdeal.main_arg1) = m ((c.tc : Thread Cert.BeforeIdeal.nD Cert.BeforeIdeal.τ).loc Cert.BeforeIdeal.main_arg1)
      ∧ m' ((c.tc : Thread Cert.BeforeRefIdeal.nD Cert.BeforeRefIdeal.τ).loc Cert.BeforeRefIdeal.main_arg2) = m ((c.tc : Thread Cert.BeforeIdeal.nD Cert.BeforeIdeal.τ).loc Cert.BeforeIdeal.main_arg2)
      ∧ m' ((c.tc : Thread Cert.BeforeRefIdeal.nD Cert.BeforeRefIdeal.τ).loc Cert.BeforeRefIdeal.main_arg3) = m ((c.tc : Thread Cert.BeforeIdeal.nD Cert.BeforeIdeal.τ).loc Cert.BeforeIdeal.main_arg3)
      ∧ m' ((c.tc : Thread Cert.BeforeRefIdeal.nD Cert.BeforeRefIdeal.τ).loc Cert.BeforeRefIdeal.main_arg4) = m ((c.tc : Thread Cert.BeforeIdeal.nD Cert.BeforeIdeal.τ).loc Cert.BeforeIdeal.main_arg4)
      ∧ m' ((c.tc : Thread Cert.BeforeRefIdeal.nD Cert.BeforeRefIdeal.τ).loc Cert.BeforeRefIdeal.main_arg5) = m ((c.tc : Thread Cert.BeforeIdeal.nD Cert.BeforeIdeal.τ).loc Cert.BeforeIdeal.main_arg5)
      ∧ m' ((c.tc : Thread Cert.BeforeRefIdeal.nD Cert.BeforeRefIdeal.τ).loc Cert.BeforeRefIdeal.main_arg6) = m ((c.tc : Thread Cert.BeforeIdeal.nD Cert.BeforeIdeal.τ).loc Cert.BeforeIdeal.main_arg6)
      ∧ m' ((c.tc : Thread Cert.BeforeRefIdeal.nD Cert.BeforeRefIdeal.τ).loc Cert.BeforeRefIdeal.main_arg7) = m ((c.tc : Thread Cert.BeforeIdeal.nD Cert.BeforeIdeal.τ).loc Cert.BeforeIdeal.main_arg7)) →
    ∃ (v0 : (c : Dev Cert.BeforeIdeal.nD) → Buf (Elt Ideal) ((c.tc : Thread Cert.BeforeIdeal.nD Cert.BeforeIdeal.τ).loc Cert.BeforeIdeal.main_v3)) (v1 : (c : Dev Cert.BeforeIdeal.nD) → Buf (Elt Ideal) ((c.tc : Thread Cert.BeforeIdeal.nD Cert.BeforeIdeal.τ).loc Cert.BeforeIdeal.main_v9_0)) (v2 : (c : Dev Cert.BeforeIdeal.nD) → Buf (Elt Ideal) ((c.tc : Thread Cert.BeforeIdeal.nD Cert.BeforeIdeal.τ).loc Cert.BeforeIdeal.main_v9_1)) (v3 : (c : Dev Cert.BeforeIdeal.nD) → Buf (Elt Ideal) ((c.tc : Thread Cert.BeforeIdeal.nD Cert.BeforeIdeal.τ).loc Cert.BeforeIdeal.main_v9_2)) (v4 : (c : Dev Cert.BeforeIdeal.nD) → Buf (Elt Ideal) ((c.tc : Thread Cert.BeforeIdeal.nD Cert.BeforeIdeal.τ).loc Cert.BeforeIdeal.main_v9_3)),
      θ_run (Cert.BeforeIdeal.defs (F := Ideal)) (onTc (τ := Cert.BeforeIdeal.τ) (Cert.BeforeIdeal.main (F := Ideal))) ⟨m, fun _ => 0, g⟩ (fun r => ∀ c : Dev Cert.BeforeIdeal.nD,
          r.2.mem ((c.tc : Thread Cert.BeforeIdeal.nD Cert.BeforeIdeal.τ).loc Cert.BeforeIdeal.main_v3) = v0 c
          ∧ r.2.mem ((c.tc : Thread Cert.BeforeIdeal.nD Cert.BeforeIdeal.τ).loc Cert.BeforeIdeal.main_v9_0) = v1 c
          ∧ r.2.mem ((c.tc : Thread Cert.BeforeIdeal.nD Cert.BeforeIdeal.τ).loc Cert.BeforeIdeal.main_v9_1) = v2 c
          ∧ r.2.mem ((c.tc : Thread Cert.BeforeIdeal.nD Cert.BeforeIdeal.τ).loc Cert.BeforeIdeal.main_v9_2) = v3 c
          ∧ r.2.mem ((c.tc : Thread Cert.BeforeIdeal.nD Cert.BeforeIdeal.τ).loc Cert.BeforeIdeal.main_v9_3) = v4 c
          ∧ r.2.mem ((c.tc : Thread Cert.BeforeIdeal.nD Cert.BeforeIdeal.τ).loc Cert.BeforeIdeal.main_arg0) = m ((c.tc : Thread Cert.BeforeIdeal.nD Cert.BeforeIdeal.τ).loc Cert.BeforeIdeal.main_arg0)
          ∧ r.2.mem ((c.tc : Thread Cert.BeforeIdeal.nD Cert.BeforeIdeal.τ).loc Cert.BeforeIdeal.main_arg1) = m ((c.tc : Thread Cert.BeforeIdeal.nD Cert.BeforeIdeal.τ).loc Cert.BeforeIdeal.main_arg1)
          ∧ r.2.mem ((c.tc : Thread Cert.BeforeIdeal.nD Cert.BeforeIdeal.τ).loc Cert.BeforeIdeal.main_arg2) = m ((c.tc : Thread Cert.BeforeIdeal.nD Cert.BeforeIdeal.τ).loc Cert.BeforeIdeal.main_arg2)
          ∧ r.2.mem ((c.tc : Thread Cert.BeforeIdeal.nD Cert.BeforeIdeal.τ).loc Cert.BeforeIdeal.main_arg3) = m ((c.tc : Thread Cert.BeforeIdeal.nD Cert.BeforeIdeal.τ).loc Cert.BeforeIdeal.main_arg3)
          ∧ r.2.mem ((c.tc : Thread Cert.BeforeIdeal.nD Cert.BeforeIdeal.τ).loc Cert.BeforeIdeal.main_arg4) = m ((c.tc : Thread Cert.BeforeIdeal.nD Cert.BeforeIdeal.τ).loc Cert.BeforeIdeal.main_arg4)
          ∧ r.2.mem ((c.tc : Thread Cert.BeforeIdeal.nD Cert.BeforeIdeal.τ).loc Cert.BeforeIdeal.main_arg5) = m ((c.tc : Thread Cert.BeforeIdeal.nD Cert.BeforeIdeal.τ).loc Cert.BeforeIdeal.main_arg5)
          ∧ r.2.mem ((c.tc : Thread Cert.BeforeIdeal.nD Cert.BeforeIdeal.τ).loc Cert.BeforeIdeal.main_arg6) = m ((c.tc : Thread Cert.BeforeIdeal.nD Cert.BeforeIdeal.τ).loc Cert.BeforeIdeal.main_arg6)
          ∧ r.2.mem ((c.tc : Thread Cert.BeforeIdeal.nD Cert.BeforeIdeal.τ).loc Cert.BeforeIdeal.main_arg7) = m ((c.tc : Thread Cert.BeforeIdeal.nD Cert.BeforeIdeal.τ).loc Cert.BeforeIdeal.main_arg7))
      ∧ θ_run (Cert.BeforeRefIdeal.defs (F := Ideal)) (onTc (τ := Cert.BeforeRefIdeal.τ) (Cert.BeforeRefIdeal.main (F := Ideal))) ⟨m', fun _ => 0, g'⟩ (fun r => ∀ c : Dev Cert.BeforeRefIdeal.nD,
          r.2.mem ((c.tc : Thread Cert.BeforeRefIdeal.nD Cert.BeforeRefIdeal.τ).loc Cert.BeforeRefIdeal.main_v42) = v0 c
          ∧ r.2.mem ((c.tc : Thread Cert.BeforeRefIdeal.nD Cert.BeforeRefIdeal.τ).loc Cert.BeforeRefIdeal.main_v17) = v1 c
          ∧ r.2.mem ((c.tc : Thread Cert.BeforeRefIdeal.nD Cert.BeforeRefIdeal.τ).loc Cert.BeforeRefIdeal.main_v19) = v2 c
          ∧ r.2.mem ((c.tc : Thread Cert.BeforeRefIdeal.nD Cert.BeforeRefIdeal.τ).loc Cert.BeforeRefIdeal.main_v21) = v3 c
          ∧ r.2.mem ((c.tc : Thread Cert.BeforeRefIdeal.nD Cert.BeforeRefIdeal.τ).loc Cert.BeforeRefIdeal.main_v23) = v4 c
          ∧ r.2.mem ((c.tc : Thread Cert.BeforeRefIdeal.nD Cert.BeforeRefIdeal.τ).loc Cert.BeforeRefIdeal.main_arg0) = m' ((c.tc : Thread Cert.BeforeRefIdeal.nD Cert.BeforeRefIdeal.τ).loc Cert.BeforeRefIdeal.main_arg0)
          ∧ r.2.mem ((c.tc : Thread Cert.BeforeRefIdeal.nD Cert.BeforeRefIdeal.τ).loc Cert.BeforeRefIdeal.main_arg1) = m' ((c.tc : Thread Cert.BeforeRefIdeal.nD Cert.BeforeRefIdeal.τ).loc Cert.BeforeRefIdeal.main_arg1)
          ∧ r.2.mem ((c.tc : Thread Cert.BeforeRefIdeal.nD Cert.BeforeRefIdeal.τ).loc Cert.BeforeRefIdeal.main_arg2) = m' ((c.tc : Thread Cert.BeforeRefIdeal.nD Cert.BeforeRefIdeal.τ).loc Cert.BeforeRefIdeal.main_arg2)
          ∧ r.2.mem ((c.tc : Thread Cert.BeforeRefIdeal.nD Cert.BeforeRefIdeal.τ).loc Cert.BeforeRefIdeal.main_arg3) = m' ((c.tc : Thread Cert.BeforeRefIdeal.nD Cert.BeforeRefIdeal.τ).loc Cert.BeforeRefIdeal.main_arg3)
          ∧ r.2.mem ((c.tc : Thread Cert.BeforeRefIdeal.nD Cert.BeforeRefIdeal.τ).loc Cert.BeforeRefIdeal.main_arg4) = m' ((c.tc : Thread Cert.BeforeRefIdeal.nD Cert.BeforeRefIdeal.τ).loc Cert.BeforeRefIdeal.main_arg4)
          ∧ r.2.mem ((c.tc : Thread Cert.BeforeRefIdeal.nD Cert.BeforeRefIdeal.τ).loc Cert.BeforeRefIdeal.main_arg5) = m' ((c.tc : Thread Cert.BeforeRefIdeal.nD Cert.BeforeRefIdeal.τ).loc Cert.BeforeRefIdeal.main_arg5)
          ∧ r.2.mem ((c.tc : Thread Cert.BeforeRefIdeal.nD Cert.BeforeRefIdeal.τ).loc Cert.BeforeRefIdeal.main_arg6) = m' ((c.tc : Thread Cert.BeforeRefIdeal.nD Cert.BeforeRefIdeal.τ).loc Cert.BeforeRefIdeal.main_arg6)
          ∧ r.2.mem ((c.tc : Thread Cert.BeforeRefIdeal.nD Cert.BeforeRefIdeal.τ).loc Cert.BeforeRefIdeal.main_arg7) = m' ((c.tc : Thread Cert.BeforeRefIdeal.nD Cert.BeforeRefIdeal.τ).loc Cert.BeforeRefIdeal.main_arg7))

def Claim : Prop :=
  ∃ (hKernel : Cert.Kernel.Facts) (hKernelIdeal : Cert.KernelIdeal.Facts) (hReferenceIdeal : Cert.ReferenceIdeal.Facts) (hTop : Cert.Top.Facts) (hTopIdeal : Cert.TopIdeal.Facts) (hTopRefIdeal : Cert.TopRefIdeal.Facts) (hResTop : Cert.ResTop.Facts) (hResTopIdeal : Cert.ResTopIdeal.Facts) (hResTopRefIdeal : Cert.ResTopRefIdeal.Facts) (hResidual : Cert.Residual.Facts) (hResidualIdeal : Cert.ResidualIdeal.Facts) (hResidualRefIdeal : Cert.ResidualRefIdeal.Facts) (hProject : Cert.Project.Facts) (hProjectIdeal : Cert.ProjectIdeal.Facts) (hProjectRefIdeal : Cert.ProjectRefIdeal.Facts) (hPosSums : Cert.PosSums.Facts) (hPosSumsIdeal : Cert.PosSumsIdeal.Facts) (hPosSumsRefIdeal : Cert.PosSumsRefIdeal.Facts) (hPos : Cert.Pos.Facts) (hPosIdeal : Cert.PosIdeal.Facts) (hPosRefIdeal : Cert.PosRefIdeal.Facts) (hAttnIn : Cert.AttnIn.Facts) (hAttnInIdeal : Cert.AttnInIdeal.Facts) (hAttnInRefIdeal : Cert.AttnInRefIdeal.Facts) (hGamma : Cert.Gamma.Facts) (hGammaIdeal : Cert.GammaIdeal.Facts) (hGammaRefIdeal : Cert.GammaRefIdeal.Facts) (hAttention : Cert.Attention.Facts) (hAttentionIdeal : Cert.AttentionIdeal.Facts) (hAttentionRefIdeal : Cert.AttentionRefIdeal.Facts) (hNearest : Cert.Nearest.Facts) (hNearestIdeal : Cert.NearestIdeal.Facts) (hNearestRefIdeal : Cert.NearestRefIdeal.Facts) (hAfter : Cert.After.Facts) (hAfterIdeal : Cert.AfterIdeal.Facts) (hAfterRefIdeal : Cert.AfterRefIdeal.Facts) (hBefore : Cert.Before.Facts) (hBeforeIdeal : Cert.BeforeIdeal.Facts) (hBeforeRefIdeal : Cert.BeforeRefIdeal.Facts) (hPre_idx_in_rows : Cert.Pre_idx_in_rows.Facts) (hPre_finite_coords : Cert.Pre_finite_coords.Facts) (hPre_finite_after : Cert.Pre_finite_after.Facts) (hPre_finite_before : Cert.Pre_finite_before.Facts),
    quiescent_Kernel (hKernel := hKernel) (hPre_idx_in_rows := hPre_idx_in_rows)
    ∧ quiescent_KernelIdeal (hKernelIdeal := hKernelIdeal) (hPre_idx_in_rows := hPre_idx_in_rows)
    ∧ quiescent_ReferenceIdeal (hReferenceIdeal := hReferenceIdeal) (hPre_idx_in_rows := hPre_idx_in_rows)
    ∧ quiescent_Top (hTop := hTop)
    ∧ quiescent_TopIdeal (hTopIdeal := hTopIdeal)
    ∧ quiescent_TopRefIdeal (hTopRefIdeal := hTopRefIdeal)
    ∧ quiescent_ResTop (hResTop := hResTop)
    ∧ quiescent_ResTopIdeal (hResTopIdeal := hResTopIdeal)
    ∧ quiescent_ResTopRefIdeal (hResTopRefIdeal := hResTopRefIdeal)
    ∧ quiescent_Residual (hResidual := hResidual)
    ∧ quiescent_ResidualIdeal (hResidualIdeal := hResidualIdeal)
    ∧ quiescent_ResidualRefIdeal (hResidualRefIdeal := hResidualRefIdeal)
    ∧ quiescent_Project (hProject := hProject)
    ∧ quiescent_ProjectIdeal (hProjectIdeal := hProjectIdeal)
    ∧ quiescent_ProjectRefIdeal (hProjectRefIdeal := hProjectRefIdeal)
    ∧ quiescent_PosSums (hPosSums := hPosSums)
    ∧ quiescent_PosSumsIdeal (hPosSumsIdeal := hPosSumsIdeal)
    ∧ quiescent_PosSumsRefIdeal (hPosSumsRefIdeal := hPosSumsRefIdeal)
    ∧ quiescent_Pos (hPos := hPos)
    ∧ quiescent_PosIdeal (hPosIdeal := hPosIdeal)
    ∧ quiescent_PosRefIdeal (hPosRefIdeal := hPosRefIdeal)
    ∧ quiescent_AttnIn (hAttnIn := hAttnIn)
    ∧ quiescent_AttnInIdeal (hAttnInIdeal := hAttnInIdeal)
    ∧ quiescent_AttnInRefIdeal (hAttnInRefIdeal := hAttnInRefIdeal)
    ∧ quiescent_Gamma (hGamma := hGamma)
    ∧ quiescent_GammaIdeal (hGammaIdeal := hGammaIdeal)
    ∧ quiescent_GammaRefIdeal (hGammaRefIdeal := hGammaRefIdeal)
    ∧ quiescent_Attention (hAttention := hAttention)
    ∧ quiescent_AttentionIdeal (hAttentionIdeal := hAttentionIdeal)
    ∧ quiescent_AttentionRefIdeal (hAttentionRefIdeal := hAttentionRefIdeal)
    ∧ quiescent_Nearest (hNearest := hNearest)
    ∧ quiescent_NearestIdeal (hNearestIdeal := hNearestIdeal)
    ∧ quiescent_NearestIdeal_pre_finite_coords (hNearestIdeal := hNearestIdeal) (hPre_finite_coords := hPre_finite_coords)
    ∧ quiescent_NearestRefIdeal (hNearestRefIdeal := hNearestRefIdeal)
    ∧ quiescent_NearestRefIdeal_pre_finite_coords (hNearestRefIdeal := hNearestRefIdeal) (hPre_finite_coords := hPre_finite_coords)
    ∧ quiescent_After (hAfter := hAfter)
    ∧ quiescent_AfterIdeal (hAfterIdeal := hAfterIdeal)
    ∧ quiescent_AfterIdeal_pre_finite_after (hAfterIdeal := hAfterIdeal) (hPre_finite_after := hPre_finite_after)
    ∧ quiescent_AfterRefIdeal (hAfterRefIdeal := hAfterRefIdeal)
    ∧ quiescent_AfterRefIdeal_pre_finite_after (hAfterRefIdeal := hAfterRefIdeal) (hPre_finite_after := hPre_finite_after)
    ∧ quiescent_Before (hBefore := hBefore)
    ∧ quiescent_BeforeIdeal (hBeforeIdeal := hBeforeIdeal)
    ∧ quiescent_BeforeIdeal_pre_finite_before (hBeforeIdeal := hBeforeIdeal) (hPre_finite_before := hPre_finite_before)
    ∧ quiescent_BeforeRefIdeal (hBeforeRefIdeal := hBeforeRefIdeal)
    ∧ quiescent_BeforeRefIdeal_pre_finite_before (hBeforeRefIdeal := hBeforeRefIdeal) (hPre_finite_before := hPre_finite_before)
    ∧ preserves_Kernel_KernelIdeal
    ∧ algebraic_KernelIdeal_ReferenceIdeal (hKernelIdeal := hKernelIdeal) (hReferenceIdeal := hReferenceIdeal) (hPre_idx_in_rows := hPre_idx_in_rows)
    ∧ preserves_Top_TopIdeal
    ∧ algebraic_TopIdeal_TopRefIdeal (hTopIdeal := hTopIdeal) (hTopRefIdeal := hTopRefIdeal)
    ∧ preserves_ResTop_ResTopIdeal
    ∧ algebraic_ResTopIdeal_ResTopRefIdeal (hResTopIdeal := hResTopIdeal) (hResTopRefIdeal := hResTopRefIdeal)
    ∧ preserves_Residual_ResidualIdeal
    ∧ algebraic_ResidualIdeal_ResidualRefIdeal (hResidualIdeal := hResidualIdeal) (hResidualRefIdeal := hResidualRefIdeal)
    ∧ preserves_Project_ProjectIdeal
    ∧ algebraic_ProjectIdeal_ProjectRefIdeal (hProjectIdeal := hProjectIdeal) (hProjectRefIdeal := hProjectRefIdeal)
    ∧ preserves_PosSums_PosSumsIdeal
    ∧ algebraic_PosSumsIdeal_PosSumsRefIdeal (hPosSumsIdeal := hPosSumsIdeal) (hPosSumsRefIdeal := hPosSumsRefIdeal)
    ∧ preserves_Pos_PosIdeal
    ∧ algebraic_PosIdeal_PosRefIdeal (hPosIdeal := hPosIdeal) (hPosRefIdeal := hPosRefIdeal)
    ∧ preserves_AttnIn_AttnInIdeal
    ∧ algebraic_AttnInIdeal_AttnInRefIdeal (hAttnInIdeal := hAttnInIdeal) (hAttnInRefIdeal := hAttnInRefIdeal)
    ∧ preserves_Gamma_GammaIdeal
    ∧ algebraic_GammaIdeal_GammaRefIdeal (hGammaIdeal := hGammaIdeal) (hGammaRefIdeal := hGammaRefIdeal)
    ∧ preserves_Attention_AttentionIdeal
    ∧ algebraic_AttentionIdeal_AttentionRefIdeal (hAttentionIdeal := hAttentionIdeal) (hAttentionRefIdeal := hAttentionRefIdeal)
    ∧ preserves_Nearest_NearestIdeal
    ∧ algebraic_NearestIdeal_NearestRefIdeal_pre_finite_coords (hNearestIdeal := hNearestIdeal) (hNearestRefIdeal := hNearestRefIdeal) (hPre_finite_coords := hPre_finite_coords)
    ∧ preserves_After_AfterIdeal
    ∧ algebraic_AfterIdeal_AfterRefIdeal_pre_finite_after (hAfterIdeal := hAfterIdeal) (hAfterRefIdeal := hAfterRefIdeal) (hPre_finite_after := hPre_finite_after)
    ∧ preserves_Before_BeforeIdeal
    ∧ algebraic_BeforeIdeal_BeforeRefIdeal_pre_finite_before (hBeforeIdeal := hBeforeIdeal) (hBeforeRefIdeal := hBeforeRefIdeal) (hPre_finite_before := hPre_finite_before)
-- ==== Pre_finite_after.lean ====
abbrev S8192x128 : Shape := ⟨2, ![8192, 128]⟩
abbrev S131072x128 : Shape := ⟨2, ![131072, 128]⟩
abbrev S128x128 : Shape := ⟨2, ![128, 128]⟩
abbrev S128 : Shape := ⟨1, ![128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S131072x128 : S_.BroadcastsInDim S131072x128 (![] : Fin 0 → Fin S131072x128.rank)
  reducesTo_S131072x128_S_d0_1 : S131072x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128x128 .f32) (main_arg9 : FVec F S128x128 .f32) (main_arg10 : FVec F S128 .f32) (main_v29 : IVec S_ 1) (main_v32 : IVec S128x128 1) (main_c_12 : IVec S_ 1) : IVec S_ 1 :=
  let main_v33 : IVec S_ 1 := (fun x v => Host.reduce IntOp.andi x v reducesTo_S128x128_S_d0_1 h_S_) main_v32 main_c_12
  let main_v34 : IVec S_ 1 := andi main_v33 main_v29
  let main_v35 : FVec F S128x128 .f32 := Host.absf main_arg8
  let main_cst_13 : FVec F S_ .f32 := constant S_ .f32 0x7F800000#32
  let main_v36 : FVec F S128x128 .f32 := broadcastInDim S128x128 ![] bcast_S_S128x128 main_cst_13
  let main_v37 : IVec S128x128 1 := cmpf .olt main_v35 main_v36
  let main_c_14 : IVec S_ 1 := constantI S_ 1 1#1
  let main_v38 : IVec S_ 1 := (fun x v => Host.reduce IntOp.andi x v reducesTo_S128x128_S_d0_1 h_S_) main_v37 main_c_14
  let main_v39 : IVec S_ 1 := andi main_v38 main_v34
  let main_v40 : FVec F S128x128 .f32 := Host.absf main_arg9
  let main_cst_15 : FVec F S_ .f32 := constant S_ .f32 0x7F800000#32
  let main_v41 : FVec F S128x128 .f32 := broadcastInDim S128x128 ![] bcast_S_S128x128 main_cst_15
  let main_v42 : IVec S128x128 1 := cmpf .olt main_v40 main_v41
  let main_c_16 : IVec S_ 1 := constantI S_ 1 1#1
  let main_v43 : IVec S_ 1 := (fun x v => Host.reduce IntOp.andi x v reducesTo_S128x128_S_d0_1 h_S_) main_v42 main_c_16
  let main_v44 : IVec S_ 1 := andi main_v43 main_v39
  let main_v45 : FVec F S128 .f32 := Host.absf main_arg10
  let main_cst_17 : FVec F S_ .f32 := constant S_ .f32 0x7F800000#32
  let main_v46 : FVec F S128 .f32 := broadcastInDim S128 ![] bcast_S_S128 main_cst_17
  let main_v47 : IVec S128 1 := cmpf .olt main_v45 main_v46
  let main_c_18 : IVec S_ 1 := constantI S_ 1 1#1
  let main_v48 : IVec S_ 1 := (fun x v => Host.reduce IntOp.andi x v reducesTo_S128_S_d0 h_S_) main_v47 main_c_18
  let main_v49 : IVec S_ 1 := andi main_v48 main_v44
  main_v49

def fn_part1 {F : FTy → Type} [FloatOps F] (main_arg5 : FVec F S131072x128 .f32) (main_arg6 : FVec F S128x128 .f32) (main_arg7 : FVec F S128x128 .f32) (main_arg8 : FVec F S128x128 .f32) (main_arg9 : FVec F S128x128 .f32) (main_arg10 : FVec F S128 .f32) (main_v14 : IVec S_ 1) (main_v15 : FVec F S131072x128 .f32) (main_cst_5 : FVec F S_ .f32) : IVec S_ 1 :=
  let main_v16 : FVec F S131072x128 .f32 := broadcastInDim S131072x128 ![] bcast_S_S131072x128 main_cst_5
  let main_v17 : IVec S131072x128 1 := cmpf .olt main_v15 main_v16
  let main_c_6 : IVec S_ 1 := constantI S_ 1 1#1
  let main_v18 : IVec S_ 1 := (fun x v => Host.reduce IntOp.andi x v reducesTo_S131072x128_S_d0_1 h_S_) main_v17 main_c_6
  let main_v19 : IVec S_ 1 := andi main_v18 main_v14
  let main_v20 : FVec F S131072x128 .f32 := Host.absf main_arg5
  let main_cst_7 : FVec F S_ .f32 := constant S_ .f32 0x7F800000#32
  let main_v21 : FVec F S131072x128 .f32 := broadcastInDim S131072x128 ![] bcast_S_S131072x128 main_cst_7
  let main_v22 : IVec S131072x128 1 := cmpf .olt main_v20 main_v21
  let main_c_8 : IVec S_ 1 := constantI S_ 1 1#1
  let main_v23 : IVec S_ 1 := (fun x v => Host.reduce IntOp.andi x v reducesTo_S131072x128_S_d0_1 h_S_) main_v22 main_c_8
  let main_v24 : IVec S_ 1 := andi main_v23 main_v19
  let main_v25 : FVec F S128x128 .f32 := Host.absf main_arg6
  let main_cst_9 : FVec F S_ .f32 := constant S_ .f32 0x7F800000#32
  let main_v26 : FVec F S128x128 .f32 := broadcastInDim S128x128 ![] bcast_S_S128x128 main_cst_9
  let main_v27 : IVec S128x128 1 := cmpf .olt main_v25 main_v26
  let main_c_10 : IVec S_ 1 := constantI S_ 1 1#1
  let main_v28 : IVec S_ 1 := (fun x v => Host.reduce IntOp.andi x v reducesTo_S128x128_S_d0_1 h_S_) main_v27 main_c_10
  let main_v29 : IVec S_ 1 := andi main_v28 main_v24
  let main_v30 : FVec F S128x128 .f32 := Host.absf main_arg7
  let main_cst_11 : FVec F S_ .f32 := constant S_ .f32 0x7F800000#32
  let main_v31 : FVec F S128x128 .f32 := broadcastInDim S128x128 ![] bcast_S_S128x128 main_cst_11
  let main_v32 : IVec S128x128 1 := cmpf .olt main_v30 main_v31
  let main_c_12 : IVec S_ 1 := constantI S_ 1 1#1
  fn_part2 (F := F) main_arg8 main_arg9 main_arg10 main_v29 main_v32 main_c_12

def fn {F : FTy → Type} [FloatOps F] (main_arg0 : FVec F S8192x128 .f32) (main_arg1 : FVec F S8192x128 .f32) (main_arg2 : FVec F S131072x128 .f32) (main_arg3 : FVec F S8192x128 .f32) (main_arg4 : FVec F S131072x128 .f32) (main_arg5 : FVec F S131072x128 .f32) (main_arg6 : FVec F S128x128 .f32) (main_arg7 : FVec F S128x128 .f32) (main_arg8 : FVec F S128x128 .f32) (main_arg9 : FVec F S128x128 .f32) (main_arg10 : FVec F S128 .f32) : IVec S_ 1 :=
  let main_v0 : FVec F S8192x128 .f32 := Host.absf main_arg1
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_c_0 : IVec S_ 1 := constantI S_ 1 1#1
  let main_v4 : IVec S_ 1 := andi main_v3 main_c_0
  let main_v5 : FVec F S131072x128 .f32 := Host.absf main_arg2
  let main_cst_1 : FVec F S_ .f32 := constant S_ .f32 0x7F800000#32
  let main_v6 : FVec F S131072x128 .f32 := broadcastInDim S131072x128 ![] bcast_S_S131072x128 main_cst_1
  let main_v7 : IVec S131072x128 1 := cmpf .olt main_v5 main_v6
  let main_c_2 : IVec S_ 1 := constantI S_ 1 1#1
  let main_v8 : IVec S_ 1 := (fun x v => Host.reduce IntOp.andi x v reducesTo_S131072x128_S_d0_1 h_S_) main_v7 main_c_2
  let main_v9 : IVec S_ 1 := andi main_v8 main_v4
  let main_v10 : FVec F S8192x128 .f32 := Host.absf main_arg3
  let main_cst_3 : FVec F S_ .f32 := constant S_ .f32 0x7F800000#32
  let main_v11 : FVec F S8192x128 .f32 := broadcastInDim S8192x128 ![] bcast_S_S8192x128 main_cst_3
  let main_v12 : IVec S8192x128 1 := cmpf .olt main_v10 main_v11
  let main_c_4 : IVec S_ 1 := constantI S_ 1 1#1
  let main_v13 : IVec S_ 1 := (fun x v => Host.reduce IntOp.andi x v reducesTo_S8192x128_S_d0_1 h_S_) main_v12 main_c_4
  let main_v14 : IVec S_ 1 := andi main_v13 main_v9
  let main_v15 : FVec F S131072x128 .f32 := Host.absf main_arg4
  let main_cst_5 : FVec F S_ .f32 := constant S_ .f32 0x7F800000#32
  fn_part1 (F := F) main_arg5 main_arg6 main_arg7 main_arg8 main_arg9 main_arg10 main_v14 main_v15 main_cst_5
-- ==== Pre_finite_before.lean ====
abbrev S2x4096x3 : Shape := ⟨3, ![2, 4096, 3]⟩
abbrev S2x4096x128 : Shape := ⟨3, ![2, 4096, 128]⟩
abbrev S128x128 : Shape := ⟨2, ![128, 128]⟩
abbrev S128 : Shape := ⟨1, ![128]⟩
abbrev S3x128 : Shape := ⟨2, ![3, 128]⟩
abbrev S_ : Shape := ⟨0, ![]⟩

class Facts : Prop where
  bcast_S_S2x4096x3 : S_.BroadcastsInDim S2x4096x3 (![] : Fin 0 → Fin S2x4096x3.rank)
  reducesTo_S2x4096x3_S_d0_1_2 : S2x4096x3.ReducesTo [0, 1, 2] S_
  h_S_ : 0 < S_.numel
  bcast_S_S2x4096x128 : S_.BroadcastsInDim S2x4096x128 (![] : Fin 0 → Fin S2x4096x128.rank)
  reducesTo_S2x4096x128_S_d0_1_2 : S2x4096x128.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v14 : IVec S_ 1) (main_v15 : FVec F S128 .f32) (main_cst_5 : FVec F S_ .f32) : IVec S_ 1 :=
  let main_v16 : FVec F S128 .f32 := broadcastInDim S128 ![] bcast_S_S128 main_cst_5
  let main_v17 : IVec S128 1 := cmpf .olt main_v15 main_v16
  let main_c_6 : IVec S_ 1 := constantI S_ 1 1#1
  let main_v18 : IVec S_ 1 := (fun x v => Host.reduce IntOp.andi x v reducesTo_S128_S_d0 h_S_) main_v17 main_c_6
  let main_v19 : IVec S_ 1 := andi main_v18 main_v14
  main_v19

def fn {F : FTy → Type} [FloatOps F] (main_arg0 : FVec F S2x4096x3 .f32) (main_arg1 : FVec F S2x4096x128 .f32) (main_arg2 : FVec F S128x128 .f32) (main_arg3 : FVec F S128 .f32) (main_arg4 : FVec F S128x128 .f32) (main_arg5 : FVec F S128x128 .f32) (main_arg6 : FVec F S128x128 .f32) (main_arg7 : FVec F S3x128 .f32) : IVec S_ 1 :=
  let main_v0 : FVec F S2x4096x3 .f32 := Host.absf main_arg0
  let main_cst : FVec F S_ .f32 := constant S_ .f32 0x7F800000#32
  let main_v1 : FVec F S2x4096x3 .f32 := broadcastInDim S2x4096x3 ![] bcast_S_S2x4096x3 main_cst
  let main_v2 : IVec S2x4096x3 1 := cmpf .olt main_v0 main_v1
  let main_c : IVec S_ 1 := constantI S_ 1 1#1
  let main_v3 : IVec S_ 1 := (fun x v => Host.reduce IntOp.andi x v reducesTo_S2x4096x3_S_d0_1_2 h_S_) main_v2 main_c
  let main_c_0 : IVec S_ 1 := constantI S_ 1 1#1
  let main_v4 : IVec S_ 1 := andi main_v3 main_c_0
  let main_v5 : FVec F S2x4096x128 .f32 := Host.absf main_arg1
  let main_cst_1 : FVec F S_ .f32 := constant S_ .f32 0x7F800000#32
  let main_v6 : FVec F S2x4096x128 .f32 := broadcastInDim S2x4096x128 ![] bcast_S_S2x4096x128 main_cst_1
  let main_v7 : IVec S2x4096x128 1 := cmpf .olt main_v5 main_v6
  let main_c_2 : IVec S_ 1 := constantI S_ 1 1#1
  let main_v8 : IVec S_ 1 := (fun x v => Host.reduce IntOp.andi x v reducesTo_S2x4096x128_S_d0_1_2 h_S_) main_v7 main_c_2
  let main_v9 : IVec S_ 1 := andi main_v8 main_v4
  let main_v10 : FVec F S128x128 .f32 := Host.absf main_arg2
  let main_cst_3 : FVec F S_ .f32 := constant S_ .f32 0x7F800000#32
  let main_v11 : FVec F S128x128 .f32 := broadcastInDim S128x128 ![] bcast_S_S128x128 main_cst_3
  let main_v12 : IVec S128x128 1 := cmpf .olt main_v10 main_v11
  let main_c_4 : IVec S_ 1 := constantI S_ 1 1#1
  let main_v13 : IVec S_ 1 := (fun x v => Host.reduce IntOp.andi x v reducesTo_S128x128_S_d0_1 h_S_) main_v12 main_c_4
  let main_v14 : IVec S_ 1 := andi main_v13 main_v9
  let main_v15 : FVec F S128 .f32 := Host.absf main_arg3
  let main_cst_5 : FVec F S_ .f32 := constant S_ .f32 0x7F800000#32
  fn_part1 (F := F) main_v14 main_v15 main_cst_5
-- ==== Pre_finite_coords.lean ====
abbrev S2x4096x3 : Shape := ⟨3, ![2, 4096, 3]⟩
abbrev S_ : Shape := ⟨0, ![]⟩

class Facts : Prop where
  bcast_S_S2x4096x3 : S_.BroadcastsInDim S2x4096x3 (![] : Fin 0 → Fin S2x4096x3.rank)

variable [Facts]

def fn {F : FTy → Type} [FloatOps F] (main_arg0 : FVec F S2x4096x3 .f32) : IVec S2x4096x3 1 :=
  let main_v0 : FVec F S2x4096x3 .f32 := Host.absf main_arg0
  let main_cst : FVec F S_ .f32 := constant S_ .f32 0x7F800000#32
  let main_v1 : FVec F S2x4096x3 .f32 := broadcastInDim S2x4096x3 ![] bcast_S_S2x4096x3 main_cst
  let main_v2 : IVec S2x4096x3 1 := cmpf .olt main_v0 main_v1
  main_v2
-- ==== Pre_idx_in_rows.lean ====
abbrev S8192x128 : Shape := ⟨2, ![8192, 128]⟩
abbrev S131072 : Shape := ⟨1, ![131072]⟩
abbrev S_ : Shape := ⟨0, ![]⟩

class Facts : Prop where
  bcast_S_S131072 : S_.BroadcastsInDim S131072 (![] : Fin 0 → Fin S131072.rank)

variable [Facts]

def fn {F : FTy → Type} [FloatOps F] (main_arg0 : FVec F S8192x128 .f32) (main_arg1 : FVec F S8192x128 .f32) (main_arg2 : FVec F S8192x128 .f32) (main_arg3 : IVec S131072 32) : IVec S131072 1 :=
  let main_c : IVec S_ 32 := constantI S_ 32 0#32
  let main_v0 : IVec S131072 32 := broadcastInDim S131072 ![] bcast_S_S131072 main_c
  let main_v1 : IVec S131072 1 := cmpi .sge main_arg3 main_v0
  let main_c_0 : IVec S_ 32 := constantI S_ 32 8192#32
  let main_v2 : IVec S131072 32 := broadcastInDim S131072 ![] bcast_S_S131072 main_c_0
  let main_v3 : IVec S131072 1 := cmpi .slt main_arg3 main_v2
  let main_v4 : IVec S131072 1 := andi main_v1 main_v3
  main_v4
-- ==== Kernel.lean ====
abbrev S8192x128 : Shape := ⟨2, ![8192, 128]⟩
abbrev S131072 : Shape := ⟨1, ![131072]⟩
abbrev S131072x128 : Shape := ⟨2, ![131072, 128]⟩
abbrev S128 : Shape := ⟨1, ![128]⟩
abbrev S128x128 : Shape := ⟨2, ![128, 128]⟩
abbrev S_ : Shape := ⟨0, ![]⟩

abbrev nBuf : Table → Nat
  | .hbm => 7
  | .local .scVector .vmem => 10
  | _ => 0

abbrev bufTy : (tb : Table) → Fin (nBuf tb) → BufTy
  | .hbm, ⟨0, _⟩ => ⟨S8192x128, .f32⟩
  | .hbm, ⟨1, _⟩ => ⟨S8192x128, .f32⟩
  | .hbm, ⟨2, _⟩ => ⟨S8192x128, .f32⟩
  | .hbm, ⟨3, _⟩ => ⟨S131072, .i32⟩
  | .hbm, ⟨4, _⟩ => ⟨S131072x128, .f32⟩
  | .hbm, ⟨5, _⟩ => ⟨S131072x128, .f32⟩
  | .hbm, ⟨6, _⟩ => ⟨S131072x128, .f32⟩
  | .local .scVector .vmem, ⟨0, _⟩ => ⟨S128, .i32⟩
  | .local .scVector .vmem, ⟨1, _⟩ => ⟨S128, .i32⟩
  | .local .scVector .vmem, ⟨2, _⟩ => ⟨S128x128, .f32⟩
  | .local .scVector .vmem, ⟨3, _⟩ => ⟨S128x128, .f32⟩
  | .local .scVector .vmem, ⟨4, _⟩ => ⟨S128, .i32⟩
  | .local .scVector .vmem, ⟨5, _⟩ => ⟨S128, .i32⟩
  | .local .scVector .vmem, ⟨6, _⟩ => ⟨S128x128, .f32⟩
  | .local .scVector .vmem, ⟨7, _⟩ => ⟨S128x128, .f32⟩
  | .local .scVector .vmem, ⟨8, _⟩ => ⟨S128x128, .f32⟩
  | .local .scVector .vmem, ⟨9, _⟩ => ⟨S128x128, .f32⟩
  | _, _ => ⟨S8192x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 14 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | _ => false

abbrev sig : RefSig :=
  ofTables nBuf rfl bufTy 4 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_arg0_scv : Ref sig .scVector := ⟨.hbm, 0, rfl⟩
abbrev main_arg3_scv : Ref sig .scVector := ⟨.hbm, 3, rfl⟩
abbrev main_v0_scv : Ref sig .scVector := ⟨.hbm, 4, rfl⟩
abbrev main_arg1_scv : Ref sig .scVector := ⟨.hbm, 1, rfl⟩
abbrev main_arg2_scv : Ref sig .scVector := ⟨.hbm, 2, rfl⟩
abbrev main_v1_0_scv : Ref sig .scVector := ⟨.hbm, 5, rfl⟩
abbrev main_v1_1_scv : Ref sig .scVector := ⟨.hbm, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_scratch0 : Ref sig .scVector := ⟨.vmem, 4, rfl⟩
abbrev cc1_scratch1 : Ref sig .scVector := ⟨.vmem, 5, rfl⟩
abbrev cc1_scratch2 : Ref sig .scVector := ⟨.vmem, 6, rfl⟩
abbrev cc1_scratch3 : Ref sig .scVector := ⟨.vmem, 7, rfl⟩
abbrev cc1_scratch4 : Ref sig .scVector := ⟨.vmem, 8, rfl⟩
abbrev cc1_scratch5 : Ref sig .scVector := ⟨.vmem, 9, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  let c0_i32 : BitVec 32 := 0#32
  let v3 : BitVec 32 := Scalar.addi v2 c0_i32
  v3
def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  let c0_i32 : BitVec 32 := 0#32
  let v3 : BitVec 32 := Scalar.addi v2 c0_i32
  let v4 : BitVec 32 := v3
  ![v4.toNat]
@[reducible] def k0_t1_loop : Scf.Loop 32 :=
  let c0_i32_3 : BitVec 32 := 0#32
  let c16_i32 : BitVec 32 := 16#32
  let v6 : BitVec 32 := Scalar.addi c0_i32_3 c16_i32
  let c1_i32 : BitVec 32 := 1#32
  ⟨c0_i32_3, v6, c1_i32⟩
def k0_mult2 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  let c2_i32_5 : BitVec 32 := 2#32
  let c0_i32_3 : BitVec 32 := 0#32
  let c1_i32 : BitVec 32 := 1#32
  let arg13 : BitVec 32 := Scf.iv c0_i32_3 c1_i32 k0_t1
  let v7 : BitVec 32 := Scalar.muli c2_i32_5 arg13
  let c1_i32_6 : BitVec 32 := 1#32
  let v8 : BitVec 32 := Scalar.addi v7 c1_i32_6
  let c128_i32 : BitVec 32 := 128#32
  let v9 : BitVec 32 := Scalar.muli v8 c128_i32
  let v10 : BitVec 32 := Scalar.addi v2 v9
  v10
def k0_off2 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  let c2_i32_5 : BitVec 32 := 2#32
  let c0_i32_3 : BitVec 32 := 0#32
  let c1_i32 : BitVec 32 := 1#32
  let arg13 : BitVec 32 := Scf.iv c0_i32_3 c1_i32 k0_t1
  let v7 : BitVec 32 := Scalar.muli c2_i32_5 arg13
  let c1_i32_6 : BitVec 32 := 1#32
  let v8 : BitVec 32 := Scalar.addi v7 c1_i32_6
  let c128_i32 : BitVec 32 := 128#32
  let v9 : BitVec 32 := Scalar.muli v8 c128_i32
  let v10 : BitVec 32 := Scalar.addi v2 v9
  let v11 : BitVec 32 := v10
  ![v11.toNat]
def k0_mult3 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  let c2_i32_5 : BitVec 32 := 2#32
  let c0_i32_3 : BitVec 32 := 0#32
  let c1_i32 : BitVec 32 := 1#32
  let arg13 : BitVec 32 := Scf.iv c0_i32_3 c1_i32 k0_t1
  let v7 : BitVec 32 := Scalar.muli c2_i32_5 arg13
  let c128_i32_11 : BitVec 32 := 128#32
  let v14 : BitVec 32 := Scalar.muli v7 c128_i32_11
  let v15 : BitVec 32 := Scalar.addi v2 v14
  v15
def k0_off3 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  let c2_i32_5 : BitVec 32 := 2#32
  let c0_i32_3 : BitVec 32 := 0#32
  let c1_i32 : BitVec 32 := 1#32
  let arg13 : BitVec 32 := Scf.iv c0_i32_3 c1_i32 k0_t1
  let v7 : BitVec 32 := Scalar.muli c2_i32_5 arg13
  let c128_i32_11 : BitVec 32 := 128#32
  let v14 : BitVec 32 := Scalar.muli v7 c128_i32_11
  let v15 : BitVec 32 := Scalar.addi v2 v14
  let v16 : BitVec 32 := v15
  let c0_i32_12 : BitVec 32 := 0#32
  ![v16.toNat, 0]
def k0_mult4 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  let c2_i32_5 : BitVec 32 := 2#32
  let c0_i32_3 : BitVec 32 := 0#32
  let c1_i32 : BitVec 32 := 1#32
  let arg13 : BitVec 32 := Scf.iv c0_i32_3 c1_i32 k0_t1
  let v7 : BitVec 32 := Scalar.muli c2_i32_5 arg13
  let c128_i32_14 : BitVec 32 := 128#32
  let v19 : BitVec 32 := Scalar.muli v7 c128_i32_14
  let v20 : BitVec 32 := Scalar.addi v2 v19
  v20
def k0_cond1 (k0_t1 : Fin k0_t1_loop.trips) : BitVec 1 :=
  let c0_i32_3 : BitVec 32 := 0#32
  let c1_i32 : BitVec 32 := 1#32
  let arg13 : BitVec 32 := Scf.iv c0_i32_3 c1_i32 k0_t1
  let c1_i32_17 : BitVec 32 := 1#32
  let v24 : BitVec 32 := Scalar.addi arg13 c1_i32_17
  let c16_i32_18 : BitVec 32 := 16#32
  let v25 : BitVec 1 := Scalar.cmpi .slt v24 c16_i32_18
  let v26 : BitVec 32 := Scalar.extui v25
  let c0_i32_19 : BitVec 32 := 0#32
  let v27 : BitVec 1 := Scalar.cmpi .ne v26 c0_i32_19
  v27

def k0_mult5 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  let c2_i32_5 : BitVec 32 := 2#32
  let c0_i32_3 : BitVec 32 := 0#32
  let c1_i32 : BitVec 32 := 1#32
  let arg13 : BitVec 32 := Scf.iv c0_i32_3 c1_i32 k0_t1
  let v7 : BitVec 32 := Scalar.muli c2_i32_5 arg13
  let c2_i32_30 : BitVec 32 := 2#32
  let v41 : BitVec 32 := Scalar.addi v7 c2_i32_30
  let c128_i32_31 : BitVec 32 := 128#32
  let v42 : BitVec 32 := Scalar.muli v41 c128_i32_31
  let v43 : BitVec 32 := Scalar.addi v2 v42
  v43
def k0_off4 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  let c2_i32_5 : BitVec 32 := 2#32
  let c0_i32_3 : BitVec 32 := 0#32
  let c1_i32 : BitVec 32 := 1#32
  let arg13 : BitVec 32 := Scf.iv c0_i32_3 c1_i32 k0_t1
  let v7 : BitVec 32 := Scalar.muli c2_i32_5 arg13
  let c2_i32_30 : BitVec 32 := 2#32
  let v41 : BitVec 32 := Scalar.addi v7 c2_i32_30
  let c128_i32_31 : BitVec 32 := 128#32
  let v42 : BitVec 32 := Scalar.muli v41 c128_i32_31
  let v43 : BitVec 32 := Scalar.addi v2 v42
  let v44 : BitVec 32 := v43
  ![v44.toNat]
def k0_mult6 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  let c2_i32_5 : BitVec 32 := 2#32
  let c0_i32_3 : BitVec 32 := 0#32
  let c1_i32 : BitVec 32 := 1#32
  let arg13 : BitVec 32 := Scf.iv c0_i32_3 c1_i32 k0_t1
  let v7 : BitVec 32 := Scalar.muli c2_i32_5 arg13
  let c1_i32_20 : BitVec 32 := 1#32
  let v28 : BitVec 32 := Scalar.addi v7 c1_i32_20
  let c128_i32_23 : BitVec 32 := 128#32
  let v30 : BitVec 32 := Scalar.muli v28 c128_i32_23
  let v31 : BitVec 32 := Scalar.addi v2 v30
  v31
def k0_off5 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  let c2_i32_5 : BitVec 32 := 2#32
  let c0_i32_3 : BitVec 32 := 0#32
  let c1_i32 : BitVec 32 := 1#32
  let arg13 : BitVec 32 := Scf.iv c0_i32_3 c1_i32 k0_t1
  let v7 : BitVec 32 := Scalar.muli c2_i32_5 arg13
  let c1_i32_20 : BitVec 32 := 1#32
  let v28 : BitVec 32 := Scalar.addi v7 c1_i32_20
  let c128_i32_23 : BitVec 32 := 128#32
  let v30 : BitVec 32 := Scalar.muli v28 c128_i32_23
  let v31 : BitVec 32 := Scalar.addi v2 v30
  let v32 : BitVec 32 := v31
  let c0_i32_24 : BitVec 32 := 0#32
  ![v32.toNat, 0]
def k0_mult7 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  let c2_i32_5 : BitVec 32 := 2#32
  let c0_i32_3 : BitVec 32 := 0#32
  let c1_i32 : BitVec 32 := 1#32
  let arg13 : BitVec 32 := Scf.iv c0_i32_3 c1_i32 k0_t1
  let v7 : BitVec 32 := Scalar.muli c2_i32_5 arg13
  let c1_i32_26 : BitVec 32 := 1#32
  let v35 : BitVec 32 := Scalar.addi v7 c1_i32_26
  let c128_i32_27 : BitVec 32 := 128#32
  let v36 : BitVec 32 := Scalar.muli v35 c128_i32_27
  let v37 : BitVec 32 := Scalar.addi v2 v36
  v37
abbrev grid1 : Pipeline.Grid := ⟨2, ![2, 16], ![false, false]⟩

def k1_mult1 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  let c0_i32 : BitVec 32 := 0#32
  let v3 : BitVec 32 := Scalar.addi v2 c0_i32
  v3
def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  let c0_i32 : BitVec 32 := 0#32
  let v3 : BitVec 32 := Scalar.addi v2 c0_i32
  let v4 : BitVec 32 := v3
  ![v4.toNat]
@[reducible] def k1_t1_loop : Scf.Loop 32 :=
  let c0_i32_5 : BitVec 32 := 0#32
  let c16_i32 : BitVec 32 := 16#32
  let v7 : BitVec 32 := Scalar.addi c0_i32_5 c16_i32
  let c1_i32 : BitVec 32 := 1#32
  ⟨c0_i32_5, v7, c1_i32⟩
def k1_mult2 (i : grid1.Coords) (k1_t1 : Fin k1_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  let c2_i32_7 : BitVec 32 := 2#32
  let c0_i32_5 : BitVec 32 := 0#32
  let c1_i32 : BitVec 32 := 1#32
  let arg17 : BitVec 32 := Scf.iv c0_i32_5 c1_i32 k1_t1
  let v8 : BitVec 32 := Scalar.muli c2_i32_7 arg17
  let c1_i32_8 : BitVec 32 := 1#32
  let v9 : BitVec 32 := Scalar.addi v8 c1_i32_8
  let c128_i32 : BitVec 32 := 128#32
  let v10 : BitVec 32 := Scalar.muli v9 c128_i32
  let v11 : BitVec 32 := Scalar.addi v2 v10
  v11
def k1_off2 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  let c2_i32_7 : BitVec 32 := 2#32
  let c0_i32_5 : BitVec 32 := 0#32
  let c1_i32 : BitVec 32 := 1#32
  let arg17 : BitVec 32 := Scf.iv c0_i32_5 c1_i32 k1_t1
  let v8 : BitVec 32 := Scalar.muli c2_i32_7 arg17
  let c1_i32_8 : BitVec 32 := 1#32
  let v9 : BitVec 32 := Scalar.addi v8 c1_i32_8
  let c128_i32 : BitVec 32 := 128#32
  let v10 : BitVec 32 := Scalar.muli v9 c128_i32
  let v11 : BitVec 32 := Scalar.addi v2 v10
  let v12 : BitVec 32 := v11
  ![v12.toNat]
def k1_mult3 (i : grid1.Coords) (k1_t1 : Fin k1_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  let c2_i32_7 : BitVec 32 := 2#32
  let c0_i32_5 : BitVec 32 := 0#32
  let c1_i32 : BitVec 32 := 1#32
  let arg17 : BitVec 32 := Scf.iv c0_i32_5 c1_i32 k1_t1
  let v8 : BitVec 32 := Scalar.muli c2_i32_7 arg17
  let c128_i32_17 : BitVec 32 := 128#32
  let v17 : BitVec 32 := Scalar.muli v8 c128_i32_17
  let v18 : BitVec 32 := Scalar.addi v2 v17
  v18
def k1_off3 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  let c2_i32_7 : BitVec 32 := 2#32
  let c0_i32_5 : BitVec 32 := 0#32
  let c1_i32 : BitVec 32 := 1#32
  let arg17 : BitVec 32 := Scf.iv c0_i32_5 c1_i32 k1_t1
  let v8 : BitVec 32 := Scalar.muli c2_i32_7 arg17
  let c128_i32_17 : BitVec 32 := 128#32
  let v17 : BitVec 32 := Scalar.muli v8 c128_i32_17
  let v18 : BitVec 32 := Scalar.addi v2 v17
  let v19 : BitVec 32 := v18
  let c0_i32_18 : BitVec 32 := 0#32
  ![v19.toNat, 0]
def k1_mult4 (i : grid1.Coords) (k1_t1 : Fin k1_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  let c2_i32_7 : BitVec 32 := 2#32
  let c0_i32_5 : BitVec 32 := 0#32
  let c1_i32 : BitVec 32 := 1#32
  let arg17 : BitVec 32 := Scf.iv c0_i32_5 c1_i32 k1_t1
  let v8 : BitVec 32 := Scalar.muli c2_i32_7 arg17
  let c128_i32_20 : BitVec 32 := 128#32
  let v22 : BitVec 32 := Scalar.muli v8 c128_i32_20
  let v23 : BitVec 32 := Scalar.addi v2 v22
  v23
def k1_mult5 (i : grid1.Coords) (k1_t1 : Fin k1_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  let c2_i32_7 : BitVec 32 := 2#32
  let c0_i32_5 : BitVec 32 := 0#32
  let c1_i32 : BitVec 32 := 1#32
  let arg17 : BitVec 32 := Scf.iv c0_i32_5 c1_i32 k1_t1
  let v8 : BitVec 32 := Scalar.muli c2_i32_7 arg17
  let c128_i32_23 : BitVec 32 := 128#32
  let v27 : BitVec 32 := Scalar.muli v8 c128_i32_23
  let v28 : BitVec 32 := Scalar.addi v2 v27
  v28
def k1_mult6 (i : grid1.Coords) (k1_t1 : Fin k1_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  let c2_i32_7 : BitVec 32 := 2#32
  let c0_i32_5 : BitVec 32 := 0#32
  let c1_i32 : BitVec 32 := 1#32
  let arg17 : BitVec 32 := Scf.iv c0_i32_5 c1_i32 k1_t1
  let v8 : BitVec 32 := Scalar.muli c2_i32_7 arg17
  let c128_i32_26 : BitVec 32 := 128#32
  let v32 : BitVec 32 := Scalar.muli v8 c128_i32_26
  let v33 : BitVec 32 := Scalar.addi v2 v32
  v33
def k1_cond1 (k1_t1 : Fin k1_t1_loop.trips) : BitVec 1 :=
  let c0_i32_5 : BitVec 32 := 0#32
  let c1_i32 : BitVec 32 := 1#32
  let arg17 : BitVec 32 := Scf.iv c0_i32_5 c1_i32 k1_t1
  let c1_i32_29 : BitVec 32 := 1#32
  let v37 : BitVec 32 := Scalar.addi arg17 c1_i32_29
  let c16_i32_30 : BitVec 32 := 16#32
  let v38 : BitVec 1 := Scalar.cmpi .slt v37 c16_i32_30
  let v39 : BitVec 32 := Scalar.extui v38
  let c0_i32_31 : BitVec 32 := 0#32
  let v40 : BitVec 1 := Scalar.cmpi .ne v39 c0_i32_31
  v40

def k1_mult7 (i : grid1.Coords) (k1_t1 : Fin k1_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  let c2_i32_7 : BitVec 32 := 2#32
  let c0_i32_5 : BitVec 32 := 0#32
  let c1_i32 : BitVec 32 := 1#32
  let arg17 : BitVec 32 := Scf.iv c0_i32_5 c1_i32 k1_t1
  let v8 : BitVec 32 := Scalar.muli c2_i32_7 arg17
  let c2_i32_50 : BitVec 32 := 2#32
  let v65 : BitVec 32 := Scalar.addi v8 c2_i32_50
  let c128_i32_51 : BitVec 32 := 128#32
  let v66 : BitVec 32 := Scalar.muli v65 c128_i32_51
  let v67 : BitVec 32 := Scalar.addi v2 v66
  v67
def k1_off4 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  let c2_i32_7 : BitVec 32 := 2#32
  let c0_i32_5 : BitVec 32 := 0#32
  let c1_i32 : BitVec 32 := 1#32
  let arg17 : BitVec 32 := Scf.iv c0_i32_5 c1_i32 k1_t1
  let v8 : BitVec 32 := Scalar.muli c2_i32_7 arg17
  let c2_i32_50 : BitVec 32 := 2#32
  let v65 : BitVec 32 := Scalar.addi v8 c2_i32_50
  let c128_i32_51 : BitVec 32 := 128#32
  let v66 : BitVec 32 := Scalar.muli v65 c128_i32_51
  let v67 : BitVec 32 := Scalar.addi v2 v66
  let v68 : BitVec 32 := v67
  ![v68.toNat]
def k1_mult8 (i : grid1.Coords) (k1_t1 : Fin k1_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  let c2_i32_7 : BitVec 32 := 2#32
  let c0_i32_5 : BitVec 32 := 0#32
  let c1_i32 : BitVec 32 := 1#32
  let arg17 : BitVec 32 := Scf.iv c0_i32_5 c1_i32 k1_t1
  let v8 : BitVec 32 := Scalar.muli c2_i32_7 arg17
  let c1_i32_32 : BitVec 32 := 1#32
  let v41 : BitVec 32 := Scalar.addi v8 c1_i32_32
  let c128_i32_37 : BitVec 32 := 128#32
  let v44 : BitVec 32 := Scalar.muli v41 c128_i32_37
  let v45 : BitVec 32 := Scalar.addi v2 v44
  v45
def k1_off5 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  let c2_i32_7 : BitVec 32 := 2#32
  let c0_i32_5 : BitVec 32 := 0#32
  let c1_i32 : BitVec 32 := 1#32
  let arg17 : BitVec 32 := Scf.iv c0_i32_5 c1_i32 k1_t1
  let v8 : BitVec 32 := Scalar.muli c2_i32_7 arg17
  let c1_i32_32 : BitVec 32 := 1#32
  let v41 : BitVec 32 := Scalar.addi v8 c1_i32_32
  let c128_i32_37 : BitVec 32 := 128#32
  let v44 : BitVec 32 := Scalar.muli v41 c128_i32_37
  let v45 : BitVec 32 := Scalar.addi v2 v44
  let v46 : BitVec 32 := v45
  let c0_i32_38 : BitVec 32 := 0#32
  ![v46.toNat, 0]
def k1_mult9 (i : grid1.Coords) (k1_t1 : Fin k1_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  let c2_i32_7 : BitVec 32 := 2#32
  let c0_i32_5 : BitVec 32 := 0#32
  let c1_i32 : BitVec 32 := 1#32
  let arg17 : BitVec 32 := Scf.iv c0_i32_5 c1_i32 k1_t1
  let v8 : BitVec 32 := Scalar.muli c2_i32_7 arg17
  let c1_i32_32 : BitVec 32 := 1#32
  let v41 : BitVec 32 := Scalar.addi v8 c1_i32_32
  let c128_i32_40 : BitVec 32 := 128#32
  let v49 : BitVec 32 := Scalar.muli v41 c128_i32_40
  let v50 : BitVec 32 := Scalar.addi v2 v49
  v50
def k1_mult10 (i : grid1.Coords) (k1_t1 : Fin k1_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  let c2_i32_7 : BitVec 32 := 2#32
  let c0_i32_5 : BitVec 32 := 0#32
  let c1_i32 : BitVec 32 := 1#32
  let arg17 : BitVec 32 := Scf.iv c0_i32_5 c1_i32 k1_t1
  let v8 : BitVec 32 := Scalar.muli c2_i32_7 arg17
  let c1_i32_43 : BitVec 32 := 1#32
  let v54 : BitVec 32 := Scalar.addi v8 c1_i32_43
  let c128_i32_44 : BitVec 32 := 128#32
  let v55 : BitVec 32 := Scalar.muli v54 c128_i32_44
  let v56 : BitVec 32 := Scalar.addi v2 v55
  v56
def k1_mult11 (i : grid1.Coords) (k1_t1 : Fin k1_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  let c2_i32_7 : BitVec 32 := 2#32
  let c0_i32_5 : BitVec 32 := 0#32
  let c1_i32 : BitVec 32 := 1#32
  let arg17 : BitVec 32 := Scf.iv c0_i32_5 c1_i32 k1_t1
  let v8 : BitVec 32 := Scalar.muli c2_i32_7 arg17
  let c1_i32_43 : BitVec 32 := 1#32
  let v54 : BitVec 32 := Scalar.addi v8 c1_i32_43
  let c128_i32_47 : BitVec 32 := 128#32
  let v60 : BitVec 32 := Scalar.muli v54 c128_i32_47
  let v61 : BitVec 32 := Scalar.addi v2 v60
  v61
abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S8192x128 : Shape := ⟨2, ![8192, 128]⟩
abbrev S131072 : Shape := ⟨1, ![131072]⟩
abbrev S_ : Shape := ⟨0, ![]⟩
abbrev S131072x1 : Shape := ⟨2, ![131072, 1]⟩
abbrev S131072x128 : Shape := ⟨2, ![131072, 128]⟩

abbrev nBuf : Space → Nat
  | .hbm => 31
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x128, .f32⟩
  | .hbm, ⟨3, _⟩ => ⟨S131072, .i32⟩
  | .hbm, ⟨4, _⟩ => ⟨S_, .i32⟩
  | .hbm, ⟨5, _⟩ => ⟨S131072, .i32⟩
  | .hbm, ⟨6, _⟩ => ⟨S131072, .i1⟩
  | .hbm, ⟨7, _⟩ => ⟨S_, .i32⟩
  | .hbm, ⟨8, _⟩ => ⟨S131072, .i32⟩
  | .hbm, ⟨9, _⟩ => ⟨S131072, .i32⟩
  | .hbm, ⟨10, _⟩ => ⟨S131072, .i32⟩
  | .hbm, ⟨11, _⟩ => ⟨S131072x1, .i32⟩
  | .hbm, ⟨12, _⟩ => ⟨S131072x128, .f32⟩
  | .hbm, ⟨13, _⟩ => ⟨S_, .i32⟩
  | .hbm, ⟨14, _⟩ => ⟨S131072, .i32⟩
  | .hbm, ⟨15, _⟩ => ⟨S131072, .i1⟩
  | .hbm, ⟨16, _⟩ => ⟨S_, .i32⟩
  | .hbm, ⟨17, _⟩ => ⟨S131072, .i32⟩
  | .hbm, ⟨18, _⟩ => ⟨S131072, .i32⟩
  | .hbm, ⟨19, _⟩ => ⟨S131072, .i32⟩
  | .hbm, ⟨20, _⟩ => ⟨S131072x1, .i32⟩
  | .hbm, ⟨21, _⟩ => ⟨S131072x128, .f32⟩
  | .hbm, ⟨22, _⟩ => ⟨S_, .i32⟩
  | .hbm, ⟨23, _⟩ => ⟨S131072, .i32⟩
  | .hbm, ⟨24, _⟩ => ⟨S131072, .i1⟩
  | .hbm, ⟨25, _⟩ => ⟨S_, .i32⟩
  | .hbm, ⟨26, _⟩ => ⟨S131072, .i32⟩
  | .hbm, ⟨27, _⟩ => ⟨S131072, .i32⟩
  | .hbm, ⟨28, _⟩ => ⟨S131072, .i32⟩
  | .hbm, ⟨29, _⟩ => ⟨S131072x1, .i32⟩
  | .hbm, ⟨30, _⟩ => ⟨S131072x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_3 : Ref sig .tc := ⟨.hbm, 22, rfl⟩
abbrev main_v14 : Ref sig .tc := ⟨.hbm, 23, rfl⟩
abbrev main_v15 : Ref sig .tc := ⟨.hbm, 24, rfl⟩
abbrev main_c_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]
-- ==== Top.lean ====
abbrev S8192x128 : Shape := ⟨2, ![8192, 128]⟩
abbrev S128x128 : Shape := ⟨2, ![128, 128]⟩
abbrev S1x128 : Shape := ⟨2, ![1, 128]⟩
abbrev S512x128 : Shape := ⟨2, ![512, 128]⟩
abbrev S128 : Shape := ⟨1, ![128]⟩

abbrev nBuf : Space → Nat
  | .hbm => 6
  | .vmem => 8
  | .smem => 0
  | _ => 0

abbrev bufTy : (tb : Table) → Fin (tcTables nBuf tb) → BufTy
  | .hbm, ⟨0, _⟩ => ⟨S8192x128, .f32⟩
  | .hbm, ⟨1, _⟩ => ⟨S128x128, .f32⟩
  | .hbm, ⟨2, _⟩ => ⟨S1x128, .f32⟩
  | .hbm, ⟨3, _⟩ => ⟨S8192x128, .f32⟩
  | .hbm, ⟨4, _⟩ => ⟨S1x128, .f32⟩
  | .hbm, ⟨5, _⟩ => ⟨S1x128, .f32⟩
  | .local _ .vmem, ⟨0, _⟩ => ⟨S512x128, .f32⟩
  | .local _ .vmem, ⟨1, _⟩ => ⟨S512x128, .f32⟩
  | .local _ .vmem, ⟨2, _⟩ => ⟨S128x128, .f32⟩
  | .local _ .vmem, ⟨3, _⟩ => ⟨S1x128, .f32⟩
  | .local _ .vmem, ⟨4, _⟩ => ⟨S512x128, .f32⟩
  | .local _ .vmem, ⟨5, _⟩ => ⟨S512x128, .f32⟩
  | .local _ .vmem, ⟨6, _⟩ => ⟨S1x128, .f32⟩
  | .local _ .vmem, ⟨7, _⟩ => ⟨S1x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== TopRefIdeal.lean ====
abbrev S8192x128 : Shape := ⟨2, ![8192, 128]⟩
abbrev S128x128 : Shape := ⟨2, ![128, 128]⟩
abbrev S1x128 : Shape := ⟨2, ![1, 128]⟩
abbrev S_ : Shape := ⟨0, ![]⟩
abbrev S128 : Shape := ⟨1, ![128]⟩

abbrev nBuf : Space → Nat
  | .hbm => 13
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S128x128, .f32⟩
  | .hbm, ⟨2, _⟩ => ⟨S1x128, .f32⟩
  | .hbm, ⟨3, _⟩ => ⟨S8192x128, .f32⟩
  | .hbm, ⟨4, _⟩ => ⟨S8192x128, .f32⟩
  | .hbm, ⟨5, _⟩ => ⟨S8192x128, .f32⟩
  | .hbm, ⟨6, _⟩ => ⟨S_, .f32⟩
  | .hbm, ⟨7, _⟩ => ⟨S128, .f32⟩
  | .hbm, ⟨8, _⟩ => ⟨S1x128, .f32⟩
  | .hbm, ⟨9, _⟩ => ⟨S8192x128, .f32⟩
  | .hbm, ⟨10, _⟩ => ⟨S_, .f32⟩
  | .hbm, ⟨11, _⟩ => ⟨S128, .f32⟩
  | .hbm, ⟨12, _⟩ => ⟨S1x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== ResTop.lean ====
abbrev S8192x128 : Shape := ⟨2, ![8192, 128]⟩
abbrev S1x128 : Shape := ⟨2, ![1, 128]⟩
abbrev S128x128 : Shape := ⟨2, ![128, 128]⟩
abbrev S512x128 : Shape := ⟨2, ![512, 128]⟩
abbrev S128 : Shape := ⟨1, ![128]⟩

abbrev nBuf : Space → Nat
  | .hbm => 10
  | .vmem => 14
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S1x128, .f32⟩
  | .hbm, ⟨3, _⟩ => ⟨S1x128, .f32⟩
  | .hbm, ⟨4, _⟩ => ⟨S128x128, .f32⟩
  | .hbm, ⟨5, _⟩ => ⟨S1x128, .f32⟩
  | .hbm, ⟨6, _⟩ => ⟨S8192x128, .f32⟩
  | .hbm, ⟨7, _⟩ => ⟨S8192x128, .f32⟩
  | .hbm, ⟨8, _⟩ => ⟨S1x128, .f32⟩
  | .hbm, ⟨9, _⟩ => ⟨S1x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S1x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S1x128, .f32⟩
  | .local _ .vmem, ⟨13, _⟩ => ⟨S1x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ResTopRefIdeal.lean ====
abbrev S8192x128 : Shape := ⟨2, ![8192, 128]⟩
abbrev S1x128 : Shape := ⟨2, ![1, 128]⟩
abbrev S128x128 : Shape := ⟨2, ![128, 128]⟩
abbrev S128 : Shape := ⟨1, ![128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S1x128, .f32⟩
  | .hbm, ⟨3, _⟩ => ⟨S1x128, .f32⟩
  | .hbm, ⟨4, _⟩ => ⟨S128x128, .f32⟩
  | .hbm, ⟨5, _⟩ => ⟨S1x128, .f32⟩
  | .hbm, ⟨6, _⟩ => ⟨S128, .f32⟩
  | .hbm, ⟨7, _⟩ => ⟨S_, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S_, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S1x128, .f32⟩
  | .hbm, ⟨17, _⟩ => ⟨S8192x128, .f32⟩
  | .hbm, ⟨18, _⟩ => ⟨S8192x128, .f32⟩
  | .hbm, ⟨19, _⟩ => ⟨S_, .f32⟩
  | .hbm, ⟨20, _⟩ => ⟨S128, .f32⟩
  | .hbm, ⟨21, _⟩ => ⟨S128, .f32⟩
  | .hbm, ⟨22, _⟩ => ⟨S128, .f32⟩
  | .hbm, ⟨23, _⟩ => ⟨S1x128, .f32⟩
  | .hbm, ⟨24, _⟩ => ⟨S8192x128, .f32⟩
  | .hbm, ⟨25, _⟩ => ⟨S8192x128, .f32⟩
  | .hbm, ⟨26, _⟩ => ⟨S8192x128, .f32⟩
  | .hbm, ⟨27, _⟩ => ⟨S8192x128, .f32⟩
  | .hbm, ⟨28, _⟩ => ⟨S8192x128, .f32⟩
  | .hbm, ⟨29, _⟩ => ⟨S8192x128, .f32⟩
  | .hbm, ⟨30, _⟩ => ⟨S_, .f32⟩
  | .hbm, ⟨31, _⟩ => ⟨S128, .f32⟩
  | .hbm, ⟨32, _⟩ => ⟨S1x128, .f32⟩
  | .hbm, ⟨33, _⟩ => ⟨S8192x128, .f32⟩
  | .hbm, ⟨34, _⟩ => ⟨S_, .f32⟩
  | .hbm, ⟨35, _⟩ => ⟨S128, .f32⟩
  | .hbm, ⟨36, _⟩ => ⟨S1x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]
-- ==== Residual.lean ====
abbrev S8192x128 : Shape := ⟨2, ![8192, 128]⟩
abbrev S1x128 : Shape := ⟨2, ![1, 128]⟩
abbrev S512x128 : Shape := ⟨2, ![512, 128]⟩

abbrev nBuf : Space → Nat
  | .hbm => 5
  | .vmem => 8
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S1x128, .f32⟩
  | .hbm, ⟨3, _⟩ => ⟨S1x128, .f32⟩
  | .hbm, ⟨4, _⟩ => ⟨S8192x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S1x128, .f32⟩
  | .local _ .vmem, ⟨5, _⟩ => ⟨S1x128, .f32⟩
  | .local _ .vmem, ⟨6, _⟩ => ⟨S512x128, .f32⟩
  | .local _ .vmem, ⟨7, _⟩ => ⟨S512x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ResidualRefIdeal.lean ====
abbrev S8192x128 : Shape := ⟨2, ![8192, 128]⟩
abbrev S1x128 : Shape := ⟨2, ![1, 128]⟩
abbrev S128 : Shape := ⟨1, ![128]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S1x128, .f32⟩
  | .hbm, ⟨3, _⟩ => ⟨S1x128, .f32⟩
  | .hbm, ⟨4, _⟩ => ⟨S128, .f32⟩
  | .hbm, ⟨5, _⟩ => ⟨S_, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S_, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S1x128, .f32⟩
  | .hbm, ⟨15, _⟩ => ⟨S8192x128, .f32⟩
  | .hbm, ⟨16, _⟩ => ⟨S8192x128, .f32⟩
  | .hbm, ⟨17, _⟩ => ⟨S_, .f32⟩
  | .hbm, ⟨18, _⟩ => ⟨S128, .f32⟩
  | .hbm, ⟨19, _⟩ => ⟨S128, .f32⟩
  | .hbm, ⟨20, _⟩ => ⟨S128, .f32⟩
  | .hbm, ⟨21, _⟩ => ⟨S1x128, .f32⟩
  | .hbm, ⟨22, _⟩ => ⟨S8192x128, .f32⟩
  | .hbm, ⟨23, _⟩ => ⟨S8192x128, .f32⟩
  | .hbm, ⟨24, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Project.lean ====
abbrev S8192x128 : Shape := ⟨2, ![8192, 128]⟩
abbrev S1x128 : Shape := ⟨2, ![1, 128]⟩
abbrev S8192x8 : Shape := ⟨2, ![8192, 8]⟩
abbrev S128x128 : Shape := ⟨2, ![128, 128]⟩
abbrev S8x128 : Shape := ⟨2, ![8, 128]⟩
abbrev S512x128 : Shape := ⟨2, ![512, 128]⟩
abbrev S512x8 : Shape := ⟨2, ![512, 8]⟩
abbrev S512x1 : Shape := ⟨2, ![512, 1]⟩

abbrev nBuf : Space → Nat
  | .hbm => 12
  | .vmem => 18
  | .smem => 0
  | _ => 0

abbrev bufTy : (tb : Table) → Fin (tcTables nBuf tb) → BufTy
  | .hbm, ⟨0, _⟩ => ⟨S8192x128, .f32⟩
  | .hbm, ⟨1, _⟩ => ⟨S1x128, .f32⟩
  | .hbm, ⟨2, _⟩ => ⟨S1x128, .f32⟩
  | .hbm, ⟨3, _⟩ => ⟨S8192x8, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S8x128, .f32⟩
  | .hbm, ⟨8, _⟩ => ⟨S8192x128, .f32⟩
  | .hbm, ⟨9, _⟩ => ⟨S8192x128, .f32⟩
  | .hbm, ⟨10, _⟩ => ⟨S8192x128, .f32⟩
  | .hbm, ⟨11, _⟩ => ⟨S8192x128, .f32⟩
  | .local _ .vmem, ⟨0, _⟩ => ⟨S512x128, .f32⟩
  | .local _ .vmem, ⟨1, _⟩ => ⟨S512x128, .f32⟩
  | .local _ .vmem, ⟨2, _⟩ => ⟨S1x128, .f32⟩
  | .local _ .vmem, ⟨3, _⟩ => ⟨S1x128, .f32⟩
  | .local _ .vmem, ⟨4, _⟩ => ⟨S512x8, .f32⟩
  | .local _ .vmem, ⟨5, _⟩ => ⟨S512x8, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S8x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ProjectRefIdeal.lean ====
abbrev S8192x128 : Shape := ⟨2, ![8192, 128]⟩
abbrev S1x128 : Shape := ⟨2, ![1, 128]⟩
abbrev S8192x8 : Shape := ⟨2, ![8192, 8]⟩
abbrev S128x128 : Shape := ⟨2, ![128, 128]⟩
abbrev S8x128 : Shape := ⟨2, ![8, 128]⟩
abbrev S128 : Shape := ⟨1, ![128]⟩
abbrev S_ : Shape := ⟨0, ![]⟩
abbrev S8192x3 : Shape := ⟨2, ![8192, 3]⟩
abbrev S3x128 : Shape := ⟨2, ![3, 128]⟩

abbrev nBuf : Space → Nat
  | .hbm => 34
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S1x128, .f32⟩
  | .hbm, ⟨2, _⟩ => ⟨S1x128, .f32⟩
  | .hbm, ⟨3, _⟩ => ⟨S8192x8, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S8x128, .f32⟩
  | .hbm, ⟨8, _⟩ => ⟨S128, .f32⟩
  | .hbm, ⟨9, _⟩ => ⟨S_, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S_, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S128, .f32⟩
  | .hbm, ⟨18, _⟩ => ⟨S1x128, .f32⟩
  | .hbm, ⟨19, _⟩ => ⟨S8192x128, .f32⟩
  | .hbm, ⟨20, _⟩ => ⟨S8192x128, .f32⟩
  | .hbm, ⟨21, _⟩ => ⟨S_, .f32⟩
  | .hbm, ⟨22, _⟩ => ⟨S128, .f32⟩
  | .hbm, ⟨23, _⟩ => ⟨S128, .f32⟩
  | .hbm, ⟨24, _⟩ => ⟨S128, .f32⟩
  | .hbm, ⟨25, _⟩ => ⟨S1x128, .f32⟩
  | .hbm, ⟨26, _⟩ => ⟨S8192x128, .f32⟩
  | .hbm, ⟨27, _⟩ => ⟨S8192x128, .f32⟩
  | .hbm, ⟨28, _⟩ => ⟨S8192x128, .f32⟩
  | .hbm, ⟨29, _⟩ => ⟨S8192x128, .f32⟩
  | .hbm, ⟨30, _⟩ => ⟨S8192x128, .f32⟩
  | .hbm, ⟨31, _⟩ => ⟨S8192x3, .f32⟩
  | .hbm, ⟨32, _⟩ => ⟨S3x128, .f32⟩
  | .hbm, ⟨33, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩

abbrev nD : Nat := 1
abbrev τ : Topo := Topo.v7x

variable {F : FTy → Type} [FloatOps F]
-- ==== PosSums.lean ====
abbrev S8192x128 : Shape := ⟨2, ![8192, 128]⟩
abbrev S8192x16x128 : Shape := ⟨3, ![8192, 16, 128]⟩
abbrev S1x128 : Shape := ⟨2, ![1, 128]⟩
abbrev S512x128 : Shape := ⟨2, ![512, 128]⟩
abbrev S512x16x128 : Shape := ⟨3, ![512, 16, 128]⟩
abbrev S512x1x128 : Shape := ⟨3, ![512, 1, 128]⟩
abbrev S128 : Shape := ⟨1, ![128]⟩

abbrev nBuf : Space → Nat
  | .hbm => 4
  | .vmem => 6
  | .smem => 0
  | _ => 0

abbrev bufTy : (tb : Table) → Fin (tcTables nBuf tb) → BufTy
  | .hbm, ⟨0, _⟩ => ⟨S8192x128, .f32⟩
  | .hbm, ⟨1, _⟩ => ⟨S8192x16x128, .f32⟩
  | .hbm, ⟨2, _⟩ => ⟨S1x128, .f32⟩
  | .hbm, ⟨3, _⟩ => ⟨S1x128, .f32⟩
  | .local _ .vmem, ⟨0, _⟩ => ⟨S512x128, .f32⟩
  | .local _ .vmem, ⟨1, _⟩ => ⟨S512x128, .f32⟩
  | .local _ .vmem, ⟨2, _⟩ => ⟨S512x16x128, .f32⟩
  | .local _ .vmem, ⟨3, _⟩ => ⟨S512x16x128, .f32⟩
  | .local _ .vmem, ⟨4, _⟩ => ⟨S1x128, .f32⟩
  | .local _ .vmem, ⟨5, _⟩ => ⟨S1x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== PosSumsRefIdeal.lean ====
abbrev S8192x128 : Shape := ⟨2, ![8192, 128]⟩
abbrev S8192x16x128 : Shape := ⟨3, ![8192, 16, 128]⟩
abbrev S8192x1x128 : Shape := ⟨3, ![8192, 1, 128]⟩
abbrev S_ : Shape := ⟨0, ![]⟩
abbrev S128 : Shape := ⟨1, ![128]⟩
abbrev S1x128 : Shape := ⟨2, ![1, 128]⟩

abbrev nBuf : Space → Nat
  | .hbm => 12
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x16x128, .f32⟩
  | .hbm, ⟨2, _⟩ => ⟨S8192x1x128, .f32⟩
  | .hbm, ⟨3, _⟩ => ⟨S8192x16x128, .f32⟩
  | .hbm, ⟨4, _⟩ => ⟨S8192x16x128, .f32⟩
  | .hbm, ⟨5, _⟩ => ⟨S_, .f32⟩
  | .hbm, ⟨6, _⟩ => ⟨S128, .f32⟩
  | .hbm, ⟨7, _⟩ => ⟨S1x128, .f32⟩
  | .hbm, ⟨8, _⟩ => ⟨S8192x16x128, .f32⟩
  | .hbm, ⟨9, _⟩ => ⟨S_, .f32⟩
  | .hbm, ⟨10, _⟩ => ⟨S128, .f32⟩
  | .hbm, ⟨11, _⟩ => ⟨S1x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Pos.lean ====
abbrev S8192x128 : Shape := ⟨2, ![8192, 128]⟩
abbrev S8192x16x128 : Shape := ⟨3, ![8192, 16, 128]⟩
abbrev S1x128 : Shape := ⟨2, ![1, 128]⟩
abbrev S128x128 : Shape := ⟨2, ![128, 128]⟩
abbrev S512x128 : Shape := ⟨2, ![512, 128]⟩
abbrev S512x16x128 : Shape := ⟨3, ![512, 16, 128]⟩
abbrev S512x1x128 : Shape := ⟨3, ![512, 1, 128]⟩
abbrev S1x1x128 : Shape := ⟨3, ![1, 1, 128]⟩
abbrev S128 : Shape := ⟨1, ![128]⟩

abbrev nBuf : Space → Nat
  | .hbm => 8
  | .vmem => 11
  | .smem => 0
  | _ => 0

abbrev bufTy : (tb : Table) → Fin (tcTables nBuf tb) → BufTy
  | .hbm, ⟨0, _⟩ => ⟨S8192x128, .f32⟩
  | .hbm, ⟨1, _⟩ => ⟨S8192x16x128, .f32⟩
  | .hbm, ⟨2, _⟩ => ⟨S1x128, .f32⟩
  | .hbm, ⟨3, _⟩ => ⟨S1x128, .f32⟩
  | .hbm, ⟨4, _⟩ => ⟨S128x128, .f32⟩
  | .hbm, ⟨5, _⟩ => ⟨S8192x16x128, .f32⟩
  | .hbm, ⟨6, _⟩ => ⟨S1x128, .f32⟩
  | .hbm, ⟨7, _⟩ => ⟨S1x128, .f32⟩
  | .local _ .vmem, ⟨0, _⟩ => ⟨S512x128, .f32⟩
  | .local _ .vmem, ⟨1, _⟩ => ⟨S512x128, .f32⟩
  | .local _ .vmem, ⟨2, _⟩ => ⟨S512x16x128, .f32⟩
  | .local _ .vmem, ⟨3, _⟩ => ⟨S512x16x128, .f32⟩
  | .local _ .vmem, ⟨4, _⟩ => ⟨S1x128, .f32⟩
  | .local _ .vmem, ⟨5, _⟩ => ⟨S1x128, .f32⟩
  | .local _ .vmem, ⟨6, _⟩ => ⟨S128x128, .f32⟩
  | .local _ .vmem, ⟨7, _⟩ => ⟨S512x16x128, .f32⟩
  | .local _ .vmem, ⟨8, _⟩ => ⟨S512x16x128, .f32⟩
  | .local _ .vmem, ⟨9, _⟩ => ⟨S1x128, .f32⟩
  | .local _ .vmem, ⟨10, _⟩ => ⟨S1x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== PosRefIdeal.lean ====
abbrev S8192x128 : Shape := ⟨2, ![8192, 128]⟩
abbrev S8192x16x128 : Shape := ⟨3, ![8192, 16, 128]⟩
abbrev S1x128 : Shape := ⟨2, ![1, 128]⟩
abbrev S128x128 : Shape := ⟨2, ![128, 128]⟩
abbrev S8192x1x128 : Shape := ⟨3, ![8192, 1, 128]⟩
abbrev S128 : Shape := ⟨1, ![128]⟩
abbrev S_ : Shape := ⟨0, ![]⟩
abbrev S1x1x128 : Shape := ⟨3, ![1, 1, 128]⟩

abbrev nBuf : Space → Nat
  | .hbm => 39
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x16x128, .f32⟩
  | .hbm, ⟨2, _⟩ => ⟨S1x128, .f32⟩
  | .hbm, ⟨3, _⟩ => ⟨S1x128, .f32⟩
  | .hbm, ⟨4, _⟩ => ⟨S128x128, .f32⟩
  | .hbm, ⟨5, _⟩ => ⟨S8192x1x128, .f32⟩
  | .hbm, ⟨6, _⟩ => ⟨S8192x16x128, .f32⟩
  | .hbm, ⟨7, _⟩ => ⟨S8192x16x128, .f32⟩
  | .hbm, ⟨8, _⟩ => ⟨S128, .f32⟩
  | .hbm, ⟨9, _⟩ => ⟨S_, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S_, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S128, .f32⟩
  | .hbm, ⟨18, _⟩ => ⟨S1x1x128, .f32⟩
  | .hbm, ⟨19, _⟩ => ⟨S8192x16x128, .f32⟩
  | .hbm, ⟨20, _⟩ => ⟨S8192x16x128, .f32⟩
  | .hbm, ⟨21, _⟩ => ⟨S_, .f32⟩
  | .hbm, ⟨22, _⟩ => ⟨S128, .f32⟩
  | .hbm, ⟨23, _⟩ => ⟨S128, .f32⟩
  | .hbm, ⟨24, _⟩ => ⟨S128, .f32⟩
  | .hbm, ⟨25, _⟩ => ⟨S1x1x128, .f32⟩
  | .hbm, ⟨26, _⟩ => ⟨S8192x16x128, .f32⟩
  | .hbm, ⟨27, _⟩ => ⟨S8192x16x128, .f32⟩
  | .hbm, ⟨28, _⟩ => ⟨S_, .f32⟩
  | .hbm, ⟨29, _⟩ => ⟨S8192x16x128, .f32⟩
  | .hbm, ⟨30, _⟩ => ⟨S8192x16x128, .f32⟩
  | .hbm, ⟨31, _⟩ => ⟨S8192x16x128, .f32⟩
  | .hbm, ⟨32, _⟩ => ⟨S_, .f32⟩
  | .hbm, ⟨33, _⟩ => ⟨S128, .f32⟩
  | .hbm, ⟨34, _⟩ => ⟨S1x128, .f32⟩
  | .hbm, ⟨35, _⟩ => ⟨S8192x16x128, .f32⟩
  | .hbm, ⟨36, _⟩ => ⟨S_, .f32⟩
  | .hbm, ⟨37, _⟩ => ⟨S128, .f32⟩
  | .hbm, ⟨38, _⟩ => ⟨S1x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call0_cst : Ref sig .tc := ⟨.hbm, 28, rfl⟩
abbrev main_call0_v0 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩

abbrev nD : Nat := 1
abbrev τ : Topo := Topo.v7x

variable {F : FTy → Type} [FloatOps F]
-- ==== AttnIn.lean ====
abbrev S8192x128 : Shape := ⟨2, ![8192, 128]⟩
abbrev S8192x16x128 : Shape := ⟨3, ![8192, 16, 128]⟩
abbrev S1x128 : Shape := ⟨2, ![1, 128]⟩
abbrev S128x128 : Shape := ⟨2, ![128, 128]⟩
abbrev S512x128 : Shape := ⟨2, ![512, 128]⟩
abbrev S512x16x128 : Shape := ⟨3, ![512, 16, 128]⟩
abbrev S1x1x128 : Shape := ⟨3, ![1, 1, 128]⟩
abbrev S512x1x128 : Shape := ⟨3, ![512, 1, 128]⟩
abbrev S128 : Shape := ⟨1, ![128]⟩

abbrev nBuf : Space → Nat
  | .hbm => 9
  | .vmem => 13
  | .smem => 0
  | _ => 0

abbrev bufTy : (tb : Table) → Fin (tcTables nBuf tb) → BufTy
  | .hbm, ⟨0, _⟩ => ⟨S8192x128, .f32⟩
  | .hbm, ⟨1, _⟩ => ⟨S8192x16x128, .f32⟩
  | .hbm, ⟨2, _⟩ => ⟨S8192x16x128, .f32⟩
  | .hbm, ⟨3, _⟩ => ⟨S1x128, .f32⟩
  | .hbm, ⟨4, _⟩ => ⟨S1x128, .f32⟩
  | .hbm, ⟨5, _⟩ => ⟨S128x128, .f32⟩
  | .hbm, ⟨6, _⟩ => ⟨S8192x16x128, .f32⟩
  | .hbm, ⟨7, _⟩ => ⟨S1x128, .f32⟩
  | .hbm, ⟨8, _⟩ => ⟨S1x128, .f32⟩
  | .local _ .vmem, ⟨0, _⟩ => ⟨S512x128, .f32⟩
  | .local _ .vmem, ⟨1, _⟩ => ⟨S512x128, .f32⟩
  | .local _ .vmem, ⟨2, _⟩ => ⟨S512x16x128, .f32⟩
  | .local _ .vmem, ⟨3, _⟩ => ⟨S512x16x128, .f32⟩
  | .local _ .vmem, ⟨4, _⟩ => ⟨S512x16x128, .f32⟩
  | .local _ .vmem, ⟨5, _⟩ => ⟨S512x16x128, .f32⟩
  | .local _ .vmem, ⟨6, _⟩ => ⟨S1x128, .f32⟩
  | .local _ .vmem, ⟨7, _⟩ => ⟨S1x128, .f32⟩
  | .local _ .vmem, ⟨8, _⟩ => ⟨S128x128, .f32⟩
  | .local _ .vmem, ⟨9, _⟩ => ⟨S512x16x128, .f32⟩
  | .local _ .vmem, ⟨10, _⟩ => ⟨S512x16x128, .f32⟩
  | .local _ .vmem, ⟨11, _⟩ => ⟨S1x128, .f32⟩
  | .local _ .vmem, ⟨12, _⟩ => ⟨S1x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x16x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== AttnInRefIdeal.lean ====
abbrev S8192x128 : Shape := ⟨2, ![8192, 128]⟩
abbrev S8192x16x128 : Shape := ⟨3, ![8192, 16, 128]⟩
abbrev S1x128 : Shape := ⟨2, ![1, 128]⟩
abbrev S128x128 : Shape := ⟨2, ![128, 128]⟩
abbrev S8192x1x128 : Shape := ⟨3, ![8192, 1, 128]⟩
abbrev S128 : Shape := ⟨1, ![128]⟩
abbrev S_ : Shape := ⟨0, ![]⟩
abbrev S1x1x128 : Shape := ⟨3, ![1, 1, 128]⟩

abbrev nBuf : Space → Nat
  | .hbm => 38
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x16x128, .f32⟩
  | .hbm, ⟨2, _⟩ => ⟨S8192x16x128, .f32⟩
  | .hbm, ⟨3, _⟩ => ⟨S1x128, .f32⟩
  | .hbm, ⟨4, _⟩ => ⟨S1x128, .f32⟩
  | .hbm, ⟨5, _⟩ => ⟨S128x128, .f32⟩
  | .hbm, ⟨6, _⟩ => ⟨S8192x1x128, .f32⟩
  | .hbm, ⟨7, _⟩ => ⟨S8192x16x128, .f32⟩
  | .hbm, ⟨8, _⟩ => ⟨S8192x16x128, .f32⟩
  | .hbm, ⟨9, _⟩ => ⟨S128, .f32⟩
  | .hbm, ⟨10, _⟩ => ⟨S_, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S_, .f32⟩
  | .hbm, ⟨15, _⟩ => ⟨S128, .f32⟩
  | .hbm, ⟨16, _⟩ => ⟨S128, .f32⟩
  | .hbm, ⟨17, _⟩ => ⟨S128, .f32⟩
  | .hbm, ⟨18, _⟩ => ⟨S128, .f32⟩
  | .hbm, ⟨19, _⟩ => ⟨S1x1x128, .f32⟩
  | .hbm, ⟨20, _⟩ => ⟨S8192x16x128, .f32⟩
  | .hbm, ⟨21, _⟩ => ⟨S8192x16x128, .f32⟩
  | .hbm, ⟨22, _⟩ => ⟨S_, .f32⟩
  | .hbm, ⟨23, _⟩ => ⟨S128, .f32⟩
  | .hbm, ⟨24, _⟩ => ⟨S128, .f32⟩
  | .hbm, ⟨25, _⟩ => ⟨S128, .f32⟩
  | .hbm, ⟨26, _⟩ => ⟨S1x1x128, .f32⟩
  | .hbm, ⟨27, _⟩ => ⟨S8192x16x128, .f32⟩
  | .hbm, ⟨28, _⟩ => ⟨S8192x16x128, .f32⟩
  | .hbm, ⟨29, _⟩ => ⟨S8192x16x128, .f32⟩
  | .hbm, ⟨30, _⟩ => ⟨S8192x16x128, .f32⟩
  | .hbm, ⟨31, _⟩ => ⟨S_, .f32⟩
  | .hbm, ⟨32, _⟩ => ⟨S128, .f32⟩
  | .hbm, ⟨33, _⟩ => ⟨S1x128, .f32⟩
  | .hbm, ⟨34, _⟩ => ⟨S8192x16x128, .f32⟩
  | .hbm, ⟨35, _⟩ => ⟨S_, .f32⟩
  | .hbm, ⟨36, _⟩ => ⟨S128, .f32⟩
  | .hbm, ⟨37, _⟩ => ⟨S1x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]
-- ==== Gamma.lean ====
abbrev S8192x16x128 : Shape := ⟨3, ![8192, 16, 128]⟩
abbrev S1x128 : Shape := ⟨2, ![1, 128]⟩
abbrev S128x128 : Shape := ⟨2, ![128, 128]⟩
abbrev S512x16x128 : Shape := ⟨3, ![512, 16, 128]⟩
abbrev S1x1x128 : Shape := ⟨3, ![1, 1, 128]⟩
abbrev S8192x128 : Shape := ⟨2, ![8192, 128]⟩
abbrev S128 : Shape := ⟨1, ![128]⟩

abbrev nBuf : Space → Nat
  | .hbm => 7
  | .vmem => 9
  | .smem => 0
  | _ => 0

abbrev bufTy : (tb : Table) → Fin (tcTables nBuf tb) → BufTy
  | .hbm, ⟨0, _⟩ => ⟨S8192x16x128, .f32⟩
  | .hbm, ⟨1, _⟩ => ⟨S1x128, .f32⟩
  | .hbm, ⟨2, _⟩ => ⟨S1x128, .f32⟩
  | .hbm, ⟨3, _⟩ => ⟨S128x128, .f32⟩
  | .hbm, ⟨4, _⟩ => ⟨S8192x16x128, .f32⟩
  | .hbm, ⟨5, _⟩ => ⟨S1x128, .f32⟩
  | .hbm, ⟨6, _⟩ => ⟨S1x128, .f32⟩
  | .local _ .vmem, ⟨0, _⟩ => ⟨S512x16x128, .f32⟩
  | .local _ .vmem, ⟨1, _⟩ => ⟨S512x16x128, .f32⟩
  | .local _ .vmem, ⟨2, _⟩ => ⟨S1x128, .f32⟩
  | .local _ .vmem, ⟨3, _⟩ => ⟨S1x128, .f32⟩
  | .local _ .vmem, ⟨4, _⟩ => ⟨S128x128, .f32⟩
  | .local _ .vmem, ⟨5, _⟩ => ⟨S512x16x128, .f32⟩
  | .local _ .vmem, ⟨6, _⟩ => ⟨S512x16x128, .f32⟩
  | .local _ .vmem, ⟨7, _⟩ => ⟨S1x128, .f32⟩
  | .local _ .vmem, ⟨8, _⟩ => ⟨S1x128, .f32⟩
  | _, _ => ⟨S8192x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== GammaRefIdeal.lean ====
abbrev S8192x16x128 : Shape := ⟨3, ![8192, 16, 128]⟩
abbrev S1x128 : Shape := ⟨2, ![1, 128]⟩
abbrev S128x128 : Shape := ⟨2, ![128, 128]⟩
abbrev S128 : Shape := ⟨1, ![128]⟩
abbrev S_ : Shape := ⟨0, ![]⟩
abbrev S1x1x128 : Shape := ⟨3, ![1, 1, 128]⟩

abbrev nBuf : Space → Nat
  | .hbm => 35
  | .vmem => 0
  | .smem => 0
  | _ => 0

abbrev bufTy : (tb : Table) → Fin (tcTables nBuf tb) → BufTy
  | .hbm, ⟨0, _⟩ => ⟨S8192x16x128, .f32⟩
  | .hbm, ⟨1, _⟩ => ⟨S1x128, .f32⟩
  | .hbm, ⟨2, _⟩ => ⟨S1x128, .f32⟩
  | .hbm, ⟨3, _⟩ => ⟨S128x128, .f32⟩
  | .hbm, ⟨4, _⟩ => ⟨S128, .f32⟩
  | .hbm, ⟨5, _⟩ => ⟨S_, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S_, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S1x1x128, .f32⟩
  | .hbm, ⟨15, _⟩ => ⟨S8192x16x128, .f32⟩
  | .hbm, ⟨16, _⟩ => ⟨S8192x16x128, .f32⟩
  | .hbm, ⟨17, _⟩ => ⟨S_, .f32⟩
  | .hbm, ⟨18, _⟩ => ⟨S128, .f32⟩
  | .hbm, ⟨19, _⟩ => ⟨S128, .f32⟩
  | .hbm, ⟨20, _⟩ => ⟨S128, .f32⟩
  | .hbm, ⟨21, _⟩ => ⟨S1x1x128, .f32⟩
  | .hbm, ⟨22, _⟩ => ⟨S8192x16x128, .f32⟩
  | .hbm, ⟨23, _⟩ => ⟨S8192x16x128, .f32⟩
  | .hbm, ⟨24, _⟩ => ⟨S_, .f32⟩
  | .hbm, ⟨25, _⟩ => ⟨S8192x16x128, .f32⟩
  | .hbm, ⟨26, _⟩ => ⟨S8192x16x128, .f32⟩
  | .hbm, ⟨27, _⟩ => ⟨S8192x16x128, .f32⟩
  | .hbm, ⟨28, _⟩ => ⟨S_, .f32⟩
  | .hbm, ⟨29, _⟩ => ⟨S128, .f32⟩
  | .hbm, ⟨30, _⟩ => ⟨S1x128, .f32⟩
  | .hbm, ⟨31, _⟩ => ⟨S8192x16x128, .f32⟩
  | .hbm, ⟨32, _⟩ => ⟨S_, .f32⟩
  | .hbm, ⟨33, _⟩ => ⟨S128, .f32⟩
  | .hbm, ⟨34, _⟩ => ⟨S1x128, .f32⟩
  | _, _ => ⟨S8192x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_cst : Ref sig .tc := ⟨.hbm, 24, rfl⟩
abbrev main_call0_v0 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]
-- ==== Attention.lean ====
abbrev S8192x16x128 : Shape := ⟨3, ![8192, 16, 128]⟩
abbrev S1x128 : Shape := ⟨2, ![1, 128]⟩
abbrev S128x128 : Shape := ⟨2, ![128, 128]⟩
abbrev S8192x128 : Shape := ⟨2, ![8192, 128]⟩
abbrev S512x16x128 : Shape := ⟨3, ![512, 16, 128]⟩
abbrev S512x128 : Shape := ⟨2, ![512, 128]⟩
abbrev S1x1x128 : Shape := ⟨3, ![1, 1, 128]⟩
abbrev S512x1x128 : Shape := ⟨3, ![512, 1, 128]⟩
abbrev S128 : Shape := ⟨1, ![128]⟩

abbrev nBuf : Space → Nat
  | .hbm => 12
  | .vmem => 16
  | .smem => 0
  | _ => 0

abbrev bufTy : (tb : Table) → Fin (tcTables nBuf tb) → BufTy
  | .hbm, ⟨0, _⟩ => ⟨S8192x16x128, .f32⟩
  | .hbm, ⟨1, _⟩ => ⟨S1x128, .f32⟩
  | .hbm, ⟨2, _⟩ => ⟨S1x128, .f32⟩
  | .hbm, ⟨3, _⟩ => ⟨S8192x16x128, .f32⟩
  | .hbm, ⟨4, _⟩ => ⟨S1x128, .f32⟩
  | .hbm, ⟨5, _⟩ => ⟨S1x128, .f32⟩
  | .hbm, ⟨6, _⟩ => ⟨S8192x16x128, .f32⟩
  | .hbm, ⟨7, _⟩ => ⟨S128x128, .f32⟩
  | .hbm, ⟨8, _⟩ => ⟨S1x128, .f32⟩
  | .hbm, ⟨9, _⟩ => ⟨S8192x128, .f32⟩
  | .hbm, ⟨10, _⟩ => ⟨S1x128, .f32⟩
  | .hbm, ⟨11, _⟩ => ⟨S1x128, .f32⟩
  | .local _ .vmem, ⟨0, _⟩ => ⟨S512x16x128, .f32⟩
  | .local _ .vmem, ⟨1, _⟩ => ⟨S512x16x128, .f32⟩
  | .local _ .vmem, ⟨2, _⟩ => ⟨S1x128, .f32⟩
  | .local _ .vmem, ⟨3, _⟩ => ⟨S1x128, .f32⟩
  | .local _ .vmem, ⟨4, _⟩ => ⟨S512x16x128, .f32⟩
  | .local _ .vmem, ⟨5, _⟩ => ⟨S512x16x128, .f32⟩
  | .local _ .vmem, ⟨6, _⟩ => ⟨S1x128, .f32⟩
  | .local _ .vmem, ⟨7, _⟩ => ⟨S1x128, .f32⟩
  | .local _ .vmem, ⟨8, _⟩ => ⟨S512x16x128, .f32⟩
  | .local _ .vmem, ⟨9, _⟩ => ⟨S512x16x128, .f32⟩
  | .local _ .vmem, ⟨10, _⟩ => ⟨S128x128, .f32⟩
  | .local _ .vmem, ⟨11, _⟩ => ⟨S1x128, .f32⟩
  | .local _ .vmem, ⟨12, _⟩ => ⟨S512x128, .f32⟩
  | .local _ .vmem, ⟨13, _⟩ => ⟨S512x128, .f32⟩
  | .local _ .vmem, ⟨14, _⟩ => ⟨S1x128, .f32⟩
  | .local _ .vmem, ⟨15, _⟩ => ⟨S1x128, .f32⟩
  | _, _ => ⟨S8192x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg11_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem11_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x16x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== AttentionRefIdeal.lean ====
abbrev S8192x16x128 : Shape := ⟨3, ![8192, 16, 128]⟩
abbrev S1x128 : Shape := ⟨2, ![1, 128]⟩
abbrev S128x128 : Shape := ⟨2, ![128, 128]⟩
abbrev S128 : Shape := ⟨1, ![128]⟩
abbrev S_ : Shape := ⟨0, ![]⟩
abbrev S1x1x128 : Shape := ⟨3, ![1, 1, 128]⟩
abbrev S8192x128 : Shape := ⟨2, ![8192, 128]⟩
abbrev S8192x1x128 : Shape := ⟨3, ![8192, 1, 128]⟩

abbrev nBuf : Space → Nat
  | .hbm => 77
  | .vmem => 0
  | .smem => 0
  | _ => 0

abbrev bufTy : (tb : Table) → Fin (tcTables nBuf tb) → BufTy
  | .hbm, ⟨0, _⟩ => ⟨S8192x16x128, .f32⟩
  | .hbm, ⟨1, _⟩ => ⟨S1x128, .f32⟩
  | .hbm, ⟨2, _⟩ => ⟨S1x128, .f32⟩
  | .hbm, ⟨3, _⟩ => ⟨S8192x16x128, .f32⟩
  | .hbm, ⟨4, _⟩ => ⟨S1x128, .f32⟩
  | .hbm, ⟨5, _⟩ => ⟨S1x128, .f32⟩
  | .hbm, ⟨6, _⟩ => ⟨S8192x16x128, .f32⟩
  | .hbm, ⟨7, _⟩ => ⟨S128x128, .f32⟩
  | .hbm, ⟨8, _⟩ => ⟨S1x128, .f32⟩
  | .hbm, ⟨9, _⟩ => ⟨S128, .f32⟩
  | .hbm, ⟨10, _⟩ => ⟨S_, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S_, .f32⟩
  | .hbm, ⟨15, _⟩ => ⟨S128, .f32⟩
  | .hbm, ⟨16, _⟩ => ⟨S128, .f32⟩
  | .hbm, ⟨17, _⟩ => ⟨S128, .f32⟩
  | .hbm, ⟨18, _⟩ => ⟨S128, .f32⟩
  | .hbm, ⟨19, _⟩ => ⟨S1x1x128, .f32⟩
  | .hbm, ⟨20, _⟩ => ⟨S8192x16x128, .f32⟩
  | .hbm, ⟨21, _⟩ => ⟨S8192x16x128, .f32⟩
  | .hbm, ⟨22, _⟩ => ⟨S_, .f32⟩
  | .hbm, ⟨23, _⟩ => ⟨S128, .f32⟩
  | .hbm, ⟨24, _⟩ => ⟨S128, .f32⟩
  | .hbm, ⟨25, _⟩ => ⟨S128, .f32⟩
  | .hbm, ⟨26, _⟩ => ⟨S1x1x128, .f32⟩
  | .hbm, ⟨27, _⟩ => ⟨S8192x16x128, .f32⟩
  | .hbm, ⟨28, _⟩ => ⟨S8192x16x128, .f32⟩
  | .hbm, ⟨29, _⟩ => ⟨S_, .f32⟩
  | .hbm, ⟨30, _⟩ => ⟨S8192x128, .f32⟩
  | .hbm, ⟨31, _⟩ => ⟨S_, .f32⟩
  | .hbm, ⟨32, _⟩ => ⟨S8192x128, .f32⟩
  | .hbm, ⟨33, _⟩ => ⟨S8192x128, .f32⟩
  | .hbm, ⟨34, _⟩ => ⟨S8192x1x128, .f32⟩
  | .hbm, ⟨35, _⟩ => ⟨S8192x16x128, .f32⟩
  | .hbm, ⟨36, _⟩ => ⟨S8192x16x128, .f32⟩
  | .hbm, ⟨37, _⟩ => ⟨S8192x16x128, .f32⟩
  | .hbm, ⟨38, _⟩ => ⟨S_, .f32⟩
  | .hbm, ⟨39, _⟩ => ⟨S8192x128, .f32⟩
  | .hbm, ⟨40, _⟩ => ⟨S8192x1x128, .f32⟩
  | .hbm, ⟨41, _⟩ => ⟨S8192x16x128, .f32⟩
  | .hbm, ⟨42, _⟩ => ⟨S8192x16x128, .f32⟩
  | .hbm, ⟨43, _⟩ => ⟨S128, .f32⟩
  | .hbm, ⟨44, _⟩ => ⟨S_, .f32⟩
  | .hbm, ⟨45, _⟩ => ⟨S128, .f32⟩
  | .hbm, ⟨46, _⟩ => ⟨S128, .f32⟩
  | .hbm, ⟨47, _⟩ => ⟨S128, .f32⟩
  | .hbm, ⟨48, _⟩ => ⟨S_, .f32⟩
  | .hbm, ⟨49, _⟩ => ⟨S128, .f32⟩
  | .hbm, ⟨50, _⟩ => ⟨S128, .f32⟩
  | .hbm, ⟨51, _⟩ => ⟨S128, .f32⟩
  | .hbm, ⟨52, _⟩ => ⟨S128, .f32⟩
  | .hbm, ⟨53, _⟩ => ⟨S1x1x128, .f32⟩
  | .hbm, ⟨54, _⟩ => ⟨S8192x16x128, .f32⟩
  | .hbm, ⟨55, _⟩ => ⟨S8192x16x128, .f32⟩
  | .hbm, ⟨56, _⟩ => ⟨S_, .f32⟩
  | .hbm, ⟨57, _⟩ => ⟨S128, .f32⟩
  | .hbm, ⟨58, _⟩ => ⟨S128, .f32⟩
  | .hbm, ⟨59, _⟩ => ⟨S128, .f32⟩
  | .hbm, ⟨60, _⟩ => ⟨S1x1x128, .f32⟩
  | .hbm, ⟨61, _⟩ => ⟨S8192x16x128, .f32⟩
  | .hbm, ⟨62, _⟩ => ⟨S8192x16x128, .f32⟩
  | .hbm, ⟨63, _⟩ => ⟨S8192x16x128, .f32⟩
  | .hbm, ⟨64, _⟩ => ⟨S8192x16x128, .f32⟩
  | .hbm, ⟨65, _⟩ => ⟨S_, .f32⟩
  | .hbm, ⟨66, _⟩ => ⟨S8192x128, .f32⟩
  | .hbm, ⟨67, _⟩ => ⟨S8192x128, .f32⟩
  | .hbm, ⟨68, _⟩ => ⟨S8192x128, .f32⟩
  | .hbm, ⟨69, _⟩ => ⟨S8192x128, .f32⟩
  | .hbm, ⟨70, _⟩ => ⟨S_, .f32⟩
  | .hbm, ⟨71, _⟩ => ⟨S128, .f32⟩
  | .hbm, ⟨72, _⟩ => ⟨S1x128, .f32⟩
  | .hbm, ⟨73, _⟩ => ⟨S8192x128, .f32⟩
  | .hbm, ⟨74, _⟩ => ⟨S_, .f32⟩
  | .hbm, ⟨75, _⟩ => ⟨S128, .f32⟩
  | .hbm, ⟨76, _⟩ => ⟨S1x128, .f32⟩
  | _, _ => ⟨S8192x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_8 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_10 : Ref sig .tc := ⟨.hbm, 74, rfl⟩
abbrev main_v54 : Ref sig .tc := ⟨.hbm, 75, rfl⟩
abbrev main_v55 : Ref sig .tc := ⟨.hbm, 76, rfl⟩

abbrev nD : Nat := 1
abbrev τ : Topo := Topo.v7x

variable {F : FTy → Type} [FloatOps F]
-- ==== Nearest.lean ====
abbrev S2x4096x3 : Shape := ⟨3, ![2, 4096, 3]⟩
abbrev S_ : Shape := ⟨0, ![]⟩
abbrev S2x4096x8 : Shape := ⟨3, ![2, 4096, 8]⟩
abbrev S2x8x4096 : Shape := ⟨3, ![2, 8, 4096]⟩
abbrev S2x4096x16 : Shape := ⟨3, ![2, 4096, 16]⟩
abbrev S1x512x8 : Shape := ⟨3, ![1, 512, 8]⟩
abbrev S1x8x4096 : Shape := ⟨3, ![1, 8, 4096]⟩
abbrev S1x512x16 : Shape := ⟨3, ![1, 512, 16]⟩
abbrev S512x8 : Shape := ⟨2, ![512, 8]⟩
abbrev S8x4096 : Shape := ⟨2, ![8, 4096]⟩
abbrev S512x4096 : Shape := ⟨2, ![512, 4096]⟩
abbrev S4096 : Shape := ⟨1, ![4096]⟩
abbrev S1x4096 : Shape := ⟨2, ![1, 4096]⟩
abbrev S512 : Shape := ⟨1, ![512]⟩
abbrev S512x1 : Shape := ⟨2, ![512, 1]⟩
abbrev S512x16 : Shape := ⟨2, ![512, 16]⟩

abbrev nBuf : Space → Nat
  | .hbm => 6
  | .vmem => 6
  | .smem => 0
  | _ => 0

abbrev bufTy : (tb : Table) → Fin (tcTables nBuf tb) → BufTy
  | .hbm, ⟨0, _⟩ => ⟨S2x4096x3, .f32⟩
  | .hbm, ⟨1, _⟩ => ⟨S_, .i32⟩
  | .hbm, ⟨2, _⟩ => ⟨S_, .f32⟩
  | .hbm, ⟨3, _⟩ => ⟨S2x4096x8, .f32⟩
  | .hbm, ⟨4, _⟩ => ⟨S2x8x4096, .f32⟩
  | .hbm, ⟨5, _⟩ => ⟨S2x4096x16, .i32⟩
  | .local _ .vmem, ⟨0, _⟩ => ⟨S1x512x8, .f32⟩
  | .local _ .vmem, ⟨1, _⟩ => ⟨S1x512x8, .f32⟩
  | .local _ .vmem, ⟨2, _⟩ => ⟨S1x8x4096, .f32⟩
  | .local _ .vmem, ⟨3, _⟩ => ⟨S1x8x4096, .f32⟩
  | .local _ .vmem, ⟨4, _⟩ => ⟨S1x512x16, .i32⟩
  | .local _ .vmem, ⟨5, _⟩ => ⟨S1x512x16, .i32⟩
  | _, _ => ⟨S2x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x16 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== NearestRefIdeal.lean ====
abbrev S2x4096x3 : Shape := ⟨3, ![2, 4096, 3]⟩
abbrev S_ : Shape := ⟨0, ![]⟩
abbrev S2x4096 : Shape := ⟨2, ![2, 4096]⟩
abbrev S2x4096x1 : Shape := ⟨3, ![2, 4096, 1]⟩
abbrev S2x1x4096 : Shape := ⟨3, ![2, 1, 4096]⟩
abbrev S2x4096x4096 : Shape := ⟨3, ![2, 4096, 4096]⟩
abbrev S2x4096x16 : Shape := ⟨3, ![2, 4096, 16]⟩
abbrev S2 : Shape := ⟨1, ![2]⟩
abbrev S2x1x1 : Shape := ⟨3, ![2, 1, 1]⟩

abbrev nBuf : Space → Nat
  | .hbm => 24
  | .vmem => 0
  | .smem => 0
  | _ => 0

abbrev bufTy : (tb : Table) → Fin (tcTables nBuf tb) → BufTy
  | .hbm, ⟨0, _⟩ => ⟨S2x4096x3, .f32⟩
  | .hbm, ⟨1, _⟩ => ⟨S2x4096x3, .f32⟩
  | .hbm, ⟨2, _⟩ => ⟨S_, .f32⟩
  | .hbm, ⟨3, _⟩ => ⟨S2x4096, .f32⟩
  | .hbm, ⟨4, _⟩ => ⟨S2x4096x1, .f32⟩
  | .hbm, ⟨5, _⟩ => ⟨S2x1x4096, .f32⟩
  | .hbm, ⟨6, _⟩ => ⟨S2x4096x4096, .f32⟩
  | .hbm, ⟨7, _⟩ => ⟨S2x4096x4096, .f32⟩
  | .hbm, ⟨8, _⟩ => ⟨S2x4096x4096, .f32⟩
  | .hbm, ⟨9, _⟩ => ⟨S2x4096x4096, .f32⟩
  | .hbm, ⟨10, _⟩ => ⟨S_, .f32⟩
  | .hbm, ⟨11, _⟩ => ⟨S2x4096x4096, .f32⟩
  | .hbm, ⟨12, _⟩ => ⟨S2x4096x4096, .f32⟩
  | .hbm, ⟨13, _⟩ => ⟨S2x4096x4096, .f32⟩
  | .hbm, ⟨14, _⟩ => ⟨S2x4096x4096, .f32⟩
  | .hbm, ⟨15, _⟩ => ⟨S2x4096x16, .f32⟩
  | .hbm, ⟨16, _⟩ => ⟨S2x4096x16, .i32⟩
  | .hbm, ⟨17, _⟩ => ⟨S2, .i32⟩
  | .hbm, ⟨18, _⟩ => ⟨S2x1x1, .i32⟩
  | .hbm, ⟨19, _⟩ => ⟨S_, .i32⟩
  | .hbm, ⟨20, _⟩ => ⟨S2x1x1, .i32⟩
  | .hbm, ⟨21, _⟩ => ⟨S2x1x1, .i32⟩
  | .hbm, ⟨22, _⟩ => ⟨S2x4096x16, .i32⟩
  | .hbm, ⟨23, _⟩ => ⟨S2x4096x16, .i32⟩
  | _, _ => ⟨S2x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst_0 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_values : Ref sig .tc := ⟨.hbm, 15, rfl⟩
abbrev main_indices : Ref sig .tc := ⟨.hbm, 16, rfl⟩
abbrev main_v12 : Ref sig .tc := ⟨.hbm, 17, rfl⟩
abbrev main_v13 : Ref sig .tc := ⟨.hbm, 18, rfl⟩
abbrev main_c : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== After.lean ====
abbrev S8192x128 : Shape := ⟨2, ![8192, 128]⟩
abbrev S131072x128 : Shape := ⟨2, ![131072, 128]⟩
abbrev S128x128 : Shape := ⟨2, ![128, 128]⟩
abbrev S128 : Shape := ⟨1, ![128]⟩
abbrev S8192x16x128 : Shape := ⟨3, ![8192, 16, 128]⟩
abbrev S1x128 : Shape := ⟨2, ![1, 128]⟩
abbrev S512x128 : Shape := ⟨2, ![512, 128]⟩
abbrev S512x16x128 : Shape := ⟨3, ![512, 16, 128]⟩
abbrev S512x1x128 : Shape := ⟨3, ![512, 1, 128]⟩
abbrev S1x1x128 : Shape := ⟨3, ![1, 1, 128]⟩
abbrev S2x4096x128 : Shape := ⟨3, ![2, 4096, 128]⟩

abbrev nBuf : Space → Nat
  | .hbm => 31
  | .vmem => 63
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S131072x128, .f32⟩
  | .hbm, ⟨3, _⟩ => ⟨S8192x128, .f32⟩
  | .hbm, ⟨4, _⟩ => ⟨S131072x128, .f32⟩
  | .hbm, ⟨5, _⟩ => ⟨S131072x128, .f32⟩
  | .hbm, ⟨6, _⟩ => ⟨S128x128, .f32⟩
  | .hbm, ⟨7, _⟩ => ⟨S128x128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S8192x16x128, .f32⟩
  | .hbm, ⟨12, _⟩ => ⟨S8192x16x128, .f32⟩
  | .hbm, ⟨13, _⟩ => ⟨S8192x16x128, .f32⟩
  | .hbm, ⟨14, _⟩ => ⟨S1x128, .f32⟩
  | .hbm, ⟨15, _⟩ => ⟨S1x128, .f32⟩
  | .hbm, ⟨16, _⟩ => ⟨S8192x16x128, .f32⟩
  | .hbm, ⟨17, _⟩ => ⟨S1x128, .f32⟩
  | .hbm, ⟨18, _⟩ => ⟨S1x128, .f32⟩
  | .hbm, ⟨19, _⟩ => ⟨S8192x16x128, .f32⟩
  | .hbm, ⟨20, _⟩ => ⟨S1x128, .f32⟩
  | .hbm, ⟨21, _⟩ => ⟨S1x128, .f32⟩
  | .hbm, ⟨22, _⟩ => ⟨S8192x16x128, .f32⟩
  | .hbm, ⟨23, _⟩ => ⟨S1x128, .f32⟩
  | .hbm, ⟨24, _⟩ => ⟨S1x128, .f32⟩
  | .hbm, ⟨25, _⟩ => ⟨S1x128, .f32⟩
  | .hbm, ⟨26, _⟩ => ⟨S8192x128, .f32⟩
  | .hbm, ⟨27, _⟩ => ⟨S1x128, .f32⟩
  | .hbm, ⟨28, _⟩ => ⟨S1x128, .f32⟩
  | .hbm, ⟨29, _⟩ => ⟨S8192x128, .f32⟩
  | .hbm, ⟨30, _⟩ => ⟨S2x4096x128, .f32⟩
  | .local _ .vmem, ⟨0, _⟩ => ⟨S512x128, .f32⟩
  | .local _ .vmem, ⟨1, _⟩ => ⟨S512x128, .f32⟩
  | .local _ .vmem, ⟨2, _⟩ => ⟨S512x16x128, .f32⟩
  | .local _ .vmem, ⟨3, _⟩ => ⟨S512x16x128, .f32⟩
  | .local _ .vmem, ⟨4, _⟩ => ⟨S1x128, .f32⟩
  | .local _ .vmem, ⟨5, _⟩ => ⟨S1x128, .f32⟩
  | .local _ .vmem, ⟨6, _⟩ => ⟨S512x128, .f32⟩
  | .local _ .vmem, ⟨7, _⟩ => ⟨S512x128, .f32⟩
  | .local _ .vmem, ⟨8, _⟩ => ⟨S512x16x128, .f32⟩
  | .local _ .vmem, ⟨9, _⟩ => ⟨S512x16x128, .f32⟩
  | .local _ .vmem, ⟨10, _⟩ => ⟨S1x128, .f32⟩
  | .local _ .vmem, ⟨11, _⟩ => ⟨S1x128, .f32⟩
  | .local _ .vmem, ⟨12, _⟩ => ⟨S128x128, .f32⟩
  | .local _ .vmem, ⟨13, _⟩ => ⟨S512x16x128, .f32⟩
  | .local _ .vmem, ⟨14, _⟩ => ⟨S512x16x128, .f32⟩
  | .local _ .vmem, ⟨15, _⟩ => ⟨S1x128, .f32⟩
  | .local _ .vmem, ⟨16, _⟩ => ⟨S1x128, .f32⟩
  | .local _ .vmem, ⟨17, _⟩ => ⟨S512x128, .f32⟩
  | .local _ .vmem, ⟨18, _⟩ => ⟨S512x128, .f32⟩
  | .local _ .vmem, ⟨19, _⟩ => ⟨S512x16x128, .f32⟩
  | .local _ .vmem, ⟨20, _⟩ => ⟨S512x16x128, .f32⟩
  | .local _ .vmem, ⟨21, _⟩ => ⟨S512x16x128, .f32⟩
  | .local _ .vmem, ⟨22, _⟩ => ⟨S512x16x128, .f32⟩
  | .local _ .vmem, ⟨23, _⟩ => ⟨S1x128, .f32⟩
  | .local _ .vmem, ⟨24, _⟩ => ⟨S1x128, .f32⟩
  | .local _ .vmem, ⟨25, _⟩ => ⟨S128x128, .f32⟩
  | .local _ .vmem, ⟨26, _⟩ => ⟨S512x16x128, .f32⟩
  | .local _ .vmem, ⟨27, _⟩ => ⟨S512x16x128, .f32⟩
  | .local _ .vmem, ⟨28, _⟩ => ⟨S1x128, .f32⟩
  | .local _ .vmem, ⟨29, _⟩ => ⟨S1x128, .f32⟩
  | .local _ .vmem, ⟨30, _⟩ => ⟨S512x16x128, .f32⟩
  | .local _ .vmem, ⟨31, _⟩ => ⟨S512x16x128, .f32⟩
  | .local _ .vmem, ⟨32, _⟩ => ⟨S1x128, .f32⟩
  | .local _ .vmem, ⟨33, _⟩ => ⟨S1x128, .f32⟩
  | .local _ .vmem, ⟨34, _⟩ => ⟨S128x128, .f32⟩
  | .local _ .vmem, ⟨35, _⟩ => ⟨S512x16x128, .f32⟩
  | .local _ .vmem, ⟨36, _⟩ => ⟨S512x16x128, .f32⟩
  | .local _ .vmem, ⟨37, _⟩ => ⟨S1x128, .f32⟩
  | .local _ .vmem, ⟨38, _⟩ => ⟨S1x128, .f32⟩
  | .local _ .vmem, ⟨39, _⟩ => ⟨S512x16x128, .f32⟩
  | .local _ .vmem, ⟨40, _⟩ => ⟨S512x16x128, .f32⟩
  | .local _ .vmem, ⟨41, _⟩ => ⟨S1x128, .f32⟩
  | .local _ .vmem, ⟨42, _⟩ => ⟨S1x128, .f32⟩
  | .local _ .vmem, ⟨43, _⟩ => ⟨S512x16x128, .f32⟩
  | .local _ .vmem, ⟨44, _⟩ => ⟨S512x16x128, .f32⟩
  | .local _ .vmem, ⟨45, _⟩ => ⟨S1x128, .f32⟩
  | .local _ .vmem, ⟨46, _⟩ => ⟨S1x128, .f32⟩
  | .local _ .vmem, ⟨47, _⟩ => ⟨S512x16x128, .f32⟩
  | .local _ .vmem, ⟨48, _⟩ => ⟨S512x16x128, .f32⟩
  | .local _ .vmem, ⟨49, _⟩ => ⟨S128x128, .f32⟩
  | .local _ .vmem, ⟨50, _⟩ => ⟨S1x128, .f32⟩
  | .local _ .vmem, ⟨51, _⟩ => ⟨S512x128, .f32⟩
  | .local _ .vmem, ⟨52, _⟩ => ⟨S512x128, .f32⟩
  | .local _ .vmem, ⟨53, _⟩ => ⟨S1x128, .f32⟩
  | .local _ .vmem, ⟨54, _⟩ => ⟨S1x128, .f32⟩
  | .local _ .vmem, ⟨55, _⟩ => ⟨S512x128, .f32⟩
  | .local _ .vmem, ⟨56, _⟩ => ⟨S512x128, .f32⟩
  | .local _ .vmem, ⟨57, _⟩ => ⟨S512x128, .f32⟩
  | .local _ .vmem, ⟨58, _⟩ => ⟨S512x128, .f32⟩
  | .local _ .vmem, ⟨59, _⟩ => ⟨S1x128, .f32⟩
  | .local _ .vmem, ⟨60, _⟩ => ⟨S1x128, .f32⟩
  | .local _ .vmem, ⟨61, _⟩ => ⟨S512x128, .f32⟩
  | .local _ .vmem, ⟨62, _⟩ => ⟨S512x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | _, _ => false

abbrev semScoped : Fin 0 → Bool
  | ⟨_, h⟩ => absurd h (Nat.not_lt_zero _)

abbrev dmaSemScoped : Fin 63 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | _ => false

abbrev sig : RefSig :=
  ofTc nBuf bufTy 0 63 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3_0 : Ref sig .tc := ⟨.hbm, 14, rfl⟩
abbrev main_v3_1 : Ref sig .tc := ⟨.hbm, 15, rfl⟩
abbrev main_v4_0 : Ref sig .tc := ⟨.hbm, 16, rfl⟩
abbrev main_v4_1 : Ref sig .tc := ⟨.hbm, 17, rfl⟩
abbrev main_v4_2 : Ref sig .tc := ⟨.hbm, 18, rfl⟩
abbrev main_v5_0 : Ref sig .tc := ⟨.hbm, 19, rfl⟩
abbrev main_v5_1 : Ref sig .tc := ⟨.hbm, 20, rfl⟩
abbrev main_v5_2 : Ref sig .tc := ⟨.hbm, 21, rfl⟩
abbrev main_v6_0 : Ref sig .tc := ⟨.hbm, 22, rfl⟩
abbrev main_v6_1 : Ref sig .tc := ⟨.hbm, 23, rfl⟩
abbrev main_v6_2 : Ref sig .tc := ⟨.hbm, 24, rfl⟩
abbrev main_v7 : Ref sig .tc := ⟨.hbm, 25, rfl⟩
abbrev main_v8_0 : Ref sig .tc := ⟨.hbm, 26, rfl⟩
abbrev main_v8_1 : Ref sig .tc := ⟨.hbm, 27, rfl⟩
abbrev main_v8_2 : Ref sig .tc := ⟨.hbm, 28, rfl⟩
abbrev main_v9 : Ref sig .tc := ⟨.hbm, 29, rfl⟩
abbrev main_v10 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc1_stg6_0 : Ref sig .tc := ⟨.vmem, 15, rfl⟩
abbrev cc1_stg7_0 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg6_1 : Ref sig .tc := ⟨.vmem, 27, rfl⟩
abbrev cc2_stg7_0 : Ref sig .tc := ⟨.vmem, 28, rfl⟩
abbrev cc2_stg8_0 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg4_1 : Ref sig .tc := ⟨.vmem, 36, rfl⟩
abbrev cc3_stg5_0 : Ref sig .tc := ⟨.vmem, 37, rfl⟩
abbrev cc3_stg6_0 : Ref sig .tc := ⟨.vmem, 38, rfl⟩
abbrev cc4_stg0_0 : Ref sig .tc := ⟨.vmem, 39, rfl⟩
abbrev cc4_stg0_1 : Ref sig .tc := ⟨.vmem, 40, rfl⟩
abbrev cc4_stg1_0 : Ref sig .tc := ⟨.vmem, 41, rfl⟩
abbrev cc4_stg2_0 : Ref sig .tc := ⟨.vmem, 42, rfl⟩
abbrev cc4_stg3_0 : Ref sig .tc := ⟨.vmem, 43, rfl⟩
abbrev cc4_stg3_1 : Ref sig .tc := ⟨.vmem, 44, rfl⟩
abbrev cc4_stg4_0 : Ref sig .tc := ⟨.vmem, 45, rfl⟩
abbrev cc4_stg5_0 : Ref sig .tc := ⟨.vmem, 46, rfl⟩
abbrev cc4_stg6_0 : Ref sig .tc := ⟨.vmem, 47, rfl⟩
abbrev cc4_stg6_1 : Ref sig .tc := ⟨.vmem, 48, rfl⟩
abbrev cc4_stg7_0 : Ref sig .tc := ⟨.vmem, 49, rfl⟩
abbrev cc4_stg8_0 : Ref sig .tc := ⟨.vmem, 50, rfl⟩
abbrev cc4_stg9_0 : Ref sig .tc := ⟨.vmem, 51, rfl⟩
abbrev cc4_stg9_1 : Ref sig .tc := ⟨.vmem, 52, rfl⟩
abbrev cc4_stg10_0 : Ref sig .tc := ⟨.vmem, 53, rfl⟩
abbrev cc4_stg11_0 : Ref sig .tc := ⟨.vmem, 54, rfl⟩
abbrev cc5_stg0_0 : Ref sig .tc := ⟨.vmem, 55, rfl⟩
abbrev cc5_stg0_1 : Ref sig .tc := ⟨.vmem, 56, rfl⟩
abbrev cc5_stg1_0 : Ref sig .tc := ⟨.vmem, 57, rfl⟩
abbrev cc5_stg1_1 : Ref sig .tc := ⟨.vmem, 58, rfl⟩
abbrev cc5_stg2_0 : Ref sig .tc := ⟨.vmem, 59, rfl⟩
abbrev cc5_stg3_0 : Ref sig .tc := ⟨.vmem, 60, rfl⟩
abbrev cc5_stg4_0 : Ref sig .tc := ⟨.vmem, 61, rfl⟩
abbrev cc5_stg4_1 : Ref sig .tc := ⟨.vmem, 62, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc1_sem6_0 : DmaSem sig := 15
abbrev cc1_sem7_0 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem6_1 : DmaSem sig := 27
abbrev cc2_sem7_0 : DmaSem sig := 28
abbrev cc2_sem8_0 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem4_0 : DmaSem sig := 35
abbrev cc3_sem4_1 : DmaSem sig := 36
abbrev cc3_sem5_0 : DmaSem sig := 37
abbrev cc3_sem6_0 : DmaSem sig := 38
abbrev cc4_sem0_0 : DmaSem sig := 39
abbrev cc4_sem0_1 : DmaSem sig := 40
abbrev cc4_sem1_0 : DmaSem sig := 41
abbrev cc4_sem2_0 : DmaSem sig := 42
abbrev cc4_sem3_0 : DmaSem sig := 43
abbrev cc4_sem3_1 : DmaSem sig := 44
abbrev cc4_sem4_0 : DmaSem sig := 45
abbrev cc4_sem5_0 : DmaSem sig := 46
abbrev cc4_sem6_0 : DmaSem sig := 47
abbrev cc4_sem6_1 : DmaSem sig := 48
abbrev cc4_sem7_0 : DmaSem sig := 49
abbrev cc4_sem8_0 : DmaSem sig := 50
abbrev cc4_sem9_0 : DmaSem sig := 51
abbrev cc4_sem9_1 : DmaSem sig := 52
abbrev cc4_sem10_0 : DmaSem sig := 53
abbrev cc4_sem11_0 : DmaSem sig := 54
abbrev cc5_sem0_0 : DmaSem sig := 55
abbrev cc5_sem0_1 : DmaSem sig := 56
abbrev cc5_sem1_0 : DmaSem sig := 57
abbrev cc5_sem1_1 : DmaSem sig := 58
abbrev cc5_sem2_0 : DmaSem sig := 59
abbrev cc5_sem3_0 : DmaSem sig := 60
abbrev cc5_sem4_0 : DmaSem sig := 61
abbrev cc5_sem4_1 : DmaSem sig := 62

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x16x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x16x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S512x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x16x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S512x16x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S512x16x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev grid3 : Pipeline.Grid := ⟨1, ![16], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S512x16x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S512x16x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev grid4 : Pipeline.Grid := ⟨1, ![16], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_10 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_11 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S512x16x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S512x16x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S512x16x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 1 → Memref sig .tc .vmem S128x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 2 → Memref sig .tc .vmem S512x128 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

abbrev stage4_10 : Fin 1 → Memref sig .tc .vmem S1x128 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev stage4_11 : Fin 1 → Memref sig .tc .vmem S1x128 .f32 := fun | 0 => Memref.whole cc4_stg11_0 | ⟨_ + 1, h⟩ => absurd h (Nat.not_lt.2 (Nat.le_add_left _ _))
abbrev sem4_11 : Fin 1 → DmaSem sig := fun | 0 => cc4_sem11_0 | ⟨_ + 1, h⟩ => absurd h (Nat.not_lt.2 (Nat.le_add_left _ _))
abbrev reads4_11 : Fin grid4.rank → Bool := ![false]

abbrev grid5 : Pipeline.Grid := ⟨1, ![16], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S512x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S512x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S512x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]
-- ==== AfterRefIdeal.lean ====
abbrev S8192x128 : Shape := ⟨2, ![8192, 128]⟩
abbrev S131072x128 : Shape := ⟨2, ![131072, 128]⟩
abbrev S128x128 : Shape := ⟨2, ![128, 128]⟩
abbrev S128 : Shape := ⟨1, ![128]⟩
abbrev S8192x1x128 : Shape := ⟨3, ![8192, 1, 128]⟩
abbrev S8192x16x128 : Shape := ⟨3, ![8192, 16, 128]⟩
abbrev S_ : Shape := ⟨0, ![]⟩
abbrev S1x1x128 : Shape := ⟨3, ![1, 1, 128]⟩
abbrev S1x128 : Shape := ⟨2, ![1, 128]⟩
abbrev S2x4096x128 : Shape := ⟨3, ![2, 4096, 128]⟩

abbrev nBuf : Space → Nat
  | .hbm => 244
  | .vmem => 0
  | .smem => 0
  | _ => 0

abbrev hbmTy0_0 (i : Nat) : BufTy := match i % 128 with
  | 0 => ⟨S8192x128, .f32⟩
  | 1 => ⟨S8192x128, .f32⟩
  | 2 => ⟨S131072x128, .f32⟩
  | 3 => ⟨S8192x128, .f32⟩
  | 4 => ⟨S131072x128, .f32⟩
  | 5 => ⟨S131072x128, .f32⟩
  | 6 => ⟨S128x128, .f32⟩
  | 7 => ⟨S128x128, .f32⟩
  | 8 => ⟨S128x128, .f32⟩
  | 9 => ⟨S128x128, .f32⟩
  | 10 => ⟨S128, .f32⟩
  | 11 => ⟨S8192x1x128, .f32⟩
  | 12 => ⟨S8192x16x128, .f32⟩
  | 13 => ⟨S8192x16x128, .f32⟩
  | 14 => ⟨S8192x16x128, .f32⟩
  | 15 => ⟨S_, .f32⟩
  | 16 => ⟨S128, .f32⟩
  | 17 => ⟨S1x1x128, .f32⟩
  | 18 => ⟨S_, .f32⟩
  | 19 => ⟨S1x1x128, .f32⟩
  | 20 => ⟨S1x1x128, .f32⟩
  | 21 => ⟨S_, .i32⟩
  | 22 => ⟨S_, .f32⟩
  | 23 => ⟨S128, .f32⟩
  | 24 => ⟨S1x1x128, .f32⟩
  | 25 => ⟨S_, .f32⟩
  | 26 => ⟨S1x1x128, .f32⟩
  | 27 => ⟨S1x1x128, .f32⟩
  | 28 => ⟨S8192x16x128, .f32⟩
  | 29 => ⟨S8192x16x128, .f32⟩
  | 30 => ⟨S8192x16x128, .f32⟩
  | 31 => ⟨S_, .f32⟩
  | 32 => ⟨S_, .f32⟩
  | 33 => ⟨S_, .f32⟩
  | 34 => ⟨S_, .f32⟩
  | 35 => ⟨S128, .f32⟩
  | 36 => ⟨S1x1x128, .f32⟩
  | 37 => ⟨S1x1x128, .f32⟩
  | 38 => ⟨S1x1x128, .f32⟩
  | 39 => ⟨S_, .f32⟩
  | 40 => ⟨S_, .i1⟩
  | 41 => ⟨S_, .f32⟩
  | 42 => ⟨S_, .f32⟩
  | 43 => ⟨S1x1x128, .f32⟩
  | 44 => ⟨S1x1x128, .f32⟩
  | 45 => ⟨S8192x16x128, .f32⟩
  | 46 => ⟨S8192x16x128, .f32⟩
  | 47 => ⟨S_, .f32⟩
  | 48 => ⟨S1x1x128, .f32⟩
  | 49 => ⟨S1x1x128, .f32⟩
  | 50 => ⟨S1x1x128, .f32⟩
  | 51 => ⟨S8192x16x128, .f32⟩
  | 52 => ⟨S8192x16x128, .f32⟩
  | 53 => ⟨S_, .f32⟩
  | 54 => ⟨S8192x16x128, .f32⟩
  | 55 => ⟨S8192x16x128, .f32⟩
  | 56 => ⟨S8192x16x128, .f32⟩
  | 57 => ⟨S_, .f32⟩
  | 58 => ⟨S128, .f32⟩
  | 59 => ⟨S1x1x128, .f32⟩
  | 60 => ⟨S_, .f32⟩
  | 61 => ⟨S1x1x128, .f32⟩
  | 62 => ⟨S1x1x128, .f32⟩
  | 63 => ⟨S_, .i32⟩
  | 64 => ⟨S_, .f32⟩
  | 65 => ⟨S128, .f32⟩
  | 66 => ⟨S1x1x128, .f32⟩
  | 67 => ⟨S_, .f32⟩
  | 68 => ⟨S1x1x128, .f32⟩
  | 69 => ⟨S1x1x128, .f32⟩
  | 70 => ⟨S8192x16x128, .f32⟩
  | 71 => ⟨S8192x16x128, .f32⟩
  | 72 => ⟨S8192x16x128, .f32⟩
  | 73 => ⟨S_, .f32⟩
  | 74 => ⟨S_, .f32⟩
  | 75 => ⟨S_, .f32⟩
  | 76 => ⟨S_, .f32⟩
  | 77 => ⟨S128, .f32⟩
  | 78 => ⟨S1x1x128, .f32⟩
  | 79 => ⟨S1x1x128, .f32⟩
  | 80 => ⟨S1x1x128, .f32⟩
  | 81 => ⟨S_, .f32⟩
  | 82 => ⟨S_, .i1⟩
  | 83 => ⟨S_, .f32⟩
  | 84 => ⟨S_, .f32⟩
  | 85 => ⟨S1x1x128, .f32⟩
  | 86 => ⟨S1x1x128, .f32⟩
  | 87 => ⟨S8192x16x128, .f32⟩
  | 88 => ⟨S8192x16x128, .f32⟩
  | 89 => ⟨S_, .f32⟩
  | 90 => ⟨S1x1x128, .f32⟩
  | 91 => ⟨S1x1x128, .f32⟩
  | 92 => ⟨S1x1x128, .f32⟩
  | 93 => ⟨S8192x16x128, .f32⟩
  | 94 => ⟨S8192x16x128, .f32⟩
  | 95 => ⟨S8192x1x128, .f32⟩
  | 96 => ⟨S8192x16x128, .f32⟩
  | 97 => ⟨S8192x16x128, .f32⟩
  | 98 => ⟨S8192x16x128, .f32⟩
  | 99 => ⟨S8192x16x128, .f32⟩
  | 100 => ⟨S8192x16x128, .f32⟩
  | 101 => ⟨S_, .f32⟩
  | 102 => ⟨S128, .f32⟩
  | 103 => ⟨S1x1x128, .f32⟩
  | 104 => ⟨S_, .f32⟩
  | 105 => ⟨S1x1x128, .f32⟩
  | 106 => ⟨S1x1x128, .f32⟩
  | 107 => ⟨S_, .i32⟩
  | 108 => ⟨S_, .f32⟩
  | 109 => ⟨S128, .f32⟩
  | 110 => ⟨S1x1x128, .f32⟩
  | 111 => ⟨S_, .f32⟩
  | 112 => ⟨S1x1x128, .f32⟩
  | 113 => ⟨S1x1x128, .f32⟩
  | 114 => ⟨S8192x16x128, .f32⟩
  | 115 => ⟨S8192x16x128, .f32⟩
  | 116 => ⟨S8192x16x128, .f32⟩
  | 117 => ⟨S_, .f32⟩
  | 118 => ⟨S_, .f32⟩
  | 119 => ⟨S_, .f32⟩
  | 120 => ⟨S_, .f32⟩
  | 121 => ⟨S128, .f32⟩
  | 122 => ⟨S1x1x128, .f32⟩
  | 123 => ⟨S1x1x128, .f32⟩
  | 124 => ⟨S1x1x128, .f32⟩
  | 125 => ⟨S_, .f32⟩
  | 126 => ⟨S_, .i1⟩
  | 127 => ⟨S_, .f32⟩
  | _ => ⟨S8192x128, .f32⟩

abbrev hbmTy0_1 (i : Nat) : BufTy := match i % 128 with
  | 0 => ⟨S_, .f32⟩
  | 1 => ⟨S1x1x128, .f32⟩
  | 2 => ⟨S1x1x128, .f32⟩
  | 3 => ⟨S8192x16x128, .f32⟩
  | 4 => ⟨S8192x16x128, .f32⟩
  | 5 => ⟨S_, .f32⟩
  | 6 => ⟨S1x1x128, .f32⟩
  | 7 => ⟨S1x1x128, .f32⟩
  | 8 => ⟨S1x1x128, .f32⟩
  | 9 => ⟨S8192x16x128, .f32⟩
  | 10 => ⟨S8192x16x128, .f32⟩
  | 11 => ⟨S_, .f32⟩
  | 12 => ⟨S8192x16x128, .f32⟩
  | 13 => ⟨S8192x16x128, .f32⟩
  | 14 => ⟨S8192x16x128, .f32⟩
  | 15 => ⟨S_, .f32⟩
  | 16 => ⟨S128, .f32⟩
  | 17 => ⟨S1x1x128, .f32⟩
  | 18 => ⟨S_, .f32⟩
  | 19 => ⟨S1x1x128, .f32⟩
  | 20 => ⟨S1x1x128, .f32⟩
  | 21 => ⟨S_, .i32⟩
  | 22 => ⟨S_, .f32⟩
  | 23 => ⟨S128, .f32⟩
  | 24 => ⟨S1x1x128, .f32⟩
  | 25 => ⟨S_, .f32⟩
  | 26 => ⟨S1x1x128, .f32⟩
  | 27 => ⟨S1x1x128, .f32⟩
  | 28 => ⟨S8192x16x128, .f32⟩
  | 29 => ⟨S8192x16x128, .f32⟩
  | 30 => ⟨S8192x16x128, .f32⟩
  | 31 => ⟨S_, .f32⟩
  | 32 => ⟨S_, .f32⟩
  | 33 => ⟨S_, .f32⟩
  | 34 => ⟨S_, .f32⟩
  | 35 => ⟨S128, .f32⟩
  | 36 => ⟨S1x1x128, .f32⟩
  | 37 => ⟨S1x1x128, .f32⟩
  | 38 => ⟨S1x1x128, .f32⟩
  | 39 => ⟨S_, .f32⟩
  | 40 => ⟨S_, .i1⟩
  | 41 => ⟨S_, .f32⟩
  | 42 => ⟨S_, .f32⟩
  | 43 => ⟨S1x1x128, .f32⟩
  | 44 => ⟨S1x1x128, .f32⟩
  | 45 => ⟨S8192x16x128, .f32⟩
  | 46 => ⟨S8192x16x128, .f32⟩
  | 47 => ⟨S_, .f32⟩
  | 48 => ⟨S1x1x128, .f32⟩
  | 49 => ⟨S1x1x128, .f32⟩
  | 50 => ⟨S1x1x128, .f32⟩
  | 51 => ⟨S8192x16x128, .f32⟩
  | 52 => ⟨S8192x16x128, .f32⟩
  | 53 => ⟨S_, .f32⟩
  | 54 => ⟨S8192x128, .f32⟩
  | 55 => ⟨S_, .f32⟩
  | 56 => ⟨S8192x128, .f32⟩
  | 57 => ⟨S8192x128, .f32⟩
  | 58 => ⟨S8192x1x128, .f32⟩
  | 59 => ⟨S8192x16x128, .f32⟩
  | 60 => ⟨S8192x16x128, .f32⟩
  | 61 => ⟨S8192x16x128, .f32⟩
  | 62 => ⟨S_, .f32⟩
  | 63 => ⟨S8192x128, .f32⟩
  | 64 => ⟨S8192x1x128, .f32⟩
  | 65 => ⟨S8192x16x128, .f32⟩
  | 66 => ⟨S8192x16x128, .f32⟩
  | 67 => ⟨S8192x16x128, .f32⟩
  | 68 => ⟨S8192x16x128, .f32⟩
  | 69 => ⟨S8192x16x128, .f32⟩
  | 70 => ⟨S_, .f32⟩
  | 71 => ⟨S8192x128, .f32⟩
  | 72 => ⟨S8192x128, .f32⟩
  | 73 => ⟨S1x128, .f32⟩
  | 74 => ⟨S8192x128, .f32⟩
  | 75 => ⟨S8192x128, .f32⟩
  | 76 => ⟨S_, .f32⟩
  | 77 => ⟨S128, .f32⟩
  | 78 => ⟨S1x128, .f32⟩
  | 79 => ⟨S_, .f32⟩
  | 80 => ⟨S1x128, .f32⟩
  | 81 => ⟨S1x128, .f32⟩
  | 82 => ⟨S_, .i32⟩
  | 83 => ⟨S_, .f32⟩
  | 84 => ⟨S128, .f32⟩
  | 85 => ⟨S1x128, .f32⟩
  | 86 => ⟨S_, .f32⟩
  | 87 => ⟨S1x128, .f32⟩
  | 88 => ⟨S1x128, .f32⟩
  | 89 => ⟨S8192x128, .f32⟩
  | 90 => ⟨S8192x128, .f32⟩
  | 91 => ⟨S8192x128, .f32⟩
  | 92 => ⟨S_, .f32⟩
  | 93 => ⟨S_, .f32⟩
  | 94 => ⟨S_, .f32⟩
  | 95 => ⟨S_, .f32⟩
  | 96 => ⟨S128, .f32⟩
  | 97 => ⟨S1x128, .f32⟩
  | 98 => ⟨S1x128, .f32⟩
  | 99 => ⟨S1x128, .f32⟩
  | 100 => ⟨S_, .f32⟩
  | 101 => ⟨S_, .i1⟩
  | 102 => ⟨S_, .f32⟩
  | 103 => ⟨S_, .f32⟩
  | 104 => ⟨S1x128, .f32⟩
  | 105 => ⟨S1x128, .f32⟩
  | 106 => ⟨S8192x128, .f32⟩
  | 107 => ⟨S8192x128, .f32⟩
  | 108 => ⟨S_, .f32⟩
  | 109 => ⟨S1x128, .f32⟩
  | 110 => ⟨S1x128, .f32⟩
  | 111 => ⟨S1x128, .f32⟩
  | 112 => ⟨S8192x128, .f32⟩
  | 113 => ⟨S8192x128, .f32⟩
  | 114 => ⟨S8192x128, .f32⟩
  | 115 => ⟨S2x4096x128, .f32⟩
  | _ => ⟨S8192x128, .f32⟩

abbrev hbmTy (i : Nat) : BufTy := match i / 128 with
  | 0 => hbmTy0_0 i
  | 1 => hbmTy0_1 i
  | _ => ⟨S8192x128, .f32⟩

abbrev bufTy : (tb : Table) → Fin (tcTables nBuf tb) → BufTy
  | .hbm, ⟨i, _⟩ => hbmTy i
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_c : Ref sig .tc := ⟨.hbm, 21, rfl⟩
abbrev main_call0_cst : Ref sig .tc := ⟨.hbm, 22, rfl⟩
abbrev main_call0_v0 : Ref sig .tc := ⟨.hbm, 23, rfl⟩
abbrev main_call0_v1 : Ref sig .tc := ⟨.hbm, 24, rfl⟩
abbrev main_call0_cst_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_cst_1 : Ref sig .tc := ⟨.hbm, 32, rfl⟩
abbrev main_call0_v8 : Ref sig .tc := ⟨.hbm, 33, rfl⟩
abbrev main_call0_cst_2 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_v12 : Ref sig .tc := ⟨.hbm, 38, rfl⟩
abbrev main_call0_cst_3 : Ref sig .tc := ⟨.hbm, 39, rfl⟩
abbrev main_call0_v13 : Ref sig .tc := ⟨.hbm, 40, rfl⟩
abbrev main_call0_cst_4 : Ref sig .tc := ⟨.hbm, 41, rfl⟩
abbrev main_call0_call0_v0 : Ref sig .tc := ⟨.hbm, 42, rfl⟩
abbrev main_call0_call0_v1 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_cst_1 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_call1_cst : Ref sig .tc := ⟨.hbm, 53, rfl⟩
abbrev main_call1_v0 : Ref sig .tc := ⟨.hbm, 54, rfl⟩
abbrev main_v16 : Ref sig .tc := ⟨.hbm, 55, rfl⟩
abbrev main_v17 : Ref sig .tc := ⟨.hbm, 56, rfl⟩
abbrev main_cst_2 : Ref sig .tc := ⟨.hbm, 57, rfl⟩
abbrev main_v18 : Ref sig .tc := ⟨.hbm, 58, rfl⟩
abbrev main_v19 : Ref sig .tc := ⟨.hbm, 59, rfl⟩
abbrev main_cst_3 : Ref sig .tc := ⟨.hbm, 60, rfl⟩
abbrev main_v20 : Ref sig .tc := ⟨.hbm, 61, rfl⟩
abbrev main_v21 : Ref sig .tc := ⟨.hbm, 62, rfl⟩
abbrev main_c_4 : Ref sig .tc := ⟨.hbm, 63, rfl⟩
abbrev main_call2_cst : Ref sig .tc := ⟨.hbm, 64, rfl⟩
abbrev main_call2_v0 : Ref sig .tc := ⟨.hbm, 65, rfl⟩
abbrev main_call2_v1 : Ref sig .tc := ⟨.hbm, 66, rfl⟩
abbrev main_call2_cst_0 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_v5 : Ref sig .tc := ⟨.hbm, 71, rfl⟩
abbrev main_call2_v6 : Ref sig .tc := ⟨.hbm, 72, rfl⟩
abbrev main_call2_v7 : Ref sig .tc := ⟨.hbm, 73, rfl⟩
abbrev main_call2_cst_1 : Ref sig .tc := ⟨.hbm, 74, rfl⟩
abbrev main_call2_v8 : Ref sig .tc := ⟨.hbm, 75, rfl⟩
abbrev main_call2_cst_2 : Ref sig .tc := ⟨.hbm, 76, rfl⟩
abbrev main_call2_v9 : Ref sig .tc := ⟨.hbm, 77, rfl⟩
abbrev main_call2_v10 : Ref sig .tc := ⟨.hbm, 78, rfl⟩
abbrev main_call2_v11 : Ref sig .tc := ⟨.hbm, 79, rfl⟩
abbrev main_call2_v12 : Ref sig .tc := ⟨.hbm, 80, rfl⟩
abbrev main_call2_cst_3 : Ref sig .tc := ⟨.hbm, 81, rfl⟩
abbrev main_call2_v13 : Ref sig .tc := ⟨.hbm, 82, rfl⟩
abbrev main_call2_cst_4 : Ref sig .tc := ⟨.hbm, 83, rfl⟩
abbrev main_call2_call0_v0 : Ref sig .tc := ⟨.hbm, 84, rfl⟩
abbrev main_call2_call0_v1 : Ref sig .tc := ⟨.hbm, 85, rfl⟩
abbrev main_v22 : Ref sig .tc := ⟨.hbm, 86, rfl⟩
abbrev main_v23 : Ref sig .tc := ⟨.hbm, 87, rfl⟩
abbrev main_v24 : Ref sig .tc := ⟨.hbm, 88, rfl⟩
abbrev main_cst_5 : Ref sig .tc := ⟨.hbm, 89, rfl⟩
abbrev main_v25 : Ref sig .tc := ⟨.hbm, 90, rfl⟩
abbrev main_v26 : Ref sig .tc := ⟨.hbm, 91, rfl⟩
abbrev main_v27 : Ref sig .tc := ⟨.hbm, 92, rfl⟩
abbrev main_v28 : Ref sig .tc := ⟨.hbm, 93, rfl⟩
abbrev main_v29 : Ref sig .tc := ⟨.hbm, 94, rfl⟩
abbrev main_v30 : Ref sig .tc := ⟨.hbm, 95, rfl⟩
abbrev main_v31 : Ref sig .tc := ⟨.hbm, 96, rfl⟩
abbrev main_v32 : Ref sig .tc := ⟨.hbm, 97, rfl⟩
abbrev main_v33 : Ref sig .tc := ⟨.hbm, 98, rfl⟩
abbrev main_v34 : Ref sig .tc := ⟨.hbm, 99, rfl⟩
abbrev main_v35 : Ref sig .tc := ⟨.hbm, 100, rfl⟩
abbrev main_cst_6 : Ref sig .tc := ⟨.hbm, 101, rfl⟩
abbrev main_v36 : Ref sig .tc := ⟨.hbm, 102, rfl⟩
abbrev main_v37 : Ref sig .tc := ⟨.hbm, 103, rfl⟩
abbrev main_cst_7 : Ref sig .tc := ⟨.hbm, 104, rfl⟩
abbrev main_v38 : Ref sig .tc := ⟨.hbm, 105, rfl⟩
abbrev main_v39 : Ref sig .tc := ⟨.hbm, 106, rfl⟩
abbrev main_c_8 : Ref sig .tc := ⟨.hbm, 107, rfl⟩
abbrev main_call3_cst : Ref sig .tc := ⟨.hbm, 108, rfl⟩
abbrev main_call3_v0 : Ref sig .tc := ⟨.hbm, 109, rfl⟩
abbrev main_call3_v1 : Ref sig .tc := ⟨.hbm, 110, rfl⟩
abbrev main_call3_cst_0 : Ref sig .tc := ⟨.hbm, 111, rfl⟩
abbrev main_call3_v2 : Ref sig .tc := ⟨.hbm, 112, rfl⟩
abbrev main_call3_v3 : Ref sig .tc := ⟨.hbm, 113, rfl⟩
abbrev main_call3_v4 : Ref sig .tc := ⟨.hbm, 114, rfl⟩
abbrev main_call3_v5 : Ref sig .tc := ⟨.hbm, 115, rfl⟩
abbrev main_call3_v6 : Ref sig .tc := ⟨.hbm, 116, rfl⟩
abbrev main_call3_v7 : Ref sig .tc := ⟨.hbm, 117, rfl⟩
abbrev main_call3_cst_1 : Ref sig .tc := ⟨.hbm, 118, rfl⟩
abbrev main_call3_v8 : Ref sig .tc := ⟨.hbm, 119, rfl⟩
abbrev main_call3_cst_2 : Ref sig .tc := ⟨.hbm, 120, rfl⟩
abbrev main_call3_v9 : Ref sig .tc := ⟨.hbm, 121, rfl⟩
abbrev main_call3_v10 : Ref sig .tc := ⟨.hbm, 122, rfl⟩
abbrev main_call3_v11 : Ref sig .tc := ⟨.hbm, 123, rfl⟩
abbrev main_call3_v12 : Ref sig .tc := ⟨.hbm, 124, rfl⟩
abbrev main_call3_cst_3 : Ref sig .tc := ⟨.hbm, 125, rfl⟩
abbrev main_call3_v13 : Ref sig .tc := ⟨.hbm, 126, rfl⟩
abbrev main_call3_cst_4 : Ref sig .tc := ⟨.hbm, 127, rfl⟩
abbrev main_call3_call0_v0 : Ref sig .tc := ⟨.hbm, 128, rfl⟩
abbrev main_call3_call0_v1 : Ref sig .tc := ⟨.hbm, 129, rfl⟩
abbrev main_v40 : Ref sig .tc := ⟨.hbm, 130, rfl⟩
abbrev main_v41 : Ref sig .tc := ⟨.hbm, 131, rfl⟩
abbrev main_v42 : Ref sig .tc := ⟨.hbm, 132, rfl⟩
abbrev main_cst_9 : Ref sig .tc := ⟨.hbm, 133, rfl⟩
abbrev main_v43 : Ref sig .tc := ⟨.hbm, 134, rfl⟩
abbrev main_v44 : Ref sig .tc := ⟨.hbm, 135, rfl⟩
abbrev main_v45 : Ref sig .tc := ⟨.hbm, 136, rfl⟩
abbrev main_v46 : Ref sig .tc := ⟨.hbm, 137, rfl⟩
abbrev main_v47 : Ref sig .tc := ⟨.hbm, 138, rfl⟩
abbrev main_call4_cst : Ref sig .tc := ⟨.hbm, 139, rfl⟩
abbrev main_call4_v0 : Ref sig .tc := ⟨.hbm, 140, rfl⟩
abbrev main_v48 : Ref sig .tc := ⟨.hbm, 141, rfl⟩
abbrev main_v49 : Ref sig .tc := ⟨.hbm, 142, rfl⟩
abbrev main_cst_10 : Ref sig .tc := ⟨.hbm, 143, rfl⟩
abbrev main_v50 : Ref sig .tc := ⟨.hbm, 144, rfl⟩
abbrev main_v51 : Ref sig .tc := ⟨.hbm, 145, rfl⟩
abbrev main_cst_11 : Ref sig .tc := ⟨.hbm, 146, rfl⟩
abbrev main_v52 : Ref sig .tc := ⟨.hbm, 147, rfl⟩
abbrev main_v53 : Ref sig .tc := ⟨.hbm, 148, rfl⟩
abbrev main_c_12 : Ref sig .tc := ⟨.hbm, 149, rfl⟩
abbrev main_call5_cst : Ref sig .tc := ⟨.hbm, 150, rfl⟩
abbrev main_call5_v0 : Ref sig .tc := ⟨.hbm, 151, rfl⟩
abbrev main_call5_v1 : Ref sig .tc := ⟨.hbm, 152, rfl⟩
abbrev main_call5_cst_0 : Ref sig .tc := ⟨.hbm, 153, rfl⟩
abbrev main_call5_v2 : Ref sig .tc := ⟨.hbm, 154, rfl⟩
abbrev main_call5_v3 : Ref sig .tc := ⟨.hbm, 155, rfl⟩
abbrev main_call5_v4 : Ref sig .tc := ⟨.hbm, 156, rfl⟩
abbrev main_call5_v5 : Ref sig .tc := ⟨.hbm, 157, rfl⟩
abbrev main_call5_v6 : Ref sig .tc := ⟨.hbm, 158, rfl⟩
abbrev main_call5_v7 : Ref sig .tc := ⟨.hbm, 159, rfl⟩
abbrev main_call5_cst_1 : Ref sig .tc := ⟨.hbm, 160, rfl⟩
abbrev main_call5_v8 : Ref sig .tc := ⟨.hbm, 161, rfl⟩
abbrev main_call5_cst_2 : Ref sig .tc := ⟨.hbm, 162, rfl⟩
abbrev main_call5_v9 : Ref sig .tc := ⟨.hbm, 163, rfl⟩
abbrev main_call5_v10 : Ref sig .tc := ⟨.hbm, 164, rfl⟩
abbrev main_call5_v11 : Ref sig .tc := ⟨.hbm, 165, rfl⟩
abbrev main_call5_v12 : Ref sig .tc := ⟨.hbm, 166, rfl⟩
abbrev main_call5_cst_3 : Ref sig .tc := ⟨.hbm, 167, rfl⟩
abbrev main_call5_v13 : Ref sig .tc := ⟨.hbm, 168, rfl⟩
abbrev main_call5_cst_4 : Ref sig .tc := ⟨.hbm, 169, rfl⟩
abbrev main_call5_call0_v0 : Ref sig .tc := ⟨.hbm, 170, rfl⟩
abbrev main_call5_call0_v1 : Ref sig .tc := ⟨.hbm, 171, rfl⟩
abbrev main_v54 : Ref sig .tc := ⟨.hbm, 172, rfl⟩
abbrev main_v55 : Ref sig .tc := ⟨.hbm, 173, rfl⟩
abbrev main_v56 : Ref sig .tc := ⟨.hbm, 174, rfl⟩
abbrev main_cst_13 : Ref sig .tc := ⟨.hbm, 175, rfl⟩
abbrev main_v57 : Ref sig .tc := ⟨.hbm, 176, rfl⟩
abbrev main_v58 : Ref sig .tc := ⟨.hbm, 177, rfl⟩
abbrev main_v59 : Ref sig .tc := ⟨.hbm, 178, rfl⟩
abbrev main_v60 : Ref sig .tc := ⟨.hbm, 179, rfl⟩
abbrev main_v61 : Ref sig .tc := ⟨.hbm, 180, rfl⟩
abbrev main_cst_14 : Ref sig .tc := ⟨.hbm, 181, rfl⟩
abbrev main_v62 : Ref sig .tc := ⟨.hbm, 182, rfl⟩
abbrev main_cst_15 : Ref sig .tc := ⟨.hbm, 183, rfl⟩
abbrev main_v63 : Ref sig .tc := ⟨.hbm, 184, rfl⟩
abbrev main_v64 : Ref sig .tc := ⟨.hbm, 185, rfl⟩
abbrev main_v65 : Ref sig .tc := ⟨.hbm, 186, rfl⟩
abbrev main_v66 : Ref sig .tc := ⟨.hbm, 187, rfl⟩
abbrev main_v67 : Ref sig .tc := ⟨.hbm, 188, rfl⟩
abbrev main_v68 : Ref sig .tc := ⟨.hbm, 189, rfl⟩
abbrev main_cst_16 : Ref sig .tc := ⟨.hbm, 190, rfl⟩
abbrev main_v69 : Ref sig .tc := ⟨.hbm, 191, rfl⟩
abbrev main_v70 : Ref sig .tc := ⟨.hbm, 192, rfl⟩
abbrev main_v71 : Ref sig .tc := ⟨.hbm, 193, rfl⟩
abbrev main_v72 : Ref sig .tc := ⟨.hbm, 194, rfl⟩
abbrev main_v73 : Ref sig .tc := ⟨.hbm, 195, rfl⟩
abbrev main_v74 : Ref sig .tc := ⟨.hbm, 196, rfl⟩
abbrev main_v75 : Ref sig .tc := ⟨.hbm, 197, rfl⟩
abbrev main_cst_17 : Ref sig .tc := ⟨.hbm, 198, rfl⟩
abbrev main_v76 : Ref sig .tc := ⟨.hbm, 199, rfl⟩
abbrev main_v77 : Ref sig .tc := ⟨.hbm, 200, rfl⟩
abbrev main_v78 : Ref sig .tc := ⟨.hbm, 201, rfl⟩
abbrev main_v79 : Ref sig .tc := ⟨.hbm, 202, rfl⟩
abbrev main_v80 : Ref sig .tc := ⟨.hbm, 203, rfl⟩
abbrev main_cst_18 : Ref sig .tc := ⟨.hbm, 204, rfl⟩
abbrev main_v81 : Ref sig .tc := ⟨.hbm, 205, rfl⟩
abbrev main_v82 : Ref sig .tc := ⟨.hbm, 206, rfl⟩
abbrev main_cst_19 : Ref sig .tc := ⟨.hbm, 207, rfl⟩
abbrev main_v83 : Ref sig .tc := ⟨.hbm, 208, rfl⟩
abbrev main_v84 : Ref sig .tc := ⟨.hbm, 209, rfl⟩
abbrev main_c_20 : Ref sig .tc := ⟨.hbm, 210, rfl⟩
abbrev main_call6_cst : Ref sig .tc := ⟨.hbm, 211, rfl⟩
abbrev main_call6_v0 : Ref sig .tc := ⟨.hbm, 212, rfl⟩
abbrev main_call6_v1 : Ref sig .tc := ⟨.hbm, 213, rfl⟩
abbrev main_call6_cst_0 : Ref sig .tc := ⟨.hbm, 214, rfl⟩
abbrev main_call6_v2 : Ref sig .tc := ⟨.hbm, 215, rfl⟩
abbrev main_call6_v3 : Ref sig .tc := ⟨.hbm, 216, rfl⟩
abbrev main_call6_v4 : Ref sig .tc := ⟨.hbm, 217, rfl⟩
abbrev main_call6_v5 : Ref sig .tc := ⟨.hbm, 218, rfl⟩
abbrev main_call6_v6 : Ref sig .tc := ⟨.hbm, 219, rfl⟩
abbrev main_call6_v7 : Ref sig .tc := ⟨.hbm, 220, rfl⟩
abbrev main_call6_cst_1 : Ref sig .tc := ⟨.hbm, 221, rfl⟩
abbrev main_call6_v8 : Ref sig .tc := ⟨.hbm, 222, rfl⟩
abbrev main_call6_cst_2 : Ref sig .tc := ⟨.hbm, 223, rfl⟩
abbrev main_call6_v9 : Ref sig .tc := ⟨.hbm, 224, rfl⟩
abbrev main_call6_v10 : Ref sig .tc := ⟨.hbm, 225, rfl⟩
abbrev main_call6_v11 : Ref sig .tc := ⟨.hbm, 226, rfl⟩
abbrev main_call6_v12 : Ref sig .tc := ⟨.hbm, 227, rfl⟩
abbrev main_call6_cst_3 : Ref sig .tc := ⟨.hbm, 228, rfl⟩
abbrev main_call6_v13 : Ref sig .tc := ⟨.hbm, 229, rfl⟩
abbrev main_call6_cst_4 : Ref sig .tc := ⟨.hbm, 230, rfl⟩
abbrev main_call6_call0_v0 : Ref sig .tc := ⟨.hbm, 231, rfl⟩
abbrev main_call6_call0_v1 : Ref sig .tc := ⟨.hbm, 232, rfl⟩
abbrev main_v85 : Ref sig .tc := ⟨.hbm, 233, rfl⟩
abbrev main_v86 : Ref sig .tc := ⟨.hbm, 234, rfl⟩
abbrev main_v87 : Ref sig .tc := ⟨.hbm, 235, rfl⟩
abbrev main_cst_21 : Ref sig .tc := ⟨.hbm, 236, rfl⟩
abbrev main_v88 : Ref sig .tc := ⟨.hbm, 237, rfl⟩
abbrev main_v89 : Ref sig .tc := ⟨.hbm, 238, rfl⟩
abbrev main_v90 : Ref sig .tc := ⟨.hbm, 239, rfl⟩
abbrev main_v91 : Ref sig .tc := ⟨.hbm, 240, rfl⟩
abbrev main_v92 : Ref sig .tc := ⟨.hbm, 241, rfl⟩
abbrev main_v93 : Ref sig .tc := ⟨.hbm, 242, rfl⟩
abbrev main_v94 : Ref sig .tc := ⟨.hbm, 243, rfl⟩

abbrev nD : Nat := 1
abbrev τ : Topo := Topo.v7x

variable {F : FTy → Type} [FloatOps F]
-- ==== Before.lean ====
abbrev S2x4096x3 : Shape := ⟨3, ![2, 4096, 3]⟩
abbrev S2x4096x128 : Shape := ⟨3, ![2, 4096, 128]⟩
abbrev S128x128 : Shape := ⟨2, ![128, 128]⟩
abbrev S128 : Shape := ⟨1, ![128]⟩
abbrev S3x128 : Shape := ⟨2, ![3, 128]⟩
abbrev S_ : Shape := ⟨0, ![]⟩
abbrev S2x4096x8 : Shape := ⟨3, ![2, 4096, 8]⟩
abbrev S2x8x4096 : Shape := ⟨3, ![2, 8, 4096]⟩
abbrev S2x4096x16 : Shape := ⟨3, ![2, 4096, 16]⟩
abbrev S1x512x8 : Shape := ⟨3, ![1, 512, 8]⟩
abbrev S1x8x4096 : Shape := ⟨3, ![1, 8, 4096]⟩
abbrev S1x512x16 : Shape := ⟨3, ![1, 512, 16]⟩
abbrev S512x8 : Shape := ⟨2, ![512, 8]⟩
abbrev S8x4096 : Shape := ⟨2, ![8, 4096]⟩
abbrev S512x4096 : Shape := ⟨2, ![512, 4096]⟩
abbrev S4096 : Shape := ⟨1, ![4096]⟩
abbrev S1x4096 : Shape := ⟨2, ![1, 4096]⟩
abbrev S512 : Shape := ⟨1, ![512]⟩
abbrev S512x1 : Shape := ⟨2, ![512, 1]⟩
abbrev S512x16 : Shape := ⟨2, ![512, 16]⟩
abbrev S131072 : Shape := ⟨1, ![131072]⟩
abbrev S8192x8 : Shape := ⟨2, ![8192, 8]⟩
abbrev S8192x128 : Shape := ⟨2, ![8192, 128]⟩
abbrev S8x128 : Shape := ⟨2, ![8, 128]⟩
abbrev S1x128 : Shape := ⟨2, ![1, 128]⟩
abbrev S512x128 : Shape := ⟨2, ![512, 128]⟩

abbrev nBuf : Space → Nat
  | .hbm => 27
  | .vmem => 32
  | .smem => 0
  | _ => 0

abbrev bufTy : (tb : Table) → Fin (tcTables nBuf tb) → BufTy
  | .hbm, ⟨0, _⟩ => ⟨S2x4096x3, .f32⟩
  | .hbm, ⟨1, _⟩ => ⟨S2x4096x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S3x128, .f32⟩
  | .hbm, ⟨8, _⟩ => ⟨S_, .i32⟩
  | .hbm, ⟨9, _⟩ => ⟨S_, .f32⟩
  | .hbm, ⟨10, _⟩ => ⟨S2x4096x8, .f32⟩
  | .hbm, ⟨11, _⟩ => ⟨S2x8x4096, .f32⟩
  | .hbm, ⟨12, _⟩ => ⟨S2x4096x16, .i32⟩
  | .hbm, ⟨13, _⟩ => ⟨S131072, .i32⟩
  | .hbm, ⟨14, _⟩ => ⟨S8192x8, .f32⟩
  | .hbm, ⟨15, _⟩ => ⟨S8192x128, .f32⟩
  | .hbm, ⟨16, _⟩ => ⟨S_, .i32⟩
  | .hbm, ⟨17, _⟩ => ⟨S_, .f32⟩
  | .hbm, ⟨18, _⟩ => ⟨S8x128, .f32⟩
  | .hbm, ⟨19, _⟩ => ⟨S1x128, .f32⟩
  | .hbm, ⟨20, _⟩ => ⟨S8192x128, .f32⟩
  | .hbm, ⟨21, _⟩ => ⟨S1x128, .f32⟩
  | .hbm, ⟨22, _⟩ => ⟨S1x128, .f32⟩
  | .hbm, ⟨23, _⟩ => ⟨S8192x128, .f32⟩
  | .hbm, ⟨24, _⟩ => ⟨S8192x128, .f32⟩
  | .hbm, ⟨25, _⟩ => ⟨S8192x128, .f32⟩
  | .hbm, ⟨26, _⟩ => ⟨S8192x128, .f32⟩
  | .local _ .vmem, ⟨0, _⟩ => ⟨S1x512x8, .f32⟩
  | .local _ .vmem, ⟨1, _⟩ => ⟨S1x512x8, .f32⟩
  | .local _ .vmem, ⟨2, _⟩ => ⟨S1x8x4096, .f32⟩
  | .local _ .vmem, ⟨3, _⟩ => ⟨S1x8x4096, .f32⟩
  | .local _ .vmem, ⟨4, _⟩ => ⟨S1x512x16, .i32⟩
  | .local _ .vmem, ⟨5, _⟩ => ⟨S1x512x16, .i32⟩
  | .local _ .vmem, ⟨6, _⟩ => ⟨S512x128, .f32⟩
  | .local _ .vmem, ⟨7, _⟩ => ⟨S512x128, .f32⟩
  | .local _ .vmem, ⟨8, _⟩ => ⟨S128x128, .f32⟩
  | .local _ .vmem, ⟨9, _⟩ => ⟨S1x128, .f32⟩
  | .local _ .vmem, ⟨10, _⟩ => ⟨S512x128, .f32⟩
  | .local _ .vmem, ⟨11, _⟩ => ⟨S512x128, .f32⟩
  | .local _ .vmem, ⟨12, _⟩ => ⟨S1x128, .f32⟩
  | .local _ .vmem, ⟨13, _⟩ => ⟨S1x128, .f32⟩
  | .local _ .vmem, ⟨14, _⟩ => ⟨S512x128, .f32⟩
  | .local _ .vmem, ⟨15, _⟩ => ⟨S512x128, .f32⟩
  | .local _ .vmem, ⟨16, _⟩ => ⟨S1x128, .f32⟩
  | .local _ .vmem, ⟨17, _⟩ => ⟨S1x128, .f32⟩
  | .local _ .vmem, ⟨18, _⟩ => ⟨S512x8, .f32⟩
  | .local _ .vmem, ⟨19, _⟩ => ⟨S512x8, .f32⟩
  | .local _ .vmem, ⟨20, _⟩ => ⟨S128x128, .f32⟩
  | .local _ .vmem, ⟨21, _⟩ => ⟨S128x128, .f32⟩
  | .local _ .vmem, ⟨22, _⟩ => ⟨S128x128, .f32⟩
  | .local _ .vmem, ⟨23, _⟩ => ⟨S8x128, .f32⟩
  | .local _ .vmem, ⟨24, _⟩ => ⟨S512x128, .f32⟩
  | .local _ .vmem, ⟨25, _⟩ => ⟨S512x128, .f32⟩
  | .local _ .vmem, ⟨26, _⟩ => ⟨S512x128, .f32⟩
  | .local _ .vmem, ⟨27, _⟩ => ⟨S512x128, .f32⟩
  | .local _ .vmem, ⟨28, _⟩ => ⟨S512x128, .f32⟩
  | .local _ .vmem, ⟨29, _⟩ => ⟨S512x128, .f32⟩
  | .local _ .vmem, ⟨30, _⟩ => ⟨S512x128, .f32⟩
  | .local _ .vmem, ⟨31, _⟩ => ⟨S512x128, .f32⟩
  | _, _ => ⟨S2x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_call1_v0 : Ref sig .tc := ⟨.hbm, 17, rfl⟩
abbrev main_v6 : Ref sig .tc := ⟨.hbm, 18, rfl⟩
abbrev main_v7 : Ref sig .tc := ⟨.hbm, 19, rfl⟩
abbrev main_v8_0 : Ref sig .tc := ⟨.hbm, 20, rfl⟩
abbrev main_v8_1 : Ref sig .tc := ⟨.hbm, 21, rfl⟩
abbrev main_v8_2 : Ref sig .tc := ⟨.hbm, 22, rfl⟩
abbrev main_v9_0 : Ref sig .tc := ⟨.hbm, 23, rfl⟩
abbrev main_v9_1 : Ref sig .tc := ⟨.hbm, 24, rfl⟩
abbrev main_v9_2 : Ref sig .tc := ⟨.hbm, 25, rfl⟩
abbrev main_v9_3 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg5_0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg7_0 : Ref sig .tc := ⟨.vmem, 23, rfl⟩
abbrev cc2_stg8_0 : Ref sig .tc := ⟨.vmem, 24, rfl⟩
abbrev cc2_stg8_1 : Ref sig .tc := ⟨.vmem, 25, rfl⟩
abbrev cc2_stg9_0 : Ref sig .tc := ⟨.vmem, 26, rfl⟩
abbrev cc2_stg9_1 : Ref sig .tc := ⟨.vmem, 27, rfl⟩
abbrev cc2_stg10_0 : Ref sig .tc := ⟨.vmem, 28, rfl⟩
abbrev cc2_stg10_1 : Ref sig .tc := ⟨.vmem, 29, rfl⟩
abbrev cc2_stg11_0 : Ref sig .tc := ⟨.vmem, 30, rfl⟩
abbrev cc2_stg11_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem5_0 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19
abbrev cc2_sem4_0 : DmaSem sig := 20
abbrev cc2_sem5_0 : DmaSem sig := 21
abbrev cc2_sem6_0 : DmaSem sig := 22
abbrev cc2_sem7_0 : DmaSem sig := 23
abbrev cc2_sem8_0 : DmaSem sig := 24
abbrev cc2_sem8_1 : DmaSem sig := 25
abbrev cc2_sem9_0 : DmaSem sig := 26
abbrev cc2_sem9_1 : DmaSem sig := 27
abbrev cc2_sem10_0 : DmaSem sig := 28
abbrev cc2_sem10_1 : DmaSem sig := 29
abbrev cc2_sem11_0 : DmaSem sig := 30
abbrev cc2_sem11_1 : DmaSem sig := 31

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x16 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_11 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x8 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S8x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S512x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S512x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 2 → Memref sig .tc .vmem S512x128 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev stage2_11 : Fin 2 → Memref sig .tc .vmem S512x128 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]
-- ==== BeforeRefIdeal.lean ====
abbrev S2x4096x3 : Shape := ⟨3, ![2, 4096, 3]⟩
abbrev S2x4096x128 : Shape := ⟨3, ![2, 4096, 128]⟩
abbrev S128x128 : Shape := ⟨2, ![128, 128]⟩
abbrev S128 : Shape := ⟨1, ![128]⟩
abbrev S3x128 : Shape := ⟨2, ![3, 128]⟩
abbrev S1x1x128 : Shape := ⟨3, ![1, 1, 128]⟩
abbrev S_ : Shape := ⟨0, ![]⟩
abbrev S8192x128 : Shape := ⟨2, ![8192, 128]⟩
abbrev S2x4096 : Shape := ⟨2, ![2, 4096]⟩
abbrev S2x4096x1 : Shape := ⟨3, ![2, 4096, 1]⟩
abbrev S2x1x4096 : Shape := ⟨3, ![2, 1, 4096]⟩
abbrev S2x4096x4096 : Shape := ⟨3, ![2, 4096, 4096]⟩
abbrev S2x4096x16 : Shape := ⟨3, ![2, 4096, 16]⟩
abbrev S2 : Shape := ⟨1, ![2]⟩
abbrev S2x1x1 : Shape := ⟨3, ![2, 1, 1]⟩
abbrev S131072 : Shape := ⟨1, ![131072]⟩

abbrev nBuf : Space → Nat
  | .hbm => 82
  | .vmem => 0
  | .smem => 0
  | _ => 0

abbrev bufTy : (tb : Table) → Fin (tcTables nBuf tb) → BufTy
  | .hbm, ⟨0, _⟩ => ⟨S2x4096x3, .f32⟩
  | .hbm, ⟨1, _⟩ => ⟨S2x4096x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S3x128, .f32⟩
  | .hbm, ⟨8, _⟩ => ⟨S2x4096x128, .f32⟩
  | .hbm, ⟨9, _⟩ => ⟨S1x1x128, .f32⟩
  | .hbm, ⟨10, _⟩ => ⟨S2x4096x128, .f32⟩
  | .hbm, ⟨11, _⟩ => ⟨S2x4096x128, .f32⟩
  | .hbm, ⟨12, _⟩ => ⟨S_, .f32⟩
  | .hbm, ⟨13, _⟩ => ⟨S128, .f32⟩
  | .hbm, ⟨14, _⟩ => ⟨S1x1x128, .f32⟩
  | .hbm, ⟨15, _⟩ => ⟨S_, .f32⟩
  | .hbm, ⟨16, _⟩ => ⟨S1x1x128, .f32⟩
  | .hbm, ⟨17, _⟩ => ⟨S1x1x128, .f32⟩
  | .hbm, ⟨18, _⟩ => ⟨S_, .i32⟩
  | .hbm, ⟨19, _⟩ => ⟨S_, .f32⟩
  | .hbm, ⟨20, _⟩ => ⟨S128, .f32⟩
  | .hbm, ⟨21, _⟩ => ⟨S1x1x128, .f32⟩
  | .hbm, ⟨22, _⟩ => ⟨S_, .f32⟩
  | .hbm, ⟨23, _⟩ => ⟨S1x1x128, .f32⟩
  | .hbm, ⟨24, _⟩ => ⟨S1x1x128, .f32⟩
  | .hbm, ⟨25, _⟩ => ⟨S2x4096x128, .f32⟩
  | .hbm, ⟨26, _⟩ => ⟨S2x4096x128, .f32⟩
  | .hbm, ⟨27, _⟩ => ⟨S2x4096x128, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S128, .f32⟩
  | .hbm, ⟨33, _⟩ => ⟨S1x1x128, .f32⟩
  | .hbm, ⟨34, _⟩ => ⟨S1x1x128, .f32⟩
  | .hbm, ⟨35, _⟩ => ⟨S1x1x128, .f32⟩
  | .hbm, ⟨36, _⟩ => ⟨S_, .f32⟩
  | .hbm, ⟨37, _⟩ => ⟨S_, .i1⟩
  | .hbm, ⟨38, _⟩ => ⟨S_, .f32⟩
  | .hbm, ⟨39, _⟩ => ⟨S_, .f32⟩
  | .hbm, ⟨40, _⟩ => ⟨S1x1x128, .f32⟩
  | .hbm, ⟨41, _⟩ => ⟨S1x1x128, .f32⟩
  | .hbm, ⟨42, _⟩ => ⟨S2x4096x128, .f32⟩
  | .hbm, ⟨43, _⟩ => ⟨S2x4096x128, .f32⟩
  | .hbm, ⟨44, _⟩ => ⟨S_, .f32⟩
  | .hbm, ⟨45, _⟩ => ⟨S1x1x128, .f32⟩
  | .hbm, ⟨46, _⟩ => ⟨S1x1x128, .f32⟩
  | .hbm, ⟨47, _⟩ => ⟨S1x1x128, .f32⟩
  | .hbm, ⟨48, _⟩ => ⟨S2x4096x128, .f32⟩
  | .hbm, ⟨49, _⟩ => ⟨S2x4096x128, .f32⟩
  | .hbm, ⟨50, _⟩ => ⟨S2x4096x128, .f32⟩
  | .hbm, ⟨51, _⟩ => ⟨S8192x128, .f32⟩
  | .hbm, ⟨52, _⟩ => ⟨S2x4096x128, .f32⟩
  | .hbm, ⟨53, _⟩ => ⟨S8192x128, .f32⟩
  | .hbm, ⟨54, _⟩ => ⟨S2x4096x128, .f32⟩
  | .hbm, ⟨55, _⟩ => ⟨S8192x128, .f32⟩
  | .hbm, ⟨56, _⟩ => ⟨S2x4096x128, .f32⟩
  | .hbm, ⟨57, _⟩ => ⟨S8192x128, .f32⟩
  | .hbm, ⟨58, _⟩ => ⟨S2x4096x3, .f32⟩
  | .hbm, ⟨59, _⟩ => ⟨S_, .f32⟩
  | .hbm, ⟨60, _⟩ => ⟨S2x4096, .f32⟩
  | .hbm, ⟨61, _⟩ => ⟨S2x4096x1, .f32⟩
  | .hbm, ⟨62, _⟩ => ⟨S2x1x4096, .f32⟩
  | .hbm, ⟨63, _⟩ => ⟨S2x4096x4096, .f32⟩
  | .hbm, ⟨64, _⟩ => ⟨S2x4096x4096, .f32⟩
  | .hbm, ⟨65, _⟩ => ⟨S2x4096x4096, .f32⟩
  | .hbm, ⟨66, _⟩ => ⟨S2x4096x4096, .f32⟩
  | .hbm, ⟨67, _⟩ => ⟨S_, .f32⟩
  | .hbm, ⟨68, _⟩ => ⟨S2x4096x4096, .f32⟩
  | .hbm, ⟨69, _⟩ => ⟨S2x4096x4096, .f32⟩
  | .hbm, ⟨70, _⟩ => ⟨S2x4096x4096, .f32⟩
  | .hbm, ⟨71, _⟩ => ⟨S2x4096x4096, .f32⟩
  | .hbm, ⟨72, _⟩ => ⟨S2x4096x16, .f32⟩
  | .hbm, ⟨73, _⟩ => ⟨S2x4096x16, .i32⟩
  | .hbm, ⟨74, _⟩ => ⟨S2, .i32⟩
  | .hbm, ⟨75, _⟩ => ⟨S2x1x1, .i32⟩
  | .hbm, ⟨76, _⟩ => ⟨S_, .i32⟩
  | .hbm, ⟨77, _⟩ => ⟨S2x1x1, .i32⟩
  | .hbm, ⟨78, _⟩ => ⟨S2x1x1, .i32⟩
  | .hbm, ⟨79, _⟩ => ⟨S2x4096x16, .i32⟩
  | .hbm, ⟨80, _⟩ => ⟨S2x4096x16, .i32⟩
  | .hbm, ⟨81, _⟩ => ⟨S131072, .i32⟩
  | _, _ => ⟨S2x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_c : Ref sig .tc := ⟨.hbm, 18, rfl⟩
abbrev main_call0_cst : Ref sig .tc := ⟨.hbm, 19, rfl⟩
abbrev main_call0_v0 : Ref sig .tc := ⟨.hbm, 20, rfl⟩
abbrev main_call0_v1 : Ref sig .tc := ⟨.hbm, 21, rfl⟩
abbrev main_call0_cst_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_cst_1 : Ref sig .tc := ⟨.hbm, 29, rfl⟩
abbrev main_call0_v8 : Ref sig .tc := ⟨.hbm, 30, rfl⟩
abbrev main_call0_cst_2 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_v12 : Ref sig .tc := ⟨.hbm, 35, rfl⟩
abbrev main_call0_cst_3 : Ref sig .tc := ⟨.hbm, 36, rfl⟩
abbrev main_call0_v13 : Ref sig .tc := ⟨.hbm, 37, rfl⟩
abbrev main_call0_cst_4 : Ref sig .tc := ⟨.hbm, 38, rfl⟩
abbrev main_call0_call0_v0 : Ref sig .tc := ⟨.hbm, 39, rfl⟩
abbrev main_call0_call0_v1 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_cst_1 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_cst_2 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_cst_3 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_values : Ref sig .tc := ⟨.hbm, 72, rfl⟩
abbrev main_indices : Ref sig .tc := ⟨.hbm, 73, rfl⟩
abbrev main_v36 : Ref sig .tc := ⟨.hbm, 74, rfl⟩
abbrev main_v37 : Ref sig .tc := ⟨.hbm, 75, rfl⟩
abbrev main_c_4 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩

abbrev nD : Nat := 1
abbrev τ : Topo := Topo.v7x

variable {F : FTy → Type} [FloatOps F]
-- ==== Proof.Grid.lean ====
/-
  Sums cut into sixteen tiles, the host's sum over two of three axes, the two counts of the normalisations (a quotient by
  one of them is a product, as it is a power of two), and the normalisation itself.
-/
module

public import Idealize.ShloMosaic.Lib.ValueIdx
public import Idealize.ShloMosaic.Lib.Pipeline.Value
public import Idealize.ShloMosaic.PureOps.Ideal.Laws

@[expose] public section

noncomputable section

namespace Cert.Proof.Grid

open Idealize.ShloMosaic Idealize.ShloMosaic.ValueIdx
open scoped BigOperators

/-! ## Sums -/

/-- The place of entry `r` of tile `t` among `A` tiles of `B` entries. -/
theorem place_lt {A B N : ℕ} (h : N = A * B) (t : Fin A) (r : Fin B) : B * t.val + r.val < N := by
  have h1 : B * (t.val + 1) ≤ B * A := Nat.mul_le_mul_left B t.isLt
  have h2 := r.isLt
  rw [h, Nat.mul_comm A B]
  rw [Nat.mul_add, Nat.mul_one] at h1
  omega

/-- A sum over `A * B` places is the sum over the tiles of the sums over each tile. -/
theorem sum_tiles {M : Type*} [AddCommMonoid M] {A B N : ℕ} (h : N = A * B) (f : Fin N → M) :
    ∑ n, f n = ∑ t : Fin A, ∑ r : Fin B, f ⟨B * t.val + r.val, place_lt h t r⟩ := by
  subst h
  rw [← Fintype.sum_prod_type', ← Equiv.sum_comp (finProdFinEquiv (m := A) (n := B))]
  refine Finset.sum_congr rfl fun p _ => congrArg f (Fin.ext ?_)
  show p.2.val + B * p.1.val = B * p.1.val + p.2.val
  omega

/-- A sum over sixteen tiles of the sums over their 512 rows is the sum over all rows: row `r` of tile `t` is row
    `512 t + r`. -/
theorem sum_rows {F : Fin 16 → Fin 512 → EReal} {g : Fin 8192 → EReal}
    (h : ∀ (t : Fin 16) (r : Fin 512) (ht : 512 * t.val + r.val < 8192), F t r = g ⟨512 * t.val + r.val, ht⟩) :
    ∑ t, ∑ r, F t r = ∑ n, g n := by
  rw [sum_tiles (A := 16) (B := 512) rfl]
  exact Finset.sum_congr rfl fun t _ => Finset.sum_congr rfl fun r _ => h t r _

/-- A sum over sixteen tiles of the sums over their 8192 neighbours is the sum over all neighbours: neighbour `r` of tile
    `t` is neighbour `r % 16` of row `512 t + r / 16`. -/
theorem sum_nbrs {F : Fin 16 → Fin 8192 → EReal} {g : Fin 8192 → Fin 16 → EReal}
    (h : ∀ (t : Fin 16) (r : Fin 8192) (ht : 512 * t.val + r.val / 16 < 8192) (hr : r.val % 16 < 16),
      F t r = g ⟨512 * t.val + r.val / 16, ht⟩ ⟨r.val % 16, hr⟩) :
    ∑ t, ∑ r, F t r = ∑ n, ∑ k, g n k := by
  refine sum_rows (F := fun t a => ∑ k : Fin 16, F t ⟨16 * a.val + k.val, place_lt (A := 512) rfl a k⟩) (fun t a ht => ?_) |>.symm.trans ?_ |>.symm
  · refine Finset.sum_congr rfl fun k _ => ?_
    have hk := k.isLt
    rw [h t _ (by show 512 * t.val + (16 * a.val + k.val) / 16 < 8192; omega) (Nat.mod_lt _ (by omega))]
    congr 1
    · apply Fin.ext; show 512 * t.val + (16 * a.val + k.val) / 16 = 512 * t.val + a.val; omega
    · apply Fin.ext; show (16 * a.val + k.val) % 16 = k.val; omega
  · exact Finset.sum_congr rfl fun t _ => (sum_tiles (A := 512) (B := 16) rfl (F t)).symm

/-- The host's sum over the first two of three axes, at one index: the initial value and the double sum. -/
theorem host_sum_two {A B C : ℕ} (h : (⟨3, ![A, B, C]⟩ : Shape).ReducesTo [0, 1] ⟨1, ![C]⟩)
    (x : (⟨3, ![A, B, C]⟩ : Shape).Idx → EReal) (init : EReal) (j : (⟨1, ![C]⟩ : Shape).Idx) :
    Ideal.hostReduceAdd h x init j = init + ∑ a : Fin A, ∑ b : Fin B, x (ix3 a b (j 0)) := by
  show init + _ = init + _
  congr 1
  rw [← Fintype.sum_prod_type' (f := fun a b => x (ix3 a b (j 0)))]
  symm
  refine Finset.sum_bij (fun p _ => ix3 p.1 p.2 (j 0)) (fun p _ => ?_) (fun p _ q _ e => ?_) (fun i hi => ?_) (fun _ _ => rfl)
  · refine Finset.mem_filter.mpr ⟨Finset.mem_univ _, ?_⟩
    funext b
    match b with
    | ⟨0, _⟩ => rfl
  · exact Prod.ext (congrFun e 0) (congrFun e 1)
  · refine ⟨(i 0, i 1), Finset.mem_univ _, ?_⟩
    have e := (Finset.mem_filter.mp hi).2
    subst e
    exact (eq_ix3 i).symm

/-! ## Constants -/

/-- The two counts, and the words the kernel multiplies by. -/
theorem word_rows : Ideal.ofBits .f32 0x46000000#32 = ((8192 : ℝ) : EReal) := by
  simp [Ideal.ofBits, Ideal.ieee, -EReal.coe_mul]; norm_num
theorem word_nbrs : Ideal.ofBits .f32 0x48000000#32 = ((131072 : ℝ) : EReal) := by
  simp [Ideal.ofBits, Ideal.ieee, -EReal.coe_mul]; norm_num
theorem word_per_row : Ideal.ofBits .f32 0x39000000#32 = ((1 / 8192 : ℝ) : EReal) := by
  simp [Ideal.ofBits, Ideal.ieee, -EReal.coe_mul]; norm_num
theorem word_per_nbr : Ideal.ofBits .f32 0x37000000#32 = ((1 / 131072 : ℝ) : EReal) := by
  simp [Ideal.ofBits, Ideal.ieee, -EReal.coe_mul]; norm_num

/-- A quotient by either count is the product with its word. -/
theorem div_rows (x : EReal) : Ideal.div x (Ideal.ofBits .f32 0x46000000#32) = x * Ideal.ofBits .f32 0x39000000#32 := by
  rw [word_rows, word_per_row, Ideal.div_coe (by norm_num)]
theorem div_nbrs (x : EReal) : Ideal.div x (Ideal.ofBits .f32 0x48000000#32) = x * Ideal.ofBits .f32 0x37000000#32 := by
  rw [word_nbrs, word_per_nbr, Ideal.div_coe (by norm_num)]

/-- A value centred and scaled by the mean and the variance that the sums `s` and `q` give at the reciprocal count `κ`. -/
def norm (κ x s q : EReal) : EReal :=
  (x - s * κ) * Ideal.rsqrt (q * κ - s * κ * (s * κ) + Ideal.ofBits .f32 0x3727C5AC#32)

end Cert.Proof.Grid

end
-- ==== Proof.Top.lean ====
/-
  The first layer: every row times the square matrix, plus the bias; with it the sums of the results and of their squares
  over all rows. The kernel walks sixteen tiles of 512 rows and keeps the two rows of sums across them.
-/
module

public import proofs.«01_k».proof.Defs
public import proofs.«01_k».proof.Proof.Grid
public import proofs.«01_k».proof.Proof.Gen.TopIdeal.Value
public import proofs.«01_k».proof.Proof.Gen.TopRefIdeal.Run
public import Idealize.ShloMosaic.Lib.Pipeline.ValueKit.Point
public import Idealize.ShloMosaic.Lib.Claim
public import Idealize.ShloMosaic.Lib.Quiescent

@[expose] public section

noncomputable section

namespace Cert.Proof.Top

open Idealize.ShloMosaic Idealize.ShloMosaic.TcCoe Idealize.SL.Sem
open Cert.TopIdeal Cert.TopIdeal.Gen

variable (m : (ℓ : Loc nD τ sig) → Buf (Elt Ideal) ℓ)

/-! ## The results, of the arguments -/

/-- One entry of the result, of row `n` in lane `h`. -/
def val (x : S8192x128.Idx → EReal) (w : S128x128.Idx → EReal) (b : S1x128.Idx → EReal)
    (n : Fin 8192) (h : Fin 128) : EReal :=
  (∑ i : Fin 128, x (ix2 n i) * w (ix2 i h)) + b (ix2 0 h)

/-- Result 0. -/
def res0 (x : S8192x128.Idx → EReal) (w : S128x128.Idx → EReal) (b : S1x128.Idx → EReal) (j : S8192x128.Idx) : EReal :=
  val x w b (j 0) (j 1)

/-- Result 1, a row of sums. -/
def res1 (x : S8192x128.Idx → EReal) (w : S128x128.Idx → EReal) (b : S1x128.Idx → EReal) (j : S1x128.Idx) : EReal :=
  ∑ n : Fin 8192, val x w b n (j 1)

/-- Result 2, a row of sums. -/
def res2 (x : S8192x128.Idx → EReal) (w : S128x128.Idx → EReal) (b : S1x128.Idx → EReal) (j : S1x128.Idx) : EReal :=
  ∑ n : Fin 8192, val x w b n (j 1) * val x w b n (j 1)

/-! ## The kernel -/

/-- Where the windows of point `t` start: a tile at tile `t`, an array held whole at its start. -/
theorem idx0 : ∀ t : Fin cfg0.N, win0_0.index t = ![t.val, 0] :=
  (by decide +kernel : ∀ t : Fin grid0.N, win0_0.index t = ![t.val, 0])
theorem idx1 : ∀ t : Fin cfg0.N, win0_1.index t = ![0, 0] :=
  (by decide +kernel : ∀ t : Fin grid0.N, win0_1.index t = ![0, 0])
theorem idx2 : ∀ t : Fin cfg0.N, win0_2.index t = ![0, 0] :=
  (by decide +kernel : ∀ t : Fin grid0.N, win0_2.index t = ![0, 0])
theorem idx3 : ∀ t : Fin cfg0.N, win0_3.index t = ![t.val, 0] :=
  (by decide +kernel : ∀ t : Fin grid0.N, win0_3.index t = ![t.val, 0])

/-- Result 0 after the last tile. -/
theorem final3 (c : Dev nD) : (dats m 0 c).arrAt 3 cfg0.N
    = res0 (m (c.tc.loc main_arg0)) (m (c.tc.loc main_arg1)) (m (c.tc.loc main_arg2)) := by
  refine (dats m 0 c).arrAt_eq_of_covers 3 _ (by decide +kernel) fun t hf y => ?_
  blk_simp
  rw [after0_3]
  by_cases h : t.val % 16 = 0
  · rw [outsAt0_A m c t h]; frame_out
    pointwise [k0_pay1, k0_pay2, k0_pay3, k0_pay4, k0_pay5, res0, val, Grid.norm]
    blk_point [iblk, V, idx0 t, idx1 t, idx2 t, idx3 t]
  · rw [outsAt0_B m c t h]; frame_out
    pointwise [k0_pay1, k0_pay2, k0_pay3, k0_pay4, k0_pay5, res0, val, Grid.norm]
    blk_point [iblk, V, idx0 t, idx1 t, idx2 t, idx3 t]

/-- Result 1 after the last tile. -/
theorem final4 (c : Dev nD) : (dats m 0 c).arrAt 4 cfg0.N
    = res1 (m (c.tc.loc main_arg0)) (m (c.tc.loc main_arg1)) (m (c.tc.loc main_arg2)) := by
  refine (dats m 0 c).arrAt_eq_of_after_last 4 t0_15 (by decide +kernel) _ fun j => ?_
  blk_simp
  rw [after0_4, Pipeline.eq_sum_fin_of_reset_step_apply_last (fun n h => (outsAt0 m c n h).2.1) 16 (fun _ => 0) _
    (fun t h j => by rw [outsAt0_A m c t h]; frame_out; pointwise [k0_pay1, k0_pay2, k0_pay3, k0_pay4, k0_pay5]; rfl)
    (fun t h j => by rw [outsAt0_B m c t h]; frame_out; pointwise [k0_pay1, k0_pay2, k0_pay3, k0_pay4, k0_pay5])
    (le_of_eq N_0) t0_15 rfl j, zero_add]
  refine Grid.sum_rows fun t r ht => ?_
  pointwise [val, Grid.norm]
  blk_point [iblk, V, idx0 t, idx1 t, idx2 t]

/-- Result 2 after the last tile. -/
theorem final5 (c : Dev nD) : (dats m 0 c).arrAt 5 cfg0.N
    = res2 (m (c.tc.loc main_arg0)) (m (c.tc.loc main_arg1)) (m (c.tc.loc main_arg2)) := by
  refine (dats m 0 c).arrAt_eq_of_after_last 5 t0_15 (by decide +kernel) _ fun j => ?_
  blk_simp
  rw [after0_5, Pipeline.eq_sum_fin_of_reset_step_apply_last (fun n h => (outsAt0 m c n h).2.2) 16 (fun _ => 0) _
    (fun t h j => by rw [outsAt0_A m c t h]; frame_out; pointwise [k0_pay1, k0_pay2, k0_pay3, k0_pay4, k0_pay5]; rfl)
    (fun t h j => by rw [outsAt0_B m c t h]; frame_out; pointwise [k0_pay1, k0_pay2, k0_pay3, k0_pay4, k0_pay5])
    (le_of_eq N_0) t0_15 rfl j, zero_add]
  refine Grid.sum_rows fun t r ht => ?_
  pointwise [val, Grid.norm]
  blk_point [iblk, V, idx0 t, idx1 t, idx2 t]

/-! ## The claims -/

/-- The two programs end with the same three arrays. -/
theorem equal : Cert.algebraic_TopIdeal_TopRefIdeal := by
  intro m g m' g' _ hagree
  refine ⟨fun c => res0 (m (c.tc.loc main_arg0)) (m (c.tc.loc main_arg1)) (m (c.tc.loc main_arg2)),
    fun c => res1 (m (c.tc.loc main_arg0)) (m (c.tc.loc main_arg1)) (m (c.tc.loc main_arg2)),
    fun c => res2 (m (c.tc.loc main_arg0)) (m (c.tc.loc main_arg1)) (m (c.tc.loc main_arg2)), ?_, ?_⟩
  · exact (θ_run _ _ _).mono (fun _ h c => ⟨(h c).1.trans (final3 m c), (h c).2.1.trans (final4 m c), (h c).2.2.1.trans (final5 m c), (h c).2.2.2⟩)
      (Value.run_blocks m g)
  · refine (θ_run _ _ _).mono (fun _ h c => ⟨(h c).1.trans ?_, (h c).2.1.trans ?_, (h c).2.2.1.trans ?_, (h c).2.2.2⟩)
      (Cert.TopRefIdeal.Value.run (F := Ideal) m' g')
    all_goals
      clear h
      obtain ⟨e0, e1, e2⟩ := hagree c
      rw [e0, e1, e2]
      funext j
    · pointwise [res0, val, Grid.norm]
    · pointwise [res1, val, Grid.norm]
    · pointwise [res2, val, Grid.norm]

/-- The reference runs, keeps its arguments and ends with its counters at zero. -/
theorem frame_reference : Cert.quiescent_TopRefIdeal := fun m ρ _ =>
  (θ_run Cert.TopRefIdeal.defs _ _).mono (fun r h => ⟨fun c => (h c).2.2.2, sem_eq_zero_of_no_sems (by decide) r.2⟩)
    (Cert.TopRefIdeal.Value.run (F := Ideal) m ρ)

end Cert.Proof.Top

end
-- ==== Proof.ResTop.lean ====
/-
  A residual step and the layer after it: every row of the input plus the row of the second array, centred and scaled; that
  times the square matrix, plus the bias; and the sums of the latter and of their squares over all rows. The kernel walks
  sixteen tiles of 512 rows and keeps the two rows of sums across them.
-/
module

public import proofs.«01_k».proof.Defs
public import proofs.«01_k».proof.Proof.Grid
public import proofs.«01_k».proof.Proof.Gen.ResTopIdeal.Value
public import proofs.«01_k».proof.Proof.Gen.ResTopRefIdeal.Run
public import Idealize.ShloMosaic.Lib.Pipeline.ValueKit.Point
public import Idealize.ShloMosaic.Lib.Claim
public import Idealize.ShloMosaic.Lib.Quiescent

@[expose] public section

noncomputable section

namespace Cert.Proof.ResTop

open Idealize.ShloMosaic Idealize.ShloMosaic.TcCoe Idealize.SL.Sem
open Cert.ResTopIdeal Cert.ResTopIdeal.Gen

variable (m : (ℓ : Loc nD τ sig) → Buf (Elt Ideal) ℓ)

/-! ## The results, of the arguments -/

/-- One entry of the residual step, of row `n` in lane `h`. -/
def mid (x t : S8192x128.Idx → EReal) (s q : S1x128.Idx → EReal) (w : S128x128.Idx → EReal) (b : S1x128.Idx → EReal)
    (n : Fin 8192) (h : Fin 128) : EReal :=
  x (ix2 n h) + Grid.norm (Ideal.ofBits .f32 0x39000000#32) (t (ix2 n h)) (s (ix2 0 h)) (q (ix2 0 h))

/-- One entry of the layer, of row `n` in lane `h`. -/
def val (x t : S8192x128.Idx → EReal) (s q : S1x128.Idx → EReal) (w : S128x128.Idx → EReal) (b : S1x128.Idx → EReal)
    (n : Fin 8192) (h : Fin 128) : EReal :=
  (∑ i : Fin 128, mid x t s q w b n i * w (ix2 i h)) + b (ix2 0 h)

/-- Result 0. -/
def res0 (x t : S8192x128.Idx → EReal) (s q : S1x128.Idx → EReal) (w : S128x128.Idx → EReal) (b : S1x128.Idx → EReal) (j : S8192x128.Idx) : EReal :=
  mid x t s q w b (j 0) (j 1)

/-- Result 1. -/
def res1 (x t : S8192x128.Idx → EReal) (s q : S1x128.Idx → EReal) (w : S128x128.Idx → EReal) (b : S1x128.Idx → EReal) (j : S8192x128.Idx) : EReal :=
  val x t s q w b (j 0) (j 1)

/-- Result 2, a row of sums. -/
def res2 (x t : S8192x128.Idx → EReal) (s q : S1x128.Idx → EReal) (w : S128x128.Idx → EReal) (b : S1x128.Idx → EReal) (j : S1x128.Idx) : EReal :=
  ∑ n : Fin 8192, val x t s q w b n (j 1)

/-- Result 3, a row of sums. -/
def res3 (x t : S8192x128.Idx → EReal) (s q : S1x128.Idx → EReal) (w : S128x128.Idx → EReal) (b : S1x128.Idx → EReal) (j : S1x128.Idx) : EReal :=
  ∑ n : Fin 8192, val x t s q w b n (j 1) * val x t s q w b n (j 1)

/-! ## The kernel -/

/-- Where the windows of point `t` start: a tile at tile `t`, an array held whole at its start. -/
theorem idx0 : ∀ t : Fin cfg0.N, win0_0.index t = ![t.val, 0] :=
  (by decide +kernel : ∀ t : Fin grid0.N, win0_0.index t = ![t.val, 0])
theorem idx1 : ∀ t : Fin cfg0.N, win0_1.index t = ![t.val, 0] :=
  (by decide +kernel : ∀ t : Fin grid0.N, win0_1.index t = ![t.val, 0])
theorem idx2 : ∀ t : Fin cfg0.N, win0_2.index t = ![0, 0] :=
  (by decide +kernel : ∀ t : Fin grid0.N, win0_2.index t = ![0, 0])
theorem idx3 : ∀ t : Fin cfg0.N, win0_3.index t = ![0, 0] :=
  (by decide +kernel : ∀ t : Fin grid0.N, win0_3.index t = ![0, 0])
theorem idx4 : ∀ t : Fin cfg0.N, win0_4.index t = ![0, 0] :=
  (by decide +kernel : ∀ t : Fin grid0.N, win0_4.index t = ![0, 0])
theorem idx5 : ∀ t : Fin cfg0.N, win0_5.index t = ![0, 0] :=
  (by decide +kernel : ∀ t : Fin grid0.N, win0_5.index t = ![0, 0])
theorem idx6 : ∀ t : Fin cfg0.N, win0_6.index t = ![t.val, 0] :=
  (by decide +kernel : ∀ t : Fin grid0.N, win0_6.index t = ![t.val, 0])
theorem idx7 : ∀ t : Fin cfg0.N, win0_7.index t = ![t.val, 0] :=
  (by decide +kernel : ∀ t : Fin grid0.N, win0_7.index t = ![t.val, 0])

/-- Result 0 after the last tile. -/
theorem final6 (c : Dev nD) : (dats m 0 c).arrAt 6 cfg0.N
    = res0 (m (c.tc.loc main_arg0)) (m (c.tc.loc main_arg1)) (m (c.tc.loc main_arg2)) (m (c.tc.loc main_arg3)) (m (c.tc.loc main_arg4)) (m (c.tc.loc main_arg5)) := by
  refine (dats m 0 c).arrAt_eq_of_covers 6 _ (by decide +kernel) fun t hf y => ?_
  blk_simp
  rw [after0_6]
  by_cases h : t.val % 16 = 0
  · rw [outsAt0_A m c t h]; frame_out
    pointwise [k0_pay1, k0_pay2, k0_pay3, k0_pay4, k0_pay5, k0_pay6, k0_pay7, k0_pay8, res0, val, mid, Grid.norm]
    blk_point [iblk, V, idx0 t, idx1 t, idx2 t, idx3 t, idx4 t, idx5 t, idx6 t]
  · rw [outsAt0_B m c t h]; frame_out
    pointwise [k0_pay1, k0_pay2, k0_pay3, k0_pay4, k0_pay5, k0_pay6, k0_pay7, k0_pay8, res0, val, mid, Grid.norm]
    blk_point [iblk, V, idx0 t, idx1 t, idx2 t, idx3 t, idx4 t, idx5 t, idx6 t]

/-- Result 1 after the last tile. -/
theorem final7 (c : Dev nD) : (dats m 0 c).arrAt 7 cfg0.N
    = res1 (m (c.tc.loc main_arg0)) (m (c.tc.loc main_arg1)) (m (c.tc.loc main_arg2)) (m (c.tc.loc main_arg3)) (m (c.tc.loc main_arg4)) (m (c.tc.loc main_arg5)) := by
  refine (dats m 0 c).arrAt_eq_of_covers 7 _ (by decide +kernel) fun t hf y => ?_
  blk_simp
  rw [after0_7]
  by_cases h : t.val % 16 = 0
  · rw [outsAt0_A m c t h]; frame_out
    pointwise [k0_pay1, k0_pay2, k0_pay3, k0_pay4, k0_pay5, k0_pay6, k0_pay7, k0_pay8, res1, val, mid, Grid.norm]
    blk_point [iblk, V, idx0 t, idx1 t, idx2 t, idx3 t, idx4 t, idx5 t, idx7 t]
  · rw [outsAt0_B m c t h]; frame_out
    pointwise [k0_pay1, k0_pay2, k0_pay3, k0_pay4, k0_pay5, k0_pay6, k0_pay7, k0_pay8, res1, val, mid, Grid.norm]
    blk_point [iblk, V, idx0 t, idx1 t, idx2 t, idx3 t, idx4 t, idx5 t, idx7 t]

/-- Result 2 after the last tile. -/
theorem final8 (c : Dev nD) : (dats m 0 c).arrAt 8 cfg0.N
    = res2 (m (c.tc.loc main_arg0)) (m (c.tc.loc main_arg1)) (m (c.tc.loc main_arg2)) (m (c.tc.loc main_arg3)) (m (c.tc.loc main_arg4)) (m (c.tc.loc main_arg5)) := by
  refine (dats m 0 c).arrAt_eq_of_after_last 8 t0_15 (by decide +kernel) _ fun j => ?_
  blk_simp
  rw [after0_8, Pipeline.eq_sum_fin_of_reset_step_apply_last (fun n h => (outsAt0 m c n h).2.2.1) 16 (fun _ => 0) _
    (fun t h j => by rw [outsAt0_A m c t h]; frame_out; pointwise [k0_pay1, k0_pay2, k0_pay3, k0_pay4, k0_pay5, k0_pay6, k0_pay7, k0_pay8]; rfl)
    (fun t h j => by rw [outsAt0_B m c t h]; frame_out; pointwise [k0_pay1, k0_pay2, k0_pay3, k0_pay4, k0_pay5, k0_pay6, k0_pay7, k0_pay8])
    (le_of_eq N_0) t0_15 rfl j, zero_add]
  refine Grid.sum_rows fun t r ht => ?_
  pointwise [val, mid, Grid.norm]
  blk_point [iblk, V, idx0 t, idx1 t, idx2 t, idx3 t, idx4 t, idx5 t]

/-- Result 3 after the last tile. -/
theorem final9 (c : Dev nD) : (dats m 0 c).arrAt 9 cfg0.N
    = res3 (m (c.tc.loc main_arg0)) (m (c.tc.loc main_arg1)) (m (c.tc.loc main_arg2)) (m (c.tc.loc main_arg3)) (m (c.tc.loc main_arg4)) (m (c.tc.loc main_arg5)) := by
  refine (dats m 0 c).arrAt_eq_of_after_last 9 t0_15 (by decide +kernel) _ fun j => ?_
  blk_simp
  rw [after0_9, Pipeline.eq_sum_fin_of_reset_step_apply_last (fun n h => (outsAt0 m c n h).2.2.2) 16 (fun _ => 0) _
    (fun t h j => by rw [outsAt0_A m c t h]; frame_out; pointwise [k0_pay1, k0_pay2, k0_pay3, k0_pay4, k0_pay5, k0_pay6, k0_pay7, k0_pay8]; rfl)
    (fun t h j => by rw [outsAt0_B m c t h]; frame_out; pointwise [k0_pay1, k0_pay2, k0_pay3, k0_pay4, k0_pay5, k0_pay6, k0_pay7, k0_pay8])
    (le_of_eq N_0) t0_15 rfl j, zero_add]
  refine Grid.sum_rows fun t r ht => ?_
  pointwise [val, mid, Grid.norm]
  blk_point [iblk, V, idx0 t, idx1 t, idx2 t, idx3 t, idx4 t, idx5 t]

/-! ## The claims -/

/-- The two programs end with the same four arrays. -/
theorem equal : Cert.algebraic_ResTopIdeal_ResTopRefIdeal := by
  intro m g m' g' _ hagree
  refine ⟨fun c => res0 (m (c.tc.loc main_arg0)) (m (c.tc.loc main_arg1)) (m (c.tc.loc main_arg2)) (m (c.tc.loc main_arg3)) (m (c.tc.loc main_arg4)) (m (c.tc.loc main_arg5)),
    fun c => res1 (m (c.tc.loc main_arg0)) (m (c.tc.loc main_arg1)) (m (c.tc.loc main_arg2)) (m (c.tc.loc main_arg3)) (m (c.tc.loc main_arg4)) (m (c.tc.loc main_arg5)),
    fun c => res2 (m (c.tc.loc main_arg0)) (m (c.tc.loc main_arg1)) (m (c.tc.loc main_arg2)) (m (c.tc.loc main_arg3)) (m (c.tc.loc main_arg4)) (m (c.tc.loc main_arg5)),
    fun c => res3 (m (c.tc.loc main_arg0)) (m (c.tc.loc main_arg1)) (m (c.tc.loc main_arg2)) (m (c.tc.loc main_arg3)) (m (c.tc.loc main_arg4)) (m (c.tc.loc main_arg5)), ?_, ?_⟩
  · exact (θ_run _ _ _).mono (fun _ h c => ⟨(h c).1.trans (final6 m c), (h c).2.1.trans (final7 m c), (h c).2.2.1.trans (final8 m c), (h c).2.2.2.1.trans (final9 m c), (h c).2.2.2.2⟩)
      (Value.run_blocks m g)
  · refine (θ_run _ _ _).mono (fun _ h c => ⟨(h c).1.trans ?_, (h c).2.1.trans ?_, (h c).2.2.1.trans ?_, (h c).2.2.2.1.trans ?_, (h c).2.2.2.2⟩)
      (Cert.ResTopRefIdeal.Value.run (F := Ideal) m' g')
    all_goals
      clear h
      obtain ⟨e0, e1, e2, e3, e4, e5⟩ := hagree c
      simp only [e0, e1, e2, e3, e4, e5]
      funext j
    · pointwise [res0, val, mid, Grid.norm]
      simp only [Grid.div_rows]
    · pointwise [res1, val, mid, Grid.norm]
      simp only [Grid.div_rows]
    · pointwise [res2, val, mid, Grid.norm]
      simp only [Grid.div_rows]
    · pointwise [res3, val, mid, Grid.norm]
      simp only [Grid.div_rows]

/-- The reference runs, keeps its arguments and ends with its counters at zero. -/
theorem frame_reference : Cert.quiescent_ResTopRefIdeal := fun m ρ _ =>
  (θ_run Cert.ResTopRefIdeal.defs _ _).mono (fun r h => ⟨fun c => (h c).2.2.2.2, sem_eq_zero_of_no_sems (by decide) r.2⟩)
    (Cert.ResTopRefIdeal.Value.run (F := Ideal) m ρ)

end Cert.Proof.ResTop

end
-- ==== Proof.Residual.lean ====
/-
  The last residual step: every row of the input plus the row of the second array, centred and scaled by the mean and
  variance the two rows of sums give. The kernel walks sixteen tiles of 512 rows, each written once.
-/
module

public import proofs.«01_k».proof.Defs
public import proofs.«01_k».proof.Proof.Grid
public import proofs.«01_k».proof.Proof.Gen.ResidualIdeal.Value
public import proofs.«01_k».proof.Proof.Gen.ResidualRefIdeal.Run
public import Idealize.ShloMosaic.Lib.Pipeline.ValueKit.Point
public import Idealize.ShloMosaic.Lib.Claim
public import Idealize.ShloMosaic.Lib.Quiescent

@[expose] public section

noncomputable section

namespace Cert.Proof.Residual

open Idealize.ShloMosaic Idealize.ShloMosaic.TcCoe Idealize.SL.Sem
open Cert.ResidualIdeal Cert.ResidualIdeal.Gen

variable (m : (ℓ : Loc nD τ sig) → Buf (Elt Ideal) ℓ)

/-- The result, of the four arguments. -/
def out (x t : S8192x128.Idx → EReal) (s q : S1x128.Idx → EReal) (j : S8192x128.Idx) : EReal :=
  x j + Grid.norm (Ideal.ofBits .f32 0x39000000#32) (t j) (s (ix2 0 (j 1))) (q (ix2 0 (j 1)))

/-- Where the windows of point `t` start: the tiles at tile `t`, the rows of sums at the one there is. -/
theorem idx0 : ∀ t : Fin cfg0.N, win0_0.index t = ![t.val, 0] :=
  (by decide +kernel : ∀ t : Fin grid0.N, win0_0.index t = ![t.val, 0])
theorem idx1 : ∀ t : Fin cfg0.N, win0_1.index t = ![t.val, 0] :=
  (by decide +kernel : ∀ t : Fin grid0.N, win0_1.index t = ![t.val, 0])
theorem idx2 : ∀ t : Fin cfg0.N, win0_2.index t = ![0, 0] :=
  (by decide +kernel : ∀ t : Fin grid0.N, win0_2.index t = ![0, 0])
theorem idx3 : ∀ t : Fin cfg0.N, win0_3.index t = ![0, 0] :=
  (by decide +kernel : ∀ t : Fin grid0.N, win0_3.index t = ![0, 0])
theorem idx4 : ∀ t : Fin cfg0.N, win0_4.index t = ![t.val, 0] :=
  (by decide +kernel : ∀ t : Fin grid0.N, win0_4.index t = ![t.val, 0])

/-- The kernel's array after the last tile. -/
theorem final (c : Dev nD) : (dats m 0 c).arrAt 4 cfg0.N
    = out (m (c.tc.loc main_arg0)) (m (c.tc.loc main_arg1)) (m (c.tc.loc main_arg2)) (m (c.tc.loc main_arg3)) := by
  refine (dats m 0 c).arrAt_eq_of_covers 4 _ (by decide +kernel) fun t hf y => ?_
  blk_simp
  rw [after0_4]; frame_out
  pointwise [k0_pay1, out, Grid.norm]
  blk_point [iblk, V, idx0 t, idx1 t, idx2 t, idx3 t, idx4 t]

/-- The two programs end with one array. -/
theorem equal : Cert.algebraic_ResidualIdeal_ResidualRefIdeal := by
  intro m g m' g' _ hagree
  refine ⟨fun c => out (m (c.tc.loc main_arg0)) (m (c.tc.loc main_arg1)) (m (c.tc.loc main_arg2)) (m (c.tc.loc main_arg3)), ?_, ?_⟩
  · exact (θ_run _ _ _).mono (fun _ h c => ⟨(h c).1.trans (final m c), (h c).2⟩) (Value.run_blocks m g)
  · refine (θ_run _ _ _).mono (fun _ h c => ⟨(h c).1.trans ?_, (h c).2⟩) (Cert.ResidualRefIdeal.Value.run (F := Ideal) m' g')
    obtain ⟨e0, e1, e2, e3⟩ := hagree c
    rw [e0, e1, e2, e3]
    funext j
    pointwise [out, Grid.norm]
    simp only [Grid.div_rows]

/-- The reference runs, keeps its arguments and ends with its counters at zero. -/
theorem frame_reference : Cert.quiescent_ResidualRefIdeal := fun m ρ _ =>
  (θ_run Cert.ResidualRefIdeal.defs _ _).mono (fun r h => ⟨fun c => (h c).2, sem_eq_zero_of_no_sems (by decide) r.2⟩)
    (Cert.ResidualRefIdeal.Value.run (F := Ideal) m ρ)

end Cert.Proof.Residual

end
-- ==== Proof.Project.lean ====
/-
  The projections: every row, centred and scaled, times each of three square matrices, and the three coordinates of the row's
  position times the first three rows of the positional matrix. The kernel walks sixteen tiles of 512 rows, each written
  once.
-/
module

public import proofs.«01_k».proof.Defs
public import proofs.«01_k».proof.Proof.Grid
public import proofs.«01_k».proof.Proof.Gen.ProjectIdeal.Value
public import proofs.«01_k».proof.Proof.Gen.ProjectRefIdeal.Run
public import Idealize.ShloMosaic.Lib.Pipeline.ValueKit.Point
public import Idealize.ShloMosaic.Lib.Claim
public import Idealize.ShloMosaic.Lib.Quiescent

@[expose] public section

noncomputable section

namespace Cert.Proof.Project

open Idealize.ShloMosaic Idealize.ShloMosaic.TcCoe Idealize.SL.Sem
open Cert.ProjectIdeal Cert.ProjectIdeal.Gen

variable (m : (ℓ : Loc nD τ sig) → Buf (Elt Ideal) ℓ)

/-! ## The results, of the arguments -/

/-- One entry of each of the three products, of row `n` in lane `o`. -/
def phi (t : S8192x128.Idx → EReal) (s q : S1x128.Idx → EReal) (p : S8192x8.Idx → EReal) (u v w : S128x128.Idx → EReal) (d : S8x128.Idx → EReal)
    (n : Fin 8192) (o : Fin 128) : EReal :=
  ∑ h : Fin 128, Grid.norm (Ideal.ofBits .f32 0x39000000#32) (t (ix2 n h)) (s (ix2 0 h)) (q (ix2 0 h)) * u (ix2 h o)

def psi (t : S8192x128.Idx → EReal) (s q : S1x128.Idx → EReal) (p : S8192x8.Idx → EReal) (u v w : S128x128.Idx → EReal) (d : S8x128.Idx → EReal)
    (n : Fin 8192) (o : Fin 128) : EReal :=
  ∑ h : Fin 128, Grid.norm (Ideal.ofBits .f32 0x39000000#32) (t (ix2 n h)) (s (ix2 0 h)) (q (ix2 0 h)) * v (ix2 h o)

def alf (t : S8192x128.Idx → EReal) (s q : S1x128.Idx → EReal) (p : S8192x8.Idx → EReal) (u v w : S128x128.Idx → EReal) (d : S8x128.Idx → EReal)
    (n : Fin 8192) (o : Fin 128) : EReal :=
  ∑ h : Fin 128, Grid.norm (Ideal.ofBits .f32 0x39000000#32) (t (ix2 n h)) (s (ix2 0 h)) (q (ix2 0 h)) * w (ix2 h o)

/-- And of the positions. -/
def pos (t : S8192x128.Idx → EReal) (s q : S1x128.Idx → EReal) (p : S8192x8.Idx → EReal) (u v w : S128x128.Idx → EReal) (d : S8x128.Idx → EReal)
    (n : Fin 8192) (o : Fin 128) : EReal :=
  p (ix2 n 0) * d (ix2 0 o) + p (ix2 n 1) * d (ix2 1 o) + p (ix2 n 2) * d (ix2 2 o)

/-- Result 0. -/
def res0 (t : S8192x128.Idx → EReal) (s q : S1x128.Idx → EReal) (p : S8192x8.Idx → EReal) (u v w : S128x128.Idx → EReal) (d : S8x128.Idx → EReal) (j : S8192x128.Idx) : EReal :=
  phi t s q p u v w d (j 0) (j 1)

/-- Result 1. -/
def res1 (t : S8192x128.Idx → EReal) (s q : S1x128.Idx → EReal) (p : S8192x8.Idx → EReal) (u v w : S128x128.Idx → EReal) (d : S8x128.Idx → EReal) (j : S8192x128.Idx) : EReal :=
  psi t s q p u v w d (j 0) (j 1)

/-- Result 2. -/
def res2 (t : S8192x128.Idx → EReal) (s q : S1x128.Idx → EReal) (p : S8192x8.Idx → EReal) (u v w : S128x128.Idx → EReal) (d : S8x128.Idx → EReal) (j : S8192x128.Idx) : EReal :=
  alf t s q p u v w d (j 0) (j 1)

/-- Result 3. -/
def res3 (t : S8192x128.Idx → EReal) (s q : S1x128.Idx → EReal) (p : S8192x8.Idx → EReal) (u v w : S128x128.Idx → EReal) (d : S8x128.Idx → EReal) (j : S8192x128.Idx) : EReal :=
  pos t s q p u v w d (j 0) (j 1)

/-! ## The kernel -/

/-- Where the windows of point `t` start: a tile at tile `t`, an array held whole at its start. -/
theorem idx0 : ∀ t : Fin cfg0.N, win0_0.index t = ![t.val, 0] :=
  (by decide +kernel : ∀ t : Fin grid0.N, win0_0.index t = ![t.val, 0])
theorem idx1 : ∀ t : Fin cfg0.N, win0_1.index t = ![0, 0] :=
  (by decide +kernel : ∀ t : Fin grid0.N, win0_1.index t = ![0, 0])
theorem idx2 : ∀ t : Fin cfg0.N, win0_2.index t = ![0, 0] :=
  (by decide +kernel : ∀ t : Fin grid0.N, win0_2.index t = ![0, 0])
theorem idx3 : ∀ t : Fin cfg0.N, win0_3.index t = ![t.val, 0] :=
  (by decide +kernel : ∀ t : Fin grid0.N, win0_3.index t = ![t.val, 0])
theorem idx4 : ∀ t : Fin cfg0.N, win0_4.index t = ![0, 0] :=
  (by decide +kernel : ∀ t : Fin grid0.N, win0_4.index t = ![0, 0])
theorem idx5 : ∀ t : Fin cfg0.N, win0_5.index t = ![0, 0] :=
  (by decide +kernel : ∀ t : Fin grid0.N, win0_5.index t = ![0, 0])
theorem idx6 : ∀ t : Fin cfg0.N, win0_6.index t = ![0, 0] :=
  (by decide +kernel : ∀ t : Fin grid0.N, win0_6.index t = ![0, 0])
theorem idx7 : ∀ t : Fin cfg0.N, win0_7.index t = ![0, 0] :=
  (by decide +kernel : ∀ t : Fin grid0.N, win0_7.index t = ![0, 0])
theorem idx8 : ∀ t : Fin cfg0.N, win0_8.index t = ![t.val, 0] :=
  (by decide +kernel : ∀ t : Fin grid0.N, win0_8.index t = ![t.val, 0])
theorem idx9 : ∀ t : Fin cfg0.N, win0_9.index t = ![t.val, 0] :=
  (by decide +kernel : ∀ t : Fin grid0.N, win0_9.index t = ![t.val, 0])
theorem idx10 : ∀ t : Fin cfg0.N, win0_10.index t = ![t.val, 0] :=
  (by decide +kernel : ∀ t : Fin grid0.N, win0_10.index t = ![t.val, 0])
theorem idx11 : ∀ t : Fin cfg0.N, win0_11.index t = ![t.val, 0] :=
  (by decide +kernel : ∀ t : Fin grid0.N, win0_11.index t = ![t.val, 0])

/-- Result 0 after the last tile. -/
theorem final8 (c : Dev nD) : (dats m 0 c).arrAt 8 cfg0.N
    = res0 (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) := by
  refine (dats m 0 c).arrAt_eq_of_covers 8 _ (by decide +kernel) fun t hf y => ?_
  blk_simp
  rw [after0_8]
  frame_out
  pointwise [k0_pay1, k0_pay2, k0_pay3, k0_pay4, k0_pay5, k0_pay6, res0, pos, alf, psi, phi, Grid.norm]
  blk_point [iblk, V, idx0 t, idx1 t, idx2 t, idx3 t, idx4 t, idx5 t, idx6 t, idx7 t, idx8 t]

/-- Result 1 after the last tile. -/
theorem final9 (c : Dev nD) : (dats m 0 c).arrAt 9 cfg0.N
    = res1 (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) := by
  refine (dats m 0 c).arrAt_eq_of_covers 9 _ (by decide +kernel) fun t hf y => ?_
  blk_simp
  rw [after0_9]
  frame_out
  pointwise [k0_pay1, k0_pay2, k0_pay3, k0_pay4, k0_pay5, k0_pay6, res1, pos, alf, psi, phi, Grid.norm]
  blk_point [iblk, V, idx0 t, idx1 t, idx2 t, idx3 t, idx4 t, idx5 t, idx6 t, idx7 t, idx9 t]

/-- Result 2 after the last tile. -/
theorem final10 (c : Dev nD) : (dats m 0 c).arrAt 10 cfg0.N
    = res2 (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) := by
  refine (dats m 0 c).arrAt_eq_of_covers 10 _ (by decide +kernel) fun t hf y => ?_
  blk_simp
  rw [after0_10]
  frame_out
  pointwise [k0_pay1, k0_pay2, k0_pay3, k0_pay4, k0_pay5, k0_pay6, res2, pos, alf, psi, phi, Grid.norm]
  blk_point [iblk, V, idx0 t, idx1 t, idx2 t, idx3 t, idx4 t, idx5 t, idx6 t, idx7 t, idx10 t]

/-- Result 3 after the last tile. -/
theorem final11 (c : Dev nD) : (dats m 0 c).arrAt 11 cfg0.N
    = res3 (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) := by
  refine (dats m 0 c).arrAt_eq_of_covers 11 _ (by decide +kernel) fun t hf y => ?_
  blk_simp
  rw [after0_11]
  frame_out
  pointwise [k0_pay1, k0_pay2, k0_pay3, k0_pay4, k0_pay5, k0_pay6, res3, pos, alf, psi, phi, Grid.norm]
  blk_point [iblk, V, idx0 t, idx1 t, idx2 t, idx3 t, idx4 t, idx5 t, idx6 t, idx7 t, idx11 t]

/-! ## The claims -/

/-- The two programs end with the same four arrays. -/
theorem equal : Cert.algebraic_ProjectIdeal_ProjectRefIdeal := by
  intro m g m' g' _ hagree
  refine ⟨fun c => res0 (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)),
    fun c => res1 (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)),
    fun c => res2 (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)),
    fun c => res3 (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)), ?_, ?_⟩
  · exact (θ_run _ _ _).mono (fun _ h c => ⟨(h c).1.trans (final8 m c), (h c).2.1.trans (final9 m c), (h c).2.2.1.trans (final10 m c), (h c).2.2.2.1.trans (final11 m c), (h c).2.2.2.2⟩)
      (Value.run_blocks m g)
  · refine (θ_run _ _ _).mono (fun _ h c => ⟨(h c).1.trans ?_, (h c).2.1.trans ?_, (h c).2.2.1.trans ?_, (h c).2.2.2.1.trans ?_, (h c).2.2.2.2⟩)
      (Cert.ProjectRefIdeal.Value.run (F := Ideal) m' g')
    all_goals
      clear h
      obtain ⟨e0, e1, e2, e3, e4, e5, e6, e7⟩ := hagree c
      simp only [e0, e1, e2, e3, e4, e5, e6, e7]
      funext j
    · pointwise [res0, pos, alf, psi, phi, Grid.norm]
      simp only [Grid.div_rows]
    · pointwise [res1, pos, alf, psi, phi, Grid.norm]
      simp only [Grid.div_rows]
    · pointwise [res2, pos, alf, psi, phi, Grid.norm]
      simp only [Grid.div_rows]
    · pointwise [res3, pos, alf, psi, phi, Grid.norm]
      exact Fin.sum_univ_three _

/-- The reference runs, keeps its arguments and ends with its counters at zero. -/
theorem frame_reference : Cert.quiescent_ProjectRefIdeal := fun m ρ _ =>
  (θ_run Cert.ProjectRefIdeal.defs _ _).mono (fun r h => ⟨fun c => (h c).2.2.2.2, sem_eq_zero_of_no_sems (by decide) r.2⟩)
    (Cert.ProjectRefIdeal.Value.run (F := Ideal) m ρ)

end Cert.Proof.Project

end
-- ==== Proof.PosSums.lean ====
/-
  The sums of the position differences, row minus neighbour, and of their squares, over all neighbours. The kernel walks
  sixteen tiles of 512 neighbourhoods and keeps the two rows of sums across them.
-/
module

public import proofs.«01_k».proof.Defs
public import proofs.«01_k».proof.Proof.Grid
public import proofs.«01_k».proof.Proof.Gen.PosSumsIdeal.Value
public import proofs.«01_k».proof.Proof.Gen.PosSumsRefIdeal.Run
public import Idealize.ShloMosaic.Lib.Pipeline.ValueKit.Point
public import Idealize.ShloMosaic.Lib.Claim
public import Idealize.ShloMosaic.Lib.Quiescent

@[expose] public section

noncomputable section

namespace Cert.Proof.PosSums

open Idealize.ShloMosaic Idealize.ShloMosaic.TcCoe Idealize.SL.Sem
open Cert.PosSumsIdeal Cert.PosSumsIdeal.Gen

variable (m : (ℓ : Loc nD τ sig) → Buf (Elt Ideal) ℓ)

/-! ## The results, of the arguments -/

/-- One difference, of row `n` and its neighbour `k` in lane `h`. -/
def val (x : S8192x128.Idx → EReal) (y : S8192x16x128.Idx → EReal)
    (n : Fin 8192) (k : Fin 16) (h : Fin 128) : EReal :=
  x (ix2 n h) - y (ix3 n k h)

/-- Result 0, a row of sums. -/
def res0 (x : S8192x128.Idx → EReal) (y : S8192x16x128.Idx → EReal) (j : S1x128.Idx) : EReal :=
  ∑ n : Fin 8192, ∑ k : Fin 16, val x y n k (j 1)

/-- Result 1, a row of sums. -/
def res1 (x : S8192x128.Idx → EReal) (y : S8192x16x128.Idx → EReal) (j : S1x128.Idx) : EReal :=
  ∑ n : Fin 8192, ∑ k : Fin 16, val x y n k (j 1) * val x y n k (j 1)

/-! ## The kernel -/

/-- Where the windows of point `t` start: a tile at tile `t`, an array held whole at its start. -/
theorem idx0 : ∀ t : Fin cfg0.N, win0_0.index t = ![t.val, 0] :=
  (by decide +kernel : ∀ t : Fin grid0.N, win0_0.index t = ![t.val, 0])
theorem idx1 : ∀ t : Fin cfg0.N, win0_1.index t = ![t.val, 0, 0] :=
  (by decide +kernel : ∀ t : Fin grid0.N, win0_1.index t = ![t.val, 0, 0])

/-- Result 0 after the last tile. -/
theorem final2 (c : Dev nD) : (dats m 0 c).arrAt 2 cfg0.N
    = res0 (m (c.tc.loc main_arg0)) (m (c.tc.loc main_arg1)) := by
  refine (dats m 0 c).arrAt_eq_of_after_last 2 t0_15 (by decide +kernel) _ fun j => ?_
  blk_simp
  rw [after0_2, Pipeline.eq_sum_fin_of_reset_step_apply_last (fun n h => (outsAt0 m c n h).1) 16 (fun _ => 0) _
    (fun t h j => by rw [outsAt0_A m c t h]; frame_out; pointwise [k0_pay1, k0_pay2, k0_pay3, k0_pay4, k0_pay5]; rfl)
    (fun t h j => by rw [outsAt0_B m c t h]; frame_out; pointwise [k0_pay1, k0_pay2, k0_pay3, k0_pay4, k0_pay5])
    (le_of_eq N_0) t0_15 rfl j, zero_add]
  refine Grid.sum_nbrs fun t r ht hr => ?_
  pointwise [val, Grid.norm]
  blk_point [iblk, V, idx0 t, idx1 t]

/-- Result 1 after the last tile. -/
theorem final3 (c : Dev nD) : (dats m 0 c).arrAt 3 cfg0.N
    = res1 (m (c.tc.loc main_arg0)) (m (c.tc.loc main_arg1)) := by
  refine (dats m 0 c).arrAt_eq_of_after_last 3 t0_15 (by decide +kernel) _ fun j => ?_
  blk_simp
  rw [after0_3, Pipeline.eq_sum_fin_of_reset_step_apply_last (fun n h => (outsAt0 m c n h).2) 16 (fun _ => 0) _
    (fun t h j => by rw [outsAt0_A m c t h]; frame_out; pointwise [k0_pay1, k0_pay2, k0_pay3, k0_pay4, k0_pay5]; rfl)
    (fun t h j => by rw [outsAt0_B m c t h]; frame_out; pointwise [k0_pay1, k0_pay2, k0_pay3, k0_pay4, k0_pay5])
    (le_of_eq N_0) t0_15 rfl j, zero_add]
  refine Grid.sum_nbrs fun t r ht hr => ?_
  pointwise [val, Grid.norm]
  blk_point [iblk, V, idx0 t, idx1 t]

/-! ## The claims -/

/-- The two programs end with the same two arrays. -/
theorem equal : Cert.algebraic_PosSumsIdeal_PosSumsRefIdeal := by
  intro m g m' g' _ hagree
  refine ⟨fun c => res0 (m (c.tc.loc main_arg0)) (m (c.tc.loc main_arg1)),
    fun c => res1 (m (c.tc.loc main_arg0)) (m (c.tc.loc main_arg1)), ?_, ?_⟩
  · exact (θ_run _ _ _).mono (fun _ h c => ⟨(h c).1.trans (final2 m c), (h c).2.1.trans (final3 m c), (h c).2.2⟩)
      (Value.run_blocks m g)
  · refine (θ_run _ _ _).mono (fun _ h c => ⟨(h c).1.trans ?_, (h c).2.1.trans ?_, (h c).2.2⟩)
      (Cert.PosSumsRefIdeal.Value.run (F := Ideal) m' g')
    all_goals
      clear h
      obtain ⟨e0, e1⟩ := hagree c
      rw [e0, e1]
      funext j
    · pointwise [res0]
      refine (Grid.host_sum_two _ _ _ _).trans ((zero_add _).trans (Finset.sum_congr rfl fun n _ => Finset.sum_congr rfl fun k _ => ?_))
      pointwise [val, Grid.norm]
      rfl
    · pointwise [res1]
      refine (Grid.host_sum_two _ _ _ _).trans ((zero_add _).trans (Finset.sum_congr rfl fun n _ => Finset.sum_congr rfl fun k _ => ?_))
      pointwise [val, Grid.norm]
      rfl

/-- The reference runs, keeps its arguments and ends with its counters at zero. -/
theorem frame_reference : Cert.quiescent_PosSumsRefIdeal := fun m ρ _ =>
  (θ_run Cert.PosSumsRefIdeal.defs _ _).mono (fun r h => ⟨fun c => (h c).2.2, sem_eq_zero_of_no_sems (by decide) r.2⟩)
    (Cert.PosSumsRefIdeal.Value.run (F := Ideal) m ρ)

end Cert.Proof.PosSums

end
-- ==== Proof.Pos.lean ====
/-
  The positional layer: every difference of a row and its neighbour, centred, scaled, cut off below at zero and multiplied by
  the square matrix; with it the sums of the products and of their squares over all neighbours. The kernel walks sixteen
  tiles of 512 neighbourhoods and keeps the two rows of sums across them.
-/
module

public import proofs.«01_k».proof.Defs
public import proofs.«01_k».proof.Proof.Grid
public import proofs.«01_k».proof.Proof.Gen.PosIdeal.Value
public import proofs.«01_k».proof.Proof.Gen.PosRefIdeal.Run
public import Idealize.ShloMosaic.Lib.Pipeline.ValueKit.Point
public import Idealize.ShloMosaic.Lib.Claim
public import Idealize.ShloMosaic.Lib.Quiescent

@[expose] public section

noncomputable section

namespace Cert.Proof.Pos

open Idealize.ShloMosaic Idealize.ShloMosaic.TcCoe Idealize.SL.Sem
open Cert.PosIdeal Cert.PosIdeal.Gen

variable (m : (ℓ : Loc nD τ sig) → Buf (Elt Ideal) ℓ)

/-! ## The results, of the arguments -/

/-- One product, of neighbour `k` of row `n` in lane `h`. -/
def val (x : S8192x128.Idx → EReal) (y : S8192x16x128.Idx → EReal) (s q : S1x128.Idx → EReal) (w : S128x128.Idx → EReal)
    (n : Fin 8192) (k : Fin 16) (h : Fin 128) : EReal :=
  ∑ o : Fin 128, max (Grid.norm (Ideal.ofBits .f32 0x37000000#32) (x (ix2 n o) - y (ix3 n k o)) (s (ix2 0 o)) (q (ix2 0 o))) 0 * w (ix2 o h)

/-- Result 0. -/
def res0 (x : S8192x128.Idx → EReal) (y : S8192x16x128.Idx → EReal) (s q : S1x128.Idx → EReal) (w : S128x128.Idx → EReal) (j : S8192x16x128.Idx) : EReal :=
  val x y s q w (j 0) (j 1) (j 2)

/-- Result 1, a row of sums. -/
def res1 (x : S8192x128.Idx → EReal) (y : S8192x16x128.Idx → EReal) (s q : S1x128.Idx → EReal) (w : S128x128.Idx → EReal) (j : S1x128.Idx) : EReal :=
  ∑ n : Fin 8192, ∑ k : Fin 16, val x y s q w n k (j 1)

/-- Result 2, a row of sums. -/
def res2 (x : S8192x128.Idx → EReal) (y : S8192x16x128.Idx → EReal) (s q : S1x128.Idx → EReal) (w : S128x128.Idx → EReal) (j : S1x128.Idx) : EReal :=
  ∑ n : Fin 8192, ∑ k : Fin 16, val x y s q w n k (j 1) * val x y s q w n k (j 1)

/-! ## The kernel -/

/-- Where the windows of point `t` start: a tile at tile `t`, an array held whole at its start. -/
theorem idx0 : ∀ t : Fin cfg0.N, win0_0.index t = ![t.val, 0] :=
  (by decide +kernel : ∀ t : Fin grid0.N, win0_0.index t = ![t.val, 0])
theorem idx1 : ∀ t : Fin cfg0.N, win0_1.index t = ![t.val, 0, 0] :=
  (by decide +kernel : ∀ t : Fin grid0.N, win0_1.index t = ![t.val, 0, 0])
theorem idx2 : ∀ t : Fin cfg0.N, win0_2.index t = ![0, 0] :=
  (by decide +kernel : ∀ t : Fin grid0.N, win0_2.index t = ![0, 0])
theorem idx3 : ∀ t : Fin cfg0.N, win0_3.index t = ![0, 0] :=
  (by decide +kernel : ∀ t : Fin grid0.N, win0_3.index t = ![0, 0])
theorem idx4 : ∀ t : Fin cfg0.N, win0_4.index t = ![0, 0] :=
  (by decide +kernel : ∀ t : Fin grid0.N, win0_4.index t = ![0, 0])
theorem idx5 : ∀ t : Fin cfg0.N, win0_5.index t = ![t.val, 0, 0] :=
  (by decide +kernel : ∀ t : Fin grid0.N, win0_5.index t = ![t.val, 0, 0])

/-- Result 0 after the last tile. -/
theorem final5 (c : Dev nD) : (dats m 0 c).arrAt 5 cfg0.N
    = res0 (m (c.tc.loc main_arg0)) (m (c.tc.loc main_arg1)) (m (c.tc.loc main_arg2)) (m (c.tc.loc main_arg3)) (m (c.tc.loc main_arg4)) := by
  refine (dats m 0 c).arrAt_eq_of_covers 5 _ (by decide +kernel) fun t hf y => ?_
  blk_simp
  rw [after0_5]
  by_cases h : t.val % 16 = 0
  · rw [outsAt0_A m c t h]; frame_out
    pointwise [k0_pay1, k0_pay2, k0_pay3, k0_pay4, k0_pay5, k0_pay6, k0_pay7, res0, val, Grid.norm]
    blk_point [iblk, V, idx0 t, idx1 t, idx2 t, idx3 t, idx4 t, idx5 t]
  · rw [outsAt0_B m c t h]; frame_out
    pointwise [k0_pay1, k0_pay2, k0_pay3, k0_pay4, k0_pay5, k0_pay6, k0_pay7, res0, val, Grid.norm]
    blk_point [iblk, V, idx0 t, idx1 t, idx2 t, idx3 t, idx4 t, idx5 t]

/-- Result 1 after the last tile. -/
theorem final6 (c : Dev nD) : (dats m 0 c).arrAt 6 cfg0.N
    = res1 (m (c.tc.loc main_arg0)) (m (c.tc.loc main_arg1)) (m (c.tc.loc main_arg2)) (m (c.tc.loc main_arg3)) (m (c.tc.loc main_arg4)) := by
  refine (dats m 0 c).arrAt_eq_of_after_last 6 t0_15 (by decide +kernel) _ fun j => ?_
  blk_simp
  rw [after0_6, Pipeline.eq_sum_fin_of_reset_step_apply_last (fun n h => (outsAt0 m c n h).2.1) 16 (fun _ => 0) _
    (fun t h j => by rw [outsAt0_A m c t h]; frame_out; pointwise [k0_pay1, k0_pay2, k0_pay3, k0_pay4, k0_pay5, k0_pay6, k0_pay7]; rfl)
    (fun t h j => by rw [outsAt0_B m c t h]; frame_out; pointwise [k0_pay1, k0_pay2, k0_pay3, k0_pay4, k0_pay5, k0_pay6, k0_pay7])
    (le_of_eq N_0) t0_15 rfl j, zero_add]
  refine Grid.sum_nbrs fun t r ht hr => ?_
  pointwise [val, Grid.norm]
  blk_point [iblk, V, idx0 t, idx1 t, idx2 t, idx3 t, idx4 t]

/-- Result 2 after the last tile. -/
theorem final7 (c : Dev nD) : (dats m 0 c).arrAt 7 cfg0.N
    = res2 (m (c.tc.loc main_arg0)) (m (c.tc.loc main_arg1)) (m (c.tc.loc main_arg2)) (m (c.tc.loc main_arg3)) (m (c.tc.loc main_arg4)) := by
  refine (dats m 0 c).arrAt_eq_of_after_last 7 t0_15 (by decide +kernel) _ fun j => ?_
  blk_simp
  rw [after0_7, Pipeline.eq_sum_fin_of_reset_step_apply_last (fun n h => (outsAt0 m c n h).2.2) 16 (fun _ => 0) _
    (fun t h j => by rw [outsAt0_A m c t h]; frame_out; pointwise [k0_pay1, k0_pay2, k0_pay3, k0_pay4, k0_pay5, k0_pay6, k0_pay7]; rfl)
    (fun t h j => by rw [outsAt0_B m c t h]; frame_out; pointwise [k0_pay1, k0_pay2, k0_pay3, k0_pay4, k0_pay5, k0_pay6, k0_pay7])
    (le_of_eq N_0) t0_15 rfl j, zero_add]
  refine Grid.sum_nbrs fun t r ht hr => ?_
  pointwise [val, Grid.norm]
  blk_point [iblk, V, idx0 t, idx1 t, idx2 t, idx3 t, idx4 t]

/-! ## The claims -/

/-- The two programs end with the same three arrays. -/
theorem equal : Cert.algebraic_PosIdeal_PosRefIdeal := by
  intro m g m' g' _ hagree
  refine ⟨fun c => res0 (m (c.tc.loc main_arg0)) (m (c.tc.loc main_arg1)) (m (c.tc.loc main_arg2)) (m (c.tc.loc main_arg3)) (m (c.tc.loc main_arg4)),
    fun c => res1 (m (c.tc.loc main_arg0)) (m (c.tc.loc main_arg1)) (m (c.tc.loc main_arg2)) (m (c.tc.loc main_arg3)) (m (c.tc.loc main_arg4)),
    fun c => res2 (m (c.tc.loc main_arg0)) (m (c.tc.loc main_arg1)) (m (c.tc.loc main_arg2)) (m (c.tc.loc main_arg3)) (m (c.tc.loc main_arg4)), ?_, ?_⟩
  · exact (θ_run _ _ _).mono (fun _ h c => ⟨(h c).1.trans (final5 m c), (h c).2.1.trans (final6 m c), (h c).2.2.1.trans (final7 m c), (h c).2.2.2⟩)
      (Value.run_blocks m g)
  · refine (θ_run _ _ _).mono (fun _ h c => ⟨(h c).1.trans ?_, (h c).2.1.trans ?_, (h c).2.2.1.trans ?_, (h c).2.2.2⟩)
      (Cert.PosRefIdeal.Value.run (F := Ideal) m' g')
    all_goals
      clear h
      obtain ⟨e0, e1, e2, e3, e4⟩ := hagree c
      rw [e0, e1, e2, e3, e4]
      funext j
    · pointwise [res0, val, Grid.norm]
      simp only [Grid.div_nbrs]
    · pointwise [res1]
      refine (Grid.host_sum_two _ _ _ _).trans ((zero_add _).trans (Finset.sum_congr rfl fun n _ => Finset.sum_congr rfl fun k _ => ?_))
      pointwise [val, Grid.norm]
      simp only [Grid.div_nbrs]
    · pointwise [res2]
      refine (Grid.host_sum_two _ _ _ _).trans ((zero_add _).trans (Finset.sum_congr rfl fun n _ => Finset.sum_congr rfl fun k _ => ?_))
      pointwise [val, Grid.norm]
      simp only [Grid.div_nbrs]

/-- The reference runs, keeps its arguments and ends with its counters at zero. -/
theorem frame_reference : Cert.quiescent_PosRefIdeal := fun m ρ _ =>
  (θ_run Cert.PosRefIdeal.defs _ _).mono (fun r h => ⟨fun c => (h c).2.2.2, sem_eq_zero_of_no_sems (by decide) r.2⟩)
    (Cert.PosRefIdeal.Value.run (F := Ideal) m ρ)

end Cert.Proof.Pos

end
-- ==== Proof.AttnIn.lean ====
/-
  The first layer of the attention's gamma: query minus key plus positional encoding, the encoding centred and scaled, times
  the square matrix; with it the sums of the products and of their squares over all neighbours. The kernel walks sixteen
  tiles of 512 neighbourhoods and keeps the two rows of sums across them.
-/
module

public import proofs.«01_k».proof.Defs
public import proofs.«01_k».proof.Proof.Grid
public import proofs.«01_k».proof.Proof.Gen.AttnInIdeal.Value
public import proofs.«01_k».proof.Proof.Gen.AttnInRefIdeal.Run
public import Idealize.ShloMosaic.Lib.Pipeline.ValueKit.Point
public import Idealize.ShloMosaic.Lib.Claim
public import Idealize.ShloMosaic.Lib.Quiescent

@[expose] public section

noncomputable section

namespace Cert.Proof.AttnIn

open Idealize.ShloMosaic Idealize.ShloMosaic.TcCoe Idealize.SL.Sem
open Cert.AttnInIdeal Cert.AttnInIdeal.Gen

variable (m : (ℓ : Loc nD τ sig) → Buf (Elt Ideal) ℓ)

/-! ## The results, of the arguments -/

/-- One product, of neighbour `k` of row `n` in lane `h`. -/
def val (x : S8192x128.Idx → EReal) (y z : S8192x16x128.Idx → EReal) (s q : S1x128.Idx → EReal) (w : S128x128.Idx → EReal)
    (n : Fin 8192) (k : Fin 16) (h : Fin 128) : EReal :=
  ∑ o : Fin 128, (x (ix2 n o) - y (ix3 n k o) + Grid.norm (Ideal.ofBits .f32 0x37000000#32) (z (ix3 n k o)) (s (ix2 0 o)) (q (ix2 0 o))) * w (ix2 o h)

/-- Result 0. -/
def res0 (x : S8192x128.Idx → EReal) (y z : S8192x16x128.Idx → EReal) (s q : S1x128.Idx → EReal) (w : S128x128.Idx → EReal) (j : S8192x16x128.Idx) : EReal :=
  val x y z s q w (j 0) (j 1) (j 2)

/-- Result 1, a row of sums. -/
def res1 (x : S8192x128.Idx → EReal) (y z : S8192x16x128.Idx → EReal) (s q : S1x128.Idx → EReal) (w : S128x128.Idx → EReal) (j : S1x128.Idx) : EReal :=
  ∑ n : Fin 8192, ∑ k : Fin 16, val x y z s q w n k (j 1)

/-- Result 2, a row of sums. -/
def res2 (x : S8192x128.Idx → EReal) (y z : S8192x16x128.Idx → EReal) (s q : S1x128.Idx → EReal) (w : S128x128.Idx → EReal) (j : S1x128.Idx) : EReal :=
  ∑ n : Fin 8192, ∑ k : Fin 16, val x y z s q w n k (j 1) * val x y z s q w n k (j 1)

/-! ## The kernel -/

/-- Where the windows of point `t` start: a tile at tile `t`, an array held whole at its start. -/
theorem idx0 : ∀ t : Fin cfg0.N, win0_0.index t = ![t.val, 0] :=
  (by decide +kernel : ∀ t : Fin grid0.N, win0_0.index t = ![t.val, 0])
theorem idx1 : ∀ t : Fin cfg0.N, win0_1.index t = ![t.val, 0, 0] :=
  (by decide +kernel : ∀ t : Fin grid0.N, win0_1.index t = ![t.val, 0, 0])
theorem idx2 : ∀ t : Fin cfg0.N, win0_2.index t = ![t.val, 0, 0] :=
  (by decide +kernel : ∀ t : Fin grid0.N, win0_2.index t = ![t.val, 0, 0])
theorem idx3 : ∀ t : Fin cfg0.N, win0_3.index t = ![0, 0] :=
  (by decide +kernel : ∀ t : Fin grid0.N, win0_3.index t = ![0, 0])
theorem idx4 : ∀ t : Fin cfg0.N, win0_4.index t = ![0, 0] :=
  (by decide +kernel : ∀ t : Fin grid0.N, win0_4.index t = ![0, 0])
theorem idx5 : ∀ t : Fin cfg0.N, win0_5.index t = ![0, 0] :=
  (by decide +kernel : ∀ t : Fin grid0.N, win0_5.index t = ![0, 0])
theorem idx6 : ∀ t : Fin cfg0.N, win0_6.index t = ![t.val, 0, 0] :=
  (by decide +kernel : ∀ t : Fin grid0.N, win0_6.index t = ![t.val, 0, 0])

/-- Result 0 after the last tile. -/
theorem final6 (c : Dev nD) : (dats m 0 c).arrAt 6 cfg0.N
    = res0 (m (c.tc.loc main_arg0)) (m (c.tc.loc main_arg1)) (m (c.tc.loc main_arg2)) (m (c.tc.loc main_arg3)) (m (c.tc.loc main_arg4)) (m (c.tc.loc main_arg5)) := by
  refine (dats m 0 c).arrAt_eq_of_covers 6 _ (by decide +kernel) fun t hf y => ?_
  blk_simp
  rw [after0_6]
  by_cases h : t.val % 16 = 0
  · rw [outsAt0_A m c t h]; frame_out
    pointwise [k0_pay1, k0_pay2, k0_pay3, k0_pay4, k0_pay5, k0_pay6, res0, val, Grid.norm]
    blk_point [iblk, V, idx0 t, idx1 t, idx2 t, idx3 t, idx4 t, idx5 t, idx6 t]
  · rw [outsAt0_B m c t h]; frame_out
    pointwise [k0_pay1, k0_pay2, k0_pay3, k0_pay4, k0_pay5, k0_pay6, res0, val, Grid.norm]
    blk_point [iblk, V, idx0 t, idx1 t, idx2 t, idx3 t, idx4 t, idx5 t, idx6 t]

/-- Result 1 after the last tile. -/
theorem final7 (c : Dev nD) : (dats m 0 c).arrAt 7 cfg0.N
    = res1 (m (c.tc.loc main_arg0)) (m (c.tc.loc main_arg1)) (m (c.tc.loc main_arg2)) (m (c.tc.loc main_arg3)) (m (c.tc.loc main_arg4)) (m (c.tc.loc main_arg5)) := by
  refine (dats m 0 c).arrAt_eq_of_after_last 7 t0_15 (by decide +kernel) _ fun j => ?_
  blk_simp
  rw [after0_7, Pipeline.eq_sum_fin_of_reset_step_apply_last (fun n h => (outsAt0 m c n h).2.1) 16 (fun _ => 0) _
    (fun t h j => by rw [outsAt0_A m c t h]; frame_out; pointwise [k0_pay1, k0_pay2, k0_pay3, k0_pay4, k0_pay5, k0_pay6]; rfl)
    (fun t h j => by rw [outsAt0_B m c t h]; frame_out; pointwise [k0_pay1, k0_pay2, k0_pay3, k0_pay4, k0_pay5, k0_pay6])
    (le_of_eq N_0) t0_15 rfl j, zero_add]
  refine Grid.sum_nbrs fun t r ht hr => ?_
  pointwise [val, Grid.norm]
  blk_point [iblk, V, idx0 t, idx1 t, idx2 t, idx3 t, idx4 t, idx5 t]

/-- Result 2 after the last tile. -/
theorem final8 (c : Dev nD) : (dats m 0 c).arrAt 8 cfg0.N
    = res2 (m (c.tc.loc main_arg0)) (m (c.tc.loc main_arg1)) (m (c.tc.loc main_arg2)) (m (c.tc.loc main_arg3)) (m (c.tc.loc main_arg4)) (m (c.tc.loc main_arg5)) := by
  refine (dats m 0 c).arrAt_eq_of_after_last 8 t0_15 (by decide +kernel) _ fun j => ?_
  blk_simp
  rw [after0_8, Pipeline.eq_sum_fin_of_reset_step_apply_last (fun n h => (outsAt0 m c n h).2.2) 16 (fun _ => 0) _
    (fun t h j => by rw [outsAt0_A m c t h]; frame_out; pointwise [k0_pay1, k0_pay2, k0_pay3, k0_pay4, k0_pay5, k0_pay6]; rfl)
    (fun t h j => by rw [outsAt0_B m c t h]; frame_out; pointwise [k0_pay1, k0_pay2, k0_pay3, k0_pay4, k0_pay5, k0_pay6])
    (le_of_eq N_0) t0_15 rfl j, zero_add]
  refine Grid.sum_nbrs fun t r ht hr => ?_
  pointwise [val, Grid.norm]
  blk_point [iblk, V, idx0 t, idx1 t, idx2 t, idx3 t, idx4 t, idx5 t]

/-! ## The claims -/

/-- The two programs end with the same three arrays. -/
theorem equal : Cert.algebraic_AttnInIdeal_AttnInRefIdeal := by
  intro m g m' g' _ hagree
  refine ⟨fun c => res0 (m (c.tc.loc main_arg0)) (m (c.tc.loc main_arg1)) (m (c.tc.loc main_arg2)) (m (c.tc.loc main_arg3)) (m (c.tc.loc main_arg4)) (m (c.tc.loc main_arg5)),
    fun c => res1 (m (c.tc.loc main_arg0)) (m (c.tc.loc main_arg1)) (m (c.tc.loc main_arg2)) (m (c.tc.loc main_arg3)) (m (c.tc.loc main_arg4)) (m (c.tc.loc main_arg5)),
    fun c => res2 (m (c.tc.loc main_arg0)) (m (c.tc.loc main_arg1)) (m (c.tc.loc main_arg2)) (m (c.tc.loc main_arg3)) (m (c.tc.loc main_arg4)) (m (c.tc.loc main_arg5)), ?_, ?_⟩
  · exact (θ_run _ _ _).mono (fun _ h c => ⟨(h c).1.trans (final6 m c), (h c).2.1.trans (final7 m c), (h c).2.2.1.trans (final8 m c), (h c).2.2.2⟩)
      (Value.run_blocks m g)
  · refine (θ_run _ _ _).mono (fun _ h c => ⟨(h c).1.trans ?_, (h c).2.1.trans ?_, (h c).2.2.1.trans ?_, (h c).2.2.2⟩)
      (Cert.AttnInRefIdeal.Value.run (F := Ideal) m' g')
    all_goals
      clear h
      obtain ⟨e0, e1, e2, e3, e4, e5⟩ := hagree c
      rw [e0, e1, e2, e3, e4, e5]
      funext j
    · pointwise [res0, val, Grid.norm]
      simp only [Grid.div_nbrs]
    · pointwise [res1]
      refine (Grid.host_sum_two _ _ _ _).trans ((zero_add _).trans (Finset.sum_congr rfl fun n _ => Finset.sum_congr rfl fun k _ => ?_))
      pointwise [val, Grid.norm]
      simp only [Grid.div_nbrs]
    · pointwise [res2]
      refine (Grid.host_sum_two _ _ _ _).trans ((zero_add _).trans (Finset.sum_congr rfl fun n _ => Finset.sum_congr rfl fun k _ => ?_))
      pointwise [val, Grid.norm]
      simp only [Grid.div_nbrs]

/-- The reference runs, keeps its arguments and ends with its counters at zero. -/
theorem frame_reference : Cert.quiescent_AttnInRefIdeal := fun m ρ _ =>
  (θ_run Cert.AttnInRefIdeal.defs _ _).mono (fun r h => ⟨fun c => (h c).2.2.2, sem_eq_zero_of_no_sems (by decide) r.2⟩)
    (Cert.AttnInRefIdeal.Value.run (F := Ideal) m ρ)

end Cert.Proof.AttnIn

end
-- ==== Proof.Gamma.lean ====
/-
  The second layer of the attention's gamma: every neighbour's row centred, scaled, cut off below at zero and multiplied by
  the square matrix; with it the sums of the products and of their squares over all neighbours. The kernel walks sixteen
  tiles of 512 neighbourhoods and keeps the two rows of sums across them.
-/
module

public import proofs.«01_k».proof.Defs
public import proofs.«01_k».proof.Proof.Grid
public import proofs.«01_k».proof.Proof.Gen.GammaIdeal.Value
public import proofs.«01_k».proof.Proof.Gen.GammaRefIdeal.Run
public import Idealize.ShloMosaic.Lib.Pipeline.ValueKit.Point
public import Idealize.ShloMosaic.Lib.Claim
public import Idealize.ShloMosaic.Lib.Quiescent

@[expose] public section

noncomputable section

namespace Cert.Proof.Gamma

open Idealize.ShloMosaic Idealize.ShloMosaic.TcCoe Idealize.SL.Sem
open Cert.GammaIdeal Cert.GammaIdeal.Gen

variable (m : (ℓ : Loc nD τ sig) → Buf (Elt Ideal) ℓ)

/-! ## The results, of the arguments -/

/-- One product, of neighbour `k` of row `n` in lane `h`. -/
def val (x : S8192x16x128.Idx → EReal) (s q : S1x128.Idx → EReal) (w : S128x128.Idx → EReal)
    (n : Fin 8192) (k : Fin 16) (h : Fin 128) : EReal :=
  ∑ o : Fin 128, max (Grid.norm (Ideal.ofBits .f32 0x37000000#32) (x (ix3 n k o)) (s (ix2 0 o)) (q (ix2 0 o))) 0 * w (ix2 o h)

/-- Result 0. -/
def res0 (x : S8192x16x128.Idx → EReal) (s q : S1x128.Idx → EReal) (w : S128x128.Idx → EReal) (j : S8192x16x128.Idx) : EReal :=
  val x s q w (j 0) (j 1) (j 2)

/-- Result 1, a row of sums. -/
def res1 (x : S8192x16x128.Idx → EReal) (s q : S1x128.Idx → EReal) (w : S128x128.Idx → EReal) (j : S1x128.Idx) : EReal :=
  ∑ n : Fin 8192, ∑ k : Fin 16, val x s q w n k (j 1)

/-- Result 2, a row of sums. -/
def res2 (x : S8192x16x128.Idx → EReal) (s q : S1x128.Idx → EReal) (w : S128x128.Idx → EReal) (j : S1x128.Idx) : EReal :=
  ∑ n : Fin 8192, ∑ k : Fin 16, val x s q w n k (j 1) * val x s q w n k (j 1)

/-! ## The kernel -/

/-- Where the windows of point `t` start: a tile at tile `t`, an array held whole at its start. -/
theorem idx0 : ∀ t : Fin cfg0.N, win0_0.index t = ![t.val, 0, 0] :=
  (by decide +kernel : ∀ t : Fin grid0.N, win0_0.index t = ![t.val, 0, 0])
theorem idx1 : ∀ t : Fin cfg0.N, win0_1.index t = ![0, 0] :=
  (by decide +kernel : ∀ t : Fin grid0.N, win0_1.index t = ![0, 0])
theorem idx2 : ∀ t : Fin cfg0.N, win0_2.index t = ![0, 0] :=
  (by decide +kernel : ∀ t : Fin grid0.N, win0_2.index t = ![0, 0])
theorem idx3 : ∀ t : Fin cfg0.N, win0_3.index t = ![0, 0] :=
  (by decide +kernel : ∀ t : Fin grid0.N, win0_3.index t = ![0, 0])
theorem idx4 : ∀ t : Fin cfg0.N, win0_4.index t = ![t.val, 0, 0] :=
  (by decide +kernel : ∀ t : Fin grid0.N, win0_4.index t = ![t.val, 0, 0])

/-- Result 0 after the last tile. -/
theorem final4 (c : Dev nD) : (dats m 0 c).arrAt 4 cfg0.N
    = res0 (m (c.tc.loc main_arg0)) (m (c.tc.loc main_arg1)) (m (c.tc.loc main_arg2)) (m (c.tc.loc main_arg3)) := by
  refine (dats m 0 c).arrAt_eq_of_covers 4 _ (by decide +kernel) fun t hf y => ?_
  blk_simp
  rw [after0_4]
  by_cases h : t.val % 16 = 0
  · rw [outsAt0_A m c t h]; frame_out
    pointwise [k0_pay1, k0_pay2, k0_pay3, k0_pay4, k0_pay5, k0_pay6, res0, val, Grid.norm]
    blk_point [iblk, V, idx0 t, idx1 t, idx2 t, idx3 t, idx4 t]
  · rw [outsAt0_B m c t h]; frame_out
    pointwise [k0_pay1, k0_pay2, k0_pay3, k0_pay4, k0_pay5, k0_pay6, res0, val, Grid.norm]
    blk_point [iblk, V, idx0 t, idx1 t, idx2 t, idx3 t, idx4 t]

/-- Result 1 after the last tile. -/
theorem final5 (c : Dev nD) : (dats m 0 c).arrAt 5 cfg0.N
    = res1 (m (c.tc.loc main_arg0)) (m (c.tc.loc main_arg1)) (m (c.tc.loc main_arg2)) (m (c.tc.loc main_arg3)) := by
  refine (dats m 0 c).arrAt_eq_of_after_last 5 t0_15 (by decide +kernel) _ fun j => ?_
  blk_simp
  rw [after0_5, Pipeline.eq_sum_fin_of_reset_step_apply_last (fun n h => (outsAt0 m c n h).2.1) 16 (fun _ => 0) _
    (fun t h j => by rw [outsAt0_A m c t h]; frame_out; pointwise [k0_pay1, k0_pay2, k0_pay3, k0_pay4, k0_pay5, k0_pay6]; rfl)
    (fun t h j => by rw [outsAt0_B m c t h]; frame_out; pointwise [k0_pay1, k0_pay2, k0_pay3, k0_pay4, k0_pay5, k0_pay6])
    (le_of_eq N_0) t0_15 rfl j, zero_add]
  refine Grid.sum_nbrs fun t r ht hr => ?_
  pointwise [val, Grid.norm]
  blk_point [iblk, V, idx0 t, idx1 t, idx2 t, idx3 t]

/-- Result 2 after the last tile. -/
theorem final6 (c : Dev nD) : (dats m 0 c).arrAt 6 cfg0.N
    = res2 (m (c.tc.loc main_arg0)) (m (c.tc.loc main_arg1)) (m (c.tc.loc main_arg2)) (m (c.tc.loc main_arg3)) := by
  refine (dats m 0 c).arrAt_eq_of_after_last 6 t0_15 (by decide +kernel) _ fun j => ?_
  blk_simp
  rw [after0_6, Pipeline.eq_sum_fin_of_reset_step_apply_last (fun n h => (outsAt0 m c n h).2.2) 16 (fun _ => 0) _
    (fun t h j => by rw [outsAt0_A m c t h]; frame_out; pointwise [k0_pay1, k0_pay2, k0_pay3, k0_pay4, k0_pay5, k0_pay6]; rfl)
    (fun t h j => by rw [outsAt0_B m c t h]; frame_out; pointwise [k0_pay1, k0_pay2, k0_pay3, k0_pay4, k0_pay5, k0_pay6])
    (le_of_eq N_0) t0_15 rfl j, zero_add]
  refine Grid.sum_nbrs fun t r ht hr => ?_
  pointwise [val, Grid.norm]
  blk_point [iblk, V, idx0 t, idx1 t, idx2 t, idx3 t]

/-! ## The claims -/

/-- The two programs end with the same three arrays. -/
theorem equal : Cert.algebraic_GammaIdeal_GammaRefIdeal := by
  intro m g m' g' _ hagree
  refine ⟨fun c => res0 (m (c.tc.loc main_arg0)) (m (c.tc.loc main_arg1)) (m (c.tc.loc main_arg2)) (m (c.tc.loc main_arg3)),
    fun c => res1 (m (c.tc.loc main_arg0)) (m (c.tc.loc main_arg1)) (m (c.tc.loc main_arg2)) (m (c.tc.loc main_arg3)),
    fun c => res2 (m (c.tc.loc main_arg0)) (m (c.tc.loc main_arg1)) (m (c.tc.loc main_arg2)) (m (c.tc.loc main_arg3)), ?_, ?_⟩
  · exact (θ_run _ _ _).mono (fun _ h c => ⟨(h c).1.trans (final4 m c), (h c).2.1.trans (final5 m c), (h c).2.2.1.trans (final6 m c), (h c).2.2.2⟩)
      (Value.run_blocks m g)
  · refine (θ_run _ _ _).mono (fun _ h c => ⟨(h c).1.trans ?_, (h c).2.1.trans ?_, (h c).2.2.1.trans ?_, (h c).2.2.2⟩)
      (Cert.GammaRefIdeal.Value.run (F := Ideal) m' g')
    all_goals
      clear h
      obtain ⟨e0, e1, e2, e3⟩ := hagree c
      rw [e0, e1, e2, e3]
      funext j
    · pointwise [res0, val, Grid.norm]
      simp only [Grid.div_nbrs]
    · pointwise [res1]
      refine (Grid.host_sum_two _ _ _ _).trans ((zero_add _).trans (Finset.sum_congr rfl fun n _ => Finset.sum_congr rfl fun k _ => ?_))
      pointwise [val, Grid.norm]
      simp only [Grid.div_nbrs]
    · pointwise [res2]
      refine (Grid.host_sum_two _ _ _ _).trans ((zero_add _).trans (Finset.sum_congr rfl fun n _ => Finset.sum_congr rfl fun k _ => ?_))
      pointwise [val, Grid.norm]
      simp only [Grid.div_nbrs]

/-- The reference runs, keeps its arguments and ends with its counters at zero. -/
theorem frame_reference : Cert.quiescent_GammaRefIdeal := fun m ρ _ =>
  (θ_run Cert.GammaRefIdeal.defs _ _).mono (fun r h => ⟨fun c => (h c).2.2.2, sem_eq_zero_of_no_sems (by decide) r.2⟩)
    (Cert.GammaRefIdeal.Value.run (F := Ideal) m ρ)

end Cert.Proof.Gamma

end
-- ==== Proof.Attention.lean ====
/-
  The attention: over the neighbours of a row, the softmax of the centred and scaled scores weighs value plus positional
  encoding; the weighted sum times the square matrix, plus the bias; and the sums of the results and of their squares over
  all rows. The kernel walks sixteen tiles of 512 rows and keeps the two rows of sums across them.
-/
module

public import proofs.«01_k».proof.Defs
public import proofs.«01_k».proof.Proof.Grid
public import proofs.«01_k».proof.Proof.Gen.AttentionIdeal.Value
public import proofs.«01_k».proof.Proof.Gen.AttentionRefIdeal.Read
public import Idealize.ShloMosaic.Lib.Pipeline.ValueKit.Point
public import Idealize.ShloMosaic.Lib.Claim
public import Idealize.ShloMosaic.Lib.Quiescent

@[expose] public section

noncomputable section

namespace Cert.Proof.Attention

open Idealize.ShloMosaic Idealize.ShloMosaic.TcCoe Idealize.SL.Sem
open Cert.AttentionRefIdeal.Read Cert.AttentionIdeal Cert.AttentionIdeal.Gen

variable (m : (ℓ : Loc nD τ sig) → Buf (Elt Ideal) ℓ)

/-! ## The results, of the arguments -/

/-- One score, of neighbour `k` of row `n` in lane `h`. -/
def score (x : S8192x16x128.Idx → EReal) (s q : S1x128.Idx → EReal) (y : S8192x16x128.Idx → EReal) (a b : S1x128.Idx → EReal) (z : S8192x16x128.Idx → EReal) (w : S128x128.Idx → EReal) (d : S1x128.Idx → EReal)
    (n : Fin 8192) (k : Fin 16) (h : Fin 128) : EReal :=
  Grid.norm (Ideal.ofBits .f32 0x37000000#32) (x (ix3 n k h)) (s (ix2 0 h)) (q (ix2 0 h))

/-- Its exponential, taken off the greatest score of the row. -/
def expo (x : S8192x16x128.Idx → EReal) (s q : S1x128.Idx → EReal) (y : S8192x16x128.Idx → EReal) (a b : S1x128.Idx → EReal) (z : S8192x16x128.Idx → EReal) (w : S128x128.Idx → EReal) (d : S1x128.Idx → EReal)
    (n : Fin 8192) (k : Fin 16) (h : Fin 128) : EReal :=
  Ideal.exp (score x s q y a b z w d n k h - Finset.univ.fold max (Ideal.ofBits .f32 0xFF800000#32) fun k : Fin 16 => score x s q y a b z w d n k h)

/-- The weighted sum, of row `n` in lane `h`. -/
def mix (x : S8192x16x128.Idx → EReal) (s q : S1x128.Idx → EReal) (y : S8192x16x128.Idx → EReal) (a b : S1x128.Idx → EReal) (z : S8192x16x128.Idx → EReal) (w : S128x128.Idx → EReal) (d : S1x128.Idx → EReal)
    (n : Fin 8192) (h : Fin 128) : EReal :=
  ∑ k : Fin 16, Ideal.div (expo x s q y a b z w d n k h) (∑ k : Fin 16, expo x s q y a b z w d n k h) * (z (ix3 n k h) + Grid.norm (Ideal.ofBits .f32 0x37000000#32) (y (ix3 n k h)) (a (ix2 0 h)) (b (ix2 0 h)))

/-- One entry of the result, of row `n` in lane `h`. -/
def val (x : S8192x16x128.Idx → EReal) (s q : S1x128.Idx → EReal) (y : S8192x16x128.Idx → EReal) (a b : S1x128.Idx → EReal) (z : S8192x16x128.Idx → EReal) (w : S128x128.Idx → EReal) (d : S1x128.Idx → EReal)
    (n : Fin 8192) (h : Fin 128) : EReal :=
  (∑ o : Fin 128, mix x s q y a b z w d n o * w (ix2 o h)) + d (ix2 0 h)

/-- Result 0. -/
def res0 (x : S8192x16x128.Idx → EReal) (s q : S1x128.Idx → EReal) (y : S8192x16x128.Idx → EReal) (a b : S1x128.Idx → EReal) (z : S8192x16x128.Idx → EReal) (w : S128x128.Idx → EReal) (d : S1x128.Idx → EReal) (j : S8192x128.Idx) : EReal :=
  val x s q y a b z w d (j 0) (j 1)

/-- Result 1, a row of sums. -/
def res1 (x : S8192x16x128.Idx → EReal) (s q : S1x128.Idx → EReal) (y : S8192x16x128.Idx → EReal) (a b : S1x128.Idx → EReal) (z : S8192x16x128.Idx → EReal) (w : S128x128.Idx → EReal) (d : S1x128.Idx → EReal) (j : S1x128.Idx) : EReal :=
  ∑ n : Fin 8192, val x s q y a b z w d n (j 1)

/-- Result 2, a row of sums. -/
def res2 (x : S8192x16x128.Idx → EReal) (s q : S1x128.Idx → EReal) (y : S8192x16x128.Idx → EReal) (a b : S1x128.Idx → EReal) (z : S8192x16x128.Idx → EReal) (w : S128x128.Idx → EReal) (d : S1x128.Idx → EReal) (j : S1x128.Idx) : EReal :=
  ∑ n : Fin 8192, val x s q y a b z w d n (j 1) * val x s q y a b z w d n (j 1)

/-! ## The kernel -/

/-- Where the windows of point `t` start: a tile at tile `t`, an array held whole at its start. -/
theorem idx0 : ∀ t : Fin cfg0.N, win0_0.index t = ![t.val, 0, 0] :=
  (by decide +kernel : ∀ t : Fin grid0.N, win0_0.index t = ![t.val, 0, 0])
theorem idx1 : ∀ t : Fin cfg0.N, win0_1.index t = ![0, 0] :=
  (by decide +kernel : ∀ t : Fin grid0.N, win0_1.index t = ![0, 0])
theorem idx2 : ∀ t : Fin cfg0.N, win0_2.index t = ![0, 0] :=
  (by decide +kernel : ∀ t : Fin grid0.N, win0_2.index t = ![0, 0])
theorem idx3 : ∀ t : Fin cfg0.N, win0_3.index t = ![t.val, 0, 0] :=
  (by decide +kernel : ∀ t : Fin grid0.N, win0_3.index t = ![t.val, 0, 0])
theorem idx4 : ∀ t : Fin cfg0.N, win0_4.index t = ![0, 0] :=
  (by decide +kernel : ∀ t : Fin grid0.N, win0_4.index t = ![0, 0])
theorem idx5 : ∀ t : Fin cfg0.N, win0_5.index t = ![0, 0] :=
  (by decide +kernel : ∀ t : Fin grid0.N, win0_5.index t = ![0, 0])
theorem idx6 : ∀ t : Fin cfg0.N, win0_6.index t = ![t.val, 0, 0] :=
  (by decide +kernel : ∀ t : Fin grid0.N, win0_6.index t = ![t.val, 0, 0])
theorem idx7 : ∀ t : Fin cfg0.N, win0_7.index t = ![0, 0] :=
  (by decide +kernel : ∀ t : Fin grid0.N, win0_7.index t = ![0, 0])
theorem idx8 : ∀ t : Fin cfg0.N, win0_8.index t = ![0, 0] :=
  (by decide +kernel : ∀ t : Fin grid0.N, win0_8.index t = ![0, 0])
theorem idx9 : ∀ t : Fin cfg0.N, win0_9.index t = ![t.val, 0] :=
  (by decide +kernel : ∀ t : Fin grid0.N, win0_9.index t = ![t.val, 0])

/-- Result 0 after the last tile. -/
theorem final9 (c : Dev nD) : (dats m 0 c).arrAt 9 cfg0.N
    = res0 (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) := by
  refine (dats m 0 c).arrAt_eq_of_covers 9 _ (by decide +kernel) fun t hf y => ?_
  blk_simp
  rw [after0_9]
  by_cases h : t.val % 16 = 0
  · rw [outsAt0_A m c t h]; frame_out
    pointwise [k0_pay1, k0_pay2, k0_pay3, k0_pay4, k0_pay5, k0_pay6, k0_pay7, k0_pay8, res0, val, mix, expo, score, Grid.norm]
    blk_point [iblk, V, idx0 t, idx1 t, idx2 t, idx3 t, idx4 t, idx5 t, idx6 t, idx7 t, idx8 t, idx9 t]
  · rw [outsAt0_B m c t h]; frame_out
    pointwise [k0_pay1, k0_pay2, k0_pay3, k0_pay4, k0_pay5, k0_pay6, k0_pay7, k0_pay8, res0, val, mix, expo, score, Grid.norm]
    blk_point [iblk, V, idx0 t, idx1 t, idx2 t, idx3 t, idx4 t, idx5 t, idx6 t, idx7 t, idx8 t, idx9 t]

/-- Result 1 after the last tile. -/
theorem final10 (c : Dev nD) : (dats m 0 c).arrAt 10 cfg0.N
    = res1 (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) := by
  refine (dats m 0 c).arrAt_eq_of_after_last 10 t0_15 (by decide +kernel) _ fun j => ?_
  blk_simp
  rw [after0_10, Pipeline.eq_sum_fin_of_reset_step_apply_last (fun n h => (outsAt0 m c n h).2.1) 16 (fun _ => 0) _
    (fun t h j => by rw [outsAt0_A m c t h]; frame_out; pointwise [k0_pay1, k0_pay2, k0_pay3, k0_pay4, k0_pay5, k0_pay6, k0_pay7, k0_pay8]; rfl)
    (fun t h j => by rw [outsAt0_B m c t h]; frame_out; pointwise [k0_pay1, k0_pay2, k0_pay3, k0_pay4, k0_pay5, k0_pay6, k0_pay7, k0_pay8])
    (le_of_eq N_0) t0_15 rfl j, zero_add]
  refine Grid.sum_rows fun t r ht => ?_
  pointwise [val, mix, expo, score, Grid.norm]
  blk_point [iblk, V, idx0 t, idx1 t, idx2 t, idx3 t, idx4 t, idx5 t, idx6 t, idx7 t, idx8 t]

/-- Result 2 after the last tile. -/
theorem final11 (c : Dev nD) : (dats m 0 c).arrAt 11 cfg0.N
    = res2 (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) := by
  refine (dats m 0 c).arrAt_eq_of_after_last 11 t0_15 (by decide +kernel) _ fun j => ?_
  blk_simp
  rw [after0_11, Pipeline.eq_sum_fin_of_reset_step_apply_last (fun n h => (outsAt0 m c n h).2.2) 16 (fun _ => 0) _
    (fun t h j => by rw [outsAt0_A m c t h]; frame_out; pointwise [k0_pay1, k0_pay2, k0_pay3, k0_pay4, k0_pay5, k0_pay6, k0_pay7, k0_pay8]; rfl)
    (fun t h j => by rw [outsAt0_B m c t h]; frame_out; pointwise [k0_pay1, k0_pay2, k0_pay3, k0_pay4, k0_pay5, k0_pay6, k0_pay7, k0_pay8])
    (le_of_eq N_0) t0_15 rfl j, zero_add]
  refine Grid.sum_rows fun t r ht => ?_
  pointwise [val, mix, expo, score, Grid.norm]
  blk_point [iblk, V, idx0 t, idx1 t, idx2 t, idx3 t, idx4 t, idx5 t, idx6 t, idx7 t, idx8 t]

/-! ## The reference, stage by stage -/

variable (x : S8192x16x128.Idx → EReal) (s q : S1x128.Idx → EReal) (y : S8192x16x128.Idx → EReal) (a b : S1x128.Idx → EReal) (z : S8192x16x128.Idx → EReal) (w : S128x128.Idx → EReal) (d : S1x128.Idx → EReal)

/-- Scores. -/
theorem ref_score (n : Fin 8192) (k : Fin 16) (h : Fin 128) :
    val_main_v16 (F := Ideal) x s q (ix3 n k h) = score x s q y a b z w d n k h := by
  pointwise [val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, score, Grid.norm]
  simp only [Grid.div_nbrs]

/-- The word of minus infinity. -/
theorem word_low : Ideal.ofBits FTy.f32 0xFF800000#32 = ⊥ := by
  simp [Ideal.ofBits, Ideal.ieee]

/-- A maximum over the neighbours, from minus infinity. -/
theorem max_nbrs (f : FVec Ideal S8192x16x128 .f32) (hd : S8192x16x128.ReducesTo [1] S8192x128) (hu : 0 < Cert.AttentionRefIdeal.S_.numel) (n : Fin 8192) (h : Fin 128) :
    Host.reduce FloatOps.maximumf f (val_main_cst_2 (F := Ideal)) hd hu (ix2 n h) =
      (Finset.univ.fold max (Ideal.ofBits .f32 0xFF800000#32) fun k : Fin 16 => f (ix3 n k h) : EReal) := by
  have hr : S8192x16x128.Reduces [1] S8192x128 := by decide
  rw [Host.reduce_eq_fold_single _ _ _ _ hr, val_main_cst_2_apply]
  have e : f ∘ hr.lift (ix2 n h) = fun k : Fin 16 => f (ix3 n k h) :=
    funext fun k => congrArg f (funext fun c => by fin_cases c <;> rfl)
  rw [e]
  rfl

/-- What the reference compares every maximum with. -/
theorem ref_low (n : Fin 8192) (h : Fin 128) : val_main_v18 (F := Ideal) (ix2 n h) = (⊥ : EReal) := by
  refine Eq.trans ?_ word_low
  pointwise [val_main_v18, val_main_cst_3]

/-- The greatest score of a row and lane. -/
theorem ref_max (n : Fin 8192) (h : Fin 128) :
    val_main_v19 (F := Ideal) x s q (ix2 n h) = Finset.univ.fold max (Ideal.ofBits .f32 0xFF800000#32) fun k : Fin 16 => score x s q y a b z w d n k h := by
  simp only [← ref_score x s q y a b z w d]
  rw [val_main_v19_apply, val_main_v17, max_nbrs, ref_low]
  exact max_eq_right bot_le

/-- Exponentials. -/
theorem ref_expo (n : Fin 8192) (k : Fin 16) (h : Fin 128) :
    val_main_v23 (F := Ideal) x s q (ix3 n k h) = expo x s q y a b z w d n k h := by
  unfold expo
  rw [← ref_max x s q y a b z w d, ← ref_score x s q y a b z w d]
  pointwise [val_main_v23, val_main_v22, val_main_v21, val_main_v20]

/-- Weighted sums. -/
theorem ref_mix (n : Fin 8192) (h : Fin 128) :
    val_main_v47 (F := Ideal) x s q y a b z (ix2 n h) = mix x s q y a b z w d n h := by
  unfold mix
  simp only [← ref_expo x s q y a b z w d]
  pointwise [val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_cst_4, val_main_cst_5, val_main_cst_6, val_main_cst_7, val_main_cst_8, Grid.norm]
  simp only [Grid.div_nbrs]

/-- Entries of the first result. -/
theorem ref_val (n : Fin 8192) (h : Fin 128) :
    val_main_v50 (F := Ideal) x s q y a b z w d (ix2 n h) = val x s q y a b z w d n h := by
  unfold val
  simp only [← ref_mix x s q y a b z w d]
  pointwise [val_main_v50, val_main_v49, val_main_v48]

/-- The first result. -/
theorem ref0 : val_main_v50 (F := Ideal) x s q y a b z w d = res0 x s q y a b z w d := by
  funext j
  have e : j = ix2 (j 0) (j 1) := funext fun k => by fin_cases k <;> rfl
  exact (congrArg _ e).trans (ref_val x s q y a b z w d (j 0) (j 1))

/-- The sums. -/
theorem ref1 : val_main_v52 (F := Ideal) x s q y a b z w d = res1 x s q y a b z w d := by
  funext j
  unfold res1
  pointwise [val_main_v52, val_main_v51, val_main_cst_9]
  exact Finset.sum_congr rfl fun r _ => ref_val x s q y a b z w d r (j 1)

/-- The sums of the squares. -/
theorem ref2 : val_main_v55 (F := Ideal) x s q y a b z w d = res2 x s q y a b z w d := by
  funext j
  unfold res2
  pointwise [val_main_v55, val_main_v54, val_main_v53, val_main_cst_10]
  exact Finset.sum_congr rfl fun r _ => congrArg (fun t : EReal => t * t) (ref_val x s q y a b z w d r (j 1))

/-! ## The claims -/

/-- The two programs end with the same three arrays. -/
theorem equal : Cert.algebraic_AttentionIdeal_AttentionRefIdeal := by
  intro m g m' g' _ hagree
  refine ⟨fun c => res0 (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)),
    fun c => res1 (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)),
    fun c => res2 (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)), ?_, ?_⟩
  · exact (θ_run _ _ _).mono (fun _ h c => ⟨(h c).1.trans (final9 m c), (h c).2.1.trans (final10 m c), (h c).2.2.1.trans (final11 m c), (h c).2.2.2⟩)
      (Value.run_blocks m g)
  · refine (θ_run _ _ _).mono (fun _ h c => ⟨(h c).1.trans ?_, (h c).2.1.trans ?_, (h c).2.2.1.trans ?_, (h c).2.2.2⟩)
      (Cert.AttentionRefIdeal.Value.run (F := Ideal) m' g')
    all_goals
      clear h
      obtain ⟨e0, e1, e2, e3, e4, e5, e6, e7, e8⟩ := hagree c
    · rw [val_main_v50_eq, ref0, e0, e1, e2, e3, e4, e5, e6, e7, e8]
    · rw [val_main_v52_eq, ref1, e0, e1, e2, e3, e4, e5, e6, e7, e8]
    · rw [val_main_v55_eq, ref2, e0, e1, e2, e3, e4, e5, e6, e7, e8]

/-- The reference runs, keeps its arguments and ends with its counters at zero. -/
theorem frame_reference : Cert.quiescent_AttentionRefIdeal := fun m ρ _ =>
  (θ_run Cert.AttentionRefIdeal.defs _ _).mono (fun r h => ⟨fun c => (h c).2.2.2, sem_eq_zero_of_no_sems (by decide) r.2⟩)
    (Cert.AttentionRefIdeal.Value.run (F := Ideal) m ρ)

end Cert.Proof.Attention

end
-- ==== Proof.Rounds.lean ====
/-
  Rounds over one row of distances: each round finds the least distance, the first place that has it, and puts +∞ there.
  On a row of values below +∞ the places found are, in order, those of the stable sort of the row, the smaller first.
-/
module

public import Idealize.ShloMosaic.Lib.SortPrefix
public import Idealize.ShloMosaic.Lib.Pipeline.ValueKit.Point

@[expose] public section

noncomputable section

namespace Cert.Proof.Rounds

open Idealize.ShloMosaic

abbrev Row := Fin 4096 → EReal

/-- The least distance of a row, as a minimum from +∞. -/
def low (d : Row) : EReal := Finset.univ.fold min ⊤ d

/-- The word of the first place whose distance is the least, found as a signed minimum of candidate words. -/
def pick (d : Row) : BitVec 32 :=
  Finset.univ.fold IntOp.minsi 2147483647#32 fun j => if d j = low d then BitVec.ofNat 32 j.val else 4096#32

/-- The row with +∞ at that place. -/
def next (d : Row) : Row := fun j => if BitVec.ofNat 32 j.val = pick d then ⊤ else d j

/-- The row after `r` rounds. -/
def rounds (d : Row) : Nat → Row
  | 0 => d
  | r + 1 => next (rounds d r)

/-! ## The signed minimum -/

theorem minsi_left {v w : BitVec 32} (h : v.toInt ≤ w.toInt) : IntOp.minsi v w = v := by
  unfold IntOp.minsi
  by_cases hs : v.slt w = true
  · simp [hs]
  · have hle : w.toInt ≤ v.toInt := by
      by_contra hc
      exact hs (BitVec.slt_iff_toInt_lt.2 (by omega))
    have : v = w := BitVec.eq_of_toInt_eq (le_antisymm h hle)
    subst this
    simp

theorem le_minsi {z v w : BitVec 32} (hv : z.toInt ≤ v.toInt) (hw : z.toInt ≤ w.toInt) : z.toInt ≤ (IntOp.minsi v w).toInt := by
  unfold IntOp.minsi
  split <;> assumption

/-- A signed minimum over the places is the value at a place where no value is below it. -/
theorem minsi_eq (g : Fin 4096 → BitVec 32) (e : BitVec 32) (a : Fin 4096) (he : (g a).toInt ≤ e.toInt)
    (h : ∀ p, (g a).toInt ≤ (g p).toInt) : Finset.univ.fold IntOp.minsi e g = g a := by
  have low : ∀ s : Finset (Fin 4096), (g a).toInt ≤ (s.fold IntOp.minsi e g).toInt := fun s => by
    induction s using Finset.induction_on with
    | empty => simpa using he
    | insert p s hp ih => rw [Finset.fold_insert hp]; exact le_minsi (h p) ih
  rw [← Finset.insert_erase (Finset.mem_univ a), Finset.fold_insert (Finset.notMem_erase a _)]
  exact minsi_left (low _)

theorem toInt_place (n : Nat) (h : n ≤ 4096) : (BitVec.ofNat 32 n).toInt = n := by
  rw [BitVec.toInt_eq_toNat_cond, BitVec.toNat_ofNat, Nat.mod_eq_of_lt (by omega), if_pos (by omega)]

theorem place_inj {p q : Fin 4096} (h : BitVec.ofNat 32 p.val = BitVec.ofNat 32 q.val) : p = q := by
  have := congrArg BitVec.toInt h
  rw [toInt_place _ (by omega), toInt_place _ (by omega)] at this
  exact Fin.ext (by omega)

/-! ## One round -/

/-- A round picks the first of the places with the least distance. -/
theorem pick_eq (d : Row) (a : Fin 4096) (ha : ∀ p, d a ≤ d p) (hb : ∀ p, d p = d a → a ≤ p) :
    pick d = BitVec.ofNat 32 a.val := by
  have hl : low d = d a := le_antisymm ((Finset.fold_min_le _).2 (Or.inr ⟨a, Finset.mem_univ a, le_rfl⟩))
    ((Finset.le_fold_min _).2 ⟨le_top, fun p _ => ha p⟩)
  have hg : ∀ p : Fin 4096, (a.val : Int) ≤ (if d p = low d then BitVec.ofNat 32 p.val else 4096#32 : BitVec 32).toInt := fun p => by
    split
    · next hp =>
      rw [toInt_place _ (by omega)]
      have := hb p (hp.trans hl)
      exact_mod_cast this
    · have : (4096#32 : BitVec 32).toInt = 4096 := by decide
      omega
  have ea : (if d a = low d then BitVec.ofNat 32 a.val else 4096#32 : BitVec 32) = BitVec.ofNat 32 a.val := if_pos hl.symm
  have et := toInt_place a.val (by omega)
  have hi : (2147483647#32 : BitVec 32).toInt = 2147483647 := by decide
  unfold pick
  rw [minsi_eq _ _ a (by rw [ea, et, hi]; omega) (fun p => by rw [ea, et]; exact hg p), ea]

/-- Place `p` sorts before place `q`: by distance, and of equal distances by place. -/
def before (f : Row) (p q : Fin 4096) : Bool := decide (f p < f q) || (decide (f p = f q) && decide (p < q))

theorem before_total (f : Row) : StrictTotalBefore (before f) :=
  StrictTotalBefore.of_key_then_position (fun a b : EReal => decide (a < b)) f (fun a => by simp)
    (fun a b c h k => by simp only [decide_eq_true_eq] at *; exact h.trans k)
    (fun a b => by simp only [decide_eq_true_eq]; exact lt_trichotomy a b)

/-- The row `f` with +∞ at the places of `P`. -/
def hide (f : Row) (P : Finset (Fin 4096)) : Row := fun j => if j ∈ P then ⊤ else f j

/-- With some places hidden and one left, a round picks the one left that sorts first, and hides it. -/
theorem round (f : Row) (hf : ∀ j, f j < ⊤) (P : Finset (Fin 4096)) (hP : P.card < 4096) :
    ∃ a, a ∉ P ∧ pick (hide f P) = BitVec.ofNat 32 a.val ∧ next (hide f P) = hide f (insert a P)
      ∧ ∀ p, p ∉ P → before f p a = false := by
  have hne : (Finset.univ \ P).Nonempty := by
    rw [← Finset.card_pos, Finset.card_sdiff_of_subset (Finset.subset_univ P), Finset.card_univ, Fintype.card_fin]
    omega
  obtain ⟨a, hmem, hmin⟩ := Finset.exists_min_image (Finset.univ \ P) (fun j => toLex (f j, j)) hne
  have haP : a ∉ P := (Finset.mem_sdiff.1 hmem).2
  have hle : ∀ p, p ∉ P → f a < f p ∨ (f a = f p ∧ a ≤ p) := fun p hp => by
    have := hmin p (Finset.mem_sdiff.2 ⟨Finset.mem_univ p, hp⟩)
    rw [Prod.Lex.le_iff] at this
    exact this
  have ha : hide f P a = f a := if_neg haP
  have hpick : pick (hide f P) = BitVec.ofNat 32 a.val := by
    refine pick_eq _ a (fun p => ?_) fun p hp => ?_
    · rw [ha]
      by_cases h : p ∈ P
      · exact (show hide f P p = ⊤ from if_pos h) ▸ le_top
      · rw [show hide f P p = f p from if_neg h]
        rcases hle p h with h | h
        · exact h.le
        · exact h.1.le
    · rw [ha] at hp
      by_cases h : p ∈ P
      · rw [show hide f P p = ⊤ from if_pos h] at hp
        exact absurd (hf a) (by rw [← hp]; exact lt_irrefl _)
      · rw [show hide f P p = f p from if_neg h] at hp
        rcases hle p h with h | h
        · exact absurd h (by rw [hp]; exact lt_irrefl _)
        · exact h.2
  refine ⟨a, haP, hpick, funext fun j => ?_, fun p hp => ?_⟩
  · unfold next
    rw [hpick]
    by_cases hj : j = a
    · subst hj
      rw [if_pos rfl]
      exact (if_pos (Finset.mem_insert_self j P)).symm
    · rw [if_neg fun h => hj (place_inj h)]
      unfold hide
      simp only [Finset.mem_insert, hj, false_or]
  · unfold before
    rcases hle p hp with h | h
    · simp [h.le, h.ne']
    · simp [h.1, h.2]

/-! ## Round after round -/

/-- The place that round `r` picks. -/
def place (f : Row) (r : Nat) : Fin 4096 := ⟨(pick (rounds f r)).toNat % 4096, Nat.mod_lt _ (by decide)⟩

/-- The places picked before round `r`. -/
def picked (f : Row) (r : Nat) : Finset (Fin 4096) := (Finset.range r).image (place f)

theorem place_eq {f : Row} {r : Nat} {a : Fin 4096} (h : pick (rounds f r) = BitVec.ofNat 32 a.val) : place f r = a := by
  refine Fin.ext ?_
  unfold place
  simp only [h, BitVec.toNat_ofNat]
  have := a.isLt
  omega

theorem rounds_eq (f : Row) (hf : ∀ j, f j < ⊤) (r : Nat) (hr : r ≤ 4096) : rounds f r = hide f (picked f r) := by
  induction r with
  | zero => funext j; simp [rounds, hide, picked]
  | succ r ih =>
    have e := ih (by omega)
    have hc : (picked f r).card < 4096 := lt_of_le_of_lt Finset.card_image_le (by rw [Finset.card_range]; omega)
    obtain ⟨a, -, hp, hn, -⟩ := round f hf (picked f r) hc
    have hpl : place f r = a := place_eq (by rw [e]; exact hp)
    have hi : picked f (r + 1) = insert a (picked f r) := by
      unfold picked
      rw [Finset.range_add_one, Finset.image_insert, hpl]
    rw [hi, ← hn, ← e]
    rfl

/-- What round `r` picks: a place not picked before, and no place not picked before sorts before it. -/
theorem place_spec (f : Row) (hf : ∀ j, f j < ⊤) (r : Nat) (hr : r < 4096) :
    pick (rounds f r) = BitVec.ofNat 32 (place f r).val ∧ place f r ∉ picked f r
      ∧ ∀ p, p ∉ picked f r → before f p (place f r) = false := by
  have e := rounds_eq f hf r hr.le
  have hc : (picked f r).card < 4096 := lt_of_le_of_lt Finset.card_image_le (by rw [Finset.card_range]; omega)
  obtain ⟨a, ha, hp, -, hb⟩ := round f hf (picked f r) hc
  rw [← e] at hp
  rw [place_eq hp]
  exact ⟨hp, ha, hb⟩

/-! ## The sort -/

/-- Two orders that agree on whether a later place goes before an earlier one sort an increasing list alike. -/
theorem stableSort_eq {n : Nat} {R B : Fin n → Fin n → Bool} (h : ∀ a b, a < b → R b a = B b a) (l : List (Fin n))
    (hl : l.Pairwise (· < ·)) : stableSort R l = stableSort B l := by
  induction l with
  | nil => rfl
  | cons a l ih =>
    rw [List.pairwise_cons] at hl
    unfold stableSort
    rw [ih hl.2]
    exact insertBefore_congr R B a _ fun b hb => h a b (hl.1 b ((perm_stableSort B l).mem_iff.1 hb))

theorem sortedFrom_eq {n : Nat} {R B : Fin n → Fin n → Bool} (h : ∀ a b, a < b → R b a = B b a) : sortedFrom R = sortedFrom B := by
  funext k
  unfold sortedFrom
  rw [List.get_of_eq (show sortPositions n R = sortPositions n B from
    stableSort_eq h _ (List.pairwise_lt_finRange n))]
  rfl

/-- The stable sort of the row, the smaller first, has at position `r` the place that round `r` picks. -/
theorem sorted_place (f : Row) (hf : ∀ j, f j < ⊤) (r : Fin 16) :
    sortedFrom (fun k k' => decide (f k < f k')) (r.castLE (by decide)) = place f r.val := by
  have hs : sortedFrom (fun k k' => decide (f k < f k')) = sortedFrom (before f) := sortedFrom_eq fun a b hab => by
    unfold before
    simp [hab.le]
  have mem : ∀ i j : Nat, i < j → place f i ∈ picked f j := fun i j h =>
    Finset.mem_image.2 ⟨i, Finset.mem_range.2 h, rfl⟩
  have sp := fun i : Fin 16 => place_spec f hf i.val (by omega)
  rw [hs]
  refine (before_total f).sortedFrom_eq_of_prefix (k := 16) (by decide) (fun i : Fin 16 => place f i.val) ?_ ?_ ?_ r
  · intro i j hij
    rcases lt_trichotomy i j with h | h | h
    · exact absurd (mem i.val j.val h) (by rw [show place f i.val = place f j.val from hij]; exact (sp j).2.1)
    · exact h
    · exact absurd (mem j.val i.val h) (by rw [← show place f i.val = place f j.val from hij]; exact (sp i).2.1)
  · intro i j hij
    refine (sp i).2.2 _ fun hm => (sp j).2.1 ?_
    obtain ⟨t, ht, e⟩ := Finset.mem_image.1 hm
    exact Finset.mem_image.2 ⟨t, Finset.mem_range.2 ((Finset.mem_range.1 ht).trans hij), e⟩
  · intro i p hp
    refine (sp i).2.2 _ fun hm => ?_
    obtain ⟨t, ht, e⟩ := Finset.mem_image.1 hm
    have := Finset.mem_range.1 ht
    exact hp ⟨t, by omega⟩ e

end Cert.Proof.Rounds

end
-- ==== Proof.Nearest.lean ====
/-
  The neighbour search. The kernel widens the coordinates to eight columns with zeros, walks sixteen tiles of 512 points,
  and in each picks the least distance of every row sixteen times, hiding the place it picked; the reference takes the
  sixteen greatest of the negated distances by a stable sort. On finite coordinates every distance is below +∞, a hidden
  place is never picked again, and the places are the same, in the same order.
-/
module

public import proofs.«01_k».proof.Proof.Gen.NearestIdeal.Frame
public import proofs.«01_k».proof.Proof.Gen.NearestIdeal.Value
public import proofs.«01_k».proof.Proof.Rounds
public import proofs.«01_k».proof.Defs
public import proofs.«01_k».proof.Proof.Gen.NearestRefIdeal.Run
public import proofs.«01_k».proof.Proof.Gen.NearestRefIdeal.Read
public import proofs.«01_k».proof.Proof.Gen.Pre_finite_coords
public import Idealize.ShloMosaic.Lib.Pipeline.ValueKit.Point
public import Idealize.ShloMosaic.Lib.KernelVsHost
public import Idealize.ShloMosaic.Lib.WordCmp
public import Idealize.ShloMosaic.Lib.Claim
public import Idealize.ShloMosaic.Lib.Quiescent

@[expose] public section

noncomputable section

namespace Cert.Proof.Nearest

open Idealize.ShloMosaic Idealize.ShloMosaic.TcCoe Idealize.SL.Sem
open Idealize.ShloMosaic.WordCmp
open Cert.NearestIdeal Cert.NearestIdeal.Gen

/-! ## The kernel's rounds -/

/-- One round's pick, per row. -/
def pick (d : FVec Ideal S512x4096 .f32) : IVec S512x1 32 :=
  k0_pay5 (k0_pay4 (iota .tc S512x4096 32 [1] iota_S512x4096_d1_w32) d)

/-- The distances after that round. -/
def next (d : FVec Ideal S512x4096 .f32) : FVec Ideal S512x4096 .f32 :=
  k0_pay6 (iota .tc S512x4096 32 [1] iota_S512x4096_d1_w32) d (pick d)

/-- The distances after `r` rounds. -/
def after (r : Nat) (d : FVec Ideal S512x4096 .f32) : FVec Ideal S512x4096 .f32 :=
  match r with
  | 0 => d
  | r + 1 => next (after r d)

/-- The kernel's tile, its sixteen rounds named. -/
theorem out_eq (i : grid0.Coords) (x0 : Vec Ideal S1x512x8 .f32) (x1 : Vec Ideal S1x8x4096 .f32)
    (d : FVec Ideal S512x4096 .f32) (hd : d = k0_pay10 (View.ld x0 r0_0) (View.ld x1 r0_1)) :
    out0_2 i x0 x1 = View.canon [⟨r0_2, k0_pay9 (BitVec.ofNat 32 (i 0).val) (k0_pay8 (pick (after 0 d)) (pick (after 1 d)) (pick (after 2 d)) (pick (after 3 d)) (pick (after 4 d)) (pick (after 5 d)) (pick (after 6 d)) (pick (after 7 d)) (pick (after 8 d)) (pick (after 9 d)) (pick (after 10 d)) (pick (after 11 d)) (pick (after 12 d)) (pick (after 13 d)) (pick (after 14 d))
      (k0_pay4 (iota .tc S512x4096 32 [1] iota_S512x4096_d1_w32) (after 15 d)))⟩] := by
  subst hd
  rfl

/-- The sixteen columns of picks put side by side, read one column at a time. -/
theorem col_read (p : Fin 16 → IVec S512x1 32) (v : IVec S512x4096 32) (hv : p 15 = k0_pay5 v) (r : Fin 512) (c : Fin 16) :
    k0_pay8 (p 0) (p 1) (p 2) (p 3) (p 4) (p 5) (p 6) (p 7) (p 8) (p 9) (p 10) (p 11) (p 12) (p 13) (p 14) v (ix2 r c) = p c (ix2 r 0) := by
  have e : k0_pay8 (p 0) (p 1) (p 2) (p 3) (p 4) (p 5) (p 6) (p 7) (p 8) (p 9) (p 10) (p 11) (p 12) (p 13) (p 14) v = concatenate S512x16 1 [⟨S512x1, p 0⟩, ⟨S512x1, p 1⟩, ⟨S512x1, p 2⟩, ⟨S512x1, p 3⟩, ⟨S512x1, p 4⟩, ⟨S512x1, p 5⟩, ⟨S512x1, p 6⟩, ⟨S512x1, p 7⟩, ⟨S512x1, p 8⟩, ⟨S512x1, p 9⟩, ⟨S512x1, p 10⟩, ⟨S512x1, p 11⟩, ⟨S512x1, p 12⟩, ⟨S512x1, p 13⟩, ⟨S512x1, p 14⟩, ⟨S512x1, p 15⟩] concatenates_S512x1_S512x1_S512x1_S512x1_S512x1_S512x1_S512x1_S512x1_S512x1_S512x1_S512x1_S512x1_S512x1_S512x1_S512x1_S512x1_S512x16_d1 := by
    rw [hv]; rfl
  rw [e]
  fin_cases c <;> pointwise []

variable (m : (ℓ : Loc nD τ sig) → Buf (Elt Ideal) ℓ)

/-- The coordinates widened to eight columns, the last five zero. -/
def wide (x : S2x4096x3.Idx → EReal) (b : Fin 2) (n : Fin 4096) (k : Fin 8) : EReal :=
  if h : k.val < 3 then x (ix3 b n ⟨k.val, h⟩) else 0

/-- The arrays the call is launched on: the coordinates padded, and those with the last two axes swapped. -/
theorem V_v0 (c : Dev nD) : V m c main_v0
    = pad S2x4096x8 ![0, 0, 0] ![0, 0, 5] ![0, 0, 0] (m (c.tc.loc main_arg0) : FVec Ideal S2x4096x3 .f32)
        (sitofp .f32 (constantI S_ 32 0#32) : FVec Ideal S_ .f32)
        pads_S2x4096x3_S2x4096x8_000_000_050 h_S_ := by
  show StableHlo.after (List.flatten [hostOps0, hostOps0_1, hostOps0_2]) (fun b => m (c, b)) (Proc.devRef .tc main_v0) = _
  simp only [hostOps0, hostOps0_1, hostOps0_2, List.flatten_cons, List.flatten_nil, List.append_nil, List.cons_append,
    List.nil_append]
  after_results
  rfl

theorem V_v1 (c : Dev nD) : V m c main_v1
    = transpose S2x8x4096 [0, 2, 1] (V m c main_v0) transposes_S2x4096x8_S2x8x4096_0_2_1 := by
  rw [V_v0]
  show StableHlo.after (List.flatten [hostOps0, hostOps0_1, hostOps0_2]) (fun b => m (c, b)) (Proc.devRef .tc main_v1) = _
  simp only [hostOps0, hostOps0_1, hostOps0_2, List.flatten_cons, List.flatten_nil, List.append_nil, List.cons_append,
    List.nil_append]
  after_results
  rfl

theorem inf_word : Ideal.ofBits .f32 0x7F800000#32 = ⊤ := by simp [Ideal.ofBits, Ideal.ieee]

/-- The padded coordinates, read at an index. -/
theorem wide_pad (x : FVec Ideal S2x4096x3 .f32) (b : Fin 2) (n : Fin 4096) (k : Fin 8) :
    pad S2x4096x8 ![0, 0, 0] ![0, 0, 5] ![0, 0, 0] x (sitofp .f32 (constantI S_ 32 0#32) : FVec Ideal S_ .f32)
      pads_S2x4096x3_S2x4096x8_000_000_050 h_S_ (ix3 b n k) = wide x b n k := by
  pointwise [wide]
  by_cases h : k.val < 3
  · rw [dif_pos h, dif_pos h]
  · rw [dif_neg h, dif_neg h]
    exact sitofp_zero (φ := .f32)

theorem wide_v0 (c : Dev nD) (b : Fin 2) (n : Fin 4096) (k : Fin 8) :
    V m c main_v0 (ix3 b n k) = wide (m (c.tc.loc main_arg0)) b n k := by
  rw [V_v0, wide_pad]

theorem wide_v1 (c : Dev nD) (b : Fin 2) (n : Fin 4096) (k : Fin 8) :
    V m c main_v1 (ix3 b k n) = wide (m (c.tc.loc main_arg0)) b n k := by
  rw [V_v1, ← wide_v0]
  pointwise []

/-! ## One row of a tile -/

theorem pick_read (d : FVec Ideal S512x4096 .f32) (r : Fin 512) :
    pick d (ix2 r 0) = Rounds.pick fun j => d (ix2 r j) := by
  pointwise [pick, k0_pay5, k0_pay4, Rounds.pick, Rounds.low]
  rw [inf_word]
  rfl

theorem next_read (d : FVec Ideal S512x4096 .f32) (r : Fin 512) (j : Fin 4096) :
    next d (ix2 r j) = Rounds.next (fun j => d (ix2 r j)) j := by
  unfold Rounds.next
  rw [← pick_read]
  pointwise [next, k0_pay6]
  rw [inf_word, cmpi_eq_eq]
  by_cases h : BitVec.ofNat 32 j.val = pick d (ix2 r 0)
  · simp [h, Scalar.select]
  · simp [h, Scalar.select]

theorem after_read (d : FVec Ideal S512x4096 .f32) (r : Fin 512) (k : Nat) :
    (fun j => after k d (ix2 r j)) = Rounds.rounds (fun j => d (ix2 r j)) k := by
  induction k with
  | zero => rfl
  | succ k ih =>
    show (fun j => next (after k d) (ix2 r j)) = Rounds.next (Rounds.rounds (fun j => d (ix2 r j)) k)
    rw [← ih]
    exact funext fun j => next_read _ r j

/-- The sum of the squares of one point's coordinates. -/
def sq (x : S2x4096x3.Idx → EReal) (b : Fin 2) (n : Fin 4096) : EReal := ∑ k : Fin 3, x (ix3 b n k) * x (ix3 b n k)

/-- The distances of one point to every point. -/
def dist (x : S2x4096x3.Idx → EReal) (b : Fin 2) (n : Fin 4096) : Rounds.Row := fun j =>
  sq x b n + sq x b j - Ideal.ofBits .f32 0x40000000#32 * ∑ k : Fin 3, x (ix3 b n k) * x (ix3 b j k)

/-- Eight columns, five of them zero, sum to the three. -/
theorem sum_wide (x : S2x4096x3.Idx → EReal) (b : Fin 2) (n j : Fin 4096) :
    ∑ k : Fin 8, wide x b n k * wide x b j k = ∑ k : Fin 3, x (ix3 b n k) * x (ix3 b j k) := by
  simp only [Fin.sum_univ_succ, Fin.sum_univ_zero, wide]
  simp

/-- The result. -/
def out (x : S2x4096x3.Idx → EReal) : IVec S2x4096x16 32 := fun j =>
  IntOp.addi (Rounds.pick (Rounds.rounds (dist x (j 0) (j 1)) (j 2).val)) (IntOp.muli (BitVec.ofNat 32 (j 0).val) 4096#32)

/-! ## The kernel's array -/

/-- Where the windows of point `t` start, and the batch it is of. -/
theorem idx0 : ∀ t : Fin cfg0.N, win0_0.index t = ![t.val / 8, t.val % 8, 0] :=
  (by decide +kernel : ∀ t : Fin grid0.N, win0_0.index t = ![t.val / 8, t.val % 8, 0])
theorem idx1 : ∀ t : Fin cfg0.N, win0_1.index t = ![t.val / 8, 0, 0] :=
  (by decide +kernel : ∀ t : Fin grid0.N, win0_1.index t = ![t.val / 8, 0, 0])
theorem idx2 : ∀ t : Fin cfg0.N, win0_2.index t = ![t.val / 8, t.val % 8, 0] :=
  (by decide +kernel : ∀ t : Fin grid0.N, win0_2.index t = ![t.val / 8, t.val % 8, 0])
theorem batch : ∀ t : Fin cfg0.N, (grid0.coords t 0).val = t.val / 8 :=
  (by decide +kernel : ∀ t : Fin grid0.N, (grid0.coords t 0).val = t.val / 8)

/-- The blocks of point `t`: 512 widened points, and all the points of the batch. -/
theorem block0 (c : Dev nD) (t : Fin cfg0.N) (b : Fin 2) (hb : b.val = t.val / 8) (r : Fin 512) (n : Fin 4096)
    (hn : n.val = t.val % 8 * 512 + r.val) (k : Fin 8) :
    (iblk m c 0 t : S1x512x8.Idx → EReal) (ix3 0 r k) = wide (m (c.tc.loc main_arg0)) b n k := by
  rw [← wide_v0]
  show V m c main_v0 ((win0_0.blk t).view.emb (ix3 0 r k)) = _
  refine congrArg (V m c main_v0) (funext fun a => Fin.ext ?_)
  match a with
  | ⟨0, _⟩ => blk_simp [idx0 t]; omega
  | ⟨1, _⟩ => blk_simp [idx0 t]; omega
  | ⟨2, _⟩ => blk_simp [idx0 t]; try omega

theorem block1 (c : Dev nD) (t : Fin cfg0.N) (b : Fin 2) (hb : b.val = t.val / 8) (k : Fin 8) (j : Fin 4096) :
    (iblk m c 1 t : S1x8x4096.Idx → EReal) (ix3 0 k j) = wide (m (c.tc.loc main_arg0)) b j k := by
  rw [← wide_v1]
  show V m c main_v1 ((win0_1.blk t).view.emb (ix3 0 k j)) = _
  refine congrArg (V m c main_v1) (funext fun a => Fin.ext ?_)
  match a with
  | ⟨0, _⟩ => blk_simp [idx1 t]; omega
  | ⟨1, _⟩ => blk_simp [idx1 t]; try omega
  | ⟨2, _⟩ => blk_simp [idx1 t]; try omega

/-- A tile's distances, of blocks that hold the widened coordinates. -/
theorem dist_read (x : S2x4096x3.Idx → EReal) (x0 : Vec Ideal S1x512x8 .f32) (x1 : Vec Ideal S1x8x4096 .f32)
    (b : Fin 2) (n : Fin 4096) (r : Fin 512) (h0 : ∀ k, x0 (ix3 0 r k) = wide x b n k)
    (h1 : ∀ k j, x1 (ix3 0 k j) = wide x b j k) (j : Fin 4096) : k0_pay10 x0 x1 (ix2 r j) = dist x b n j := by
  pointwise [k0_pay10, dist, sq]
  simp only [h0, h1, sum_wide]

/-- The kernel's array after the last tile. -/
theorem final (c : Dev nD) : (dats m 0 c).arrAt 2 cfg0.N = out (m (c.tc.loc main_arg0)) := by
  refine (dats m 0 c).arrAt_eq_of_covers 2 _ (by decide +kernel) fun t hf y => ?_
  blk_simp
  rw [after0_2, out_eq _ _ _ _ rfl]; frame_out
  pointwise [k0_pay9]
  generalize hJ : ((View.whole main_v2).slice (win0_2.rect t)).emb y = J
  have J0 : (J 0).val = t.val / 8 := by subst hJ; blk_simp [idx2 t]
  have J1 : (J 1).val = t.val % 8 * 512 + (y 1).val := by subst hJ; blk_simp [idx2 t]
  have J2 : (J 2).val = (y 2).val := by subst hJ; blk_simp [idx2 t]
  have hd : (fun j => k0_pay10 (F := Ideal) (iblk m c 0 t) (iblk m c 1 t) (ix2 (y 1) j)) = dist (m (c.tc.loc main_arg0)) (J 0) (J 1) :=
    funext fun j => dist_read _ _ _ (J 0) (J 1) (y 1) (block0 m c t (J 0) J0 (y 1) (J 1) J1) (block1 m c t (J 0) J0) j
  generalize k0_pay10 (F := Ideal) (iblk m c 0 t) (iblk m c 1 t) = d at hd ⊢
  have hc := col_read (fun k => pick (after k.val d)) (k0_pay4 (iota .tc S512x4096 32 [1] iota_S512x4096_d1_w32) (after 15 d)) rfl
    (y 1) (y 2)
  refine congrArg₂ IntOp.addi (hc.trans ?_) ?_
  · refine (pick_read _ _).trans (congrArg Rounds.pick ((after_read d _ _).trans ?_))
    rw [J2]
    exact congrArg (Rounds.rounds · _) hd
  · rw [batch t, J0]
    rfl

/-! ## The reference -/

section Reference

open Cert.NearestRefIdeal.Read

/-- The places of the sixteen greatest, as the stable sort of the row leaves them. -/
theorem top_read (x : Cert.NearestRefIdeal.S2x4096x4096.Idx → EReal) (b : Fin 2) (n : Fin 4096) (r : Fin 16) :
    (Host.topK Cert.NearestRefIdeal.S2x4096x16 2 (FloatOps.cmpfTotal (F := Ideal) (φ := .f32) .gt) x
      Cert.NearestRefIdeal.Gen.sliceFits_S2x4096x4096_S2x4096x16).2 (ix3 b n r)
    = BitVec.ofNat 32 (sortedFrom (fun k k' => decide (x (ix3 b n k') < x (ix3 b n k))) (r.castLE (by decide) : Fin 4096)).val := by
  have ea : ∀ (q : Fin 4096) (k : Fin 4096),
      Shape.Idx.along (s := Cert.NearestRefIdeal.S2x4096x4096) (ix3 b n q) (2 : Fin 3) k = ix3 b n k := fun q k => by
    funext a
    match a with
    | ⟨0, _⟩ => rfl
    | ⟨1, _⟩ => rfl
    | ⟨2, _⟩ => rfl
  have ec : ∀ k k' : Fin 4096, (FloatOps.cmpfTotal (F := Ideal) (φ := .f32) .gt (x (ix3 b n k)) (x (ix3 b n k')) == 1#1)
      = decide (x (ix3 b n k') < x (ix3 b n k)) := fun k k' => by
    have hb : ∀ p : Bool, (BitVec.ofBool p == 1#1) = p := by decide
    exact hb _
  pointwise [Host.topK, Host.sort2]
  simp only [ea, ec]
  rfl

/-- The reference's distances. -/
theorem ref_dist (x : S2x4096x3.Idx → EReal) (b : Fin 2) (n j : Fin 4096) :
    val_main_v10 (F := Ideal) x (ix3 b n j) = dist x b n j := by
  simp only [val_main_v10_apply, val_main_v6_apply, val_main_v4_apply, val_main_v5_apply, val_main_v3_apply,
    val_main_v2_apply, val_main_v1_apply, val_main_v0_apply, val_main_v9_apply, val_main_v8_apply, val_main_v7_apply]
  have e0 : ∀ k : Fin 3, idx_main_v1 (idx_main_v2 (idx_main_v4 (ix3 b n j))) k = ix3 b n k := fun k => by
    funext a; fin_cases a <;> rfl
  have e1 : ∀ k : Fin 3, idx_main_v1 (idx_main_v3 (idx_main_v5 (ix3 b n j))) k = ix3 b j k := fun k => by
    funext a; fin_cases a <;> rfl
  have e2 : ∀ k : Fin 3, lidx_main_v7 (ix3 b n j) k = ix3 b n k := fun k => by funext a; fin_cases a <;> rfl
  have e3 : ∀ k : Fin 3, ridx_main_v7 (ix3 b n j) k = ix3 b j k := fun k => by funext a; fin_cases a <;> rfl
  have ez : ∀ i, val_main_cst (F := Ideal) i = (0 : EReal) := fun i => by
    show Ideal.ofBits .f32 0x00000000#32 = 0
    simp [Ideal.ofBits, Ideal.ieee]
  simp only [e0, e1, e2, e3, ez, zero_add]
  rfl

end Reference

/-- Coordinates the precondition takes are neither +∞ nor −∞. -/
theorem finite_of_pre (x : S2x4096x3.Idx → EReal)
    (h : Cert.Pre_finite_coords.fn (F := Ideal) x = fun _ => 1#1) (i : S2x4096x3.Idx) : x i ≠ ⊤ ∧ x i ≠ ⊥ := by
  have e := congrFun h i
  have e' : BitVec.ofBool (decide (max (x i) (-(x i)) < Ideal.ofBits .f32 0x7F800000#32)) = 1#1 := e
  rw [inf_word] at e'
  have hb : ∀ p : Bool, BitVec.ofBool p = 1#1 → p = true := by decide
  have l := of_decide_eq_true (hb _ e')
  rw [max_lt_iff] at l
  refine ⟨l.1.ne, fun hc => ?_⟩
  rw [hc] at l
  simp at l

theorem two_word : Ideal.ofBits .f32 0x40000000#32 = ((2 : ℝ) : EReal) := by
  simp [Ideal.ofBits, Ideal.ieee]
  exact_mod_cast (by norm_num : (8388608 : ℝ) * (2 ^ 22)⁻¹ = 2)

/-- Distances of finite coordinates are below +∞. -/
theorem dist_lt (x : S2x4096x3.Idx → EReal) (h : ∀ i, x i ≠ ⊤ ∧ x i ≠ ⊥) (b : Fin 2) (n j : Fin 4096) : dist x b n j < ⊤ := by
  have e : x = fun i => ((x i).toReal : EReal) := funext fun i => (EReal.coe_toReal (h i).1 (h i).2).symm
  rw [e]
  generalize (fun i => (x i).toReal) = y
  unfold dist sq
  rw [two_word]
  simp only [Fin.sum_univ_three, ← EReal.coe_mul, ← EReal.coe_add, ← EReal.coe_sub]
  exact EReal.coe_lt_top _

/-- On finite coordinates the reference ends with the rounds' picks. -/
theorem ref_out (x : S2x4096x3.Idx → EReal) (h : ∀ i, x i ≠ ⊤ ∧ x i ≠ ⊥) :
    Cert.NearestRefIdeal.Read.val_main_v17 (F := Ideal) x = out x := by
  funext j
  obtain ⟨b, n, r, rfl⟩ : ∃ (b : Fin 2) (n : Fin 4096) (r : Fin 16), j = ix3 b n r :=
    ⟨j 0, j 1, j 2, by funext a; fin_cases a <;> rfl⟩
  have hi : Cert.NearestRefIdeal.Read.val_main_indices (F := Ideal) x (ix3 b n r) = Rounds.pick (Rounds.rounds (dist x b n) r.val) := by
    refine (top_read _ b n r).trans ?_
    rw [(Rounds.place_spec (dist x b n) (dist_lt x h b n) r.val (by omega)).1, ← Rounds.sorted_place _ (dist_lt x h b n) r]
    have e : ∀ k k' : Fin 4096, decide (Cert.NearestRefIdeal.Read.val_main_v11 (F := Ideal) x (ix3 b n k') < Cert.NearestRefIdeal.Read.val_main_v11 (F := Ideal) x (ix3 b n k))
        = decide (dist x b n k < dist x b n k') := fun k k' => by
      have v : ∀ k, Cert.NearestRefIdeal.Read.val_main_v11 (F := Ideal) x (ix3 b n k) = -(dist x b n k) := fun k => by
        rw [← ref_dist]; rfl
      rw [v, v]
      exact decide_eq_decide.2 EReal.neg_lt_neg_iff
    simp only [e]
  rw [Cert.NearestRefIdeal.Read.val_main_v17_apply, hi]
  refine congrArg (IntOp.addi _) ?_
  simp only [Cert.NearestRefIdeal.Read.val_main_v16_apply, Cert.NearestRefIdeal.Read.val_main_v15_apply, Cert.NearestRefIdeal.Read.val_main_v14_apply,
    Cert.NearestRefIdeal.Read.val_main_v13_apply, Cert.NearestRefIdeal.Read.val_main_v12_apply, Cert.NearestRefIdeal.Read.val_main_c_apply]
  exact BitVec.mul_comm _ _

/-- On finite coordinates the two programs end with one array. -/
theorem equal : Cert.algebraic_NearestIdeal_NearestRefIdeal_pre_finite_coords := by
  intro m g m' g' hpre hagree
  refine ⟨fun c => out (m (c.tc.loc main_arg0)), ?_, ?_⟩
  · exact (θ_run _ _ _).mono (fun _ h c => ⟨(h c).1.trans (final m c), (h c).2⟩) (Value.run_blocks m g)
  · refine (θ_run _ _ _).mono (fun _ h c => ⟨(h c).1.trans ?_, (h c).2⟩) (Cert.NearestRefIdeal.Value.run (F := Ideal) m' g')
    rw [hagree c]
    exact (Cert.NearestRefIdeal.Read.val_main_v17_eq _).trans (ref_out _ (finite_of_pre _ (hpre c)))

/-- The reference runs, keeps its arguments and ends with its counters at zero. -/
theorem frame_reference : Cert.quiescent_NearestRefIdeal := fun m ρ _ =>
  (θ_run Cert.NearestRefIdeal.defs _ _).mono (fun r h => ⟨fun c => (h c).2, sem_eq_zero_of_no_sems (by decide) r.2⟩)
    (Cert.NearestRefIdeal.Value.run (F := Ideal) m ρ)

end Cert.Proof.Nearest

end
-- ==== Proof.After.Norm.lean ====
/-
  The normalisation of real values, in its two forms: centred by the mean and divided by the root of the mean of the squared
  centred values (plus a small positive constant), and centred and scaled by what the sum and the sum of the squares give.
-/
module

public import proofs.«01_k».proof.Proof.Grid

@[expose] public section

noncomputable section

namespace Cert.Proof.Grid

open Idealize.ShloMosaic Idealize.ShloMosaic.ValueIdx
open scoped BigOperators

/-! ## Real values -/

/-- A value that is a real number. -/
def IsReal (x : EReal) : Prop := ∃ r : ℝ, x = (r : EReal)

theorem isReal_of_ne {x : EReal} (h : x ≠ ⊤ ∧ x ≠ ⊥) : IsReal x := ⟨x.toReal, (EReal.coe_toReal h.1 h.2).symm⟩

theorem IsReal.ne {x : EReal} (h : IsReal x) : x ≠ ⊤ ∧ x ≠ ⊥ := by
  obtain ⟨r, rfl⟩ := h
  exact ⟨EReal.coe_ne_top r, EReal.coe_ne_bot r⟩

theorem isReal_zero : IsReal 0 := ⟨0, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sup {x y : EReal} (hx : IsReal x) (hy : IsReal y) : IsReal (max x y) := by
  rcases max_choice x y with h | h <;> rw [h] <;> assumption

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type*} (s : Finset ι) {f : ι → EReal} (h : ∀ i, IsReal (f i)) : IsReal (∑ i ∈ s, f i) := by
  choose g hg using h
  exact ⟨∑ i ∈ s, g i, by rw [coe_sum]; exact Finset.sum_congr rfl fun i _ => hg i⟩

/-- A greatest of sixteen real values, from minus infinity. -/
theorem IsReal.fold_max {f : Fin 16 → EReal} (h : ∀ k, IsReal (f k)) : IsReal (Finset.univ.fold max ⊥ f) := by
  refine isReal_of_ne ⟨?_, ?_⟩
  · exact ne_of_lt ((Finset.fold_max_lt ⊤).mpr ⟨bot_lt_top, fun k _ => lt_top_iff_ne_top.mpr (h k).ne.1⟩)
  · exact ne_of_gt ((Finset.lt_fold_max ⊥).mpr (Or.inr ⟨0, Finset.mem_univ _, bot_lt_iff_ne_bot.mpr (h 0).ne.2⟩))

/-- A quotient of real exponentials, by the sum of sixteen of them. -/
theorem IsReal.div_sum_exp {f : Fin 16 → EReal} (h : ∀ k, IsReal (f k)) (k : Fin 16) :
    IsReal (Ideal.div (Ideal.exp (f k)) (∑ k, Ideal.exp (f k))) := by
  choose g hg using h
  have e : ∀ k, Ideal.exp (f k) = ((Real.exp (g k) : ℝ) : EReal) := fun k => by rw [hg k]; rfl
  simp only [e]
  rw [← coe_sum, Ideal.div_coe (Finset.sum_pos (fun k _ => Real.exp_pos (g k)) ⟨0, Finset.mem_univ _⟩).ne', ← EReal.coe_mul]
  exact ⟨_, rfl⟩

/-! ## The two forms -/

/-- The small constant. -/
theorem word_eps : ∃ r : ℝ, 0 < r ∧ Ideal.ofBits .f32 0x3727C5AC#32 = (r : EReal) := by
  refine ⟨10995116 * (2 ^ 40)⁻¹, by norm_num, ?_⟩
  simp [Ideal.ofBits, Ideal.ieee, -EReal.coe_mul]

/-- The mean of the squared centred values is the mean of the squares less the square of the mean. -/
theorem mean_sq {ι : Type*} [Fintype ι] (f : ι → ℝ) (κ : ℝ) (hκ : (Fintype.card ι : ℝ) * κ = 1) :
    (∑ i, (f i - (∑ i, f i) * κ) * (f i - (∑ i, f i) * κ)) * κ
      = (∑ i, f i * f i) * κ - (∑ i, f i) * κ * ((∑ i, f i) * κ) := by
  have h : ∀ i, (f i - (∑ i, f i) * κ) * (f i - (∑ i, f i) * κ)
      = f i * f i - f i * (2 * ((∑ i, f i) * κ)) + (∑ i, f i) * κ * ((∑ i, f i) * κ) := fun i => by ring
  simp only [h]
  rw [Finset.sum_add_distrib, Finset.sum_sub_distrib, ← Finset.sum_mul, Finset.sum_const, Finset.card_univ, nsmul_eq_mul]
  generalize (∑ i, f i) = s
  generalize (∑ i, f i * f i) = q
  have : (q - s * (2 * (s * κ)) + (Fintype.card ι : ℝ) * (s * κ * (s * κ))) * κ
      = q * κ - s * κ * (s * κ) * 2 + (Fintype.card ι : ℝ) * κ * (s * κ * (s * κ)) := by ring
  rw [this, hκ]
  ring

/-- Dividing by the root of the mean squared distance from the mean, at one value. -/
def centred {ι : Type*} [Fintype ι] (κ : EReal) (f : ι → EReal) (i : ι) : EReal :=
  Ideal.div (f i - (∑ i, f i) * κ)
    (Ideal.sqrt ((∑ i, (f i - (∑ i, f i) * κ) * (f i - (∑ i, f i) * κ)) * κ + Ideal.ofBits .f32 0x3727C5AC#32))

/-- On real values the two forms agree, and are real. -/
theorem centred_eq {ι : Type*} [Fintype ι] (κ : EReal) (r : ℝ) (hr : κ = (r : EReal)) (h0 : 0 ≤ r)
    (hκ : (Fintype.card ι : ℝ) * r = 1) (f : ι → EReal) (hf : ∀ i, IsReal (f i)) (i : ι) :
    centred κ f i = norm κ (f i) (∑ i, f i) (∑ i, f i * f i) ∧ IsReal (centred κ f i) := by
  choose g hg using hf
  obtain rfl : f = fun i => (g i : EReal) := funext hg
  obtain ⟨e, he, hw⟩ := word_eps
  have hv := mean_sq g r hκ
  have hp : 0 ≤ (∑ i, (g i - (∑ i, g i) * r) * (g i - (∑ i, g i) * r)) * r :=
    mul_nonneg (Finset.sum_nonneg fun i _ => mul_self_nonneg _) h0
  unfold centred norm
  rw [hr, hw]
  simp only [← EReal.coe_mul, ← coe_sum, ← EReal.coe_sub, ← EReal.coe_add]
  rw [← hv]
  generalize (∑ i, (g i - (∑ i, g i) * r) * (g i - (∑ i, g i) * r)) * r = v at hp
  have hs : Ideal.sqrt ((v + e : ℝ) : EReal) = ((Real.sqrt (v + e) : ℝ) : EReal) := if_neg (by linarith)
  have hq : Ideal.rsqrt ((v + e : ℝ) : EReal) = ((1 / Real.sqrt (v + e) : ℝ) : EReal) := by
    show (if v + e < 0 then (⊥ : EReal) else if v + e = 0 then ⊤ else (((Real.sqrt (v + e))⁻¹ : ℝ) : EReal)) = _
    rw [if_neg (by linarith), if_neg (by linarith), one_div]
  rw [hs, hq, Ideal.div_coe (Real.sqrt_pos.mpr (by linarith)).ne']
  exact ⟨rfl, _, (EReal.coe_mul _ _).symm⟩

end Cert.Proof.Grid

end
-- ==== Proof.After.Finite.lean ====
/-
  What the precondition says: every entry of every argument but the first is a real number.
-/
module

public import proofs.«01_k».proof.Defs
public import proofs.«01_k».proof.Proof.After.Norm
public import proofs.«01_k».proof.Proof.Gen.Pre_finite_after
public import Idealize.ShloMosaic.Lib.ReduceAll

@[expose] public section

noncomputable section

namespace Cert.Proof.After

open Idealize.ShloMosaic Cert.Pre_finite_after

instance : Subsingleton S_.Idx := ⟨fun a b => funext fun i => i.elim0⟩

theorem inf_word : Ideal.ofBits .f32 0x7F800000#32 = ⊤ := by simp [Ideal.ofBits, Ideal.ieee]

/-- A value whose magnitude compares below infinity is a real number. -/
theorem real_of_lt (x : EReal) (h : BitVec.ofBool (decide (max x (-x) < Ideal.ofBits .f32 0x7F800000#32)) = 1#1) : Grid.IsReal x := by
  rw [inf_word] at h
  have hb : ∀ p : Bool, BitVec.ofBool p = 1#1 → p = true := by decide
  have l := of_decide_eq_true (hb _ h)
  rw [max_lt_iff] at l
  refine Grid.isReal_of_ne ⟨l.1.ne, fun hc => ?_⟩
  rw [hc] at l
  simp at l

theorem real_of_pre (x0 : S8192x128.Idx → EReal) (x1 : S8192x128.Idx → EReal) (x2 : S131072x128.Idx → EReal) (x3 : S8192x128.Idx → EReal) (x4 : S131072x128.Idx → EReal) (x5 : S131072x128.Idx → EReal) (x6 : S128x128.Idx → EReal) (x7 : S128x128.Idx → EReal) (x8 : S128x128.Idx → EReal) (x9 : S128x128.Idx → EReal) (x10 : S128.Idx → EReal)
    (h : fn (F := Ideal) x0 x1 x2 x3 x4 x5 x6 x7 x8 x9 x10 = fun _ => 1#1) :
    (∀ i, Grid.IsReal (x1 i)) ∧ (∀ i, Grid.IsReal (x2 i)) ∧ (∀ i, Grid.IsReal (x3 i)) ∧ (∀ i, Grid.IsReal (x4 i)) ∧ (∀ i, Grid.IsReal (x5 i)) ∧ (∀ i, Grid.IsReal (x6 i)) ∧ (∀ i, Grid.IsReal (x7 i)) ∧ (∀ i, Grid.IsReal (x8 i)) ∧ (∀ i, Grid.IsReal (x9 i)) ∧ (∀ i, Grid.IsReal (x10 i)) := by
  have e := congrFun h (fun i => i.elim0)
  obtain ⟨a10, e⟩ := IntOp.andi_eq_one.1 e
  obtain ⟨a9, e⟩ := IntOp.andi_eq_one.1 e
  obtain ⟨a8, e⟩ := IntOp.andi_eq_one.1 e
  obtain ⟨a7, e⟩ := IntOp.andi_eq_one.1 e
  obtain ⟨a6, e⟩ := IntOp.andi_eq_one.1 e
  obtain ⟨a5, e⟩ := IntOp.andi_eq_one.1 e
  obtain ⟨a4, e⟩ := IntOp.andi_eq_one.1 e
  obtain ⟨a3, e⟩ := IntOp.andi_eq_one.1 e
  obtain ⟨a2, e⟩ := IntOp.andi_eq_one.1 e
  obtain ⟨a1, e⟩ := IntOp.andi_eq_one.1 e
  exact ⟨fun i => real_of_lt _ (Host.reduce_andi_all _ _ _ _ _ a1 i), fun i => real_of_lt _ (Host.reduce_andi_all _ _ _ _ _ a2 i), fun i => real_of_lt _ (Host.reduce_andi_all _ _ _ _ _ a3 i), fun i => real_of_lt _ (Host.reduce_andi_all _ _ _ _ _ a4 i), fun i => real_of_lt _ (Host.reduce_andi_all _ _ _ _ _ a5 i), fun i => real_of_lt _ (Host.reduce_andi_all _ _ _ _ _ a6 i), fun i => real_of_lt _ (Host.reduce_andi_all _ _ _ _ _ a7 i), fun i => real_of_lt _ (Host.reduce_andi_all _ _ _ _ _ a8 i), fun i => real_of_lt _ (Host.reduce_andi_all _ _ _ _ _ a9 i), fun i => real_of_lt _ (Host.reduce_andi_all _ _ _ _ _ a10 i)⟩

end Cert.Proof.After

end
-- ==== Proof.After.Reference.lean ====
/-
  What follows the gathers, in sequence: the arrays the calls leave one after the other, and the reference's result, which on
  real arguments is the last of them.
-/
module

public import proofs.«01_k».proof.Proof.After.Norm
public import proofs.«01_k».proof.Proof.PosSums
public import proofs.«01_k».proof.Proof.Pos
public import proofs.«01_k».proof.Proof.AttnIn
public import proofs.«01_k».proof.Proof.Gamma
public import proofs.«01_k».proof.Proof.Attention
public import proofs.«01_k».proof.Proof.Residual
public import proofs.«01_k».proof.Proof.Gen.AfterRefIdeal.Read
public import Idealize.ShloMosaic.Lib.Pipeline.ValueKit.Point

@[expose] public section

noncomputable section

namespace Cert.Proof.After

open Idealize.ShloMosaic Idealize.ShloMosaic.TcCoe Idealize.SL.Sem
open Cert.AfterRefIdeal Cert.AfterRefIdeal.Gen Cert.AfterRefIdeal.Read
open Cert.Proof.Grid (IsReal centred norm)
open scoped BigOperators

/-! ## The normalisation the reference writes -/

/-- The words of the two reciprocal counts. -/
abbrev perNbr : EReal := Ideal.ofBits .f32 0x37000000#32
abbrev perRow : EReal := Ideal.ofBits .f32 0x39000000#32

/-- Over rows and neighbours: the row of means. -/
def mean (f : FVec Ideal S8192x16x128 .f32) : FVec Ideal S1x1x128 .f32 :=
  Host.divf (broadcastInDim S1x1x128 ![2] bcast_S128_S1x1x128_2
      (Host.reduceAdd f (constant S_ .f32 0x00000000#32) reducesTo_S8192x16x128_S128_d0_1 h_S_))
    (broadcastInDim S1x1x128 ![] bcast_S_S1x1x128 (constant S_ .f32 0x48000000#32))
/-- The values less their means. -/
def off (f : FVec Ideal S8192x16x128 .f32) : FVec Ideal S8192x16x128 .f32 :=
  subf f (broadcastInDim S8192x16x128 ![0, 1, 2] bcast_S1x1x128_S8192x16x128_0_1_2 (mean f))
/-- The count the variance divides by. -/
def count : FVec Ideal S_ .f32 := subf (constant S_ .f32 0x48000000#32) (sitofp .f32 (constantI S_ 32 0#32))
/-- The row of variances. -/
def var (f : FVec Ideal S8192x16x128 .f32) : FVec Ideal S1x1x128 .f32 :=
  select (broadcastInDim S1x1x128 ![] bcast_S_S1x1x128 (cmpf .ogt count (constant S_ .f32 0x00000000#32)))
    (Host.divf (broadcastInDim S1x1x128 ![2] bcast_S128_S1x1x128_2
        (Host.reduceAdd (mulf (off f) (off f)) (constant S_ .f32 0x00000000#32) reducesTo_S8192x16x128_S128_d0_1 h_S_))
      (broadcastInDim S1x1x128 ![] bcast_S_S1x1x128 count))
    (broadcastInDim S1x1x128 ![] bcast_S_S1x1x128 (id (constant S_ .f32 0x7FC00000#32)))
/-- The normalised values. -/
def bn (f : FVec Ideal S8192x16x128 .f32) : FVec Ideal S8192x16x128 .f32 :=
  Host.divf (off f) (broadcastInDim S8192x16x128 ![0, 1, 2] bcast_S1x1x128_S8192x16x128_0_1_2
    (Host.sqrt (addf (var f) (broadcastInDim S1x1x128 ![] bcast_S_S1x1x128 (constant S_ .f32 0x3727C5AC#32)))))

theorem word_zero : Ideal.ofBits .f32 0x00000000#32 = 0 := by
  simp [Ideal.ofBits, Ideal.ieee]

theorem mean_apply (f : FVec Ideal S8192x16x128 .f32) (a b : Fin 1) (h : Fin 128) :
    mean f (ix3 a b h) = (∑ n : Fin 8192, ∑ k : Fin 16, f (ix3 n k h) : EReal) * perNbr := by
  have e : mean f (ix3 a b h) = Ideal.div (Ideal.hostReduceAdd reducesTo_S8192x16x128_S128_d0_1 f (Ideal.ofBits .f32 0x00000000#32) (ix1 h))
      (Ideal.ofBits .f32 0x48000000#32) := by
    pointwise [mean]
  rw [e, Grid.host_sum_two, Grid.div_nbrs, word_zero, zero_add]
  rfl

theorem off_apply (f : FVec Ideal S8192x16x128 .f32) (n : Fin 8192) (k : Fin 16) (h : Fin 128) :
    off f (ix3 n k h) = (f (ix3 n k h) - (∑ n : Fin 8192, ∑ k : Fin 16, f (ix3 n k h)) * perNbr : EReal) := by
  rw [← mean_apply f 0 0 h]
  pointwise [off]

theorem count_apply (i : S_.Idx) : count i = Ideal.ofBits .f32 0x48000000#32 := by
  have e : count i = Ideal.ofBits .f32 0x48000000#32 - (((0#32 : BitVec 32).toInt : ℝ) : EReal) := rfl
  rw [e]
  simp

theorem count_pos (i : S_.Idx) : cmpf .ogt count (constant (F := Ideal) S_ .f32 0x00000000#32) i = 1#1 := by
  have e : cmpf .ogt count (constant (F := Ideal) S_ .f32 0x00000000#32) i
      = BitVec.ofBool (decide (Ideal.ofBits .f32 0x00000000#32 < count i)) := rfl
  rw [e, count_apply, word_zero, Grid.word_nbrs, decide_eq_true (by exact_mod_cast (by norm_num : (0 : ℝ) < 131072))]
  rfl

theorem var_apply (f : FVec Ideal S8192x16x128 .f32) (a b : Fin 1) (h : Fin 128) :
    var f (ix3 a b h) = (∑ n : Fin 8192, ∑ k : Fin 16, off f (ix3 n k h) * off f (ix3 n k h) : EReal) * perNbr := by
  unfold var
  show Scalar.select (broadcastInDim S1x1x128 ![] bcast_S_S1x1x128 (cmpf .ogt count (constant (F := Ideal) S_ .f32 0x00000000#32)) (ix3 a b h)) _ _ = _
  rw [show broadcastInDim S1x1x128 ![] bcast_S_S1x1x128 (cmpf .ogt count (constant (F := Ideal) S_ .f32 0x00000000#32)) (ix3 a b h) = 1#1 from count_pos _]
  refine (if_pos rfl).trans ?_
  have e : Host.divf (broadcastInDim S1x1x128 ![2] bcast_S128_S1x1x128_2
        (Host.reduceAdd (mulf (off f) (off f)) (constant S_ .f32 0x00000000#32) reducesTo_S8192x16x128_S128_d0_1 h_S_))
      (broadcastInDim S1x1x128 ![] bcast_S_S1x1x128 count) (ix3 a b h)
      = Ideal.div (Ideal.hostReduceAdd reducesTo_S8192x16x128_S128_d0_1 (mulf (off f) (off f)) (Ideal.ofBits .f32 0x00000000#32) (ix1 h))
      (count (fun a => a.elim0)) := by
    pointwise [off]
    rfl
  rw [e, count_apply, Grid.host_sum_two, Grid.div_nbrs, word_zero, zero_add]
  rfl

theorem bn_apply (f : FVec Ideal S8192x16x128 .f32) (n : Fin 8192) (k : Fin 16) (h : Fin 128) :
    bn f (ix3 n k h) = centred perNbr (fun p : Fin 8192 × Fin 16 => f (ix3 p.1 p.2 h)) (n, k) := by
  have e : bn f (ix3 n k h) = Ideal.div (off f (ix3 n k h)) (Ideal.sqrt (var f (ix3 0 0 h) + Ideal.ofBits .f32 0x3727C5AC#32)) := by
    pointwise [bn]
  unfold centred
  rw [e, var_apply]
  simp only [off_apply]
  rw [Fintype.sum_prod_type, Fintype.sum_prod_type]

/-- Over rows: the row of means. -/
def meanR (f : FVec Ideal S8192x128 .f32) : FVec Ideal S1x128 .f32 :=
  Host.divf (broadcastInDim S1x128 ![1] bcast_S128_S1x128_1
      (Host.reduceAdd f (constant S_ .f32 0x00000000#32) reducesTo_S8192x128_S128_d0 h_S_))
    (broadcastInDim S1x128 ![] bcast_S_S1x128 (constant S_ .f32 0x46000000#32))
/-- The values less their means. -/
def offR (f : FVec Ideal S8192x128 .f32) : FVec Ideal S8192x128 .f32 :=
  subf f (broadcastInDim S8192x128 ![0, 1] bcast_S1x128_S8192x128_0_1 (meanR f))
/-- The count the variance divides by. -/
def countR : FVec Ideal S_ .f32 := subf (constant S_ .f32 0x46000000#32) (sitofp .f32 (constantI S_ 32 0#32))
/-- The row of variances. -/
def varR (f : FVec Ideal S8192x128 .f32) : FVec Ideal S1x128 .f32 :=
  select (broadcastInDim S1x128 ![] bcast_S_S1x128 (cmpf .ogt countR (constant S_ .f32 0x00000000#32)))
    (Host.divf (broadcastInDim S1x128 ![1] bcast_S128_S1x128_1
        (Host.reduceAdd (mulf (offR f) (offR f)) (constant S_ .f32 0x00000000#32) reducesTo_S8192x128_S128_d0 h_S_))
      (broadcastInDim S1x128 ![] bcast_S_S1x128 countR))
    (broadcastInDim S1x128 ![] bcast_S_S1x128 (id (constant S_ .f32 0x7FC00000#32)))
/-- The normalised values. -/
def bnR (f : FVec Ideal S8192x128 .f32) : FVec Ideal S8192x128 .f32 :=
  Host.divf (offR f) (broadcastInDim S8192x128 ![0, 1] bcast_S1x128_S8192x128_0_1
    (Host.sqrt (addf (varR f) (broadcastInDim S1x128 ![] bcast_S_S1x128 (constant S_ .f32 0x3727C5AC#32)))))

theorem meanR_apply (f : FVec Ideal S8192x128 .f32) (a : Fin 1) (h : Fin 128) :
    meanR f (ix2 a h) = (∑ n : Fin 8192, f (ix2 n h) : EReal) * perRow := by
  pointwise [meanR]
  rw [Grid.div_rows]

theorem offR_apply (f : FVec Ideal S8192x128 .f32) (n : Fin 8192) (h : Fin 128) :
    offR f (ix2 n h) = (f (ix2 n h) - (∑ n : Fin 8192, f (ix2 n h)) * perRow : EReal) := by
  rw [← meanR_apply f 0 h]
  pointwise [offR]

theorem countR_apply (i : S_.Idx) : countR i = Ideal.ofBits .f32 0x46000000#32 := by
  have e : countR i = Ideal.ofBits .f32 0x46000000#32 - (((0#32 : BitVec 32).toInt : ℝ) : EReal) := rfl
  rw [e]
  simp

theorem countR_pos (i : S_.Idx) : cmpf .ogt countR (constant (F := Ideal) S_ .f32 0x00000000#32) i = 1#1 := by
  have e : cmpf .ogt countR (constant (F := Ideal) S_ .f32 0x00000000#32) i
      = BitVec.ofBool (decide (Ideal.ofBits .f32 0x00000000#32 < countR i)) := rfl
  rw [e, countR_apply, word_zero, Grid.word_rows, decide_eq_true (by exact_mod_cast (by norm_num : (0 : ℝ) < 8192))]
  rfl

theorem varR_apply (f : FVec Ideal S8192x128 .f32) (a : Fin 1) (h : Fin 128) :
    varR f (ix2 a h) = (∑ n : Fin 8192, offR f (ix2 n h) * offR f (ix2 n h) : EReal) * perRow := by
  unfold varR
  show Scalar.select (broadcastInDim S1x128 ![] bcast_S_S1x128 (cmpf .ogt countR (constant (F := Ideal) S_ .f32 0x00000000#32)) (ix2 a h)) _ _ = _
  rw [show broadcastInDim S1x128 ![] bcast_S_S1x128 (cmpf .ogt countR (constant (F := Ideal) S_ .f32 0x00000000#32)) (ix2 a h) = 1#1 from countR_pos _]
  refine (if_pos rfl).trans ?_
  have e : Host.divf (broadcastInDim S1x128 ![1] bcast_S128_S1x128_1
        (Host.reduceAdd (mulf (offR f) (offR f)) (constant S_ .f32 0x00000000#32) reducesTo_S8192x128_S128_d0 h_S_))
      (broadcastInDim S1x128 ![] bcast_S_S1x128 countR) (ix2 a h)
      = Ideal.div (∑ n : Fin 8192, offR f (ix2 n h) * offR f (ix2 n h)) (countR (fun a => a.elim0)) := by
    pointwise
    rfl
  rw [e, countR_apply, Grid.div_rows]

theorem bnR_apply (f : FVec Ideal S8192x128 .f32) (n : Fin 8192) (h : Fin 128) :
    bnR f (ix2 n h) = centred perRow (fun n : Fin 8192 => f (ix2 n h)) n := by
  have e : bnR f (ix2 n h) = Ideal.div (offR f (ix2 n h)) (Ideal.sqrt (varR f (ix2 0 h) + Ideal.ofBits .f32 0x3727C5AC#32)) := by
    pointwise [bnR]
  unfold centred
  rw [e, varR_apply]
  simp only [offR_apply]

/-- On real values the reference's normalisation is the kernel's, and real. -/
theorem norm_nbrs (f : Fin 8192 → Fin 16 → EReal) (hf : ∀ n k, IsReal (f n k)) (n : Fin 8192) (k : Fin 16) :
    centred perNbr (fun p : Fin 8192 × Fin 16 => f p.1 p.2) (n, k)
        = norm perNbr (f n k) (∑ n, ∑ k, f n k) (∑ n, ∑ k, f n k * f n k)
      ∧ IsReal (norm perNbr (f n k) (∑ n, ∑ k, f n k) (∑ n, ∑ k, f n k * f n k)) := by
  have h := Grid.centred_eq perNbr (1 / 131072) Grid.word_per_nbr (by norm_num) (by simp) (fun p : Fin 8192 × Fin 16 => f p.1 p.2)
    (fun p => hf p.1 p.2) (n, k)
  rw [Fintype.sum_prod_type, Fintype.sum_prod_type] at h
  exact ⟨h.1, h.1 ▸ h.2⟩

theorem norm_rows (f : Fin 8192 → EReal) (hf : ∀ n, IsReal (f n)) (n : Fin 8192) :
    centred perRow f n = norm perRow (f n) (∑ n, f n) (∑ n, f n * f n) :=
  (Grid.centred_eq perRow (1 / 8192) Grid.word_per_row (by norm_num) (by simp) f hf n).1

/-! ## The arrays the calls leave, of the arguments -/

section Chain

variable (x phi q : S8192x128.Idx → EReal) (py qy ay : S8192x16x128.Idx → EReal) (wd wg1 wg2 wdn : S128x128.Idx → EReal)
  (b : S1x128.Idx → EReal)

/-- The positional products, and their sums. -/
def t2 : S8192x16x128.Idx → EReal := Pos.res0 q qy (PosSums.res0 q qy) (PosSums.res1 q qy) wd
def t2s : S1x128.Idx → EReal := Pos.res1 q qy (PosSums.res0 q qy) (PosSums.res1 q qy) wd
def t2q : S1x128.Idx → EReal := Pos.res2 q qy (PosSums.res0 q qy) (PosSums.res1 q qy) wd
/-- The first attention products, and their sums. -/
def t3 : S8192x16x128.Idx → EReal := AttnIn.res0 phi py (t2 q qy wd) (t2s q qy wd) (t2q q qy wd) wg1
def t3s : S1x128.Idx → EReal := AttnIn.res1 phi py (t2 q qy wd) (t2s q qy wd) (t2q q qy wd) wg1
def t3q : S1x128.Idx → EReal := AttnIn.res2 phi py (t2 q qy wd) (t2s q qy wd) (t2q q qy wd) wg1
/-- The second attention products, and their sums. -/
def t4 : S8192x16x128.Idx → EReal := Gamma.res0 (t3 phi q py qy wd wg1) (t3s phi q py qy wd wg1) (t3q phi q py qy wd wg1) wg2
def t4s : S1x128.Idx → EReal := Gamma.res1 (t3 phi q py qy wd wg1) (t3s phi q py qy wd wg1) (t3q phi q py qy wd wg1) wg2
def t4q : S1x128.Idx → EReal := Gamma.res2 (t3 phi q py qy wd wg1) (t3s phi q py qy wd wg1) (t3q phi q py qy wd wg1) wg2
/-- The attention's rows, and their sums. -/
def t5 : S8192x128.Idx → EReal := Attention.res0 (t4 phi q py qy wd wg1 wg2) (t4s phi q py qy wd wg1 wg2) (t4q phi q py qy wd wg1 wg2) (t2 q qy wd) (t2s q qy wd) (t2q q qy wd) ay wdn b
def t5s : S1x128.Idx → EReal := Attention.res1 (t4 phi q py qy wd wg1 wg2) (t4s phi q py qy wd wg1 wg2) (t4q phi q py qy wd wg1 wg2) (t2 q qy wd) (t2s q qy wd) (t2q q qy wd) ay wdn b
def t5q : S1x128.Idx → EReal := Attention.res2 (t4 phi q py qy wd wg1 wg2) (t4s phi q py qy wd wg1 wg2) (t4q phi q py qy wd wg1 wg2) (t2 q qy wd) (t2s q qy wd) (t2q q qy wd) ay wdn b
/-- The rows of the result. -/
def rows : S8192x128.Idx → EReal := Residual.out x (t5 phi q py qy ay wd wg1 wg2 wdn b) (t5s phi q py qy ay wd wg1 wg2 wdn b) (t5q phi q py qy ay wd wg1 wg2 wdn b)

theorem t2_apply (n : Fin 8192) (k : Fin 16) (h : Fin 128) : t2 q qy wd (ix3 n k h)
    = ∑ o : Fin 128, max (norm perNbr (q (ix2 n o) - qy (ix3 n k o)) (PosSums.res0 q qy (ix2 0 o)) (PosSums.res1 q qy (ix2 0 o))) 0 * wd (ix2 o h) := rfl
theorem t3_apply (n : Fin 8192) (k : Fin 16) (h : Fin 128) : t3 phi q py qy wd wg1 (ix3 n k h)
    = ∑ o : Fin 128, (phi (ix2 n o) - py (ix3 n k o) + norm perNbr (t2 q qy wd (ix3 n k o)) (t2s q qy wd (ix2 0 o)) (t2q q qy wd (ix2 0 o))) * wg1 (ix2 o h) := rfl
theorem t4_apply (n : Fin 8192) (k : Fin 16) (h : Fin 128) : t4 phi q py qy wd wg1 wg2 (ix3 n k h)
    = ∑ o : Fin 128, max (norm perNbr (t3 phi q py qy wd wg1 (ix3 n k o)) (t3s phi q py qy wd wg1 (ix2 0 o)) (t3q phi q py qy wd wg1 (ix2 0 o))) 0 * wg2 (ix2 o h) := rfl
/-- A score. -/
def score (n : Fin 8192) (k : Fin 16) (h : Fin 128) : EReal :=
  norm perNbr (t4 phi q py qy wd wg1 wg2 (ix3 n k h)) (t4s phi q py qy wd wg1 wg2 (ix2 0 h)) (t4q phi q py qy wd wg1 wg2 (ix2 0 h))
/-- A score off the greatest of its row. -/
def low (n : Fin 8192) (k : Fin 16) (h : Fin 128) : EReal :=
  score phi q py qy wd wg1 wg2 n k h - Finset.univ.fold max (Ideal.ofBits .f32 0xFF800000#32) fun k : Fin 16 => score phi q py qy wd wg1 wg2 n k h
/-- A weighted sum. -/
def mix (n : Fin 8192) (h : Fin 128) : EReal :=
  ∑ k : Fin 16, Ideal.div (Ideal.exp (low phi q py qy wd wg1 wg2 n k h)) (∑ k : Fin 16, Ideal.exp (low phi q py qy wd wg1 wg2 n k h))
    * (ay (ix3 n k h) + norm perNbr (t2 q qy wd (ix3 n k h)) (t2s q qy wd (ix2 0 h)) (t2q q qy wd (ix2 0 h)))
theorem t5_apply (n : Fin 8192) (h : Fin 128) : t5 phi q py qy ay wd wg1 wg2 wdn b (ix2 n h)
    = (∑ o : Fin 128, mix phi q py qy ay wd wg1 wg2 n o * wdn (ix2 o h)) + b (ix2 0 h) := rfl

end Chain

/-! ## They are real on real arguments -/

section Real

variable {phi q : S8192x128.Idx → EReal} {py qy ay : S8192x16x128.Idx → EReal} {wd wg1 wg2 wdn : S128x128.Idx → EReal}
  {b : S1x128.Idx → EReal}
variable (hphi : ∀ i, IsReal (phi i)) (hq : ∀ i, IsReal (q i)) (hpy : ∀ i, IsReal (py i)) (hqy : ∀ i, IsReal (qy i))
  (hay : ∀ i, IsReal (ay i)) (hwd : ∀ i, IsReal (wd i)) (hwg1 : ∀ i, IsReal (wg1 i)) (hwg2 : ∀ i, IsReal (wg2 i))
  (hwdn : ∀ i, IsReal (wdn i)) (hb : ∀ i, IsReal (b i))

include hq hqy in
theorem u1 (n : Fin 8192) (k : Fin 16) (h : Fin 128) :
    centred perNbr (fun p : Fin 8192 × Fin 16 => q (ix2 p.1 h) - qy (ix3 p.1 p.2 h)) (n, k)
        = norm perNbr (q (ix2 n h) - qy (ix3 n k h)) (PosSums.res0 q qy (ix2 0 h)) (PosSums.res1 q qy (ix2 0 h))
      ∧ IsReal (norm perNbr (q (ix2 n h) - qy (ix3 n k h)) (PosSums.res0 q qy (ix2 0 h)) (PosSums.res1 q qy (ix2 0 h))) :=
  norm_nbrs (fun n k => q (ix2 n h) - qy (ix3 n k h)) (fun _ _ => (hq _).sub (hqy _)) n k

include hq hqy hwd in
theorem real_t2 (n : Fin 8192) (k : Fin 16) (h : Fin 128) : IsReal (t2 q qy wd (ix3 n k h)) := by
  rw [t2_apply]
  exact IsReal.sum _ fun o => ((u1 hq hqy n k o).2.sup Grid.isReal_zero).mul (hwd _)

include hq hqy hwd in
theorem u2 (n : Fin 8192) (k : Fin 16) (h : Fin 128) :
    centred perNbr (fun p : Fin 8192 × Fin 16 => t2 q qy wd (ix3 p.1 p.2 h)) (n, k)
        = norm perNbr (t2 q qy wd (ix3 n k h)) (t2s q qy wd (ix2 0 h)) (t2q q qy wd (ix2 0 h))
      ∧ IsReal (norm perNbr (t2 q qy wd (ix3 n k h)) (t2s q qy wd (ix2 0 h)) (t2q q qy wd (ix2 0 h))) :=
  norm_nbrs (fun n k => t2 q qy wd (ix3 n k h)) (fun n k => real_t2 hq hqy hwd n k h) n k

include hphi hq hpy hqy hwd hwg1 in
theorem real_t3 (n : Fin 8192) (k : Fin 16) (h : Fin 128) : IsReal (t3 phi q py qy wd wg1 (ix3 n k h)) := by
  rw [t3_apply]
  exact IsReal.sum _ fun o => (((hphi _).sub (hpy _)).add (u2 hq hqy hwd n k o).2).mul (hwg1 _)

include hphi hq hpy hqy hwd hwg1 in
theorem u3 (n : Fin 8192) (k : Fin 16) (h : Fin 128) :
    centred perNbr (fun p : Fin 8192 × Fin 16 => t3 phi q py qy wd wg1 (ix3 p.1 p.2 h)) (n, k)
        = norm perNbr (t3 phi q py qy wd wg1 (ix3 n k h)) (t3s phi q py qy wd wg1 (ix2 0 h)) (t3q phi q py qy wd wg1 (ix2 0 h))
      ∧ IsReal (norm perNbr (t3 phi q py qy wd wg1 (ix3 n k h)) (t3s phi q py qy wd wg1 (ix2 0 h)) (t3q phi q py qy wd wg1 (ix2 0 h))) :=
  norm_nbrs (fun n k => t3 phi q py qy wd wg1 (ix3 n k h)) (fun n k => real_t3 hphi hq hpy hqy hwd hwg1 n k h) n k

include hphi hq hpy hqy hwd hwg1 hwg2 in
theorem real_t4 (n : Fin 8192) (k : Fin 16) (h : Fin 128) : IsReal (t4 phi q py qy wd wg1 wg2 (ix3 n k h)) := by
  rw [t4_apply]
  exact IsReal.sum _ fun o => ((u3 hphi hq hpy hqy hwd hwg1 n k o).2.sup Grid.isReal_zero).mul (hwg2 _)

include hphi hq hpy hqy hwd hwg1 hwg2 in
theorem u4 (n : Fin 8192) (k : Fin 16) (h : Fin 128) :
    centred perNbr (fun p : Fin 8192 × Fin 16 => t4 phi q py qy wd wg1 wg2 (ix3 p.1 p.2 h)) (n, k)
        = norm perNbr (t4 phi q py qy wd wg1 wg2 (ix3 n k h)) (t4s phi q py qy wd wg1 wg2 (ix2 0 h)) (t4q phi q py qy wd wg1 wg2 (ix2 0 h))
      ∧ IsReal (norm perNbr (t4 phi q py qy wd wg1 wg2 (ix3 n k h)) (t4s phi q py qy wd wg1 wg2 (ix2 0 h)) (t4q phi q py qy wd wg1 wg2 (ix2 0 h))) :=
  norm_nbrs (fun n k => t4 phi q py qy wd wg1 wg2 (ix3 n k h)) (fun n k => real_t4 hphi hq hpy hqy hwd hwg1 hwg2 n k h) n k

include hphi hq hpy hqy hay hwd hwg1 hwg2 hwdn hb in
theorem real_t5 (n : Fin 8192) (h : Fin 128) : IsReal (t5 phi q py qy ay wd wg1 wg2 wdn b (ix2 n h)) := by
  rw [t5_apply]
  refine (IsReal.sum _ fun o => (IsReal.sum _ fun k => (IsReal.mul ?_ ((hay _).add (u2 hq hqy hwd n k o).2))).mul (hwdn _)).add (hb _)
  refine Grid.IsReal.div_sum_exp (fun k => ?_) k
  refine IsReal.sub (u4 hphi hq hpy hqy hwd hwg1 hwg2 n k o).2 ?_
  rw [Attention.word_low]
  exact Grid.IsReal.fold_max fun k => (u4 hphi hq hpy hqy hwd hwg1 hwg2 n k o).2

end Real

/-! ## The reference, stage by stage -/

section Stages

variable (x0 : FVec Ideal S8192x128 .f32) (x1 : FVec Ideal S8192x128 .f32) (x2 : FVec Ideal S131072x128 .f32) (x3 : FVec Ideal S8192x128 .f32)
  (x4 x5 : FVec Ideal S131072x128 .f32) (x6 x7 x8 x9 : FVec Ideal S128x128 .f32) (x10 : FVec Ideal S128 .f32)

/-- The three gathered arrays, a row of sixteen neighbours at a time, and the bias as a row. -/
def cut (y : FVec Ideal S131072x128 .f32) : FVec Ideal S8192x16x128 .f32 := shapeCast _ y shapeCasts_S131072x128_S8192x16x128

theorem ref3 (n : Fin 8192) (k : Fin 16) (h : Fin 128) :
    val_main_v3 (F := Ideal) x3 x4 (ix3 n k h) = (x3 (ix2 n h) - cut x4 (ix3 n k h) : EReal) := by
  have e : val_main_v1 (F := Ideal) x4 = cut x4 := rfl
  pointwise [val_main_v3, val_main_v2, val_main_v0]
  rw [e]

variable (h1 : ∀ i, IsReal (x1 i)) (h2 : ∀ i, IsReal (cut x2 i)) (h3 : ∀ i, IsReal (x3 i)) (h4 : ∀ i, IsReal (cut x4 i)) (h5 : ∀ i, IsReal (cut x5 i))
  (h6 : ∀ i, IsReal (x6 i)) (h7 : ∀ i, IsReal (x7 i)) (h8 : ∀ i, IsReal (x8 i)) (h9 : ∀ i, IsReal (x9 i)) (h10 : ∀ i, IsReal (x10 i))

include h3 h4 in
theorem ref15 (n : Fin 8192) (k : Fin 16) (h : Fin 128) :
    val_main_v15 (F := Ideal) x3 x4 (ix3 n k h)
      = norm perNbr (x3 (ix2 n h) - cut x4 (ix3 n k h)) (PosSums.res0 x3 (cut x4) (ix2 0 h)) (PosSums.res1 x3 (cut x4) (ix2 0 h)) := by
  have e : val_main_v15 (F := Ideal) x3 x4 = bn (val_main_v3 (F := Ideal) x3 x4) := rfl
  rw [e, bn_apply]
  simp only [ref3]
  exact (u1 h3 h4 n k h).1

include h3 h4 in
theorem ref17 (n : Fin 8192) (k : Fin 16) (h : Fin 128) :
    val_main_v17 (F := Ideal) x3 x4 x6 (ix3 n k h) = t2 x3 (cut x4) x6 (ix3 n k h) := by
  pointwise [val_main_v17, val_main_v16, val_main_call1_v0, val_main_call1_cst]
  rw [t2_apply]
  exact Finset.sum_congr rfl fun o _ => by rw [ref15 x3 x4 h3 h4]

include h3 h4 h6 in
theorem ref29 (n : Fin 8192) (k : Fin 16) (h : Fin 128) :
    val_main_v29 (F := Ideal) x3 x4 x6 (ix3 n k h)
      = norm perNbr (t2 x3 (cut x4) x6 (ix3 n k h)) (t2s x3 (cut x4) x6 (ix2 0 h)) (t2q x3 (cut x4) x6 (ix2 0 h)) := by
  have e : val_main_v29 (F := Ideal) x3 x4 x6 = bn (val_main_v17 (F := Ideal) x3 x4 x6) := rfl
  rw [e, bn_apply]
  simp only [ref17 x3 x4 x6 h3 h4]
  exact (u2 h3 h4 h6 n k h).1

include h3 h4 h6 in
theorem ref35 (n : Fin 8192) (k : Fin 16) (h : Fin 128) :
    val_main_v35 (F := Ideal) x1 x2 x3 x4 x6 x7 (ix3 n k h) = t3 x1 x3 (cut x2) (cut x4) x6 x7 (ix3 n k h) := by
  have e : val_main_v31 (F := Ideal) x2 = cut x2 := rfl
  pointwise [val_main_v35, val_main_v34, val_main_v33, val_main_v32, val_main_v30]
  rw [t3_apply]
  exact Finset.sum_congr rfl fun o _ => by rw [ref29 x3 x4 x6 h3 h4 h6, e]

include h1 h2 h3 h4 h6 h7 in
theorem ref47 (n : Fin 8192) (k : Fin 16) (h : Fin 128) :
    val_main_v47 (F := Ideal) x1 x2 x3 x4 x6 x7 (ix3 n k h)
      = norm perNbr (t3 x1 x3 (cut x2) (cut x4) x6 x7 (ix3 n k h)) (t3s x1 x3 (cut x2) (cut x4) x6 x7 (ix2 0 h)) (t3q x1 x3 (cut x2) (cut x4) x6 x7 (ix2 0 h)) := by
  have e : val_main_v47 (F := Ideal) x1 x2 x3 x4 x6 x7 = bn (val_main_v35 (F := Ideal) x1 x2 x3 x4 x6 x7) := rfl
  rw [e, bn_apply]
  simp only [ref35 x1 x2 x3 x4 x6 x7 h3 h4 h6]
  exact (u3 h1 h3 h2 h4 h6 h7 n k h).1

include h1 h2 h3 h4 h6 h7 in
theorem ref49 (n : Fin 8192) (k : Fin 16) (h : Fin 128) :
    val_main_v49 (F := Ideal) x1 x2 x3 x4 x6 x7 x8 (ix3 n k h) = t4 x1 x3 (cut x2) (cut x4) x6 x7 x8 (ix3 n k h) := by
  pointwise [val_main_v49, val_main_v48, val_main_call4_v0, val_main_call4_cst]
  rw [t4_apply]
  exact Finset.sum_congr rfl fun o _ => by rw [ref47 x1 x2 x3 x4 x6 x7 h1 h2 h3 h4 h6 h7]

include h1 h2 h3 h4 h6 h7 h8 in
theorem ref61 (n : Fin 8192) (k : Fin 16) (h : Fin 128) :
    val_main_v61 (F := Ideal) x1 x2 x3 x4 x6 x7 x8 (ix3 n k h) = score x1 x3 (cut x2) (cut x4) x6 x7 x8 n k h := by
  have e : val_main_v61 (F := Ideal) x1 x2 x3 x4 x6 x7 x8 = bn (val_main_v49 (F := Ideal) x1 x2 x3 x4 x6 x7 x8) := rfl
  rw [e, bn_apply]
  simp only [ref49 x1 x2 x3 x4 x6 x7 x8 h1 h2 h3 h4 h6 h7]
  exact (u4 h1 h3 h2 h4 h6 h7 h8 n k h).1

/-- A maximum over the neighbours, from minus infinity. -/
theorem max_nbrs (f : FVec Ideal S8192x16x128 .f32) (n : Fin 8192) (h : Fin 128) :
    Host.reduce FloatOps.maximumf f (val_main_cst_14 (F := Ideal)) reducesTo_S8192x16x128_S8192x128_d1 h_S_ (ix2 n h) =
      (Finset.univ.fold max (Ideal.ofBits .f32 0xFF800000#32) fun k : Fin 16 => f (ix3 n k h) : EReal) := by
  have hr : S8192x16x128.Reduces [1] S8192x128 := by decide
  rw [Host.reduce_eq_fold_single _ _ _ _ hr, val_main_cst_14_apply]
  have e : f ∘ hr.lift (ix2 n h) = fun k : Fin 16 => f (ix3 n k h) :=
    funext fun k => congrArg f (funext fun c => by fin_cases c <;> rfl)
  rw [e]
  rfl

theorem ref63 (n : Fin 8192) (h : Fin 128) : val_main_v63 (F := Ideal) (ix2 n h) = (⊥ : EReal) := by
  refine Eq.trans ?_ Attention.word_low
  pointwise [val_main_v63, val_main_cst_15]

include h1 h2 h3 h4 h6 h7 h8 in
theorem ref64 (n : Fin 8192) (h : Fin 128) :
    val_main_v64 (F := Ideal) x1 x2 x3 x4 x6 x7 x8 (ix2 n h)
      = Finset.univ.fold max (Ideal.ofBits .f32 0xFF800000#32) fun k : Fin 16 => score x1 x3 (cut x2) (cut x4) x6 x7 x8 n k h := by
  simp only [← ref61 x1 x2 x3 x4 x6 x7 x8 h1 h2 h3 h4 h6 h7 h8]
  rw [val_main_v64_apply, val_main_v62, max_nbrs, ref63]
  exact max_eq_right bot_le

include h1 h2 h3 h4 h6 h7 h8 in
theorem ref67 (n : Fin 8192) (k : Fin 16) (h : Fin 128) :
    val_main_v67 (F := Ideal) x1 x2 x3 x4 x6 x7 x8 (ix3 n k h) = low x1 x3 (cut x2) (cut x4) x6 x7 x8 n k h := by
  unfold low
  rw [← ref64 x1 x2 x3 x4 x6 x7 x8 h1 h2 h3 h4 h6 h7 h8, ← ref61 x1 x2 x3 x4 x6 x7 x8 h1 h2 h3 h4 h6 h7 h8]
  pointwise [val_main_v67, val_main_v66, val_main_v65]

include h1 h2 h3 h4 h6 h7 h8 in
theorem ref76 (n : Fin 8192) (h : Fin 128) :
    val_main_v76 (F := Ideal) x1 x2 x3 x4 x5 x6 x7 x8 (ix2 n h) = mix x1 x3 (cut x2) (cut x4) (cut x5) x6 x7 x8 n h := by
  have e : val_main_v73 (F := Ideal) x5 = cut x5 := rfl
  unfold mix
  simp only [← ref67 x1 x2 x3 x4 x6 x7 x8 h1 h2 h3 h4 h6 h7 h8, ← ref29 x3 x4 x6 h3 h4 h6, ← e]
  pointwise [val_main_v76, val_main_v75, val_main_v74, val_main_v72, val_main_v71, val_main_v70, val_main_v69, val_main_v68, val_main_cst_16, val_main_cst_17]

/-- The bias as a row. -/
def row (y : FVec Ideal S128 .f32) (j : S1x128.Idx) : EReal := y (ix1 (j 1))

include h1 h2 h3 h4 h6 h7 h8 in
theorem ref80 (n : Fin 8192) (h : Fin 128) :
    val_main_v80 (F := Ideal) x1 x2 x3 x4 x5 x6 x7 x8 x9 x10 (ix2 n h)
      = t5 x1 x3 (cut x2) (cut x4) (cut x5) x6 x7 x8 x9 (row x10) (ix2 n h) := by
  rw [t5_apply]
  simp only [← ref76 x1 x2 x3 x4 x5 x6 x7 x8 h1 h2 h3 h4 h6 h7 h8]
  pointwise [val_main_v80, val_main_v79, val_main_v78, val_main_v77, row]

include h1 h2 h3 h4 h5 h6 h7 h8 h9 h10 in
theorem ref93 : val_main_v93 (F := Ideal) x0 x1 x2 x3 x4 x5 x6 x7 x8 x9 x10
      = rows x0 x1 x3 (cut x2) (cut x4) (cut x5) x6 x7 x8 x9 (row x10) := by
  funext j
  obtain ⟨n, h, rfl⟩ : ∃ (n : Fin 8192) (h : Fin 128), j = ix2 n h := ⟨j 0, j 1, by funext a; fin_cases a <;> rfl⟩
  have e : val_main_v92 (F := Ideal) x1 x2 x3 x4 x5 x6 x7 x8 x9 x10 = bnR (val_main_v80 (F := Ideal) x1 x2 x3 x4 x5 x6 x7 x8 x9 x10) := rfl
  rw [val_main_v93_apply, e, bnR_apply]
  simp only [ref80 x1 x2 x3 x4 x5 x6 x7 x8 x9 x10 h1 h2 h3 h4 h6 h7 h8]
  exact congrArg (fun t : EReal => x0 (ix2 n h) + t)
    (norm_rows (fun n => t5 x1 x3 (cut x2) (cut x4) (cut x5) x6 x7 x8 x9 (row x10) (ix2 n h))
      (fun n => real_t5 h1 h3 h2 h4 h5 h6 h7 h8 h9 (fun i => h10 _) n h) n)

end Stages

end Cert.Proof.After

end
-- ==== Proof.After.Region0.lean ====
/-
  Call 0 of those after the gathers, the sums of the positional differences: its arrays after the last tile, from any contents of its inputs.
-/
module

public import proofs.«01_k».proof.Proof.PosSums
public import proofs.«01_k».proof.Proof.Gen.AfterIdeal.Frame.Region0

@[expose] public section

noncomputable section

namespace Cert.Proof.After.R0

open Idealize.ShloMosaic Idealize.ShloMosaic.TcCoe Idealize.SL.Sem
open Cert.AfterIdeal Cert.AfterIdeal.Gen
open Cert.Proof.PosSums

variable (V : (c : Dev nD) → (b : Ref sig .tc) → Buf (Elt Ideal) ((c : Thread nD τ).loc b))

/-- Where the windows of point `t` start: a tile at tile `t`, an array held whole at its start. -/
theorem idx0 : ∀ t : Fin cfg0.N, win0_0.index t = ![t.val, 0] :=
  (by decide +kernel : ∀ t : Fin grid0.N, win0_0.index t = ![t.val, 0])
theorem idx1 : ∀ t : Fin cfg0.N, win0_1.index t = ![t.val, 0, 0] :=
  (by decide +kernel : ∀ t : Fin grid0.N, win0_1.index t = ![t.val, 0, 0])

/-- Result 0 after the last tile. -/
theorem final2 (c : Dev nD) : (dat0 V c).arrAt 2 cfg0.N
    = res0 (V c (Pipeline.arrRef spec0 0)) (V c (Pipeline.arrRef spec0 1)) := by
  refine (dat0 V c).arrAt_eq_of_after_last 2 t0_15 (by decide +kernel) _ fun j => ?_
  blk_simp
  rw [after0_2, Pipeline.eq_sum_fin_of_reset_step_apply_last (fun n h => (outsAt0 V c n h).1) 16 (fun _ => 0) _
    (fun t h j => by rw [outsAt0_A V c t h]; frame_out; pointwise [k0_pay1, k0_pay2, k0_pay3, k0_pay4, k0_pay5]; rfl)
    (fun t h j => by rw [outsAt0_B V c t h]; frame_out; pointwise [k0_pay1, k0_pay2, k0_pay3, k0_pay4, k0_pay5])
    (le_of_eq N_0) t0_15 rfl j, zero_add]
  refine Grid.sum_nbrs fun t r ht hr => ?_
  pointwise [val, Grid.norm]
  blk_point [iblk0, idx0 t, idx1 t]

/-- Result 1 after the last tile. -/
theorem final3 (c : Dev nD) : (dat0 V c).arrAt 3 cfg0.N
    = res1 (V c (Pipeline.arrRef spec0 0)) (V c (Pipeline.arrRef spec0 1)) := by
  refine (dat0 V c).arrAt_eq_of_after_last 3 t0_15 (by decide +kernel) _ fun j => ?_
  blk_simp
  rw [after0_3, Pipeline.eq_sum_fin_of_reset_step_apply_last (fun n h => (outsAt0 V c n h).2) 16 (fun _ => 0) _
    (fun t h j => by rw [outsAt0_A V c t h]; frame_out; pointwise [k0_pay1, k0_pay2, k0_pay3, k0_pay4, k0_pay5]; rfl)
    (fun t h j => by rw [outsAt0_B V c t h]; frame_out; pointwise [k0_pay1, k0_pay2, k0_pay3, k0_pay4, k0_pay5])
    (le_of_eq N_0) t0_15 rfl j, zero_add]
  refine Grid.sum_nbrs fun t r ht hr => ?_
  pointwise [val, Grid.norm]
  blk_point [iblk0, idx0 t, idx1 t]

end Cert.Proof.After.R0

end
-- ==== Proof.After.Region1.lean ====
/-
  Call 1 of those after the gathers, the positional layer: its arrays after the last tile, from any contents of its inputs.
-/
module

public import proofs.«01_k».proof.Proof.Pos
public import proofs.«01_k».proof.Proof.Gen.AfterIdeal.Frame.Region1

@[expose] public section

noncomputable section

namespace Cert.Proof.After.R1

open Idealize.ShloMosaic Idealize.ShloMosaic.TcCoe Idealize.SL.Sem
open Cert.AfterIdeal Cert.AfterIdeal.Gen
open Cert.Proof.Pos

variable (V : (c : Dev nD) → (b : Ref sig .tc) → Buf (Elt Ideal) ((c : Thread nD τ).loc b))

/-- Where the windows of point `t` start: a tile at tile `t`, an array held whole at its start. -/
theorem idx0 : ∀ t : Fin cfg1.N, win1_0.index t = ![t.val, 0] :=
  (by decide +kernel : ∀ t : Fin grid1.N, win1_0.index t = ![t.val, 0])
theorem idx1 : ∀ t : Fin cfg1.N, win1_1.index t = ![t.val, 0, 0] :=
  (by decide +kernel : ∀ t : Fin grid1.N, win1_1.index t = ![t.val, 0, 0])
theorem idx2 : ∀ t : Fin cfg1.N, win1_2.index t = ![0, 0] :=
  (by decide +kernel : ∀ t : Fin grid1.N, win1_2.index t = ![0, 0])
theorem idx3 : ∀ t : Fin cfg1.N, win1_3.index t = ![0, 0] :=
  (by decide +kernel : ∀ t : Fin grid1.N, win1_3.index t = ![0, 0])
theorem idx4 : ∀ t : Fin cfg1.N, win1_4.index t = ![0, 0] :=
  (by decide +kernel : ∀ t : Fin grid1.N, win1_4.index t = ![0, 0])
theorem idx5 : ∀ t : Fin cfg1.N, win1_5.index t = ![t.val, 0, 0] :=
  (by decide +kernel : ∀ t : Fin grid1.N, win1_5.index t = ![t.val, 0, 0])

/-- Result 0 after the last tile. -/
theorem final5 (c : Dev nD) : (dat1 V c).arrAt 5 cfg1.N
    = res0 (V c (Pipeline.arrRef spec1 0)) (V c (Pipeline.arrRef spec1 1)) (V c (Pipeline.arrRef spec1 2)) (V c (Pipeline.arrRef spec1 3)) (V c (Pipeline.arrRef spec1 4)) := by
  refine (dat1 V c).arrAt_eq_of_covers 5 _ (by decide +kernel) fun t hf y => ?_
  blk_simp
  rw [after1_5]
  by_cases h : t.val % 16 = 0
  · rw [outsAt1_A V c t h]; frame_out
    pointwise [k1_pay1, k1_pay2, k1_pay3, k1_pay4, k1_pay5, k1_pay6, res0, val, Grid.norm]
    blk_point [iblk1, idx0 t, idx1 t, idx2 t, idx3 t, idx4 t, idx5 t]
  · rw [outsAt1_B V c t h]; frame_out
    pointwise [k1_pay1, k1_pay2, k1_pay3, k1_pay4, k1_pay5, k1_pay6, res0, val, Grid.norm]
    blk_point [iblk1, idx0 t, idx1 t, idx2 t, idx3 t, idx4 t, idx5 t]

/-- Result 1 after the last tile. -/
theorem final6 (c : Dev nD) : (dat1 V c).arrAt 6 cfg1.N
    = res1 (V c (Pipeline.arrRef spec1 0)) (V c (Pipeline.arrRef spec1 1)) (V c (Pipeline.arrRef spec1 2)) (V c (Pipeline.arrRef spec1 3)) (V c (Pipeline.arrRef spec1 4)) := by
  refine (dat1 V c).arrAt_eq_of_after_last 6 t1_15 (by decide +kernel) _ fun j => ?_
  blk_simp
  rw [after1_6, Pipeline.eq_sum_fin_of_reset_step_apply_last (fun n h => (outsAt1 V c n h).2.1) 16 (fun _ => 0) _
    (fun t h j => by rw [outsAt1_A V c t h]; frame_out; pointwise [k1_pay1, k1_pay2, k1_pay3, k1_pay4, k1_pay5, k1_pay6]; rfl)
    (fun t h j => by rw [outsAt1_B V c t h]; frame_out; pointwise [k1_pay1, k1_pay2, k1_pay3, k1_pay4, k1_pay5, k1_pay6])
    (le_of_eq N_1) t1_15 rfl j, zero_add]
  refine Grid.sum_nbrs fun t r ht hr => ?_
  pointwise [val, Grid.norm]
  blk_point [iblk1, idx0 t, idx1 t, idx2 t, idx3 t, idx4 t]

/-- Result 2 after the last tile. -/
theorem final7 (c : Dev nD) : (dat1 V c).arrAt 7 cfg1.N
    = res2 (V c (Pipeline.arrRef spec1 0)) (V c (Pipeline.arrRef spec1 1)) (V c (Pipeline.arrRef spec1 2)) (V c (Pipeline.arrRef spec1 3)) (V c (Pipeline.arrRef spec1 4)) := by
  refine (dat1 V c).arrAt_eq_of_after_last 7 t1_15 (by decide +kernel) _ fun j => ?_
  blk_simp
  rw [after1_7, Pipeline.eq_sum_fin_of_reset_step_apply_last (fun n h => (outsAt1 V c n h).2.2) 16 (fun _ => 0) _
    (fun t h j => by rw [outsAt1_A V c t h]; frame_out; pointwise [k1_pay1, k1_pay2, k1_pay3, k1_pay4, k1_pay5, k1_pay6]; rfl)
    (fun t h j => by rw [outsAt1_B V c t h]; frame_out; pointwise [k1_pay1, k1_pay2, k1_pay3, k1_pay4, k1_pay5, k1_pay6])
    (le_of_eq N_1) t1_15 rfl j, zero_add]
  refine Grid.sum_nbrs fun t r ht hr => ?_
  pointwise [val, Grid.norm]
  blk_point [iblk1, idx0 t, idx1 t, idx2 t, idx3 t, idx4 t]

end Cert.Proof.After.R1

end
-- ==== Proof.After.Region2.lean ====
/-
  Call 2 of those after the gathers, the attention's input and first product: its arrays after the last tile, from any contents of its inputs.
-/
module

public import proofs.«01_k».proof.Proof.AttnIn
public import proofs.«01_k».proof.Proof.Gen.AfterIdeal.Frame.Region2

@[expose] public section

noncomputable section

namespace Cert.Proof.After.R2

open Idealize.ShloMosaic Idealize.ShloMosaic.TcCoe Idealize.SL.Sem
open Cert.AfterIdeal Cert.AfterIdeal.Gen
open Cert.Proof.AttnIn

variable (V : (c : Dev nD) → (b : Ref sig .tc) → Buf (Elt Ideal) ((c : Thread nD τ).loc b))

/-- Where the windows of point `t` start: a tile at tile `t`, an array held whole at its start. -/
theorem idx0 : ∀ t : Fin cfg2.N, win2_0.index t = ![t.val, 0] :=
  (by decide +kernel : ∀ t : Fin grid2.N, win2_0.index t = ![t.val, 0])
theorem idx1 : ∀ t : Fin cfg2.N, win2_1.index t = ![t.val, 0, 0] :=
  (by decide +kernel : ∀ t : Fin grid2.N, win2_1.index t = ![t.val, 0, 0])
theorem idx2 : ∀ t : Fin cfg2.N, win2_2.index t = ![t.val, 0, 0] :=
  (by decide +kernel : ∀ t : Fin grid2.N, win2_2.index t = ![t.val, 0, 0])
theorem idx3 : ∀ t : Fin cfg2.N, win2_3.index t = ![0, 0] :=
  (by decide +kernel : ∀ t : Fin grid2.N, win2_3.index t = ![0, 0])
theorem idx4 : ∀ t : Fin cfg2.N, win2_4.index t = ![0, 0] :=
  (by decide +kernel : ∀ t : Fin grid2.N, win2_4.index t = ![0, 0])
theorem idx5 : ∀ t : Fin cfg2.N, win2_5.index t = ![0, 0] :=
  (by decide +kernel : ∀ t : Fin grid2.N, win2_5.index t = ![0, 0])
theorem idx6 : ∀ t : Fin cfg2.N, win2_6.index t = ![t.val, 0, 0] :=
  (by decide +kernel : ∀ t : Fin grid2.N, win2_6.index t = ![t.val, 0, 0])

/-- Result 0 after the last tile. -/
theorem final6 (c : Dev nD) : (dat2 V c).arrAt 6 cfg2.N
    = res0 (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) := by
  refine (dat2 V c).arrAt_eq_of_covers 6 _ (by decide +kernel) fun t hf y => ?_
  blk_simp
  rw [after2_6]
  by_cases h : t.val % 16 = 0
  · rw [outsAt2_A V c t h]; frame_out
    pointwise [k2_pay1, k2_pay2, k2_pay3, k2_pay4, k2_pay5, k2_pay6, res0, val, Grid.norm]
    blk_point [iblk2, idx0 t, idx1 t, idx2 t, idx3 t, idx4 t, idx5 t, idx6 t]
  · rw [outsAt2_B V c t h]; frame_out
    pointwise [k2_pay1, k2_pay2, k2_pay3, k2_pay4, k2_pay5, k2_pay6, res0, val, Grid.norm]
    blk_point [iblk2, idx0 t, idx1 t, idx2 t, idx3 t, idx4 t, idx5 t, idx6 t]

/-- Result 1 after the last tile. -/
theorem final7 (c : Dev nD) : (dat2 V c).arrAt 7 cfg2.N
    = res1 (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) := by
  refine (dat2 V c).arrAt_eq_of_after_last 7 t2_15 (by decide +kernel) _ fun j => ?_
  blk_simp
  rw [after2_7, Pipeline.eq_sum_fin_of_reset_step_apply_last (fun n h => (outsAt2 V c n h).2.1) 16 (fun _ => 0) _
    (fun t h j => by rw [outsAt2_A V c t h]; frame_out; pointwise [k2_pay1, k2_pay2, k2_pay3, k2_pay4, k2_pay5, k2_pay6]; rfl)
    (fun t h j => by rw [outsAt2_B V c t h]; frame_out; pointwise [k2_pay1, k2_pay2, k2_pay3, k2_pay4, k2_pay5, k2_pay6])
    (le_of_eq N_2) t2_15 rfl j, zero_add]
  refine Grid.sum_nbrs fun t r ht hr => ?_
  pointwise [val, Grid.norm]
  blk_point [iblk2, idx0 t, idx1 t, idx2 t, idx3 t, idx4 t, idx5 t]

/-- Result 2 after the last tile. -/
theorem final8 (c : Dev nD) : (dat2 V c).arrAt 8 cfg2.N
    = res2 (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) := by
  refine (dat2 V c).arrAt_eq_of_after_last 8 t2_15 (by decide +kernel) _ fun j => ?_
  blk_simp
  rw [after2_8, Pipeline.eq_sum_fin_of_reset_step_apply_last (fun n h => (outsAt2 V c n h).2.2) 16 (fun _ => 0) _
    (fun t h j => by rw [outsAt2_A V c t h]; frame_out; pointwise [k2_pay1, k2_pay2, k2_pay3, k2_pay4, k2_pay5, k2_pay6]; rfl)
    (fun t h j => by rw [outsAt2_B V c t h]; frame_out; pointwise [k2_pay1, k2_pay2, k2_pay3, k2_pay4, k2_pay5, k2_pay6])
    (le_of_eq N_2) t2_15 rfl j, zero_add]
  refine Grid.sum_nbrs fun t r ht hr => ?_
  pointwise [val, Grid.norm]
  blk_point [iblk2, idx0 t, idx1 t, idx2 t, idx3 t, idx4 t, idx5 t]

end Cert.Proof.After.R2

end
-- ==== Proof.After.Region3.lean ====
/-
  Call 3 of those after the gathers, the attention's second product: its arrays after the last tile, from any contents of its inputs.
-/
module

public import proofs.«01_k».proof.Proof.Gamma
public import proofs.«01_k».proof.Proof.Gen.AfterIdeal.Frame.Region3

@[expose] public section

noncomputable section

namespace Cert.Proof.After.R3

open Idealize.ShloMosaic Idealize.ShloMosaic.TcCoe Idealize.SL.Sem
open Cert.AfterIdeal Cert.AfterIdeal.Gen
open Cert.Proof.Gamma

variable (V : (c : Dev nD) → (b : Ref sig .tc) → Buf (Elt Ideal) ((c : Thread nD τ).loc b))

/-- Where the windows of point `t` start: a tile at tile `t`, an array held whole at its start. -/
theorem idx0 : ∀ t : Fin cfg3.N, win3_0.index t = ![t.val, 0, 0] :=
  (by decide +kernel : ∀ t : Fin grid3.N, win3_0.index t = ![t.val, 0, 0])
theorem idx1 : ∀ t : Fin cfg3.N, win3_1.index t = ![0, 0] :=
  (by decide +kernel : ∀ t : Fin grid3.N, win3_1.index t = ![0, 0])
theorem idx2 : ∀ t : Fin cfg3.N, win3_2.index t = ![0, 0] :=
  (by decide +kernel : ∀ t : Fin grid3.N, win3_2.index t = ![0, 0])
theorem idx3 : ∀ t : Fin cfg3.N, win3_3.index t = ![0, 0] :=
  (by decide +kernel : ∀ t : Fin grid3.N, win3_3.index t = ![0, 0])
theorem idx4 : ∀ t : Fin cfg3.N, win3_4.index t = ![t.val, 0, 0] :=
  (by decide +kernel : ∀ t : Fin grid3.N, win3_4.index t = ![t.val, 0, 0])

/-- Result 0 after the last tile. -/
theorem final4 (c : Dev nD) : (dat3 V c).arrAt 4 cfg3.N
    = res0 (V c (Pipeline.arrRef spec3 0)) (V c (Pipeline.arrRef spec3 1)) (V c (Pipeline.arrRef spec3 2)) (V c (Pipeline.arrRef spec3 3)) := by
  refine (dat3 V c).arrAt_eq_of_covers 4 _ (by decide +kernel) fun t hf y => ?_
  blk_simp
  rw [after3_4]
  by_cases h : t.val % 16 = 0
  · rw [outsAt3_A V c t h]; frame_out
    pointwise [k3_pay1, k3_pay2, k3_pay3, k3_pay4, k3_pay5, k3_pay6, k3_pay7, k3_pay8, res0, val, Grid.norm]
    blk_point [iblk3, idx0 t, idx1 t, idx2 t, idx3 t, idx4 t]
  · rw [outsAt3_B V c t h]; frame_out
    pointwise [k3_pay1, k3_pay2, k3_pay3, k3_pay4, k3_pay5, k3_pay6, k3_pay7, k3_pay8, res0, val, Grid.norm]
    blk_point [iblk3, idx0 t, idx1 t, idx2 t, idx3 t, idx4 t]

/-- Result 1 after the last tile. -/
theorem final5 (c : Dev nD) : (dat3 V c).arrAt 5 cfg3.N
    = res1 (V c (Pipeline.arrRef spec3 0)) (V c (Pipeline.arrRef spec3 1)) (V c (Pipeline.arrRef spec3 2)) (V c (Pipeline.arrRef spec3 3)) := by
  refine (dat3 V c).arrAt_eq_of_after_last 5 t3_15 (by decide +kernel) _ fun j => ?_
  blk_simp
  rw [after3_5, Pipeline.eq_sum_fin_of_reset_step_apply_last (fun n h => (outsAt3 V c n h).2.1) 16 (fun _ => 0) _
    (fun t h j => by rw [outsAt3_A V c t h]; frame_out; pointwise [k3_pay1, k3_pay2, k3_pay3, k3_pay4, k3_pay5, k3_pay6, k3_pay7, k3_pay8]; rfl)
    (fun t h j => by rw [outsAt3_B V c t h]; frame_out; pointwise [k3_pay1, k3_pay2, k3_pay3, k3_pay4, k3_pay5, k3_pay6, k3_pay7, k3_pay8])
    (le_of_eq N_3) t3_15 rfl j, zero_add]
  refine Grid.sum_nbrs fun t r ht hr => ?_
  pointwise [val, Grid.norm]
  blk_point [iblk3, idx0 t, idx1 t, idx2 t, idx3 t]

/-- Result 2 after the last tile. -/
theorem final6 (c : Dev nD) : (dat3 V c).arrAt 6 cfg3.N
    = res2 (V c (Pipeline.arrRef spec3 0)) (V c (Pipeline.arrRef spec3 1)) (V c (Pipeline.arrRef spec3 2)) (V c (Pipeline.arrRef spec3 3)) := by
  refine (dat3 V c).arrAt_eq_of_after_last 6 t3_15 (by decide +kernel) _ fun j => ?_
  blk_simp
  rw [after3_6, Pipeline.eq_sum_fin_of_reset_step_apply_last (fun n h => (outsAt3 V c n h).2.2) 16 (fun _ => 0) _
    (fun t h j => by rw [outsAt3_A V c t h]; frame_out; pointwise [k3_pay1, k3_pay2, k3_pay3, k3_pay4, k3_pay5, k3_pay6, k3_pay7, k3_pay8]; rfl)
    (fun t h j => by rw [outsAt3_B V c t h]; frame_out; pointwise [k3_pay1, k3_pay2, k3_pay3, k3_pay4, k3_pay5, k3_pay6, k3_pay7, k3_pay8])
    (le_of_eq N_3) t3_15 rfl j, zero_add]
  refine Grid.sum_nbrs fun t r ht hr => ?_
  pointwise [val, Grid.norm]
  blk_point [iblk3, idx0 t, idx1 t, idx2 t, idx3 t]

end Cert.Proof.After.R3

end
-- ==== Proof.After.Region4.lean ====
/-
  Call 4 of those after the gathers, the softmax, weighted sum and down product: its arrays after the last tile, from any contents of its inputs.
-/
module

public import proofs.«01_k».proof.Proof.Attention
public import proofs.«01_k».proof.Proof.Gen.AfterIdeal.Frame.Region4

@[expose] public section

noncomputable section

namespace Cert.Proof.After.R4

open Idealize.ShloMosaic Idealize.ShloMosaic.TcCoe Idealize.SL.Sem
open Cert.AfterIdeal Cert.AfterIdeal.Gen
open Cert.Proof.Attention

variable (V : (c : Dev nD) → (b : Ref sig .tc) → Buf (Elt Ideal) ((c : Thread nD τ).loc b))

/-- Where the windows of point `t` start: a tile at tile `t`, an array held whole at its start. -/
theorem idx0 : ∀ t : Fin cfg4.N, win4_0.index t = ![t.val, 0, 0] :=
  (by decide +kernel : ∀ t : Fin grid4.N, win4_0.index t = ![t.val, 0, 0])
theorem idx1 : ∀ t : Fin cfg4.N, win4_1.index t = ![0, 0] :=
  (by decide +kernel : ∀ t : Fin grid4.N, win4_1.index t = ![0, 0])
theorem idx2 : ∀ t : Fin cfg4.N, win4_2.index t = ![0, 0] :=
  (by decide +kernel : ∀ t : Fin grid4.N, win4_2.index t = ![0, 0])
theorem idx3 : ∀ t : Fin cfg4.N, win4_3.index t = ![t.val, 0, 0] :=
  (by decide +kernel : ∀ t : Fin grid4.N, win4_3.index t = ![t.val, 0, 0])
theorem idx4 : ∀ t : Fin cfg4.N, win4_4.index t = ![0, 0] :=
  (by decide +kernel : ∀ t : Fin grid4.N, win4_4.index t = ![0, 0])
theorem idx5 : ∀ t : Fin cfg4.N, win4_5.index t = ![0, 0] :=
  (by decide +kernel : ∀ t : Fin grid4.N, win4_5.index t = ![0, 0])
theorem idx6 : ∀ t : Fin cfg4.N, win4_6.index t = ![t.val, 0, 0] :=
  (by decide +kernel : ∀ t : Fin grid4.N, win4_6.index t = ![t.val, 0, 0])
theorem idx7 : ∀ t : Fin cfg4.N, win4_7.index t = ![0, 0] :=
  (by decide +kernel : ∀ t : Fin grid4.N, win4_7.index t = ![0, 0])
theorem idx8 : ∀ t : Fin cfg4.N, win4_8.index t = ![0, 0] :=
  (by decide +kernel : ∀ t : Fin grid4.N, win4_8.index t = ![0, 0])
theorem idx9 : ∀ t : Fin cfg4.N, win4_9.index t = ![t.val, 0] :=
  (by decide +kernel : ∀ t : Fin grid4.N, win4_9.index t = ![t.val, 0])

/-- Result 0 after the last tile. -/
theorem final9 (c : Dev nD) : (dat4 V c).arrAt 9 cfg4.N
    = res0 (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6)) (V c (Pipeline.arrRef spec4 7)) (V c (Pipeline.arrRef spec4 8)) := by
  refine (dat4 V c).arrAt_eq_of_covers 9 _ (by decide +kernel) fun t hf y => ?_
  blk_simp
  rw [after4_9]
  by_cases h : t.val % 16 = 0
  · rw [outsAt4_A V c t h]; frame_out
    pointwise [k4_pay1, k4_pay2, k4_pay3, k4_pay4, k4_pay5, k4_pay6, k4_pay7, k4_pay8, k4_pay9, res0, val, mix, expo, score, Grid.norm]
    blk_point [iblk4, idx0 t, idx1 t, idx2 t, idx3 t, idx4 t, idx5 t, idx6 t, idx7 t, idx8 t, idx9 t]
  · rw [outsAt4_B V c t h]; frame_out
    pointwise [k4_pay1, k4_pay2, k4_pay3, k4_pay4, k4_pay5, k4_pay6, k4_pay7, k4_pay8, k4_pay9, res0, val, mix, expo, score, Grid.norm]
    blk_point [iblk4, idx0 t, idx1 t, idx2 t, idx3 t, idx4 t, idx5 t, idx6 t, idx7 t, idx8 t, idx9 t]

/-- Result 1 after the last tile. -/
theorem final10 (c : Dev nD) : (dat4 V c).arrAt 10 cfg4.N
    = res1 (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6)) (V c (Pipeline.arrRef spec4 7)) (V c (Pipeline.arrRef spec4 8)) := by
  refine (dat4 V c).arrAt_eq_of_after_last 10 t4_15 (by decide +kernel) _ fun j => ?_
  blk_simp
  rw [after4_10, Pipeline.eq_sum_fin_of_reset_step_apply_last (fun n h => (outsAt4 V c n h).2.1) 16 (fun _ => 0) _
    (fun t h j => by rw [outsAt4_A V c t h]; frame_out; pointwise [k4_pay1, k4_pay2, k4_pay3, k4_pay4, k4_pay5, k4_pay6, k4_pay7, k4_pay8, k4_pay9]; rfl)
    (fun t h j => by rw [outsAt4_B V c t h]; frame_out; pointwise [k4_pay1, k4_pay2, k4_pay3, k4_pay4, k4_pay5, k4_pay6, k4_pay7, k4_pay8, k4_pay9])
    (le_of_eq N_4) t4_15 rfl j, zero_add]
  refine Grid.sum_rows fun t r ht => ?_
  pointwise [val, mix, expo, score, Grid.norm]
  blk_point [iblk4, idx0 t, idx1 t, idx2 t, idx3 t, idx4 t, idx5 t, idx6 t, idx7 t, idx8 t]

/-- Result 2 after the last tile. -/
theorem final11 (c : Dev nD) : (dat4 V c).arrAt 11 cfg4.N
    = res2 (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6)) (V c (Pipeline.arrRef spec4 7)) (V c (Pipeline.arrRef spec4 8)) := by
  refine (dat4 V c).arrAt_eq_of_after_last 11 t4_15 (by decide +kernel) _ fun j => ?_
  blk_simp
  rw [after4_11, Pipeline.eq_sum_fin_of_reset_step_apply_last (fun n h => (outsAt4 V c n h).2.2) 16 (fun _ => 0) _
    (fun t h j => by rw [outsAt4_A V c t h]; frame_out; pointwise [k4_pay1, k4_pay2, k4_pay3, k4_pay4, k4_pay5, k4_pay6, k4_pay7, k4_pay8, k4_pay9]; rfl)
    (fun t h j => by rw [outsAt4_B V c t h]; frame_out; pointwise [k4_pay1, k4_pay2, k4_pay3, k4_pay4, k4_pay5, k4_pay6, k4_pay7, k4_pay8, k4_pay9])
    (le_of_eq N_4) t4_15 rfl j, zero_add]
  refine Grid.sum_rows fun t r ht => ?_
  pointwise [val, mix, expo, score, Grid.norm]
  blk_point [iblk4, idx0 t, idx1 t, idx2 t, idx3 t, idx4 t, idx5 t, idx6 t, idx7 t, idx8 t]

end Cert.Proof.After.R4

end
-- ==== Proof.After.Region5.lean ====
/-
  Call 5 of those after the gathers, the last residual: its arrays after the last tile, from any contents of its inputs.
-/
module

public import proofs.«01_k».proof.Proof.Residual
public import proofs.«01_k».proof.Proof.Gen.AfterIdeal.Frame.Region5

@[expose] public section

noncomputable section

namespace Cert.Proof.After.R5

open Idealize.ShloMosaic Idealize.ShloMosaic.TcCoe Idealize.SL.Sem
open Cert.AfterIdeal Cert.AfterIdeal.Gen
open Cert.Proof.Residual

variable (V : (c : Dev nD) → (b : Ref sig .tc) → Buf (Elt Ideal) ((c : Thread nD τ).loc b))

/-- Where the windows of point `t` start: the tiles at tile `t`, the rows of sums at the one there is. -/
theorem idx0 : ∀ t : Fin cfg5.N, win5_0.index t = ![t.val, 0] :=
  (by decide +kernel : ∀ t : Fin grid5.N, win5_0.index t = ![t.val, 0])
theorem idx1 : ∀ t : Fin cfg5.N, win5_1.index t = ![t.val, 0] :=
  (by decide +kernel : ∀ t : Fin grid5.N, win5_1.index t = ![t.val, 0])
theorem idx2 : ∀ t : Fin cfg5.N, win5_2.index t = ![0, 0] :=
  (by decide +kernel : ∀ t : Fin grid5.N, win5_2.index t = ![0, 0])
theorem idx3 : ∀ t : Fin cfg5.N, win5_3.index t = ![0, 0] :=
  (by decide +kernel : ∀ t : Fin grid5.N, win5_3.index t = ![0, 0])
theorem idx4 : ∀ t : Fin cfg5.N, win5_4.index t = ![t.val, 0] :=
  (by decide +kernel : ∀ t : Fin grid5.N, win5_4.index t = ![t.val, 0])

/-- The kernel's array after the last tile. -/
theorem final (c : Dev nD) : (dat5 V c).arrAt 4 cfg5.N
    = out (V c (Pipeline.arrRef spec5 0)) (V c (Pipeline.arrRef spec5 1)) (V c (Pipeline.arrRef spec5 2)) (V c (Pipeline.arrRef spec5 3)) := by
  refine (dat5 V c).arrAt_eq_of_covers 4 _ (by decide +kernel) fun t hf y => ?_
  blk_simp
  rw [after5_4]; frame_out
  pointwise [k5_pay1, out, Grid.norm]
  blk_point [iblk5, idx0 t, idx1 t, idx2 t, idx3 t, idx4 t]

end Cert.Proof.After.R5

end
-- ==== Proof.After.Kernel.lean ====
/-
  What the calls after the gathers leave, one after the other, from the launch's arguments.
-/
module

public import proofs.«01_k».proof.Proof.After.Reference
public import proofs.«01_k».proof.Proof.After.Region0
public import proofs.«01_k».proof.Proof.After.Region1
public import proofs.«01_k».proof.Proof.After.Region2
public import proofs.«01_k».proof.Proof.After.Region3
public import proofs.«01_k».proof.Proof.After.Region4
public import proofs.«01_k».proof.Proof.After.Region5
public import proofs.«01_k».proof.Proof.Gen.AfterIdeal.Frame.Fold0

@[expose] public section

noncomputable section

namespace Cert.Proof.After.Kernel

open Idealize.ShloMosaic Idealize.ShloMosaic.TcCoe Idealize.SL.Sem
open Cert.AfterIdeal Cert.AfterIdeal.Gen

variable (m : (ℓ : Loc nD τ sig) → Buf (Elt Ideal) ℓ) (ρ : Dev nD → PrngReg) (c : Dev nD)

/-! ## The arguments, and their reshapes -/

abbrev x0 : S8192x128.Idx → EReal := m (c.tc.loc main_arg0)
abbrev x1 : S8192x128.Idx → EReal := m (c.tc.loc main_arg1)
abbrev x2 : S131072x128.Idx → EReal := m (c.tc.loc main_arg2)
abbrev x3 : S8192x128.Idx → EReal := m (c.tc.loc main_arg3)
abbrev x4 : S131072x128.Idx → EReal := m (c.tc.loc main_arg4)
abbrev x5 : S131072x128.Idx → EReal := m (c.tc.loc main_arg5)
abbrev x6 : S128x128.Idx → EReal := m (c.tc.loc main_arg6)
abbrev x7 : S128x128.Idx → EReal := m (c.tc.loc main_arg7)
abbrev x8 : S128x128.Idx → EReal := m (c.tc.loc main_arg8)
abbrev x9 : S128x128.Idx → EReal := m (c.tc.loc main_arg9)
abbrev x10 : S128.Idx → EReal := m (c.tc.loc main_arg10)

theorem v0 : W1 m ρ c (Proc.devRef .tc main_v0) = cut (x2 m c) := by
  show StableHlo.after hostOps0 (W0 m ρ c) (Proc.devRef .tc main_v0) = _
  simp only [hostOps0]
  after_results
  rfl
theorem v1 : W1 m ρ c (Proc.devRef .tc main_v1) = cut (x5 m c) := by
  show StableHlo.after hostOps0 (W0 m ρ c) (Proc.devRef .tc main_v1) = _
  simp only [hostOps0]
  after_results
  rfl
theorem v2 : W1 m ρ c (Proc.devRef .tc main_v2) = cut (x4 m c) := by
  show StableHlo.after hostOps0 (W0 m ρ c) (Proc.devRef .tc main_v2) = _
  simp only [hostOps0]
  after_results
  rfl

/-! ## What each call is to leave -/

abbrev T1s := PosSums.res0 (x3 m c) (cut (x4 m c))
abbrev T1q := PosSums.res1 (x3 m c) (cut (x4 m c))
abbrev T2 := t2 (x3 m c) (cut (x4 m c)) (x6 m c)
abbrev T3 := t3 (x1 m c) (x3 m c) (cut (x2 m c)) (cut (x4 m c)) (x6 m c) (x7 m c)
abbrev T4 := t4 (x1 m c) (x3 m c) (cut (x2 m c)) (cut (x4 m c)) (x6 m c) (x7 m c) (x8 m c)
abbrev T5 := t5 (x1 m c) (x3 m c) (cut (x2 m c)) (cut (x4 m c)) (cut (x5 m c)) (x6 m c) (x7 m c) (x8 m c) (x9 m c) (row (x10 m c))
abbrev T2s := t2s (x3 m c) (cut (x4 m c)) (x6 m c)
abbrev T3s := t3s (x1 m c) (x3 m c) (cut (x2 m c)) (cut (x4 m c)) (x6 m c) (x7 m c)
abbrev T4s := t4s (x1 m c) (x3 m c) (cut (x2 m c)) (cut (x4 m c)) (x6 m c) (x7 m c) (x8 m c)
abbrev T5s := t5s (x1 m c) (x3 m c) (cut (x2 m c)) (cut (x4 m c)) (cut (x5 m c)) (x6 m c) (x7 m c) (x8 m c) (x9 m c) (row (x10 m c))
abbrev T2q := t2q (x3 m c) (cut (x4 m c)) (x6 m c)
abbrev T3q := t3q (x1 m c) (x3 m c) (cut (x2 m c)) (cut (x4 m c)) (x6 m c) (x7 m c)
abbrev T4q := t4q (x1 m c) (x3 m c) (cut (x2 m c)) (cut (x4 m c)) (x6 m c) (x7 m c) (x8 m c)
abbrev T5q := t5q (x1 m c) (x3 m c) (cut (x2 m c)) (cut (x4 m c)) (cut (x5 m c)) (x6 m c) (x7 m c) (x8 m c) (x9 m c) (row (x10 m c))
abbrev Out := rows (x0 m c) (x1 m c) (x3 m c) (cut (x2 m c)) (cut (x4 m c)) (cut (x5 m c)) (x6 m c) (x7 m c) (x8 m c) (x9 m c) (row (x10 m c))

/-! ## What the calls between leave alone -/

/-- A buffer that nothing between boundaries 1 and 3 writes. -/
theorem keep3_1 (r : Ref sig .tc) (h2 : ∀ w, Pipeline.arrRef spec0 w = r → (cfg0.win w).isOut = false) (h3 : ∀ w, Pipeline.arrRef spec1 w = r → (cfg1.win w).isOut = false) :
    W3 m ρ c (Proc.devRef .tc r) = W1 m ρ c (Proc.devRef .tc r) :=
  (W3_of m ρ c r h3).trans (W2_of m ρ c r h2)
/-- A buffer that nothing between boundaries 3 and 6 writes. -/
theorem keep6_3 (r : Ref sig .tc) (h4 : ∀ w, Pipeline.arrRef spec2 w = r → (cfg2.win w).isOut = false) (h5 : ∀ w, Pipeline.arrRef spec3 w = r → (cfg3.win w).isOut = false) (h6 : r ∉ hostOps4_W) :
    W6 m ρ c (Proc.devRef .tc r) = W3 m ρ c (Proc.devRef .tc r) :=
  (W6_of m ρ c r h6).trans ((W5_of m ρ c r h5).trans (W4_of m ρ c r h4))
/-- A buffer that nothing between boundaries 1 and 6 writes. -/
theorem keep6_1 (r : Ref sig .tc) (h2 : ∀ w, Pipeline.arrRef spec0 w = r → (cfg0.win w).isOut = false) (h3 : ∀ w, Pipeline.arrRef spec1 w = r → (cfg1.win w).isOut = false) (h4 : ∀ w, Pipeline.arrRef spec2 w = r → (cfg2.win w).isOut = false) (h5 : ∀ w, Pipeline.arrRef spec3 w = r → (cfg3.win w).isOut = false) (h6 : r ∉ hostOps4_W) :
    W6 m ρ c (Proc.devRef .tc r) = W1 m ρ c (Proc.devRef .tc r) :=
  (W6_of m ρ c r h6).trans ((W5_of m ρ c r h5).trans ((W4_of m ρ c r h4).trans ((W3_of m ρ c r h3).trans (W2_of m ρ c r h2))))

/-! ## Call 0 -/

theorem v3_0 : W2 m ρ c (Proc.devRef .tc main_v3_0) = T1s m c :=
  (W2_arr m ρ c 2).trans ((R0.final2 (V1 m ρ) c).trans (congr (congrArg PosSums.res0 (W1_args m ρ c main_arg3 (by decide))) (v2 m ρ c)))
theorem v3_1 : W2 m ρ c (Proc.devRef .tc main_v3_1) = T1q m c :=
  (W2_arr m ρ c 3).trans ((R0.final3 (V1 m ρ) c).trans (congr (congrArg PosSums.res1 (W1_args m ρ c main_arg3 (by decide))) (v2 m ρ c)))

/-! ## Call 1 -/

theorem v4_0 : W3 m ρ c (Proc.devRef .tc main_v4_0) = T2 m c :=
  (W3_arr m ρ c 5).trans ((R1.final5 (V2 m ρ) c).trans (congr (congr (congr (congr (congrArg Pos.res0 (W2_args m ρ c main_arg3 (by decide))) ((W2_of m ρ c main_v2 (by decide +kernel)).trans (v2 m ρ c))) (v3_0 m ρ c)) (v3_1 m ρ c)) (W2_args m ρ c main_arg6 (by decide))))
theorem v4_1 : W3 m ρ c (Proc.devRef .tc main_v4_1) = T2s m c :=
  (W3_arr m ρ c 6).trans ((R1.final6 (V2 m ρ) c).trans (congr (congr (congr (congr (congrArg Pos.res1 (W2_args m ρ c main_arg3 (by decide))) ((W2_of m ρ c main_v2 (by decide +kernel)).trans (v2 m ρ c))) (v3_0 m ρ c)) (v3_1 m ρ c)) (W2_args m ρ c main_arg6 (by decide))))
theorem v4_2 : W3 m ρ c (Proc.devRef .tc main_v4_2) = T2q m c :=
  (W3_arr m ρ c 7).trans ((R1.final7 (V2 m ρ) c).trans (congr (congr (congr (congr (congrArg Pos.res2 (W2_args m ρ c main_arg3 (by decide))) ((W2_of m ρ c main_v2 (by decide +kernel)).trans (v2 m ρ c))) (v3_0 m ρ c)) (v3_1 m ρ c)) (W2_args m ρ c main_arg6 (by decide))))

/-! ## Call 2 -/

theorem v5_0 : W4 m ρ c (Proc.devRef .tc main_v5_0) = T3 m c :=
  (W4_arr m ρ c 6).trans ((R2.final6 (V3 m ρ) c).trans (congr (congr (congr (congr (congr (congrArg AttnIn.res0 (W3_args m ρ c main_arg1 (by decide))) ((keep3_1 m ρ c main_v0 (by decide +kernel) (by decide +kernel)).trans (v0 m ρ c))) (v4_0 m ρ c)) (v4_1 m ρ c)) (v4_2 m ρ c)) (W3_args m ρ c main_arg7 (by decide))))
theorem v5_1 : W4 m ρ c (Proc.devRef .tc main_v5_1) = T3s m c :=
  (W4_arr m ρ c 7).trans ((R2.final7 (V3 m ρ) c).trans (congr (congr (congr (congr (congr (congrArg AttnIn.res1 (W3_args m ρ c main_arg1 (by decide))) ((keep3_1 m ρ c main_v0 (by decide +kernel) (by decide +kernel)).trans (v0 m ρ c))) (v4_0 m ρ c)) (v4_1 m ρ c)) (v4_2 m ρ c)) (W3_args m ρ c main_arg7 (by decide))))
theorem v5_2 : W4 m ρ c (Proc.devRef .tc main_v5_2) = T3q m c :=
  (W4_arr m ρ c 8).trans ((R2.final8 (V3 m ρ) c).trans (congr (congr (congr (congr (congr (congrArg AttnIn.res2 (W3_args m ρ c main_arg1 (by decide))) ((keep3_1 m ρ c main_v0 (by decide +kernel) (by decide +kernel)).trans (v0 m ρ c))) (v4_0 m ρ c)) (v4_1 m ρ c)) (v4_2 m ρ c)) (W3_args m ρ c main_arg7 (by decide))))

/-! ## Call 3 -/

theorem v6_0 : W5 m ρ c (Proc.devRef .tc main_v6_0) = T4 m c :=
  (W5_arr m ρ c 4).trans ((R3.final4 (V4 m ρ) c).trans (congr (congr (congr (congrArg Gamma.res0 (v5_0 m ρ c)) (v5_1 m ρ c)) (v5_2 m ρ c)) (W4_args m ρ c main_arg8 (by decide))))
theorem v6_1 : W5 m ρ c (Proc.devRef .tc main_v6_1) = T4s m c :=
  (W5_arr m ρ c 5).trans ((R3.final5 (V4 m ρ) c).trans (congr (congr (congr (congrArg Gamma.res1 (v5_0 m ρ c)) (v5_1 m ρ c)) (v5_2 m ρ c)) (W4_args m ρ c main_arg8 (by decide))))
theorem v6_2 : W5 m ρ c (Proc.devRef .tc main_v6_2) = T4q m c :=
  (W5_arr m ρ c 6).trans ((R3.final6 (V4 m ρ) c).trans (congr (congr (congr (congrArg Gamma.res2 (v5_0 m ρ c)) (v5_1 m ρ c)) (v5_2 m ρ c)) (W4_args m ρ c main_arg8 (by decide))))

/-! ## The bias as a row -/

theorem v7 : W6 m ρ c (Proc.devRef .tc main_v7) = row (x10 m c) := by
  have e : W6 m ρ c (Proc.devRef .tc main_v7) = shapeCast S1x128 (W5 m ρ c (Proc.devRef .tc main_arg10) : S128.Idx → EReal) shapeCasts_S128_S1x128 := by
    show StableHlo.after hostOps4 (W5 m ρ c) (Proc.devRef .tc main_v7) = _
    simp only [hostOps4]
    after_results
    rfl
  rw [e, W5_args m ρ c main_arg10 (by decide)]
  funext j
  obtain ⟨a, h, rfl⟩ : ∃ (a : Fin 1) (h : Fin 128), j = ix2 a h := ⟨j 0, j 1, by funext a; fin_cases a <;> rfl⟩
  pointwise [row]

/-! ## Call 4 -/

theorem v8_0 : W7 m ρ c (Proc.devRef .tc main_v8_0) = T5 m c :=
  (W7_arr m ρ c 9).trans ((R4.final9 (V6 m ρ) c).trans (congr (congr (congr (congr (congr (congr (congr (congr (congrArg Attention.res0 ((W6_of m ρ c main_v6_0 (by decide)).trans (v6_0 m ρ c))) ((W6_of m ρ c main_v6_1 (by decide)).trans (v6_1 m ρ c))) ((W6_of m ρ c main_v6_2 (by decide)).trans (v6_2 m ρ c))) ((keep6_3 m ρ c main_v4_0 (by decide +kernel) (by decide +kernel) (by decide)).trans (v4_0 m ρ c))) ((keep6_3 m ρ c main_v4_1 (by decide +kernel) (by decide +kernel) (by decide)).trans (v4_1 m ρ c))) ((keep6_3 m ρ c main_v4_2 (by decide +kernel) (by decide +kernel) (by decide)).trans (v4_2 m ρ c))) ((keep6_1 m ρ c main_v1 (by decide +kernel) (by decide +kernel) (by decide +kernel) (by decide +kernel) (by decide)).trans (v1 m ρ c))) (W6_args m ρ c main_arg9 (by decide))) (v7 m ρ c)))
theorem v8_1 : W7 m ρ c (Proc.devRef .tc main_v8_1) = T5s m c :=
  (W7_arr m ρ c 10).trans ((R4.final10 (V6 m ρ) c).trans (congr (congr (congr (congr (congr (congr (congr (congr (congrArg Attention.res1 ((W6_of m ρ c main_v6_0 (by decide)).trans (v6_0 m ρ c))) ((W6_of m ρ c main_v6_1 (by decide)).trans (v6_1 m ρ c))) ((W6_of m ρ c main_v6_2 (by decide)).trans (v6_2 m ρ c))) ((keep6_3 m ρ c main_v4_0 (by decide +kernel) (by decide +kernel) (by decide)).trans (v4_0 m ρ c))) ((keep6_3 m ρ c main_v4_1 (by decide +kernel) (by decide +kernel) (by decide)).trans (v4_1 m ρ c))) ((keep6_3 m ρ c main_v4_2 (by decide +kernel) (by decide +kernel) (by decide)).trans (v4_2 m ρ c))) ((keep6_1 m ρ c main_v1 (by decide +kernel) (by decide +kernel) (by decide +kernel) (by decide +kernel) (by decide)).trans (v1 m ρ c))) (W6_args m ρ c main_arg9 (by decide))) (v7 m ρ c)))
theorem v8_2 : W7 m ρ c (Proc.devRef .tc main_v8_2) = T5q m c :=
  (W7_arr m ρ c 11).trans ((R4.final11 (V6 m ρ) c).trans (congr (congr (congr (congr (congr (congr (congr (congr (congrArg Attention.res2 ((W6_of m ρ c main_v6_0 (by decide)).trans (v6_0 m ρ c))) ((W6_of m ρ c main_v6_1 (by decide)).trans (v6_1 m ρ c))) ((W6_of m ρ c main_v6_2 (by decide)).trans (v6_2 m ρ c))) ((keep6_3 m ρ c main_v4_0 (by decide +kernel) (by decide +kernel) (by decide)).trans (v4_0 m ρ c))) ((keep6_3 m ρ c main_v4_1 (by decide +kernel) (by decide +kernel) (by decide)).trans (v4_1 m ρ c))) ((keep6_3 m ρ c main_v4_2 (by decide +kernel) (by decide +kernel) (by decide)).trans (v4_2 m ρ c))) ((keep6_1 m ρ c main_v1 (by decide +kernel) (by decide +kernel) (by decide +kernel) (by decide +kernel) (by decide)).trans (v1 m ρ c))) (W6_args m ρ c main_arg9 (by decide))) (v7 m ρ c)))

/-! ## Call 5 -/

theorem v9 : W8 m ρ c (Proc.devRef .tc main_v9) = Out m c :=
  (W8_arr m ρ c 4).trans ((R5.final (V7 m ρ) c).trans (id (α := _ = Residual.out (x0 m c) (T5 m c) (T5s m c) (T5q m c)) (congr (congr (congr (congrArg Residual.out (W7_args m ρ c main_arg0 (by decide))) (v8_0 m ρ c)) (v8_1 m ρ c)) (v8_2 m ρ c))))

/-! ## The result -/

theorem v10 : W9 m ρ c (Proc.devRef .tc main_v10)
    = shapeCast S2x4096x128 (Out m c) shapeCasts_S8192x128_S2x4096x128 := by
  rw [← v9 m ρ c]
  show StableHlo.after hostOps6 (W8 m ρ c) (Proc.devRef .tc main_v10) = _
  simp only [hostOps6]
  after_results
  rfl

end Cert.Proof.After.Kernel

end
-- ==== Proof.After.Run.lean ====
/-
  The run of the calls after the gathers, with the array it ends with.
-/
module

public import proofs.«01_k».proof.Proof.Gen.AfterIdeal.Frame
public import Idealize.ShloMosaic.PureOps.Ideal

@[expose] public section

set_option maxRecDepth 16384

noncomputable section

namespace Cert.Proof.After

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AfterIdeal Cert.AfterIdeal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every run ends, its result at the last boundary's contents and the arguments as launched. -/
theorem run : θ_run defs (onTc (τ := τ) (main (F := Ideal))) ⟨m, fun _ => 0, ρ⟩ (fun r => ∀ c : Dev nD,
      r.2.mem ((c.tc : Thread nD τ).loc main_v10) = W9 m ρ c (Proc.devRef .tc main_v10)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h _ => fun c =>
      ⟨(h c _ (mem_uc main_v10 (by decide))),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c)⟩)

end Cert.Proof.After

end
-- ==== Proof.After.lean ====
/-
  The calls after the gathers, in sequence. The kernel normalizes from sums and sums of squares accumulated tile by tile,
  with a reciprocal square root; the reference by means of centred values, with a square root and a quotient. On real
  arguments the two agree at every one of the five normalizations, and so to the end.
-/
module

public import proofs.«01_k».proof.Defs
public import proofs.«01_k».proof.Proof.Grid
public import proofs.«01_k».proof.Proof.After.Finite
public import proofs.«01_k».proof.Proof.After.Kernel
public import proofs.«01_k».proof.Proof.After.Run
public import proofs.«01_k».proof.Proof.Gen.After.Frame
public import proofs.«01_k».proof.Proof.Gen.AfterIdeal.Frame
public import proofs.«01_k».proof.Proof.Gen.AfterRefIdeal.Run
public import proofs.«01_k».proof.Proof.Gen.AfterRefIdeal.Read
public import Idealize.ShloMosaic.Lib.Claim
public import Idealize.ShloMosaic.Lib.Quiescent

@[expose] public section

noncomputable section

namespace Cert.Proof.After

open Idealize.ShloMosaic Idealize.ShloMosaic.TcCoe Idealize.SL.Sem

/-- On what the precondition takes the reference ends with the kernel's result. -/
theorem result (x0 : Cert.Pre_finite_after.S8192x128.Idx → EReal) (x1 : Cert.Pre_finite_after.S8192x128.Idx → EReal) (x2 : Cert.Pre_finite_after.S131072x128.Idx → EReal) (x3 : Cert.Pre_finite_after.S8192x128.Idx → EReal) (x4 : Cert.Pre_finite_after.S131072x128.Idx → EReal) (x5 : Cert.Pre_finite_after.S131072x128.Idx → EReal) (x6 : Cert.Pre_finite_after.S128x128.Idx → EReal) (x7 : Cert.Pre_finite_after.S128x128.Idx → EReal) (x8 : Cert.Pre_finite_after.S128x128.Idx → EReal) (x9 : Cert.Pre_finite_after.S128x128.Idx → EReal) (x10 : Cert.Pre_finite_after.S128.Idx → EReal)
    (h : Cert.Pre_finite_after.fn (F := Ideal) x0 x1 x2 x3 x4 x5 x6 x7 x8 x9 x10 = fun _ => 1#1) :
    Cert.AfterRefIdeal.Read.val_main_v94 (F := Ideal) x0 x1 x2 x3 x4 x5 x6 x7 x8 x9 x10
      = shapeCast Cert.AfterIdeal.S2x4096x128 (rows x0 x1 x3 (cut x2) (cut x4) (cut x5) x6 x7 x8 x9 (row x10)) Cert.AfterIdeal.Gen.shapeCasts_S8192x128_S2x4096x128 := by
  obtain ⟨h1, h2, h3, h4, h5, h6, h7, h8, h9, h10⟩ := real_of_pre x0 x1 x2 x3 x4 x5 x6 x7 x8 x9 x10 h
  rw [← ref93 x0 x1 x2 x3 x4 x5 x6 x7 x8 x9 x10 h1 (fun _ => h2 _) h3 (fun _ => h4 _) (fun _ => h5 _) h6 h7 h8 h9 h10]
  rfl

/-- Over exact values and from real arguments, the kernel's result is the reference's. -/
theorem equal : Cert.algebraic_AfterIdeal_AfterRefIdeal_pre_finite_after := by
  intro m g m' g' hpre hagree
  refine ⟨fun c => shapeCast Cert.AfterIdeal.S2x4096x128 (rows (m (c.tc.loc Cert.AfterIdeal.main_arg0)) (m (c.tc.loc Cert.AfterIdeal.main_arg1)) (m (c.tc.loc Cert.AfterIdeal.main_arg3))
    (cut (m (c.tc.loc Cert.AfterIdeal.main_arg2))) (cut (m (c.tc.loc Cert.AfterIdeal.main_arg4))) (cut (m (c.tc.loc Cert.AfterIdeal.main_arg5)))
    (m (c.tc.loc Cert.AfterIdeal.main_arg6)) (m (c.tc.loc Cert.AfterIdeal.main_arg7)) (m (c.tc.loc Cert.AfterIdeal.main_arg8)) (m (c.tc.loc Cert.AfterIdeal.main_arg9))
    (row (m (c.tc.loc Cert.AfterIdeal.main_arg10)))) Cert.AfterIdeal.Gen.shapeCasts_S8192x128_S2x4096x128, ?_, ?_⟩
  · exact (θ_run _ _ _).mono (fun _ h c => ⟨(h c).1.trans (Kernel.v10 m g c), (h c).2⟩) (run m g)
  · refine (θ_run _ _ _).mono (fun _ h c => ⟨(h c).1.trans ?_, (h c).2⟩) (Cert.AfterRefIdeal.Value.run (F := Ideal) m' g')
    refine (Cert.AfterRefIdeal.Read.val_main_v94_eq _).trans ?_
    obtain ⟨e0, e1, e2, e3, e4, e5, e6, e7, e8, e9, e10⟩ := hagree c
    exact (congr (congr (congr (congr (congr (congr (congr (congr (congr (congr (congrArg (Cert.AfterRefIdeal.Read.val_main_v94 (F := Ideal)) e0) e1) e2) e3) e4) e5) e6) e7) e8) e9) e10).trans (result _ _ _ _ _ _ _ _ _ _ _ (hpre c))

/-- The reference runs, keeps its arguments and ends with its counters at zero. -/
theorem frame_reference : Cert.quiescent_AfterRefIdeal := fun m ρ _ =>
  (θ_run Cert.AfterRefIdeal.defs _ _).mono (fun r h => ⟨fun c => (h c).2, sem_eq_zero_of_no_sems (by decide) r.2⟩)
    (Cert.AfterRefIdeal.Value.run (F := Ideal) m ρ)

end Cert.Proof.After

end
-- ==== Proof.Before.Finite.lean ====
/-
  What the precondition says: every entry of the first four arguments is a real number.
-/
module

public import proofs.«01_k».proof.Defs
public import proofs.«01_k».proof.Proof.After.Finite
public import proofs.«01_k».proof.Proof.Gen.Pre_finite_before

@[expose] public section

noncomputable section

namespace Cert.Proof.Before

open Idealize.ShloMosaic Cert.Pre_finite_before

instance : Subsingleton S_.Idx := ⟨fun a b => funext fun i => i.elim0⟩

theorem real_of_pre (x0 : S2x4096x3.Idx → EReal) (x1 : S2x4096x128.Idx → EReal) (x2 : S128x128.Idx → EReal) (x3 : S128.Idx → EReal) (x4 : S128x128.Idx → EReal) (x5 : S128x128.Idx → EReal) (x6 : S128x128.Idx → EReal) (x7 : S3x128.Idx → EReal)
    (h : fn (F := Ideal) x0 x1 x2 x3 x4 x5 x6 x7 = fun _ => 1#1) :
    (∀ i, Grid.IsReal (x0 i)) ∧ (∀ i, Grid.IsReal (x1 i)) ∧ (∀ i, Grid.IsReal (x2 i)) ∧ (∀ i, Grid.IsReal (x3 i)) := by
  have e := congrFun h (fun i => i.elim0)
  obtain ⟨a3, e⟩ := IntOp.andi_eq_one.1 e
  obtain ⟨a2, e⟩ := IntOp.andi_eq_one.1 e
  obtain ⟨a1, e⟩ := IntOp.andi_eq_one.1 e
  obtain ⟨a0, e⟩ := IntOp.andi_eq_one.1 e
  exact ⟨fun i => After.real_of_lt _ (Host.reduce_andi_all _ _ _ _ _ a0 i), fun i => After.real_of_lt _ (Host.reduce_andi_all _ _ _ _ _ a1 i), fun i => After.real_of_lt _ (Host.reduce_andi_all _ _ _ _ _ a2 i), fun i => After.real_of_lt _ (Host.reduce_andi_all _ _ _ _ _ a3 i)⟩

end Cert.Proof.Before

end
-- ==== Proof.Before.Reference.lean ====
/-
  What precedes the gathers: the arrays the calls are launched on, and the reference's normalised features, which on real
  arguments are the kernel's.
-/
module

public import proofs.«01_k».proof.Proof.After.Reference
public import proofs.«01_k».proof.Proof.Nearest
public import proofs.«01_k».proof.Proof.Top
public import proofs.«01_k».proof.Proof.Project
public import proofs.«01_k».proof.Proof.Gen.BeforeIdeal.Frame
public import proofs.«01_k».proof.Proof.Gen.BeforeRefIdeal.Read
public import Idealize.ShloMosaic.Lib.Pipeline.ValueKit.Point

@[expose] public section

noncomputable section

namespace Cert.Proof.Before

open Idealize.ShloMosaic Idealize.ShloMosaic.TcCoe Idealize.SL.Sem
open Cert.BeforeRefIdeal Cert.BeforeRefIdeal.Gen Cert.BeforeRefIdeal.Read
open Cert.Proof.Grid (IsReal centred norm)
open Cert.Proof.After (perRow row)
open scoped BigOperators

/-! ## The arrays the calls are launched on, of the arguments -/

/-- The coordinates, padded to eight columns. -/
def padded (x : FVec Ideal S2x4096x3 .f32) : FVec Ideal Cert.BeforeIdeal.S2x4096x8 .f32 :=
  pad Cert.BeforeIdeal.S2x4096x8 ![0, 0, 0] ![0, 0, 5] ![0, 0, 0] x (sitofp .f32 (constantI Cert.BeforeIdeal.S_ 32 0#32) : FVec Ideal Cert.BeforeIdeal.S_ .f32)
    Cert.BeforeIdeal.Gen.pads_S2x4096x3_S2x4096x8_000_000_050 Cert.BeforeIdeal.Gen.h_S_
/-- Those, a point to a row. -/
def points (x : FVec Ideal S2x4096x3 .f32) : FVec Ideal Cert.BeforeIdeal.S8192x8 .f32 :=
  shapeCast _ (padded x) Cert.BeforeIdeal.Gen.shapeCasts_S2x4096x8_S8192x8
/-- The features, a point to a row. -/
def flat (x : FVec Ideal S2x4096x128 .f32) : FVec Ideal S8192x128 .f32 := shapeCast _ x shapeCasts_S2x4096x128_S8192x128
/-- The position weights, padded to eight rows. -/
def tall (w : FVec Ideal S3x128 .f32) : FVec Ideal Cert.BeforeIdeal.S8x128 .f32 :=
  pad Cert.BeforeIdeal.S8x128 ![0, 0] ![5, 0] ![0, 0] w (sitofp .f32 (constantI Cert.BeforeIdeal.S_ 32 0#32) : FVec Ideal Cert.BeforeIdeal.S_ .f32)
    Cert.BeforeIdeal.Gen.pads_S3x128_S8x128_050_000 Cert.BeforeIdeal.Gen.h_S_

/-- The two halves of the points: a row's batch, and its place in the batch. -/
def halves : Fin 8192 ≃ Fin 2 × Fin 4096 := (finProdFinEquiv (m := 2) (n := 4096)).symm

theorem halves_fst (n : Fin 8192) : (halves n).1.val = n.val / 4096 := rfl
theorem halves_snd (n : Fin 8192) : (halves n).2.val = n.val % 4096 := rfl

theorem flat_apply (x : FVec Ideal S2x4096x128 .f32) (n : Fin 8192) (h : Fin 128) :
    flat x (ix2 n h) = x (ix3 (halves n).1 (halves n).2 h) := by
  refine shapeCast_apply x shapeCasts_S2x4096x128_S8192x128 (ix2 n h) (ix3 (halves n).1 (halves n).2 h) ?_
  rewrite [Shape.rowMajor_val_three, Shape.rowMajor_val_two]
  show (n.val / 4096 * 4096 + n.val % 4096) * 128 + h.val = n.val * 128 + h.val
  omega

theorem points_apply (x : FVec Ideal S2x4096x3 .f32) (n : Fin 8192) (k : Fin 8) :
    points x (ix2 n k) = Nearest.wide x (halves n).1 (halves n).2 k := by
  refine (shapeCast_apply (padded x) Cert.BeforeIdeal.Gen.shapeCasts_S2x4096x8_S8192x8 (ix2 n k) (ix3 (halves n).1 (halves n).2 k) ?_).trans
    (Nearest.wide_pad x _ _ k)
  rewrite [Shape.rowMajor_val_three, Shape.rowMajor_val_two]
  show (n.val / 4096 * 4096 + n.val % 4096) * 8 + k.val = n.val * 8 + k.val
  omega

theorem tall_apply (w : FVec Ideal S3x128 .f32) (k : Fin 3) (h : Fin 128) :
    tall w (ix2 (k.castLE (by decide)) h) = w (ix2 k h) := by
  pointwise [tall]
  rw [dif_pos (show (k.castLE (by decide) : Fin 8).val < 3 from k.isLt)]
  rfl

/-- The centred form is indifferent to how its places are counted. -/
theorem centred_equiv {ι ι' : Type*} [Fintype ι] [Fintype ι'] (κ : EReal) (e : ι ≃ ι') (f : ι' → EReal) (i : ι) :
    centred κ (fun i => f (e i)) i = centred κ f (e i) := by
  unfold centred
  rw [Equiv.sum_comp e f, Equiv.sum_comp e fun i => (f i - (∑ i, f i) * κ) * (f i - (∑ i, f i) * κ)]

/-! ## The normalisation the reference writes -/

section Norm

variable (f : FVec Ideal S2x4096x128 .f32) (wt : FVec Ideal S128x128 .f32) (bt : FVec Ideal S128 .f32)

theorem ref3 (b : Fin 2) (n : Fin 4096) (h : Fin 128) :
    val_main_v3 (F := Ideal) f wt bt (ix3 b n h) = (∑ i : Fin 128, f (ix3 b n i) * wt (ix2 i h) : EReal) + bt (ix1 h) := by
  pointwise [val_main_v3, val_main_v2, val_main_v1, val_main_v0]

theorem mean_apply (a b : Fin 1) (h : Fin 128) : val_main_v7 (F := Ideal) f wt bt (ix3 a b h)
    = (∑ b : Fin 2, ∑ n : Fin 4096, val_main_v3 (F := Ideal) f wt bt (ix3 b n h) : EReal) * perRow := by
  have e : val_main_v7 (F := Ideal) f wt bt (ix3 a b h)
      = Ideal.div (Ideal.hostReduceAdd reducesTo_S2x4096x128_S128_d0_1 (val_main_v3 (F := Ideal) f wt bt) (Ideal.ofBits .f32 0x00000000#32) (ix1 h))
        (Ideal.ofBits .f32 0x46000000#32) := by
    pointwise [val_main_v7, val_main_v6, val_main_v5, val_main_v4, val_main_cst, val_main_cst_0]
  rw [e, Grid.host_sum_two, Grid.div_rows, After.word_zero, zero_add]
  rfl

theorem off_apply (b : Fin 2) (n : Fin 4096) (h : Fin 128) : val_main_v10 (F := Ideal) f wt bt (ix3 b n h)
    = (val_main_v3 (F := Ideal) f wt bt (ix3 b n h) - (∑ b : Fin 2, ∑ n : Fin 4096, val_main_v3 (F := Ideal) f wt bt (ix3 b n h)) * perRow : EReal) := by
  rw [← mean_apply f wt bt 0 0 h]
  pointwise [val_main_v10, val_main_v9]

theorem count_pos (i : S_.Idx) : val_main_call0_v13 (F := Ideal) i = 1#1 := After.countR_pos i

theorem var_apply (a b : Fin 1) (h : Fin 128) : val_main_v8 (F := Ideal) f wt bt (ix3 a b h)
    = (∑ b : Fin 2, ∑ n : Fin 4096, val_main_v10 (F := Ideal) f wt bt (ix3 b n h) * val_main_v10 (F := Ideal) f wt bt (ix3 b n h) : EReal) * perRow := by
  unfold val_main_v8
  show Scalar.select (broadcastInDim S1x1x128 ![] bcast_S_S1x1x128 (val_main_call0_v13 (F := Ideal)) (ix3 a b h)) _ _ = _
  rw [show broadcastInDim S1x1x128 ![] bcast_S_S1x1x128 (val_main_call0_v13 (F := Ideal)) (ix3 a b h) = 1#1 from count_pos _]
  refine (if_pos rfl).trans ?_
  have e : val_main_call0_v12 (F := Ideal) f wt bt (ix3 a b h)
      = Ideal.div (Ideal.hostReduceAdd reducesTo_S2x4096x128_S128_d0_1 (val_main_call0_v6 (F := Ideal) f wt bt) (Ideal.ofBits .f32 0x00000000#32) (ix1 h))
        (val_main_call0_v8 (F := Ideal) (fun a => a.elim0)) := by
    pointwise [val_main_call0_v12, val_main_call0_v11, val_main_call0_v10, val_main_call0_v9, val_main_call0_cst_2]
    rfl
  rw [e, show val_main_call0_v8 (F := Ideal) (fun a => a.elim0) = Ideal.ofBits .f32 0x46000000#32 from After.countR_apply _,
    Grid.host_sum_two, Grid.div_rows, After.word_zero, zero_add]
  rfl

theorem bn_apply (b : Fin 2) (n : Fin 4096) (h : Fin 128) : val_main_v15 (F := Ideal) f wt bt (ix3 b n h)
    = centred perRow (fun p : Fin 2 × Fin 4096 => val_main_v3 (F := Ideal) f wt bt (ix3 p.1 p.2 h)) (b, n) := by
  have e : val_main_v15 (F := Ideal) f wt bt (ix3 b n h) = Ideal.div (val_main_v10 (F := Ideal) f wt bt (ix3 b n h))
      (Ideal.sqrt (val_main_v8 (F := Ideal) f wt bt (ix3 0 0 h) + Ideal.ofBits .f32 0x3727C5AC#32)) := by
    pointwise [val_main_v15, val_main_v14, val_main_v13, val_main_v12, val_main_v11, val_main_cst_1]
  unfold centred
  rw [e, var_apply]
  simp only [off_apply]
  rw [Fintype.sum_prod_type, Fintype.sum_prod_type]

/-- The kernel's top product is the reference's, a point to a row. -/
theorem top_val (n : Fin 8192) (h : Fin 128) :
    Top.val (flat f) wt (row bt) n h = val_main_v3 (F := Ideal) f wt bt (ix3 (halves n).1 (halves n).2 h) := by
  rw [ref3]
  unfold Top.val
  simp only [flat_apply]
  rfl

/-- On real values the kernel's normalised features are the reference's. -/
theorem norm_top (hf : ∀ i, IsReal (f i)) (hw : ∀ i, IsReal (wt i)) (hb : ∀ i, IsReal (bt i)) (n : Fin 8192) (h : Fin 128) :
    norm perRow (Top.res0 (flat f) wt (row bt) (ix2 n h)) (Top.res1 (flat f) wt (row bt) (ix2 0 h)) (Top.res2 (flat f) wt (row bt) (ix2 0 h))
      = val_main_v15 (F := Ideal) f wt bt (ix3 (halves n).1 (halves n).2 h) := by
  show norm perRow (Top.val (flat f) wt (row bt) n h) (∑ n, Top.val (flat f) wt (row bt) n h)
    (∑ n, Top.val (flat f) wt (row bt) n h * Top.val (flat f) wt (row bt) n h) = _
  rw [← After.norm_rows (fun n => Top.val (flat f) wt (row bt) n h) (fun n => ?_) n, bn_apply]
  · simp only [top_val]
    exact centred_equiv perRow halves (fun p => val_main_v3 (F := Ideal) f wt bt (ix3 p.1 p.2 h)) n
  · rw [top_val, ref3]
    exact (IsReal.sum _ fun i => (hf _).mul (hw _)).add (hb _)

end Norm

/-! ## The reference's results -/

section Results

variable (x : FVec Ideal S2x4096x3 .f32) (f : FVec Ideal S2x4096x128 .f32) (wt : FVec Ideal S128x128 .f32) (bt : FVec Ideal S128 .f32)
  (w5 w6 w7 : FVec Ideal S128x128 .f32) (wd : FVec Ideal S3x128 .f32)

/-- The four tables. -/
def phi : S8192x128.Idx → EReal := Project.res0 (Top.res0 (flat f) wt (row bt)) (Top.res1 (flat f) wt (row bt)) (Top.res2 (flat f) wt (row bt)) (points x) w5 w6 w7 (tall wd)
def psi : S8192x128.Idx → EReal := Project.res1 (Top.res0 (flat f) wt (row bt)) (Top.res1 (flat f) wt (row bt)) (Top.res2 (flat f) wt (row bt)) (points x) w5 w6 w7 (tall wd)
def alf : S8192x128.Idx → EReal := Project.res2 (Top.res0 (flat f) wt (row bt)) (Top.res1 (flat f) wt (row bt)) (Top.res2 (flat f) wt (row bt)) (points x) w5 w6 w7 (tall wd)
def pos : S8192x128.Idx → EReal := Project.res3 (Top.res0 (flat f) wt (row bt)) (Top.res1 (flat f) wt (row bt)) (Top.res2 (flat f) wt (row bt)) (points x) w5 w6 w7 (tall wd)

variable (hf : ∀ i, IsReal (f i)) (hw : ∀ i, IsReal (wt i)) (hb : ∀ i, IsReal (bt i))

include hf hw hb in
theorem phi_eq : val_main_v17 (F := Ideal) f wt bt w5 = phi x f wt bt w5 w6 w7 wd := by
  funext j
  obtain ⟨n, o, rfl⟩ : ∃ (n : Fin 8192) (o : Fin 128), j = ix2 n o := ⟨j 0, j 1, by funext a; fin_cases a <;> rfl⟩
  have e : val_main_v17 (F := Ideal) f wt bt w5 (ix2 n o) = val_main_v16 (F := Ideal) f wt bt w5 (ix3 (halves n).1 (halves n).2 o) :=
    flat_apply _ n o
  rw [e]
  pointwise [val_main_v16]
  show _ = ∑ h : Fin 128, norm perRow (Top.res0 (flat f) wt (row bt) (ix2 n h)) (Top.res1 (flat f) wt (row bt) (ix2 0 h))
    (Top.res2 (flat f) wt (row bt) (ix2 0 h)) * w5 (ix2 h o)
  simp only [norm_top f wt bt hf hw hb]

include hf hw hb in
theorem psi_eq : val_main_v19 (F := Ideal) f wt bt w6 = psi x f wt bt w5 w6 w7 wd := phi_eq x f wt bt w6 w6 w7 wd hf hw hb

include hf hw hb in
theorem alf_eq : val_main_v21 (F := Ideal) f wt bt w7 = alf x f wt bt w5 w6 w7 wd := phi_eq x f wt bt w7 w6 w7 wd hf hw hb

theorem pos_eq : val_main_v23 (F := Ideal) x wd = pos x f wt bt w5 w6 w7 wd := by
  funext j
  obtain ⟨n, o, rfl⟩ : ∃ (n : Fin 8192) (o : Fin 128), j = ix2 n o := ⟨j 0, j 1, by funext a; fin_cases a <;> rfl⟩
  have e : val_main_v23 (F := Ideal) x wd (ix2 n o) = val_main_v22 (F := Ideal) x wd (ix3 (halves n).1 (halves n).2 o) :=
    flat_apply _ n o
  rw [e]
  pointwise [val_main_v22]
  show _ = points x (ix2 n 0) * tall wd (ix2 0 o) + points x (ix2 n 1) * tall wd (ix2 1 o) + points x (ix2 n 2) * tall wd (ix2 2 o)
  have t0 := tall_apply wd 0 o
  have t1 := tall_apply wd 1 o
  have t2 := tall_apply wd 2 o
  have p : ∀ k : Fin 3, points x (ix2 n (k.castLE (by decide))) = x (ix3 (halves n).1 (halves n).2 k) := fun k => by
    rw [points_apply]
    exact dif_pos k.isLt
  rw [Fin.sum_univ_three, ← p 0, ← p 1, ← p 2, ← t0, ← t1, ← t2]
  rfl

/-- On finite coordinates the reference's list is the kernel's. -/
theorem list_eq (hx : ∀ i, IsReal (x i)) :
    val_main_v42 (F := Ideal) x = shapeCast S131072 (Nearest.out x) shapeCasts_S2x4096x16_S131072 := by
  rw [← Nearest.ref_out x fun i => (hx i).ne]
  rfl

end Results

end Cert.Proof.Before

end
-- ==== Proof.Before.Region0.lean ====
/-
  Call 0 before the gathers, the neighbour search: its array after the last tile, from contents of its inputs that read as the
  widened coordinates and as those with the last two axes swapped.
-/
module

public import proofs.«01_k».proof.Proof.Nearest
public import proofs.«01_k».proof.Proof.Gen.BeforeIdeal.Frame

@[expose] public section

noncomputable section

namespace Cert.Proof.Before.R0

open Idealize.ShloMosaic Idealize.ShloMosaic.TcCoe Idealize.SL.Sem
open Cert.BeforeIdeal Cert.BeforeIdeal.Gen
open Cert.Proof.Nearest (wide dist pick after)

variable (V : (c : Dev nD) → (b : Ref sig .tc) → Buf (Elt Ideal) ((c : Thread nD τ).loc b))

/-- The tile is the single call's. -/
theorem tile_eq (i : grid0.Coords) (x0 : Vec Ideal S1x512x8 .f32) (x1 : Vec Ideal S1x8x4096 .f32) :
    out0_2 i x0 x1 = Cert.NearestIdeal.Gen.out0_2 i x0 x1 := rfl

/-- Where the windows of point `t` start, and the batch it is of. -/
theorem idx0 : ∀ t : Fin cfg0.N, win0_0.index t = ![t.val / 8, t.val % 8, 0] :=
  (by decide +kernel : ∀ t : Fin grid0.N, win0_0.index t = ![t.val / 8, t.val % 8, 0])
theorem idx1 : ∀ t : Fin cfg0.N, win0_1.index t = ![t.val / 8, 0, 0] :=
  (by decide +kernel : ∀ t : Fin grid0.N, win0_1.index t = ![t.val / 8, 0, 0])
theorem idx2 : ∀ t : Fin cfg0.N, win0_2.index t = ![t.val / 8, t.val % 8, 0] :=
  (by decide +kernel : ∀ t : Fin grid0.N, win0_2.index t = ![t.val / 8, t.val % 8, 0])
theorem batch : ∀ t : Fin cfg0.N, (grid0.coords t 0).val = t.val / 8 :=
  (by decide +kernel : ∀ t : Fin grid0.N, (grid0.coords t 0).val = t.val / 8)

variable (c : Dev nD) (x : S2x4096x3.Idx → EReal)
  (h0 : ∀ (b : Fin 2) (n : Fin 4096) (k : Fin 8), (V c (Pipeline.arrRef spec0 0) : S2x4096x8.Idx → EReal) (ix3 b n k) = wide x b n k)
  (h1 : ∀ (b : Fin 2) (n : Fin 4096) (k : Fin 8), (V c (Pipeline.arrRef spec0 1) : S2x8x4096.Idx → EReal) (ix3 b k n) = wide x b n k)

include h0 in
/-- The blocks of point `t`: 512 widened points, and all the points of the batch. -/
theorem block0 (t : Fin cfg0.N) (b : Fin 2) (hb : b.val = t.val / 8) (r : Fin 512) (n : Fin 4096)
    (hn : n.val = t.val % 8 * 512 + r.val) (k : Fin 8) :
    (iblk0 V c 0 t : S1x512x8.Idx → EReal) (ix3 0 r k) = wide x b n k := by
  rw [← h0]
  show V c main_v0 ((win0_0.blk t).view.emb (ix3 0 r k)) = _
  refine congrArg (V c main_v0) (funext fun a => Fin.ext ?_)
  match a with
  | ⟨0, _⟩ => blk_simp [idx0 t]; omega
  | ⟨1, _⟩ => blk_simp [idx0 t]; omega
  | ⟨2, _⟩ => blk_simp [idx0 t]; try omega

include h1 in
theorem block1 (t : Fin cfg0.N) (b : Fin 2) (hb : b.val = t.val / 8) (k : Fin 8) (j : Fin 4096) :
    (iblk0 V c 1 t : S1x8x4096.Idx → EReal) (ix3 0 k j) = wide x b j k := by
  rw [← h1]
  show V c main_v1 ((win0_1.blk t).view.emb (ix3 0 k j)) = _
  refine congrArg (V c main_v1) (funext fun a => Fin.ext ?_)
  match a with
  | ⟨0, _⟩ => blk_simp [idx1 t]; omega
  | ⟨1, _⟩ => blk_simp [idx1 t]; try omega
  | ⟨2, _⟩ => blk_simp [idx1 t]; try omega

include h0 h1 in
/-- The kernel's array after the last tile. -/
theorem final : (dat0 V c).arrAt 2 cfg0.N = Nearest.out x := by
  refine (dat0 V c).arrAt_eq_of_covers 2 _ (by decide +kernel) fun t hf y => ?_
  blk_simp
  rw [after0_2, tile_eq, Nearest.out_eq _ _ _ _ rfl]; frame_out
  pointwise [Cert.NearestIdeal.Gen.k0_pay9]
  generalize hJ : ((View.whole main_v2).slice (win0_2.rect t)).emb y = J
  have J0 : (J 0).val = t.val / 8 := by subst hJ; blk_simp [idx2 t]
  have J1 : (J 1).val = t.val % 8 * 512 + (y 1).val := by subst hJ; blk_simp [idx2 t]
  have J2 : (J 2).val = (y 2).val := by subst hJ; blk_simp [idx2 t]
  have hd : (fun j => Cert.NearestIdeal.Gen.k0_pay10 (F := Ideal) (iblk0 V c 0 t) (iblk0 V c 1 t) (ix2 (y 1) j)) = dist x (J 0) (J 1) :=
    funext fun j => Nearest.dist_read _ _ _ (J 0) (J 1) (y 1) (block0 V c x h0 t (J 0) J0 (y 1) (J 1) J1) (block1 V c x h1 t (J 0) J0) j
  generalize Cert.NearestIdeal.Gen.k0_pay10 (F := Ideal) (iblk0 V c 0 t) (iblk0 V c 1 t) = d at hd ⊢
  have hc := Nearest.col_read (fun k => pick (after k.val d))
    (Cert.NearestIdeal.Gen.k0_pay4 (iota .tc S512x4096 32 [1] Cert.NearestIdeal.Gen.iota_S512x4096_d1_w32) (after 15 d)) rfl (y 1) (y 2)
  refine congrArg₂ IntOp.addi (hc.trans ?_) ?_
  · refine (Nearest.pick_read _ _).trans (congrArg Rounds.pick ((Nearest.after_read d _ _).trans ?_))
    rw [J2]
    exact congrArg (Rounds.rounds · _) hd
  · rw [batch t, J0]
    rfl

end Cert.Proof.Before.R0

end
-- ==== Proof.Before.Region1.lean ====
/-
  Call 1 before the gathers, the top product: its arrays after the last tile, from any contents of its inputs.
-/
module

public import proofs.«01_k».proof.Proof.Top
public import proofs.«01_k».proof.Proof.Gen.BeforeIdeal.Frame

@[expose] public section

noncomputable section

namespace Cert.Proof.Before.R1

open Idealize.ShloMosaic Idealize.ShloMosaic.TcCoe Idealize.SL.Sem
open Cert.BeforeIdeal Cert.BeforeIdeal.Gen
open Cert.Proof.Top

variable (V : (c : Dev nD) → (b : Ref sig .tc) → Buf (Elt Ideal) ((c : Thread nD τ).loc b))

/-- Where the windows of point `t` start: a tile at tile `t`, an array held whole at its start. -/
theorem idx0 : ∀ t : Fin cfg1.N, win1_0.index t = ![t.val, 0] :=
  (by decide +kernel : ∀ t : Fin grid1.N, win1_0.index t = ![t.val, 0])
theorem idx1 : ∀ t : Fin cfg1.N, win1_1.index t = ![0, 0] :=
  (by decide +kernel : ∀ t : Fin grid1.N, win1_1.index t = ![0, 0])
theorem idx2 : ∀ t : Fin cfg1.N, win1_2.index t = ![0, 0] :=
  (by decide +kernel : ∀ t : Fin grid1.N, win1_2.index t = ![0, 0])
theorem idx3 : ∀ t : Fin cfg1.N, win1_3.index t = ![t.val, 0] :=
  (by decide +kernel : ∀ t : Fin grid1.N, win1_3.index t = ![t.val, 0])

/-- Result 0 after the last tile. -/
theorem final3 (c : Dev nD) : (dat1 V c).arrAt 3 cfg1.N
    = res0 (V c (Pipeline.arrRef spec1 0)) (V c (Pipeline.arrRef spec1 1)) (V c (Pipeline.arrRef spec1 2)) := by
  refine (dat1 V c).arrAt_eq_of_covers 3 _ (by decide +kernel) fun t hf y => ?_
  blk_simp
  rw [after1_3]
  by_cases h : t.val % 16 = 0
  · rw [outsAt1_A V c t h]; frame_out
    pointwise [k1_pay1, k1_pay2, k1_pay3, k1_pay4, k1_pay5, res0, val, Grid.norm]
    blk_point [iblk1, idx0 t, idx1 t, idx2 t, idx3 t]
  · rw [outsAt1_B V c t h]; frame_out
    pointwise [k1_pay1, k1_pay2, k1_pay3, k1_pay4, k1_pay5, res0, val, Grid.norm]
    blk_point [iblk1, idx0 t, idx1 t, idx2 t, idx3 t]

/-- Result 1 after the last tile. -/
theorem final4 (c : Dev nD) : (dat1 V c).arrAt 4 cfg1.N
    = res1 (V c (Pipeline.arrRef spec1 0)) (V c (Pipeline.arrRef spec1 1)) (V c (Pipeline.arrRef spec1 2)) := by
  refine (dat1 V c).arrAt_eq_of_after_last 4 t1_15 (by decide +kernel) _ fun j => ?_
  blk_simp
  rw [after1_4, Pipeline.eq_sum_fin_of_reset_step_apply_last (fun n h => (outsAt1 V c n h).2.1) 16 (fun _ => 0) _
    (fun t h j => by rw [outsAt1_A V c t h]; frame_out; pointwise [k1_pay1, k1_pay2, k1_pay3, k1_pay4, k1_pay5]; rfl)
    (fun t h j => by rw [outsAt1_B V c t h]; frame_out; pointwise [k1_pay1, k1_pay2, k1_pay3, k1_pay4, k1_pay5])
    (le_of_eq N_1) t1_15 rfl j, zero_add]
  refine Grid.sum_rows fun t r ht => ?_
  pointwise [val, Grid.norm]
  blk_point [iblk1, idx0 t, idx1 t, idx2 t]

/-- Result 2 after the last tile. -/
theorem final5 (c : Dev nD) : (dat1 V c).arrAt 5 cfg1.N
    = res2 (V c (Pipeline.arrRef spec1 0)) (V c (Pipeline.arrRef spec1 1)) (V c (Pipeline.arrRef spec1 2)) := by
  refine (dat1 V c).arrAt_eq_of_after_last 5 t1_15 (by decide +kernel) _ fun j => ?_
  blk_simp
  rw [after1_5, Pipeline.eq_sum_fin_of_reset_step_apply_last (fun n h => (outsAt1 V c n h).2.2) 16 (fun _ => 0) _
    (fun t h j => by rw [outsAt1_A V c t h]; frame_out; pointwise [k1_pay1, k1_pay2, k1_pay3, k1_pay4, k1_pay5]; rfl)
    (fun t h j => by rw [outsAt1_B V c t h]; frame_out; pointwise [k1_pay1, k1_pay2, k1_pay3, k1_pay4, k1_pay5])
    (le_of_eq N_1) t1_15 rfl j, zero_add]
  refine Grid.sum_rows fun t r ht => ?_
  pointwise [val, Grid.norm]
  blk_point [iblk1, idx0 t, idx1 t, idx2 t]

end Cert.Proof.Before.R1

end
-- ==== Proof.Before.Region2.lean ====
/-
  Call 2 before the gathers, the projections: its arrays after the last tile, from any contents of its inputs.
-/
module

public import proofs.«01_k».proof.Proof.Project
public import proofs.«01_k».proof.Proof.Gen.BeforeIdeal.Frame

@[expose] public section

noncomputable section

namespace Cert.Proof.Before.R2

open Idealize.ShloMosaic Idealize.ShloMosaic.TcCoe Idealize.SL.Sem
open Cert.BeforeIdeal Cert.BeforeIdeal.Gen
open Cert.Proof.Project

variable (V : (c : Dev nD) → (b : Ref sig .tc) → Buf (Elt Ideal) ((c : Thread nD τ).loc b))

/-- Where the windows of point `t` start: a tile at tile `t`, an array held whole at its start. -/
theorem idx0 : ∀ t : Fin cfg2.N, win2_0.index t = ![t.val, 0] :=
  (by decide +kernel : ∀ t : Fin grid2.N, win2_0.index t = ![t.val, 0])
theorem idx1 : ∀ t : Fin cfg2.N, win2_1.index t = ![0, 0] :=
  (by decide +kernel : ∀ t : Fin grid2.N, win2_1.index t = ![0, 0])
theorem idx2 : ∀ t : Fin cfg2.N, win2_2.index t = ![0, 0] :=
  (by decide +kernel : ∀ t : Fin grid2.N, win2_2.index t = ![0, 0])
theorem idx3 : ∀ t : Fin cfg2.N, win2_3.index t = ![t.val, 0] :=
  (by decide +kernel : ∀ t : Fin grid2.N, win2_3.index t = ![t.val, 0])
theorem idx4 : ∀ t : Fin cfg2.N, win2_4.index t = ![0, 0] :=
  (by decide +kernel : ∀ t : Fin grid2.N, win2_4.index t = ![0, 0])
theorem idx5 : ∀ t : Fin cfg2.N, win2_5.index t = ![0, 0] :=
  (by decide +kernel : ∀ t : Fin grid2.N, win2_5.index t = ![0, 0])
theorem idx6 : ∀ t : Fin cfg2.N, win2_6.index t = ![0, 0] :=
  (by decide +kernel : ∀ t : Fin grid2.N, win2_6.index t = ![0, 0])
theorem idx7 : ∀ t : Fin cfg2.N, win2_7.index t = ![0, 0] :=
  (by decide +kernel : ∀ t : Fin grid2.N, win2_7.index t = ![0, 0])
theorem idx8 : ∀ t : Fin cfg2.N, win2_8.index t = ![t.val, 0] :=
  (by decide +kernel : ∀ t : Fin grid2.N, win2_8.index t = ![t.val, 0])
theorem idx9 : ∀ t : Fin cfg2.N, win2_9.index t = ![t.val, 0] :=
  (by decide +kernel : ∀ t : Fin grid2.N, win2_9.index t = ![t.val, 0])
theorem idx10 : ∀ t : Fin cfg2.N, win2_10.index t = ![t.val, 0] :=
  (by decide +kernel : ∀ t : Fin grid2.N, win2_10.index t = ![t.val, 0])
theorem idx11 : ∀ t : Fin cfg2.N, win2_11.index t = ![t.val, 0] :=
  (by decide +kernel : ∀ t : Fin grid2.N, win2_11.index t = ![t.val, 0])

/-- Result 0 after the last tile. -/
theorem final8 (c : Dev nD) : (dat2 V c).arrAt 8 cfg2.N
    = res0 (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)) := by
  refine (dat2 V c).arrAt_eq_of_covers 8 _ (by decide +kernel) fun t hf y => ?_
  blk_simp
  rw [after2_8]
  frame_out
  pointwise [k2_pay1, k2_pay2, k2_pay3, k2_pay4, k2_pay5, k2_pay6, res0, pos, alf, psi, phi, Grid.norm]
  blk_point [iblk2, idx0 t, idx1 t, idx2 t, idx3 t, idx4 t, idx5 t, idx6 t, idx7 t, idx8 t]

/-- Result 1 after the last tile. -/
theorem final9 (c : Dev nD) : (dat2 V c).arrAt 9 cfg2.N
    = res1 (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)) := by
  refine (dat2 V c).arrAt_eq_of_covers 9 _ (by decide +kernel) fun t hf y => ?_
  blk_simp
  rw [after2_9]
  frame_out
  pointwise [k2_pay1, k2_pay2, k2_pay3, k2_pay4, k2_pay5, k2_pay6, res1, pos, alf, psi, phi, Grid.norm]
  blk_point [iblk2, idx0 t, idx1 t, idx2 t, idx3 t, idx4 t, idx5 t, idx6 t, idx7 t, idx9 t]

/-- Result 2 after the last tile. -/
theorem final10 (c : Dev nD) : (dat2 V c).arrAt 10 cfg2.N
    = res2 (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)) := by
  refine (dat2 V c).arrAt_eq_of_covers 10 _ (by decide +kernel) fun t hf y => ?_
  blk_simp
  rw [after2_10]
  frame_out
  pointwise [k2_pay1, k2_pay2, k2_pay3, k2_pay4, k2_pay5, k2_pay6, res2, pos, alf, psi, phi, Grid.norm]
  blk_point [iblk2, idx0 t, idx1 t, idx2 t, idx3 t, idx4 t, idx5 t, idx6 t, idx7 t, idx10 t]

/-- Result 3 after the last tile. -/
theorem final11 (c : Dev nD) : (dat2 V c).arrAt 11 cfg2.N
    = res3 (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)) := by
  refine (dat2 V c).arrAt_eq_of_covers 11 _ (by decide +kernel) fun t hf y => ?_
  blk_simp
  rw [after2_11]
  frame_out
  pointwise [k2_pay1, k2_pay2, k2_pay3, k2_pay4, k2_pay5, k2_pay6, res3, pos, alf, psi, phi, Grid.norm]
  blk_point [iblk2, idx0 t, idx1 t, idx2 t, idx3 t, idx4 t, idx5 t, idx6 t, idx7 t, idx11 t]

end Cert.Proof.Before.R2

end
-- ==== Proof.Before.Kernel.lean ====
/-
  What the calls before the gathers leave, one after the other, from the launch's arguments.
-/
module

public import proofs.«01_k».proof.Proof.Before.Reference
public import proofs.«01_k».proof.Proof.Before.Region0
public import proofs.«01_k».proof.Proof.Before.Region1
public import proofs.«01_k».proof.Proof.Before.Region2

@[expose] public section

noncomputable section

namespace Cert.Proof.Before.Kernel

open Idealize.ShloMosaic Idealize.ShloMosaic.TcCoe Idealize.SL.Sem
open Cert.BeforeIdeal Cert.BeforeIdeal.Gen
open Cert.Proof.After (row)

variable (m : (ℓ : Loc nD τ sig) → Buf (Elt Ideal) ℓ) (ρ : Dev nD → PrngReg) (c : Dev nD)

/-! ## The arguments -/

abbrev x0 : S2x4096x3.Idx → EReal := m (c.tc.loc main_arg0)
abbrev x1 : S2x4096x128.Idx → EReal := m (c.tc.loc main_arg1)
abbrev x2 : S128x128.Idx → EReal := m (c.tc.loc main_arg2)
abbrev x3 : S128.Idx → EReal := m (c.tc.loc main_arg3)
abbrev x4 : S128x128.Idx → EReal := m (c.tc.loc main_arg4)
abbrev x5 : S128x128.Idx → EReal := m (c.tc.loc main_arg5)
abbrev x6 : S128x128.Idx → EReal := m (c.tc.loc main_arg6)
abbrev x7 : S3x128.Idx → EReal := m (c.tc.loc main_arg7)

/-! ## What each call is launched on -/

theorem v0 : W2 m ρ c (Proc.devRef .tc main_v0) = padded (x0 m c) := by
  show StableHlo.after hostOps0_1 (W1 m ρ c) (Proc.devRef .tc main_v0) = _
  simp only [hostOps0_1]
  after_results
  rfl
theorem v0_3 : W3 m ρ c (Proc.devRef .tc main_v0) = padded (x0 m c) := (W3_of m ρ c main_v0 (by decide)).trans (v0 m ρ c)
theorem v1 : W3 m ρ c (Proc.devRef .tc main_v1) = transpose S2x8x4096 [0, 2, 1] (padded (x0 m c)) transposes_S2x4096x8_S2x8x4096_0_2_1 := by
  rw [← v0 m ρ c]
  show StableHlo.after hostOps0_2 (W2 m ρ c) (Proc.devRef .tc main_v1) = _
  simp only [hostOps0_2]
  after_results

/-! ## Call 0 -/

theorem v2 : W4 m ρ c (Proc.devRef .tc main_v2) = Nearest.out (x0 m c) := by
  refine (W4_arr m ρ c 2).trans (R0.final (V3 m ρ) c (x0 m c) (fun b n k => ?_) fun b n k => ?_)
  · exact (congrFun (v0_3 m ρ c) (ix3 b n k)).trans (Nearest.wide_pad _ b n k)
  · refine (congrFun (v1 m ρ c) (ix3 b k n)).trans (Eq.trans ?_ (Nearest.wide_pad _ b n k))
    pointwise [padded]

/-! ## The reshapes -/

theorem v3 : W5 m ρ c (Proc.devRef .tc main_v3) = shapeCast S131072 (Nearest.out (x0 m c)) shapeCasts_S2x4096x16_S131072 := by
  rw [← v2 m ρ c]
  show StableHlo.after hostOps1 (W4 m ρ c) (Proc.devRef .tc main_v3) = _
  simp only [hostOps1]
  after_results
  rfl
theorem v4 : W5 m ρ c (Proc.devRef .tc main_v4) = points (x0 m c) := by
  unfold points
  rw [← (W4_of m ρ c main_v0 (by decide +kernel)).trans (v0_3 m ρ c)]
  show StableHlo.after hostOps1 (W4 m ρ c) (Proc.devRef .tc main_v4) = _
  simp only [hostOps1]
  after_results
  rfl
theorem v5 : W5 m ρ c (Proc.devRef .tc main_v5) = flat (x1 m c) := by
  unfold flat
  rw [show x1 m c = W4 m ρ c (Proc.devRef .tc main_arg1) from (W4_args m ρ c main_arg1 (by decide)).symm]
  show StableHlo.after hostOps1 (W4 m ρ c) (Proc.devRef .tc main_v5) = _
  simp only [hostOps1]
  after_results
  rfl
theorem zero : W5 m ρ c (Proc.devRef .tc main_c_0) = constantI S_ 32 0#32 := by
  show StableHlo.after hostOps1 (W4 m ρ c) (Proc.devRef .tc main_c_0) = _
  simp only [hostOps1]
  after_results
theorem v6 : W6 m ρ c (Proc.devRef .tc main_v6) = tall (x7 m c) := by
  unfold tall
  rw [show x7 m c = W5 m ρ c (Proc.devRef .tc main_arg7) from (W5_args m ρ c main_arg7 (by decide)).symm, ← zero m ρ c]
  show StableHlo.after hostOps1_1 (W5 m ρ c) (Proc.devRef .tc main_v6) = _
  simp only [hostOps1_1]
  after_results
  rfl
theorem v7 : W7 m ρ c (Proc.devRef .tc main_v7) = row (x3 m c) := by
  have e : W7 m ρ c (Proc.devRef .tc main_v7) = shapeCast S1x128 (W6 m ρ c (Proc.devRef .tc main_arg3) : S128.Idx → EReal) shapeCasts_S128_S1x128 := by
    show StableHlo.after hostOps1_2 (W6 m ρ c) (Proc.devRef .tc main_v7) = _
    simp only [hostOps1_2]
    after_results
    rfl
  rw [e, W6_args m ρ c main_arg3 (by decide)]
  funext j
  obtain ⟨a, h, rfl⟩ : ∃ (a : Fin 1) (h : Fin 128), j = ix2 a h := ⟨j 0, j 1, by funext a; fin_cases a <;> rfl⟩
  pointwise [row]

/-- A buffer that the last two stretches leave alone. -/
theorem keep7 (r : Ref sig .tc) (h6 : r ∉ hostOps1_1_W) (h7 : r ∉ hostOps1_2_W) :
    W7 m ρ c (Proc.devRef .tc r) = W5 m ρ c (Proc.devRef .tc r) := (W7_of m ρ c r h7).trans (W6_of m ρ c r h6)

/-! ## Call 1 -/

abbrev T0 := Top.res0 (flat (x1 m c)) (x2 m c) (row (x3 m c))
abbrev T0s := Top.res1 (flat (x1 m c)) (x2 m c) (row (x3 m c))
abbrev T0q := Top.res2 (flat (x1 m c)) (x2 m c) (row (x3 m c))

theorem v8_0 : W8 m ρ c (Proc.devRef .tc main_v8_0) = T0 m c :=
  (W8_arr m ρ c 3).trans ((R1.final3 (V7 m ρ) c).trans (congr (congr (congrArg Top.res0 ((keep7 m ρ c main_v5 (by decide) (by decide)).trans (v5 m ρ c))) (W7_args m ρ c main_arg2 (by decide))) (v7 m ρ c)))
theorem v8_1 : W8 m ρ c (Proc.devRef .tc main_v8_1) = T0s m c :=
  (W8_arr m ρ c 4).trans ((R1.final4 (V7 m ρ) c).trans (congr (congr (congrArg Top.res1 ((keep7 m ρ c main_v5 (by decide) (by decide)).trans (v5 m ρ c))) (W7_args m ρ c main_arg2 (by decide))) (v7 m ρ c)))
theorem v8_2 : W8 m ρ c (Proc.devRef .tc main_v8_2) = T0q m c :=
  (W8_arr m ρ c 5).trans ((R1.final5 (V7 m ρ) c).trans (congr (congr (congrArg Top.res2 ((keep7 m ρ c main_v5 (by decide) (by decide)).trans (v5 m ρ c))) (W7_args m ρ c main_arg2 (by decide))) (v7 m ρ c)))

/-! ## Call 2 -/

theorem v4_8 : W8 m ρ c (Proc.devRef .tc main_v4) = points (x0 m c) :=
  (W8_of m ρ c main_v4 (by decide +kernel)).trans ((keep7 m ρ c main_v4 (by decide) (by decide)).trans (v4 m ρ c))
theorem v6_8 : W8 m ρ c (Proc.devRef .tc main_v6) = tall (x7 m c) :=
  (W8_of m ρ c main_v6 (by decide +kernel)).trans ((W7_of m ρ c main_v6 (by decide)).trans (v6 m ρ c))

theorem v9_0 : W9 m ρ c (Proc.devRef .tc main_v9_0) = phi (x0 m c) (x1 m c) (x2 m c) (x3 m c) (x4 m c) (x5 m c) (x6 m c) (x7 m c) :=
  (W9_arr m ρ c 8).trans ((R2.final8 (V8 m ρ) c).trans
    (id (α := _ = Project.res0 (T0 m c) (T0s m c) (T0q m c) (points (x0 m c)) (x4 m c) (x5 m c) (x6 m c) (tall (x7 m c)))
      (congr (congr (congr (congr (congr (congr (congr (congrArg Project.res0 (v8_0 m ρ c)) (v8_1 m ρ c)) (v8_2 m ρ c)) (v4_8 m ρ c)) (W8_args m ρ c main_arg4 (by decide))) (W8_args m ρ c main_arg5 (by decide))) (W8_args m ρ c main_arg6 (by decide))) (v6_8 m ρ c))))
theorem v9_1 : W9 m ρ c (Proc.devRef .tc main_v9_1) = psi (x0 m c) (x1 m c) (x2 m c) (x3 m c) (x4 m c) (x5 m c) (x6 m c) (x7 m c) :=
  (W9_arr m ρ c 9).trans ((R2.final9 (V8 m ρ) c).trans
    (id (α := _ = Project.res1 (T0 m c) (T0s m c) (T0q m c) (points (x0 m c)) (x4 m c) (x5 m c) (x6 m c) (tall (x7 m c)))
      (congr (congr (congr (congr (congr (congr (congr (congrArg Project.res1 (v8_0 m ρ c)) (v8_1 m ρ c)) (v8_2 m ρ c)) (v4_8 m ρ c)) (W8_args m ρ c main_arg4 (by decide))) (W8_args m ρ c main_arg5 (by decide))) (W8_args m ρ c main_arg6 (by decide))) (v6_8 m ρ c))))
theorem v9_2 : W9 m ρ c (Proc.devRef .tc main_v9_2) = alf (x0 m c) (x1 m c) (x2 m c) (x3 m c) (x4 m c) (x5 m c) (x6 m c) (x7 m c) :=
  (W9_arr m ρ c 10).trans ((R2.final10 (V8 m ρ) c).trans
    (id (α := _ = Project.res2 (T0 m c) (T0s m c) (T0q m c) (points (x0 m c)) (x4 m c) (x5 m c) (x6 m c) (tall (x7 m c)))
      (congr (congr (congr (congr (congr (congr (congr (congrArg Project.res2 (v8_0 m ρ c)) (v8_1 m ρ c)) (v8_2 m ρ c)) (v4_8 m ρ c)) (W8_args m ρ c main_arg4 (by decide))) (W8_args m ρ c main_arg5 (by decide))) (W8_args m ρ c main_arg6 (by decide))) (v6_8 m ρ c))))
theorem v9_3 : W9 m ρ c (Proc.devRef .tc main_v9_3) = pos (x0 m c) (x1 m c) (x2 m c) (x3 m c) (x4 m c) (x5 m c) (x6 m c) (x7 m c) :=
  (W9_arr m ρ c 11).trans ((R2.final11 (V8 m ρ) c).trans
    (id (α := _ = Project.res3 (T0 m c) (T0s m c) (T0q m c) (points (x0 m c)) (x4 m c) (x5 m c) (x6 m c) (tall (x7 m c)))
      (congr (congr (congr (congr (congr (congr (congr (congrArg Project.res3 (v8_0 m ρ c)) (v8_1 m ρ c)) (v8_2 m ρ c)) (v4_8 m ρ c)) (W8_args m ρ c main_arg4 (by decide))) (W8_args m ρ c main_arg5 (by decide))) (W8_args m ρ c main_arg6 (by decide))) (v6_8 m ρ c))))

/-! ## The list -/

theorem v3_9 : W9 m ρ c (Proc.devRef .tc main_v3) = shapeCast S131072 (Nearest.out (x0 m c)) shapeCasts_S2x4096x16_S131072 :=
  (W9_of m ρ c main_v3 (by decide +kernel)).trans ((W8_of m ρ c main_v3 (by decide +kernel)).trans
    ((keep7 m ρ c main_v3 (by decide) (by decide)).trans (v3 m ρ c)))

end Cert.Proof.Before.Kernel

end
-- ==== Proof.Before.Run.lean ====
/-
  The run of the calls before the gathers, with the arrays it ends with.
-/
module

public import proofs.«01_k».proof.Proof.Gen.BeforeIdeal.Frame
public import Idealize.ShloMosaic.PureOps.Ideal

@[expose] public section

set_option maxRecDepth 16384

noncomputable section

namespace Cert.Proof.Before

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.BeforeIdeal Cert.BeforeIdeal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every run ends, its results at the last boundary's contents and the arguments as launched. -/
theorem run : θ_run defs (onTc (τ := τ) (main (F := Ideal))) ⟨m, fun _ => 0, ρ⟩ (fun r => ∀ c : Dev nD,
      r.2.mem ((c.tc : Thread nD τ).loc main_v3) = W9 m ρ c (Proc.devRef .tc main_v3)
      ∧ r.2.mem ((c.tc : Thread nD τ).loc main_v9_0) = W9 m ρ c (Proc.devRef .tc main_v9_0)
      ∧ r.2.mem ((c.tc : Thread nD τ).loc main_v9_1) = W9 m ρ c (Proc.devRef .tc main_v9_1)
      ∧ r.2.mem ((c.tc : Thread nD τ).loc main_v9_2) = W9 m ρ c (Proc.devRef .tc main_v9_2)
      ∧ r.2.mem ((c.tc : Thread nD τ).loc main_v9_3) = W9 m ρ c (Proc.devRef .tc main_v9_3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h _ => fun c =>
      ⟨h c _ (mem_uc main_v3 (by decide)),
       h c _ (mem_uc main_v9_0 (by decide)),
       h c _ (mem_uc main_v9_1 (by decide)),
       h c _ (mem_uc main_v9_2 (by decide)),
       h c _ (mem_uc main_v9_3 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c)⟩)

end Cert.Proof.Before

end
-- ==== Proof.Before.lean ====
/-
  The calls before the gathers, in sequence: the neighbour search, and one block's top product and projections. The list is
  the single call's; the features are normalized from sums and sums of squares accumulated tile by tile, with a reciprocal
  square root, and in the reference by the mean of the centred values, with a square root and a quotient. On real arguments
  the two agree.
-/
module

public import proofs.«01_k».proof.Defs
public import proofs.«01_k».proof.Proof.Before.Finite
public import proofs.«01_k».proof.Proof.Before.Kernel
public import proofs.«01_k».proof.Proof.Before.Run
public import proofs.«01_k».proof.Proof.Gen.Before.Frame
public import proofs.«01_k».proof.Proof.Gen.BeforeIdeal.Frame
public import proofs.«01_k».proof.Proof.Gen.BeforeRefIdeal.Run
public import proofs.«01_k».proof.Proof.Gen.BeforeRefIdeal.Read
public import Idealize.ShloMosaic.Lib.Claim
public import Idealize.ShloMosaic.Lib.Quiescent

@[expose] public section

noncomputable section

namespace Cert.Proof.Before

open Idealize.ShloMosaic Idealize.ShloMosaic.TcCoe Idealize.SL.Sem
open Cert.BeforeIdeal (main_arg0 main_arg1 main_arg2 main_arg3 main_arg4 main_arg5 main_arg6 main_arg7)

/-- Over exact values and from real coordinates, features and top weights, the kernel's list and tables are the reference's. -/
theorem equal : Cert.algebraic_BeforeIdeal_BeforeRefIdeal_pre_finite_before := by
  intro m g m' g' hpre hagree
  refine ⟨fun c => shapeCast Cert.BeforeIdeal.S131072 (Nearest.out (m (c.tc.loc main_arg0))) Cert.BeforeIdeal.Gen.shapeCasts_S2x4096x16_S131072,
    fun c => phi (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)),
    fun c => psi (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)),
    fun c => alf (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)),
    fun c => pos (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)),
    ?_, ?_⟩
  · exact (θ_run _ _ _).mono (fun _ h c => ⟨(h c).1.trans (Kernel.v3_9 m g c), (h c).2.1.trans (Kernel.v9_0 m g c), (h c).2.2.1.trans (Kernel.v9_1 m g c),
      (h c).2.2.2.1.trans (Kernel.v9_2 m g c), (h c).2.2.2.2.1.trans (Kernel.v9_3 m g c), (h c).2.2.2.2.2⟩) (run m g)
  · refine (θ_run _ _ _).mono (fun _ h c => ⟨(h c).1.trans ?_, (h c).2.1.trans ?_, (h c).2.2.1.trans ?_, (h c).2.2.2.1.trans ?_,
      (h c).2.2.2.2.1.trans ?_, (h c).2.2.2.2.2⟩) (Cert.BeforeRefIdeal.Value.run (F := Ideal) m' g')
    all_goals
      clear h
      obtain ⟨e0, e1, e2, e3, e4, e5, e6, e7⟩ := hagree c
      obtain ⟨h0, h1, h2, h3⟩ := real_of_pre _ _ _ _ _ _ _ _ (hpre c)
    · exact (Cert.BeforeRefIdeal.Read.val_main_v42_eq _).trans ((congrArg (Cert.BeforeRefIdeal.Read.val_main_v42 (F := Ideal)) e0).trans (list_eq _ h0))
    · exact (Cert.BeforeRefIdeal.Read.val_main_v17_eq _ _ _ _).trans ((congr (congr (congr (congrArg (Cert.BeforeRefIdeal.Read.val_main_v17 (F := Ideal)) e1) e2) e3) e4).trans
        (phi_eq _ _ _ _ _ _ _ _ h1 h2 h3))
    · exact (Cert.BeforeRefIdeal.Read.val_main_v19_eq _ _ _ _).trans ((congr (congr (congr (congrArg (Cert.BeforeRefIdeal.Read.val_main_v19 (F := Ideal)) e1) e2) e3) e5).trans
        (psi_eq _ _ _ _ _ _ _ _ h1 h2 h3))
    · exact (Cert.BeforeRefIdeal.Read.val_main_v21_eq _ _ _ _).trans ((congr (congr (congr (congrArg (Cert.BeforeRefIdeal.Read.val_main_v21 (F := Ideal)) e1) e2) e3) e6).trans
        (alf_eq _ _ _ _ _ _ _ _ h1 h2 h3))
    · exact (Cert.BeforeRefIdeal.Read.val_main_v23_eq _ _).trans ((congr (congrArg (Cert.BeforeRefIdeal.Read.val_main_v23 (F := Ideal)) e0) e7).trans
        (pos_eq _ _ _ _ _ _ _ _))

/-- The reference runs, keeps its arguments and ends with its counters at zero. -/
theorem frame_reference : Cert.quiescent_BeforeRefIdeal := fun m ρ _ =>
  (θ_run Cert.BeforeRefIdeal.defs _ _).mono (fun r h => ⟨fun c => (h c).2.2.2.2.2, sem_eq_zero_of_no_sems (by decide) r.2⟩)
    (Cert.BeforeRefIdeal.Value.run (F := Ideal) m ρ)

end Cert.Proof.Before

end
-- ==== Proof.Streams.lean ====
/-
  The steps a vector subcore's task is made of, each as one rule: a copy issued and awaited; an indirect gather issued,
  and awaited later; two indirect gathers by one index list issued on one semaphore, and awaited later by two waits;
  two copies issued on one semaphore and awaited by two waits. A buffer's contents are spoken of through what its
  view reads (`Has`).

  Two gathers outstanding on ONE semaphore are 256 row transfers crediting one cell: a counted batch
  (Lib/Batch.lean) with one entry per gathered row. The first wait lowers the cell by one gather's amount and is handed
  nothing; the second brings what has been consumed to the whole amount, so every row has landed.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.Batch
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Gen.Pre_idx_in_rows

@[expose] public section

noncomputable section

namespace Cert.Proof.Rows

open Cert.KernelIdeal Cert.KernelIdeal.Gen

open Idealize.ShloMosaic
open Idealize.ShloMosaic.SparseCore (S V T rows gatherPayload)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The resource algebra: the handshakes' rounds library, the transfers' counters -/

abbrev UH : Type := URounds (GSem nD τ sig) ℕ
abbrev UU : Type := UH × Counters

local notation "𝕄" => MT nD τ sig (HIx 2) (Elt F) ℕ UU ℕ

abbrev EH : Emb UH (MT nD τ sig (HIx 2) (Elt F) ℕ UU ℕ) := embL

abbrev EC : UEmb Counters (MT nD τ sig (HIx 2) (Elt F) ℕ UU ℕ) := countersEmb

section Rules

variable (d : Dev nD) (x : Fin τ.nSC) (y : Fin τ.nSub)

/-- Subcore `(x, y)`'s waits so far: the ones recorded at the start and this task's own. -/
def Owe (O : CellTallies nD τ sig (HIx 2)) (W : Waits sig (HIx 2)) : sProp 𝕄 :=
  iprop(∃ W', ⌜∀ p ∈ W', p ∈ W ∨ p.2 = none⌝ ∗ owes (V d x y) O W')

/-- The memref's elements held outright, reading `v`. -/
def Has {sp : Space} {s : Shape} {e : EltTy} (b : Memref sig .scVector sp s e) (v : s.Idx → Elt F e) : sProp 𝕄 :=
  iprop(∃ f : Buf (Elt F) (b.view.loc (V d x y)), ⌜b.view.read (Elt F) f = v⌝ ∗ (b.view.loc (V d x y) ↦[b.view.set]{fullShare} f))

/-- The memref's elements held outright, at some contents. -/
def Any {sp : Space} {s : Shape} {e : EltTy} (b : Memref sig .scVector sp s e) : sProp 𝕄 :=
  iprop(∃ f : Buf (Elt F) (b.view.loc (V d x y)), (b.view.loc (V d x y) ↦[b.view.set]{fullShare} f))

theorem Has.any {sp : Space} {s : Shape} {e : EltTy} (b : Memref sig .scVector sp s e) (v : s.Idx → Elt F e) :
    Has d x y b v ⊢ (Any d x y b : sProp 𝕄) := by
  unfold Has Any
  iintro ⟨%f, -, H⟩
  iexists f; iexact H

variable {Λ : Labels} {defs : Defs nD τ sig (Elt F) Λ} (𝒱 : Variants) (bd : Option 𝒱.V)
variable {α : Type} {Q : α → sProp (MT nD τ sig (HIx 2) (Elt F) ℕ UU ℕ)}
variable {O : CellTallies nD τ sig (HIx 2)} {W : Waits sig (HIx 2)}

theorem Owe.out : Owe d x y O W ⊢ (iprop(∃ W', ⌜∀ p ∈ W', p ∈ W ∨ p.2 = none⌝ ∗ owes (V d x y) O W') : sProp 𝕄) := .rfl

theorem Owe.add {sm : SemLoc sig} (W' : Waits sig (HIx 2)) (hW' : ∀ p ∈ W', p ∈ W ∨ p.2 = none) :
    owes (V d x y) O (insert (sm, (default : HIx 2)) W') ⊢ (Owe d x y O W : sProp 𝕄) := by
  unfold Owe
  iintro H
  iexists (insert (sm, (default : HIx 2)) W')
  isplitr
  · ipureintro
    intro p hp
    rcases Finset.mem_insert.mp hp with hp | hp
    · exact .inr (hp ▸ rfl)
    · exact hW' p hp
  · iexact H

theorem Owe.add2 {sm sm' : SemLoc sig} (W' : Waits sig (HIx 2)) (hW' : ∀ p ∈ W', p ∈ W ∨ p.2 = none) :
    owes (V d x y) O (insert (sm, (default : HIx 2)) (insert (sm', (default : HIx 2)) W')) ⊢ (Owe d x y O W : sProp 𝕄) :=
  Owe.add d x y _ fun p hp => by
    rcases Finset.mem_insert.mp hp with hp | hp
    · exact .inr (hp ▸ rfl)
    · exact hW' p hp

/-- A copy on a semaphore at zero, issued and awaited at once: the destination rewritten with what the source reads. -/
theorem wp_copy {sp sp' : Space} {s : Shape} {e : EltTy}
    {src : Memref sig .scVector sp s e} {dst : Memref sig .scVector sp' s e} {sem : DmaSem sig}
    {h1 h4 : src.view.WordExact} {h2 h5 : dst.view.WordExact} {h3 : DmaTarget.Typed (nD := nD) (τ := τ) (p := .scVector x y) sp (.dma sem) (.here dst)}
    {k : PUnit → Prog (TpuEff nD τ sig (Elt F) Λ (.scVector x y)) α} {q : PosShare TreeShare}
    {fs : Buf (Elt F) (src.view.loc (V d x y))} {Sd : Finset (Idx (dst.view.loc (V d x y)))} {fd : Buf (Elt F) (dst.view.loc (V d x y))}
    (hs : 0 < s.numel) (hSd : dst.view.set ⊆ Sd) :
    iprop((Transfers.MayWaits (V d x y) (default : HIx 2) O ∗ Owe d x y O W)
        ∗ (src.view.loc (V d x y) ↦[src.view.set]{q} fs) ∗ (dst.view.loc (V d x y) ↦[Sd]{fullShare} fd) ∗ semVal ((V d x y : Thread nD τ), SemLoc.dma sem) 0)
      ⊢ iprop((iprop(Owe d x y O W ∗ (src.view.loc (V d x y) ↦[src.view.set]{q} fs)
              ∗ (dst.view.loc (V d x y) ↦[Sd]{fullShare} (dst.view.write (Elt F) fd (src.view.read (Elt F) fs) Finset.univ))
              ∗ semVal ((V d x y : Thread nD τ), SemLoc.dma sem) 0) -∗ wp frame (wpE defs 𝒱 (V d x y) bd) Set.univ (k ⟨⟩) Q)
          -∗ wp frame (wpE defs 𝒱 (V d x y) bd) Set.univ
              (Prog.lift (.enqueueDma src (.here dst) (.dma sem) h1 h2 h3) >>= fun _ => Prog.lift (.waitDma2 sem src dst h4 h5) >>= k) Q) := by
  simp only [Prog.bind_lift]
  iintro ⟨⟨Hmw, HO⟩, Hs, Hd, Hv⟩ Hk
  ihave HO := (Owe.out d x y) $$ HO
  icases HO with ⟨%W', %hW', HO⟩
  iapply (Transfers.wp_dmaLocal EC 𝒱 (V d x y) bd (default : HIx 2) dst.view.dmaCredit rfl (View.dmaCredit_pos _ hs) hSd) $$ [Hs Hd Hv]
  · isplitl [Hs]; · iexact Hs
    isplitl [Hd] <;> iassumption
  iintro Hf
  iapply (Transfers.wp_waitLocalO EC 𝒱 (V d x y) bd (default : HIx 2) (rfl : dst.view.dmaCredit = _)) $$ [Hf HO Hmw]
  · isplitl [Hf]; · iexact Hf
    isplitl [HO]; · iexact HO
    iapply (Transfers.MayWaits.elim (SemLoc.dma sem)) $$ Hmw
  iintro ⟨⟨Hd, Hs⟩, Hv, HO⟩
  iapply Hk
  isplitl [HO]; · iapply (Owe.add d x y W' hW'); iexact HO
  isplitl [Hs]; · iexact Hs
  isplitl [Hd]; · iexact Hd
  iexact Hv

/-! ### One gather -/

section Gather

variable {sp : Space} {s₀ s si : Shape} {e : EltTy} {a : Nat}
variable {src : Memref sig .scVector sp s₀ e} {dst : Memref sig .scVector .vmem s e} {hg : s₀.Gathers a s}
variable {offs : Memref sig .scVector .vmem si .i32} {hn : si.numel = s.size hg.axis'} {sem : DmaSem sig}
variable {hp : (Proc.scVector x y : Proc τ).kind = .scVector} {hsrc : src.view.WordExact} {he : e.bits = 32} {hsp : sp = .hbm ∨ sp = .shared} {hr : s₀.StreamRows a}
variable {k : PUnit → Prog (TpuEff nD τ sig (Elt F) Λ (.scVector x y)) α} {q : PosShare TreeShare}
variable {ft : Buf (Elt F) (src.view.loc (V d x y))} {lv : si.Idx → Elt F .i32}

/-- A gather on a semaphore at zero, issued: in flight, it delivers the rows the list names, the list and the source. -/
theorem wp_gatherStart (hcr : ∑ j, (dst.slice (s.rowRect hg.axis' j) (s.stride_rowRect hg.axis' j)).view.dmaCredit = dst.view.dmaCredit)
    (hs : 0 < s.numel) (hin : ∀ z, (lv z).toNat < s₀.size hg.axis) :
    iprop((src.view.loc (V d x y) ↦[src.view.set]{q} ft) ∗ Any d x y dst ∗ Has d x y offs lv ∗ semVal ((V d x y : Thread nD τ), SemLoc.dma sem) 0)
      ⊢ iprop((Transfers.Flight EC (V d x y) (.dma sem) (default : HIx 2) dst.view.dmaCredit
                iprop(Has d x y dst (gatherPayload hg (src.view.read (Elt F) ft) (rows lv hn hin)) ∗ Has d x y offs lv
                  ∗ (src.view.loc (V d x y) ↦[src.view.set]{q} ft))
              -∗ wp frame (wpE defs 𝒱 (V d x y) bd) Set.univ (k ⟨⟩) Q)
          -∗ wp frame (wpE defs 𝒱 (V d x y) bd) Set.univ
              (SparseCore.enqueueIndirectGather hp src dst hg offs hn sem hsrc he hsp hr >>= k) Q) := by
  unfold Any Has
  iintro ⟨Hs, ⟨%fd, Hd⟩, ⟨%fo, %hfo, Ho⟩, Hv⟩ Hk
  subst hfo
  iapply (SparseCore.wp_indirectGatherLocal EC 𝒱 (V d x y) bd (hg := hg) (default : HIx 2) dst.view.dmaCredit hcr hs hin) $$ [Hs Hd Ho Hv]
  · isplitl [Hs]; · iexact Hs
    isplitl [Hd]; · iexact Hd
    isplitl [Ho] <;> iassumption
  iintro Hf
  iapply Hk
  iapply (Transfers.Flight_mono EC (V d x y) (D := iprop((dst.view.loc (V d x y) ↦[dst.view.set]{fullShare} _) ∗ (src.view.loc (V d x y) ↦[src.view.set]{q} ft)
      ∗ (offs.view.loc (V d x y) ↦[offs.view.set]{fullShare} fo))) (by
    iintro ⟨Hd, Hs, Ho⟩
    isplitl [Hd]
    · iexists _; isplitr
      swap; · iexact Hd
      ipureintro; exact View.read_write_univ _ _
    isplitl [Ho]
    · iexists fo; isplitr
      · ipureintro; rfl
      · iexact Ho
    iexact Hs)) $$ Hf

/-- Its wait. -/
theorem wp_gatherEnd {N : ℕ} (hN : dst.view.dmaCredit = N) {hsrc : src.view.WordExact} {hdst : dst.view.WordExact} {D : sProp 𝕄} :
    iprop((Transfers.MayWaits (V d x y) (default : HIx 2) O ∗ Owe d x y O W) ∗ Transfers.Flight EC (V d x y) (.dma sem) (default : HIx 2) N D)
      ⊢ iprop((iprop(Owe d x y O W ∗ D ∗ semVal ((V d x y : Thread nD τ), SemLoc.dma sem) 0)
              -∗ wp frame (wpE defs 𝒱 (V d x y) bd) Set.univ (k ⟨⟩) Q)
          -∗ wp frame (wpE defs 𝒱 (V d x y) bd) Set.univ (SparseCore.waitIndirectGather sem src dst hsrc hdst >>= k) Q) := by
  iintro ⟨⟨Hmw, HO⟩, Hf⟩ Hk
  ihave HO := (Owe.out d x y) $$ HO
  icases HO with ⟨%W', %hW', HO⟩
  iapply (Transfers.wp_waitLocalO EC 𝒱 (V d x y) bd (srcw := src) (hsrc := hsrc) (hdst := hdst) (default : HIx 2) hN) $$ [Hf HO Hmw]
  · isplitl [Hf]; · iexact Hf
    isplitl [HO]; · iexact HO
    iapply (Transfers.MayWaits.elim (SemLoc.dma sem)) $$ Hmw
  iintro ⟨HD, Hv, HO⟩
  iapply Hk
  isplitl [HO]; · iapply (Owe.add d x y W' hW'); iexact HO
  isplitl [HD] <;> iassumption

/-! ### A gather's rows, each to a cell update of its own -/

/-- What the gather's row `j` delivers: the destination's row written, the list's entry, a piece of the source's share. -/
def rowOut (src : Memref sig .scVector sp s₀ e) (dst : Memref sig .scVector .vmem s e) (hg : s₀.Gathers a s)
    (offs : Memref sig .scVector .vmem si .i32) (hn : si.numel = s.size hg.axis') (ho : 0 < s.size hg.axis')
    (q qo : PosShare TreeShare) (ft : Buf (Elt F) (src.view.loc (V d x y))) (fd : Buf (Elt F) (dst.view.loc (V d x y)))
    (fo : Buf (Elt F) (offs.view.loc (V d x y))) (r : Fin (s.size hg.axis') → Fin (s₀.size hg.axis)) (j : Fin (s.size hg.axis')) : sProp 𝕄 :=
  iprop(((dst.view.loc (V d x y) ↦[(dst.view.slice (s.rowRect hg.axis' j)).set]{fullShare}
        ((dst.view.slice (s.rowRect hg.axis' j)).write (Elt F) fd (fun i => src.view.read (Elt F) ft (hg.rowIdx (r j) i)) Finset.univ))
      ∗ (offs.view.loc (V d x y) ↦[{offs.view.emb (si.rowMajor.symm (j.cast hn.symm))}]{qo} fo))
    ∗ (src.view.loc (V d x y) ↦[src.view.set]{pieceOf q _ ho j} ft))

instance rowOut_storable (src : Memref sig .scVector sp s₀ e) (dst : Memref sig .scVector .vmem s e) (hg : s₀.Gathers a s)
    (offs : Memref sig .scVector .vmem si .i32) (hn : si.numel = s.size hg.axis') (ho : 0 < s.size hg.axis')
    (q qo : PosShare TreeShare) (ft : Buf (Elt F) (src.view.loc (V d x y))) (fd : Buf (Elt F) (dst.view.loc (V d x y)))
    (fo : Buf (Elt F) (offs.view.loc (V d x y))) (r : Fin (s.size hg.axis') → Fin (s₀.size hg.axis)) (j : Fin (s.size hg.axis')) :
    Storable (upEmb : UEmb _ 𝕄) (rowOut d x y src dst hg offs hn ho q qo ft fd fo r j) := by
  unfold rowOut; infer_instance

omit Λ defs 𝒱 bd k in
/-- Every row's delivery in, the destination is written with the whole gather, the list and the source are back. -/
theorem rowOut_join (ho : 0 < s.size hg.axis') (qo : PosShare TreeShare) (fd : Buf (Elt F) (dst.view.loc (V d x y)))
    (fo : Buf (Elt F) (offs.view.loc (V d x y))) (r : Fin (s.size hg.axis') → Fin (s₀.size hg.axis)) :
    bigSep Finset.univ (rowOut d x y src dst hg offs hn ho q qo ft fd fo r)
      ⊢ (iprop((dst.view.loc (V d x y) ↦[dst.view.set]{fullShare} (dst.view.write (Elt F) fd (gatherPayload hg (src.view.read (Elt F) ft) r) Finset.univ))
          ∗ (offs.view.loc (V d x y) ↦[offs.view.set]{qo} fo) ∗ (src.view.loc (V d x y) ↦[src.view.set]{q} ft)) : sProp 𝕄) := by
  have hen : Function.Bijective (fun j : Fin (s.size hg.axis') => si.rowMajor.symm (j.cast hn.symm)) :=
    (si.rowMajor.symm.bijective.comp (finCongr hn.symm).bijective)
  have hW : ∀ j i, (fun i => src.view.read (Elt F) ft (hg.rowIdx (r j) i)) i
      = gatherPayload hg (src.view.read (Elt F) ft) r ((s.rowRect hg.axis' j).emb i) := fun j i => by
    unfold gatherPayload; rw [Shape.Gathers.idx_rowRect_emb]
  unfold rowOut
  iintro HD
  ihave H1 := Transfers.bigSep_sep_out _ _ _ $$ HD
  icases H1 with ⟨H2, Hsrc⟩
  ihave H3 := Transfers.bigSep_sep_out _ _ _ $$ H2
  icases H3 with ⟨Hrows, Hoffs⟩
  isplitl [Hrows]
  · have h4 : bigSep Finset.univ (fun j : Fin (s.size hg.axis') => (dst.view.loc (V d x y) ↦[(dst.view.slice (s.rowRect hg.axis' j)).set]{fullShare}
        ((dst.view.slice (s.rowRect hg.axis' j)).write (Elt F) fd (fun i => src.view.read (Elt F) ft (hg.rowIdx (r j) i)) Finset.univ)))
        ⊢ ((dst.view.loc (V d x y) ↦[dst.view.set]{fullShare} (dst.view.write (Elt F) fd (gatherPayload hg (src.view.read (Elt F) ft) r) Finset.univ)) : sProp 𝕄) :=
      pointsTo_rows_write (V d x y : Thread nD τ) dst.view hg.axis' fd (fun j i => src.view.read (Elt F) ft (hg.rowIdx (r j) i)) _ hW
    iapply h4 $$ Hrows
  isplitl [Hoffs]; · iapply (Entails.of_eq (pointsTo_entries (V d x y) offs.view _ hen qo fo).symm) $$ Hoffs
  iapply (Entails.of_eq (pointsTo_piecesOf (src.view.set) ft ho q).symm) $$ Hsrc

/-- A gather issued, each row's cell update made from a persistent `X` and a token of the row's own: the rows' credit. -/
theorem wp_gatherRows (ho : 0 < s.size hg.axis') {N : ℕ}
    (hcr : ∑ j, (dst.slice (s.rowRect hg.axis' j) (s.stride_rowRect hg.axis' j)).view.dmaCredit = N)
    {qo : PosShare TreeShare} {fd : Buf (Elt F) (dst.view.loc (V d x y))} {fo : Buf (Elt F) (offs.view.loc (V d x y))}
    (hin : ∀ z, (offs.view.read (Elt F) fo z).toNat < s₀.size hg.axis)
    {X : sProp 𝕄} [BI.Persistent X] {Y : Fin (s.size hg.axis') → sProp 𝕄}
    (hcu : ∀ j, iprop(X ∗ Y j) ⊢ creditUpdate ((V d x y : Thread nD τ), SemLoc.dma sem)
      (dst.slice (s.rowRect hg.axis' j) (s.stride_rowRect hg.axis' j)).view.dmaCredit 0
      (rowOut d x y src dst hg offs hn ho q qo ft fd fo (rows (offs.view.read (Elt F) fo) hn hin) j)) :
    iprop((src.view.loc (V d x y) ↦[src.view.set]{q} ft) ∗ (dst.view.loc (V d x y) ↦[dst.view.set]{fullShare} fd)
        ∗ (offs.view.loc (V d x y) ↦[offs.view.set]{qo} fo) ∗ X ∗ bigSep Finset.univ Y)
      ⊢ iprop((cred (tallyAt ((V d x y : Thread nD τ), SemLoc.dma sem) (default : HIx 2) N)
              -∗ wp frame (wpE defs 𝒱 (V d x y) bd) Set.univ (k ⟨⟩) Q)
          -∗ wp frame (wpE defs 𝒱 (V d x y) bd) Set.univ
              (SparseCore.enqueueIndirectGather hp src dst hg offs hn sem hsrc he hsp hr >>= k) Q) := by
  change _ ⊢ iprop(_ -∗ wp frame (wpE defs 𝒱 (V d x y) bd) Set.univ
    (.op (.enqueueIndirectDma hp offs hn sem fun j w => (SparseCore.rowOf (s₀.size hg.axis) w).map (SparseCore.gatherRow (V d x y) src dst hg sem hsrc he hsp hr j)) k) Q)
  let c : Thread nD τ := V d x y
  let S : Stream nD τ sig (Elt F) :=
    Stream.issued c offs.view hn sem (fun j w => (SparseCore.rowOf (s₀.size hg.axis) w).map (SparseCore.gatherRow c src dst hg sem hsrc he hsp hr j)) 0
  let r : Fin (s.size hg.axis') → Fin (s₀.size hg.axis) := rows (offs.view.read (Elt F) fo) hn hin
  let rd : Fin (s.size hg.axis') → RowDma τ sig (Elt F) c.2 sem := fun j => SparseCore.gatherRow c src dst hg sem hsrc he hsp hr j (r j)
  have hA : S.RowsAgree := by
    intro j z z' ρ ρ' h h'
    obtain ⟨_, _, rfl⟩ := Option.map_eq_some_iff.mp h
    obtain ⟨_, _, rfl⟩ := Option.map_eq_some_iff.mp h'
    rfl
  have hrd : ∀ j, S.row j (S.word fo j) = some (rd j) := fun j => by
    change (SparseCore.rowOf (s₀.size hg.axis) (offs.view.read (Elt F) fo (S.entry j))).map _ = _
    rw [SparseCore.rowOf_of_lt (hin _)]; rfl
  have hen : Function.Bijective S.entry :=
    (si.rowMajor.symm.bijective.comp (finCongr hn.symm).bijective)
  iintro ⟨Hs, Hd, Ho, #HX, HY⟩ Hk
  ihave Hd' := (Entails.of_eq (pointsTo_rows c dst.view hg.axis' fullShare fd)) $$ Hd
  ihave Ho' := (Entails.of_eq (pointsTo_entries c offs.view S.entry hen qo fo)) $$ Ho
  ihave Hs' := (Entails.of_eq (pointsTo_piecesOf (src.view.set) ft ho q)) $$ Hs
  iapply (wp_enqueueIndirectDma 𝒱 c bd Set.univ (qo := qo) (fo := fo) (rd := rd) (default : HIx 2) N hA hrd hcr) $$ [Hd' Ho' Hs' HY]
  · have hrow : ∀ j, iprop(X ∗ ((((dst.view.loc c ↦[(dst.view.slice (s.rowRect hg.axis' j)).set]{fullShare} fd) ∗ S.heldEntry qo fo j)
          ∗ (src.view.loc c ↦[src.view.set]{pieceOf q _ ho j} ft)) ∗ Y j))
        ⊢ iprop(S.heldEntry qo fo j ∗ (S.heldEntry qo fo j -∗ rowRes c (rd j))) := fun j => by
      iintro ⟨#HX, ⟨⟨Hr, He⟩, Hsq⟩, Hγj⟩
      isplitl [He]; · iexact He
      iintro He
      unfold rowRes
      iexists pieceOf q _ ho j, ft, iprop((dst.view.loc c ↦[(dst.view.slice (s.rowRect hg.axis' j)).set]{fullShare}
        ((dst.view.slice (s.rowRect hg.axis' j)).write (Elt F) fd (fun i => src.view.read (Elt F) ft (hg.rowIdx (r j) i)) Finset.univ)) ∗ S.heldEntry qo fo j)
      isplitl [Hsq]; · iexact Hsq
      isplitl [Hr He]
      · iapply writeUpdate_frame
        isplitl [Hr]
        · iapply (pointsTo_writeUpdate c (v := dst.view.slice (s.rowRect hg.axis' j)) subset_rfl) $$ Hr
        · iexact He
      · iapply (hcu j)
        isplitr; · iexact HX
        iexact Hγj
    unfold Stream.res
    ihave H1 := Transfers.bigSep_sep_in _ _ _ $$ [Hd' Ho']; · isplitl [Hd'] <;> iassumption
    ihave H2 := Transfers.bigSep_sep_in _ _ _ $$ [H1 Hs']; · isplitl [H1] <;> iassumption
    ihave H3 := Transfers.bigSep_sep_in _ _ _ $$ [H2 HY]; · isplitl [H2] <;> iassumption
    iapply (Transfers.bigSep_mono_pers Finset.univ _ _ _ fun j _ => hrow j)
    isplitr; · iexact HX
    iexact H3
  · iexact Hk

/-! ### Two gathers by one list on one semaphore -/

/-- All `n` transfers of a batch issued on the semaphore and none awaited; what they deliver, together, gives `D`. -/
def Pend (sem : DmaSem sig) (N n : ℕ) (D : sProp 𝕄) : sProp 𝕄 :=
  iprop(∃ Ds : Fin n → sProp 𝕄, ⌜bigSep Finset.univ Ds ⊢ D⌝ ∗ Transfers.Batch EC (V d x y) (.dma sem) (default : HIx 2) N Ds n 0)

variable {src' : Memref sig .scVector sp s₀ e} {dst' : Memref sig .scVector .vmem s e}
variable {hsrc' : src'.view.WordExact} {q' : PosShare TreeShare} {ft' : Buf (Elt F) (src'.view.loc (V d x y))}
variable {hp' : (Proc.scVector x y : Proc τ).kind = .scVector} {he' : e.bits = 32} {hsp' : sp = .hbm ∨ sp = .shared} {hr' : s₀.StreamRows a}

/-- Two gathers by the same list, issued one after the other on a semaphore at zero. -/
theorem wp_gather2Start (ho : 0 < s.size hg.axis') {N : ℕ}
    (hN : ∀ j, (dst.slice (s.rowRect hg.axis' j) (s.stride_rowRect hg.axis' j)).view.dmaCredit = N)
    (hN' : ∀ j, (dst'.slice (s.rowRect hg.axis' j) (s.stride_rowRect hg.axis' j)).view.dmaCredit = N)
    (hin : ∀ z, (lv z).toNat < s₀.size hg.axis) :
    iprop((src.view.loc (V d x y) ↦[src.view.set]{q} ft) ∗ (src'.view.loc (V d x y) ↦[src'.view.set]{q'} ft') ∗ Any d x y dst ∗ Any d x y dst'
        ∗ Has d x y offs lv ∗ semVal ((V d x y : Thread nD τ), SemLoc.dma sem) 0)
      ⊢ iprop((Pend d x y sem N (s.size hg.axis' + s.size hg.axis')
                iprop(Has d x y dst (gatherPayload hg (src.view.read (Elt F) ft) (rows lv hn hin))
                  ∗ Has d x y dst' (gatherPayload hg (src'.view.read (Elt F) ft') (rows lv hn hin)) ∗ Has d x y offs lv
                  ∗ (src.view.loc (V d x y) ↦[src.view.set]{q} ft) ∗ (src'.view.loc (V d x y) ↦[src'.view.set]{q'} ft'))
              -∗ wp frame (wpE defs 𝒱 (V d x y) bd) Set.univ (k ⟨⟩) Q)
          -∗ wp frame (wpE defs 𝒱 (V d x y) bd) Set.univ
              (SparseCore.enqueueIndirectGather hp src dst hg offs hn sem hsrc he hsp hr >>= fun _ =>
                SparseCore.enqueueIndirectGather hp' src' dst' hg offs hn sem hsrc' he' hsp' hr' >>= k) Q) := by
  unfold Any Has
  iintro ⟨Hs, Hs', ⟨%fd, Hd⟩, ⟨%fd', Hd'⟩, ⟨%fo, %hfo, Ho⟩, Hv⟩ Hk
  subst hfo
  let o := s.size hg.axis'
  let r := rows (offs.view.read (Elt F) fo) hn hin
  let D₁ : Fin o → sProp 𝕄 := rowOut d x y src dst hg offs hn ho q fullShare.left ft fd fo r
  let D₂ : Fin o → sProp 𝕄 := rowOut d x y src' dst' hg offs hn ho q' fullShare.right ft' fd' fo r
  let D : Fin (o + o) → sProp 𝕄 := fun t => Sum.elim D₁ D₂ (finSumFinEquiv.symm t)
  haveI hst : ∀ t, Storable (upEmb : UEmb _ 𝕄) (D t) := fun t => by
    change Storable _ (Sum.elim D₁ D₂ (finSumFinEquiv.symm t))
    cases finSumFinEquiv.symm t with
    | inl j => exact rowOut_storable d x y src dst hg offs hn ho q fullShare.left ft fd fo r j
    | inr j => exact rowOut_storable d x y src' dst' hg offs hn ho q' fullShare.right ft' fd' fo r j
  have hD₁ : ∀ j, D (finSumFinEquiv (Sum.inl j)) = D₁ j := fun j => by
    change Sum.elim D₁ D₂ (finSumFinEquiv.symm (finSumFinEquiv (Sum.inl j))) = _; rw [Equiv.symm_apply_apply]; rfl
  have hD₂ : ∀ j, D (finSumFinEquiv (Sum.inr j)) = D₂ j := fun j => by
    change Sum.elim D₁ D₂ (finSumFinEquiv.symm (finSumFinEquiv (Sum.inr j))) = _; rw [Equiv.symm_apply_apply]; rfl
  have hall : ∀ Φ : Fin (o + o) → sProp 𝕄, bigSep Finset.univ Φ
      = iprop(bigSep Finset.univ (fun j : Fin o => Φ (finSumFinEquiv (Sum.inl j))) ∗ bigSep Finset.univ (fun j : Fin o => Φ (finSumFinEquiv (Sum.inr j)))) :=
    fun Φ => by rw [bigSep_univ_equiv finSumFinEquiv, bigSep_univ_sum]; rfl
  imod (Transfers.batch_alloc EC N D (g := ((V d x y : Thread nD τ), SemLoc.dma sem)) (E := Set.univ)) $$ Hv with ⟨%γ, %γ₀, %κ, #Hinv, H0, Hc⟩
  ihave Hc' := (Entails.of_eq (hall (fun t => count EC (γ t) 0))) $$ Hc
  icases Hc' with ⟨Hc₁, Hc₂⟩
  ihave Ho' := (pointsTo_share (PosShare.mem_left_op_right fullShare)).1 $$ Ho
  icases Ho' with ⟨Ho₁, Ho₂⟩
  iapply (wp_gatherRows d x y 𝒱 bd (hg := hg) ho (N := o * N) (by rw [Finset.sum_congr rfl fun j _ => hN j]; simp [o]) (qo := fullShare.left) (fd := fd) (fo := fo) hin
      (X := inv κ (Transfers.batchBody EC ((V d x y : Thread nD τ), SemLoc.dma sem) N D γ γ₀)) (Y := fun j => count EC (γ (finSumFinEquiv (Sum.inl j))) 0)
      (fun j => by rw [hN j]; exact Transfers.batch_creditUpdate EC (finSumFinEquiv (Sum.inl j)) (Entails.of_eq (hD₁ j).symm))) $$ [Hs Hd Ho₁ Hc₁]
  · isplitl [Hs]; · iexact Hs
    isplitl [Hd]; · iexact Hd
    isplitl [Ho₁]; · iexact Ho₁
    isplitr; · iexact Hinv
    iexact Hc₁
  iintro Hr₁
  iapply (wp_gatherRows d x y 𝒱 bd (hg := hg) ho (N := o * N) (by rw [Finset.sum_congr rfl fun j _ => hN' j]; simp [o]) (qo := fullShare.right) (fd := fd') (fo := fo) hin
      (X := inv κ (Transfers.batchBody EC ((V d x y : Thread nD τ), SemLoc.dma sem) N D γ γ₀)) (Y := fun j => count EC (γ (finSumFinEquiv (Sum.inr j))) 0)
      (fun j => by rw [hN' j]; exact Transfers.batch_creditUpdate EC (finSumFinEquiv (Sum.inr j)) (Entails.of_eq (hD₂ j).symm))) $$ [Hs' Hd' Ho₂ Hc₂]
  · isplitl [Hs']; · iexact Hs'
    isplitl [Hd']; · iexact Hd'
    isplitl [Ho₂]; · iexact Ho₂
    isplitr; · iexact Hinv
    iexact Hc₂
  iintro Hr₂
  iapply Hk
  unfold Pend
  iexists D
  isplitr
  · ipureintro
    rw [hall D]
    simp only [hD₁, hD₂]
    iintro ⟨H1, H2⟩
    ihave H1' := (rowOut_join d x y ho fullShare.left fd fo r) $$ H1
    ihave H2' := (rowOut_join d x y ho fullShare.right fd' fo r) $$ H2
    icases H1' with ⟨Hd, Ho₁, Hs⟩
    icases H2' with ⟨Hd', Ho₂, Hs'⟩
    isplitl [Hd]
    · iexists _; isplitr
      swap; · iexact Hd
      ipureintro; exact View.read_write_univ _ _
    isplitl [Hd']
    · iexists _; isplitr
      swap; · iexact Hd'
      ipureintro; exact View.read_write_univ _ _
    isplitl [Ho₁ Ho₂]
    · iexists fo; isplitr
      · ipureintro; rfl
      · iapply (pointsTo_share (PosShare.mem_left_op_right fullShare)).2
        isplitl [Ho₁] <;> iassumption
    isplitl [Hs] <;> iassumption
  · unfold Transfers.Batch
    iexists γ, γ₀, κ
    isplitr; · iexact Hinv
    isplitr
    · rw [show Transfers.pending (n := o + o) (o + o) = ∅ from Finset.filter_false_of_mem fun t _ => by have := t.isLt; omega]
      rw [bigSep_empty]; iempintro
    isplitl [H0]; · iexact H0
    rw [show (o + o) * N - 0 = o * N + o * N by rw [Nat.add_mul]; omega, ← tallyAt_add]
    icombine Hr₁ Hr₂ as H
    iexact H

omit hg in
/-- A batch's two waits, each for half of its rows. -/
theorem wp_gather2End {o N : ℕ} (hN0 : 0 < N) {hdst : dst.view.WordExact} {hdst' : dst'.view.WordExact}
    (hJ : dst.view.dmaCredit = o * N) (hJ' : dst'.view.dmaCredit = o * N) {D : sProp 𝕄} :
    iprop((Transfers.MayWaits (V d x y) (default : HIx 2) O ∗ Owe d x y O W) ∗ Pend d x y sem N (o + o) D)
      ⊢ iprop((iprop(Owe d x y O W ∗ D ∗ semVal ((V d x y : Thread nD τ), SemLoc.dma sem) 0) -∗ wp frame (wpE defs 𝒱 (V d x y) bd) Set.univ (k ⟨⟩) Q)
          -∗ wp frame (wpE defs 𝒱 (V d x y) bd) Set.univ
              (SparseCore.waitIndirectGather sem src dst hsrc hdst >>= fun _ =>
                SparseCore.waitIndirectGather sem src' dst' hsrc' hdst' >>= k) Q) := by
  change _ ⊢ iprop(_ -∗ wp frame (wpE defs 𝒱 (V d x y) bd) Set.univ
    (.op (.waitDma2 sem src dst hsrc hdst) fun _ => .op (.waitDma2 sem src' dst' hsrc' hdst') k) Q)
  unfold Pend
  have hu₁ : 0 + o * N ≤ N * (o + o) := by rw [Nat.mul_add, Nat.mul_comm N o]; omega
  have hu₂ : (0 + o * N) + o * N = N * (o + o) := by rw [Nat.mul_add, Nat.mul_comm N o]; omega
  iintro ⟨⟨#Hmw, HO⟩, %Ds, %hDs, HB⟩ Hk
  ihave HO := (Owe.out d x y) $$ HO
  icases HO with ⟨%W', %hW', HO⟩
  iapply (Transfers.wp_waitBatchMulO EC 𝒱 (V d x y) bd (D := Ds) (u := 0) (default : HIx 2) o hJ hu₁) $$ [HB HO]
  · isplitl [HB]; · iexact HB
    isplitl [HO]; · iexact HO
    iapply (Transfers.MayWaits.elim (SemLoc.dma sem)) $$ Hmw
  iintro ⟨HB, HO⟩
  iapply (Transfers.wp_waitBatchAllO EC 𝒱 (V d x y) bd (D := Ds) (u := 0 + o * N) (default : HIx 2) hJ' hN0 hu₂) $$ [HB HO]
  · isplitl [HB]; · iexact HB
    isplitl [HO]; · iexact HO
    iapply (Transfers.MayWaits.elim (SemLoc.dma sem)) $$ Hmw
  iintro ⟨HD, Hv, HO⟩
  iapply Hk
  isplitl [HO]
  · iapply (Owe.add2 d x y W' hW'); iexact HO
  isplitl [HD]; · iapply hDs $$ HD
  iexact Hv

end Gather

/-- Two copies issued one after the other on a semaphore at zero, then awaited in the same order. -/
theorem wp_copy2 {sp sp' : Space} {s : Shape} {e : EltTy}
    {src src' : Memref sig .scVector sp s e} {dst dst' : Memref sig .scVector sp' s e} {sem : DmaSem sig}
    {h1 h4 : src.view.WordExact} {h2 h5 : dst.view.WordExact} {h3 : DmaTarget.Typed (nD := nD) (τ := τ) (p := .scVector x y) sp (.dma sem) (.here dst)}
    {h1' h4' : src'.view.WordExact} {h2' h5' : dst'.view.WordExact} {h3' : DmaTarget.Typed (nD := nD) (τ := τ) (p := .scVector x y) sp (.dma sem) (.here dst')}
    {k : PUnit → Prog (TpuEff nD τ sig (Elt F) Λ (.scVector x y)) α} {q q' : PosShare TreeShare}
    {fs : Buf (Elt F) (src.view.loc (V d x y))} {Sd : Finset (Idx (dst.view.loc (V d x y)))} {fd : Buf (Elt F) (dst.view.loc (V d x y))}
    {fs' : Buf (Elt F) (src'.view.loc (V d x y))} {Sd' : Finset (Idx (dst'.view.loc (V d x y)))} {fd' : Buf (Elt F) (dst'.view.loc (V d x y))}
    {N : ℕ} (hN0 : 0 < N) (hN : dst.view.dmaCredit = N) (hN' : dst'.view.dmaCredit = N) (hSd : dst.view.set ⊆ Sd) (hSd' : dst'.view.set ⊆ Sd') :
    iprop((Transfers.MayWaits (V d x y) (default : HIx 2) O ∗ Owe d x y O W)
        ∗ (src.view.loc (V d x y) ↦[src.view.set]{q} fs) ∗ (dst.view.loc (V d x y) ↦[Sd]{fullShare} fd)
        ∗ (src'.view.loc (V d x y) ↦[src'.view.set]{q'} fs') ∗ (dst'.view.loc (V d x y) ↦[Sd']{fullShare} fd')
        ∗ semVal ((V d x y : Thread nD τ), SemLoc.dma sem) 0)
      ⊢ iprop((iprop(Owe d x y O W ∗ (src.view.loc (V d x y) ↦[src.view.set]{q} fs)
              ∗ (dst.view.loc (V d x y) ↦[Sd]{fullShare} (dst.view.write (Elt F) fd (src.view.read (Elt F) fs) Finset.univ))
              ∗ (src'.view.loc (V d x y) ↦[src'.view.set]{q'} fs')
              ∗ (dst'.view.loc (V d x y) ↦[Sd']{fullShare} (dst'.view.write (Elt F) fd' (src'.view.read (Elt F) fs') Finset.univ))
              ∗ semVal ((V d x y : Thread nD τ), SemLoc.dma sem) 0) -∗ wp frame (wpE defs 𝒱 (V d x y) bd) Set.univ (k ⟨⟩) Q)
          -∗ wp frame (wpE defs 𝒱 (V d x y) bd) Set.univ
              (Prog.lift (.enqueueDma src (.here dst) (.dma sem) h1 h2 h3) >>= fun _ => Prog.lift (.enqueueDma src' (.here dst') (.dma sem) h1' h2' h3') >>= fun _ =>
                Prog.lift (.waitDma2 sem src dst h4 h5) >>= fun _ => Prog.lift (.waitDma2 sem src' dst' h4' h5') >>= k) Q) := by
  simp only [Prog.bind_lift]
  iintro ⟨⟨#Hmw, HO⟩, Hs, Hd, Hs', Hd', Hv⟩ Hk
  ihave HO := (Owe.out d x y) $$ HO
  icases HO with ⟨%W', %hW', HO⟩
  let D₀ : sProp 𝕄 := iprop((dst.view.loc (V d x y) ↦[Sd]{fullShare} (dst.view.write (Elt F) fd (src.view.read (Elt F) fs) Finset.univ)) ∗ (src.view.loc (V d x y) ↦[src.view.set]{q} fs))
  let D₁ : sProp 𝕄 := iprop((dst'.view.loc (V d x y) ↦[Sd']{fullShare} (dst'.view.write (Elt F) fd' (src'.view.read (Elt F) fs') Finset.univ)) ∗ (src'.view.loc (V d x y) ↦[src'.view.set]{q'} fs'))
  let D : Fin 2 → sProp 𝕄 := ![D₀, D₁]
  haveI hst : ∀ t, Storable (upEmb : UEmb _ 𝕄) (D t) := fun t => by
    fin_cases t
    · change Storable _ D₀; infer_instance
    · change Storable _ D₁; infer_instance
  imod (Transfers.batch_alloc' EC (V d x y) (sm := .dma sem) (default : HIx 2) N D (E := Set.univ)) $$ Hv with HB
  iapply (Transfers.wp_dmaBatch EC 𝒱 (V d x y) bd (src := src) (dst := dst) (sm := .dma sem) (via := .same) (D := D) (default : HIx 2) N hN hSd (j := 0) (u := 0) (by omega) (by omega) .rfl) $$ [Hs Hd HB]
  · isplitl [Hs]; · iexact Hs
    isplitl [Hd] <;> iassumption
  iintro HB
  iapply (Transfers.wp_dmaBatch EC 𝒱 (V d x y) bd (src := src') (dst := dst') (sm := .dma sem) (via := .same) (D := D) (default : HIx 2) N hN' hSd' (j := 1) (u := 0) (by omega) (by omega) .rfl) $$ [Hs' Hd' HB]
  · isplitl [Hs']; · iexact Hs'
    isplitl [Hd'] <;> iassumption
  iintro HB
  iapply (Transfers.wp_waitBatchO EC 𝒱 (V d x y) bd (D := D) (u := 0) (default : HIx 2) hN (by omega)) $$ [HB HO]
  · isplitl [HB]; · iexact HB
    isplitl [HO]; · iexact HO
    iapply (Transfers.MayWaits.elim (SemLoc.dma sem)) $$ Hmw
  iintro ⟨HB, HO⟩
  iapply (Transfers.wp_waitBatchLastO EC 𝒱 (V d x y) bd (D := D) (u := 0 + N) (default : HIx 2) hN' hN0 (by omega)) $$ [HB HO]
  · isplitl [HB]; · iexact HB
    isplitl [HO]; · iexact HO
    iapply (Transfers.MayWaits.elim (SemLoc.dma sem)) $$ Hmw
  iintro ⟨HD, Hv, HO⟩
  ihave HD' := (show bigSep Finset.univ D ⊢ iprop(D₀ ∗ D₁) from Entails.of_eq (by
    rw [Transfers.bigSep_pending_zero, Transfers.bigSep_pending_step D 0 (by omega), Transfers.bigSep_pending_last D 1 (by omega) (by omega)]; rfl)) $$ HD
  icases HD' with ⟨⟨Hd, Hs⟩, ⟨Hd', Hs'⟩⟩
  iapply Hk
  isplitl [HO]
  · iapply (Owe.add2 d x y W' hW'); iexact HO
  isplitl [Hs]; · iexact Hs
  isplitl [Hd]; · iexact Hd
  isplitl [Hs']; · iexact Hs'
  isplitl [Hd']; · iexact Hd'
  iexact Hv

end Rules

end Cert.Proof.Rows

end
-- ==== Proof.Chunks.lean ====
module

public import proofs.«01_k».proof.Proof.Streams

@[expose] public section

noncomputable section

namespace Cert.Proof.Rows

open Cert.KernelIdeal Cert.KernelIdeal.Gen

open Idealize.ShloMosaic
open Idealize.ShloMosaic.SparseCore (S V T rows gatherPayload)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

/-! ## The values -/

/-- The index whose coordinate `a` is `f a` (reduced into range). -/
def at' (s : Shape) (h : ∀ a, 0 < s.size a) (f : ℕ → ℕ) : s.Idx := fun a => ⟨f a.val % s.size a, Nat.mod_lt _ (h a)⟩

theorem at'_eq {s : Shape} {h : ∀ a, 0 < s.size a} {f : ℕ → ℕ} {x : s.Idx} (hx : ∀ a, (x a).val = f a.val) : at' s h f = x := by
  funext a
  apply Fin.ext
  change f a.val % s.size a = _
  rw [hx a, Nat.mod_eq_of_lt]
  rw [← hx a]; exact (x a).isLt

theorem posL : ∀ a, 0 < S131072.size a := by decide
theorem posT : ∀ a, 0 < S8192x128.size a := by decide
theorem posO : ∀ a, 0 < S131072x128.size a := by decide

/-- The gather, whole: row `x 0` of the result is the row of the table its list entry names. -/
def gath {α : Type} (T : S8192x128.Idx → α) (I : S131072.Idx → BitVec 32) : S131072x128.Idx → α := fun x =>
  T (at' _ posT fun a => if a = 0 then (I (at' _ posL fun _ => (x 0).val)).toNat else (x 1).val)

/-- Entries `n … n + 127` of the list. -/
def chunkAt (I : S131072.Idx → BitVec 32) (n : ℕ) : S128.Idx → BitVec 32 := fun j => I (at' _ posL fun _ => n + (j 0).val)

/-- Rows `n … n + 127` of the gather. -/
def rowsAt {α : Type} (T : S8192x128.Idx → α) (I : S131072.Idx → BitVec 32) (n : ℕ) : S128x128.Idx → α := fun j =>
  gath T I (at' _ posO fun a => if a = 0 then n + (j 0).val else (j 1).val)

variable {F : FTy → Type}

section Values

variable {Val : EltTy → Type}

/-- A fetch's source reads a chunk of the list. -/
theorem fetch_val {sp : Space} (b : Memref sig .scVector sp S131072 .i32) (f : b.view.ty.Contents (Elt F)) {n : ℕ} {off : Fin 1 → ℕ} (ho : off = ![n])
    (inb : ∀ a, off a + S128.size a ≤ S131072.size a) (h : ∀ a, _) :
    (b.slice (Rect.unit (s := S131072) off S128.size inb) h).view.read (Elt F) f = chunkAt (b.view.read (Elt F) f) n := by
  subst ho
  funext j
  change b.view.read (Elt F) f ((Rect.unit (s := S131072) ![n] S128.size inb).emb j) = b.view.read (Elt F) f (at' _ posL fun _ => n + (j 0).val)
  congr 1
  refine (at'_eq fun a => ?_).symm
  match a with
  | ⟨0, _⟩ => change n + 1 * (j 0).val = n + (j 0).val; omega

/-- The whole table read as a slice. -/
theorem tab_val {sp : Space} (b : Memref sig .scVector sp S8192x128 .f32) (f : b.view.ty.Contents (Elt F))
    (inb : ∀ a, (![0, 0] : Fin 2 → ℕ) a + S8192x128.size a ≤ S8192x128.size a) (h : ∀ a, _) :
    (b.slice (Rect.unit (s := S8192x128) ![0, 0] S8192x128.size inb) h).view.read (Elt F) f = b.view.read (Elt F) f := by
  funext j
  change b.view.read (Elt F) f ((Rect.unit (s := S8192x128) ![0, 0] S8192x128.size inb).emb j) = b.view.read (Elt F) f j
  congr 1
  funext a
  apply Fin.ext
  match a with
  | ⟨0, _⟩ => change 0 + 1 * (j 0).val = (j 0).val; omega
  | ⟨1, _⟩ => change 0 + 1 * (j 1).val = (j 1).val; omega

/-- What a gather by a chunk of the list delivers. -/
theorem gather_val {α : Type} {n : ℕ} (hnb : n + 128 ≤ 131072) (hg : S8192x128.Gathers 0 S128x128) (hn : S128.numel = S128x128.size hg.axis')
    (T : S8192x128.Idx → α) (I : S131072.Idx → BitVec 32)
    (hin : ∀ z, (chunkAt I n z).toNat < S8192x128.size hg.axis) :
    (fun x => T (hg.idx (rows (F := F) (chunkAt I n) hn hin) x)) = rowsAt T I n := by
  funext j
  unfold rowsAt gath
  congr 1
  refine (at'_eq fun a => ?_).symm
  have hj : (j 0).val < 128 := (j 0).isLt
  have h0 : ((at' _ posO fun a => if a = 0 then n + (j 0).val else (j 1).val) 0).val = n + (j 0).val := by
    change (n + (j 0).val) % 131072 = _
    rw [Nat.mod_eq_of_lt (by omega)]
  match a with
  | ⟨0, _⟩ =>
    rw [if_pos rfl, h0]
    refine (congrArg Fin.val (Shape.Gathers.idx_axis hg (rows (F := F) (chunkAt I n) hn hin) j)).trans ?_
    change ((chunkAt I n (S128.rowMajor.symm ((j hg.axis').cast hn.symm)))).toNat = _
    unfold chunkAt
    have hz : ((S128.rowMajor.symm ((j hg.axis').cast hn.symm)) 0).val = (j 0).val := by
      rw [← Shape.rowMajor_val_one, Equiv.apply_symm_apply]; rfl
    simp only [hz]
  | ⟨1, _⟩ =>
    rw [Shape.Gathers.idx_of_ne hg _ _ _ Nat.one_ne_zero, if_neg Nat.one_ne_zero]
    have : (j 1).val < 128 := (j 1).isLt
    change _ = (j 1).val % 128
    rw [Nat.mod_eq_of_lt this]; rfl

/-- The elements of the output between rows `lo` and `hi`. -/
def band {sp : Space} (b : Memref sig .scVector sp S131072x128 .f32) (lo hi : ℕ) : Finset b.view.ty.Idx :=
  (Finset.univ.filter fun x : S131072x128.Idx => lo ≤ (x 0).val ∧ (x 0).val < hi).map b.view.emb

theorem band_slice {sp : Space} (b : Memref sig .scVector sp S131072x128 .f32) {n lo hi : ℕ} {off : Fin 2 → ℕ} (ho : off = ![n, 0])
    (inb : ∀ a, off a + S128x128.size a ≤ S131072x128.size a) (h : ∀ a, _) (hlo : lo ≤ n) (hhi : n + 128 ≤ hi) :
    (b.slice (Rect.unit (s := S131072x128) off S128x128.size inb) h).view.set ⊆ band b lo hi := by
  subst ho
  intro i hi'
  obtain ⟨j, -, rfl⟩ := Finset.mem_map.mp hi'
  have hj : (j 0).val < 128 := (j 0).isLt
  refine Finset.mem_map.mpr ⟨(Rect.unit (s := S131072x128) ![n, 0] S128x128.size inb).emb j, Finset.mem_filter.mpr ⟨Finset.mem_univ _, ?_⟩, rfl⟩
  have : ((Rect.unit (s := S131072x128) ![n, 0] S128x128.size inb).emb j 0).val = n + 1 * (j 0).val := rfl
  omega

/-- Rows `n … n + 127` put: the gather's rows below `n + 128` read back. -/
theorem put_val {sp : Space} (b : Memref sig .scVector sp S131072x128 .f32) (f : b.view.ty.Contents (Elt F)) {n base : ℕ} {off : Fin 2 → ℕ} (ho : off = ![n, 0])
    (inb : ∀ a, off a + S128x128.size a ≤ S131072x128.size a) (h : ∀ a, _)
    (T : S8192x128.Idx → Elt F .f32) (I : S131072.Idx → BitVec 32)
    (hf : ∀ x : S131072x128.Idx, base ≤ (x 0).val → (x 0).val < n → b.view.read (Elt F) f x = gath T I x) (x : S131072x128.Idx)
    (hlo : base ≤ (x 0).val) (hhi : (x 0).val < n + 128) :
    b.view.read (Elt F) ((b.slice (Rect.unit (s := S131072x128) off S128x128.size inb) h).view.write (Elt F) f (rowsAt T I n) Finset.univ) x = gath T I x := by
  subst ho
  by_cases hx : n ≤ (x 0).val
  · have hxn : (x 0).val - n < 128 := by omega
    let j : S128x128.Idx := fun | ⟨0, _⟩ => ⟨(x 0).val - n, hxn⟩ | ⟨1, _⟩ => x 1
    have he : (Rect.unit (s := S131072x128) ![n, 0] S128x128.size inb).emb j = x := by
      funext a
      apply Fin.ext
      match a with
      | ⟨0, _⟩ => change n + 1 * ((x 0).val - n) = (x 0).val; omega
      | ⟨1, _⟩ => change 0 + 1 * (x 1).val = (x 1).val; omega
    have hr := View.read_slice_write_emb (v := b.view) (Rect.unit (s := S131072x128) ![n, 0] S128x128.size inb) f (rowsAt T I n) (Finset.mem_univ j)
    rw [he] at hr
    refine hr.trans ?_
    unfold rowsAt
    congr 1
    refine at'_eq fun a => ?_
    match a with
    | ⟨0, _⟩ => change (x 0).val = n + ((x 0).val - n); omega
    | ⟨1, _⟩ => rfl
  · refine (View.read_slice_write_of_not_mem (v := b.view) (Rect.unit (s := S131072x128) ![n, 0] S128x128.size inb) f (rowsAt T I n) Finset.univ ?_).trans
      (hf x hlo (by omega))
    intro hm
    obtain ⟨j, -, rfl⟩ := Finset.mem_map.mp hm
    have : ((Rect.unit (s := S131072x128) ![n, 0] S128x128.size inb).emb j 0).val = n + 1 * (j 0).val := rfl
    omega

end Values

/-! ## The rules -/

local notation "𝕄" => MT nD τ sig (HIx 2) (Elt F) ℕ UU ℕ

section Rules

variable (d : Dev nD) (x : Fin τ.nSC) (y : Fin τ.nSub)

/-- The memref's elements held at share `q`. -/
def Tok {sp : Space} {s : Shape} {e : EltTy} (b : Memref sig .scVector sp s e) (q : PosShare TreeShare) (f : Buf (Elt F) (b.view.loc (V d x y))) : sProp 𝕄 :=
  b.view.loc (V d x y) ↦[b.view.set]{q} f

/-- The output's rows `base … base + 4095` held outright, those below `n` the gather's. -/
def Out {sp : Space} (b : Memref sig .scVector sp S131072x128 .f32) (T : S8192x128.Idx → Elt F .f32) (I : S131072.Idx → BitVec 32) (base n : ℕ) : sProp 𝕄 :=
  iprop(∃ f : Buf (Elt F) (b.view.loc (V d x y)), ⌜∀ x : S131072x128.Idx, base ≤ (x 0).val → (x 0).val < n → b.view.read (Elt F) f x = gath T I x⌝
    ∗ (b.view.loc (V d x y) ↦[band b base (base + 4096)]{fullShare} f))

theorem Tok.split {sp : Space} {s : Shape} {e : EltTy} (b : Memref sig .scVector sp s e) (q : PosShare TreeShare) (f : Buf (Elt F) (b.view.loc (V d x y))) (R : Rect s) (h : ∀ a, R.stride a = 1) :
    Tok d x y b q f ⊢ (iprop((((b.slice R h).view.loc (V d x y)) ↦[(b.slice R h).view.set]{q} f)
      ∗ ((((b.slice R h).view.loc (V d x y)) ↦[(b.slice R h).view.set]{q} f) -∗ Tok d x y b q f)) : sProp 𝕄) := by
  unfold Tok
  have hsub : (b.slice R h).view.set ⊆ b.view.set := View.set_slice_subset (v := b.view) R
  iintro H
  ihave H' := (pointsTo_split_subset (ℓ := b.view.loc (V d x y)) hsub).1 $$ H
  icases H' with ⟨H1, H2⟩
  isplitl [H1]; · iexact H1
  iintro H1
  iapply (pointsTo_split_subset (ℓ := b.view.loc (V d x y)) hsub).2
  isplitl [H1]; · iexact H1
  iexact H2

variable {Λ : Labels} {defs : Defs nD τ sig (Elt F) Λ} (𝒱 : Variants) (bd : Option 𝒱.V)
variable {α : Type} {Q : α → sProp (MT nD τ sig (HIx 2) (Elt F) ℕ UU ℕ)}
variable {O : CellTallies nD τ sig (HIx 2)} {W : Waits sig (HIx 2)}

/-- A chunk of the list fetched. -/
theorem wp_fetch {bI : Memref sig .scVector .hbm S131072 .i32} {l : Memref sig .scVector .vmem S128 .i32} {sem : DmaSem sig} {n : ℕ}
    {off : Fin 1 → ℕ} (ho : off = ![n]) {inb inb' : ∀ a, off a + S128.size a ≤ S131072.size a}
    {hu hu' : ∀ a, (Rect.unit (s := S131072) off S128.size inb).stride a = 1}
    {h1 h4 h2 h5 h3}
    {k : PUnit → Prog (TpuEff nD τ sig (Elt F) Λ (.scVector x y)) α} {q : PosShare TreeShare} {fi : Buf (Elt F) (bI.view.loc (V d x y))} :
    iprop((Transfers.MayWaits (V d x y) (default : HIx 2) O ∗ Owe d x y O W) ∗ Tok d x y bI q fi ∗ Any d x y l ∗ semVal ((V d x y : Thread nD τ), SemLoc.dma sem) 0)
      ⊢ iprop((iprop(Owe d x y O W ∗ Tok d x y bI q fi ∗ Has d x y l (chunkAt (bI.view.read (Elt F) fi) n) ∗ semVal ((V d x y : Thread nD τ), SemLoc.dma sem) 0)
            -∗ wp frame (wpE defs 𝒱 (V d x y) bd) Set.univ (k ⟨⟩) Q)
          -∗ wp frame (wpE defs 𝒱 (V d x y) bd) Set.univ
              (Prog.lift (.enqueueDma (bI.slice (Rect.unit (s := S131072) off S128.size inb) hu) (.here l) (.dma sem) h1 h2 h3) >>= fun _ =>
                Prog.lift (.waitDma2 sem (bI.slice (Rect.unit (s := S131072) off S128.size inb') hu') l h4 h5) >>= k) Q) := by
  iintro ⟨⟨Hmw, HO⟩, Hi, Hl, Hv⟩ Hk
  unfold Any
  icases Hl with ⟨%fl, Hl⟩
  ihave Hi' := (Tok.split d x y bI q fi (Rect.unit (s := S131072) off S128.size inb) hu) $$ Hi
  icases Hi' with ⟨Hi, Hback⟩
  iapply (wp_copy d x y 𝒱 bd (show 0 < S128.numel by decide) subset_rfl) $$ [Hmw HO Hi Hl Hv]
  · isplitl [Hmw HO]; · isplitl [Hmw] <;> iassumption
    isplitl [Hi]; · iexact Hi
    isplitl [Hl] <;> iassumption
  iintro ⟨HO, Hi, Hl, Hv⟩
  iapply Hk
  isplitl [HO]; · iexact HO
  isplitl [Hi Hback]; · iapply Hback; iexact Hi
  isplitl [Hl]
  · unfold Has
    iexists _; isplitr
    swap; · iexact Hl
    ipureintro
    rw [View.read_write_univ]; exact fetch_val bI fi ho inb hu
  iexact Hv

theorem tab_set {sp : Space} (b : Memref sig .scVector sp S8192x128 .f32)
    (inb : ∀ a, (![0, 0] : Fin 2 → ℕ) a + S8192x128.size a ≤ S8192x128.size a) (h : ∀ a, _) :
    (b.slice (Rect.unit (s := S8192x128) ![0, 0] S8192x128.size inb) h).view.set = b.view.set := by
  apply Finset.Subset.antisymm (View.set_slice_subset (v := b.view) _)
  intro i hi
  obtain ⟨j, -, rfl⟩ := Finset.mem_map.mp hi
  refine Finset.mem_map.mpr ⟨j, Finset.mem_univ _, congrArg b.view.emb ?_⟩
  funext a
  apply Fin.ext
  match a with
  | ⟨0, _⟩ => change 0 + 1 * (j 0).val = (j 0).val; omega
  | ⟨1, _⟩ => change 0 + 1 * (j 1).val = (j 1).val; omega

theorem Tok.tab {sp : Space} (b : Memref sig .scVector sp S8192x128 .f32) (q : PosShare TreeShare) (f : Buf (Elt F) (b.view.loc (V d x y)))
    (inb : ∀ a, (![0, 0] : Fin 2 → ℕ) a + S8192x128.size a ≤ S8192x128.size a) (h : ∀ a, _) :
    (Tok d x y b q f : sProp 𝕄) = (((b.slice (Rect.unit (s := S8192x128) ![0, 0] S8192x128.size inb) h).view.loc (V d x y))
      ↦[(b.slice (Rect.unit (s := S8192x128) ![0, 0] S8192x128.size inb) h).view.set]{q} f) := by
  rw [tab_set]; rfl

/-- A transfer's credit is the bits it moves. -/
theorem credit {s s' : Shape} {e : EltTy} (b : Memref sig .scVector .vmem s e) : sig.dmaCredit .scVector (Kind.scVector.table .vmem) b.view.buf s' e = s'.numel * e.bits := rfl

variable {hg : S8192x128.Gathers 0 S128x128} {hn : S128.numel = S128x128.size hg.axis'}

/-- The gather of a chunk's rows issued. -/
theorem wp_gath {t : Memref sig .scVector .hbm S8192x128 .f32} {r : Memref sig .scVector .vmem S128x128 .f32} {l : Memref sig .scVector .vmem S128 .i32} {sem : DmaSem sig} {n : ℕ}
    (hnb : n + 128 ≤ 131072) {I : S131072.Idx → BitVec 32} (hI : ∀ z, (I z).toNat < 8192)
    {inb : ∀ a, (![0, 0] : Fin 2 → ℕ) a + S8192x128.size a ≤ S8192x128.size a} {h : ∀ a, _} {hp hsrc he hsp hr}
    {k : PUnit → Prog (TpuEff nD τ sig (Elt F) Λ (.scVector x y)) α} {q : PosShare TreeShare} {ft : Buf (Elt F) (t.view.loc (V d x y))} :
    iprop(Tok d x y t q ft ∗ Any d x y r ∗ Has d x y l (chunkAt I n) ∗ semVal ((V d x y : Thread nD τ), SemLoc.dma sem) 0)
      ⊢ iprop((Transfers.Flight EC (V d x y) (.dma sem) (default : HIx 2) r.view.dmaCredit
                iprop(Has d x y r (rowsAt (t.view.read (Elt F) ft) I n) ∗ Has d x y l (chunkAt I n) ∗ Tok d x y t q ft)
              -∗ wp frame (wpE defs 𝒱 (V d x y) bd) Set.univ (k ⟨⟩) Q)
          -∗ wp frame (wpE defs 𝒱 (V d x y) bd) Set.univ
              (SparseCore.enqueueIndirectGather hp (t.slice (Rect.unit (s := S8192x128) ![0, 0] S8192x128.size inb) h) r hg l hn sem hsrc he hsp hr >>= k) Q) := by
  have hin : ∀ z, (chunkAt I n z).toNat < S8192x128.size hg.axis := fun z => hI _
  have key := wp_gatherStart (defs := defs) (Q := Q) (q := q) (ft := ft) (k := k) (hp := hp) (hsrc := hsrc) (he := he) (hsp := hsp) (hr := hr) (hn := hn) (sem := sem)
    (src := t.slice (Rect.unit (s := S8192x128) ![0, 0] S8192x128.size inb) h) (dst := r) (hg := hg) (offs := l) (lv := chunkAt I n) d x y 𝒱 bd
    (SparseCore.sum_rowCredit_eq_dmaCredit r hg.axis' fun _ => credit r) (by decide) hin
  rw [show gatherPayload hg ((t.slice (Rect.unit (s := S8192x128) ![0, 0] S8192x128.size inb) h).view.read (Elt F) ft) (rows (chunkAt I n) hn hin)
    = rowsAt (t.view.read (Elt F) ft) I n from by rw [tab_val]; exact gather_val hnb hg hn _ I hin, ← Tok.tab d x y t q ft inb h] at key
  exact key

/-- The gathers of a chunk's rows from two tables issued on one semaphore. -/
theorem wp_gath2 {t t' : Memref sig .scVector .hbm S8192x128 .f32} {r r' : Memref sig .scVector .vmem S128x128 .f32} {l : Memref sig .scVector .vmem S128 .i32} {sem : DmaSem sig} {n : ℕ}
    (hnb : n + 128 ≤ 131072) {I : S131072.Idx → BitVec 32} (hI : ∀ z, (I z).toNat < 8192)
    {inb inb' : ∀ a, (![0, 0] : Fin 2 → ℕ) a + S8192x128.size a ≤ S8192x128.size a} {h h' : ∀ a, _} {hp hsrc he hsp hr hp' hsrc' he' hsp' hr'}
    {k : PUnit → Prog (TpuEff nD τ sig (Elt F) Λ (.scVector x y)) α} {q q' : PosShare TreeShare} {ft : Buf (Elt F) (t.view.loc (V d x y))} {ft' : Buf (Elt F) (t'.view.loc (V d x y))} :
    iprop(Tok d x y t q ft ∗ Tok d x y t' q' ft' ∗ Any d x y r ∗ Any d x y r' ∗ Has d x y l (chunkAt I n) ∗ semVal ((V d x y : Thread nD τ), SemLoc.dma sem) 0)
      ⊢ iprop((Pend d x y sem 4096 (128 + 128)
                iprop(Has d x y r (rowsAt (t.view.read (Elt F) ft) I n) ∗ Has d x y r' (rowsAt (t'.view.read (Elt F) ft') I n) ∗ Has d x y l (chunkAt I n)
                  ∗ Tok d x y t q ft ∗ Tok d x y t' q' ft')
              -∗ wp frame (wpE defs 𝒱 (V d x y) bd) Set.univ (k ⟨⟩) Q)
          -∗ wp frame (wpE defs 𝒱 (V d x y) bd) Set.univ
              (SparseCore.enqueueIndirectGather hp (t.slice (Rect.unit (s := S8192x128) ![0, 0] S8192x128.size inb) h) r hg l hn sem hsrc he hsp hr >>= fun _ =>
                SparseCore.enqueueIndirectGather hp' (t'.slice (Rect.unit (s := S8192x128) ![0, 0] S8192x128.size inb') h') r' hg l hn sem hsrc' he' hsp' hr' >>= k) Q) := by
  have hin : ∀ z, (chunkAt I n z).toNat < S8192x128.size hg.axis := fun z => hI _
  have hcr : ∀ (b : Memref sig .scVector .vmem S128x128 .f32) (j : Fin (S128x128.size hg.axis')),
      (b.slice (S128x128.rowRect hg.axis' j) (S128x128.stride_rowRect hg.axis' j)).view.dmaCredit = 4096 := fun b j =>
    (credit b).trans (by change (S128x128.rowShape (0 : Fin 2)).numel * 32 = 4096; decide)
  have key := wp_gather2Start (defs := defs) (Q := Q) (q := q) (ft := ft) (q' := q') (ft' := ft') (k := k) (hp := hp) (hsrc := hsrc) (he := he) (hsp := hsp) (hr := hr)
    (hp' := hp') (hsrc' := hsrc') (he' := he') (hsp' := hsp') (hr' := hr') (hn := hn) (sem := sem)
    (src := t.slice (Rect.unit (s := S8192x128) ![0, 0] S8192x128.size inb) h) (dst := r) (hg := hg) (offs := l) (lv := chunkAt I n)
    (src' := t'.slice (Rect.unit (s := S8192x128) ![0, 0] S8192x128.size inb') h') (dst' := r') d x y 𝒱 bd (show 0 < 128 by decide) (hcr r) (hcr r') hin
  rw [show gatherPayload hg ((t.slice (Rect.unit (s := S8192x128) ![0, 0] S8192x128.size inb) h).view.read (Elt F) ft) (rows (chunkAt I n) hn hin)
    = rowsAt (t.view.read (Elt F) ft) I n from by rw [tab_val]; exact gather_val hnb hg hn _ I hin, ← Tok.tab d x y t q ft inb h,
    show gatherPayload hg ((t'.slice (Rect.unit (s := S8192x128) ![0, 0] S8192x128.size inb') h').view.read (Elt F) ft') (rows (chunkAt I n) hn hin)
    = rowsAt (t'.view.read (Elt F) ft') I n from by rw [tab_val]; exact gather_val hnb hg hn _ I hin, ← Tok.tab d x y t' q' ft' inb' h'] at key
  exact key

/-- A chunk's gathered rows put in the output. -/
theorem wp_put {r : Memref sig .scVector .vmem S128x128 .f32} {b : Memref sig .scVector .hbm S131072x128 .f32} {sem : DmaSem sig} {n base : ℕ}
    {T : S8192x128.Idx → Elt F .f32} {I : S131072.Idx → BitVec 32}
    {off : Fin 2 → ℕ} (ho : off = ![n, 0]) (hlo : base ≤ n) (hhi : n + 128 ≤ base + 4096) {inb inb' : ∀ a, off a + S128x128.size a ≤ S131072x128.size a}
    {hu hu' : ∀ a, (Rect.unit (s := S131072x128) off S128x128.size inb).stride a = 1}
    {h1 h4 h2 h5 h3}
    {k : PUnit → Prog (TpuEff nD τ sig (Elt F) Λ (.scVector x y)) α} :
    iprop((Transfers.MayWaits (V d x y) (default : HIx 2) O ∗ Owe d x y O W) ∗ Has d x y r (rowsAt T I n) ∗ Out d x y b T I base n ∗ semVal ((V d x y : Thread nD τ), SemLoc.dma sem) 0)
      ⊢ iprop((iprop(Owe d x y O W ∗ Any d x y r ∗ Out d x y b T I base (n + 128) ∗ semVal ((V d x y : Thread nD τ), SemLoc.dma sem) 0)
            -∗ wp frame (wpE defs 𝒱 (V d x y) bd) Set.univ (k ⟨⟩) Q)
          -∗ wp frame (wpE defs 𝒱 (V d x y) bd) Set.univ
              (Prog.lift (.enqueueDma r (.here (b.slice (Rect.unit (s := S131072x128) off S128x128.size inb) hu)) (.dma sem) h1 h2 h3) >>= fun _ =>
                Prog.lift (.waitDma2 sem r (b.slice (Rect.unit (s := S131072x128) off S128x128.size inb') hu') h4 h5) >>= k) Q) := by
  unfold Has Out
  iintro ⟨⟨Hmw, HO⟩, ⟨%fr, %hfr, Hr⟩, ⟨%fo, %hfo, Hb⟩, Hv⟩ Hk
  iapply (wp_copy d x y 𝒱 bd (src := r) (dst := b.slice (Rect.unit (s := S131072x128) off S128x128.size inb) hu) (Sd := band b base (base + 4096)) (show 0 < S128x128.numel by decide) (band_slice b ho inb hu hlo hhi)) $$ [Hmw HO Hr Hb Hv]
  · isplitl [Hmw HO]; · isplitl [Hmw] <;> iassumption
    isplitl [Hr]; · iexact Hr
    isplitl [Hb] <;> iassumption
  iintro ⟨HO, Hr, Hb, Hv⟩
  iapply Hk
  isplitl [HO]; · iexact HO
  isplitl [Hr]; · unfold Any; iexists fr; iexact Hr
  isplitl [Hb]
  · iexists _; isplitr
    swap; · iexact Hb
    ipureintro
    rw [hfr]
    exact fun x => put_val b fo ho inb hu T I hfo x
  iexact Hv

/-- Two chunks' gathered rows put in two outputs, on one semaphore. -/
theorem wp_put2 {r r' : Memref sig .scVector .vmem S128x128 .f32} {b b' : Memref sig .scVector .hbm S131072x128 .f32} {sem : DmaSem sig} {n base : ℕ}
    {T T' : S8192x128.Idx → Elt F .f32} {I : S131072.Idx → BitVec 32}
    {off off' : Fin 2 → ℕ} (ho : off = ![n, 0]) (ho' : off' = ![n, 0]) (hlo : base ≤ n) (hhi : n + 128 ≤ base + 4096)
    {inb inb₁ : ∀ a, off a + S128x128.size a ≤ S131072x128.size a} {inb' inb₁' : ∀ a, off' a + S128x128.size a ≤ S131072x128.size a}
    {hu hu₁ : ∀ a, (Rect.unit (s := S131072x128) off S128x128.size inb).stride a = 1}
    {hu' hu₁' : ∀ a, (Rect.unit (s := S131072x128) off' S128x128.size inb').stride a = 1}
    {h1 h4 h2 h5 h3 h1' h4' h2' h5' h3'}
    {k : PUnit → Prog (TpuEff nD τ sig (Elt F) Λ (.scVector x y)) α} :
    iprop((Transfers.MayWaits (V d x y) (default : HIx 2) O ∗ Owe d x y O W) ∗ Has d x y r (rowsAt T I n) ∗ Has d x y r' (rowsAt T' I n)
        ∗ Out d x y b T I base n ∗ Out d x y b' T' I base n ∗ semVal ((V d x y : Thread nD τ), SemLoc.dma sem) 0)
      ⊢ iprop((iprop(Owe d x y O W ∗ Any d x y r ∗ Any d x y r' ∗ Out d x y b T I base (n + 128) ∗ Out d x y b' T' I base (n + 128)
              ∗ semVal ((V d x y : Thread nD τ), SemLoc.dma sem) 0)
            -∗ wp frame (wpE defs 𝒱 (V d x y) bd) Set.univ (k ⟨⟩) Q)
          -∗ wp frame (wpE defs 𝒱 (V d x y) bd) Set.univ
              (Prog.lift (.enqueueDma r (.here (b.slice (Rect.unit (s := S131072x128) off S128x128.size inb) hu)) (.dma sem) h1 h2 h3) >>= fun _ =>
                Prog.lift (.enqueueDma r' (.here (b'.slice (Rect.unit (s := S131072x128) off' S128x128.size inb') hu')) (.dma sem) h1' h2' h3') >>= fun _ =>
                Prog.lift (.waitDma2 sem r (b.slice (Rect.unit (s := S131072x128) off S128x128.size inb₁) hu₁) h4 h5) >>= fun _ =>
                Prog.lift (.waitDma2 sem r' (b'.slice (Rect.unit (s := S131072x128) off' S128x128.size inb₁') hu₁') h4' h5') >>= k) Q) := by
  unfold Has Out
  iintro ⟨⟨Hmw, HO⟩, ⟨%fr, %hfr, Hr⟩, ⟨%fr', %hfr', Hr'⟩, ⟨%fo, %hfo, Hb⟩, ⟨%fo', %hfo', Hb'⟩, Hv⟩ Hk
  iapply (wp_copy2 d x y 𝒱 bd (src := r) (dst := b.slice (Rect.unit (s := S131072x128) off S128x128.size inb) hu) (src' := r') (dst' := b'.slice (Rect.unit (s := S131072x128) off' S128x128.size inb') hu') (Sd := band b base (base + 4096)) (Sd' := band b' base (base + 4096)) (N := S128x128.numel * 32) (by decide) rfl rfl
    (band_slice b ho inb hu hlo hhi) (band_slice b' ho' inb' hu' hlo hhi)) $$ [Hmw HO Hr Hb Hr' Hb' Hv]
  · isplitl [Hmw HO]; · isplitl [Hmw] <;> iassumption
    isplitl [Hr]; · iexact Hr
    isplitl [Hb]; · iexact Hb
    isplitl [Hr']; · iexact Hr'
    isplitl [Hb'] <;> iassumption
  iintro ⟨HO, Hr, Hb, Hr', Hb', Hv⟩
  iapply Hk
  isplitl [HO]; · iexact HO
  isplitl [Hr]; · unfold Any; iexists fr; iexact Hr
  isplitl [Hr']; · unfold Any; iexists fr'; iexact Hr'
  isplitl [Hb]
  · iexists _; isplitr
    swap; · iexact Hb
    ipureintro
    rw [hfr]
    exact fun x => put_val b fo ho inb hu T I hfo x
  isplitl [Hb']
  · iexists _; isplitr
    swap; · iexact Hb'
    ipureintro
    rw [hfr']
    exact fun x => put_val b' fo' ho' inb' hu' T' I hfo' x
  iexact Hv

end Rules

end Cert.Proof.Rows
-- ==== Proof.One.lean ====
/-
  The first kernel's task at one vector subcore: 32 chunks of 128 rows, two buffers. Before trip `k` the gather of chunk
  `2k` is in flight on the first semaphore and the output's rows below chunk `2k` are the gather's; after the last trip
  nothing is in flight.
-/
module

public import proofs.«01_k».proof.Proof.Chunks

@[expose] public section

noncomputable section

namespace Cert.Proof.Rows

open Cert.KernelIdeal Cert.KernelIdeal.Gen

open Idealize.ShloMosaic
open Idealize.ShloMosaic.SparseCore (S V T rows gatherPayload)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-- A subcore's DMA semaphore at zero. -/
abbrev Zero (d : Dev nD) (x : Fin τ.nSC) (y : Fin τ.nSub) (s : DmaSem sig) : sProp 𝕄 := semVal ((V d x y : Thread nD τ), SemLoc.dma s) 0

theorem Tok.halve (d : Dev nD) (x : Fin τ.nSC) (y : Fin τ.nSub) {sp : Space} {s : Shape} {e : EltTy} (b : Memref sig .scVector sp s e) (q : PosShare TreeShare)
    (f : Buf (Elt F) (b.view.loc (V d x y))) : (Tok d x y b q f : sProp 𝕄) ⊣⊢ iprop(Tok d x y b q.left f ∗ Tok d x y b q.right f) :=
  pointsTo_share (PosShare.mem_left_op_right q)

theorem k0_trips : k0_t1_loop.trips = 16 := by decide +kernel
theorem k0_cond : ∀ t : Fin k0_t1_loop.trips, k0_cond1 t = 1#1 ↔ t.val + 1 < 16 := by decide +kernel

/-- The first row of a subcore's band of the output. -/
def base0 (i : grid0.Coords) : ℕ := 8192 * (i 1).val + 4096 * (i 0).val

theorem base0_le (i : grid0.Coords) : base0 i + 4096 ≤ 131072 := by
  have h0 : (i 0).val < 2 := (i 0).isLt
  have h1 : (i 1).val < 16 := (i 1).isLt
  unfold base0; omega

/-- Its SparseCore and its subcore. -/
abbrev x0 (i : grid0.Coords) : Fin τ.nSC := (i 0).castLE hcore0
abbrev y0 (i : grid0.Coords) : Fin τ.nSub := (i 1).castLE hsub0

section Task

variable (d : Dev nD) (i : grid0.Coords)
variable (arg2 : Memref sig .scVector .hbm S8192x128 .f32) (harg2 : arg2.IsWhole) (arg3 : Memref sig .scVector .hbm S131072 .i32) (harg3 : arg3.IsWhole) (arg4 : Memref sig .scVector .hbm S131072x128 .f32) (harg4 : arg4.IsWhole) (arg5 : Memref sig .scVector .vmem S128 .i32) (harg5 : arg5.IsWhole) (arg6 : Memref sig .scVector .vmem S128 .i32) (harg6 : arg6.IsWhole) (arg7 : Memref sig .scVector .vmem S128x128 .f32) (harg7 : arg7.IsWhole) (arg8 : Memref sig .scVector .vmem S128x128 .f32) (harg8 : arg8.IsWhole) (arg9 : DmaSems sig S_) (arg10 : DmaSems sig S_) (arg11 : DmaSems sig S_) (arg12 : DmaSems sig S_) (v7_r0 : DmaSems sig S_) (v41_r1 : DmaSems sig S_) (v46_r2 : DmaSems sig S_)

variable (q qi : PosShare TreeShare) (ft : Buf (Elt F) (arg2.view.loc (V d (x0 i) (y0 i)))) (fi : Buf (Elt F) (arg3.view.loc (V d (x0 i) (y0 i))))
variable (O : CellTallies nD τ sig (HIx 2)) (W : Waits sig (HIx 2))

/-- The gather in flight before trip `k`; past the last, its buffers, semaphore and share of the table. -/
def ahead0 (k : ℕ) : sProp 𝕄 :=
  if k < 16 then Transfers.Flight EC (V d (x0 i) (y0 i)) (.dma arg9.sem) (default : HIx 2) arg7.view.dmaCredit
      iprop(Has d (x0 i) (y0 i) arg7 (rowsAt (arg2.view.read (Elt F) ft) (arg3.view.read (Elt F) fi) (base0 i + 256 * k))
        ∗ Has d (x0 i) (y0 i) arg5 (chunkAt (arg3.view.read (Elt F) fi) (base0 i + 256 * k)) ∗ Tok d (x0 i) (y0 i) arg2 q.left ft)
  else iprop(Any d (x0 i) (y0 i) arg7 ∗ Any d (x0 i) (y0 i) arg5 ∗ Tok d (x0 i) (y0 i) arg2 q.left ft ∗ Zero d (x0 i) (y0 i) arg9.sem)

/-- What holds before trip `k`. -/
def inv0 (k : ℕ) (_ : Unit) : sProp 𝕄 :=
  iprop(Transfers.MayWaits (V d (x0 i) (y0 i)) (default : HIx 2) O ∗ Owe d (x0 i) (y0 i) O W ∗ Tok d (x0 i) (y0 i) arg3 qi fi
    ∗ Out d (x0 i) (y0 i) arg4 (arg2.view.read (Elt F) ft) (arg3.view.read (Elt F) fi) (base0 i) (base0 i + 256 * k)
    ∗ Any d (x0 i) (y0 i) arg6 ∗ Any d (x0 i) (y0 i) arg8 ∗ Zero d (x0 i) (y0 i) arg10.sem ∗ Zero d (x0 i) (y0 i) arg11.sem ∗ Zero d (x0 i) (y0 i) arg12.sem ∗ Zero d (x0 i) (y0 i) v41_r1.sem ∗ Zero d (x0 i) (y0 i) v46_r2.sem
    ∗ Tok d (x0 i) (y0 i) arg2 q.right ft ∗ ahead0 d i arg2 arg3 arg5 arg7 arg9 q ft fi k)

variable {Λ : Labels} {defs : Defs nD τ sig (Elt F) Λ₀} (𝒱 : Variants) (bd : Option 𝒱.V)

include harg7 in
theorem trip0 (hI : ∀ z, (arg3.view.read (Elt F) fi z).toNat < 8192) (v2 : BitVec 32) (k : Fin k0_t1_loop.trips) (acc : Unit) :
    inv0 d i arg2 arg3 arg4 arg5 arg6 arg7 arg8 arg9 arg10 arg11 arg12 v41_r1 v46_r2 q qi ft fi O W k acc
      ⊢ wp frame (wpE defs 𝒱 (V d (x0 i) (y0 i)) bd) Set.univ
          (k0_t1_body i arg2 harg2 arg3 harg3 arg4 harg4 arg5 harg5 arg6 harg6 arg7 harg7 arg8 harg8 arg9 arg10 arg11 arg12 v7_r0 v41_r1 v46_r2 v2 k acc)
          (inv0 d i arg2 arg3 arg4 arg5 arg6 arg7 arg8 arg9 arg10 arg11 arg12 v41_r1 v46_r2 q qi ft fi O W (k.val + 1)) := by
  have hk : k.val < 16 := k0_trips ▸ k.isLt
  have hb := base0_le i
  unfold inv0
  rw [show ahead0 d i arg2 arg3 arg5 arg7 arg9 q ft fi k.val = _ from if_pos hk]
  iintro ⟨#Hmw, HO, Hi, Hout, Hl1, Hr1, Hg1, Hw0, Hw1, Hz1, Hz2, Ht, Hfl⟩
  unfold k0_t1_body
  rw [k0_part1_eq_skeleton]
  unfold k0_part1_skel
  simp only [bind_assoc, pure_bind]
  iapply (wp_fetch d (x0 i) (y0 i) 𝒱 bd (n := base0 i + 256 * k.val + 128) (k0_off2_eq i k)) $$ [HO Hi Hl1 Hz1]
  · isplitl [HO]; · isplitr; · iexact Hmw
                    iexact HO
    isplitl [Hi]; · iexact Hi
    isplitl [Hl1] <;> iassumption
  iintro ⟨HO, Hi, Hl1, Hz1⟩
  iapply (wp_gath d (x0 i) (y0 i) 𝒱 bd (n := base0 i + 256 * k.val + 128) (by omega) hI) $$ [Ht Hr1 Hl1 Hg1]
  · isplitl [Ht]; · iexact Ht
    isplitl [Hr1]; · iexact Hr1
    isplitl [Hl1] <;> iassumption
  iintro Hfl1
  iapply (wp_gatherEnd d (x0 i) (y0 i) 𝒱 bd rfl) $$ [HO Hfl]
  · isplitl [HO]; · isplitr; · iexact Hmw
                    iexact HO
    iexact Hfl
  iintro ⟨HO, ⟨Hr0, Hl0, Htl⟩, Hg0⟩
  iapply (wp_put d (x0 i) (y0 i) 𝒱 bd (n := base0 i + 256 * k.val) (base := base0 i) (k0_off3_eq i k) (by omega) (by omega)) $$ [HO Hr0 Hout Hw0]
  · isplitl [HO]; · isplitr; · iexact Hmw
                    iexact HO
    isplitl [Hr0]; · iexact Hr0
    isplitl [Hout] <;> iassumption
  iintro ⟨HO, Hr0, Hout, Hw0⟩
  by_cases hc : k0_cond1 k = 1#1
  · have hk1 : k.val + 1 < 16 := (k0_cond k).mp hc
    simp only [dif_pos hc, bind_assoc, pure_bind]
    iapply (wp_fetch d (x0 i) (y0 i) 𝒱 bd (n := base0 i + 256 * (k.val + 1)) ((k0_off4_eq i k).trans (by unfold base0; rw [Nat.mul_add, ← Nat.add_assoc]))) $$ [HO Hi Hl0 Hz2]
    · isplitl [HO]; · isplitr; · iexact Hmw
                      iexact HO
      isplitl [Hi]; · iexact Hi
      isplitl [Hl0]; · iapply (Has.any d (x0 i) (y0 i) arg5 _) $$ Hl0
      iexact Hz2
    iintro ⟨HO, Hi, Hl0, Hz2⟩
    iapply (wp_gath d (x0 i) (y0 i) 𝒱 bd (n := base0 i + 256 * (k.val + 1)) (by omega) hI) $$ [Htl Hr0 Hl0 Hg0]
    · isplitl [Htl]; · iexact Htl
      isplitl [Hr0]; · iexact Hr0
      isplitl [Hl0] <;> iassumption
    iintro Hfl
    iapply (wp_gatherEnd d (x0 i) (y0 i) 𝒱 bd rfl) $$ [HO Hfl1]
    · isplitl [HO]; · isplitr; · iexact Hmw
                      iexact HO
      iexact Hfl1
    iintro ⟨HO, ⟨Hr1, Hl1, Ht⟩, Hg1⟩
    iapply (wp_put d (x0 i) (y0 i) 𝒱 bd (n := base0 i + 256 * k.val + 128) (base := base0 i) (k0_off5_eq i k) (by omega) (by omega)) $$ [HO Hr1 Hout Hw1]
    · isplitl [HO]; · isplitr; · iexact Hmw
                      iexact HO
      isplitl [Hr1]; · iexact Hr1
      isplitl [Hout] <;> iassumption
    iintro ⟨HO, Hr1, Hout, Hw1⟩
    simp only [Prog.pure_eq_ret, wp_ret]
    imodintro
    isplitr; · iexact Hmw
    isplitl [HO]; · iexact HO
    isplitl [Hi]; · iexact Hi
    isplitl [Hout]; · rw [show base0 i + 256 * (k.val + 1) = base0 i + 256 * k.val + 128 + 128 by omega]; iexact Hout
    isplitl [Hl1]; · iapply (Has.any d (x0 i) (y0 i) arg6 _) $$ Hl1
    isplitl [Hr1]; · iexact Hr1
    isplitl [Hg1]; · iexact Hg1
    isplitl [Hw0]; · iexact Hw0
    isplitl [Hw1]; · iexact Hw1
    isplitl [Hz1]; · iexact Hz1
    isplitl [Hz2]; · iexact Hz2
    isplitl [Ht]; · iexact Ht
    rw [show ahead0 d i arg2 arg3 arg5 arg7 arg9 q ft fi (k.val + 1) = _ from if_pos hk1]
    iexact Hfl
  · have hk1 : ¬ k.val + 1 < 16 := fun h => hc ((k0_cond k).mpr h)
    simp only [dif_neg hc, bind_assoc, pure_bind]
    iapply (wp_gatherEnd d (x0 i) (y0 i) 𝒱 bd rfl) $$ [HO Hfl1]
    · isplitl [HO]; · isplitr; · iexact Hmw
                      iexact HO
      iexact Hfl1
    iintro ⟨HO, ⟨Hr1, Hl1, Ht⟩, Hg1⟩
    iapply (wp_put d (x0 i) (y0 i) 𝒱 bd (n := base0 i + 256 * k.val + 128) (base := base0 i) (k0_off5_eq i k) (by omega) (by omega)) $$ [HO Hr1 Hout Hw1]
    · isplitl [HO]; · isplitr; · iexact Hmw
                      iexact HO
      isplitl [Hr1]; · iexact Hr1
      isplitl [Hout] <;> iassumption
    iintro ⟨HO, Hr1, Hout, Hw1⟩
    simp only [Prog.pure_eq_ret, wp_ret]
    imodintro
    isplitr; · iexact Hmw
    isplitl [HO]; · iexact HO
    isplitl [Hi]; · iexact Hi
    isplitl [Hout]; · rw [show base0 i + 256 * (k.val + 1) = base0 i + 256 * k.val + 128 + 128 by omega]; iexact Hout
    isplitl [Hl1]; · iapply (Has.any d (x0 i) (y0 i) arg6 _) $$ Hl1
    isplitl [Hr1]; · iexact Hr1
    isplitl [Hg1]; · iexact Hg1
    isplitl [Hw0]; · iexact Hw0
    isplitl [Hw1]; · iexact Hw1
    isplitl [Hz1]; · iexact Hz1
    isplitl [Hz2]; · iexact Hz2
    isplitl [Ht]; · iexact Ht
    rw [show ahead0 d i arg2 arg3 arg5 arg7 arg9 q ft fi (k.val + 1) = _ from if_neg hk1]
    isplitl [Hr0]; · iexact Hr0
    isplitl [Hl0]; · iapply (Has.any d (x0 i) (y0 i) arg5 _) $$ Hl0
    isplitl [Htl]; · iexact Htl
    iexact Hg0

include harg7 in
/-- The whole task: the band of the output is the gather's rows. -/
theorem task0 (hI : ∀ z, (arg3.view.read (Elt F) fi z).toNat < 8192) :
    iprop(Transfers.MayWaits (V d (x0 i) (y0 i)) (default : HIx 2) O ∗ Owe d (x0 i) (y0 i) O W ∗ Tok d (x0 i) (y0 i) arg2 q ft ∗ Tok d (x0 i) (y0 i) arg3 qi fi
        ∗ (∃ fo : Buf (Elt F) (arg4.view.loc (V d (x0 i) (y0 i))), (arg4.view.loc (V d (x0 i) (y0 i)) ↦[band arg4 (base0 i) (base0 i + 4096)]{fullShare} fo))
        ∗ (Any d (x0 i) (y0 i) arg5 ∗ Any d (x0 i) (y0 i) arg6 ∗ Any d (x0 i) (y0 i) arg7 ∗ Any d (x0 i) (y0 i) arg8)
        ∗ (Zero d (x0 i) (y0 i) arg9.sem ∗ Zero d (x0 i) (y0 i) arg10.sem ∗ Zero d (x0 i) (y0 i) arg11.sem ∗ Zero d (x0 i) (y0 i) arg12.sem
          ∗ Zero d (x0 i) (y0 i) v7_r0.sem ∗ Zero d (x0 i) (y0 i) v41_r1.sem ∗ Zero d (x0 i) (y0 i) v46_r2.sem))
      ⊢ wp frame (wpE defs 𝒱 (V d (x0 i) (y0 i)) bd) Set.univ
          (cc0_k i arg2 harg2 arg3 harg3 arg4 harg4 arg5 harg5 arg6 harg6 arg7 harg7 arg8 harg8 arg9 arg10 arg11 arg12 v7_r0 v41_r1 v46_r2)
          fun _ => iprop(Owe d (x0 i) (y0 i) O W ∗ Tok d (x0 i) (y0 i) arg2 q ft ∗ Tok d (x0 i) (y0 i) arg3 qi fi
            ∗ Out d (x0 i) (y0 i) arg4 (arg2.view.read (Elt F) ft) (arg3.view.read (Elt F) fi) (base0 i) (base0 i + 4096)
            ∗ (Any d (x0 i) (y0 i) arg5 ∗ Any d (x0 i) (y0 i) arg6 ∗ Any d (x0 i) (y0 i) arg7 ∗ Any d (x0 i) (y0 i) arg8)
            ∗ (Zero d (x0 i) (y0 i) arg9.sem ∗ Zero d (x0 i) (y0 i) arg10.sem ∗ Zero d (x0 i) (y0 i) arg11.sem ∗ Zero d (x0 i) (y0 i) arg12.sem
              ∗ Zero d (x0 i) (y0 i) v7_r0.sem ∗ Zero d (x0 i) (y0 i) v41_r1.sem ∗ Zero d (x0 i) (y0 i) v46_r2.sem)) := by
  have hb := base0_le i
  rw [cc0_k_eq_skeleton]
  unfold cc0_k_skel
  simp only [bind_assoc, pure_bind]
  iintro ⟨#Hmw, HO, Ht, Hi, ⟨%fo, Hout⟩, ⟨Hl0, Hl1, Hr0, Hr1⟩, Hg0, Hg1, Hw0, Hw1, Hz0, Hz1, Hz2⟩
  ihave Ht' := (Tok.halve d (x0 i) (y0 i) arg2 q ft).1 $$ Ht
  icases Ht' with ⟨Htl, Htr⟩
  iapply (wp_fetch d (x0 i) (y0 i) 𝒱 bd (n := base0 i) (k0_off1_eq i)) $$ [HO Hi Hl0 Hz0]
  · isplitl [HO]; · isplitr; · iexact Hmw
                    iexact HO
    isplitl [Hi]; · iexact Hi
    isplitl [Hl0] <;> iassumption
  iintro ⟨HO, Hi, Hl0, Hz0⟩
  iapply (wp_gath d (x0 i) (y0 i) 𝒱 bd (t := arg2) (q := q.left) (ft := ft) (n := base0 i) (by omega) hI) $$ [Htl Hr0 Hl0 Hg0]
  · isplitl [Htl]; · iexact Htl
    isplitl [Hr0]; · iexact Hr0
    isplitl [Hl0] <;> iassumption
  iintro Hfl
  iapply (Scf.wp_for_bind frame (wpE defs 𝒱 (V d (x0 i) (y0 i)) bd) Set.univ _ _ _ _ _ _
    (inv0 d i arg2 arg3 arg4 arg5 arg6 arg7 arg8 arg9 arg10 arg11 arg12 v41_r1 v46_r2 q qi ft fi O W)
    (trip0 d i arg2 harg2 arg3 harg3 arg4 harg4 arg5 harg5 arg6 harg6 arg7 harg7 arg8 harg8 arg9 arg10 arg11 arg12 v7_r0 v41_r1 v46_r2 q qi ft fi O W 𝒱 bd hI _)) $$ [HO Hi Hout Hl1 Hr1 Hg1 Hw0 Hw1 Hz1 Hz2 Htr Hfl]
  · unfold inv0
    isplitr; · iexact Hmw
    isplitl [HO]; · iexact HO
    isplitl [Hi]; · iexact Hi
    isplitl [Hout]
    · unfold Out
      iexists fo; isplitr
      · ipureintro; intro x h1 h2; omega
      · iexact Hout
    isplitl [Hl1]; · iexact Hl1
    isplitl [Hr1]; · iexact Hr1
    isplitl [Hg1]; · iexact Hg1
    isplitl [Hw0]; · iexact Hw0
    isplitl [Hw1]; · iexact Hw1
    isplitl [Hz1]; · iexact Hz1
    isplitl [Hz2]; · iexact Hz2
    isplitl [Htr]; · iexact Htr
    rw [show ahead0 d i arg2 arg3 arg5 arg7 arg9 q ft fi 0 = _ from if_pos (by omega)]
    iexact Hfl
  iintro %acc HI
  rw [show Scf.trips k0_t1_loop.lb k0_t1_loop.ub k0_t1_loop.st = 16 from k0_trips]
  unfold inv0
  rw [show ahead0 d i arg2 arg3 arg5 arg7 arg9 q ft fi 16 = _ from if_neg (by omega)]
  icases HI with ⟨-, HO, Hi, Hout, Hl1, Hr1, Hg1, Hw0, Hw1, Hz1, Hz2, Htr, Hr0, Hl0, Htl, Hg0⟩
  simp only [Prog.pure_eq_ret, wp_ret]
  imodintro
  isplitl [HO]; · iexact HO
  isplitl [Htl Htr]
  · iapply (Tok.halve d (x0 i) (y0 i) arg2 q ft).2
    isplitl [Htl]; · iexact Htl
    iexact Htr
  isplitl [Hi]; · iexact Hi
  isplitl [Hout]; · iexact Hout
  isplitl [Hl0 Hl1 Hr0 Hr1]
  · isplitl [Hl0]; · iexact Hl0
    isplitl [Hl1]; · iexact Hl1
    isplitl [Hr0] <;> iassumption
  isplitl [Hg0]; · iexact Hg0
  isplitl [Hg1]; · iexact Hg1
  isplitl [Hw0]; · iexact Hw0
  isplitl [Hw1]; · iexact Hw1
  isplitl [Hz0]; · iexact Hz0
  isplitl [Hz1]; · iexact Hz1
  iexact Hz2

end Task

end Cert.Proof.Rows
-- ==== Proof.Two.lean ====
/-
  The second kernel's task at one vector subcore: the gathers of two tables by one list, 32 chunks of 128 rows, two
  pairs of buffers. Before trip `k` both gathers of chunk `2k` are in flight on the first semaphore and both outputs' rows
  below chunk `2k` are the gathers'; after the last trip nothing is in flight.
-/
module

public import proofs.«01_k».proof.Proof.One

@[expose] public section

noncomputable section

namespace Cert.Proof.Rows

open Cert.KernelIdeal Cert.KernelIdeal.Gen

open Idealize.ShloMosaic
open Idealize.ShloMosaic.SparseCore (S V T rows gatherPayload)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

theorem k1_trips : k1_t1_loop.trips = 16 := by decide +kernel
theorem k1_cond : ∀ t : Fin k1_t1_loop.trips, k1_cond1 t = 1#1 ↔ t.val + 1 < 16 := by decide +kernel

/-- The first row of a subcore's band of the outputs. -/
def base1 (i : grid1.Coords) : ℕ := 8192 * (i 1).val + 4096 * (i 0).val

theorem base1_le (i : grid1.Coords) : base1 i + 4096 ≤ 131072 := by
  have h0 : (i 0).val < 2 := (i 0).isLt
  have h1 : (i 1).val < 16 := (i 1).isLt
  unfold base1; omega

/-- Its SparseCore and its subcore. -/
abbrev x1 (i : grid1.Coords) : Fin τ.nSC := (i 0).castLE hcore1
abbrev y1 (i : grid1.Coords) : Fin τ.nSub := (i 1).castLE hsub1

section Task

variable (d : Dev nD) (i : grid1.Coords)
variable (arg2 : Memref sig .scVector .hbm S8192x128 .f32) (harg2 : arg2.IsWhole) (arg3 : Memref sig .scVector .hbm S8192x128 .f32) (harg3 : arg3.IsWhole) (arg4 : Memref sig .scVector .hbm S131072 .i32) (harg4 : arg4.IsWhole) (arg5 : Memref sig .scVector .hbm S131072x128 .f32) (harg5 : arg5.IsWhole) (arg6 : Memref sig .scVector .hbm S131072x128 .f32) (harg6 : arg6.IsWhole) (arg7 : Memref sig .scVector .vmem S128 .i32) (harg7 : arg7.IsWhole) (arg8 : Memref sig .scVector .vmem S128 .i32) (harg8 : arg8.IsWhole) (arg9 : Memref sig .scVector .vmem S128x128 .f32) (harg9 : arg9.IsWhole) (arg10 : Memref sig .scVector .vmem S128x128 .f32) (harg10 : arg10.IsWhole) (arg11 : Memref sig .scVector .vmem S128x128 .f32) (harg11 : arg11.IsWhole) (arg12 : Memref sig .scVector .vmem S128x128 .f32) (harg12 : arg12.IsWhole) (arg13 : DmaSems sig S_) (arg14 : DmaSems sig S_) (arg15 : DmaSems sig S_) (arg16 : DmaSems sig S_) (v8_r0 : DmaSems sig S_) (v65_r1 : DmaSems sig S_) (v71_r2 : DmaSems sig S_)

variable (q q' qi : PosShare TreeShare) (ft : Buf (Elt F) (arg2.view.loc (V d (x1 i) (y1 i)))) (ft' : Buf (Elt F) (arg3.view.loc (V d (x1 i) (y1 i)))) (fi : Buf (Elt F) (arg4.view.loc (V d (x1 i) (y1 i))))
variable (O : CellTallies nD τ sig (HIx 2)) (W : Waits sig (HIx 2))

/-- The gathers in flight before trip `k`; past the last, their buffers, semaphore and shares of the tables. -/
def ahead1 (k : ℕ) : sProp 𝕄 :=
  if k < 16 then Pend d (x1 i) (y1 i) arg13.sem 4096 (128 + 128)
      iprop(Has d (x1 i) (y1 i) arg9 (rowsAt (arg2.view.read (Elt F) ft) (arg4.view.read (Elt F) fi) (base1 i + 256 * k)) ∗ Has d (x1 i) (y1 i) arg10 (rowsAt (arg3.view.read (Elt F) ft') (arg4.view.read (Elt F) fi) (base1 i + 256 * k))
        ∗ Has d (x1 i) (y1 i) arg7 (chunkAt (arg4.view.read (Elt F) fi) (base1 i + 256 * k)) ∗ Tok d (x1 i) (y1 i) arg2 q.left ft ∗ Tok d (x1 i) (y1 i) arg3 q'.left ft')
  else iprop(Any d (x1 i) (y1 i) arg9 ∗ Any d (x1 i) (y1 i) arg10 ∗ Any d (x1 i) (y1 i) arg7 ∗ Tok d (x1 i) (y1 i) arg2 q.left ft ∗ Tok d (x1 i) (y1 i) arg3 q'.left ft' ∗ Zero d (x1 i) (y1 i) arg13.sem)

/-- What holds before trip `k`. -/
def inv1 (k : ℕ) (_ : Unit) : sProp 𝕄 :=
  iprop(Transfers.MayWaits (V d (x1 i) (y1 i)) (default : HIx 2) O ∗ Owe d (x1 i) (y1 i) O W ∗ Tok d (x1 i) (y1 i) arg4 qi fi
    ∗ Out d (x1 i) (y1 i) arg5 (arg2.view.read (Elt F) ft) (arg4.view.read (Elt F) fi) (base1 i) (base1 i + 256 * k)
    ∗ Out d (x1 i) (y1 i) arg6 (arg3.view.read (Elt F) ft') (arg4.view.read (Elt F) fi) (base1 i) (base1 i + 256 * k)
    ∗ Any d (x1 i) (y1 i) arg8 ∗ Any d (x1 i) (y1 i) arg11 ∗ Any d (x1 i) (y1 i) arg12 ∗ Zero d (x1 i) (y1 i) arg14.sem ∗ Zero d (x1 i) (y1 i) arg15.sem ∗ Zero d (x1 i) (y1 i) arg16.sem ∗ Zero d (x1 i) (y1 i) v65_r1.sem ∗ Zero d (x1 i) (y1 i) v71_r2.sem
    ∗ Tok d (x1 i) (y1 i) arg2 q.right ft ∗ Tok d (x1 i) (y1 i) arg3 q'.right ft' ∗ ahead1 d i arg2 arg3 arg4 arg7 arg9 arg10 arg13 q q' ft ft' fi k)

variable {defs : Defs nD τ sig (Elt F) Λ₀} (𝒱 : Variants) (bd : Option 𝒱.V)

theorem trip1 (hI : ∀ z, (arg4.view.read (Elt F) fi z).toNat < 8192) (v2 : BitVec 32) (k : Fin k1_t1_loop.trips) (acc : Unit) :
    inv1 d i arg2 arg3 arg4 arg5 arg6 arg7 arg8 arg9 arg10 arg11 arg12 arg13 arg14 arg15 arg16 v65_r1 v71_r2 q q' qi ft ft' fi O W k acc
      ⊢ wp frame (wpE defs 𝒱 (V d (x1 i) (y1 i)) bd) Set.univ
          (k1_t1_body i arg2 harg2 arg3 harg3 arg4 harg4 arg5 harg5 arg6 harg6 arg7 harg7 arg8 harg8 arg9 harg9 arg10 harg10 arg11 harg11 arg12 harg12 arg13 arg14 arg15 arg16 v8_r0 v65_r1 v71_r2 v2 k acc)
          (inv1 d i arg2 arg3 arg4 arg5 arg6 arg7 arg8 arg9 arg10 arg11 arg12 arg13 arg14 arg15 arg16 v65_r1 v71_r2 q q' qi ft ft' fi O W (k.val + 1)) := by
  have hk : k.val < 16 := k1_trips ▸ k.isLt
  have hb := base1_le i
  unfold inv1
  rw [show ahead1 d i arg2 arg3 arg4 arg7 arg9 arg10 arg13 q q' ft ft' fi k.val = _ from if_pos hk]
  iintro ⟨#Hmw, HO, Hi, Hout, Hout', Hl1, Hr1, Hr1', Hg1, Hw0, Hw1, Hz1, Hz2, Ht, Ht', Hfl⟩
  unfold k1_t1_body
  rw [k1_part1_eq_skeleton, k1_part2_eq_skeleton]
  unfold k1_part1_skel k1_part2_skel
  simp only [bind_assoc, pure_bind]
  iapply (wp_fetch d (x1 i) (y1 i) 𝒱 bd (n := base1 i + 256 * k.val + 128) (k1_off2_eq i k)) $$ [HO Hi Hl1 Hz1]
  · isplitl [HO]; · isplitr; · iexact Hmw
                    iexact HO
    isplitl [Hi]; · iexact Hi
    isplitl [Hl1]; · iexact Hl1
    iexact Hz1
  iintro ⟨HO, Hi, Hl1, Hz1⟩
  iapply (wp_gath2 d (x1 i) (y1 i) 𝒱 bd (t := arg2) (t' := arg3) (q := q.right) (q' := q'.right) (ft := ft) (ft' := ft') (n := base1 i + 256 * k.val + 128) (by omega) hI) $$ [Ht Ht' Hr1 Hr1' Hl1 Hg1]
  · isplitl [Ht]; · iexact Ht
    isplitl [Ht']; · iexact Ht'
    isplitl [Hr1]; · iexact Hr1
    isplitl [Hr1']; · iexact Hr1'
    isplitl [Hl1] <;> iassumption
  iintro Hfl1
  iapply (wp_gather2End d (x1 i) (y1 i) 𝒱 bd (o := 128) (N := 4096) (by decide) rfl rfl) $$ [HO Hfl]
  · isplitl [HO]; · isplitr; · iexact Hmw
                    iexact HO
    iexact Hfl
  iintro ⟨HO, ⟨Hr0, Hr0', Hl0, Htl, Htl'⟩, Hg0⟩
  iapply (wp_put2 d (x1 i) (y1 i) 𝒱 bd (n := base1 i + 256 * k.val) (base := base1 i) (k1_off3_eq i k) (k1_off3_eq i k) (by omega) (by omega)) $$ [HO Hr0 Hr0' Hout Hout' Hw0]
  · isplitl [HO]; · isplitr; · iexact Hmw
                    iexact HO
    isplitl [Hr0]; · iexact Hr0
    isplitl [Hr0']; · iexact Hr0'
    isplitl [Hout]; · iexact Hout
    isplitl [Hout'] <;> iassumption
  iintro ⟨HO, Hr0, Hr0', Hout, Hout', Hw0⟩
  by_cases hc : k1_cond1 k = 1#1
  · have hk1 : k.val + 1 < 16 := (k1_cond k).mp hc
    simp only [dif_pos hc, bind_assoc, pure_bind]
    iapply (wp_fetch d (x1 i) (y1 i) 𝒱 bd (n := base1 i + 256 * (k.val + 1)) ((k1_off4_eq i k).trans (by unfold base1; rw [Nat.mul_add, ← Nat.add_assoc]))) $$ [HO Hi Hl0 Hz2]
    · isplitl [HO]; · isplitr; · iexact Hmw
                      iexact HO
      isplitl [Hi]; · iexact Hi
      isplitl [Hl0]; · iapply (Has.any d (x1 i) (y1 i) arg7 _) $$ Hl0
      iexact Hz2
    iintro ⟨HO, Hi, Hl0, Hz2⟩
    iapply (wp_gath2 d (x1 i) (y1 i) 𝒱 bd (t := arg2) (t' := arg3) (q := q.left) (q' := q'.left) (ft := ft) (ft' := ft') (n := base1 i + 256 * (k.val + 1)) (by omega) hI) $$ [Htl Htl' Hr0 Hr0' Hl0 Hg0]
    · isplitl [Htl]; · iexact Htl
      isplitl [Htl']; · iexact Htl'
      isplitl [Hr0]; · iexact Hr0
      isplitl [Hr0']; · iexact Hr0'
      isplitl [Hl0] <;> iassumption
    iintro Hfl
    iapply (wp_gather2End d (x1 i) (y1 i) 𝒱 bd (o := 128) (N := 4096) (by decide) rfl rfl) $$ [HO Hfl1]
    · isplitl [HO]; · isplitr; · iexact Hmw
                      iexact HO
      iexact Hfl1
    iintro ⟨HO, ⟨Hr1, Hr1', Hl1, Ht, Ht'⟩, Hg1⟩
    iapply (wp_put2 d (x1 i) (y1 i) 𝒱 bd (n := base1 i + 256 * k.val + 128) (base := base1 i) (k1_off5_eq i k) (k1_off5_eq i k) (by omega) (by omega)) $$ [HO Hr1 Hr1' Hout Hout' Hw1]
    · isplitl [HO]; · isplitr; · iexact Hmw
                      iexact HO
      isplitl [Hr1]; · iexact Hr1
      isplitl [Hr1']; · iexact Hr1'
      isplitl [Hout]; · iexact Hout
      isplitl [Hout'] <;> iassumption
    iintro ⟨HO, Hr1, Hr1', Hout, Hout', Hw1⟩
    simp only [Prog.pure_eq_ret, wp_ret]
    imodintro
    isplitr; · iexact Hmw
    isplitl [HO]; · iexact HO
    isplitl [Hi]; · iexact Hi
    isplitl [Hout]; · rw [show base1 i + 256 * (k.val + 1) = base1 i + 256 * k.val + 128 + 128 by omega]; iexact Hout
    isplitl [Hout']; · rw [show base1 i + 256 * (k.val + 1) = base1 i + 256 * k.val + 128 + 128 by omega]; iexact Hout'
    isplitl [Hl1]; · iapply (Has.any d (x1 i) (y1 i) arg8 _) $$ Hl1
    isplitl [Hr1]; · iexact Hr1
    isplitl [Hr1']; · iexact Hr1'
    isplitl [Hg1]; · iexact Hg1
    isplitl [Hw0]; · iexact Hw0
    isplitl [Hw1]; · iexact Hw1
    isplitl [Hz1]; · iexact Hz1
    isplitl [Hz2]; · iexact Hz2
    isplitl [Ht]; · iexact Ht
    isplitl [Ht']; · iexact Ht'
    rw [show ahead1 d i arg2 arg3 arg4 arg7 arg9 arg10 arg13 q q' ft ft' fi (k.val + 1) = _ from if_pos hk1]
    iexact Hfl
  · have hk1 : ¬ k.val + 1 < 16 := fun h => hc ((k1_cond k).mpr h)
    simp only [dif_neg hc, bind_assoc, pure_bind]
    iapply (wp_gather2End d (x1 i) (y1 i) 𝒱 bd (o := 128) (N := 4096) (by decide) rfl rfl) $$ [HO Hfl1]
    · isplitl [HO]; · isplitr; · iexact Hmw
                      iexact HO
      iexact Hfl1
    iintro ⟨HO, ⟨Hr1, Hr1', Hl1, Ht, Ht'⟩, Hg1⟩
    iapply (wp_put2 d (x1 i) (y1 i) 𝒱 bd (n := base1 i + 256 * k.val + 128) (base := base1 i) (k1_off5_eq i k) (k1_off5_eq i k) (by omega) (by omega)) $$ [HO Hr1 Hr1' Hout Hout' Hw1]
    · isplitl [HO]; · isplitr; · iexact Hmw
                      iexact HO
      isplitl [Hr1]; · iexact Hr1
      isplitl [Hr1']; · iexact Hr1'
      isplitl [Hout]; · iexact Hout
      isplitl [Hout'] <;> iassumption
    iintro ⟨HO, Hr1, Hr1', Hout, Hout', Hw1⟩
    simp only [Prog.pure_eq_ret, wp_ret]
    imodintro
    isplitr; · iexact Hmw
    isplitl [HO]; · iexact HO
    isplitl [Hi]; · iexact Hi
    isplitl [Hout]; · rw [show base1 i + 256 * (k.val + 1) = base1 i + 256 * k.val + 128 + 128 by omega]; iexact Hout
    isplitl [Hout']; · rw [show base1 i + 256 * (k.val + 1) = base1 i + 256 * k.val + 128 + 128 by omega]; iexact Hout'
    isplitl [Hl1]; · iapply (Has.any d (x1 i) (y1 i) arg8 _) $$ Hl1
    isplitl [Hr1]; · iexact Hr1
    isplitl [Hr1']; · iexact Hr1'
    isplitl [Hg1]; · iexact Hg1
    isplitl [Hw0]; · iexact Hw0
    isplitl [Hw1]; · iexact Hw1
    isplitl [Hz1]; · iexact Hz1
    isplitl [Hz2]; · iexact Hz2
    isplitl [Ht]; · iexact Ht
    isplitl [Ht']; · iexact Ht'
    rw [show ahead1 d i arg2 arg3 arg4 arg7 arg9 arg10 arg13 q q' ft ft' fi (k.val + 1) = _ from if_neg hk1]
    isplitl [Hr0]; · iexact Hr0
    isplitl [Hr0']; · iexact Hr0'
    isplitl [Hl0]; · iapply (Has.any d (x1 i) (y1 i) arg7 _) $$ Hl0
    isplitl [Htl]; · iexact Htl
    isplitl [Htl']; · iexact Htl'
    iexact Hg0

/-- The whole task: the bands of both outputs are the gathers' rows. -/
theorem task1 (hI : ∀ z, (arg4.view.read (Elt F) fi z).toNat < 8192) :
    iprop(Transfers.MayWaits (V d (x1 i) (y1 i)) (default : HIx 2) O ∗ Owe d (x1 i) (y1 i) O W ∗ Tok d (x1 i) (y1 i) arg2 q ft ∗ Tok d (x1 i) (y1 i) arg3 q' ft' ∗ Tok d (x1 i) (y1 i) arg4 qi fi
        ∗ (∃ fo : Buf (Elt F) (arg5.view.loc (V d (x1 i) (y1 i))), (arg5.view.loc (V d (x1 i) (y1 i)) ↦[band arg5 (base1 i) (base1 i + 4096)]{fullShare} fo))
        ∗ (∃ fo : Buf (Elt F) (arg6.view.loc (V d (x1 i) (y1 i))), (arg6.view.loc (V d (x1 i) (y1 i)) ↦[band arg6 (base1 i) (base1 i + 4096)]{fullShare} fo))
        ∗ (Any d (x1 i) (y1 i) arg7 ∗ Any d (x1 i) (y1 i) arg8 ∗ Any d (x1 i) (y1 i) arg9 ∗ Any d (x1 i) (y1 i) arg10 ∗ Any d (x1 i) (y1 i) arg11 ∗ Any d (x1 i) (y1 i) arg12)
        ∗ (Zero d (x1 i) (y1 i) arg13.sem ∗ Zero d (x1 i) (y1 i) arg14.sem ∗ Zero d (x1 i) (y1 i) arg15.sem ∗ Zero d (x1 i) (y1 i) arg16.sem ∗ Zero d (x1 i) (y1 i) v8_r0.sem ∗ Zero d (x1 i) (y1 i) v65_r1.sem ∗ Zero d (x1 i) (y1 i) v71_r2.sem))
      ⊢ wp frame (wpE defs 𝒱 (V d (x1 i) (y1 i)) bd) Set.univ
          (cc1_k i arg2 harg2 arg3 harg3 arg4 harg4 arg5 harg5 arg6 harg6 arg7 harg7 arg8 harg8 arg9 harg9 arg10 harg10 arg11 harg11 arg12 harg12 arg13 arg14 arg15 arg16 v8_r0 v65_r1 v71_r2)
          fun _ => iprop(Owe d (x1 i) (y1 i) O W ∗ Tok d (x1 i) (y1 i) arg2 q ft ∗ Tok d (x1 i) (y1 i) arg3 q' ft' ∗ Tok d (x1 i) (y1 i) arg4 qi fi
            ∗ Out d (x1 i) (y1 i) arg5 (arg2.view.read (Elt F) ft) (arg4.view.read (Elt F) fi) (base1 i) (base1 i + 4096)
            ∗ Out d (x1 i) (y1 i) arg6 (arg3.view.read (Elt F) ft') (arg4.view.read (Elt F) fi) (base1 i) (base1 i + 4096)
            ∗ (Any d (x1 i) (y1 i) arg7 ∗ Any d (x1 i) (y1 i) arg8 ∗ Any d (x1 i) (y1 i) arg9 ∗ Any d (x1 i) (y1 i) arg10 ∗ Any d (x1 i) (y1 i) arg11 ∗ Any d (x1 i) (y1 i) arg12)
            ∗ (Zero d (x1 i) (y1 i) arg13.sem ∗ Zero d (x1 i) (y1 i) arg14.sem ∗ Zero d (x1 i) (y1 i) arg15.sem ∗ Zero d (x1 i) (y1 i) arg16.sem ∗ Zero d (x1 i) (y1 i) v8_r0.sem ∗ Zero d (x1 i) (y1 i) v65_r1.sem ∗ Zero d (x1 i) (y1 i) v71_r2.sem)) := by
  have hb := base1_le i
  rw [cc1_k_eq_skeleton]
  unfold cc1_k_skel
  simp only [bind_assoc, pure_bind]
  iintro ⟨#Hmw, HO, Ht, Ht', Hi, ⟨%fo, Hout⟩, ⟨%fo', Hout'⟩, ⟨Hl0, Hl1, Hr0, Hr0', Hr1, Hr1'⟩, Hg0, Hg1, Hw0, Hw1, Hz0, Hz1, Hz2⟩
  ihave Ht := (Tok.halve d (x1 i) (y1 i) arg2 q ft).1 $$ Ht
  icases Ht with ⟨Htl, Htr⟩
  ihave Ht' := (Tok.halve d (x1 i) (y1 i) arg3 q' ft').1 $$ Ht'
  icases Ht' with ⟨Htl', Htr'⟩
  iapply (wp_fetch d (x1 i) (y1 i) 𝒱 bd (n := base1 i) (k1_off1_eq i)) $$ [HO Hi Hl0 Hz0]
  · isplitl [HO]; · isplitr; · iexact Hmw
                    iexact HO
    isplitl [Hi]; · iexact Hi
    isplitl [Hl0]; · iexact Hl0
    iexact Hz0
  iintro ⟨HO, Hi, Hl0, Hz0⟩
  iapply (wp_gath2 d (x1 i) (y1 i) 𝒱 bd (t := arg2) (t' := arg3) (q := q.left) (q' := q'.left) (ft := ft) (ft' := ft') (n := base1 i) (by omega) hI) $$ [Htl Htl' Hr0 Hr0' Hl0 Hg0]
  · isplitl [Htl]; · iexact Htl
    isplitl [Htl']; · iexact Htl'
    isplitl [Hr0]; · iexact Hr0
    isplitl [Hr0']; · iexact Hr0'
    isplitl [Hl0] <;> iassumption
  iintro Hfl
  iapply (Scf.wp_for_bind frame (wpE defs 𝒱 (V d (x1 i) (y1 i)) bd) Set.univ _ _ _ _ _ _
    (inv1 d i arg2 arg3 arg4 arg5 arg6 arg7 arg8 arg9 arg10 arg11 arg12 arg13 arg14 arg15 arg16 v65_r1 v71_r2 q q' qi ft ft' fi O W)
    (trip1 d i arg2 harg2 arg3 harg3 arg4 harg4 arg5 harg5 arg6 harg6 arg7 harg7 arg8 harg8 arg9 harg9 arg10 harg10 arg11 harg11 arg12 harg12 arg13 arg14 arg15 arg16 v8_r0 v65_r1 v71_r2 q q' qi ft ft' fi O W 𝒱 bd hI _)) $$ [HO Hi Hout Hout' Hl1 Hr1 Hr1' Hg1 Hw0 Hw1 Hz1 Hz2 Htr Htr' Hfl]
  · unfold inv1
    isplitr; · iexact Hmw
    isplitl [HO]; · iexact HO
    isplitl [Hi]; · iexact Hi
    isplitl [Hout]
    · unfold Out
      iexists fo; isplitr
      · ipureintro; intro x h1 h2; omega
      · iexact Hout
    isplitl [Hout']
    · unfold Out
      iexists fo'; isplitr
      · ipureintro; intro x h1 h2; omega
      · iexact Hout'
    isplitl [Hl1]; · iexact Hl1
    isplitl [Hr1]; · iexact Hr1
    isplitl [Hr1']; · iexact Hr1'
    isplitl [Hg1]; · iexact Hg1
    isplitl [Hw0]; · iexact Hw0
    isplitl [Hw1]; · iexact Hw1
    isplitl [Hz1]; · iexact Hz1
    isplitl [Hz2]; · iexact Hz2
    isplitl [Htr]; · iexact Htr
    isplitl [Htr']; · iexact Htr'
    rw [show ahead1 d i arg2 arg3 arg4 arg7 arg9 arg10 arg13 q q' ft ft' fi 0 = _ from if_pos (by omega)]
    iexact Hfl
  iintro %acc HI
  rw [show Scf.trips k1_t1_loop.lb k1_t1_loop.ub k1_t1_loop.st = 16 from k1_trips]
  unfold inv1
  rw [show ahead1 d i arg2 arg3 arg4 arg7 arg9 arg10 arg13 q q' ft ft' fi 16 = _ from if_neg (by omega)]
  icases HI with ⟨-, HO, Hi, Hout, Hout', Hl1, Hr1, Hr1', Hg1, Hw0, Hw1, Hz1, Hz2, Htr, Htr', Hr0, Hr0', Hl0, Htl, Htl', Hg0⟩
  simp only [Prog.pure_eq_ret, wp_ret]
  imodintro
  isplitl [HO]; · iexact HO
  isplitl [Htl Htr]
  · iapply (Tok.halve d (x1 i) (y1 i) arg2 q ft).2
    isplitl [Htl]; · iexact Htl
    iexact Htr
  isplitl [Htl' Htr']
  · iapply (Tok.halve d (x1 i) (y1 i) arg3 q' ft').2
    isplitl [Htl']; · iexact Htl'
    iexact Htr'
  isplitl [Hi]; · iexact Hi
  isplitl [Hout]; · iexact Hout
  isplitl [Hout']; · iexact Hout'
  isplitl [Hl0 Hl1 Hr0 Hr0' Hr1 Hr1']
  · isplitl [Hl0]; · iexact Hl0
    isplitl [Hl1]; · iexact Hl1
    isplitl [Hr0]; · iexact Hr0
    isplitl [Hr0']; · iexact Hr0'
    isplitl [Hr1]; · iexact Hr1
    iexact Hr1'
  isplitl [Hg0]; · iexact Hg0
  isplitl [Hg1]; · iexact Hg1
  isplitl [Hw0]; · iexact Hw0
  isplitl [Hw1]; · iexact Hw1
  isplitl [Hz0]; · iexact Hz0
  isplitl [Hz1]; · iexact Hz1
  iexact Hz2

end Task

end Cert.Proof.Rows
-- ==== Proof.Launch.lean ====
/-
  The two SparseCore calls launched: the tables and the list go out as thirty-two read shares, each output as thirty-two
  bands of rows held outright, one of each to a subcore; back come the bands, whose rows are the gathers'.
-/
module

public import proofs.«01_k».proof.Proof.Two
public import Idealize.ShloMosaic.Lib.SparseCore.Quiescent
public import Idealize.ShloMosaic.Lib.Pipeline.Kit

@[expose] public section

noncomputable section

namespace Cert.Proof.Rows

open Cert.KernelIdeal Cert.KernelIdeal.Gen

open Idealize.ShloMosaic
open Idealize.ShloMosaic.SparseCore (S V T rows gatherPayload)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-! ## The program as the launch theorem sees it -/

abbrev ΛP : Labels := Pipeline.Sig Λ₀ (Fin 0) fun p => (pcfgs (F := F) p).Adm
abbrev K : SparseCore.Cfg τ sig (ΛP (F := F)) 2 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

omit [FloatOps F] in
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## What a subcore owns, taken apart -/

section Own

variable (d : Dev nD) (x : Fin τ.nSC) (y : Fin τ.nSub)

/-- Some of its semaphores, and the rest. -/
theorem sems_out (s : Finset (DmaSem sig)) (hs : ∀ a ∈ s, (SemLoc.dma a : SemLoc sig).isScoped .scVector = true) :
    ∃ R : sProp 𝕄, (ownSems0 (V d x y) : sProp 𝕄) = iprop((bigSep s fun a => Zero d x y a) ∗ R) := by
  have hsub : s.map ⟨fun a => ((V d x y, .dma a) : GSem nD τ sig), fun a b h => by injection h with _ h; injection h⟩ ⊆ ownCells (V d x y) := by
    intro g hg
    obtain ⟨a, ha, rfl⟩ := Finset.mem_map.mp hg
    exact mem_ownCells.mpr ⟨rfl, hs a ha⟩
  unfold SparseCore.Cfg.ownSems0
  rw [SparseCore.bigSep_sdiff_split' hsub, bigSep_map]
  exact ⟨_, rfl⟩

/-- Some of its buffers, and the rest. -/
theorem bufs_out (s : Finset (Ref sig .scVector)) (hs : ∀ r ∈ s, ((Proc.scVector x y).devRef r : DevRef τ sig).owner = .proc (.scVector x y)) :
    ∃ R : sProp 𝕄, (ownBufs (V d x y) : sProp 𝕄) = iprop((bigSep s fun r => Any d x y (Memref.whole r)) ∗ R) := by
  have hsub : s.map ⟨fun r => ((Proc.scVector x y).devRef r : DevRef τ sig), fun a b h => Proc.devRef_injective _ h⟩ ⊆ ownRefs (τ := τ) (.scVector x y) := by
    intro g hg
    obtain ⟨r, hr, rfl⟩ := Finset.mem_map.mp hg
    exact SparseCore.Cfg.mem_ownRefs_of_owner (hs r hr)
  unfold SparseCore.Cfg.ownBufs
  rw [show (V d x y : Thread nD τ).2 = .scVector x y from rfl, SparseCore.bigSep_sdiff_split' hsub, bigSep_map]
  refine ⟨_, congrArg₂ _ (bigSep_congr fun r _ => ?_) rfl⟩
  unfold Any
  rw [show (Memref.whole r).view.set = Finset.univ from View.set_whole _]
  rfl

end Own

/-! ## Thirty-two parts -/

/-- The number of subcore `(c, s)`: its band is rows `4096 · w … 4096 · w + 4095`. -/
def tl (c s : ℕ) : Fin 32 := ⟨(2 * s + c) % 32, Nat.mod_lt _ (by decide)⟩

def tlEquiv : Fin 2 × Fin 16 ≃ Fin 32 := Equiv.ofBijective (fun p => tl p.1.val p.2.val) (by decide)

/-- The `w`th of thirty-two read shares. -/
def sh (w : Fin 32) : PosShare TreeShare := Idealize.ShloMosaic.pieceOf fullShare 32 (by decide) w

/-- The elements of band `w`. -/
def rowsOf (w : Fin 32) : Finset S131072x128.Idx := Finset.univ.filter fun x => 4096 * w.val ≤ (x 0).val ∧ (x 0).val < 4096 * w.val + 4096

theorem rowsOf_disjoint : ∀ i ∈ (Finset.univ : Finset (Fin 32)), ∀ j ∈ (Finset.univ : Finset (Fin 32)), i ≠ j → Disjoint (rowsOf i) (rowsOf j) := by
  intro i _ j _ h
  refine Finset.disjoint_left.mpr fun x hi hj => h (Fin.ext ?_)
  have hi := (Finset.mem_filter.mp hi).2
  have hj := (Finset.mem_filter.mp hj).2
  omega

theorem rowsOf_cover : (Finset.univ : Finset (Fin 32)).biUnion rowsOf = Finset.univ := by
  refine Finset.eq_univ_iff_forall.mpr fun x => Finset.mem_biUnion.mpr ?_
  have hx : (x 0).val < 131072 := (x 0).isLt
  refine ⟨⟨(x 0).val / 4096, by omega⟩, Finset.mem_univ _, Finset.mem_filter.mpr ⟨Finset.mem_univ _, ?_⟩⟩
  constructor <;> dsimp only <;> omega

theorem bigSep_tiles (Φ : Fin 32 → sProp 𝕄) :
    bigSep Finset.univ Φ = bigSep Finset.univ fun c : Fin 2 => bigSep Finset.univ fun s : Fin 16 => Φ (tl c.val s.val) := by
  rw [bigSep_univ_equiv tlEquiv, bigSep_univ_prod]
  rfl

theorem tl_base0 (i : grid0.Coords) : base0 i = 4096 * (tl (i 0).val (i 1).val).val := by
  have h0 : (i 0).val < 2 := (i 0).isLt
  have h1 : (i 1).val < 16 := (i 1).isLt
  change 8192 * (i 1).val + 4096 * (i 0).val = 4096 * ((2 * (i 1).val + (i 0).val) % 32)
  omega

theorem tl_base1 (i : grid1.Coords) : base1 i = 4096 * (tl (i 0).val (i 1).val).val := by
  have h0 : (i 0).val < 2 := (i 0).isLt
  have h1 : (i 1).val < 16 := (i 1).isLt
  change 8192 * (i 1).val + 4096 * (i 0).val = 4096 * ((2 * (i 1).val + (i 0).val) % 32)
  omega

/-! ## The launch memory and what the handshakes carry -/

variable (m : (ℓ : Loc nD τ sig) → Buf (Elt F) ℓ) (ρ : Dev nD → PrngReg)

abbrev qLoc (d : Dev nD) : Loc nD τ sig := (SparseCore.T d).loc main_arg0
abbrev pLoc (d : Dev nD) : Loc nD τ sig := (SparseCore.T d).loc main_arg1
abbrev aLoc (d : Dev nD) : Loc nD τ sig := (SparseCore.T d).loc main_arg2
abbrev iLoc (d : Dev nD) : Loc nD τ sig := (SparseCore.T d).loc main_arg3
abbrev oLoc (d : Dev nD) : Loc nD τ sig := (SparseCore.T d).loc main_v0
abbrev o1Loc (d : Dev nD) : Loc nD τ sig := (SparseCore.T d).loc main_v1_0
abbrev o2Loc (d : Dev nD) : Loc nD τ sig := (SparseCore.T d).loc main_v1_1

/-- What the proof asks of the launch memory: every entry of the list is a row of the tables. -/
def PreOK : Prop := ∀ (d : Dev nD) (z : S131072.Idx), (show BitVec 32 from m (iLoc d) z).toNat < 8192

/-- The three results. -/
def Gq (d : Dev nD) : Buf (Elt F) (oLoc d) := gath (α := Elt F .f32) (m (qLoc d)) (m (iLoc d))
def Gp (d : Dev nD) : Buf (Elt F) (o1Loc d) := gath (α := Elt F .f32) (m (pLoc d)) (m (iLoc d))
def Ga (d : Dev nD) : Buf (Elt F) (o2Loc d) := gath (α := Elt F .f32) (m (aLoc d)) (m (iLoc d))

/-- Part `w` of the first call's operands, the output at `f`. -/
def Part0 (d : Dev nD) (f : Buf (Elt F) (oLoc d)) (w : Fin 32) : sProp 𝕄 :=
  iprop((qLoc d ↦{sh w} m (qLoc d)) ∗ (iLoc d ↦{sh w} m (iLoc d)) ∗ (oLoc d ↦[rowsOf w]{fullShare} f))

/-- Part `w` of the second call's operands, the outputs at `f` and `g`. -/
def Part1 (d : Dev nD) (f : Buf (Elt F) (o1Loc d)) (g : Buf (Elt F) (o2Loc d)) (w : Fin 32) : sProp 𝕄 :=
  iprop((pLoc d ↦{sh w} m (pLoc d)) ∗ (aLoc d ↦{sh w} m (aLoc d)) ∗ (iLoc d ↦{sh w} m (iLoc d)) ∗ (o1Loc d ↦[rowsOf w]{fullShare} f) ∗ (o2Loc d ↦[rowsOf w]{fullShare} g))

instance (d : Dev nD) (f : Buf (Elt F) (oLoc d)) (w : Fin 32) : BI.Storable (upEmb : UEmb _ 𝕄) (Part0 m d f w) := by
  unfold Part0; infer_instance
instance (d : Dev nD) (f : Buf (Elt F) (o1Loc d)) (g : Buf (Elt F) (o2Loc d)) (w : Fin 32) : BI.Storable (upEmb : UEmb _ 𝕄) (Part1 m d f g w) := by
  unfold Part1; infer_instance

theorem split0 (d : Dev nD) (f : Buf (Elt F) (oLoc d)) :
    iprop((qLoc d ↦{fullShare} m (qLoc d)) ∗ (iLoc d ↦{fullShare} m (iLoc d)) ∗ (oLoc d ↦{fullShare} f))
      = (bigSep Finset.univ fun c : Fin 2 => bigSep Finset.univ fun s : Fin 16 => Part0 m d f (tl c.val s.val) : sProp 𝕄) := by
  rw [← bigSep_tiles (F := F)]
  unfold Part0
  rw [bigSep_sep', bigSep_sep', ← pointsTo_biUnion Finset.univ (ℓ := oLoc d) rowsOf rowsOf_disjoint, rowsOf_cover]
  exact congrArg₂ _ (Idealize.ShloMosaic.pointsTo_piecesOf _ _ _ _) (congrArg₂ _ (Idealize.ShloMosaic.pointsTo_piecesOf _ _ _ _) rfl)

theorem split1 (d : Dev nD) (f : Buf (Elt F) (o1Loc d)) (g : Buf (Elt F) (o2Loc d)) :
    iprop((pLoc d ↦{fullShare} m (pLoc d)) ∗ (aLoc d ↦{fullShare} m (aLoc d)) ∗ (iLoc d ↦{fullShare} m (iLoc d)) ∗ (o1Loc d ↦{fullShare} f) ∗ (o2Loc d ↦{fullShare} g))
      = (bigSep Finset.univ fun c : Fin 2 => bigSep Finset.univ fun s : Fin 16 => Part1 m d f g (tl c.val s.val) : sProp 𝕄) := by
  rw [← bigSep_tiles (F := F)]
  unfold Part1
  rw [bigSep_sep', bigSep_sep', bigSep_sep', bigSep_sep', ← pointsTo_biUnion Finset.univ (ℓ := o1Loc d) rowsOf rowsOf_disjoint,
    ← pointsTo_biUnion Finset.univ (ℓ := o2Loc d) rowsOf rowsOf_disjoint, rowsOf_cover]
  exact congrArg₂ _ (Idealize.ShloMosaic.pointsTo_piecesOf _ _ _ _) (congrArg₂ _ (Idealize.ShloMosaic.pointsTo_piecesOf _ _ _ _) (congrArg₂ _ (Idealize.ShloMosaic.pointsTo_piecesOf _ _ _ _) rfl))

/-- Each call takes its subcores' parts and brings them back, the outputs' bands at the gathers. -/
def P : (K (F := F)).Pay (nD := nD) (Val := Elt F) (Name := ℕ) (U := UU) where
  st := fun q d c => match q with
    | 0 => bigSep Finset.univ fun s : Fin 16 => Part0 m d (m (oLoc d)) (tl c.val s.val)
    | 1 => bigSep Finset.univ fun s : Fin 16 => Part1 m d (m (o1Loc d)) (m (o2Loc d)) (tl c.val s.val)
  dn := fun q d c => match q with
    | 0 => bigSep Finset.univ fun s : Fin 16 => Part0 m d (Gq m d) (tl c.val s.val)
    | 1 => bigSep Finset.univ fun s : Fin 16 => Part1 m d (Gp m d) (Ga m d) (tl c.val s.val)
  go := fun q d c s => match q with
    | 0 => Part0 m d (m (oLoc d)) (tl c.val s.val)
    | 1 => Part1 m d (m (o1Loc d)) (m (o2Loc d)) (tl c.val s.val)
  td := fun q d c s => match q with
    | 0 => Part0 m d (Gq m d) (tl c.val s.val)
    | 1 => Part1 m d (Gp m d) (Ga m d) (tl c.val s.val)
  x := fun _ _ => iprop(emp)

instance P_storable : (P (F := F) m).IsStorable where
  st q d c := match q with
    | 0 => (inferInstance : BI.Storable (upEmb : UEmb _ 𝕄) (bigSep Finset.univ fun s : Fin 16 => Part0 m d (m (oLoc d)) (tl c.val s.val)))
    | 1 => (inferInstance : BI.Storable (upEmb : UEmb _ 𝕄) (bigSep Finset.univ fun s : Fin 16 => Part1 m d (m (o1Loc d)) (m (o2Loc d)) (tl c.val s.val)))
  dn q d c := match q with
    | 0 => (inferInstance : BI.Storable (upEmb : UEmb _ 𝕄) (bigSep Finset.univ fun s : Fin 16 => Part0 m d (Gq m d) (tl c.val s.val)))
    | 1 => (inferInstance : BI.Storable (upEmb : UEmb _ 𝕄) (bigSep Finset.univ fun s : Fin 16 => Part1 m d (Gp m d) (Ga m d) (tl c.val s.val)))
  go q d c s := match q with
    | 0 => (inferInstance : BI.Storable (upEmb : UEmb _ 𝕄) (Part0 m d (m (oLoc d)) (tl c.val s.val)))
    | 1 => (inferInstance : BI.Storable (upEmb : UEmb _ 𝕄) (Part1 m d (m (o1Loc d)) (m (o2Loc d)) (tl c.val s.val)))
  td q d c s := match q with
    | 0 => (inferInstance : BI.Storable (upEmb : UEmb _ 𝕄) (Part0 m d (Gq m d) (tl c.val s.val)))
    | 1 => (inferInstance : BI.Storable (upEmb : UEmb _ 𝕄) (Part1 m d (Gp m d) (Ga m d) (tl c.val s.val)))

theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-! ## Call 0's task -/

section Tile0

variable (d : Dev nD) (L : grid0.Coords)

theorem sems0 : ∃ R : sProp 𝕄, (ownSems0 (V d (x0 L) (y0 L)) : sProp 𝕄)
    = iprop((Zero d (x0 L) (y0 L) cc0_scratch4.sem ∗ Zero d (x0 L) (y0 L) cc0_scratch5.sem ∗ Zero d (x0 L) (y0 L) cc0_scratch6.sem ∗ Zero d (x0 L) (y0 L) cc0_scratch7.sem ∗ Zero d (x0 L) (y0 L) cc0_scoped0.sem ∗ Zero d (x0 L) (y0 L) cc0_scoped1.sem ∗ Zero d (x0 L) (y0 L) cc0_scoped2.sem) ∗ R) := by
  obtain ⟨R, h⟩ := sems_out (F := F) d (x0 L) (y0 L) {cc0_scratch4.sem, cc0_scratch5.sem, cc0_scratch6.sem, cc0_scratch7.sem, cc0_scoped0.sem, cc0_scoped1.sem, cc0_scoped2.sem} (by decide)
  refine ⟨R, h.trans ?_⟩
  rw [SparseCore.bigSep_insert' (by decide), SparseCore.bigSep_insert' (by decide), SparseCore.bigSep_insert' (by decide), SparseCore.bigSep_insert' (by decide), SparseCore.bigSep_insert' (by decide), SparseCore.bigSep_insert' (by decide), bigSep_singleton]

theorem bufs0 : ∃ R : sProp 𝕄, (ownBufs (V d (x0 L) (y0 L)) : sProp 𝕄)
    = iprop((Any d (x0 L) (y0 L) (Memref.whole cc0_scratch0) ∗ Any d (x0 L) (y0 L) (Memref.whole cc0_scratch1) ∗ Any d (x0 L) (y0 L) (Memref.whole cc0_scratch2) ∗ Any d (x0 L) (y0 L) (Memref.whole cc0_scratch3)) ∗ R) := by
  obtain ⟨R, h⟩ := bufs_out (F := F) d (x0 L) (y0 L) {cc0_scratch0, cc0_scratch1, cc0_scratch2, cc0_scratch3} (by
    intro r hr
    simp only [Finset.mem_insert, Finset.mem_singleton] at hr
    rcases hr with rfl | rfl | rfl | rfl <;> rfl)
  refine ⟨R, h.trans ?_⟩
  rw [SparseCore.bigSep_insert' (by decide), SparseCore.bigSep_insert' (by decide), SparseCore.bigSep_insert' (by decide), bigSep_singleton]

theorem band0_0 : band (Memref.whole main_v0_scv) (base0 L) (base0 L + 4096) = rowsOf (tl (L 0).val (L 1).val) := by
  unfold band rowsOf
  rw [tl_base0]
  exact Finset.map_refl

theorem out0_0 :
    Out d (x0 L) (y0 L) (Memref.whole main_v0_scv) ((Memref.whole main_arg0_scv).view.read (Elt F) (m (qLoc d))) ((Memref.whole main_arg3_scv).view.read (Elt F) (m (iLoc d))) (base0 L) (base0 L + 4096)
      ⊢ (oLoc d ↦[rowsOf (tl (L 0).val (L 1).val)]{fullShare} Gq m d : sProp 𝕄) := by
  unfold Out
  rw [band0_0]
  iintro ⟨%f, %hf, H⟩
  have h : (oLoc d ↦[rowsOf (tl (L 0).val (L 1).val)]{fullShare} f : sProp 𝕄) = (oLoc d ↦[rowsOf (tl (L 0).val (L 1).val)]{fullShare} Gq m d) := pointsTo_congr fun z hz => by
    have hz := (Finset.mem_filter.mp hz).2
    rw [← tl_base0] at hz
    exact hf z hz.1 hz.2
  iapply (Entails.of_eq h)
  iexact H

theorem body0 (hF : (K (F := F)).Facts) (hpre : PreOK m) (O : CellTallies nD τ sig (HIx 2)) (W : Waits sig (HIx 2)) (hO : ∀ g, O g none = 0) :
    iprop(levAts (K (F := F)).L (K (F := F)).lev ∗ emp ∗ Part0 m d (m (oLoc d)) (tl (L 0).val (L 1).val) ∗ scopedBufs (V d (x0 L) (y0 L)) ∗ scopedSems0 (V d (x0 L) (y0 L)) ∗ owes (V d (x0 L) (y0 L)) O W)
      ⊢ wp frame (wpE (defs₀ (F := F)) 𝒱₀ (V d (x0 L) (y0 L)) none) Set.univ
          (cc0_k L (Memref.whole main_arg0_scv) (Memref.isWhole_whole _) (Memref.whole main_arg3_scv) (Memref.isWhole_whole _) (Memref.whole main_v0_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scoped0 cc0_scoped1 cc0_scoped2)
          fun _ => iprop(Part0 m d (Gq m d) (tl (L 0).val (L 1).val) ∗ scopedBufs (V d (x0 L) (y0 L)) ∗ scopedSems0 (V d (x0 L) (y0 L))
            ∗ ∃ W', ⌜∀ p ∈ W', p ∈ W ∨ p.2 = none⌝ ∗ owes (V d (x0 L) (y0 L)) O W') := by
  obtain ⟨RB, hRB⟩ := bufs0 (F := F) d L
  obtain ⟨RS, hRS⟩ := sems0 (F := F) d L
  rw [(K (F := F)).scopedBufs_V hF d (x0 L) (y0 L), SparseCore.Cfg.scopedSems0_V (Val := Elt F) d (x0 L) (y0 L), hRB, hRS]
  unfold Part0
  iintro ⟨#Hlv, -, ⟨Ht0, Hi, Ho0⟩, ⟨Hb, HRB⟩, ⟨Hs, HRS⟩, HO⟩
  ihave Hmw := (show levAts (K (F := F)).L (K (F := F)).lev ⊢ Transfers.MayWaits (V d (x0 L) (y0 L)) (default : HIx 2) O from
    (K (F := F)).mayWaits_none (thr := V d (x0 L) (y0 L)) hO) $$ Hlv
  iapply wp_fupd
  iapply (wp_wand_r frame (wpE (defs₀ (F := F)) 𝒱₀ (V d (x0 L) (y0 L)) none) Set.univ)
  isplitl [Hmw HO Ht0 Hi Ho0 Hb Hs]
  · iapply (task0 d L (Memref.whole main_arg0_scv) (Memref.isWhole_whole _) (Memref.whole main_arg3_scv) (Memref.isWhole_whole _) (Memref.whole main_v0_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scoped0 cc0_scoped1 cc0_scoped2 (sh (tl (L 0).val (L 1).val)) (sh (tl (L 0).val (L 1).val)) (m (qLoc d)) (m (iLoc d)) O W 𝒱₀ none (fun z => hpre d z))
    isplitl [Hmw]; · iexact Hmw
    isplitl [HO]
    · unfold Owe; iexists W; isplitr
      · ipureintro; exact fun p hp => .inl hp
      · iexact HO
    isplitl [Ht0]; · unfold Tok; rw [show (Memref.whole main_arg0_scv).view.set = Finset.univ from View.set_whole _]; iexact Ht0
    isplitl [Hi]; · unfold Tok; rw [show (Memref.whole main_arg3_scv).view.set = Finset.univ from View.set_whole _]; iexact Hi
    isplitl [Ho0]; · rw [band0_0]; iexists _; iexact Ho0
    isplitl [Hb] <;> iassumption
  iintro %u ⟨HO, Ht0, Hi, Ho0, Hb, Hs⟩
  ihave Ho0 := (out0_0 m d L) $$ Ho0
  imodintro
  isplitl [Ht0 Hi Ho0]
  · isplitl [Ht0]; · unfold Tok; rw [show (Memref.whole main_arg0_scv).view.set = Finset.univ from View.set_whole _]; iexact Ht0
    isplitl [Hi]; · unfold Tok; rw [show (Memref.whole main_arg3_scv).view.set = Finset.univ from View.set_whole _]; iexact Hi
    iexact Ho0
  isplitl [Hb HRB]; · isplitl [Hb] <;> iassumption
  isplitl [Hs HRS]; · isplitl [Hs] <;> iassumption
  iapply (Owe.out d (x0 L) (y0 L))
  iexact HO

def coords0 (c : Fin (grid0.bound 0)) (s : Fin (grid0.bound 1)) : grid0.Coords :=
  fun | 0 => c | 1 => s | ⟨_ + 2, h⟩ => absurd h (Nat.not_lt.2 (Nat.le_add_left _ _))

theorem defs₀_0 (c : Fin τ.nSC) (s : Fin τ.nSub) :
    defs₀ (F := F) (.scVector c s) 0 ()
      = SparseCore.onTile hcore0 hsub0 (fun c s => cc0_k (coords0 c s) (Memref.whole main_arg0_scv) (Memref.isWhole_whole _) (Memref.whole main_arg3_scv) (Memref.isWhole_whole _) (Memref.whole main_v0_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scoped0 cc0_scoped1 cc0_scoped2) ⟨⟩ c s := rfl

set_option maxRecDepth 16384 in
theorem obl0 (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_0]; simp only [SparseCore.onTile, hci, and_self, ↓reduceDIte]
  exact (body0 m d (coords0 ⟨_, hci.1⟩ ⟨_, hci.2⟩) hF hpre O W hO).trans (wp_mono frame _ _ fun _ => obl_post)

end Tile0

theorem vecSplit0 : (K (F := F)).VecSplit' (P m) 0 := by
  intro d c
  change (bigSep Finset.univ fun s : Fin 16 => Part0 m d (m (oLoc d)) (tl c.val s.val))
    ⊢ |={Set.univ}=> iprop((bigSep Finset.univ fun s : Fin 16 => Part0 m d (m (oLoc d)) (tl c.val s.val))
      ∗ ((bigSep Finset.univ fun s : Fin 16 => Part0 m d (Gq m d) (tl c.val s.val)) -∗ (bigSep Finset.univ fun s : Fin 16 => Part0 m d (Gq m d) (tl c.val s.val))))
  iintro H
  imodintro
  isplitl [H]; · iexact H
  iintro H
  iexact H

/-! ## Call 1's task -/

section Tile1

variable (d : Dev nD) (L : grid1.Coords)

theorem sems1 : ∃ R : sProp 𝕄, (ownSems0 (V d (x1 L) (y1 L)) : sProp 𝕄)
    = iprop((Zero d (x1 L) (y1 L) cc1_scratch6.sem ∗ Zero d (x1 L) (y1 L) cc1_scratch7.sem ∗ Zero d (x1 L) (y1 L) cc1_scratch8.sem ∗ Zero d (x1 L) (y1 L) cc1_scratch9.sem ∗ Zero d (x1 L) (y1 L) cc1_scoped0.sem ∗ Zero d (x1 L) (y1 L) cc1_scoped1.sem ∗ Zero d (x1 L) (y1 L) cc1_scoped2.sem) ∗ R) := by
  obtain ⟨R, h⟩ := sems_out (F := F) d (x1 L) (y1 L) {cc1_scratch6.sem, cc1_scratch7.sem, cc1_scratch8.sem, cc1_scratch9.sem, cc1_scoped0.sem, cc1_scoped1.sem, cc1_scoped2.sem} (by decide)
  refine ⟨R, h.trans ?_⟩
  rw [SparseCore.bigSep_insert' (by decide), SparseCore.bigSep_insert' (by decide), SparseCore.bigSep_insert' (by decide), SparseCore.bigSep_insert' (by decide), SparseCore.bigSep_insert' (by decide), SparseCore.bigSep_insert' (by decide), bigSep_singleton]

theorem bufs1 : ∃ R : sProp 𝕄, (ownBufs (V d (x1 L) (y1 L)) : sProp 𝕄)
    = iprop((Any d (x1 L) (y1 L) (Memref.whole cc1_scratch0) ∗ Any d (x1 L) (y1 L) (Memref.whole cc1_scratch1) ∗ Any d (x1 L) (y1 L) (Memref.whole cc1_scratch2) ∗ Any d (x1 L) (y1 L) (Memref.whole cc1_scratch3) ∗ Any d (x1 L) (y1 L) (Memref.whole cc1_scratch4) ∗ Any d (x1 L) (y1 L) (Memref.whole cc1_scratch5)) ∗ R) := by
  obtain ⟨R, h⟩ := bufs_out (F := F) d (x1 L) (y1 L) {cc1_scratch0, cc1_scratch1, cc1_scratch2, cc1_scratch3, cc1_scratch4, cc1_scratch5} (by
    intro r hr
    simp only [Finset.mem_insert, Finset.mem_singleton] at hr
    rcases hr with rfl | rfl | rfl | rfl | rfl | rfl <;> rfl)
  refine ⟨R, h.trans ?_⟩
  rw [SparseCore.bigSep_insert' (by decide), SparseCore.bigSep_insert' (by decide), SparseCore.bigSep_insert' (by decide), SparseCore.bigSep_insert' (by decide), SparseCore.bigSep_insert' (by decide), bigSep_singleton]

theorem band1_0 : band (Memref.whole main_v1_0_scv) (base1 L) (base1 L + 4096) = rowsOf (tl (L 0).val (L 1).val) := by
  unfold band rowsOf
  rw [tl_base1]
  exact Finset.map_refl

theorem out1_0 :
    Out d (x1 L) (y1 L) (Memref.whole main_v1_0_scv) ((Memref.whole main_arg1_scv).view.read (Elt F) (m (pLoc d))) ((Memref.whole main_arg3_scv).view.read (Elt F) (m (iLoc d))) (base1 L) (base1 L + 4096)
      ⊢ (o1Loc d ↦[rowsOf (tl (L 0).val (L 1).val)]{fullShare} Gp m d : sProp 𝕄) := by
  unfold Out
  rw [band1_0]
  iintro ⟨%f, %hf, H⟩
  have h : (o1Loc d ↦[rowsOf (tl (L 0).val (L 1).val)]{fullShare} f : sProp 𝕄) = (o1Loc d ↦[rowsOf (tl (L 0).val (L 1).val)]{fullShare} Gp m d) := pointsTo_congr fun z hz => by
    have hz := (Finset.mem_filter.mp hz).2
    rw [← tl_base1] at hz
    exact hf z hz.1 hz.2
  iapply (Entails.of_eq h)
  iexact H

theorem band1_1 : band (Memref.whole main_v1_1_scv) (base1 L) (base1 L + 4096) = rowsOf (tl (L 0).val (L 1).val) := by
  unfold band rowsOf
  rw [tl_base1]
  exact Finset.map_refl

theorem out1_1 :
    Out d (x1 L) (y1 L) (Memref.whole main_v1_1_scv) ((Memref.whole main_arg2_scv).view.read (Elt F) (m (aLoc d))) ((Memref.whole main_arg3_scv).view.read (Elt F) (m (iLoc d))) (base1 L) (base1 L + 4096)
      ⊢ (o2Loc d ↦[rowsOf (tl (L 0).val (L 1).val)]{fullShare} Ga m d : sProp 𝕄) := by
  unfold Out
  rw [band1_1]
  iintro ⟨%f, %hf, H⟩
  have h : (o2Loc d ↦[rowsOf (tl (L 0).val (L 1).val)]{fullShare} f : sProp 𝕄) = (o2Loc d ↦[rowsOf (tl (L 0).val (L 1).val)]{fullShare} Ga m d) := pointsTo_congr fun z hz => by
    have hz := (Finset.mem_filter.mp hz).2
    rw [← tl_base1] at hz
    exact hf z hz.1 hz.2
  iapply (Entails.of_eq h)
  iexact H

theorem body1 (hF : (K (F := F)).Facts) (hpre : PreOK m) (O : CellTallies nD τ sig (HIx 2)) (W : Waits sig (HIx 2)) (hO : ∀ g, O g none = 0) :
    iprop(levAts (K (F := F)).L (K (F := F)).lev ∗ emp ∗ Part1 m d (m (o1Loc d)) (m (o2Loc d)) (tl (L 0).val (L 1).val) ∗ scopedBufs (V d (x1 L) (y1 L)) ∗ scopedSems0 (V d (x1 L) (y1 L)) ∗ owes (V d (x1 L) (y1 L)) O W)
      ⊢ wp frame (wpE (defs₀ (F := F)) 𝒱₀ (V d (x1 L) (y1 L)) none) Set.univ
          (cc1_k L (Memref.whole main_arg1_scv) (Memref.isWhole_whole _) (Memref.whole main_arg2_scv) (Memref.isWhole_whole _) (Memref.whole main_arg3_scv) (Memref.isWhole_whole _) (Memref.whole main_v1_0_scv) (Memref.isWhole_whole _) (Memref.whole main_v1_1_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) cc1_scratch6 cc1_scratch7 cc1_scratch8 cc1_scratch9 cc1_scoped0 cc1_scoped1 cc1_scoped2)
          fun _ => iprop(Part1 m d (Gp m d) (Ga m d) (tl (L 0).val (L 1).val) ∗ scopedBufs (V d (x1 L) (y1 L)) ∗ scopedSems0 (V d (x1 L) (y1 L))
            ∗ ∃ W', ⌜∀ p ∈ W', p ∈ W ∨ p.2 = none⌝ ∗ owes (V d (x1 L) (y1 L)) O W') := by
  obtain ⟨RB, hRB⟩ := bufs1 (F := F) d L
  obtain ⟨RS, hRS⟩ := sems1 (F := F) d L
  rw [(K (F := F)).scopedBufs_V hF d (x1 L) (y1 L), SparseCore.Cfg.scopedSems0_V (Val := Elt F) d (x1 L) (y1 L), hRB, hRS]
  unfold Part1
  iintro ⟨#Hlv, -, ⟨Ht0, Ht1, Hi, Ho0, Ho1⟩, ⟨Hb, HRB⟩, ⟨Hs, HRS⟩, HO⟩
  ihave Hmw := (show levAts (K (F := F)).L (K (F := F)).lev ⊢ Transfers.MayWaits (V d (x1 L) (y1 L)) (default : HIx 2) O from
    (K (F := F)).mayWaits_none (thr := V d (x1 L) (y1 L)) hO) $$ Hlv
  iapply wp_fupd
  iapply (wp_wand_r frame (wpE (defs₀ (F := F)) 𝒱₀ (V d (x1 L) (y1 L)) none) Set.univ)
  isplitl [Hmw HO Ht0 Ht1 Hi Ho0 Ho1 Hb Hs]
  · iapply (task1 d L (Memref.whole main_arg1_scv) (Memref.isWhole_whole _) (Memref.whole main_arg2_scv) (Memref.isWhole_whole _) (Memref.whole main_arg3_scv) (Memref.isWhole_whole _) (Memref.whole main_v1_0_scv) (Memref.isWhole_whole _) (Memref.whole main_v1_1_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) cc1_scratch6 cc1_scratch7 cc1_scratch8 cc1_scratch9 cc1_scoped0 cc1_scoped1 cc1_scoped2 (sh (tl (L 0).val (L 1).val)) (sh (tl (L 0).val (L 1).val)) (sh (tl (L 0).val (L 1).val)) (m (pLoc d)) (m (aLoc d)) (m (iLoc d)) O W 𝒱₀ none (fun z => hpre d z))
    isplitl [Hmw]; · iexact Hmw
    isplitl [HO]
    · unfold Owe; iexists W; isplitr
      · ipureintro; exact fun p hp => .inl hp
      · iexact HO
    isplitl [Ht0]; · unfold Tok; rw [show (Memref.whole main_arg1_scv).view.set = Finset.univ from View.set_whole _]; iexact Ht0
    isplitl [Ht1]; · unfold Tok; rw [show (Memref.whole main_arg2_scv).view.set = Finset.univ from View.set_whole _]; iexact Ht1
    isplitl [Hi]; · unfold Tok; rw [show (Memref.whole main_arg3_scv).view.set = Finset.univ from View.set_whole _]; iexact Hi
    isplitl [Ho0]; · rw [band1_0]; iexists _; iexact Ho0
    isplitl [Ho1]; · rw [band1_1]; iexists _; iexact Ho1
    isplitl [Hb] <;> iassumption
  iintro %u ⟨HO, Ht0, Ht1, Hi, Ho0, Ho1, Hb, Hs⟩
  ihave Ho0 := (out1_0 m d L) $$ Ho0
  ihave Ho1 := (out1_1 m d L) $$ Ho1
  imodintro
  isplitl [Ht0 Ht1 Hi Ho0 Ho1]
  · isplitl [Ht0]; · unfold Tok; rw [show (Memref.whole main_arg1_scv).view.set = Finset.univ from View.set_whole _]; iexact Ht0
    isplitl [Ht1]; · unfold Tok; rw [show (Memref.whole main_arg2_scv).view.set = Finset.univ from View.set_whole _]; iexact Ht1
    isplitl [Hi]; · unfold Tok; rw [show (Memref.whole main_arg3_scv).view.set = Finset.univ from View.set_whole _]; iexact Hi
    isplitl [Ho0]; · iexact Ho0
    iexact Ho1
  isplitl [Hb HRB]; · isplitl [Hb] <;> iassumption
  isplitl [Hs HRS]; · isplitl [Hs] <;> iassumption
  iapply (Owe.out d (x1 L) (y1 L))
  iexact HO

def coords1 (c : Fin (grid1.bound 0)) (s : Fin (grid1.bound 1)) : grid1.Coords :=
  fun | 0 => c | 1 => s | ⟨_ + 2, h⟩ => absurd h (Nat.not_lt.2 (Nat.le_add_left _ _))

theorem defs₀_1 (c : Fin τ.nSC) (s : Fin τ.nSub) :
    defs₀ (F := F) (.scVector c s) 1 ()
      = SparseCore.onTile hcore1 hsub1 (fun c s => cc1_k (coords1 c s) (Memref.whole main_arg1_scv) (Memref.isWhole_whole _) (Memref.whole main_arg2_scv) (Memref.isWhole_whole _) (Memref.whole main_arg3_scv) (Memref.isWhole_whole _) (Memref.whole main_v1_0_scv) (Memref.isWhole_whole _) (Memref.whole main_v1_1_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) cc1_scratch6 cc1_scratch7 cc1_scratch8 cc1_scratch9 cc1_scoped0 cc1_scoped1 cc1_scoped2) ⟨⟩ c s := rfl

set_option maxRecDepth 16384 in
theorem obl1 (hF : (K (F := F)).Facts) (hpre : PreOK m) : (K (F := F)).TileObl (D (F := F)) 𝒱 (P m) v₀ 1 := by
  intro d c i O W hO _ _
  simp only [show (P m).ox = fun _ _ => 0 from rfl, add_zero]
  have hci : ((K (F := F)).core 1 c).val < grid1.bound 0 ∧ ((K (F := F)).sub 1 i).val < grid1.bound 1 := ⟨c.isLt, i.isLt⟩
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  rw [defs₀_1]; simp only [SparseCore.onTile, hci, and_self, ↓reduceDIte]
  exact (body1 m d (coords1 ⟨_, hci.1⟩ ⟨_, hci.2⟩) hF hpre O W hO).trans (wp_mono frame _ _ fun _ => obl_post)

end Tile1

theorem vecSplit1 : (K (F := F)).VecSplit' (P m) 1 := by
  intro d c
  change (bigSep Finset.univ fun s : Fin 16 => Part1 m d (m (o1Loc d)) (m (o2Loc d)) (tl c.val s.val))
    ⊢ |={Set.univ}=> iprop((bigSep Finset.univ fun s : Fin 16 => Part1 m d (m (o1Loc d)) (m (o2Loc d)) (tl c.val s.val))
      ∗ ((bigSep Finset.univ fun s : Fin 16 => Part1 m d (Gp m d) (Ga m d) (tl c.val s.val)) -∗ (bigSep Finset.univ fun s : Fin 16 => Part1 m d (Gp m d) (Ga m d) (tl c.val s.val))))
  iintro H
  imodintro
  isplitl [H]; · iexact H
  iintro H
  iexact H

/-! ## The launch -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 2 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 2 => (P (F := F) m).x q thr) = bigSep Finset.univ fun _ => iprop(emp) from
    bigSep_congr fun _ _ => bigSep_emp' _, bigSep_emp']
  iempintro

theorem unscopedBufs_eq (d : Dev nD) (W : (b : Ref sig .tc) → Buf (Elt F) ((d.tc : Thread nD τ).loc b)) :
    (unscopedBufs d W : sProp 𝕄) = iprop((qLoc d ↦{fullShare} W main_arg0) ∗ (pLoc d ↦{fullShare} W main_arg1) ∗ (aLoc d ↦{fullShare} W main_arg2)
      ∗ (iLoc d ↦{fullShare} W main_arg3) ∗ (oLoc d ↦{fullShare} W main_v0) ∗ (o1Loc d ↦{fullShare} W main_v1_0) ∗ (o2Loc d ↦{fullShare} W main_v1_1)) := by
  unfold unscopedBufs
  rw [show (Finset.univ.filter fun b : Ref sig .tc => ¬ b.isScoped) = {main_arg0, main_arg1, main_arg2, main_arg3, main_v0, main_v1_0, main_v1_1} by decide,
    SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

/-- What @main leaves: the arguments as they were, the results at the gathers. -/
abbrev FIN (d : Dev nD) : sProp 𝕄 := iprop((qLoc d ↦{fullShare} m (qLoc d)) ∗ (pLoc d ↦{fullShare} m (pLoc d)) ∗ (aLoc d ↦{fullShare} m (aLoc d))
  ∗ (iLoc d ↦{fullShare} m (iLoc d)) ∗ (oLoc d ↦{fullShare} Gq m d) ∗ (o1Loc d ↦{fullShare} Gp m d) ∗ (o2Loc d ↦{fullShare} Ga m d))

theorem st0_eq (d : Dev nD) : (bigSep Finset.univ fun c : Fin ((K (F := F)).nCore 0) => (P m).st 0 d c)
    = bigSep Finset.univ fun c : Fin 2 => bigSep Finset.univ fun s : Fin 16 => Part0 m d (m (oLoc d)) (tl c.val s.val) := rfl
theorem dn0_eq (d : Dev nD) : (bigSep Finset.univ fun c : Fin ((K (F := F)).nCore 0) => (P m).dn 0 d c)
    = bigSep Finset.univ fun c : Fin 2 => bigSep Finset.univ fun s : Fin 16 => Part0 m d (Gq m d) (tl c.val s.val) := rfl
theorem st1_eq (d : Dev nD) : (bigSep Finset.univ fun c : Fin ((K (F := F)).nCore 1) => (P m).st 1 d c)
    = bigSep Finset.univ fun c : Fin 2 => bigSep Finset.univ fun s : Fin 16 => Part1 m d (m (o1Loc d)) (m (o2Loc d)) (tl c.val s.val) := rfl
theorem dn1_eq (d : Dev nD) : (bigSep Finset.univ fun c : Fin ((K (F := F)).nCore 1) => (P m).dn 1 d c)
    = bigSep Finset.univ fun c : Fin 2 => bigSep Finset.univ fun s : Fin 16 => Part1 m d (Gp m d) (Ga m d) (tl c.val s.val) := rfl

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 2 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hq, Hp, Ha, Hi, Ho, Ho1, Ho2⟩, Hts, -⟩, -⟩
  iapply ((K (F := F)).wp_run (D (F := F)) 𝒱 (EH := EH) (P := P m) κ d 0)
  isplitr; · iexact Hctx
  isplitl [Hst]; · iexact Hst
  isplitl [Hq Hi Ho]
  · iapply (Entails.of_eq ((split0 m d (m (oLoc d))).trans (st0_eq m d).symm))
    isplitl [Hq]; · iexact Hq
    isplitl [Hi] <;> iassumption
  iintro ⟨Hst, Hdn⟩
  ihave Hdn := (Entails.of_eq ((dn0_eq m d).trans (split0 m d (Gq m d)).symm)) $$ Hdn
  icases Hdn with ⟨Hq, Hi, Ho⟩
  iapply ((K (F := F)).wp_run (D (F := F)) 𝒱 (EH := EH) (P := P m) κ d 1)
  isplitr; · iexact Hctx
  isplitl [Hst]; · iexact Hst
  isplitl [Hp Ha Hi Ho1 Ho2]
  · iapply (Entails.of_eq ((split1 m d (m (o1Loc d)) (m (o2Loc d))).trans (st1_eq m d).symm))
    isplitl [Hp]; · iexact Hp
    isplitl [Ha]; · iexact Ha
    isplitl [Hi]; · iexact Hi
    isplitl [Ho1] <;> iassumption
  iintro ⟨Hst, Hdn⟩
  ihave Hdn := (Entails.of_eq ((dn1_eq m d).trans (split1 m d (Gp m d) (Ga m d)).symm)) $$ Hdn
  icases Hdn with ⟨Hp, Ha, Hi, Ho1, Ho2⟩
  imodintro
  isplitl [Hst]; · iexact Hst
  isplitr [Hb Hts]
  · isplitl [Hq]; · iexact Hq
    isplitl [Hp]; · iexact Hp
    isplitl [Ha]; · iexact Ha
    isplitl [Hi]; · iexact Hi
    isplitl [Ho]; · iexact Ho
    isplitl [Ho1] <;> iassumption
  isplitl [Hb] <;> iassumption

/-- A final memory as @main leaves it. -/
def Fin' (d : Dev nD) (μ : (ℓ : Loc nD τ sig) → Buf (Elt F) ℓ) : Prop :=
  μ (qLoc d) = m (qLoc d) ∧ μ (pLoc d) = m (pLoc d) ∧ μ (aLoc d) = m (aLoc d) ∧ μ (iLoc d) = m (iLoc d)
    ∧ μ (oLoc d) = Gq m d ∧ μ (o1Loc d) = Gp m d ∧ μ (o2Loc d) = Ga m d

theorem agree (s' : Phys nD τ sig (Elt F)) (ℓ : Loc nD τ sig) (f : Buf (Elt F) ℓ) :
    iprop((ℓ ↦{fullShare} f) ∗ SI s') ⊢ (iprop(⌜s'.mem.mem ℓ = f⌝ ∗ SI s') : sProp 𝕄) := by
  iintro ⟨H, HSI⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitr
  · ipureintro; exact funext fun i => h i (Finset.mem_univ i)
  · iexact HSI

theorem hfin (d : Dev nD) (s' : Phys nD τ sig (Elt F)) : iprop(FIN m d ∗ SI s') ⊢ (⌜Fin' m d s'.mem.mem⌝ : sProp 𝕄) := by
  iintro ⟨⟨Hq, Hp, Ha, Hi, Ho, Ho1, Ho2⟩, HSI⟩
  ihave H := (agree s' (qLoc d) (m (qLoc d))) $$ [Hq HSI]
  · isplitl [Hq] <;> iassumption
  icases H with ⟨%h0, HSI⟩
  ihave H := (agree s' (pLoc d) (m (pLoc d))) $$ [Hp HSI]
  · isplitl [Hp] <;> iassumption
  icases H with ⟨%h1, HSI⟩
  ihave H := (agree s' (aLoc d) (m (aLoc d))) $$ [Ha HSI]
  · isplitl [Ha] <;> iassumption
  icases H with ⟨%h2, HSI⟩
  ihave H := (agree s' (iLoc d) (m (iLoc d))) $$ [Hi HSI]
  · isplitl [Hi] <;> iassumption
  icases H with ⟨%h3, HSI⟩
  ihave H := (agree s' (oLoc d) (Gq m d)) $$ [Ho HSI]
  · isplitl [Ho] <;> iassumption
  icases H with ⟨%h4, HSI⟩
  ihave H := (agree s' (o1Loc d) (Gp m d)) $$ [Ho1 HSI]
  · isplitl [Ho1] <;> iassumption
  icases H with ⟨%h5, HSI⟩
  ihave H := (agree s' (o2Loc d) (Ga m d)) $$ [Ho2 HSI]
  · isplitl [Ho2] <;> iassumption
  icases H with ⟨%h6, HSI⟩
  ipureintro; exact ⟨h0, h1, h2, h3, h4, h5, h6⟩

/-- Every weakly fair execution ends with the arguments unchanged, the results at the gathers, every counter at zero. -/
theorem run_main [∀ e, Nonempty (Elt F e)] (hpre : PreOK m) :
    θ_run (Cert.KernelIdeal.defs (F := F)) (Cert.KernelIdeal.threads (F := F)) ⟨m, fun _ => 0, ρ⟩
      (fun r => (∀ d, Fin' m d r.2.mem) ∧ r.2.sem = fun _ => 0) :=
  SparseCore.Cfg.θ_run_sc_quiescent (K := K (F := F)) (D := D (F := F)) (𝒱 := 𝒱) (EH := EH) (P := P m) (A := ∅) facts v₀
    (fun q hq => match q with | 0 => nomatch hq | 1 => nomatch hq)
    (fun q _ => match q with | 0 => obl0 m facts hpre | 1 => obl1 m facts hpre)
    (fun q _ => match q with | 0 => SparseCore.Cfg.VecSplit.of_plain (vecSplit0 m) | 1 => SparseCore.Cfg.VecSplit.of_plain (vecSplit1 m))
    m ρ main (fun _ => iprop(emp)) (FIN m) (u₀ (F := F)) (sep_elim_left.trans (hu₀ m)) (hmain m ρ) (fun d s' => Fin' m d s'.mem.mem) (hfin m) _ (fun _ h hz => ⟨h, hz⟩)

end Cert.Proof.Rows
-- ==== Proof.Final.lean ====
/-
  The claims: the index range read off the precondition, the reference's gather of a list in range read as the gather of
  rows, and the runs of the three programs.
-/
module

public import proofs.«01_k».proof.Proof.Launch
public import proofs.«01_k».proof.Defs
public import proofs.«01_k».proof.Proof.Gen.Kernel
public import proofs.«01_k».proof.Proof.Gen.Pre_idx_in_rows
public import proofs.«01_k».proof.Proof.Gen.ReferenceIdeal.Run
public import Idealize.ShloMosaic.Lib.Routing.Ops

@[expose] public section

noncomputable section

namespace Cert.Proof.Rows

open Idealize.ShloMosaic Idealize.ShloMosaic.TcCoe Idealize.SL.Sem
open Idealize.ShloMosaic.Routing Idealize.ShloMosaic.ValueIdx

/-! ## The index range -/

/-- A word the two signed comparisons of the precondition accept is a row number. -/
theorem row_of_tests {v : BitVec 32} (h : IntOp.andi (IntOp.cmpi .sge v 0#32) (IntOp.cmpi .slt v 8192#32) = 1#1) :
    v.toNat < 8192 := by
  have hb : ∀ p q : Bool, IntOp.andi (BitVec.ofBool p) (BitVec.ofBool q) = 1#1 → p = true ∧ q = true := by decide
  obtain ⟨h0, h1⟩ := hb _ _ h
  have l0 := BitVec.sle_iff_toInt_le.1 h0
  have l1 := BitVec.slt_iff_toInt_lt.1 h1
  have e0 : (0#32 : BitVec 32).toInt = 0 := by decide
  have e1 : (8192#32 : BitVec 32).toInt = 8192 := by decide
  have := BitVec.toInt_eq_toNat_cond v
  split at this <;> omega

/-- The precondition, element by element: every entry of the list is a row number. -/
theorem list_in_rows {F : FTy → Type} [FloatOps F] {Q P A : FVec F Cert.Pre_idx_in_rows.S8192x128 .f32} {I : IVec Cert.Pre_idx_in_rows.S131072 32}
    (h : Cert.Pre_idx_in_rows.fn Q P A I = fun _ => 1#1) (z : Cert.Pre_idx_in_rows.S131072.Idx) : (I z).toNat < 8192 := by
  have e := congrFun h z
  exact row_of_tests e

/-! ## The reference's rows -/

section Ref
open Cert.ReferenceIdeal Cert.ReferenceIdeal.Gen

/-- A row number is not negative as a signed word, so the reference's fold of negative entries leaves it. -/
theorem fold_row {v : BitVec 32} (hv : v.toNat < 8192) :
    (if IntOp.cmpi .slt v 0#32 = 1#1 then IntOp.addi v 8192#32 else v) = v := by
  refine if_neg fun h => ?_
  have hb : ∀ p : Bool, BitVec.ofBool p = 1#1 → p = true := by decide
  have l := BitVec.slt_iff_toInt_lt.1 (hb _ h)
  have e0 : (0#32 : BitVec 32).toInt = 0 := by decide
  have := BitVec.toInt_eq_toNat_cond v
  split at this <;> omega

/-- The reference's indexing by a list of row numbers is the gather of rows. -/
theorem ref_rows {α : Type} (T : S8192x128.Idx → α) (I : IVec S131072 32) (hI : ∀ z, (I z).toNat < 8192) :
    Host.gather gather_S8192x128_S131072x1_S131072x128_1_0_n_n_0_1_1128 T
        (broadcastInDim S131072x1 ![0] bcast_S131072_S131072x1_0
          (select (cmpi .slt I (broadcastInDim S131072 ![] bcast_S_S131072 (constantI S_ 32 0#32)))
            (addi I (broadcastInDim S131072 ![] bcast_S_S131072 (constantI S_ 32 8192#32))) I))
      = gath T I := by
  have hs : select (cmpi .slt I (broadcastInDim S131072 ![] bcast_S_S131072 (constantI S_ 32 0#32)))
      (addi I (broadcastInDim S131072 ![] bcast_S_S131072 (constantI S_ 32 8192#32))) I = I := funext fun z => fold_row (hI z)
  rw [hs]
  funext x
  have hx : x = ix2 (x 0) (x 1) := by
    funext a
    match a with
    | ⟨0, _⟩ => rfl
    | ⟨1, _⟩ => rfl
  have hz : ∀ y : S131072x1.Idx, (y 0).val = (x 0).val →
      broadcastInDim S131072x1 ![0] bcast_S131072_S131072x1_0 I y = I (at' _ posL fun _ => (x 0).val) := fun y hy => by
    refine congrArg I ((at'_eq fun a => ?_).symm)
    match a with
    | ⟨0, _⟩ => exact hy
  refine (congrArg _ hx).trans ((gather_row _ rfl rfl rfl rfl rfl T _ (x 0) (x 1) ⟨(I (at' _ posL fun _ => (x 0).val)).toNat, hI _⟩
    ((hz _ rfl).trans (BitVec.ofNat_toNat _ _ ▸ (BitVec.setWidth_eq _).symm)) (by decide)).trans ?_)
  refine congrArg T ((at'_eq fun a => ?_).symm)
  match a with
  | ⟨0, _⟩ => rfl
  | ⟨1, _⟩ => rfl

end Ref

/-! ## The frames -/

/-- The kernel at the machine's own floats: it runs, keeps its arguments and leaves every counter at zero. -/
theorem frame_kernel : Cert.quiescent_Kernel := fun m ρ hpre =>
  (θ_run Cert.Kernel.defs _ _).mono (fun _ h => ⟨fun c => ⟨(h.1 c).1, (h.1 c).2.1, (h.1 c).2.2.1, (h.1 c).2.2.2.1⟩, h.2⟩)
    (run_main (F := Bits) m ρ fun d z => list_in_rows (hpre d) z)

/-- The kernel at exact floats: it runs, keeps its arguments and leaves every counter at zero. -/
theorem frame_ideal : Cert.quiescent_KernelIdeal := fun m ρ hpre =>
  (θ_run Cert.KernelIdeal.defs _ _).mono (fun _ h => ⟨fun c => ⟨(h.1 c).1, (h.1 c).2.1, (h.1 c).2.2.1, (h.1 c).2.2.2.1⟩, h.2⟩)
    (run_main (F := Ideal) m ρ fun d z => list_in_rows (hpre d) z)

/-- The reference runs and keeps its arguments; it has no counter. -/
theorem frame_reference : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-! ## The values -/

/-- Kernel and reference end with the same rows: those the list names, of each of the three tables. -/
theorem rows_equal : Cert.algebraic_KernelIdeal_ReferenceIdeal := by
  intro m ρ m' ρ' hpre hag
  have hok : PreOK (F := Ideal) m := fun d z => list_in_rows (hpre d) z
  refine ⟨fun c => Gq m c, fun c => Gp m c, fun c => Ga m c, ?_, ?_⟩
  · refine (θ_run Cert.KernelIdeal.defs _ _).mono (fun _ h c => ?_) (run_main (F := Ideal) m ρ hok)
    obtain ⟨h0, h1, h2, h3, r0, r1, r2⟩ := h.1 c
    exact ⟨r0, r1, r2, h0, h1, h2, h3⟩
  · refine (θ_run Cert.ReferenceIdeal.defs _ _).mono (fun _ h c => ?_) (Cert.ReferenceIdeal.Value.run (F := Ideal) m' ρ')
    obtain ⟨a0, a1, a2, a3⟩ := hag c
    obtain ⟨r0, r1, r2, hargs⟩ := h c
    rw [a3] at r0 r1 r2
    rw [a0] at r0
    rw [a1] at r1
    rw [a2] at r2
    exact ⟨r0.trans (ref_rows _ _ (hok c)), r1.trans (ref_rows _ _ (hok c)), r2.trans (ref_rows _ _ (hok c)), hargs⟩

end Cert.Proof.Rows

end
-- ==== Proof.lean ====
/-
  The claims. Of the SparseCore row gathers, and of each of the ten dense calls: the kernel runs, keeps its arguments and
  leaves every counter at zero, at the machine's floats and at exact ones; so does the reference; and over exact values the
  results are the reference's — of the neighbour search, on finite coordinates. The same of the calls before the gathers, in
  sequence, and of those after them, on finite arguments.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_idx_in_rows
public import proofs.«01_k».proof.Proof.Gen.Top.Frame
public import proofs.«01_k».proof.Proof.Gen.TopIdeal.Frame
public import proofs.«01_k».proof.Proof.Gen.ResTop.Frame
public import proofs.«01_k».proof.Proof.Gen.ResTopIdeal.Frame
public import proofs.«01_k».proof.Proof.Gen.Residual.Frame
public import proofs.«01_k».proof.Proof.Gen.ResidualIdeal.Frame
public import proofs.«01_k».proof.Proof.Gen.Project.Frame
public import proofs.«01_k».proof.Proof.Gen.ProjectIdeal.Frame
public import proofs.«01_k».proof.Proof.Gen.PosSums.Frame
public import proofs.«01_k».proof.Proof.Gen.PosSumsIdeal.Frame
public import proofs.«01_k».proof.Proof.Gen.Pos.Frame
public import proofs.«01_k».proof.Proof.Gen.PosIdeal.Frame
public import proofs.«01_k».proof.Proof.Gen.AttnIn.Frame
public import proofs.«01_k».proof.Proof.Gen.AttnInIdeal.Frame
public import proofs.«01_k».proof.Proof.Gen.Gamma.Frame
public import proofs.«01_k».proof.Proof.Gen.GammaIdeal.Frame
public import proofs.«01_k».proof.Proof.Gen.Attention.Frame
public import proofs.«01_k».proof.Proof.Gen.AttentionIdeal.Frame
public import proofs.«01_k».proof.Proof.Gen.Nearest.Frame
public import proofs.«01_k».proof.Proof.Gen.NearestIdeal.Frame
public import proofs.«01_k».proof.Proof.Gen.NearestIdeal.Value
public import proofs.«01_k».proof.Proof.Gen.NearestRefIdeal.Run
public import proofs.«01_k».proof.Proof.Gen.NearestRefIdeal.Read
public import proofs.«01_k».proof.Proof.Gen.Pre_finite_coords
public import proofs.«01_k».proof.Proof.Top
public import proofs.«01_k».proof.Proof.ResTop
public import proofs.«01_k».proof.Proof.Residual
public import proofs.«01_k».proof.Proof.Project
public import proofs.«01_k».proof.Proof.PosSums
public import proofs.«01_k».proof.Proof.Pos
public import proofs.«01_k».proof.Proof.AttnIn
public import proofs.«01_k».proof.Proof.Gamma
public import proofs.«01_k».proof.Proof.Attention
public import proofs.«01_k».proof.Proof.Nearest
public import proofs.«01_k».proof.Proof.After
public import proofs.«01_k».proof.Proof.Before
public import proofs.«01_k».proof.Proof.Final
public import Idealize.ShloMosaic.Adequacy
public import Idealize.ShloMosaic.Init

@[expose] public section

noncomputable section

namespace Cert.Proof

open Idealize.ShloMosaic Idealize.SL.Sem Cert.Kernel

theorem claim : Cert.Claim := ⟨
  Cert.Kernel.Gen.facts, Cert.KernelIdeal.Gen.facts, Cert.ReferenceIdeal.Gen.facts,
  Cert.Top.Gen.facts, Cert.TopIdeal.Gen.facts, Cert.TopRefIdeal.Gen.facts,
  Cert.ResTop.Gen.facts, Cert.ResTopIdeal.Gen.facts, Cert.ResTopRefIdeal.Gen.facts,
  Cert.Residual.Gen.facts, Cert.ResidualIdeal.Gen.facts, Cert.ResidualRefIdeal.Gen.facts,
  Cert.Project.Gen.facts, Cert.ProjectIdeal.Gen.facts, Cert.ProjectRefIdeal.Gen.facts,
  Cert.PosSums.Gen.facts, Cert.PosSumsIdeal.Gen.facts, Cert.PosSumsRefIdeal.Gen.facts,
  Cert.Pos.Gen.facts, Cert.PosIdeal.Gen.facts, Cert.PosRefIdeal.Gen.facts,
  Cert.AttnIn.Gen.facts, Cert.AttnInIdeal.Gen.facts, Cert.AttnInRefIdeal.Gen.facts,
  Cert.Gamma.Gen.facts, Cert.GammaIdeal.Gen.facts, Cert.GammaRefIdeal.Gen.facts,
  Cert.Attention.Gen.facts, Cert.AttentionIdeal.Gen.facts, Cert.AttentionRefIdeal.Gen.facts,
  Cert.Nearest.Gen.facts, Cert.NearestIdeal.Gen.facts, Cert.NearestRefIdeal.Gen.facts,
  Cert.After.Gen.facts, Cert.AfterIdeal.Gen.facts, Cert.AfterRefIdeal.Gen.facts,
  Cert.Before.Gen.facts, Cert.BeforeIdeal.Gen.facts, Cert.BeforeRefIdeal.Gen.facts,
  Cert.Pre_idx_in_rows.Gen.facts, Cert.Pre_finite_coords.Gen.facts, Cert.Pre_finite_after.Gen.facts,
  Cert.Pre_finite_before.Gen.facts,
  Rows.frame_kernel, Rows.frame_ideal, Rows.frame_reference,
  fun m ρ _ => Cert.Top.Gen.frame m ρ, fun m ρ _ => Cert.TopIdeal.Gen.frame m ρ, Top.frame_reference,
  fun m ρ _ => Cert.ResTop.Gen.frame m ρ, fun m ρ _ => Cert.ResTopIdeal.Gen.frame m ρ, ResTop.frame_reference,
  fun m ρ _ => Cert.Residual.Gen.frame m ρ, fun m ρ _ => Cert.ResidualIdeal.Gen.frame m ρ, Residual.frame_reference,
  fun m ρ _ => Cert.Project.Gen.frame m ρ, fun m ρ _ => Cert.ProjectIdeal.Gen.frame m ρ, Project.frame_reference,
  fun m ρ _ => Cert.PosSums.Gen.frame m ρ, fun m ρ _ => Cert.PosSumsIdeal.Gen.frame m ρ, PosSums.frame_reference,
  fun m ρ _ => Cert.Pos.Gen.frame m ρ, fun m ρ _ => Cert.PosIdeal.Gen.frame m ρ, Pos.frame_reference,
  fun m ρ _ => Cert.AttnIn.Gen.frame m ρ, fun m ρ _ => Cert.AttnInIdeal.Gen.frame m ρ, AttnIn.frame_reference,
  fun m ρ _ => Cert.Gamma.Gen.frame m ρ, fun m ρ _ => Cert.GammaIdeal.Gen.frame m ρ, Gamma.frame_reference,
  fun m ρ _ => Cert.Attention.Gen.frame m ρ, fun m ρ _ => Cert.AttentionIdeal.Gen.frame m ρ, Attention.frame_reference,
  fun m ρ _ => Cert.Nearest.Gen.frame m ρ, fun m ρ _ => Cert.NearestIdeal.Gen.frame m ρ, fun m ρ _ => Cert.NearestIdeal.Gen.frame m ρ,
  Nearest.frame_reference, fun m ρ _ => Nearest.frame_reference m ρ trivial,
  fun m ρ _ => Cert.After.Gen.frame m ρ, fun m ρ _ => Cert.AfterIdeal.Gen.frame m ρ, fun m ρ _ => Cert.AfterIdeal.Gen.frame m ρ,
  After.frame_reference, fun m ρ _ => After.frame_reference m ρ trivial,
  fun m ρ _ => Cert.Before.Gen.frame m ρ, fun m ρ _ => Cert.BeforeIdeal.Gen.frame m ρ, fun m ρ _ => Cert.BeforeIdeal.Gen.frame m ρ,
  Before.frame_reference, fun m ρ _ => Before.frame_reference m ρ trivial,
  trivial, Rows.rows_equal,
  trivial, Top.equal,
  trivial, ResTop.equal,
  trivial, Residual.equal,
  trivial, Project.equal,
  trivial, PosSums.equal,
  trivial, Pos.equal,
  trivial, AttnIn.equal,
  trivial, Gamma.equal,
  trivial, Attention.equal,
  trivial, Nearest.equal,
  trivial, After.equal,
  trivial, Before.equal⟩

end Cert.Proof

end
